-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_ffn [hPre_finite_ffn : Cert.Pre_finite_ffn.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_ffn.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).1 = (fun _ => 1#1)
    ∧ (Cert.Pre_finite_ffn.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.1 = (fun _ => 1#1)
    ∧ (Cert.Pre_finite_ffn.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.1 = (fun _ => 1#1)
    ∧ (Cert.Pre_finite_ffn.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_ffn [hPre_finite_ffn : Cert.Pre_finite_ffn.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_ffn.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).1 = (fun _ => 1#1)
    ∧ (Cert.Pre_finite_ffn.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.1 = (fun _ => 1#1)
    ∧ (Cert.Pre_finite_ffn.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.1 = (fun _ => 1#1)
    ∧ (Cert.Pre_finite_ffn.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Kernel22Ideal_finite_att [hPre_finite_att : Cert.Pre_finite_att.Facts] (m : (ℓ : Loc Cert.Kernel22Ideal.nD Cert.Kernel22Ideal.τ Cert.Kernel22Ideal.sig) → Buf (Elt Ideal) ℓ) : Prop :=
  ∀ c : Dev Cert.Kernel22Ideal.nD,
    (Cert.Pre_finite_att.fn (F := Ideal) (m ((c.tc : Thread Cert.Kernel22Ideal.nD Cert.Kernel22Ideal.τ).loc Cert.Kernel22Ideal.main_arg0)) (m ((c.tc : Thread Cert.Kernel22Ideal.nD Cert.Kernel22Ideal.τ).loc Cert.Kernel22Ideal.main_arg1))).1 = (fun _ => 1#1)
    ∧ (Cert.Pre_finite_att.fn (F := Ideal) (m ((c.tc : Thread Cert.Kernel22Ideal.nD Cert.Kernel22Ideal.τ).loc Cert.Kernel22Ideal.main_arg0)) (m ((c.tc : Thread Cert.Kernel22Ideal.nD Cert.Kernel22Ideal.τ).loc Cert.Kernel22Ideal.main_arg1))).2 = (fun _ => 1#1)

def Pre_Reference22Ideal (m : (ℓ : Loc Cert.Reference22Ideal.nD Cert.Reference22Ideal.τ Cert.Reference22Ideal.sig) → Buf (Elt Ideal) ℓ) : Prop :=
  True

def Pre_Reference22Ideal_finite_att [hPre_finite_att : Cert.Pre_finite_att.Facts] (m : (ℓ : Loc Cert.Reference22Ideal.nD Cert.Reference22Ideal.τ Cert.Reference22Ideal.sig) → Buf (Elt Ideal) ℓ) : Prop :=
  ∀ c : Dev Cert.Reference22Ideal.nD,
    (Cert.Pre_finite_att.fn (F := Ideal) (m ((c.tc : Thread Cert.Reference22Ideal.nD Cert.Reference22Ideal.τ).loc Cert.Reference22Ideal.main_arg0)) (m ((c.tc : Thread Cert.Reference22Ideal.nD Cert.Reference22Ideal.τ).loc Cert.Reference22Ideal.main_arg1))).1 = (fun _ => 1#1)
    ∧ (Cert.Pre_finite_att.fn (F := Ideal) (m ((c.tc : Thread Cert.Reference22Ideal.nD Cert.Reference22Ideal.τ).loc Cert.Reference22Ideal.main_arg0)) (m ((c.tc : Thread Cert.Reference22Ideal.nD Cert.Reference22Ideal.τ).loc Cert.Reference22Ideal.main_arg1))).2 = (fun _ => 1#1)

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite_ffn [hKernel2Ideal : Cert.Kernel2Ideal.Facts] [hPre_finite_ffn : Cert.Pre_finite_ffn.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_ffn m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite_ffn [hReference2Ideal : Cert.Reference2Ideal.Facts] [hPre_finite_ffn : Cert.Pre_finite_ffn.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_ffn m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7)
      ∧ r.2.mem ((c.tc : Thread Cert.Kernel8.nD Cert.Kernel8.τ).loc Cert.Kernel8.main_arg8) = m ((c.tc : Thread Cert.Kernel8.nD Cert.Kernel8.τ).loc Cert.Kernel8.main_arg8)
      ∧ r.2.mem ((c.tc : Thread Cert.Kernel8.nD Cert.Kernel8.τ).loc Cert.Kernel8.main_arg9) = m ((c.tc : Thread Cert.Kernel8.nD Cert.Kernel8.τ).loc Cert.Kernel8.main_arg9))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
      ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8)
      ∧ r.2.mem ((c.tc : Thread Cert.Reference8Ideal.nD Cert.Reference8Ideal.τ).loc Cert.Reference8Ideal.main_arg9) = m ((c.tc : Thread Cert.Reference8Ideal.nD Cert.Reference8Ideal.τ).loc Cert.Reference8Ideal.main_arg9))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7)
      ∧ r.2.mem ((c.tc : Thread Cert.Kernel9.nD Cert.Kernel9.τ).loc Cert.Kernel9.main_arg8) = m ((c.tc : Thread Cert.Kernel9.nD Cert.Kernel9.τ).loc Cert.Kernel9.main_arg8)
      ∧ r.2.mem ((c.tc : Thread Cert.Kernel9.nD Cert.Kernel9.τ).loc Cert.Kernel9.main_arg9) = m ((c.tc : Thread Cert.Kernel9.nD Cert.Kernel9.τ).loc Cert.Kernel9.main_arg9))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
      ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
      ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7)
      ∧ r.2.mem ((c.tc : Thread Cert.Reference9Ideal.nD Cert.Reference9Ideal.τ).loc Cert.Reference9Ideal.main_arg8) = m ((c.tc : Thread Cert.Reference9Ideal.nD Cert.Reference9Ideal.τ).loc Cert.Reference9Ideal.main_arg8)
      ∧ r.2.mem ((c.tc : Thread Cert.Reference9Ideal.nD Cert.Reference9Ideal.τ).loc Cert.Reference9Ideal.main_arg9) = m ((c.tc : Thread Cert.Reference9Ideal.nD Cert.Reference9Ideal.τ).loc Cert.Reference9Ideal.main_arg9))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Kernel22Ideal_pre_finite_att [hKernel22Ideal : Cert.Kernel22Ideal.Facts] [hPre_finite_att : Cert.Pre_finite_att.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal_finite_att m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Reference22Ideal_pre_finite_att [hReference22Ideal : Cert.Reference22Ideal.Facts] [hPre_finite_att : Cert.Pre_finite_att.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal_finite_att m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3))
      ∧ r.2.sem = fun _ => 0)

def preserves_Kernel_KernelIdeal : Prop :=
  IdealRules.named_const.Statement Cert.KernelIdeal.κ "s" .f32 0x3DB504F3#32 (((Real.sqrt 128)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_v74) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal_pre_finite_ffn [hKernel2Ideal : Cert.Kernel2Ideal.Facts] [hReference2Ideal : Cert.Reference2Ideal.Facts] [hPre_finite_ffn : Cert.Pre_finite_ffn.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_ffn m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v1_0)) (v2 : (c : Dev Cert.Kernel2Ideal.nD) → Buf (Elt Ideal) ((c.tc : Thread Cert.Kernel2Ideal.nD Cert.Kernel2Ideal.τ).loc Cert.Kernel2Ideal.main_v1_1)) (v3 : (c : Dev Cert.Kernel2Ideal.nD) → Buf (Elt Ideal) ((c.tc : Thread Cert.Kernel2Ideal.nD Cert.Kernel2Ideal.τ).loc Cert.Kernel2Ideal.main_v1_2)) (v4 : (c : Dev Cert.Kernel2Ideal.nD) → Buf (Elt Ideal) ((c.tc : Thread Cert.Kernel2Ideal.nD Cert.Kernel2Ideal.τ).loc Cert.Kernel2Ideal.main_v1_3)) (v5 : (c : Dev Cert.Kernel2Ideal.nD) → Buf (Elt Ideal) ((c.tc : Thread Cert.Kernel2Ideal.nD Cert.Kernel2Ideal.τ).loc Cert.Kernel2Ideal.main_v1_4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v1_0) = v1 c
          ∧ r.2.mem ((c.tc : Thread Cert.Kernel2Ideal.nD Cert.Kernel2Ideal.τ).loc Cert.Kernel2Ideal.main_v1_1) = v2 c
          ∧ r.2.mem ((c.tc : Thread Cert.Kernel2Ideal.nD Cert.Kernel2Ideal.τ).loc Cert.Kernel2Ideal.main_v1_2) = v3 c
          ∧ r.2.mem ((c.tc : Thread Cert.Kernel2Ideal.nD Cert.Kernel2Ideal.τ).loc Cert.Kernel2Ideal.main_v1_3) = v4 c
          ∧ r.2.mem ((c.tc : Thread Cert.Kernel2Ideal.nD Cert.Kernel2Ideal.τ).loc Cert.Kernel2Ideal.main_v1_4) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v26) = v0 c
          ∧ r.2.mem ((c.tc : Thread Cert.Reference2Ideal.nD Cert.Reference2Ideal.τ).loc Cert.Reference2Ideal.main_v55) = v1 c
          ∧ r.2.mem ((c.tc : Thread Cert.Reference2Ideal.nD Cert.Reference2Ideal.τ).loc Cert.Reference2Ideal.main_v56) = v2 c
          ∧ r.2.mem ((c.tc : Thread Cert.Reference2Ideal.nD Cert.Reference2Ideal.τ).loc Cert.Reference2Ideal.main_v57) = v3 c
          ∧ r.2.mem ((c.tc : Thread Cert.Reference2Ideal.nD Cert.Reference2Ideal.τ).loc Cert.Reference2Ideal.main_v58) = v4 c
          ∧ r.2.mem ((c.tc : Thread Cert.Reference2Ideal.nD Cert.Reference2Ideal.τ).loc Cert.Reference2Ideal.main_v38) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)) (v2 : (c : Dev Cert.Kernel3Ideal.nD) → Buf (Elt Ideal) ((c.tc : Thread Cert.Kernel3Ideal.nD Cert.Kernel3Ideal.τ).loc Cert.Kernel3Ideal.main_v0_2)) (v3 : (c : Dev Cert.Kernel3Ideal.nD) → Buf (Elt Ideal) ((c.tc : Thread Cert.Kernel3Ideal.nD Cert.Kernel3Ideal.τ).loc Cert.Kernel3Ideal.main_v0_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_v0_2) = v2 c
          ∧ r.2.mem ((c.tc : Thread Cert.Kernel3Ideal.nD Cert.Kernel3Ideal.τ).loc Cert.Kernel3Ideal.main_v0_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v72) = v0 c
          ∧ r.2.mem ((c.tc : Thread Cert.Reference3Ideal.nD Cert.Reference3Ideal.τ).loc Cert.Reference3Ideal.main_v73) = v1 c
          ∧ r.2.mem ((c.tc : Thread Cert.Reference3Ideal.nD Cert.Reference3Ideal.τ).loc Cert.Reference3Ideal.main_v74) = v2 c
          ∧ r.2.mem ((c.tc : Thread Cert.Reference3Ideal.nD Cert.Reference3Ideal.τ).loc Cert.Reference3Ideal.main_v56) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)) (v2 : (c : Dev Cert.Kernel4Ideal.nD) → Buf (Elt Ideal) ((c.tc : Thread Cert.Kernel4Ideal.nD Cert.Kernel4Ideal.τ).loc Cert.Kernel4Ideal.main_v0_2)) (v3 : (c : Dev Cert.Kernel4Ideal.nD) → Buf (Elt Ideal) ((c.tc : Thread Cert.Kernel4Ideal.nD Cert.Kernel4Ideal.τ).loc Cert.Kernel4Ideal.main_v0_3)) (v4 : (c : Dev Cert.Kernel4Ideal.nD) → Buf (Elt Ideal) ((c.tc : Thread Cert.Kernel4Ideal.nD Cert.Kernel4Ideal.τ).loc Cert.Kernel4Ideal.main_v0_4)) (v5 : (c : Dev Cert.Kernel4Ideal.nD) → Buf (Elt Ideal) ((c.tc : Thread Cert.Kernel4Ideal.nD Cert.Kernel4Ideal.τ).loc Cert.Kernel4Ideal.main_v1_0)) (v6 : (c : Dev Cert.Kernel4Ideal.nD) → Buf (Elt Ideal) ((c.tc : Thread Cert.Kernel4Ideal.nD Cert.Kernel4Ideal.τ).loc Cert.Kernel4Ideal.main_v1_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_v0_2) = v2 c
          ∧ r.2.mem ((c.tc : Thread Cert.Kernel4Ideal.nD Cert.Kernel4Ideal.τ).loc Cert.Kernel4Ideal.main_v0_3) = v3 c
          ∧ r.2.mem ((c.tc : Thread Cert.Kernel4Ideal.nD Cert.Kernel4Ideal.τ).loc Cert.Kernel4Ideal.main_v0_4) = v4 c
          ∧ r.2.mem ((c.tc : Thread Cert.Kernel4Ideal.nD Cert.Kernel4Ideal.τ).loc Cert.Kernel4Ideal.main_v1_0) = v5 c
          ∧ r.2.mem ((c.tc : Thread Cert.Kernel4Ideal.nD Cert.Kernel4Ideal.τ).loc Cert.Kernel4Ideal.main_v1_1) = v6 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v17) = v0 c
          ∧ r.2.mem ((c.tc : Thread Cert.Reference4Ideal.nD Cert.Reference4Ideal.τ).loc Cert.Reference4Ideal.main_v46) = v1 c
          ∧ r.2.mem ((c.tc : Thread Cert.Reference4Ideal.nD Cert.Reference4Ideal.τ).loc Cert.Reference4Ideal.main_v47) = v2 c
          ∧ r.2.mem ((c.tc : Thread Cert.Reference4Ideal.nD Cert.Reference4Ideal.τ).loc Cert.Reference4Ideal.main_v48) = v3 c
          ∧ r.2.mem ((c.tc : Thread Cert.Reference4Ideal.nD Cert.Reference4Ideal.τ).loc Cert.Reference4Ideal.main_v49) = v4 c
          ∧ r.2.mem ((c.tc : Thread Cert.Reference4Ideal.nD Cert.Reference4Ideal.τ).loc Cert.Reference4Ideal.main_v50) = v5 c
          ∧ r.2.mem ((c.tc : Thread Cert.Reference4Ideal.nD Cert.Reference4Ideal.τ).loc Cert.Reference4Ideal.main_v29) = v6 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v9) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v8) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v8) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)
      ∧ m' ((c.tc : Thread Cert.Reference8Ideal.nD Cert.Reference8Ideal.τ).loc Cert.Reference8Ideal.main_arg8) = m ((c.tc : Thread Cert.Kernel8Ideal.nD Cert.Kernel8Ideal.τ).loc Cert.Kernel8Ideal.main_arg8)
      ∧ m' ((c.tc : Thread Cert.Reference8Ideal.nD Cert.Reference8Ideal.τ).loc Cert.Reference8Ideal.main_arg9) = m ((c.tc : Thread Cert.Kernel8Ideal.nD Cert.Kernel8Ideal.τ).loc Cert.Kernel8Ideal.main_arg9)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
          ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
          ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v28) = v0 c
          ∧ r.2.mem ((c.tc : Thread Cert.Reference8Ideal.nD Cert.Reference8Ideal.τ).loc Cert.Reference8Ideal.main_v29) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7)
          ∧ r.2.mem ((c.tc : Thread Cert.Reference8Ideal.nD Cert.Reference8Ideal.τ).loc Cert.Reference8Ideal.main_arg8) = m' ((c.tc : Thread Cert.Reference8Ideal.nD Cert.Reference8Ideal.τ).loc Cert.Reference8Ideal.main_arg8)
          ∧ r.2.mem ((c.tc : Thread Cert.Reference8Ideal.nD Cert.Reference8Ideal.τ).loc Cert.Reference8Ideal.main_arg9) = m' ((c.tc : Thread Cert.Reference8Ideal.nD Cert.Reference8Ideal.τ).loc Cert.Reference8Ideal.main_arg9))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v5) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal_on_written_rows [hKernel11Ideal : Cert.Kernel11Ideal.Facts] [hReference11Ideal : Cert.Reference11Ideal.Facts] [hOn_written_rows : Cert.On_written_rows.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          (∀ i : (⟨2, ![5632, 1024]⟩ : Shape).Idx, (Cert.On_written_rows.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1))) i = 1#1 → r.2.mem ((c.tc : Thread Cert.Kernel11Ideal.nD Cert.Kernel11Ideal.τ).loc Cert.Kernel11Ideal.main_v0) i = v0 c i)
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          (∀ i : (⟨2, ![5632, 1024]⟩ : Shape).Idx, (Cert.On_written_rows.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1))) i = 1#1 → r.2.mem ((c.tc : Thread Cert.Reference11Ideal.nD Cert.Reference11Ideal.τ).loc Cert.Reference11Ideal.main_v7) i = v0 c i)
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v10) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal_on_written_columns [hKernel13Ideal : Cert.Kernel13Ideal.Facts] [hReference13Ideal : Cert.Reference13Ideal.Facts] [hOn_written_columns : Cert.On_written_columns.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          (∀ i : (⟨2, ![1024, 6144]⟩ : Shape).Idx, (Cert.On_written_columns.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1))) i = 1#1 → r.2.mem ((c.tc : Thread Cert.Kernel13Ideal.nD Cert.Kernel13Ideal.τ).loc Cert.Kernel13Ideal.main_v0) i = v0 c i)
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          (∀ i : (⟨2, ![1024, 6144]⟩ : Shape).Idx, (Cert.On_written_columns.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1))) i = 1#1 → r.2.mem ((c.tc : Thread Cert.Reference13Ideal.nD Cert.Reference13Ideal.τ).loc Cert.Reference13Ideal.main_v8) i = v0 c i)
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v9) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v9) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v8) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v6) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)
      ∧ m' ((c.tc : Thread Cert.Reference9Ideal.nD Cert.Reference9Ideal.τ).loc Cert.Reference9Ideal.main_arg8) = m ((c.tc : Thread Cert.Kernel9Ideal.nD Cert.Kernel9Ideal.τ).loc Cert.Kernel9Ideal.main_arg8)
      ∧ m' ((c.tc : Thread Cert.Reference9Ideal.nD Cert.Reference9Ideal.τ).loc Cert.Reference9Ideal.main_arg9) = m ((c.tc : Thread Cert.Kernel9Ideal.nD Cert.Kernel9Ideal.τ).loc Cert.Kernel9Ideal.main_arg9)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)) (v3 : (c : Dev Cert.Kernel9Ideal.nD) → Buf (Elt Ideal) ((c.tc : Thread Cert.Kernel9Ideal.nD Cert.Kernel9Ideal.τ).loc Cert.Kernel9Ideal.main_v0_3)) (v4 : (c : Dev Cert.Kernel9Ideal.nD) → Buf (Elt Ideal) ((c.tc : Thread Cert.Kernel9Ideal.nD Cert.Kernel9Ideal.τ).loc Cert.Kernel9Ideal.main_v0_4)) (v5 : (c : Dev Cert.Kernel9Ideal.nD) → Buf (Elt Ideal) ((c.tc : Thread Cert.Kernel9Ideal.nD Cert.Kernel9Ideal.τ).loc Cert.Kernel9Ideal.main_v0_5)) (v6 : (c : Dev Cert.Kernel9Ideal.nD) → Buf (Elt Ideal) ((c.tc : Thread Cert.Kernel9Ideal.nD Cert.Kernel9Ideal.τ).loc Cert.Kernel9Ideal.main_v0_6)) (v7 : (c : Dev Cert.Kernel9Ideal.nD) → Buf (Elt Ideal) ((c.tc : Thread Cert.Kernel9Ideal.nD Cert.Kernel9Ideal.τ).loc Cert.Kernel9Ideal.main_v0_7)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_v0_3) = v3 c
          ∧ r.2.mem ((c.tc : Thread Cert.Kernel9Ideal.nD Cert.Kernel9Ideal.τ).loc Cert.Kernel9Ideal.main_v0_4) = v4 c
          ∧ r.2.mem ((c.tc : Thread Cert.Kernel9Ideal.nD Cert.Kernel9Ideal.τ).loc Cert.Kernel9Ideal.main_v0_5) = v5 c
          ∧ r.2.mem ((c.tc : Thread Cert.Kernel9Ideal.nD Cert.Kernel9Ideal.τ).loc Cert.Kernel9Ideal.main_v0_6) = v6 c
          ∧ r.2.mem ((c.tc : Thread Cert.Kernel9Ideal.nD Cert.Kernel9Ideal.τ).loc Cert.Kernel9Ideal.main_v0_7) = v7 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
          ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
          ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v45) = v0 c
          ∧ r.2.mem ((c.tc : Thread Cert.Reference9Ideal.nD Cert.Reference9Ideal.τ).loc Cert.Reference9Ideal.main_v44) = v1 c
          ∧ r.2.mem ((c.tc : Thread Cert.Reference9Ideal.nD Cert.Reference9Ideal.τ).loc Cert.Reference9Ideal.main_v46) = v2 c
          ∧ r.2.mem ((c.tc : Thread Cert.Reference9Ideal.nD Cert.Reference9Ideal.τ).loc Cert.Reference9Ideal.main_v47) = v3 c
          ∧ r.2.mem ((c.tc : Thread Cert.Reference9Ideal.nD Cert.Reference9Ideal.τ).loc Cert.Reference9Ideal.main_v48) = v4 c
          ∧ r.2.mem ((c.tc : Thread Cert.Reference9Ideal.nD Cert.Reference9Ideal.τ).loc Cert.Reference9Ideal.main_v49) = v5 c
          ∧ r.2.mem ((c.tc : Thread Cert.Reference9Ideal.nD Cert.Reference9Ideal.τ).loc Cert.Reference9Ideal.main_v50) = v6 c
          ∧ r.2.mem ((c.tc : Thread Cert.Reference9Ideal.nD Cert.Reference9Ideal.τ).loc Cert.Reference9Ideal.main_v41) = v7 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7)
          ∧ r.2.mem ((c.tc : Thread Cert.Reference9Ideal.nD Cert.Reference9Ideal.τ).loc Cert.Reference9Ideal.main_arg8) = m' ((c.tc : Thread Cert.Reference9Ideal.nD Cert.Reference9Ideal.τ).loc Cert.Reference9Ideal.main_arg8)
          ∧ r.2.mem ((c.tc : Thread Cert.Reference9Ideal.nD Cert.Reference9Ideal.τ).loc Cert.Reference9Ideal.main_arg9) = m' ((c.tc : Thread Cert.Reference9Ideal.nD Cert.Reference9Ideal.τ).loc Cert.Reference9Ideal.main_arg9))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v12) = v0 c
          ∧ r.2.mem ((c.tc : Thread Cert.Reference21Ideal.nD Cert.Reference21Ideal.τ).loc Cert.Reference21Ideal.main_v15) = v1 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v5) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)) →
    ∃ (v0 : (c : Dev Cert.Kernel23Ideal.nD) → Buf (Elt Ideal) ((c.tc : Thread Cert.Kernel23Ideal.nD Cert.Kernel23Ideal.τ).loc Cert.Kernel23Ideal.main_v0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v19) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2))

def preserves_Kernel22_Kernel22Ideal : Prop :=
  IdealRules.named_const.Statement Cert.Kernel22Ideal.κ "s" .f32 0x3DB504F3#32 (((Real.sqrt 128)⁻¹ : ℝ) : EReal)

def algebraic_Kernel22Ideal_Reference22Ideal_pre_finite_att [hKernel22Ideal : Cert.Kernel22Ideal.Facts] [hReference22Ideal : Cert.Reference22Ideal.Facts] [hPre_finite_att : Cert.Pre_finite_att.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal_finite_att m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v27) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)) (v3 : (c : Dev Cert.Kernel18Ideal.nD) → Buf (Elt Ideal) ((c.tc : Thread Cert.Kernel18Ideal.nD Cert.Kernel18Ideal.τ).loc Cert.Kernel18Ideal.main_v0_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_v0_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v1) = v0 c
          ∧ r.2.mem ((c.tc : Thread Cert.Reference18Ideal.nD Cert.Reference18Ideal.τ).loc Cert.Reference18Ideal.main_v25) = v1 c
          ∧ r.2.mem ((c.tc : Thread Cert.Reference18Ideal.nD Cert.Reference18Ideal.τ).loc Cert.Reference18Ideal.main_v6) = v2 c
          ∧ r.2.mem ((c.tc : Thread Cert.Reference18Ideal.nD Cert.Reference18Ideal.τ).loc Cert.Reference18Ideal.main_v12) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)) (v3 : (c : Dev Cert.Kernel19Ideal.nD) → Buf (Elt Ideal) ((c.tc : Thread Cert.Kernel19Ideal.nD Cert.Kernel19Ideal.τ).loc Cert.Kernel19Ideal.main_v0_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_v0_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v2) = v0 c
          ∧ r.2.mem ((c.tc : Thread Cert.Reference19Ideal.nD Cert.Reference19Ideal.τ).loc Cert.Reference19Ideal.main_v26) = v1 c
          ∧ r.2.mem ((c.tc : Thread Cert.Reference19Ideal.nD Cert.Reference19Ideal.τ).loc Cert.Reference19Ideal.main_v7) = v2 c
          ∧ r.2.mem ((c.tc : Thread Cert.Reference19Ideal.nD Cert.Reference19Ideal.τ).loc Cert.Reference19Ideal.main_v13) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)) (v3 : (c : Dev Cert.Kernel24Ideal.nD) → Buf (Elt Ideal) ((c.tc : Thread Cert.Kernel24Ideal.nD Cert.Kernel24Ideal.τ).loc Cert.Kernel24Ideal.main_v0_3)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_v0_3) = v3 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v1) = v0 c
          ∧ r.2.mem ((c.tc : Thread Cert.Reference24Ideal.nD Cert.Reference24Ideal.τ).loc Cert.Reference24Ideal.main_v25) = v1 c
          ∧ r.2.mem ((c.tc : Thread Cert.Reference24Ideal.nD Cert.Reference24Ideal.τ).loc Cert.Reference24Ideal.main_v6) = v2 c
          ∧ r.2.mem ((c.tc : Thread Cert.Reference24Ideal.nD Cert.Reference24Ideal.τ).loc Cert.Reference24Ideal.main_v12) = v3 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)) (v2 : (c : Dev Cert.Kernel25Ideal.nD) → Buf (Elt Ideal) ((c.tc : Thread Cert.Kernel25Ideal.nD Cert.Kernel25Ideal.τ).loc Cert.Kernel25Ideal.main_v0_2)) (v3 : (c : Dev Cert.Kernel25Ideal.nD) → Buf (Elt Ideal) ((c.tc : Thread Cert.Kernel25Ideal.nD Cert.Kernel25Ideal.τ).loc Cert.Kernel25Ideal.main_v0_3)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_v0_2) = v2 c
          ∧ r.2.mem ((c.tc : Thread Cert.Kernel25Ideal.nD Cert.Kernel25Ideal.τ).loc Cert.Kernel25Ideal.main_v0_3) = v3 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v1) = v0 c
          ∧ r.2.mem ((c.tc : Thread Cert.Reference25Ideal.nD Cert.Reference25Ideal.τ).loc Cert.Reference25Ideal.main_v25) = v1 c
          ∧ r.2.mem ((c.tc : Thread Cert.Reference25Ideal.nD Cert.Reference25Ideal.τ).loc Cert.Reference25Ideal.main_v6) = v2 c
          ∧ r.2.mem ((c.tc : Thread Cert.Reference25Ideal.nD Cert.Reference25Ideal.τ).loc Cert.Reference25Ideal.main_v12) = v3 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)) (v2 : (c : Dev Cert.Kernel26Ideal.nD) → Buf (Elt Ideal) ((c.tc : Thread Cert.Kernel26Ideal.nD Cert.Kernel26Ideal.τ).loc Cert.Kernel26Ideal.main_v0_2)) (v3 : (c : Dev Cert.Kernel26Ideal.nD) → Buf (Elt Ideal) ((c.tc : Thread Cert.Kernel26Ideal.nD Cert.Kernel26Ideal.τ).loc Cert.Kernel26Ideal.main_v0_3)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_v0_2) = v2 c
          ∧ r.2.mem ((c.tc : Thread Cert.Kernel26Ideal.nD Cert.Kernel26Ideal.τ).loc Cert.Kernel26Ideal.main_v0_3) = v3 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v1) = v0 c
          ∧ r.2.mem ((c.tc : Thread Cert.Reference26Ideal.nD Cert.Reference26Ideal.τ).loc Cert.Reference26Ideal.main_v25) = v1 c
          ∧ r.2.mem ((c.tc : Thread Cert.Reference26Ideal.nD Cert.Reference26Ideal.τ).loc Cert.Reference26Ideal.main_v6) = v2 c
          ∧ r.2.mem ((c.tc : Thread Cert.Reference26Ideal.nD Cert.Reference26Ideal.τ).loc Cert.Reference26Ideal.main_v12) = v3 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)) →
    ∃ (v0 : (c : Dev Cert.Kernel27Ideal.nD) → Buf (Elt Ideal) ((c.tc : Thread Cert.Kernel27Ideal.nD Cert.Kernel27Ideal.τ).loc Cert.Kernel27Ideal.main_v0_0)) (v1 : (c : Dev Cert.Kernel27Ideal.nD) → Buf (Elt Ideal) ((c.tc : Thread Cert.Kernel27Ideal.nD Cert.Kernel27Ideal.τ).loc Cert.Kernel27Ideal.main_v0_1)) (v2 : (c : Dev Cert.Kernel27Ideal.nD) → Buf (Elt Ideal) ((c.tc : Thread Cert.Kernel27Ideal.nD Cert.Kernel27Ideal.τ).loc Cert.Kernel27Ideal.main_v0_2)) (v3 : (c : Dev Cert.Kernel27Ideal.nD) → Buf (Elt Ideal) ((c.tc : Thread Cert.Kernel27Ideal.nD Cert.Kernel27Ideal.τ).loc Cert.Kernel27Ideal.main_v0_3)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0_0) = v0 c
          ∧ r.2.mem ((c.tc : Thread Cert.Kernel27Ideal.nD Cert.Kernel27Ideal.τ).loc Cert.Kernel27Ideal.main_v0_1) = v1 c
          ∧ r.2.mem ((c.tc : Thread Cert.Kernel27Ideal.nD Cert.Kernel27Ideal.τ).loc Cert.Kernel27Ideal.main_v0_2) = v2 c
          ∧ r.2.mem ((c.tc : Thread Cert.Kernel27Ideal.nD Cert.Kernel27Ideal.τ).loc Cert.Kernel27Ideal.main_v0_3) = v3 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v1) = v0 c
          ∧ r.2.mem ((c.tc : Thread Cert.Reference27Ideal.nD Cert.Reference27Ideal.τ).loc Cert.Reference27Ideal.main_v25) = v1 c
          ∧ r.2.mem ((c.tc : Thread Cert.Reference27Ideal.nD Cert.Reference27Ideal.τ).loc Cert.Reference27Ideal.main_v6) = v2 c
          ∧ r.2.mem ((c.tc : Thread Cert.Reference27Ideal.nD Cert.Reference27Ideal.τ).loc Cert.Reference27Ideal.main_v12) = v3 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel9 : Cert.Kernel9.Facts) (hKernel9Ideal : Cert.Kernel9Ideal.Facts) (hReference9Ideal : Cert.Reference9Ideal.Facts) (hKernel21 : Cert.Kernel21.Facts) (hKernel21Ideal : Cert.Kernel21Ideal.Facts) (hReference21Ideal : Cert.Reference21Ideal.Facts) (hKernel20 : Cert.Kernel20.Facts) (hKernel20Ideal : Cert.Kernel20Ideal.Facts) (hReference20Ideal : Cert.Reference20Ideal.Facts) (hKernel23 : Cert.Kernel23.Facts) (hKernel23Ideal : Cert.Kernel23Ideal.Facts) (hReference23Ideal : Cert.Reference23Ideal.Facts) (hKernel22 : Cert.Kernel22.Facts) (hKernel22Ideal : Cert.Kernel22Ideal.Facts) (hReference22Ideal : Cert.Reference22Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hPre_finite : Cert.Pre_finite.Facts) (hPre_finite_ffn : Cert.Pre_finite_ffn.Facts) (hPre_finite_att : Cert.Pre_finite_att.Facts) (hOn_written_rows : Cert.On_written_rows.Facts) (hOn_written_columns : Cert.On_written_columns.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite_ffn (hKernel2Ideal := hKernel2Ideal) (hPre_finite_ffn := hPre_finite_ffn)
    ∧ quiescent_Reference2Ideal (hReference2Ideal := hReference2Ideal)
    ∧ quiescent_Reference2Ideal_pre_finite_ffn (hReference2Ideal := hReference2Ideal) (hPre_finite_ffn := hPre_finite_ffn)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel22 (hKernel22 := hKernel22)
    ∧ quiescent_Kernel22Ideal (hKernel22Ideal := hKernel22Ideal)
    ∧ quiescent_Kernel22Ideal_pre_finite_att (hKernel22Ideal := hKernel22Ideal) (hPre_finite_att := hPre_finite_att)
    ∧ quiescent_Reference22Ideal (hReference22Ideal := hReference22Ideal)
    ∧ quiescent_Reference22Ideal_pre_finite_att (hReference22Ideal := hReference22Ideal) (hPre_finite_att := hPre_finite_att)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite_ffn (hKernel2Ideal := hKernel2Ideal) (hReference2Ideal := hReference2Ideal) (hPre_finite_ffn := hPre_finite_ffn)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal_on_written_rows (hKernel11Ideal := hKernel11Ideal) (hReference11Ideal := hReference11Ideal) (hOn_written_rows := hOn_written_rows)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal_on_written_columns (hKernel13Ideal := hKernel13Ideal) (hReference13Ideal := hReference13Ideal) (hOn_written_columns := hOn_written_columns)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel9_Kernel9Ideal
    ∧ algebraic_Kernel9Ideal_Reference9Ideal (hKernel9Ideal := hKernel9Ideal) (hReference9Ideal := hReference9Ideal)
    ∧ preserves_Kernel21_Kernel21Ideal
    ∧ algebraic_Kernel21Ideal_Reference21Ideal (hKernel21Ideal := hKernel21Ideal) (hReference21Ideal := hReference21Ideal)
    ∧ preserves_Kernel20_Kernel20Ideal
    ∧ algebraic_Kernel20Ideal_Reference20Ideal (hKernel20Ideal := hKernel20Ideal) (hReference20Ideal := hReference20Ideal)
    ∧ preserves_Kernel23_Kernel23Ideal
    ∧ algebraic_Kernel23Ideal_Reference23Ideal (hKernel23Ideal := hKernel23Ideal) (hReference23Ideal := hReference23Ideal)
    ∧ preserves_Kernel22_Kernel22Ideal
    ∧ algebraic_Kernel22Ideal_Reference22Ideal_pre_finite_att (hKernel22Ideal := hKernel22Ideal) (hReference22Ideal := hReference22Ideal) (hPre_finite_att := hPre_finite_att)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
-- ==== On_written_columns.lean ====
abbrev S8192x1024 : Shape := ⟨2, ![8192, 1024]⟩
abbrev S1024x6144 : Shape := ⟨2, ![1024, 6144]⟩
abbrev S_ : Shape := ⟨0, ![]⟩

class Facts : Prop where
  bcast_S_S1024x6144 : S_.BroadcastsInDim S1024x6144 (![] : Fin 0 → Fin S1024x6144.rank)

variable [Facts]

def fn {F : FTy → Type} [FloatOps F] (main_arg0 : FVec F S8192x1024 .bf16) (main_arg1 : FVec F S8192x1024 .bf16) : IVec S1024x6144 1 :=
  let main_v0 : IVec S1024x6144 32 := iotaInDim S1024x6144 32 1
  let main_c : IVec S_ 32 := constantI S_ 32 1024#32
  let main_v1 : IVec S1024x6144 32 := broadcastInDim S1024x6144 ![] bcast_S_S1024x6144 main_c
  let main_v2 : IVec S1024x6144 1 := cmpi .slt main_v0 main_v1
  main_v2
-- ==== On_written_rows.lean ====
abbrev S8192x5632 : Shape := ⟨2, ![8192, 5632]⟩
abbrev S8192x1024 : Shape := ⟨2, ![8192, 1024]⟩
abbrev S5632x1024 : Shape := ⟨2, ![5632, 1024]⟩
abbrev S_ : Shape := ⟨0, ![]⟩

class Facts : Prop where
  bcast_S_S5632x1024 : S_.BroadcastsInDim S5632x1024 (![] : Fin 0 → Fin S5632x1024.rank)

variable [Facts]

def fn {F : FTy → Type} [FloatOps F] (main_arg0 : FVec F S8192x5632 .bf16) (main_arg1 : FVec F S8192x1024 .bf16) : IVec S5632x1024 1 :=
  let main_v0 : IVec S5632x1024 32 := iotaInDim S5632x1024 32 0
  let main_c : IVec S_ 32 := constantI S_ 32 2816#32
  let main_v1 : IVec S5632x1024 32 := broadcastInDim S5632x1024 ![] bcast_S_S5632x1024 main_c
  let main_v2 : IVec S5632x1024 1 := cmpi .slt main_v0 main_v1
  main_v2
-- ==== Pre_finite.lean ====
abbrev S4x2048x512 : Shape := ⟨3, ![4, 2048, 512]⟩
abbrev S4x256x1024 : Shape := ⟨3, ![4, 256, 1024]⟩
abbrev S_ : Shape := ⟨0, ![]⟩
abbrev S4x256x512 : Shape := ⟨3, ![4, 256, 512]⟩

class Facts : Prop where
  bitsLt_bf16_f32 : FTy.bits .bf16 < FTy.bits .f32
  bcast_S_S4x2048x512 : S_.BroadcastsInDim S4x2048x512 (![] : Fin 0 → Fin S4x2048x512.rank)
  slices_S4x256x1024_S4x256x512_0_0_0 : S4x256x1024.Slices ![0, 0, 0] S4x256x512
  bcast_S_S4x256x512 : S_.BroadcastsInDim S4x256x512 (![] : Fin 0 → Fin S4x256x512.rank)

variable [Facts]

def fn {F : FTy → Type} [FloatOps F] (main_arg0 : FVec F S4x2048x512 .bf16) (main_arg1 : FVec F S4x256x1024 .bf16) (main_arg2 : FVec F S4x2048x512 .bf16) : IVec S4x2048x512 1 × IVec S4x256x512 1 :=
  let main_v0 : FVec F S4x2048x512 .f32 := (extf .f32 · bitsLt_bf16_f32) main_arg0
  let main_v1 : FVec F S4x2048x512 .f32 := Host.absf main_v0
  let main_cst : FVec F S_ .f32 := constant S_ .f32 0x7F800000#32
  let main_v2 : FVec F S4x2048x512 .f32 := broadcastInDim S4x2048x512 ![] bcast_S_S4x2048x512 main_cst
  let main_v3 : IVec S4x2048x512 1 := cmpf .olt main_v1 main_v2
  let main_v4 : FVec F S4x256x512 .bf16 := (extractStridedSlice S4x256x512 ![0, 0, 0] · slices_S4x256x1024_S4x256x512_0_0_0) main_arg1
  let main_v5 : FVec F S4x256x512 .f32 := (extf .f32 · bitsLt_bf16_f32) main_v4
  let main_v6 : FVec F S4x256x512 .f32 := Host.absf main_v5
  let main_cst_0 : FVec F S_ .f32 := constant S_ .f32 0x7F800000#32
  let main_v7 : FVec F S4x256x512 .f32 := broadcastInDim S4x256x512 ![] bcast_S_S4x256x512 main_cst_0
  let main_v8 : IVec S4x256x512 1 := cmpf .olt main_v6 main_v7
  (main_v3, main_v8)
-- ==== Pre_finite_att.lean ====
abbrev S4x2048x512 : Shape := ⟨3, ![4, 2048, 512]⟩
abbrev S4x256x1024 : Shape := ⟨3, ![4, 256, 1024]⟩
abbrev S_ : Shape := ⟨0, ![]⟩
abbrev S4x256x512 : Shape := ⟨3, ![4, 256, 512]⟩

class Facts : Prop where
  bitsLt_bf16_f32 : FTy.bits .bf16 < FTy.bits .f32
  bcast_S_S4x2048x512 : S_.BroadcastsInDim S4x2048x512 (![] : Fin 0 → Fin S4x2048x512.rank)
  slices_S4x256x1024_S4x256x512_0_0_0 : S4x256x1024.Slices ![0, 0, 0] S4x256x512
  bcast_S_S4x256x512 : S_.BroadcastsInDim S4x256x512 (![] : Fin 0 → Fin S4x256x512.rank)

variable [Facts]

def fn {F : FTy → Type} [FloatOps F] (main_arg0 : FVec F S4x2048x512 .bf16) (main_arg1 : FVec F S4x256x1024 .bf16) : IVec S4x2048x512 1 × IVec S4x256x512 1 :=
  let main_v0 : FVec F S4x2048x512 .f32 := (extf .f32 · bitsLt_bf16_f32) main_arg0
  let main_v1 : FVec F S4x2048x512 .f32 := Host.absf main_v0
  let main_cst : FVec F S_ .f32 := constant S_ .f32 0x7F800000#32
  let main_v2 : FVec F S4x2048x512 .f32 := broadcastInDim S4x2048x512 ![] bcast_S_S4x2048x512 main_cst
  let main_v3 : IVec S4x2048x512 1 := cmpf .olt main_v1 main_v2
  let main_v4 : FVec F S4x256x512 .bf16 := (extractStridedSlice S4x256x512 ![0, 0, 0] · slices_S4x256x1024_S4x256x512_0_0_0) main_arg1
  let main_v5 : FVec F S4x256x512 .f32 := (extf .f32 · bitsLt_bf16_f32) main_v4
  let main_v6 : FVec F S4x256x512 .f32 := Host.absf main_v5
  let main_cst_0 : FVec F S_ .f32 := constant S_ .f32 0x7F800000#32
  let main_v7 : FVec F S4x256x512 .f32 := broadcastInDim S4x256x512 ![] bcast_S_S4x256x512 main_cst_0
  let main_v8 : IVec S4x256x512 1 := cmpf .olt main_v6 main_v7
  (main_v3, main_v8)
-- ==== Pre_finite_ffn.lean ====
abbrev S8192x1024 : Shape := ⟨2, ![8192, 1024]⟩
abbrev S1x1024 : Shape := ⟨2, ![1, 1024]⟩
abbrev S5632x1024 : Shape := ⟨2, ![5632, 1024]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  bcast_S_S1x1024 : S_.BroadcastsInDim S1x1024 (![] : Fin 0 → Fin S1x1024.rank)
  slices_S5632x1024_S2816x1024_2816_0 : S5632x1024.Slices ![2816, 0] S2816x1024
  bitsLt_bf16_f32 : FTy.bits .bf16 < FTy.bits .f32
  bcast_S_S2816x1024 : S_.BroadcastsInDim S2816x1024 (![] : Fin 0 → Fin S2816x1024.rank)

variable [Facts]

def fn {F : FTy → Type} [FloatOps F] (main_arg0 : FVec F S8192x1024 .f32) (main_arg1 : FVec F S8192x1024 .f32) (main_arg2 : FVec F S1x1024 .f32) (main_arg3 : FVec F S5632x1024 .bf16) (main_arg4 : FVec F S2816x1024 .bf16) : IVec S8192x1024 1 × IVec S1x1024 1 × IVec S2816x1024 1 × IVec S2816x1024 1 :=
  let main_v0 : FVec F S8192x1024 .f32 := Host.absf main_arg1
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1x1024 .f32 := Host.absf main_arg2
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S2816x1024 .bf16 := (extractStridedSlice S2816x1024 ![2816, 0] · slices_S5632x1024_S2816x1024_2816_0) main_arg3
  let main_v7 : FVec F S2816x1024 .f32 := (extf .f32 · bitsLt_bf16_f32) main_v6
  let main_v8 : FVec F S2816x1024 .f32 := Host.absf main_v7
  let main_cst_1 : FVec F S_ .f32 := constant S_ .f32 0x7F800000#32
  let main_v9 : FVec F S2816x1024 .f32 := broadcastInDim S2816x1024 ![] bcast_S_S2816x1024 main_cst_1
  let main_v10 : IVec S2816x1024 1 := cmpf .olt main_v8 main_v9
  let main_v11 : FVec F S2816x1024 .f32 := (extf .f32 · bitsLt_bf16_f32) main_arg4
  let main_v12 : FVec F S2816x1024 .f32 := Host.absf main_v11
  let main_cst_2 : FVec F S_ .f32 := constant S_ .f32 0x7F800000#32
  let main_v13 : FVec F S2816x1024 .f32 := broadcastInDim S2816x1024 ![] bcast_S_S2816x1024 main_cst_2
  let main_v14 : IVec S2816x1024 1 := cmpf .olt main_v12 main_v13
  (main_v2, main_v5, main_v10, main_v14)
-- ==== Kernel.lean ====
abbrev S4x2048x512 : Shape := ⟨3, ![4, 2048, 512]⟩
abbrev S4x256x1024 : Shape := ⟨3, ![4, 256, 1024]⟩
abbrev S1x512x512 : Shape := ⟨3, ![1, 512, 512]⟩
abbrev S1x256x1024 : Shape := ⟨3, ![1, 256, 1024]⟩
abbrev S1x512x128 : Shape := ⟨3, ![1, 512, 128]⟩
abbrev S512x128 : Shape := ⟨2, ![512, 128]⟩
abbrev S1x256x128 : Shape := ⟨3, ![1, 256, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩

abbrev nBuf : Space → Nat
  | .hbm => 5
  | .vmem => 10
  | .smem => 0
  | _ => 0

abbrev bufTy : (tb : Table) → Fin (tcTables nBuf tb) → BufTy
  | .hbm, ⟨0, _⟩ => ⟨S4x2048x512, .bf16⟩
  | .hbm, ⟨1, _⟩ => ⟨S4x256x1024, .bf16⟩
  | .hbm, ⟨2, _⟩ => ⟨S4x2048x512, .bf16⟩
  | .hbm, ⟨3, _⟩ => ⟨S4x2048x512, .bf16⟩
  | .hbm, ⟨4, _⟩ => ⟨S4x256x1024, .f32⟩
  | .local _ .vmem, ⟨0, _⟩ => ⟨S1x512x512, .bf16⟩
  | .local _ .vmem, ⟨1, _⟩ => ⟨S1x512x512, .bf16⟩
  | .local _ .vmem, ⟨2, _⟩ => ⟨S1x256x1024, .bf16⟩
  | .local _ .vmem, ⟨3, _⟩ => ⟨S1x256x1024, .bf16⟩
  | .local _ .vmem, ⟨4, _⟩ => ⟨S1x512x512, .bf16⟩
  | .local _ .vmem, ⟨5, _⟩ => ⟨S1x512x512, .bf16⟩
  | .local _ .vmem, ⟨6, _⟩ => ⟨S1x512x512, .bf16⟩
  | .local _ .vmem, ⟨7, _⟩ => ⟨S1x512x512, .bf16⟩
  | .local _ .vmem, ⟨8, _⟩ => ⟨S1x256x1024, .f32⟩
  | .local _ .vmem, ⟨9, _⟩ => ⟨S1x256x1024, .f32⟩
  | _, _ => ⟨S4x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== KernelIdeal.lean ====
variable {F : FTy → Type} [FloatOps F] [Named F]
def κ : String → Option EReal := fun
  | "s" => some (((Real.sqrt 128)⁻¹ : ℝ) : EReal)
  | _ => none
-- ==== ReferenceIdeal.lean ====
abbrev S4x2048x512 : Shape := ⟨3, ![4, 2048, 512]⟩
abbrev S4x256x1024 : Shape := ⟨3, ![4, 256, 1024]⟩
abbrev S4x256x512 : Shape := ⟨3, ![4, 256, 512]⟩
abbrev S4x2048x4x128 : Shape := ⟨4, ![4, 2048, 4, 128]⟩
abbrev S4x256x4x128 : Shape := ⟨4, ![4, 256, 4, 128]⟩
abbrev S4x4x2048x256 : Shape := ⟨4, ![4, 4, 2048, 256]⟩
abbrev S_ : Shape := ⟨0, ![]⟩
abbrev S4x4x2048 : Shape := ⟨3, ![4, 4, 2048]⟩
abbrev S4x4x2048x1 : Shape := ⟨4, ![4, 4, 2048, 1]⟩
abbrev S4x4x128x2048 : Shape := ⟨4, ![4, 4, 128, 2048]⟩
abbrev S4x4x128x256 : Shape := ⟨4, ![4, 4, 128, 256]⟩
abbrev S4x4x256x128 : Shape := ⟨4, ![4, 4, 256, 128]⟩
abbrev S4x4x2048x128 : Shape := ⟨4, ![4, 4, 2048, 128]⟩

abbrev nBuf : Space → Nat
  | .hbm => 92
  | .vmem => 0
  | .smem => 0
  | _ => 0

abbrev bufTy : (tb : Table) → Fin (tcTables nBuf tb) → BufTy
  | .hbm, ⟨0, _⟩ => ⟨S4x2048x512, .bf16⟩
  | .hbm, ⟨1, _⟩ => ⟨S4x256x1024, .bf16⟩
  | .hbm, ⟨2, _⟩ => ⟨S4x2048x512, .bf16⟩
  | .hbm, ⟨3, _⟩ => ⟨S4x2048x512, .f32⟩
  | .hbm, ⟨4, _⟩ => ⟨S4x256x1024, .f32⟩
  | .hbm, ⟨5, _⟩ => ⟨S4x256x512, .f32⟩
  | .hbm, ⟨6, _⟩ => ⟨S4x256x512, .f32⟩
  | .hbm, ⟨7, _⟩ => ⟨S4x2048x4x128, .f32⟩
  | .hbm, ⟨8, _⟩ => ⟨S4x256x4x128, .f32⟩
  | .hbm, ⟨9, _⟩ => ⟨S4x256x4x128, .f32⟩
  | .hbm, ⟨10, _⟩ => ⟨S4x4x2048x256, .f32⟩
  | .hbm, ⟨11, _⟩ => ⟨S_, .f32⟩
  | .hbm, ⟨12, _⟩ => ⟨S_, .f32⟩
  | .hbm, ⟨13, _⟩ => ⟨S4x4x2048x256, .f32⟩
  | .hbm, ⟨14, _⟩ => ⟨S4x4x2048x256, .f32⟩
  | .hbm, ⟨15, _⟩ => ⟨S_, .f32⟩
  | .hbm, ⟨16, _⟩ => ⟨S4x4x2048, .f32⟩
  | .hbm, ⟨17, _⟩ => ⟨S4x4x2048x1, .f32⟩
  | .hbm, ⟨18, _⟩ => ⟨S4x4x2048x256, .f32⟩
  | .hbm, ⟨19, _⟩ => ⟨S4x4x2048x256, .i1⟩
  | .hbm, ⟨20, _⟩ => ⟨S4x4x2048x256, .f32⟩
  | .hbm, ⟨21, _⟩ => ⟨S_, .f32⟩
  | .hbm, ⟨22, _⟩ => ⟨S4x4x2048, .f32⟩
  | .hbm, ⟨23, _⟩ => ⟨S_, .f32⟩
  | .hbm, ⟨24, _⟩ => ⟨S4x4x2048, .f32⟩
  | .hbm, ⟨25, _⟩ => ⟨S4x4x2048, .f32⟩
  | .hbm, ⟨26, _⟩ => ⟨S_, .f32⟩
  | .hbm, ⟨27, _⟩ => ⟨S4x4x2048, .f32⟩
  | .hbm, ⟨28, _⟩ => ⟨S4x4x2048, .i1⟩
  | .hbm, ⟨29, _⟩ => ⟨S_, .f32⟩
  | .hbm, ⟨30, _⟩ => ⟨S4x4x2048, .f32⟩
  | .hbm, ⟨31, _⟩ => ⟨S4x4x2048, .i1⟩
  | .hbm, ⟨32, _⟩ => ⟨S_, .f32⟩
  | .hbm, ⟨33, _⟩ => ⟨S4x4x2048, .f32⟩
  | .hbm, ⟨34, _⟩ => ⟨S_, .f32⟩
  | .hbm, ⟨35, _⟩ => ⟨S4x4x2048, .f32⟩
  | .hbm, ⟨36, _⟩ => ⟨S_, .f32⟩
  | .hbm, ⟨37, _⟩ => ⟨S4x4x2048, .f32⟩
  | .hbm, ⟨38, _⟩ => ⟨S4x4x2048, .f32⟩
  | .hbm, ⟨39, _⟩ => ⟨S4x4x2048, .f32⟩
  | .hbm, ⟨40, _⟩ => ⟨S4x4x2048x1, .f32⟩
  | .hbm, ⟨41, _⟩ => ⟨S4x4x2048x256, .f32⟩
  | .hbm, ⟨42, _⟩ => ⟨S4x4x2048x256, .f32⟩
  | .hbm, ⟨43, _⟩ => ⟨S4x4x2048x256, .f32⟩
  | .hbm, ⟨44, _⟩ => ⟨S_, .f32⟩
  | .hbm, ⟨45, _⟩ => ⟨S4x4x2048, .f32⟩
  | .hbm, ⟨46, _⟩ => ⟨S4x4x2048x1, .f32⟩
  | .hbm, ⟨47, _⟩ => ⟨S4x4x2048x256, .f32⟩
  | .hbm, ⟨48, _⟩ => ⟨S4x4x2048x256, .f32⟩
  | .hbm, ⟨49, _⟩ => ⟨S4x4x2048x1, .f32⟩
  | .hbm, ⟨50, _⟩ => ⟨S_, .f32⟩
  | .hbm, ⟨51, _⟩ => ⟨S4x4x2048x1, .f32⟩
  | .hbm, ⟨52, _⟩ => ⟨S4x4x2048x1, .f32⟩
  | .hbm, ⟨53, _⟩ => ⟨S4x4x2048x256, .bf16⟩
  | .hbm, ⟨54, _⟩ => ⟨S4x4x2048x256, .f32⟩
  | .hbm, ⟨55, _⟩ => ⟨S4x4x128x2048, .f32⟩
  | .hbm, ⟨56, _⟩ => ⟨S4x2048x4x128, .f32⟩
  | .hbm, ⟨57, _⟩ => ⟨S4x2048x4x128, .bf16⟩
  | .hbm, ⟨58, _⟩ => ⟨S4x2048x512, .bf16⟩
  | .hbm, ⟨59, _⟩ => ⟨S4x2048x4x128, .bf16⟩
  | .hbm, ⟨60, _⟩ => ⟨S4x2048x4x128, .f32⟩
  | .hbm, ⟨61, _⟩ => ⟨S4x4x128x2048, .f32⟩
  | .hbm, ⟨62, _⟩ => ⟨S4x4x2048x256, .f32⟩
  | .hbm, ⟨63, _⟩ => ⟨S4x4x128x256, .f32⟩
  | .hbm, ⟨64, _⟩ => ⟨S4x256x4x128, .f32⟩
  | .hbm, ⟨65, _⟩ => ⟨S4x4x2048x256, .bf16⟩
  | .hbm, ⟨66, _⟩ => ⟨S4x4x2048x256, .f32⟩
  | .hbm, ⟨67, _⟩ => ⟨S4x4x2048x256, .f32⟩
  | .hbm, ⟨68, _⟩ => ⟨S4x4x2048x256, .f32⟩
  | .hbm, ⟨69, _⟩ => ⟨S4x4x2048x256, .f32⟩
  | .hbm, ⟨70, _⟩ => ⟨S_, .f32⟩
  | .hbm, ⟨71, _⟩ => ⟨S4x4x2048, .f32⟩
  | .hbm, ⟨72, _⟩ => ⟨S4x4x2048x1, .f32⟩
  | .hbm, ⟨73, _⟩ => ⟨S4x4x2048x1, .f32⟩
  | .hbm, ⟨74, _⟩ => ⟨S4x4x2048x256, .f32⟩
  | .hbm, ⟨75, _⟩ => ⟨S4x4x2048x256, .f32⟩
  | .hbm, ⟨76, _⟩ => ⟨S_, .f32⟩
  | .hbm, ⟨77, _⟩ => ⟨S4x4x2048, .f32⟩
  | .hbm, ⟨78, _⟩ => ⟨S4x4x2048x256, .f32⟩
  | .hbm, ⟨79, _⟩ => ⟨S4x4x2048x256, .f32⟩
  | .hbm, ⟨80, _⟩ => ⟨S4x4x2048x256, .f32⟩
  | .hbm, ⟨81, _⟩ => ⟨S4x4x2048x256, .f32⟩
  | .hbm, ⟨82, _⟩ => ⟨S4x4x2048x256, .f32⟩
  | .hbm, ⟨83, _⟩ => ⟨S4x4x256x128, .f32⟩
  | .hbm, ⟨84, _⟩ => ⟨S4x256x4x128, .f32⟩
  | .hbm, ⟨85, _⟩ => ⟨S4x4x2048x128, .f32⟩
  | .hbm, ⟨86, _⟩ => ⟨S4x2048x4x128, .f32⟩
  | .hbm, ⟨87, _⟩ => ⟨S4x256x512, .f32⟩
  | .hbm, ⟨88, _⟩ => ⟨S4x256x512, .f32⟩
  | .hbm, ⟨89, _⟩ => ⟨S4x2048x512, .f32⟩
  | .hbm, ⟨90, _⟩ => ⟨S4x256x1024, .f32⟩
  | .hbm, ⟨91, _⟩ => ⟨S4x2048x512, .bf16⟩
  | _, _ => ⟨S4x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_8 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_9 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_cst_10 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_cst_11 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩

abbrev nD : Nat := 1
abbrev τ : Topo := Topo.v7x

variable {F : FTy → Type} [FloatOps F]
-- ==== Kernel2.lean ====
abbrev S8192x1024 : Shape := ⟨2, ![8192, 1024]⟩
abbrev S1x1024 : Shape := ⟨2, ![1, 1024]⟩
abbrev S5632x1024 : Shape := ⟨2, ![5632, 1024]⟩
abbrev S2816x1024 : Shape := ⟨2, ![2816, 1024]⟩
abbrev S8192x5632 : Shape := ⟨2, ![8192, 5632]⟩
abbrev S512x1024 : Shape := ⟨2, ![512, 1024]⟩
abbrev S512x5632 : Shape := ⟨2, ![512, 5632]⟩
abbrev S512 : Shape := ⟨1, ![512]⟩
abbrev S512x1 : Shape := ⟨2, ![512, 1]⟩
abbrev S512x2816 : Shape := ⟨2, ![512, 2816]⟩
abbrev S8192x2816 : Shape := ⟨2, ![8192, 2816]⟩
abbrev S256x1024 : Shape := ⟨2, ![256, 1024]⟩
abbrev S256x5632 : Shape := ⟨2, ![256, 5632]⟩
abbrev S256x2816 : Shape := ⟨2, ![256, 2816]⟩
abbrev S256 : Shape := ⟨1, ![256]⟩
abbrev S256x1 : Shape := ⟨2, ![256, 1]⟩
abbrev S1024 : Shape := ⟨1, ![1024]⟩

abbrev nBuf : Space → Nat
  | .hbm => 12
  | .vmem => 27
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S5632x1024, .bf16⟩
  | .hbm, ⟨4, _⟩ => ⟨S2816x1024, .bf16⟩
  | .hbm, ⟨5, _⟩ => ⟨S8192x1024, .f32⟩
  | .hbm, ⟨6, _⟩ => ⟨S8192x5632, .bf16⟩
  | .hbm, ⟨7, _⟩ => ⟨S8192x1024, .f32⟩
  | .hbm, ⟨8, _⟩ => ⟨S8192x5632, .bf16⟩
  | .hbm, ⟨9, _⟩ => ⟨S8192x2816, .bf16⟩
  | .hbm, ⟨10, _⟩ => ⟨S8192x1024, .bf16⟩
  | .hbm, ⟨11, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S5632x1024, .bf16⟩
  | .local _ .vmem, ⟨4, _⟩ => ⟨S2816x1024, .bf16⟩
  | .local _ .vmem, ⟨5, _⟩ => ⟨S512x1024, .f32⟩
  | .local _ .vmem, ⟨6, _⟩ => ⟨S512x1024, .f32⟩
  | .local _ .vmem, ⟨7, _⟩ => ⟨S512x5632, .bf16⟩
  | .local _ .vmem, ⟨8, _⟩ => ⟨S512x5632, .bf16⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x5632, .bf16⟩
  | .local _ .vmem, ⟨14, _⟩ => ⟨S256x5632, .bf16⟩
  | .local _ .vmem, ⟨15, _⟩ => ⟨S1x1024, .f32⟩
  | .local _ .vmem, ⟨16, _⟩ => ⟨S5632x1024, .bf16⟩
  | .local _ .vmem, ⟨17, _⟩ => ⟨S2816x1024, .bf16⟩
  | .local _ .vmem, ⟨18, _⟩ => ⟨S256x1024, .f32⟩
  | .local _ .vmem, ⟨19, _⟩ => ⟨S256x1024, .f32⟩
  | .local _ .vmem, ⟨20, _⟩ => ⟨S256x5632, .bf16⟩
  | .local _ .vmem, ⟨21, _⟩ => ⟨S256x5632, .bf16⟩
  | .local _ .vmem, ⟨22, _⟩ => ⟨S256x2816, .bf16⟩
  | .local _ .vmem, ⟨23, _⟩ => ⟨S256x2816, .bf16⟩
  | .local _ .vmem, ⟨24, _⟩ => ⟨S256x1024, .bf16⟩
  | .local _ .vmem, ⟨25, _⟩ => ⟨S256x1024, .bf16⟩
  | .local _ .vmem, ⟨26, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev main_v1_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc1_stg7_0 : Ref sig .tc := ⟨.vmem, 20, rfl⟩
abbrev cc1_stg7_1 : Ref sig .tc := ⟨.vmem, 21, rfl⟩
abbrev cc1_stg8_0 : Ref sig .tc := ⟨.vmem, 22, rfl⟩
abbrev cc1_stg8_1 : Ref sig .tc := ⟨.vmem, 23, rfl⟩
abbrev cc1_stg9_0 : Ref sig .tc := ⟨.vmem, 24, rfl⟩
abbrev cc1_stg9_1 : Ref sig .tc := ⟨.vmem, 25, rfl⟩
abbrev cc1_stg10_0 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc1_sem7_0 : DmaSem sig := 20
abbrev cc1_sem7_1 : DmaSem sig := 21
abbrev cc1_sem8_0 : DmaSem sig := 22
abbrev cc1_sem8_1 : DmaSem sig := 23
abbrev cc1_sem9_0 : DmaSem sig := 24
abbrev cc1_sem9_1 : DmaSem sig := 25
abbrev cc1_sem10_0 : DmaSem sig := 26

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S5632x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x5632 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x5632 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S5632x1024 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S2816x1024 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S256x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S256x5632 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S256x2816 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S256x1024 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 1 → Memref sig .tc .vmem S1x1024 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]
-- ==== Reference2Ideal.lean ====
abbrev S8192x1024 : Shape := ⟨2, ![8192, 1024]⟩
abbrev S1x1024 : Shape := ⟨2, ![1, 1024]⟩
abbrev S5632x1024 : Shape := ⟨2, ![5632, 1024]⟩
abbrev S2816x1024 : Shape := ⟨2, ![2816, 1024]⟩
abbrev S1024x5632 : Shape := ⟨2, ![1024, 5632]⟩
abbrev S_ : Shape := ⟨0, ![]⟩
abbrev S8192 : Shape := ⟨1, ![8192]⟩
abbrev S8192x1 : Shape := ⟨2, ![8192, 1]⟩
abbrev S8192x5632 : Shape := ⟨2, ![8192, 5632]⟩
abbrev S8192x2816 : Shape := ⟨2, ![8192, 2816]⟩
abbrev S1024 : Shape := ⟨1, ![1024]⟩

abbrev nBuf : Space → Nat
  | .hbm => 89
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S5632x1024, .bf16⟩
  | .hbm, ⟨4, _⟩ => ⟨S2816x1024, .bf16⟩
  | .hbm, ⟨5, _⟩ => ⟨S5632x1024, .f32⟩
  | .hbm, ⟨6, _⟩ => ⟨S1024x5632, .f32⟩
  | .hbm, ⟨7, _⟩ => ⟨S2816x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x5632, .f32⟩
  | .hbm, ⟨28, _⟩ => ⟨S8192x2816, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S_, .f32⟩
  | .hbm, ⟨33, _⟩ => ⟨S8192x2816, .f32⟩
  | .hbm, ⟨34, _⟩ => ⟨S8192x2816, .f32⟩
  | .hbm, ⟨35, _⟩ => ⟨S_, .f32⟩
  | .hbm, ⟨36, _⟩ => ⟨S8192x2816, .f32⟩
  | .hbm, ⟨37, _⟩ => ⟨S8192x2816, .f32⟩
  | .hbm, ⟨38, _⟩ => ⟨S_, .f32⟩
  | .hbm, ⟨39, _⟩ => ⟨S8192x2816, .f32⟩
  | .hbm, ⟨40, _⟩ => ⟨S8192x2816, .f32⟩
  | .hbm, ⟨41, _⟩ => ⟨S8192x2816, .f32⟩
  | .hbm, ⟨42, _⟩ => ⟨S8192x2816, .f32⟩
  | .hbm, ⟨43, _⟩ => ⟨S8192x2816, .f32⟩
  | .hbm, ⟨44, _⟩ => ⟨S8192x1024, .f32⟩
  | .hbm, ⟨45, _⟩ => ⟨S_, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S_, .f32⟩
  | .hbm, ⟨51, _⟩ => ⟨S8192x1024, .f32⟩
  | .hbm, ⟨52, _⟩ => ⟨S8192x1024, .f32⟩
  | .hbm, ⟨53, _⟩ => ⟨S8192x2816, .f32⟩
  | .hbm, ⟨54, _⟩ => ⟨S8192x2816, .f32⟩
  | .hbm, ⟨55, _⟩ => ⟨S8192x2816, .f32⟩
  | .hbm, ⟨56, _⟩ => ⟨S8192x2816, .f32⟩
  | .hbm, ⟨57, _⟩ => ⟨S8192x2816, .f32⟩
  | .hbm, ⟨58, _⟩ => ⟨S8192x2816, .f32⟩
  | .hbm, ⟨59, _⟩ => ⟨S8192x2816, .f32⟩
  | .hbm, ⟨60, _⟩ => ⟨S8192x5632, .f32⟩
  | .hbm, ⟨61, _⟩ => ⟨S8192x1024, .f32⟩
  | .hbm, ⟨62, _⟩ => ⟨S8192x1024, .f32⟩
  | .hbm, ⟨63, _⟩ => ⟨S_, .f32⟩
  | .hbm, ⟨64, _⟩ => ⟨S1024, .f32⟩
  | .hbm, ⟨65, _⟩ => ⟨S1x1024, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S_, .f32⟩
  | .hbm, ⟨70, _⟩ => ⟨S8192, .f32⟩
  | .hbm, ⟨71, _⟩ => ⟨S8192x1, .f32⟩
  | .hbm, ⟨72, _⟩ => ⟨S8192x1024, .f32⟩
  | .hbm, ⟨73, _⟩ => ⟨S8192x1024, .f32⟩
  | .hbm, ⟨74, _⟩ => ⟨S8192x1, .f32⟩
  | .hbm, ⟨75, _⟩ => ⟨S_, .f32⟩
  | .hbm, ⟨76, _⟩ => ⟨S8192x1, .f32⟩
  | .hbm, ⟨77, _⟩ => ⟨S8192x1, .f32⟩
  | .hbm, ⟨78, _⟩ => ⟨S_, .f32⟩
  | .hbm, ⟨79, _⟩ => ⟨S8192, .f32⟩
  | .hbm, ⟨80, _⟩ => ⟨S8192x1024, .f32⟩
  | .hbm, ⟨81, _⟩ => ⟨S8192x1024, .f32⟩
  | .hbm, ⟨82, _⟩ => ⟨S8192x1024, .f32⟩
  | .hbm, ⟨83, _⟩ => ⟨S8192x1024, .f32⟩
  | .hbm, ⟨84, _⟩ => ⟨S8192x1024, .f32⟩
  | .hbm, ⟨85, _⟩ => ⟨S8192x1024, .f32⟩
  | .hbm, ⟨86, _⟩ => ⟨S8192x5632, .bf16⟩
  | .hbm, ⟨87, _⟩ => ⟨S8192x2816, .bf16⟩
  | .hbm, ⟨88, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_v21_2 : Ref sig .tc := ⟨.hbm, 37, rfl⟩
abbrev main_call0_cst_1 : Ref sig .tc := ⟨.hbm, 38, rfl⟩
abbrev main_call0_v6 : Ref sig .tc := ⟨.hbm, 39, rfl⟩
abbrev main_call0_v7 : Ref sig .tc := ⟨.hbm, 40, rfl⟩
abbrev main_v21_1 : Ref sig .tc := ⟨.hbm, 41, rfl⟩
abbrev main_v21_0 : Ref sig .tc := ⟨.hbm, 42, rfl⟩
abbrev main_v22 : Ref sig .tc := ⟨.hbm, 43, rfl⟩
abbrev main_v23 : Ref sig .tc := ⟨.hbm, 44, rfl⟩
abbrev main_cst_3 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_cst_4 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_cst_5 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_cst_6 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_cst_7 : Ref sig .tc := ⟨.hbm, 75, rfl⟩
abbrev main_v47 : Ref sig .tc := ⟨.hbm, 76, rfl⟩
abbrev main_v48 : Ref sig .tc := ⟨.hbm, 77, rfl⟩
abbrev main_cst_8 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩

abbrev nD : Nat := 1
abbrev τ : Topo := Topo.v7x

variable {F : FTy → Type} [FloatOps F]
-- ==== Kernel3.lean ====
abbrev S8192x1024 : Shape := ⟨2, ![8192, 1024]⟩
abbrev S1x1024 : Shape := ⟨2, ![1, 1024]⟩
abbrev S5632x1024 : Shape := ⟨2, ![5632, 1024]⟩
abbrev S2816x1024 : Shape := ⟨2, ![2816, 1024]⟩
abbrev S8192x5632 : Shape := ⟨2, ![8192, 5632]⟩
abbrev S1x128 : Shape := ⟨2, ![1, 128]⟩
abbrev S512x1024 : Shape := ⟨2, ![512, 1024]⟩
abbrev S512x5632 : Shape := ⟨2, ![512, 5632]⟩
abbrev S512 : Shape := ⟨1, ![512]⟩
abbrev S512x1 : Shape := ⟨2, ![512, 1]⟩
abbrev S512x2816 : Shape := ⟨2, ![512, 2816]⟩
abbrev S1024 : Shape := ⟨1, ![1024]⟩
abbrev S1 : Shape := ⟨1, ![1]⟩
abbrev S1x1 : Shape := ⟨2, ![1, 1]⟩

abbrev nBuf : Space → Nat
  | .hbm => 10
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S5632x1024, .bf16⟩
  | .hbm, ⟨3, _⟩ => ⟨S2816x1024, .bf16⟩
  | .hbm, ⟨4, _⟩ => ⟨S1x1024, .f32⟩
  | .hbm, ⟨5, _⟩ => ⟨S8192x1024, .f32⟩
  | .hbm, ⟨6, _⟩ => ⟨S8192x1024, .f32⟩
  | .hbm, ⟨7, _⟩ => ⟨S8192x5632, .bf16⟩
  | .hbm, ⟨8, _⟩ => ⟨S1x128, .f32⟩
  | .hbm, ⟨9, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S5632x1024, .bf16⟩
  | .local _ .vmem, ⟨4, _⟩ => ⟨S2816x1024, .bf16⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x5632, .bf16⟩
  | .local _ .vmem, ⟨11, _⟩ => ⟨S512x5632, .bf16⟩
  | .local _ .vmem, ⟨12, _⟩ => ⟨S1x128, .f32⟩
  | .local _ .vmem, ⟨13, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S5632x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x5632 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference3Ideal.lean ====
abbrev S8192x1024 : Shape := ⟨2, ![8192, 1024]⟩
abbrev S1x1024 : Shape := ⟨2, ![1, 1024]⟩
abbrev S5632x1024 : Shape := ⟨2, ![5632, 1024]⟩
abbrev S2816x1024 : Shape := ⟨2, ![2816, 1024]⟩
abbrev S1024x5632 : Shape := ⟨2, ![1024, 5632]⟩
abbrev S_ : Shape := ⟨0, ![]⟩
abbrev S8192 : Shape := ⟨1, ![8192]⟩
abbrev S8192x1 : Shape := ⟨2, ![8192, 1]⟩
abbrev S8192x5632 : Shape := ⟨2, ![8192, 5632]⟩
abbrev S8192x2816 : Shape := ⟨2, ![8192, 2816]⟩
abbrev S1024 : Shape := ⟨1, ![1024]⟩
abbrev S1x128 : Shape := ⟨2, ![1, 128]⟩

abbrev nBuf : Space → Nat
  | .hbm => 109
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S5632x1024, .bf16⟩
  | .hbm, ⟨3, _⟩ => ⟨S2816x1024, .bf16⟩
  | .hbm, ⟨4, _⟩ => ⟨S1x1024, .f32⟩
  | .hbm, ⟨5, _⟩ => ⟨S8192x1024, .f32⟩
  | .hbm, ⟨6, _⟩ => ⟨S5632x1024, .f32⟩
  | .hbm, ⟨7, _⟩ => ⟨S1024x5632, .f32⟩
  | .hbm, ⟨8, _⟩ => ⟨S2816x1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x5632, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S_, .f32⟩
  | .hbm, ⟨30, _⟩ => ⟨S8192x2816, .f32⟩
  | .hbm, ⟨31, _⟩ => ⟨S8192x2816, .f32⟩
  | .hbm, ⟨32, _⟩ => ⟨S_, .f32⟩
  | .hbm, ⟨33, _⟩ => ⟨S8192x2816, .f32⟩
  | .hbm, ⟨34, _⟩ => ⟨S8192x2816, .f32⟩
  | .hbm, ⟨35, _⟩ => ⟨S8192x2816, .f32⟩
  | .hbm, ⟨36, _⟩ => ⟨S8192x2816, .f32⟩
  | .hbm, ⟨37, _⟩ => ⟨S8192x1024, .f32⟩
  | .hbm, ⟨38, _⟩ => ⟨S_, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S8192, .f32⟩
  | .hbm, ⟨45, _⟩ => ⟨S8192x1, .f32⟩
  | .hbm, ⟨46, _⟩ => ⟨S_, .f32⟩
  | .hbm, ⟨47, _⟩ => ⟨S8192x1, .f32⟩
  | .hbm, ⟨48, _⟩ => ⟨S8192x1, .f32⟩
  | .hbm, ⟨49, _⟩ => ⟨S_, .f32⟩
  | .hbm, ⟨50, _⟩ => ⟨S8192x1, .f32⟩
  | .hbm, ⟨51, _⟩ => ⟨S8192x1, .f32⟩
  | .hbm, ⟨52, _⟩ => ⟨S8192x1, .f32⟩
  | .hbm, ⟨53, _⟩ => ⟨S8192x1, .f32⟩
  | .hbm, ⟨54, _⟩ => ⟨S_, .f32⟩
  | .hbm, ⟨55, _⟩ => ⟨S8192x1, .f32⟩
  | .hbm, ⟨56, _⟩ => ⟨S8192x1, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S_, .f32⟩
  | .hbm, ⟨64, _⟩ => ⟨S8192x1024, .f32⟩
  | .hbm, ⟨65, _⟩ => ⟨S8192x1024, .f32⟩
  | .hbm, ⟨66, _⟩ => ⟨S_, .f32⟩
  | .hbm, ⟨67, _⟩ => ⟨S8192, .f32⟩
  | .hbm, ⟨68, _⟩ => ⟨S_, .f32⟩
  | .hbm, ⟨69, _⟩ => ⟨S8192, .f32⟩
  | .hbm, ⟨70, _⟩ => ⟨S8192, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S8192, .f32⟩
  | .hbm, ⟨79, _⟩ => ⟨S_, .f32⟩
  | .hbm, ⟨80, _⟩ => ⟨S8192, .f32⟩
  | .hbm, ⟨81, _⟩ => ⟨S8192, .f32⟩
  | .hbm, ⟨82, _⟩ => ⟨S8192x1024, .f32⟩
  | .hbm, ⟨83, _⟩ => ⟨S8192x1024, .f32⟩
  | .hbm, ⟨84, _⟩ => ⟨S8192x1024, .f32⟩
  | .hbm, ⟨85, _⟩ => ⟨S_, .f32⟩
  | .hbm, ⟨86, _⟩ => ⟨S1024, .f32⟩
  | .hbm, ⟨87, _⟩ => ⟨S1x1024, .f32⟩
  | .hbm, ⟨88, _⟩ => ⟨S8192x1024, .f32⟩
  | .hbm, ⟨89, _⟩ => ⟨S8192x1024, .f32⟩
  | .hbm, ⟨90, _⟩ => ⟨S8192x1024, .f32⟩
  | .hbm, ⟨91, _⟩ => ⟨S_, .f32⟩
  | .hbm, ⟨92, _⟩ => ⟨S8192, .f32⟩
  | .hbm, ⟨93, _⟩ => ⟨S8192x1, .f32⟩
  | .hbm, ⟨94, _⟩ => ⟨S8192x1024, .f32⟩
  | .hbm, ⟨95, _⟩ => ⟨S8192x1024, .f32⟩
  | .hbm, ⟨96, _⟩ => ⟨S8192x1, .f32⟩
  | .hbm, ⟨97, _⟩ => ⟨S_, .f32⟩
  | .hbm, ⟨98, _⟩ => ⟨S8192x1, .f32⟩
  | .hbm, ⟨99, _⟩ => ⟨S8192x1, .f32⟩
  | .hbm, ⟨100, _⟩ => ⟨S_, .f32⟩
  | .hbm, ⟨101, _⟩ => ⟨S8192, .f32⟩
  | .hbm, ⟨102, _⟩ => ⟨S8192x1024, .f32⟩
  | .hbm, ⟨103, _⟩ => ⟨S8192x1024, .f32⟩
  | .hbm, ⟨104, _⟩ => ⟨S8192x1024, .f32⟩
  | .hbm, ⟨105, _⟩ => ⟨S8192x1024, .f32⟩
  | .hbm, ⟨106, _⟩ => ⟨S8192x1024, .f32⟩
  | .hbm, ⟨107, _⟩ => ⟨S8192x5632, .bf16⟩
  | .hbm, ⟨108, _⟩ => ⟨S1x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_2 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_3 : Ref sig .tc := ⟨.hbm, 43, rfl⟩
abbrev main_v25 : Ref sig .tc := ⟨.hbm, 44, rfl⟩
abbrev main_v26 : Ref sig .tc := ⟨.hbm, 45, rfl⟩
abbrev main_cst_4 : Ref sig .tc := ⟨.hbm, 46, rfl⟩
abbrev main_v27 : Ref sig .tc := ⟨.hbm, 47, rfl⟩
abbrev main_v28 : Ref sig .tc := ⟨.hbm, 48, rfl⟩
abbrev main_cst_5 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_6 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_7 : Ref sig .tc := ⟨.hbm, 63, rfl⟩
abbrev main_v41 : Ref sig .tc := ⟨.hbm, 64, rfl⟩
abbrev main_v42 : Ref sig .tc := ⟨.hbm, 65, rfl⟩
abbrev main_cst_8 : Ref sig .tc := ⟨.hbm, 66, rfl⟩
abbrev main_v43 : Ref sig .tc := ⟨.hbm, 67, rfl⟩
abbrev main_cst_9 : Ref sig .tc := ⟨.hbm, 68, rfl⟩
abbrev main_v44 : Ref sig .tc := ⟨.hbm, 69, rfl⟩
abbrev main_v45 : Ref sig .tc := ⟨.hbm, 70, rfl⟩
abbrev main_cst_10 : Ref sig .tc := ⟨.hbm, 71, rfl⟩
abbrev main_v46 : Ref sig .tc := ⟨.hbm, 72, rfl⟩
abbrev main_cst_11 : Ref sig .tc := ⟨.hbm, 73, rfl⟩
abbrev main_v47 : Ref sig .tc := ⟨.hbm, 74, rfl⟩
abbrev main_cst_12 : Ref sig .tc := ⟨.hbm, 75, rfl⟩
abbrev main_cst_13 : Ref sig .tc := ⟨.hbm, 76, rfl⟩
abbrev main_v48 : Ref sig .tc := ⟨.hbm, 77, rfl⟩
abbrev main_v49 : Ref sig .tc := ⟨.hbm, 78, rfl⟩
abbrev main_cst_14 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_cst_15 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_cst_16 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_cst_17 : Ref sig .tc := ⟨.hbm, 97, rfl⟩
abbrev main_v65 : Ref sig .tc := ⟨.hbm, 98, rfl⟩
abbrev main_v66 : Ref sig .tc := ⟨.hbm, 99, rfl⟩
abbrev main_cst_18 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩

abbrev nD : Nat := 1
abbrev τ : Topo := Topo.v7x

variable {F : FTy → Type} [FloatOps F]
-- ==== Kernel4.lean ====
abbrev S8192x1024 : Shape := ⟨2, ![8192, 1024]⟩
abbrev S8192x1536 : Shape := ⟨2, ![8192, 1536]⟩
abbrev S8192x512 : Shape := ⟨2, ![8192, 512]⟩
abbrev S8192x3072 : Shape := ⟨2, ![8192, 3072]⟩
abbrev S1x1024 : Shape := ⟨2, ![1, 1024]⟩
abbrev S1024x6144 : Shape := ⟨2, ![1024, 6144]⟩
abbrev S512x1024 : Shape := ⟨2, ![512, 1024]⟩
abbrev S512x1536 : Shape := ⟨2, ![512, 1536]⟩
abbrev S512x512 : Shape := ⟨2, ![512, 512]⟩
abbrev S512x3072 : Shape := ⟨2, ![512, 3072]⟩
abbrev S512 : Shape := ⟨1, ![512]⟩
abbrev S512x1 : Shape := ⟨2, ![512, 1]⟩
abbrev S1024x1024 : Shape := ⟨2, ![1024, 1024]⟩
abbrev S1024x1536 : Shape := ⟨2, ![1024, 1536]⟩
abbrev S1024x512 : Shape := ⟨2, ![1024, 512]⟩
abbrev S1024x3072 : Shape := ⟨2, ![1024, 3072]⟩
abbrev S1024 : Shape := ⟨1, ![1024]⟩

abbrev nBuf : Space → Nat
  | .hbm => 15
  | .vmem => 31
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .bf16⟩
  | .hbm, ⟨3, _⟩ => ⟨S8192x1536, .bf16⟩
  | .hbm, ⟨4, _⟩ => ⟨S8192x512, .bf16⟩
  | .hbm, ⟨5, _⟩ => ⟨S8192x3072, .bf16⟩
  | .hbm, ⟨6, _⟩ => ⟨S1x1024, .f32⟩
  | .hbm, ⟨7, _⟩ => ⟨S1024x6144, .bf16⟩
  | .hbm, ⟨8, _⟩ => ⟨S8192x1024, .f32⟩
  | .hbm, ⟨9, _⟩ => ⟨S8192x1536, .bf16⟩
  | .hbm, ⟨10, _⟩ => ⟨S8192x512, .bf16⟩
  | .hbm, ⟨11, _⟩ => ⟨S8192x3072, .bf16⟩
  | .hbm, ⟨12, _⟩ => ⟨S8192x1024, .bf16⟩
  | .hbm, ⟨13, _⟩ => ⟨S8192x1024, .f32⟩
  | .hbm, ⟨14, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x6144, .bf16⟩
  | .local _ .vmem, ⟨4, _⟩ => ⟨S512x1024, .f32⟩
  | .local _ .vmem, ⟨5, _⟩ => ⟨S512x1024, .f32⟩
  | .local _ .vmem, ⟨6, _⟩ => ⟨S512x1536, .bf16⟩
  | .local _ .vmem, ⟨7, _⟩ => ⟨S512x1536, .bf16⟩
  | .local _ .vmem, ⟨8, _⟩ => ⟨S512x512, .bf16⟩
  | .local _ .vmem, ⟨9, _⟩ => ⟨S512x512, .bf16⟩
  | .local _ .vmem, ⟨10, _⟩ => ⟨S512x3072, .bf16⟩
  | .local _ .vmem, ⟨11, _⟩ => ⟨S512x3072, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .bf16⟩
  | .local _ .vmem, ⟨19, _⟩ => ⟨S512x1024, .bf16⟩
  | .local _ .vmem, ⟨20, _⟩ => ⟨S512x1536, .bf16⟩
  | .local _ .vmem, ⟨21, _⟩ => ⟨S512x1536, .bf16⟩
  | .local _ .vmem, ⟨22, _⟩ => ⟨S512x512, .bf16⟩
  | .local _ .vmem, ⟨23, _⟩ => ⟨S512x512, .bf16⟩
  | .local _ .vmem, ⟨24, _⟩ => ⟨S512x3072, .bf16⟩
  | .local _ .vmem, ⟨25, _⟩ => ⟨S512x3072, .bf16⟩
  | .local _ .vmem, ⟨26, _⟩ => ⟨S1x1024, .f32⟩
  | .local _ .vmem, ⟨27, _⟩ => ⟨S1024x6144, .bf16⟩
  | .local _ .vmem, ⟨28, _⟩ => ⟨S512x1024, .f32⟩
  | .local _ .vmem, ⟨29, _⟩ => ⟨S512x1024, .f32⟩
  | .local _ .vmem, ⟨30, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v1_0 : Ref sig .tc := ⟨.hbm, 13, rfl⟩
abbrev main_v1_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg5_1 : Ref sig .tc := ⟨.vmem, 25, rfl⟩
abbrev cc1_stg6_0 : Ref sig .tc := ⟨.vmem, 26, rfl⟩
abbrev cc1_stg7_0 : Ref sig .tc := ⟨.vmem, 27, rfl⟩
abbrev cc1_stg8_0 : Ref sig .tc := ⟨.vmem, 28, rfl⟩
abbrev cc1_stg8_1 : Ref sig .tc := ⟨.vmem, 29, rfl⟩
abbrev cc1_stg9_0 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem5_1 : DmaSem sig := 25
abbrev cc1_sem6_0 : DmaSem sig := 26
abbrev cc1_sem7_0 : DmaSem sig := 27
abbrev cc1_sem8_0 : DmaSem sig := 28
abbrev cc1_sem8_1 : DmaSem sig := 29
abbrev cc1_sem9_0 : DmaSem sig := 30

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x6144 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x3072 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x1536 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S512x3072 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S1x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1024x6144 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S512x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 1 → Memref sig .tc .vmem S1x1024 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]
-- ==== Reference4Ideal.lean ====
abbrev S8192x1024 : Shape := ⟨2, ![8192, 1024]⟩
abbrev S8192x1536 : Shape := ⟨2, ![8192, 1536]⟩
abbrev S8192x512 : Shape := ⟨2, ![8192, 512]⟩
abbrev S8192x3072 : Shape := ⟨2, ![8192, 3072]⟩
abbrev S1x1024 : Shape := ⟨2, ![1, 1024]⟩
abbrev S1024x6144 : Shape := ⟨2, ![1024, 6144]⟩
abbrev S_ : Shape := ⟨0, ![]⟩
abbrev S8192 : Shape := ⟨1, ![8192]⟩
abbrev S8192x1 : Shape := ⟨2, ![8192, 1]⟩
abbrev S8192x6144 : Shape := ⟨2, ![8192, 6144]⟩
abbrev S1024 : Shape := ⟨1, ![1024]⟩

abbrev nBuf : Space → Nat
  | .hbm => 67
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .bf16⟩
  | .hbm, ⟨3, _⟩ => ⟨S8192x1536, .bf16⟩
  | .hbm, ⟨4, _⟩ => ⟨S8192x512, .bf16⟩
  | .hbm, ⟨5, _⟩ => ⟨S8192x3072, .bf16⟩
  | .hbm, ⟨6, _⟩ => ⟨S1x1024, .f32⟩
  | .hbm, ⟨7, _⟩ => ⟨S1024x6144, .bf16⟩
  | .hbm, ⟨8, _⟩ => ⟨S1024x6144, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x6144, .f32⟩
  | .hbm, ⟨29, _⟩ => ⟨S8192x1024, .f32⟩
  | .hbm, ⟨30, _⟩ => ⟨S8192x1536, .f32⟩
  | .hbm, ⟨31, _⟩ => ⟨S8192x512, .f32⟩
  | .hbm, ⟨32, _⟩ => ⟨S8192x3072, .f32⟩
  | .hbm, ⟨33, _⟩ => ⟨S8192x1024, .f32⟩
  | .hbm, ⟨34, _⟩ => ⟨S8192x1536, .f32⟩
  | .hbm, ⟨35, _⟩ => ⟨S8192x512, .f32⟩
  | .hbm, ⟨36, _⟩ => ⟨S8192x3072, .f32⟩
  | .hbm, ⟨37, _⟩ => ⟨S8192x6144, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S1024, .f32⟩
  | .hbm, ⟨42, _⟩ => ⟨S1x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S8192, .f32⟩
  | .hbm, ⟨48, _⟩ => ⟨S8192x1, .f32⟩
  | .hbm, ⟨49, _⟩ => ⟨S8192x1024, .f32⟩
  | .hbm, ⟨50, _⟩ => ⟨S8192x1024, .f32⟩
  | .hbm, ⟨51, _⟩ => ⟨S8192x1, .f32⟩
  | .hbm, ⟨52, _⟩ => ⟨S_, .f32⟩
  | .hbm, ⟨53, _⟩ => ⟨S8192x1, .f32⟩
  | .hbm, ⟨54, _⟩ => ⟨S8192x1, .f32⟩
  | .hbm, ⟨55, _⟩ => ⟨S_, .f32⟩
  | .hbm, ⟨56, _⟩ => ⟨S8192, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S8192x1536, .bf16⟩
  | .hbm, ⟨63, _⟩ => ⟨S8192x512, .bf16⟩
  | .hbm, ⟨64, _⟩ => ⟨S8192x3072, .bf16⟩
  | .hbm, ⟨65, _⟩ => ⟨S8192x1024, .bf16⟩
  | .hbm, ⟨66, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_3 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_4 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_5 : Ref sig .tc := ⟨.hbm, 52, rfl⟩
abbrev main_v38 : Ref sig .tc := ⟨.hbm, 53, rfl⟩
abbrev main_v39 : Ref sig .tc := ⟨.hbm, 54, rfl⟩
abbrev main_cst_6 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩

abbrev nD : Nat := 1
abbrev τ : Topo := Topo.v7x

variable {F : FTy → Type} [FloatOps F]
-- ==== Kernel5.lean ====
abbrev S8192x2816 : Shape := ⟨2, ![8192, 2816]⟩
abbrev S8192x1024 : Shape := ⟨2, ![8192, 1024]⟩
abbrev S2816x1024 : Shape := ⟨2, ![2816, 1024]⟩
abbrev S1024x2816 : Shape := ⟨2, ![1024, 2816]⟩
abbrev S1024x512 : Shape := ⟨2, ![1024, 512]⟩
abbrev S2816x512 : Shape := ⟨2, ![2816, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S2816x1024, .bf16⟩
  | .local _ .vmem, ⟨0, _⟩ => ⟨S1024x2816, .bf16⟩
  | .local _ .vmem, ⟨1, _⟩ => ⟨S1024x2816, .bf16⟩
  | .local _ .vmem, ⟨2, _⟩ => ⟨S1024x512, .f32⟩
  | .local _ .vmem, ⟨3, _⟩ => ⟨S1024x512, .f32⟩
  | .local _ .vmem, ⟨4, _⟩ => ⟨S2816x512, .bf16⟩
  | .local _ .vmem, ⟨5, _⟩ => ⟨S2816x512, .bf16⟩
  | .local _ .vmem, ⟨6, _⟩ => ⟨S2816x512, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v12 : BitVec 1 := Scalar.cmpi .eq arg1 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2816x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference5Ideal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 15
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S_, .f32⟩
  | .hbm, ⟨3, _⟩ => ⟨S2816x1024, .f32⟩
  | .hbm, ⟨4, _⟩ => ⟨S8192x2816, .f32⟩
  | .hbm, ⟨5, _⟩ => ⟨S8192x1024, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S1024x2816, .f32⟩
  | .hbm, ⟨13, _⟩ => ⟨S2816x1024, .f32⟩
  | .hbm, ⟨14, _⟩ => ⟨S2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Kernel6.lean ====
abbrev S8192x5632 : Shape := ⟨2, ![8192, 5632]⟩
abbrev S8192x1024 : Shape := ⟨2, ![8192, 1024]⟩
abbrev S5632x512 : Shape := ⟨2, ![5632, 512]⟩
abbrev S512x5632 : Shape := ⟨2, ![512, 5632]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x5632, .bf16⟩
  | .hbm, ⟨1, _⟩ => ⟨S8192x1024, .bf16⟩
  | .hbm, ⟨2, _⟩ => ⟨S5632x512, .bf16⟩
  | .local _ .vmem, ⟨0, _⟩ => ⟨S512x5632, .bf16⟩
  | .local _ .vmem, ⟨1, _⟩ => ⟨S512x5632, .bf16⟩
  | .local _ .vmem, ⟨2, _⟩ => ⟨S512x512, .bf16⟩
  | .local _ .vmem, ⟨3, _⟩ => ⟨S512x512, .bf16⟩
  | .local _ .vmem, ⟨4, _⟩ => ⟨S5632x512, .bf16⟩
  | .local _ .vmem, ⟨5, _⟩ => ⟨S5632x512, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 16], ![false, false]⟩

def k0_cond2 (i : grid0.Coords) : BitVec 1 :=
  let arg1 : BitVec 32 := BitVec.ofNat 32 (i 1).val
  let c15_i32 : BitVec 32 := 15#32
  let v11 : BitVec 1 := Scalar.cmpi .eq arg1 c15_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S5632x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference6Ideal.lean ====
abbrev S8192x5632 : Shape := ⟨2, ![8192, 5632]⟩
abbrev S8192x1024 : Shape := ⟨2, ![8192, 1024]⟩
abbrev S_ : Shape := ⟨0, ![]⟩
abbrev S1024x5632 : Shape := ⟨2, ![1024, 5632]⟩
abbrev S5632x1024 : Shape := ⟨2, ![5632, 1024]⟩
abbrev S5632x512 : Shape := ⟨2, ![5632, 512]⟩

abbrev nBuf : Space → Nat
  | .hbm => 12
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x1024, .bf16⟩
  | .hbm, ⟨2, _⟩ => ⟨S_, .f32⟩
  | .hbm, ⟨3, _⟩ => ⟨S1024x5632, .f32⟩
  | .hbm, ⟨4, _⟩ => ⟨S8192x1024, .f32⟩
  | .hbm, ⟨5, _⟩ => ⟨S8192x5632, .f32⟩
  | .hbm, ⟨6, _⟩ => ⟨S8192x5632, .f32⟩
  | .hbm, ⟨7, _⟩ => ⟨S5632x1024, .f32⟩
  | .hbm, ⟨8, _⟩ => ⟨S1024x5632, .f32⟩
  | .hbm, ⟨9, _⟩ => ⟨S5632x1024, .f32⟩
  | .hbm, ⟨10, _⟩ => ⟨S5632x512, .f32⟩
  | .hbm, ⟨11, _⟩ => ⟨S5632x512, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel7.lean ====
abbrev S8192x5632 : Shape := ⟨2, ![8192, 5632]⟩
abbrev S8192x1024 : Shape := ⟨2, ![8192, 1024]⟩
abbrev S5632x512 : Shape := ⟨2, ![5632, 512]⟩
abbrev S512x5632 : Shape := ⟨2, ![512, 5632]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x5632, .bf16⟩
  | .hbm, ⟨1, _⟩ => ⟨S8192x1024, .bf16⟩
  | .hbm, ⟨2, _⟩ => ⟨S5632x512, .bf16⟩
  | .local _ .vmem, ⟨0, _⟩ => ⟨S512x5632, .bf16⟩
  | .local _ .vmem, ⟨1, _⟩ => ⟨S512x5632, .bf16⟩
  | .local _ .vmem, ⟨2, _⟩ => ⟨S512x512, .bf16⟩
  | .local _ .vmem, ⟨3, _⟩ => ⟨S512x512, .bf16⟩
  | .local _ .vmem, ⟨4, _⟩ => ⟨S5632x512, .bf16⟩
  | .local _ .vmem, ⟨5, _⟩ => ⟨S5632x512, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 16], ![false, false]⟩

def k0_cond2 (i : grid0.Coords) : BitVec 1 :=
  let arg1 : BitVec 32 := BitVec.ofNat 32 (i 1).val
  let c15_i32 : BitVec 32 := 15#32
  let v11 : BitVec 1 := Scalar.cmpi .eq arg1 c15_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S5632x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference7Ideal.lean ====
abbrev S8192x5632 : Shape := ⟨2, ![8192, 5632]⟩
abbrev S8192x1024 : Shape := ⟨2, ![8192, 1024]⟩
abbrev S_ : Shape := ⟨0, ![]⟩
abbrev S1024x5632 : Shape := ⟨2, ![1024, 5632]⟩
abbrev S5632x1024 : Shape := ⟨2, ![5632, 1024]⟩
abbrev S5632x512 : Shape := ⟨2, ![5632, 512]⟩

abbrev nBuf : Space → Nat
  | .hbm => 12
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x1024, .bf16⟩
  | .hbm, ⟨2, _⟩ => ⟨S_, .f32⟩
  | .hbm, ⟨3, _⟩ => ⟨S1024x5632, .f32⟩
  | .hbm, ⟨4, _⟩ => ⟨S8192x1024, .f32⟩
  | .hbm, ⟨5, _⟩ => ⟨S8192x5632, .f32⟩
  | .hbm, ⟨6, _⟩ => ⟨S8192x5632, .f32⟩
  | .hbm, ⟨7, _⟩ => ⟨S5632x1024, .f32⟩
  | .hbm, ⟨8, _⟩ => ⟨S1024x5632, .f32⟩
  | .hbm, ⟨9, _⟩ => ⟨S5632x1024, .f32⟩
  | .hbm, ⟨10, _⟩ => ⟨S5632x512, .f32⟩
  | .hbm, ⟨11, _⟩ => ⟨S5632x512, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel8.lean ====
abbrev S8192x1024 : Shape := ⟨2, ![8192, 1024]⟩
abbrev S8192x512 : Shape := ⟨2, ![8192, 512]⟩
abbrev S8192x3072 : Shape := ⟨2, ![8192, 3072]⟩
abbrev S1x3072 : Shape := ⟨2, ![1, 3072]⟩
abbrev S512x1024 : Shape := ⟨2, ![512, 1024]⟩
abbrev S1024x1024 : Shape := ⟨2, ![1024, 1024]⟩
abbrev S512x512 : Shape := ⟨2, ![512, 512]⟩
abbrev S512x3072 : Shape := ⟨2, ![512, 3072]⟩
abbrev S1x1024 : Shape := ⟨2, ![1, 1024]⟩

abbrev nBuf : Space → Nat
  | .hbm => 12
  | .vmem => 19
  | .smem => 0
  | _ => 0

abbrev bufTy : (tb : Table) → Fin (tcTables nBuf tb) → BufTy
  | .hbm, ⟨0, _⟩ => ⟨S8192x1024, .f32⟩
  | .hbm, ⟨1, _⟩ => ⟨S8192x512, .bf16⟩
  | .hbm, ⟨2, _⟩ => ⟨S8192x512, .bf16⟩
  | .hbm, ⟨3, _⟩ => ⟨S8192x512, .bf16⟩
  | .hbm, ⟨4, _⟩ => ⟨S8192x3072, .bf16⟩
  | .hbm, ⟨5, _⟩ => ⟨S1x3072, .f32⟩
  | .hbm, ⟨6, _⟩ => ⟨S512x1024, .bf16⟩
  | .hbm, ⟨7, _⟩ => ⟨S512x1024, .bf16⟩
  | .hbm, ⟨8, _⟩ => ⟨S512x1024, .bf16⟩
  | .hbm, ⟨9, _⟩ => ⟨S1024x1024, .bf16⟩
  | .hbm, ⟨10, _⟩ => ⟨S8192x1024, .f32⟩
  | .hbm, ⟨11, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x3072, .bf16⟩
  | .local _ .vmem, ⟨9, _⟩ => ⟨S512x3072, .bf16⟩
  | .local _ .vmem, ⟨10, _⟩ => ⟨S1x3072, .f32⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S1024x1024, .bf16⟩
  | .local _ .vmem, ⟨15, _⟩ => ⟨S512x1024, .f32⟩
  | .local _ .vmem, ⟨16, _⟩ => ⟨S512x1024, .f32⟩
  | .local _ .vmem, ⟨17, _⟩ => ⟨S512x1024, .bf16⟩
  | .local _ .vmem, ⟨18, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference8Ideal.lean ====
abbrev S8192x1024 : Shape := ⟨2, ![8192, 1024]⟩
abbrev S8192x512 : Shape := ⟨2, ![8192, 512]⟩
abbrev S8192x3072 : Shape := ⟨2, ![8192, 3072]⟩
abbrev S1x3072 : Shape := ⟨2, ![1, 3072]⟩
abbrev S512x1024 : Shape := ⟨2, ![512, 1024]⟩
abbrev S1024x1024 : Shape := ⟨2, ![1024, 1024]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x512, .bf16⟩
  | .hbm, ⟨2, _⟩ => ⟨S8192x512, .bf16⟩
  | .hbm, ⟨3, _⟩ => ⟨S8192x512, .bf16⟩
  | .hbm, ⟨4, _⟩ => ⟨S8192x3072, .bf16⟩
  | .hbm, ⟨5, _⟩ => ⟨S1x3072, .f32⟩
  | .hbm, ⟨6, _⟩ => ⟨S512x1024, .bf16⟩
  | .hbm, ⟨7, _⟩ => ⟨S512x1024, .bf16⟩
  | .hbm, ⟨8, _⟩ => ⟨S512x1024, .bf16⟩
  | .hbm, ⟨9, _⟩ => ⟨S1024x1024, .bf16⟩
  | .hbm, ⟨10, _⟩ => ⟨S8192x512, .f32⟩
  | .hbm, ⟨11, _⟩ => ⟨S512x1024, .f32⟩
  | .hbm, ⟨12, _⟩ => ⟨S8192x1024, .f32⟩
  | .hbm, ⟨13, _⟩ => ⟨S8192x512, .f32⟩
  | .hbm, ⟨14, _⟩ => ⟨S512x1024, .f32⟩
  | .hbm, ⟨15, _⟩ => ⟨S8192x1024, .f32⟩
  | .hbm, ⟨16, _⟩ => ⟨S8192x512, .f32⟩
  | .hbm, ⟨17, _⟩ => ⟨S512x1024, .f32⟩
  | .hbm, ⟨18, _⟩ => ⟨S8192x1024, .f32⟩
  | .hbm, ⟨19, _⟩ => ⟨S8192x3072, .f32⟩
  | .hbm, ⟨20, _⟩ => ⟨S8192x3072, .f32⟩
  | .hbm, ⟨21, _⟩ => ⟨S8192x3072, .f32⟩
  | .hbm, ⟨22, _⟩ => ⟨S8192x3072, .f32⟩
  | .hbm, ⟨23, _⟩ => ⟨S8192x3072, .f32⟩
  | .hbm, ⟨24, _⟩ => ⟨S_, .f32⟩
  | .hbm, ⟨25, _⟩ => ⟨S8192x3072, .f32⟩
  | .hbm, ⟨26, _⟩ => ⟨S8192x3072, .f32⟩
  | .hbm, ⟨27, _⟩ => ⟨S_, .f32⟩
  | .hbm, ⟨28, _⟩ => ⟨S8192x3072, .f32⟩
  | .hbm, ⟨29, _⟩ => ⟨S8192x3072, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S1024x1024, .f32⟩
  | .hbm, ⟨39, _⟩ => ⟨S8192x1024, .f32⟩
  | .hbm, ⟨40, _⟩ => ⟨S8192x1024, .f32⟩
  | .hbm, ⟨41, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst : Ref sig .tc := ⟨.hbm, 24, rfl⟩
abbrev main_v14 : Ref sig .tc := ⟨.hbm, 25, rfl⟩
abbrev main_v15 : Ref sig .tc := ⟨.hbm, 26, rfl⟩
abbrev main_cst_0 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩

abbrev nD : Nat := 1
abbrev τ : Topo := Topo.v7x

variable {F : FTy → Type} [FloatOps F]
-- ==== Kernel10.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 8], ![false, false]⟩

def k0_cond2 (i : grid0.Coords) : BitVec 1 :=
  let arg1 : BitVec 32 := BitVec.ofNat 32 (i 1).val
  let c7_i32 : BitVec 32 := 7#32
  let v12 : BitVec 1 := Scalar.cmpi .eq arg1 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference10Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel11.lean ====
abbrev S8192x5632 : Shape := ⟨2, ![8192, 5632]⟩
abbrev S8192x1024 : Shape := ⟨2, ![8192, 1024]⟩
abbrev S5632x1024 : Shape := ⟨2, ![5632, 1024]⟩
abbrev S1024x2816 : Shape := ⟨2, ![1024, 2816]⟩
abbrev S1024x512 : Shape := ⟨2, ![1024, 512]⟩
abbrev S2816x512 : Shape := ⟨2, ![2816, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S8192x1024, .bf16⟩
  | .hbm, ⟨2, _⟩ => ⟨S5632x1024, .bf16⟩
  | .local _ .vmem, ⟨0, _⟩ => ⟨S1024x2816, .bf16⟩
  | .local _ .vmem, ⟨1, _⟩ => ⟨S1024x2816, .bf16⟩
  | .local _ .vmem, ⟨2, _⟩ => ⟨S1024x512, .bf16⟩
  | .local _ .vmem, ⟨3, _⟩ => ⟨S1024x512, .bf16⟩
  | .local _ .vmem, ⟨4, _⟩ => ⟨S2816x512, .bf16⟩
  | .local _ .vmem, ⟨5, _⟩ => ⟨S2816x512, .bf16⟩
  | .local _ .vmem, ⟨6, _⟩ => ⟨S2816x512, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v11 : BitVec 1 := Scalar.cmpi .eq arg1 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2816x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference11Ideal.lean ====
abbrev S8192x5632 : Shape := ⟨2, ![8192, 5632]⟩
abbrev S8192x1024 : Shape := ⟨2, ![8192, 1024]⟩
abbrev S_ : Shape := ⟨0, ![]⟩
abbrev S1024x5632 : Shape := ⟨2, ![1024, 5632]⟩
abbrev S5632x1024 : Shape := ⟨2, ![5632, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x1024, .bf16⟩
  | .hbm, ⟨2, _⟩ => ⟨S_, .f32⟩
  | .hbm, ⟨3, _⟩ => ⟨S1024x5632, .f32⟩
  | .hbm, ⟨4, _⟩ => ⟨S8192x1024, .f32⟩
  | .hbm, ⟨5, _⟩ => ⟨S8192x5632, .f32⟩
  | .hbm, ⟨6, _⟩ => ⟨S8192x5632, .f32⟩
  | .hbm, ⟨7, _⟩ => ⟨S5632x1024, .f32⟩
  | .hbm, ⟨8, _⟩ => ⟨S1024x5632, .f32⟩
  | .hbm, ⟨9, _⟩ => ⟨S5632x1024, .f32⟩
  | .hbm, ⟨10, _⟩ => ⟨S5632x1024, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel12.lean ====
abbrev S8192x5632 : Shape := ⟨2, ![8192, 5632]⟩
abbrev S8192x1024 : Shape := ⟨2, ![8192, 1024]⟩
abbrev S5632x1024 : Shape := ⟨2, ![5632, 1024]⟩
abbrev S1024x2816 : Shape := ⟨2, ![1024, 2816]⟩
abbrev S1024x512 : Shape := ⟨2, ![1024, 512]⟩
abbrev S2816x512 : Shape := ⟨2, ![2816, 512]⟩

abbrev nBuf : Space → Nat
  | .hbm => 4
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S8192x1024, .bf16⟩
  | .hbm, ⟨2, _⟩ => ⟨S5632x1024, .bf16⟩
  | .hbm, ⟨3, _⟩ => ⟨S5632x1024, .bf16⟩
  | .local _ .vmem, ⟨0, _⟩ => ⟨S1024x2816, .bf16⟩
  | .local _ .vmem, ⟨1, _⟩ => ⟨S1024x2816, .bf16⟩
  | .local _ .vmem, ⟨2, _⟩ => ⟨S1024x512, .bf16⟩
  | .local _ .vmem, ⟨3, _⟩ => ⟨S1024x512, .bf16⟩
  | .local _ .vmem, ⟨4, _⟩ => ⟨S2816x512, .bf16⟩
  | .local _ .vmem, ⟨5, _⟩ => ⟨S2816x512, .bf16⟩
  | .local _ .vmem, ⟨6, _⟩ => ⟨S2816x512, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v11 : BitVec 1 := Scalar.cmpi .eq arg1 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg1.toNat, c1_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c1_i32 : BitVec 32 := 1#32
  let c0_i32_0 : BitVec 32 := 0#32
  ![c1_i32.toNat, v0.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2816x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference12Ideal.lean ====
abbrev S8192x5632 : Shape := ⟨2, ![8192, 5632]⟩
abbrev S8192x1024 : Shape := ⟨2, ![8192, 1024]⟩
abbrev S5632x1024 : Shape := ⟨2, ![5632, 1024]⟩
abbrev S_ : Shape := ⟨0, ![]⟩
abbrev S1024x5632 : Shape := ⟨2, ![1024, 5632]⟩
abbrev S2816x1024 : Shape := ⟨2, ![2816, 1024]⟩

abbrev nBuf : Space → Nat
  | .hbm => 15
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x1024, .bf16⟩
  | .hbm, ⟨2, _⟩ => ⟨S5632x1024, .bf16⟩
  | .hbm, ⟨3, _⟩ => ⟨S_, .f32⟩
  | .hbm, ⟨4, _⟩ => ⟨S1024x5632, .f32⟩
  | .hbm, ⟨5, _⟩ => ⟨S8192x1024, .f32⟩
  | .hbm, ⟨6, _⟩ => ⟨S8192x5632, .f32⟩
  | .hbm, ⟨7, _⟩ => ⟨S8192x5632, .f32⟩
  | .hbm, ⟨8, _⟩ => ⟨S5632x1024, .f32⟩
  | .hbm, ⟨9, _⟩ => ⟨S1024x5632, .f32⟩
  | .hbm, ⟨10, _⟩ => ⟨S5632x1024, .f32⟩
  | .hbm, ⟨11, _⟩ => ⟨S5632x1024, .bf16⟩
  | .hbm, ⟨12, _⟩ => ⟨S2816x1024, .bf16⟩
  | .hbm, ⟨13, _⟩ => ⟨S2816x1024, .bf16⟩
  | .hbm, ⟨14, _⟩ => ⟨S5632x1024, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Kernel13.lean ====
abbrev S8192x1024 : Shape := ⟨2, ![8192, 1024]⟩
abbrev S1024x6144 : Shape := ⟨2, ![1024, 6144]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x6144, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond2 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference13Ideal.lean ====
abbrev S8192x1024 : Shape := ⟨2, ![8192, 1024]⟩
abbrev S_ : Shape := ⟨0, ![]⟩
abbrev S1024x1024 : Shape := ⟨2, ![1024, 1024]⟩
abbrev S1024x5120 : Shape := ⟨2, ![1024, 5120]⟩
abbrev S1024x6144 : Shape := ⟨2, ![1024, 6144]⟩

abbrev nBuf : Space → Nat
  | .hbm => 13
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | .hbm, ⟨10, _⟩ => ⟨S_, .bf16⟩
  | .hbm, ⟨11, _⟩ => ⟨S1024x5120, .bf16⟩
  | .hbm, ⟨12, _⟩ => ⟨S1024x6144, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Kernel14.lean ====
abbrev S8192x1024 : Shape := ⟨2, ![8192, 1024]⟩
abbrev S8192x1536 : Shape := ⟨2, ![8192, 1536]⟩
abbrev S1024x6144 : Shape := ⟨2, ![1024, 6144]⟩
abbrev S2048x1024 : Shape := ⟨2, ![2048, 1024]⟩
abbrev S2048x512 : Shape := ⟨2, ![2048, 512]⟩
abbrev S1024x512 : Shape := ⟨2, ![1024, 512]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x1536, .bf16⟩
  | .hbm, ⟨2, _⟩ => ⟨S1024x6144, .bf16⟩
  | .hbm, ⟨3, _⟩ => ⟨S1024x6144, .bf16⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 4], ![false, false]⟩

def k0_cond2 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![c0_i32.toNat, v0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference14Ideal.lean ====
abbrev S8192x1024 : Shape := ⟨2, ![8192, 1024]⟩
abbrev S8192x1536 : Shape := ⟨2, ![8192, 1536]⟩
abbrev S1024x6144 : Shape := ⟨2, ![1024, 6144]⟩
abbrev S_ : Shape := ⟨0, ![]⟩
abbrev S1024x1536 : Shape := ⟨2, ![1024, 1536]⟩
abbrev S1536x1024 : Shape := ⟨2, ![1536, 1024]⟩
abbrev S1024x1024 : Shape := ⟨2, ![1024, 1024]⟩
abbrev S1024x3584 : Shape := ⟨2, ![1024, 3584]⟩

abbrev nBuf : Space → Nat
  | .hbm => 14
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1536, .bf16⟩
  | .hbm, ⟨2, _⟩ => ⟨S1024x6144, .bf16⟩
  | .hbm, ⟨3, _⟩ => ⟨S_, .f32⟩
  | .hbm, ⟨4, _⟩ => ⟨S1024x1536, .f32⟩
  | .hbm, ⟨5, _⟩ => ⟨S8192x1024, .f32⟩
  | .hbm, ⟨6, _⟩ => ⟨S8192x1536, .f32⟩
  | .hbm, ⟨7, _⟩ => ⟨S8192x1536, .f32⟩
  | .hbm, ⟨8, _⟩ => ⟨S1536x1024, .f32⟩
  | .hbm, ⟨9, _⟩ => ⟨S1024x1536, .f32⟩
  | .hbm, ⟨10, _⟩ => ⟨S1024x1536, .bf16⟩
  | .hbm, ⟨11, _⟩ => ⟨S1024x1024, .bf16⟩
  | .hbm, ⟨12, _⟩ => ⟨S1024x3584, .bf16⟩
  | .hbm, ⟨13, _⟩ => ⟨S1024x6144, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Kernel15.lean ====
abbrev S8192x1024 : Shape := ⟨2, ![8192, 1024]⟩
abbrev S8192x512 : Shape := ⟨2, ![8192, 512]⟩
abbrev S1024x6144 : Shape := ⟨2, ![1024, 6144]⟩
abbrev S2048x1024 : Shape := ⟨2, ![2048, 1024]⟩
abbrev S2048x512 : Shape := ⟨2, ![2048, 512]⟩
abbrev S1024x512 : Shape := ⟨2, ![1024, 512]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S1024x6144, .bf16⟩
  | .hbm, ⟨3, _⟩ => ⟨S1024x6144, .bf16⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .bf16⟩
  | .local _ .vmem, ⟨5, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond2 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.addi arg0 c5_i32
  let c0_i32 : BitVec 32 := 0#32
  let c0_i32_0 : BitVec 32 := 0#32
  ![c0_i32.toNat, v0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference15Ideal.lean ====
abbrev S8192x1024 : Shape := ⟨2, ![8192, 1024]⟩
abbrev S8192x512 : Shape := ⟨2, ![8192, 512]⟩
abbrev S1024x6144 : Shape := ⟨2, ![1024, 6144]⟩
abbrev S_ : Shape := ⟨0, ![]⟩
abbrev S1024x512 : Shape := ⟨2, ![1024, 512]⟩
abbrev S512x1024 : Shape := ⟨2, ![512, 1024]⟩
abbrev S1024x2560 : Shape := ⟨2, ![1024, 2560]⟩
abbrev S1024x3072 : Shape := ⟨2, ![1024, 3072]⟩

abbrev nBuf : Space → Nat
  | .hbm => 14
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S1024x6144, .bf16⟩
  | .hbm, ⟨3, _⟩ => ⟨S_, .f32⟩
  | .hbm, ⟨4, _⟩ => ⟨S1024x512, .f32⟩
  | .hbm, ⟨5, _⟩ => ⟨S8192x1024, .f32⟩
  | .hbm, ⟨6, _⟩ => ⟨S8192x512, .f32⟩
  | .hbm, ⟨7, _⟩ => ⟨S8192x512, .f32⟩
  | .hbm, ⟨8, _⟩ => ⟨S512x1024, .f32⟩
  | .hbm, ⟨9, _⟩ => ⟨S1024x512, .f32⟩
  | .hbm, ⟨10, _⟩ => ⟨S1024x512, .bf16⟩
  | .hbm, ⟨11, _⟩ => ⟨S1024x2560, .bf16⟩
  | .hbm, ⟨12, _⟩ => ⟨S1024x3072, .bf16⟩
  | .hbm, ⟨13, _⟩ => ⟨S1024x6144, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Kernel16.lean ====
abbrev S8192x1024 : Shape := ⟨2, ![8192, 1024]⟩
abbrev S8192x3072 : Shape := ⟨2, ![8192, 3072]⟩
abbrev S1024x6144 : Shape := ⟨2, ![1024, 6144]⟩
abbrev S2048x1024 : Shape := ⟨2, ![2048, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S1024x6144, .bf16⟩
  | .hbm, ⟨3, _⟩ => ⟨S1024x6144, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 4], ![false, false]⟩

def k0_cond2 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi arg0 c3_i32
  let c0_i32 : BitVec 32 := 0#32
  let c0_i32_0 : BitVec 32 := 0#32
  ![c0_i32.toNat, v0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference16Ideal.lean ====
abbrev S8192x1024 : Shape := ⟨2, ![8192, 1024]⟩
abbrev S8192x3072 : Shape := ⟨2, ![8192, 3072]⟩
abbrev S1024x6144 : Shape := ⟨2, ![1024, 6144]⟩
abbrev S_ : Shape := ⟨0, ![]⟩
abbrev S1024x3072 : Shape := ⟨2, ![1024, 3072]⟩
abbrev S3072x1024 : Shape := ⟨2, ![3072, 1024]⟩

abbrev nBuf : Space → Nat
  | .hbm => 13
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S1024x6144, .bf16⟩
  | .hbm, ⟨3, _⟩ => ⟨S_, .f32⟩
  | .hbm, ⟨4, _⟩ => ⟨S1024x3072, .f32⟩
  | .hbm, ⟨5, _⟩ => ⟨S8192x1024, .f32⟩
  | .hbm, ⟨6, _⟩ => ⟨S8192x3072, .f32⟩
  | .hbm, ⟨7, _⟩ => ⟨S8192x3072, .f32⟩
  | .hbm, ⟨8, _⟩ => ⟨S3072x1024, .f32⟩
  | .hbm, ⟨9, _⟩ => ⟨S1024x3072, .f32⟩
  | .hbm, ⟨10, _⟩ => ⟨S1024x3072, .bf16⟩
  | .hbm, ⟨11, _⟩ => ⟨S1024x3072, .bf16⟩
  | .hbm, ⟨12, _⟩ => ⟨S1024x6144, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Kernel17.lean ====
abbrev S8192x512 : Shape := ⟨2, ![8192, 512]⟩
abbrev S8192x1024 : Shape := ⟨2, ![8192, 1024]⟩
abbrev S512x1024 : Shape := ⟨2, ![512, 1024]⟩
abbrev S2048x512 : Shape := ⟨2, ![2048, 512]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S512x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond2 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference17Ideal.lean ====
abbrev S8192x512 : Shape := ⟨2, ![8192, 512]⟩
abbrev S8192x1024 : Shape := ⟨2, ![8192, 1024]⟩
abbrev S_ : Shape := ⟨0, ![]⟩
abbrev S512x1024 : Shape := ⟨2, ![512, 1024]⟩
abbrev S1024x512 : Shape := ⟨2, ![1024, 512]⟩

abbrev nBuf : Space → Nat
  | .hbm => 10
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S_, .f32⟩
  | .hbm, ⟨3, _⟩ => ⟨S512x1024, .f32⟩
  | .hbm, ⟨4, _⟩ => ⟨S8192x512, .f32⟩
  | .hbm, ⟨5, _⟩ => ⟨S8192x1024, .f32⟩
  | .hbm, ⟨6, _⟩ => ⟨S8192x1024, .f32⟩
  | .hbm, ⟨7, _⟩ => ⟨S1024x512, .f32⟩
  | .hbm, ⟨8, _⟩ => ⟨S512x1024, .f32⟩
  | .hbm, ⟨9, _⟩ => ⟨S512x1024, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel9.lean ====
abbrev S8192x1024 : Shape := ⟨2, ![8192, 1024]⟩
abbrev S8192x512 : Shape := ⟨2, ![8192, 512]⟩
abbrev S8192x3072 : Shape := ⟨2, ![8192, 3072]⟩
abbrev S1x3072 : Shape := ⟨2, ![1, 3072]⟩
abbrev S512x1024 : Shape := ⟨2, ![512, 1024]⟩
abbrev S1024x1024 : Shape := ⟨2, ![1024, 1024]⟩
abbrev S256x512 : Shape := ⟨2, ![256, 512]⟩
abbrev S256x3072 : Shape := ⟨2, ![256, 3072]⟩
abbrev S256x1024 : Shape := ⟨2, ![256, 1024]⟩
abbrev S3x256x1024 : Shape := ⟨3, ![3, 256, 1024]⟩
abbrev S3x256x3072 : Shape := ⟨3, ![3, 256, 3072]⟩
abbrev S2x3 : Shape := ⟨2, ![2, 3]⟩
abbrev S1x1 : Shape := ⟨2, ![1, 1]⟩
abbrev S_ : Shape := ⟨0, ![]⟩
abbrev S1x256x1024 : Shape := ⟨3, ![1, 256, 1024]⟩
abbrev S1x256x3072 : Shape := ⟨3, ![1, 256, 3072]⟩
abbrev S1x1024 : Shape := ⟨2, ![1, 1024]⟩
abbrev S1024 : Shape := ⟨1, ![1024]⟩

abbrev nBuf : Space → Nat
  | .hbm => 18
  | .vmem => 28
  | .smem => 0
  | _ => 0

abbrev bufTy : (tb : Table) → Fin (tcTables nBuf tb) → BufTy
  | .hbm, ⟨0, _⟩ => ⟨S8192x1024, .f32⟩
  | .hbm, ⟨1, _⟩ => ⟨S8192x512, .bf16⟩
  | .hbm, ⟨2, _⟩ => ⟨S8192x512, .bf16⟩
  | .hbm, ⟨3, _⟩ => ⟨S8192x512, .bf16⟩
  | .hbm, ⟨4, _⟩ => ⟨S8192x3072, .bf16⟩
  | .hbm, ⟨5, _⟩ => ⟨S1x3072, .f32⟩
  | .hbm, ⟨6, _⟩ => ⟨S512x1024, .bf16⟩
  | .hbm, ⟨7, _⟩ => ⟨S512x1024, .bf16⟩
  | .hbm, ⟨8, _⟩ => ⟨S512x1024, .bf16⟩
  | .hbm, ⟨9, _⟩ => ⟨S1024x1024, .bf16⟩
  | .hbm, ⟨10, _⟩ => ⟨S8192x3072, .bf16⟩
  | .hbm, ⟨11, _⟩ => ⟨S8192x512, .f32⟩
  | .hbm, ⟨12, _⟩ => ⟨S8192x512, .bf16⟩
  | .hbm, ⟨13, _⟩ => ⟨S8192x512, .bf16⟩
  | .hbm, ⟨14, _⟩ => ⟨S8192x1024, .bf16⟩
  | .hbm, ⟨15, _⟩ => ⟨S8192x1024, .bf16⟩
  | .hbm, ⟨16, _⟩ => ⟨S8192x1024, .bf16⟩
  | .hbm, ⟨17, _⟩ => ⟨S1x3072, .f32⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S1x3072, .f32⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S256x3072, .bf16⟩
  | .local _ .vmem, ⟨12, _⟩ => ⟨S256x3072, .bf16⟩
  | .local _ .vmem, ⟨13, _⟩ => ⟨S256x512, .f32⟩
  | .local _ .vmem, ⟨14, _⟩ => ⟨S256x512, .f32⟩
  | .local _ .vmem, ⟨15, _⟩ => ⟨S256x512, .bf16⟩
  | .local _ .vmem, ⟨16, _⟩ => ⟨S256x512, .bf16⟩
  | .local _ .vmem, ⟨17, _⟩ => ⟨S256x512, .bf16⟩
  | .local _ .vmem, ⟨18, _⟩ => ⟨S256x512, .bf16⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | .local _ .vmem, ⟨22, _⟩ => ⟨S256x1024, .bf16⟩
  | .local _ .vmem, ⟨23, _⟩ => ⟨S256x1024, .bf16⟩
  | .local _ .vmem, ⟨24, _⟩ => ⟨S256x1024, .bf16⟩
  | .local _ .vmem, ⟨25, _⟩ => ⟨S1x3072, .f32⟩
  | .local _ .vmem, ⟨26, _⟩ => ⟨S3x256x1024, .f32⟩
  | .local _ .vmem, ⟨27, _⟩ => ⟨S3x256x3072, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_v0_4 : Ref sig .tc := ⟨.hbm, 14, rfl⟩
abbrev main_v0_5 : Ref sig .tc := ⟨.hbm, 15, rfl⟩
abbrev main_v0_6 : Ref sig .tc := ⟨.hbm, 16, rfl⟩
abbrev main_v0_7 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_scratch0 : Ref sig .tc := ⟨.vmem, 26, rfl⟩
abbrev cc0_scratch1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_mult1 : BitVec 32 :=
  let c0_i32_110 : BitVec 32 := 0#32
  c0_i32_110
def k0_mult2 : BitVec 32 :=
  let c256_i32_123 : BitVec 32 := 256#32
  c256_i32_123
def k0_cond2 (i : grid0.Coords) : BitVec 1 :=
  let arg0 : BitVec 32 := BitVec.ofNat 32 (i 0).val
  let c3_i32 : BitVec 32 := 3#32
  let v3 : BitVec 32 := Scalar.addi arg0 c3_i32
  let c1_i32 : BitVec 32 := 1#32
  let v4 : BitVec 32 := Scalar.subi v3 c1_i32
  let c32_i32 : BitVec 32 := 32#32
  let v5 : BitVec 1 := Scalar.cmpi .slt v4 c32_i32
  let v6 : BitVec 32 := Scalar.extui v5
  let c0_i32_1 : BitVec 32 := 0#32
  let v7 : BitVec 1 := Scalar.cmpi .ne v6 c0_i32_1
  v7

def k0_mult3 (i : grid0.Coords) : BitVec 32 :=
  let arg0 : BitVec 32 := BitVec.ofNat 32 (i 0).val
  let c3_i32_107 : BitVec 32 := 3#32
  let v145 : BitVec 32 := Scalar.addi arg0 c3_i32_107
  let c1_i32_108 : BitVec 32 := 1#32
  let v146 : BitVec 32 := Scalar.subi v145 c1_i32_108
  let c256_i32_109 : BitVec 32 := 256#32
  let v147 : BitVec 32 := Scalar.muli v146 c256_i32_109
  v147
def k0_off1 (i : grid0.Coords) : Fin 2 → Nat :=
  let c0_i32_116 : BitVec 32 := 0#32
  let arg0 : BitVec 32 := BitVec.ofNat 32 (i 0).val
  let c3_i32_107 : BitVec 32 := 3#32
  let v145 : BitVec 32 := Scalar.addi arg0 c3_i32_107
  let c1_i32_108 : BitVec 32 := 1#32
  let v146 : BitVec 32 := Scalar.subi v145 c1_i32_108
  let c3_i32_110 : BitVec 32 := 3#32
  let c0_i32_111 : BitVec 32 := 0#32
  let v149 : BitVec 1 := Scalar.cmpi .eq c3_i32_110 c0_i32_111
  let c1_i32_112 : BitVec 32 := 1#32
  let v150 : BitVec 32 := Scalar.select v149 c1_i32_112 c3_i32_110
  let v151 : BitVec 32 := Scalar.remsi v146 v150
  let c0_i32_114 : BitVec 32 := 0#32
  let v153 : BitVec 1 := Scalar.cmpi .slt v151 c0_i32_114
  let c0_i32_115 : BitVec 32 := 0#32
  let v154 : BitVec 1 := Scalar.cmpi .slt v150 c0_i32_115
  let v155 : BitVec 1 := Scalar.xori v153 v154
  let c0_i32_113 : BitVec 32 := 0#32
  let v152 : BitVec 1 := Scalar.cmpi .ne v151 c0_i32_113
  let v156 : BitVec 1 := Scalar.andi v155 v152
  let v157 : BitVec 32 := Scalar.addi v151 v150
  let v158 : BitVec 32 := Scalar.select v156 v157 v151
  ![0, v158.toNat]
def k0_off2 (i : grid0.Coords) : Fin 3 → Nat :=
  let arg0 : BitVec 32 := BitVec.ofNat 32 (i 0).val
  let c3_i32_107 : BitVec 32 := 3#32
  let v145 : BitVec 32 := Scalar.addi arg0 c3_i32_107
  let c1_i32_108 : BitVec 32 := 1#32
  let v146 : BitVec 32 := Scalar.subi v145 c1_i32_108
  let c3_i32_110 : BitVec 32 := 3#32
  let c0_i32_111 : BitVec 32 := 0#32
  let v149 : BitVec 1 := Scalar.cmpi .eq c3_i32_110 c0_i32_111
  let c1_i32_112 : BitVec 32 := 1#32
  let v150 : BitVec 32 := Scalar.select v149 c1_i32_112 c3_i32_110
  let v151 : BitVec 32 := Scalar.remsi v146 v150
  let c0_i32_114 : BitVec 32 := 0#32
  let v153 : BitVec 1 := Scalar.cmpi .slt v151 c0_i32_114
  let c0_i32_115 : BitVec 32 := 0#32
  let v154 : BitVec 1 := Scalar.cmpi .slt v150 c0_i32_115
  let v155 : BitVec 1 := Scalar.xori v153 v154
  let c0_i32_113 : BitVec 32 := 0#32
  let v152 : BitVec 1 := Scalar.cmpi .ne v151 c0_i32_113
  let v156 : BitVec 1 := Scalar.andi v155 v152
  let v157 : BitVec 32 := Scalar.addi v151 v150
  let v158 : BitVec 32 := Scalar.select v156 v157 v151
  let c0_i32_117 : BitVec 32 := 0#32
  let c0_i32_118 : BitVec 32 := 0#32
  ![v158.toNat, 0, 0]
def k0_off3 (i : grid0.Coords) : Fin 2 → Nat :=
  let arg0 : BitVec 32 := BitVec.ofNat 32 (i 0).val
  let c3_i32_107 : BitVec 32 := 3#32
  let v145 : BitVec 32 := Scalar.addi arg0 c3_i32_107
  let c1_i32_108 : BitVec 32 := 1#32
  let v146 : BitVec 32 := Scalar.subi v145 c1_i32_108
  let c256_i32_109 : BitVec 32 := 256#32
  let v147 : BitVec 32 := Scalar.muli v146 c256_i32_109
  let v148 : BitVec 32 := v147
  let c0_i32_119 : BitVec 32 := 0#32
  ![v148.toNat, 0]
def k0_off4 (i : grid0.Coords) : Fin 2 → Nat :=
  let c1_i32_120 : BitVec 32 := 1#32
  let arg0 : BitVec 32 := BitVec.ofNat 32 (i 0).val
  let c3_i32_107 : BitVec 32 := 3#32
  let v145 : BitVec 32 := Scalar.addi arg0 c3_i32_107
  let c1_i32_108 : BitVec 32 := 1#32
  let v146 : BitVec 32 := Scalar.subi v145 c1_i32_108
  let c3_i32_110 : BitVec 32 := 3#32
  let c0_i32_111 : BitVec 32 := 0#32
  let v149 : BitVec 1 := Scalar.cmpi .eq c3_i32_110 c0_i32_111
  let c1_i32_112 : BitVec 32 := 1#32
  let v150 : BitVec 32 := Scalar.select v149 c1_i32_112 c3_i32_110
  let v151 : BitVec 32 := Scalar.remsi v146 v150
  let c0_i32_114 : BitVec 32 := 0#32
  let v153 : BitVec 1 := Scalar.cmpi .slt v151 c0_i32_114
  let c0_i32_115 : BitVec 32 := 0#32
  let v154 : BitVec 1 := Scalar.cmpi .slt v150 c0_i32_115
  let v155 : BitVec 1 := Scalar.xori v153 v154
  let c0_i32_113 : BitVec 32 := 0#32
  let v152 : BitVec 1 := Scalar.cmpi .ne v151 c0_i32_113
  let v156 : BitVec 1 := Scalar.andi v155 v152
  let v157 : BitVec 32 := Scalar.addi v151 v150
  let v158 : BitVec 32 := Scalar.select v156 v157 v151
  ![1, v158.toNat]
def k0_off5 (i : grid0.Coords) : Fin 3 → Nat :=
  let arg0 : BitVec 32 := BitVec.ofNat 32 (i 0).val
  let c3_i32_107 : BitVec 32 := 3#32
  let v145 : BitVec 32 := Scalar.addi arg0 c3_i32_107
  let c1_i32_108 : BitVec 32 := 1#32
  let v146 : BitVec 32 := Scalar.subi v145 c1_i32_108
  let c3_i32_110 : BitVec 32 := 3#32
  let c0_i32_111 : BitVec 32 := 0#32
  let v149 : BitVec 1 := Scalar.cmpi .eq c3_i32_110 c0_i32_111
  let c1_i32_112 : BitVec 32 := 1#32
  let v150 : BitVec 32 := Scalar.select v149 c1_i32_112 c3_i32_110
  let v151 : BitVec 32 := Scalar.remsi v146 v150
  let c0_i32_114 : BitVec 32 := 0#32
  let v153 : BitVec 1 := Scalar.cmpi .slt v151 c0_i32_114
  let c0_i32_115 : BitVec 32 := 0#32
  let v154 : BitVec 1 := Scalar.cmpi .slt v150 c0_i32_115
  let v155 : BitVec 1 := Scalar.xori v153 v154
  let c0_i32_113 : BitVec 32 := 0#32
  let v152 : BitVec 1 := Scalar.cmpi .ne v151 c0_i32_113
  let v156 : BitVec 1 := Scalar.andi v155 v152
  let v157 : BitVec 32 := Scalar.addi v151 v150
  let v158 : BitVec 32 := Scalar.select v156 v157 v151
  let c0_i32_121 : BitVec 32 := 0#32
  let c0_i32_122 : BitVec 32 := 0#32
  ![v158.toNat, 0, 0]
def k0_off6 (i : grid0.Coords) : Fin 2 → Nat :=
  let arg0 : BitVec 32 := BitVec.ofNat 32 (i 0).val
  let c3_i32_107 : BitVec 32 := 3#32
  let v145 : BitVec 32 := Scalar.addi arg0 c3_i32_107
  let c1_i32_108 : BitVec 32 := 1#32
  let v146 : BitVec 32 := Scalar.subi v145 c1_i32_108
  let c256_i32_109 : BitVec 32 := 256#32
  let v147 : BitVec 32 := Scalar.muli v146 c256_i32_109
  let v148 : BitVec 32 := v147
  let c0_i32_123 : BitVec 32 := 0#32
  ![v148.toNat, 0]
def k0_mult4 (i : grid0.Coords) : BitVec 32 :=
  let arg0 : BitVec 32 := BitVec.ofNat 32 (i 0).val
  let c256_i32 : BitVec 32 := 256#32
  let v8 : BitVec 32 := Scalar.muli arg0 c256_i32
  v8
def k0_off7 (i : grid0.Coords) : Fin 2 → Nat :=
  let c0_i32_8 : BitVec 32 := 0#32
  let arg0 : BitVec 32 := BitVec.ofNat 32 (i 0).val
  let c3_i32_2 : BitVec 32 := 3#32
  let c0_i32_3 : BitVec 32 := 0#32
  let v10 : BitVec 1 := Scalar.cmpi .eq c3_i32_2 c0_i32_3
  let c1_i32_4 : BitVec 32 := 1#32
  let v11 : BitVec 32 := Scalar.select v10 c1_i32_4 c3_i32_2
  let v12 : BitVec 32 := Scalar.remsi arg0 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  ![0, v19.toNat]
def k0_off8 (i : grid0.Coords) : Fin 3 → Nat :=
  let arg0 : BitVec 32 := BitVec.ofNat 32 (i 0).val
  let c3_i32_2 : BitVec 32 := 3#32
  let c0_i32_3 : BitVec 32 := 0#32
  let v10 : BitVec 1 := Scalar.cmpi .eq c3_i32_2 c0_i32_3
  let c1_i32_4 : BitVec 32 := 1#32
  let v11 : BitVec 32 := Scalar.select v10 c1_i32_4 c3_i32_2
  let v12 : BitVec 32 := Scalar.remsi arg0 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c0_i32_9 : BitVec 32 := 0#32
  let c0_i32_10 : BitVec 32 := 0#32
  ![v19.toNat, 0, 0]
def k0_off9 (i : grid0.Coords) : Fin 2 → Nat :=
  let arg0 : BitVec 32 := BitVec.ofNat 32 (i 0).val
  let c256_i32 : BitVec 32 := 256#32
  let v8 : BitVec 32 := Scalar.muli arg0 c256_i32
  let v9 : BitVec 32 := v8
  let c0_i32_11 : BitVec 32 := 0#32
  ![v9.toNat, 0]
def k0_off10 (i : grid0.Coords) : Fin 2 → Nat :=
  let c1_i32_12 : BitVec 32 := 1#32
  let arg0 : BitVec 32 := BitVec.ofNat 32 (i 0).val
  let c3_i32_2 : BitVec 32 := 3#32
  let c0_i32_3 : BitVec 32 := 0#32
  let v10 : BitVec 1 := Scalar.cmpi .eq c3_i32_2 c0_i32_3
  let c1_i32_4 : BitVec 32 := 1#32
  let v11 : BitVec 32 := Scalar.select v10 c1_i32_4 c3_i32_2
  let v12 : BitVec 32 := Scalar.remsi arg0 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  ![1, v19.toNat]
def k0_off11 (i : grid0.Coords) : Fin 3 → Nat :=
  let arg0 : BitVec 32 := BitVec.ofNat 32 (i 0).val
  let c3_i32_2 : BitVec 32 := 3#32
  let c0_i32_3 : BitVec 32 := 0#32
  let v10 : BitVec 1 := Scalar.cmpi .eq c3_i32_2 c0_i32_3
  let c1_i32_4 : BitVec 32 := 1#32
  let v11 : BitVec 32 := Scalar.select v10 c1_i32_4 c3_i32_2
  let v12 : BitVec 32 := Scalar.remsi arg0 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c0_i32_13 : BitVec 32 := 0#32
  let c0_i32_14 : BitVec 32 := 0#32
  ![v19.toNat, 0, 0]
def k0_off12 (i : grid0.Coords) : Fin 2 → Nat :=
  let arg0 : BitVec 32 := BitVec.ofNat 32 (i 0).val
  let c256_i32 : BitVec 32 := 256#32
  let v8 : BitVec 32 := Scalar.muli arg0 c256_i32
  let v9 : BitVec 32 := v8
  let c0_i32_15 : BitVec 32 := 0#32
  ![v9.toNat, 0]
def k0_off13 (i : grid0.Coords) : Fin 3 → Nat :=
  let arg0 : BitVec 32 := BitVec.ofNat 32 (i 0).val
  let c3_i32_16 : BitVec 32 := 3#32
  let c0_i32_17 : BitVec 32 := 0#32
  let v30 : BitVec 1 := Scalar.cmpi .eq c3_i32_16 c0_i32_17
  let c1_i32_18 : BitVec 32 := 1#32
  let v31 : BitVec 32 := Scalar.select v30 c1_i32_18 c3_i32_16
  let v32 : BitVec 32 := Scalar.remsi arg0 v31
  let c0_i32_20 : BitVec 32 := 0#32
  let v34 : BitVec 1 := Scalar.cmpi .slt v32 c0_i32_20
  let c0_i32_21 : BitVec 32 := 0#32
  let v35 : BitVec 1 := Scalar.cmpi .slt v31 c0_i32_21
  let v36 : BitVec 1 := Scalar.xori v34 v35
  let c0_i32_19 : BitVec 32 := 0#32
  let v33 : BitVec 1 := Scalar.cmpi .ne v32 c0_i32_19
  let v37 : BitVec 1 := Scalar.andi v36 v33
  let v38 : BitVec 32 := Scalar.addi v32 v31
  let v39 : BitVec 32 := Scalar.select v37 v38 v32
  let v50 : Index := Scalar.indexCast v39
  let c0 : Index := 0#32
  let c0_28 : Index := 0#32
  ![v50.toNat, 0, 0]
def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x3072 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1x3072 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== Reference9Ideal.lean ====
abbrev S8192x1024 : Shape := ⟨2, ![8192, 1024]⟩
abbrev S8192x512 : Shape := ⟨2, ![8192, 512]⟩
abbrev S8192x3072 : Shape := ⟨2, ![8192, 3072]⟩
abbrev S1x3072 : Shape := ⟨2, ![1, 3072]⟩
abbrev S512x1024 : Shape := ⟨2, ![512, 1024]⟩
abbrev S1024x1024 : Shape := ⟨2, ![1024, 1024]⟩
abbrev S_ : Shape := ⟨0, ![]⟩
abbrev S3072 : Shape := ⟨1, ![3072]⟩

abbrev nBuf : Space → Nat
  | .hbm => 65
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x512, .bf16⟩
  | .hbm, ⟨2, _⟩ => ⟨S8192x512, .bf16⟩
  | .hbm, ⟨3, _⟩ => ⟨S8192x512, .bf16⟩
  | .hbm, ⟨4, _⟩ => ⟨S8192x3072, .bf16⟩
  | .hbm, ⟨5, _⟩ => ⟨S1x3072, .f32⟩
  | .hbm, ⟨6, _⟩ => ⟨S512x1024, .bf16⟩
  | .hbm, ⟨7, _⟩ => ⟨S512x1024, .bf16⟩
  | .hbm, ⟨8, _⟩ => ⟨S512x1024, .bf16⟩
  | .hbm, ⟨9, _⟩ => ⟨S1024x1024, .bf16⟩
  | .hbm, ⟨10, _⟩ => ⟨S8192x512, .f32⟩
  | .hbm, ⟨11, _⟩ => ⟨S8192x512, .f32⟩
  | .hbm, ⟨12, _⟩ => ⟨S8192x512, .f32⟩
  | .hbm, ⟨13, _⟩ => ⟨S512x1024, .f32⟩
  | .hbm, ⟨14, _⟩ => ⟨S8192x1024, .f32⟩
  | .hbm, ⟨15, _⟩ => ⟨S512x1024, .f32⟩
  | .hbm, ⟨16, _⟩ => ⟨S8192x1024, .f32⟩
  | .hbm, ⟨17, _⟩ => ⟨S512x1024, .f32⟩
  | .hbm, ⟨18, _⟩ => ⟨S8192x1024, .f32⟩
  | .hbm, ⟨19, _⟩ => ⟨S8192x3072, .f32⟩
  | .hbm, ⟨20, _⟩ => ⟨S8192x3072, .f32⟩
  | .hbm, ⟨21, _⟩ => ⟨S8192x3072, .f32⟩
  | .hbm, ⟨22, _⟩ => ⟨S8192x3072, .f32⟩
  | .hbm, ⟨23, _⟩ => ⟨S8192x3072, .f32⟩
  | .hbm, ⟨24, _⟩ => ⟨S_, .f32⟩
  | .hbm, ⟨25, _⟩ => ⟨S8192x3072, .f32⟩
  | .hbm, ⟨26, _⟩ => ⟨S8192x3072, .f32⟩
  | .hbm, ⟨27, _⟩ => ⟨S_, .f32⟩
  | .hbm, ⟨28, _⟩ => ⟨S8192x3072, .f32⟩
  | .hbm, ⟨29, _⟩ => ⟨S8192x3072, .f32⟩
  | .hbm, ⟨30, _⟩ => ⟨S_, .f32⟩
  | .hbm, ⟨31, _⟩ => ⟨S8192x3072, .f32⟩
  | .hbm, ⟨32, _⟩ => ⟨S8192x3072, .f32⟩
  | .hbm, ⟨33, _⟩ => ⟨S8192x3072, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S1024x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x3072, .f32⟩
  | .hbm, ⟨52, _⟩ => ⟨S8192x3072, .f32⟩
  | .hbm, ⟨53, _⟩ => ⟨S_, .f32⟩
  | .hbm, ⟨54, _⟩ => ⟨S3072, .f32⟩
  | .hbm, ⟨55, _⟩ => ⟨S1x3072, .f32⟩
  | .hbm, ⟨56, _⟩ => ⟨S8192x512, .f32⟩
  | .hbm, ⟨57, _⟩ => ⟨S8192x512, .f32⟩
  | .hbm, ⟨58, _⟩ => ⟨S8192x512, .f32⟩
  | .hbm, ⟨59, _⟩ => ⟨S8192x3072, .bf16⟩
  | .hbm, ⟨60, _⟩ => ⟨S8192x512, .bf16⟩
  | .hbm, ⟨61, _⟩ => ⟨S8192x512, .bf16⟩
  | .hbm, ⟨62, _⟩ => ⟨S8192x1024, .bf16⟩
  | .hbm, ⟨63, _⟩ => ⟨S8192x1024, .bf16⟩
  | .hbm, ⟨64, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst : Ref sig .tc := ⟨.hbm, 24, rfl⟩
abbrev main_v14 : Ref sig .tc := ⟨.hbm, 25, rfl⟩
abbrev main_v15 : Ref sig .tc := ⟨.hbm, 26, rfl⟩
abbrev main_cst_0 : Ref sig .tc := ⟨.hbm, 27, rfl⟩
abbrev main_v16 : Ref sig .tc := ⟨.hbm, 28, rfl⟩
abbrev main_v17 : Ref sig .tc := ⟨.hbm, 29, rfl⟩
abbrev main_cst_1 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_2 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩

abbrev nD : Nat := 1
abbrev τ : Topo := Topo.v7x

variable {F : FTy → Type} [FloatOps F]
-- ==== Kernel21.lean ====
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 5
  | .vmem => 8
  | .smem => 0
  | _ => 0

abbrev bufTy : (tb : Table) → Fin (tcTables nBuf tb) → BufTy
  | .hbm, ⟨0, _⟩ => ⟨S1024x1024, .f32⟩
  | .hbm, ⟨1, _⟩ => ⟨S1x1024, .f32⟩
  | .hbm, ⟨2, _⟩ => ⟨S1024x1024, .bf16⟩
  | .hbm, ⟨3, _⟩ => ⟨S1024x1024, .bf16⟩
  | .hbm, ⟨4, _⟩ => ⟨S1024x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference21Ideal.lean ====
abbrev S1024x1024 : Shape := ⟨2, ![1024, 1024]⟩
abbrev S1x1024 : Shape := ⟨2, ![1, 1024]⟩
abbrev S_ : Shape := ⟨0, ![]⟩
abbrev S1024 : Shape := ⟨1, ![1024]⟩
abbrev S1024x1 : Shape := ⟨2, ![1024, 1]⟩

abbrev nBuf : Space → Nat
  | .hbm => 22
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1x1024, .f32⟩
  | .hbm, ⟨2, _⟩ => ⟨S1024x1024, .bf16⟩
  | .hbm, ⟨3, _⟩ => ⟨S1024x1024, .f32⟩
  | .hbm, ⟨4, _⟩ => ⟨S_, .f32⟩
  | .hbm, ⟨5, _⟩ => ⟨S1024, .f32⟩
  | .hbm, ⟨6, _⟩ => ⟨S1024x1, .f32⟩
  | .hbm, ⟨7, _⟩ => ⟨S_, .f32⟩
  | .hbm, ⟨8, _⟩ => ⟨S1024x1, .f32⟩
  | .hbm, ⟨9, _⟩ => ⟨S1024x1, .f32⟩
  | .hbm, ⟨10, _⟩ => ⟨S_, .f32⟩
  | .hbm, ⟨11, _⟩ => ⟨S1024x1, .f32⟩
  | .hbm, ⟨12, _⟩ => ⟨S1024x1, .f32⟩
  | .hbm, ⟨13, _⟩ => ⟨S1024x1, .f32⟩
  | .hbm, ⟨14, _⟩ => ⟨S1024x1024, .f32⟩
  | .hbm, ⟨15, _⟩ => ⟨S1024x1024, .f32⟩
  | .hbm, ⟨16, _⟩ => ⟨S1024x1024, .f32⟩
  | .hbm, ⟨17, _⟩ => ⟨S1024x1024, .f32⟩
  | .hbm, ⟨18, _⟩ => ⟨S1024x1024, .bf16⟩
  | .hbm, ⟨19, _⟩ => ⟨S1024x1024, .f32⟩
  | .hbm, ⟨20, _⟩ => ⟨S1024x1024, .f32⟩
  | .hbm, ⟨21, _⟩ => ⟨S1024x1024, .bf16⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel20.lean ====
abbrev S1024x1024 : Shape := ⟨2, ![1024, 1024]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S1024x1024, .bf16⟩
  | .hbm, ⟨1, _⟩ => ⟨S1024x1024, .f32⟩
  | .hbm, ⟨2, _⟩ => ⟨S1024x1024, .bf16⟩
  | .local _ .vmem, ⟨0, _⟩ => ⟨S1024x1024, .bf16⟩
  | .local _ .vmem, ⟨1, _⟩ => ⟨S1024x512, .f32⟩
  | .local _ .vmem, ⟨2, _⟩ => ⟨S1024x512, .f32⟩
  | .local _ .vmem, ⟨3, _⟩ => ⟨S1024x512, .bf16⟩
  | .local _ .vmem, ⟨4, _⟩ => ⟨S1024x512, .bf16⟩
  | .local _ .vmem, ⟨5, _⟩ => ⟨S1024x512, .f32⟩
  | _, _ => ⟨S1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def k0_cond2 (i : grid0.Coords) : BitVec 1 :=
  let arg1 : BitVec 32 := BitVec.ofNat 32 (i 1).val
  let c0_i32_8 : BitVec 32 := 0#32
  let v12 : BitVec 1 := Scalar.cmpi .eq arg1 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference20Ideal.lean ====
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S1024x1024, .f32⟩
  | .hbm, ⟨2, _⟩ => ⟨S_, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel23.lean ====
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 4
  | .vmem => 6
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .bf16⟩
  | .hbm, ⟨3, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1024x1024, .bf16⟩
  | .local _ .vmem, ⟨5, _⟩ => ⟨S1x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Reference23Ideal.lean ====
abbrev S1024x1024 : Shape := ⟨2, ![1024, 1024]⟩
abbrev S_ : Shape := ⟨0, ![]⟩
abbrev S1x1024 : Shape := ⟨2, ![1, 1024]⟩
abbrev S1024 : Shape := ⟨1, ![1024]⟩
abbrev S1024x1 : Shape := ⟨2, ![1024, 1]⟩

abbrev nBuf : Space → Nat
  | .hbm => 29
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .bf16⟩
  | .hbm, ⟨3, _⟩ => ⟨S_, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S_, .f32⟩
  | .hbm, ⟨9, _⟩ => ⟨S1x1024, .f32⟩
  | .hbm, ⟨10, _⟩ => ⟨S1024x1024, .f32⟩
  | .hbm, ⟨11, _⟩ => ⟨S_, .f32⟩
  | .hbm, ⟨12, _⟩ => ⟨S1024, .f32⟩
  | .hbm, ⟨13, _⟩ => ⟨S1024x1, .f32⟩
  | .hbm, ⟨14, _⟩ => ⟨S_, .f32⟩
  | .hbm, ⟨15, _⟩ => ⟨S1024x1, .f32⟩
  | .hbm, ⟨16, _⟩ => ⟨S1024x1, .f32⟩
  | .hbm, ⟨17, _⟩ => ⟨S_, .f32⟩
  | .hbm, ⟨18, _⟩ => ⟨S1024x1, .f32⟩
  | .hbm, ⟨19, _⟩ => ⟨S1024x1, .f32⟩
  | .hbm, ⟨20, _⟩ => ⟨S1024x1, .f32⟩
  | .hbm, ⟨21, _⟩ => ⟨S1024x1024, .f32⟩
  | .hbm, ⟨22, _⟩ => ⟨S1024x1024, .f32⟩
  | .hbm, ⟨23, _⟩ => ⟨S1024x1024, .f32⟩
  | .hbm, ⟨24, _⟩ => ⟨S1024x1024, .f32⟩
  | .hbm, ⟨25, _⟩ => ⟨S1024x1024, .f32⟩
  | .hbm, ⟨26, _⟩ => ⟨S_, .f32⟩
  | .hbm, ⟨27, _⟩ => ⟨S1024, .f32⟩
  | .hbm, ⟨28, _⟩ => ⟨S1x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]
-- ==== Kernel22.lean ====
abbrev S4x2048x512 : Shape := ⟨3, ![4, 2048, 512]⟩
abbrev S4x256x1024 : Shape := ⟨3, ![4, 256, 1024]⟩
abbrev S1x512x512 : Shape := ⟨3, ![1, 512, 512]⟩
abbrev S1x256x1024 : Shape := ⟨3, ![1, 256, 1024]⟩
abbrev S1x512x128 : Shape := ⟨3, ![1, 512, 128]⟩
abbrev S512x128 : Shape := ⟨2, ![512, 128]⟩
abbrev S1x256x128 : Shape := ⟨3, ![1, 256, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩

abbrev nBuf : Space → Nat
  | .hbm => 3
  | .vmem => 6
  | .smem => 0
  | _ => 0

abbrev bufTy : (tb : Table) → Fin (tcTables nBuf tb) → BufTy
  | .hbm, ⟨0, _⟩ => ⟨S4x2048x512, .bf16⟩
  | .hbm, ⟨1, _⟩ => ⟨S4x256x1024, .bf16⟩
  | .hbm, ⟨2, _⟩ => ⟨S4x2048x512, .bf16⟩
  | .local _ .vmem, ⟨0, _⟩ => ⟨S1x512x512, .bf16⟩
  | .local _ .vmem, ⟨1, _⟩ => ⟨S1x512x512, .bf16⟩
  | .local _ .vmem, ⟨2, _⟩ => ⟨S1x256x1024, .bf16⟩
  | .local _ .vmem, ⟨3, _⟩ => ⟨S1x256x1024, .bf16⟩
  | .local _ .vmem, ⟨4, _⟩ => ⟨S1x512x512, .bf16⟩
  | .local _ .vmem, ⟨5, _⟩ => ⟨S1x512x512, .bf16⟩
  | _, _ => ⟨S4x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Kernel22Ideal.lean ====
variable {F : FTy → Type} [FloatOps F] [Named F]
def κ : String → Option EReal := fun
  | "s" => some (((Real.sqrt 128)⁻¹ : ℝ) : EReal)
  | _ => none
-- ==== Reference22Ideal.lean ====
abbrev S4x2048x512 : Shape := ⟨3, ![4, 2048, 512]⟩
abbrev S4x256x1024 : Shape := ⟨3, ![4, 256, 1024]⟩
abbrev S4x256x512 : Shape := ⟨3, ![4, 256, 512]⟩
abbrev S4x2048x4x128 : Shape := ⟨4, ![4, 2048, 4, 128]⟩
abbrev S4x256x4x128 : Shape := ⟨4, ![4, 256, 4, 128]⟩
abbrev S4x4x2048x256 : Shape := ⟨4, ![4, 4, 2048, 256]⟩
abbrev S_ : Shape := ⟨0, ![]⟩
abbrev S4x4x2048 : Shape := ⟨3, ![4, 4, 2048]⟩
abbrev S4x4x2048x1 : Shape := ⟨4, ![4, 4, 2048, 1]⟩
abbrev S4x4x128x2048 : Shape := ⟨4, ![4, 4, 128, 2048]⟩

abbrev nBuf : Space → Nat
  | .hbm => 34
  | .vmem => 0
  | .smem => 0
  | _ => 0

abbrev bufTy : (tb : Table) → Fin (tcTables nBuf tb) → BufTy
  | .hbm, ⟨0, _⟩ => ⟨S4x2048x512, .bf16⟩
  | .hbm, ⟨1, _⟩ => ⟨S4x256x1024, .bf16⟩
  | .hbm, ⟨2, _⟩ => ⟨S4x2048x512, .f32⟩
  | .hbm, ⟨3, _⟩ => ⟨S4x256x1024, .f32⟩
  | .hbm, ⟨4, _⟩ => ⟨S4x256x512, .f32⟩
  | .hbm, ⟨5, _⟩ => ⟨S4x256x512, .f32⟩
  | .hbm, ⟨6, _⟩ => ⟨S4x2048x4x128, .f32⟩
  | .hbm, ⟨7, _⟩ => ⟨S4x256x4x128, .f32⟩
  | .hbm, ⟨8, _⟩ => ⟨S4x256x4x128, .f32⟩
  | .hbm, ⟨9, _⟩ => ⟨S4x4x2048x256, .f32⟩
  | .hbm, ⟨10, _⟩ => ⟨S_, .f32⟩
  | .hbm, ⟨11, _⟩ => ⟨S_, .f32⟩
  | .hbm, ⟨12, _⟩ => ⟨S4x4x2048x256, .f32⟩
  | .hbm, ⟨13, _⟩ => ⟨S4x4x2048x256, .f32⟩
  | .hbm, ⟨14, _⟩ => ⟨S_, .f32⟩
  | .hbm, ⟨15, _⟩ => ⟨S4x4x2048, .f32⟩
  | .hbm, ⟨16, _⟩ => ⟨S_, .f32⟩
  | .hbm, ⟨17, _⟩ => ⟨S4x4x2048, .f32⟩
  | .hbm, ⟨18, _⟩ => ⟨S4x4x2048, .f32⟩
  | .hbm, ⟨19, _⟩ => ⟨S4x4x2048x1, .f32⟩
  | .hbm, ⟨20, _⟩ => ⟨S4x4x2048x256, .f32⟩
  | .hbm, ⟨21, _⟩ => ⟨S4x4x2048x256, .f32⟩
  | .hbm, ⟨22, _⟩ => ⟨S4x4x2048x256, .f32⟩
  | .hbm, ⟨23, _⟩ => ⟨S_, .f32⟩
  | .hbm, ⟨24, _⟩ => ⟨S4x4x2048, .f32⟩
  | .hbm, ⟨25, _⟩ => ⟨S4x4x2048x1, .f32⟩
  | .hbm, ⟨26, _⟩ => ⟨S4x4x2048x256, .f32⟩
  | .hbm, ⟨27, _⟩ => ⟨S4x4x2048x256, .f32⟩
  | .hbm, ⟨28, _⟩ => ⟨S4x4x2048x256, .bf16⟩
  | .hbm, ⟨29, _⟩ => ⟨S4x4x2048x256, .f32⟩
  | .hbm, ⟨30, _⟩ => ⟨S4x4x128x2048, .f32⟩
  | .hbm, ⟨31, _⟩ => ⟨S4x2048x4x128, .f32⟩
  | .hbm, ⟨32, _⟩ => ⟨S4x2048x4x128, .bf16⟩
  | .hbm, ⟨33, _⟩ => ⟨S4x2048x512, .bf16⟩
  | _, _ => ⟨S4x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_2 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩

abbrev nD : Nat := 1
abbrev τ : Topo := Topo.v7x

variable {F : FTy → Type} [FloatOps F]
-- ==== Kernel18.lean ====
abbrev S8x352x1024 : Shape := ⟨3, ![8, 352, 1024]⟩
abbrev S352x1024 : Shape := ⟨2, ![352, 1024]⟩
abbrev S8x176x1024 : Shape := ⟨3, ![8, 176, 1024]⟩
abbrev S176x1024 : Shape := ⟨2, ![176, 1024]⟩
abbrev S1x176x1024 : Shape := ⟨3, ![1, 176, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x352x1024, .bf16⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S352x1024, .f32⟩
  | .hbm, ⟨5, _⟩ => ⟨S352x1024, .f32⟩
  | .hbm, ⟨6, _⟩ => ⟨S352x1024, .f32⟩
  | .hbm, ⟨7, _⟩ => ⟨S352x1024, .f32⟩
  | .local _ .vmem, ⟨0, _⟩ => ⟨S8x176x1024, .bf16⟩
  | .local _ .vmem, ⟨1, _⟩ => ⟨S8x176x1024, .bf16⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 2], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S8x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference18Ideal.lean ====
abbrev S8x352x1024 : Shape := ⟨3, ![8, 352, 1024]⟩
abbrev S352x1024 : Shape := ⟨2, ![352, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x352x1024, .bf16⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S8x352x1024, .f32⟩
  | .hbm, ⟨5, _⟩ => ⟨S_, .f32⟩
  | .hbm, ⟨6, _⟩ => ⟨S352x1024, .f32⟩
  | .hbm, ⟨7, _⟩ => ⟨S_, .f32⟩
  | .hbm, ⟨8, _⟩ => ⟨S352x1024, .f32⟩
  | .hbm, ⟨9, _⟩ => ⟨S352x1024, .f32⟩
  | .hbm, ⟨10, _⟩ => ⟨S_, .f32⟩
  | .hbm, ⟨11, _⟩ => ⟨S352x1024, .f32⟩
  | .hbm, ⟨12, _⟩ => ⟨S352x1024, .f32⟩
  | .hbm, ⟨13, _⟩ => ⟨S352x1024, .f32⟩
  | .hbm, ⟨14, _⟩ => ⟨S_, .f32⟩
  | .hbm, ⟨15, _⟩ => ⟨S352x1024, .f32⟩
  | .hbm, ⟨16, _⟩ => ⟨S352x1024, .f32⟩
  | .hbm, ⟨17, _⟩ => ⟨S352x1024, .f32⟩
  | .hbm, ⟨18, _⟩ => ⟨S_, .f32⟩
  | .hbm, ⟨19, _⟩ => ⟨S352x1024, .f32⟩
  | .hbm, ⟨20, _⟩ => ⟨S352x1024, .f32⟩
  | .hbm, ⟨21, _⟩ => ⟨S352x1024, .f32⟩
  | .hbm, ⟨22, _⟩ => ⟨S_, .f32⟩
  | .hbm, ⟨23, _⟩ => ⟨S352x1024, .f32⟩
  | .hbm, ⟨24, _⟩ => ⟨S352x1024, .f32⟩
  | .hbm, ⟨25, _⟩ => ⟨S_, .f32⟩
  | .hbm, ⟨26, _⟩ => ⟨S352x1024, .f32⟩
  | .hbm, ⟨27, _⟩ => ⟨S352x1024, .f32⟩
  | .hbm, ⟨28, _⟩ => ⟨S352x1024, .f32⟩
  | .hbm, ⟨29, _⟩ => ⟨S_, .f32⟩
  | .hbm, ⟨30, _⟩ => ⟨S352x1024, .f32⟩
  | .hbm, ⟨31, _⟩ => ⟨S352x1024, .f32⟩
  | .hbm, ⟨32, _⟩ => ⟨S352x1024, .f32⟩
  | .hbm, ⟨33, _⟩ => ⟨S_, .f32⟩
  | .hbm, ⟨34, _⟩ => ⟨S352x1024, .f32⟩
  | .hbm, ⟨35, _⟩ => ⟨S352x1024, .f32⟩
  | .hbm, ⟨36, _⟩ => ⟨S352x1024, .f32⟩
  | .hbm, ⟨37, _⟩ => ⟨S_, .f32⟩
  | .hbm, ⟨38, _⟩ => ⟨S352x1024, .f32⟩
  | .hbm, ⟨39, _⟩ => ⟨S352x1024, .f32⟩
  | _, _ => ⟨S8x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel19.lean ====
abbrev S8x704x512 : Shape := ⟨3, ![8, 704, 512]⟩
abbrev S704x1024 : Shape := ⟨2, ![704, 1024]⟩
abbrev S8x176x512 : Shape := ⟨3, ![8, 176, 512]⟩
abbrev S176x512 : Shape := ⟨2, ![176, 512]⟩
abbrev S1x176x512 : Shape := ⟨3, ![1, 176, 512]⟩

abbrev nBuf : Space → Nat
  | .hbm => 9
  | .vmem => 18
  | .smem => 0
  | _ => 0

abbrev bufTy : (tb : Table) → Fin (tcTables nBuf tb) → BufTy
  | .hbm, ⟨0, _⟩ => ⟨S8x704x512, .bf16⟩
  | .hbm, ⟨1, _⟩ => ⟨S8x704x512, .bf16⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .hbm, ⟨7, _⟩ => ⟨S704x1024, .f32⟩
  | .hbm, ⟨8, _⟩ => ⟨S704x1024, .f32⟩
  | .local _ .vmem, ⟨0, _⟩ => ⟨S8x176x512, .bf16⟩
  | .local _ .vmem, ⟨1, _⟩ => ⟨S8x176x512, .bf16⟩
  | .local _ .vmem, ⟨2, _⟩ => ⟨S8x176x512, .bf16⟩
  | .local _ .vmem, ⟨3, _⟩ => ⟨S8x176x512, .bf16⟩
  | .local _ .vmem, ⟨4, _⟩ => ⟨S176x512, .f32⟩
  | .local _ .vmem, ⟨5, _⟩ => ⟨S176x512, .f32⟩
  | .local _ .vmem, ⟨6, _⟩ => ⟨S176x512, .f32⟩
  | .local _ .vmem, ⟨7, _⟩ => ⟨S176x512, .f32⟩
  | .local _ .vmem, ⟨8, _⟩ => ⟨S176x512, .f32⟩
  | .local _ .vmem, ⟨9, _⟩ => ⟨S176x512, .f32⟩
  | .local _ .vmem, ⟨10, _⟩ => ⟨S176x512, .f32⟩
  | .local _ .vmem, ⟨11, _⟩ => ⟨S176x512, .f32⟩
  | .local _ .vmem, ⟨12, _⟩ => ⟨S176x512, .f32⟩
  | .local _ .vmem, ⟨13, _⟩ => ⟨S176x512, .f32⟩
  | .local _ .vmem, ⟨14, _⟩ => ⟨S176x512, .f32⟩
  | .local _ .vmem, ⟨15, _⟩ => ⟨S176x512, .f32⟩
  | .local _ .vmem, ⟨16, _⟩ => ⟨S176x512, .f32⟩
  | .local _ .vmem, ⟨17, _⟩ => ⟨S176x512, .f32⟩
  | _, _ => ⟨S8x704x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S8x176x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S8x176x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S176x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S176x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S176x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S176x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S176x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S176x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S176x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference19Ideal.lean ====
abbrev S8x704x512 : Shape := ⟨3, ![8, 704, 512]⟩
abbrev S704x1024 : Shape := ⟨2, ![704, 1024]⟩
abbrev S8x704x1024 : Shape := ⟨3, ![8, 704, 1024]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S8x704x512, .bf16⟩
  | .hbm, ⟨1, _⟩ => ⟨S8x704x512, .bf16⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S8x704x1024, .bf16⟩
  | .hbm, ⟨6, _⟩ => ⟨S8x704x1024, .f32⟩
  | .hbm, ⟨7, _⟩ => ⟨S_, .f32⟩
  | .hbm, ⟨8, _⟩ => ⟨S704x1024, .f32⟩
  | .hbm, ⟨9, _⟩ => ⟨S_, .f32⟩
  | .hbm, ⟨10, _⟩ => ⟨S704x1024, .f32⟩
  | .hbm, ⟨11, _⟩ => ⟨S704x1024, .f32⟩
  | .hbm, ⟨12, _⟩ => ⟨S_, .f32⟩
  | .hbm, ⟨13, _⟩ => ⟨S704x1024, .f32⟩
  | .hbm, ⟨14, _⟩ => ⟨S704x1024, .f32⟩
  | .hbm, ⟨15, _⟩ => ⟨S704x1024, .f32⟩
  | .hbm, ⟨16, _⟩ => ⟨S_, .f32⟩
  | .hbm, ⟨17, _⟩ => ⟨S704x1024, .f32⟩
  | .hbm, ⟨18, _⟩ => ⟨S704x1024, .f32⟩
  | .hbm, ⟨19, _⟩ => ⟨S704x1024, .f32⟩
  | .hbm, ⟨20, _⟩ => ⟨S_, .f32⟩
  | .hbm, ⟨21, _⟩ => ⟨S704x1024, .f32⟩
  | .hbm, ⟨22, _⟩ => ⟨S704x1024, .f32⟩
  | .hbm, ⟨23, _⟩ => ⟨S704x1024, .f32⟩
  | .hbm, ⟨24, _⟩ => ⟨S_, .f32⟩
  | .hbm, ⟨25, _⟩ => ⟨S704x1024, .f32⟩
  | .hbm, ⟨26, _⟩ => ⟨S704x1024, .f32⟩
  | .hbm, ⟨27, _⟩ => ⟨S_, .f32⟩
  | .hbm, ⟨28, _⟩ => ⟨S704x1024, .f32⟩
  | .hbm, ⟨29, _⟩ => ⟨S704x1024, .f32⟩
  | .hbm, ⟨30, _⟩ => ⟨S704x1024, .f32⟩
  | .hbm, ⟨31, _⟩ => ⟨S_, .f32⟩
  | .hbm, ⟨32, _⟩ => ⟨S704x1024, .f32⟩
  | .hbm, ⟨33, _⟩ => ⟨S704x1024, .f32⟩
  | .hbm, ⟨34, _⟩ => ⟨S704x1024, .f32⟩
  | .hbm, ⟨35, _⟩ => ⟨S_, .f32⟩
  | .hbm, ⟨36, _⟩ => ⟨S704x1024, .f32⟩
  | .hbm, ⟨37, _⟩ => ⟨S704x1024, .f32⟩
  | .hbm, ⟨38, _⟩ => ⟨S704x1024, .f32⟩
  | .hbm, ⟨39, _⟩ => ⟨S_, .f32⟩
  | .hbm, ⟨40, _⟩ => ⟨S704x1024, .f32⟩
  | .hbm, ⟨41, _⟩ => ⟨S704x1024, .f32⟩
  | _, _ => ⟨S8x704x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_8 : Ref sig .tc := ⟨.hbm, 39, rfl⟩
abbrev main_v25 : Ref sig .tc := ⟨.hbm, 40, rfl⟩
abbrev main_v26 : Ref sig .tc := ⟨.hbm, 41, rfl⟩

abbrev nD : Nat := 1
abbrev τ : Topo := Topo.v7x

variable {F : FTy → Type} [FloatOps F]
-- ==== Kernel24.lean ====
abbrev S8x704x1024 : Shape := ⟨3, ![8, 704, 1024]⟩
abbrev S704x1024 : Shape := ⟨2, ![704, 1024]⟩
abbrev S8x176x1024 : Shape := ⟨3, ![8, 176, 1024]⟩
abbrev S176x1024 : Shape := ⟨2, ![176, 1024]⟩
abbrev S1x176x1024 : Shape := ⟨3, ![1, 176, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x704x1024, .bf16⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .hbm, ⟨7, _⟩ => ⟨S704x1024, .f32⟩
  | .local _ .vmem, ⟨0, _⟩ => ⟨S8x176x1024, .bf16⟩
  | .local _ .vmem, ⟨1, _⟩ => ⟨S8x176x1024, .bf16⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | _, _ => ⟨S8x704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S8x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference24Ideal.lean ====
abbrev S8x704x1024 : Shape := ⟨3, ![8, 704, 1024]⟩
abbrev S704x1024 : Shape := ⟨2, ![704, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x704x1024, .bf16⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S8x704x1024, .f32⟩
  | .hbm, ⟨5, _⟩ => ⟨S_, .f32⟩
  | .hbm, ⟨6, _⟩ => ⟨S704x1024, .f32⟩
  | .hbm, ⟨7, _⟩ => ⟨S_, .f32⟩
  | .hbm, ⟨8, _⟩ => ⟨S704x1024, .f32⟩
  | .hbm, ⟨9, _⟩ => ⟨S704x1024, .f32⟩
  | .hbm, ⟨10, _⟩ => ⟨S_, .f32⟩
  | .hbm, ⟨11, _⟩ => ⟨S704x1024, .f32⟩
  | .hbm, ⟨12, _⟩ => ⟨S704x1024, .f32⟩
  | .hbm, ⟨13, _⟩ => ⟨S704x1024, .f32⟩
  | .hbm, ⟨14, _⟩ => ⟨S_, .f32⟩
  | .hbm, ⟨15, _⟩ => ⟨S704x1024, .f32⟩
  | .hbm, ⟨16, _⟩ => ⟨S704x1024, .f32⟩
  | .hbm, ⟨17, _⟩ => ⟨S704x1024, .f32⟩
  | .hbm, ⟨18, _⟩ => ⟨S_, .f32⟩
  | .hbm, ⟨19, _⟩ => ⟨S704x1024, .f32⟩
  | .hbm, ⟨20, _⟩ => ⟨S704x1024, .f32⟩
  | .hbm, ⟨21, _⟩ => ⟨S704x1024, .f32⟩
  | .hbm, ⟨22, _⟩ => ⟨S_, .f32⟩
  | .hbm, ⟨23, _⟩ => ⟨S704x1024, .f32⟩
  | .hbm, ⟨24, _⟩ => ⟨S704x1024, .f32⟩
  | .hbm, ⟨25, _⟩ => ⟨S_, .f32⟩
  | .hbm, ⟨26, _⟩ => ⟨S704x1024, .f32⟩
  | .hbm, ⟨27, _⟩ => ⟨S704x1024, .f32⟩
  | .hbm, ⟨28, _⟩ => ⟨S704x1024, .f32⟩
  | .hbm, ⟨29, _⟩ => ⟨S_, .f32⟩
  | .hbm, ⟨30, _⟩ => ⟨S704x1024, .f32⟩
  | .hbm, ⟨31, _⟩ => ⟨S704x1024, .f32⟩
  | .hbm, ⟨32, _⟩ => ⟨S704x1024, .f32⟩
  | .hbm, ⟨33, _⟩ => ⟨S_, .f32⟩
  | .hbm, ⟨34, _⟩ => ⟨S704x1024, .f32⟩
  | .hbm, ⟨35, _⟩ => ⟨S704x1024, .f32⟩
  | .hbm, ⟨36, _⟩ => ⟨S704x1024, .f32⟩
  | .hbm, ⟨37, _⟩ => ⟨S_, .f32⟩
  | .hbm, ⟨38, _⟩ => ⟨S704x1024, .f32⟩
  | .hbm, ⟨39, _⟩ => ⟨S704x1024, .f32⟩
  | _, _ => ⟨S8x704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel25.lean ====
abbrev S8x1024x768 : Shape := ⟨3, ![8, 1024, 768]⟩
abbrev S1024x768 : Shape := ⟨2, ![1024, 768]⟩
abbrev S8x256x768 : Shape := ⟨3, ![8, 256, 768]⟩
abbrev S256x768 : Shape := ⟨2, ![256, 768]⟩
abbrev S1x256x768 : Shape := ⟨3, ![1, 256, 768]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x768, .bf16⟩
  | .hbm, ⟨1, _⟩ => ⟨S1024x768, .f32⟩
  | .hbm, ⟨2, _⟩ => ⟨S1024x768, .f32⟩
  | .hbm, ⟨3, _⟩ => ⟨S1024x768, .f32⟩
  | .hbm, ⟨4, _⟩ => ⟨S1024x768, .f32⟩
  | .hbm, ⟨5, _⟩ => ⟨S1024x768, .f32⟩
  | .hbm, ⟨6, _⟩ => ⟨S1024x768, .f32⟩
  | .hbm, ⟨7, _⟩ => ⟨S1024x768, .f32⟩
  | .local _ .vmem, ⟨0, _⟩ => ⟨S8x256x768, .bf16⟩
  | .local _ .vmem, ⟨1, _⟩ => ⟨S8x256x768, .bf16⟩
  | .local _ .vmem, ⟨2, _⟩ => ⟨S256x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S256x768, .f32⟩
  | .local _ .vmem, ⟨7, _⟩ => ⟨S256x768, .f32⟩
  | .local _ .vmem, ⟨8, _⟩ => ⟨S256x768, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | .local _ .vmem, ⟨14, _⟩ => ⟨S256x768, .f32⟩
  | .local _ .vmem, ⟨15, _⟩ => ⟨S256x768, .f32⟩
  | _, _ => ⟨S8x1024x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S8x256x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference25Ideal.lean ====
abbrev S8x1024x768 : Shape := ⟨3, ![8, 1024, 768]⟩
abbrev S1024x768 : Shape := ⟨2, ![1024, 768]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x1024x768, .bf16⟩
  | .hbm, ⟨1, _⟩ => ⟨S1024x768, .f32⟩
  | .hbm, ⟨2, _⟩ => ⟨S1024x768, .f32⟩
  | .hbm, ⟨3, _⟩ => ⟨S1024x768, .f32⟩
  | .hbm, ⟨4, _⟩ => ⟨S8x1024x768, .f32⟩
  | .hbm, ⟨5, _⟩ => ⟨S_, .f32⟩
  | .hbm, ⟨6, _⟩ => ⟨S1024x768, .f32⟩
  | .hbm, ⟨7, _⟩ => ⟨S_, .f32⟩
  | .hbm, ⟨8, _⟩ => ⟨S1024x768, .f32⟩
  | .hbm, ⟨9, _⟩ => ⟨S1024x768, .f32⟩
  | .hbm, ⟨10, _⟩ => ⟨S_, .f32⟩
  | .hbm, ⟨11, _⟩ => ⟨S1024x768, .f32⟩
  | .hbm, ⟨12, _⟩ => ⟨S1024x768, .f32⟩
  | .hbm, ⟨13, _⟩ => ⟨S1024x768, .f32⟩
  | .hbm, ⟨14, _⟩ => ⟨S_, .f32⟩
  | .hbm, ⟨15, _⟩ => ⟨S1024x768, .f32⟩
  | .hbm, ⟨16, _⟩ => ⟨S1024x768, .f32⟩
  | .hbm, ⟨17, _⟩ => ⟨S1024x768, .f32⟩
  | .hbm, ⟨18, _⟩ => ⟨S_, .f32⟩
  | .hbm, ⟨19, _⟩ => ⟨S1024x768, .f32⟩
  | .hbm, ⟨20, _⟩ => ⟨S1024x768, .f32⟩
  | .hbm, ⟨21, _⟩ => ⟨S1024x768, .f32⟩
  | .hbm, ⟨22, _⟩ => ⟨S_, .f32⟩
  | .hbm, ⟨23, _⟩ => ⟨S1024x768, .f32⟩
  | .hbm, ⟨24, _⟩ => ⟨S1024x768, .f32⟩
  | .hbm, ⟨25, _⟩ => ⟨S_, .f32⟩
  | .hbm, ⟨26, _⟩ => ⟨S1024x768, .f32⟩
  | .hbm, ⟨27, _⟩ => ⟨S1024x768, .f32⟩
  | .hbm, ⟨28, _⟩ => ⟨S1024x768, .f32⟩
  | .hbm, ⟨29, _⟩ => ⟨S_, .f32⟩
  | .hbm, ⟨30, _⟩ => ⟨S1024x768, .f32⟩
  | .hbm, ⟨31, _⟩ => ⟨S1024x768, .f32⟩
  | .hbm, ⟨32, _⟩ => ⟨S1024x768, .f32⟩
  | .hbm, ⟨33, _⟩ => ⟨S_, .f32⟩
  | .hbm, ⟨34, _⟩ => ⟨S1024x768, .f32⟩
  | .hbm, ⟨35, _⟩ => ⟨S1024x768, .f32⟩
  | .hbm, ⟨36, _⟩ => ⟨S1024x768, .f32⟩
  | .hbm, ⟨37, _⟩ => ⟨S_, .f32⟩
  | .hbm, ⟨38, _⟩ => ⟨S1024x768, .f32⟩
  | .hbm, ⟨39, _⟩ => ⟨S1024x768, .f32⟩
  | _, _ => ⟨S8x1024x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel26.lean ====
abbrev S8x512x128 : Shape := ⟨3, ![8, 512, 128]⟩
abbrev S512x128 : Shape := ⟨2, ![512, 128]⟩
abbrev S8x256x128 : Shape := ⟨3, ![8, 256, 128]⟩
abbrev S256x128 : Shape := ⟨2, ![256, 128]⟩
abbrev S1x256x128 : Shape := ⟨3, ![1, 256, 128]⟩

abbrev nBuf : Space → Nat
  | .hbm => 8
  | .vmem => 16
  | .smem => 0
  | _ => 0

abbrev bufTy : (tb : Table) → Fin (tcTables nBuf tb) → BufTy
  | .hbm, ⟨0, _⟩ => ⟨S8x512x128, .bf16⟩
  | .hbm, ⟨1, _⟩ => ⟨S512x128, .f32⟩
  | .hbm, ⟨2, _⟩ => ⟨S512x128, .f32⟩
  | .hbm, ⟨3, _⟩ => ⟨S512x128, .f32⟩
  | .hbm, ⟨4, _⟩ => ⟨S512x128, .f32⟩
  | .hbm, ⟨5, _⟩ => ⟨S512x128, .f32⟩
  | .hbm, ⟨6, _⟩ => ⟨S512x128, .f32⟩
  | .hbm, ⟨7, _⟩ => ⟨S512x128, .f32⟩
  | .local _ .vmem, ⟨0, _⟩ => ⟨S8x256x128, .bf16⟩
  | .local _ .vmem, ⟨1, _⟩ => ⟨S8x256x128, .bf16⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | _, _ => ⟨S8x512x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 2], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S8x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference26Ideal.lean ====
abbrev S8x512x128 : Shape := ⟨3, ![8, 512, 128]⟩
abbrev S512x128 : Shape := ⟨2, ![512, 128]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x512x128, .bf16⟩
  | .hbm, ⟨1, _⟩ => ⟨S512x128, .f32⟩
  | .hbm, ⟨2, _⟩ => ⟨S512x128, .f32⟩
  | .hbm, ⟨3, _⟩ => ⟨S512x128, .f32⟩
  | .hbm, ⟨4, _⟩ => ⟨S8x512x128, .f32⟩
  | .hbm, ⟨5, _⟩ => ⟨S_, .f32⟩
  | .hbm, ⟨6, _⟩ => ⟨S512x128, .f32⟩
  | .hbm, ⟨7, _⟩ => ⟨S_, .f32⟩
  | .hbm, ⟨8, _⟩ => ⟨S512x128, .f32⟩
  | .hbm, ⟨9, _⟩ => ⟨S512x128, .f32⟩
  | .hbm, ⟨10, _⟩ => ⟨S_, .f32⟩
  | .hbm, ⟨11, _⟩ => ⟨S512x128, .f32⟩
  | .hbm, ⟨12, _⟩ => ⟨S512x128, .f32⟩
  | .hbm, ⟨13, _⟩ => ⟨S512x128, .f32⟩
  | .hbm, ⟨14, _⟩ => ⟨S_, .f32⟩
  | .hbm, ⟨15, _⟩ => ⟨S512x128, .f32⟩
  | .hbm, ⟨16, _⟩ => ⟨S512x128, .f32⟩
  | .hbm, ⟨17, _⟩ => ⟨S512x128, .f32⟩
  | .hbm, ⟨18, _⟩ => ⟨S_, .f32⟩
  | .hbm, ⟨19, _⟩ => ⟨S512x128, .f32⟩
  | .hbm, ⟨20, _⟩ => ⟨S512x128, .f32⟩
  | .hbm, ⟨21, _⟩ => ⟨S512x128, .f32⟩
  | .hbm, ⟨22, _⟩ => ⟨S_, .f32⟩
  | .hbm, ⟨23, _⟩ => ⟨S512x128, .f32⟩
  | .hbm, ⟨24, _⟩ => ⟨S512x128, .f32⟩
  | .hbm, ⟨25, _⟩ => ⟨S_, .f32⟩
  | .hbm, ⟨26, _⟩ => ⟨S512x128, .f32⟩
  | .hbm, ⟨27, _⟩ => ⟨S512x128, .f32⟩
  | .hbm, ⟨28, _⟩ => ⟨S512x128, .f32⟩
  | .hbm, ⟨29, _⟩ => ⟨S_, .f32⟩
  | .hbm, ⟨30, _⟩ => ⟨S512x128, .f32⟩
  | .hbm, ⟨31, _⟩ => ⟨S512x128, .f32⟩
  | .hbm, ⟨32, _⟩ => ⟨S512x128, .f32⟩
  | .hbm, ⟨33, _⟩ => ⟨S_, .f32⟩
  | .hbm, ⟨34, _⟩ => ⟨S512x128, .f32⟩
  | .hbm, ⟨35, _⟩ => ⟨S512x128, .f32⟩
  | .hbm, ⟨36, _⟩ => ⟨S512x128, .f32⟩
  | .hbm, ⟨37, _⟩ => ⟨S_, .f32⟩
  | .hbm, ⟨38, _⟩ => ⟨S512x128, .f32⟩
  | .hbm, ⟨39, _⟩ => ⟨S512x128, .f32⟩
  | _, _ => ⟨S8x512x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel27.lean ====
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .local _ .vmem, ⟨0, _⟩ => ⟨S8x128x1024, .bf16⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Reference27Ideal.lean ====
abbrev S8x128x1024 : Shape := ⟨3, ![8, 128, 1024]⟩
abbrev S128x1024 : Shape := ⟨2, ![128, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S8x128x1024, .f32⟩
  | .hbm, ⟨5, _⟩ => ⟨S_, .f32⟩
  | .hbm, ⟨6, _⟩ => ⟨S128x1024, .f32⟩
  | .hbm, ⟨7, _⟩ => ⟨S_, .f32⟩
  | .hbm, ⟨8, _⟩ => ⟨S128x1024, .f32⟩
  | .hbm, ⟨9, _⟩ => ⟨S128x1024, .f32⟩
  | .hbm, ⟨10, _⟩ => ⟨S_, .f32⟩
  | .hbm, ⟨11, _⟩ => ⟨S128x1024, .f32⟩
  | .hbm, ⟨12, _⟩ => ⟨S128x1024, .f32⟩
  | .hbm, ⟨13, _⟩ => ⟨S128x1024, .f32⟩
  | .hbm, ⟨14, _⟩ => ⟨S_, .f32⟩
  | .hbm, ⟨15, _⟩ => ⟨S128x1024, .f32⟩
  | .hbm, ⟨16, _⟩ => ⟨S128x1024, .f32⟩
  | .hbm, ⟨17, _⟩ => ⟨S128x1024, .f32⟩
  | .hbm, ⟨18, _⟩ => ⟨S_, .f32⟩
  | .hbm, ⟨19, _⟩ => ⟨S128x1024, .f32⟩
  | .hbm, ⟨20, _⟩ => ⟨S128x1024, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S_, .f32⟩
  | .hbm, ⟨26, _⟩ => ⟨S128x1024, .f32⟩
  | .hbm, ⟨27, _⟩ => ⟨S128x1024, .f32⟩
  | .hbm, ⟨28, _⟩ => ⟨S128x1024, .f32⟩
  | .hbm, ⟨29, _⟩ => ⟨S_, .f32⟩
  | .hbm, ⟨30, _⟩ => ⟨S128x1024, .f32⟩
  | .hbm, ⟨31, _⟩ => ⟨S128x1024, .f32⟩
  | .hbm, ⟨32, _⟩ => ⟨S128x1024, .f32⟩
  | .hbm, ⟨33, _⟩ => ⟨S_, .f32⟩
  | .hbm, ⟨34, _⟩ => ⟨S128x1024, .f32⟩
  | .hbm, ⟨35, _⟩ => ⟨S128x1024, .f32⟩
  | .hbm, ⟨36, _⟩ => ⟨S128x1024, .f32⟩
  | .hbm, ⟨37, _⟩ => ⟨S_, .f32⟩
  | .hbm, ⟨38, _⟩ => ⟨S128x1024, .f32⟩
  | .hbm, ⟨39, _⟩ => ⟨S128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Proof.Rows.lean ====
/-
  One row of the memory attention and of its gradient, on the extended reals.

  A row is one token of one head: its query `q`, the incoming gradient `g` of its output, and the memory's keys `K` and
  values `V` of that head. The kernel normalises first, `p = e · (1/l)`, and takes the softmax's derivative as
  `p · (dp − Σ p · dp)`. The derivative of the forward lines divides last: `(dp/l − Σ dp · (1/l²) · e) · e`. With a
  finite query and finite keys the exponentials `e` and their sum `l` are positive reals, and multiplying by a positive
  real distributes over every sum of extended reals, so the two agree whatever `g` and `V` hold.
-/
module

public import Idealize.ShloMosaic.PureOps.Ideal
public import Idealize.ShloMosaic.PureOps.Ideal.Laws

@[expose] public section

noncomputable section

open Idealize.ShloMosaic

namespace Cert.Memory

/-- The scale of the scores: one over the root of the head's width. -/
def scale : EReal := (((Real.sqrt 128)⁻¹ : ℝ) : EReal)

/-- The scaled score of a query against memory slot `m`. -/
def score (q : Fin 128 → EReal) (K : Fin 256 → Fin 128 → EReal) (m : Fin 256) : EReal := (∑ d, q d * K m d) * scale

/-- The largest score of the row. -/
def top (q : Fin 128 → EReal) (K : Fin 256 → Fin 128 → EReal) : EReal := Finset.univ.fold max ⊥ (score q K)

/-- The shifted exponential of a score. -/
def ex (q : Fin 128 → EReal) (K : Fin 256 → Fin 128 → EReal) (m : Fin 256) : EReal := Ideal.exp (score q K m - top q K)

/-- The sum of the row's exponentials. -/
def den (q : Fin 128 → EReal) (K : Fin 256 → Fin 128 → EReal) : EReal := ∑ m, ex q K m

/-- The kernel's probability: the exponential times the sum's reciprocal. -/
def prob (q : Fin 128 → EReal) (K : Fin 256 → Fin 128 → EReal) (m : Fin 256) : EReal := ex q K m * Ideal.div 1 (den q K)

/-- The gradient of the probability of slot `m`. -/
def dprob (g : Fin 128 → EReal) (V : Fin 256 → Fin 128 → EReal) (m : Fin 256) : EReal := ∑ d, g d * V m d

/-- The kernel's gradient of the unscaled score of slot `m`. -/
def dscore (q : Fin 128 → EReal) (K V : Fin 256 → Fin 128 → EReal) (g : Fin 128 → EReal) (m : Fin 256) : EReal :=
  prob q K m * (dprob g V m - ∑ n, prob q K n * dprob g V n) * scale

/-- The same gradient as the derivative of the forward lines writes it. -/
def dscoreRef (q : Fin 128 → EReal) (K V : Fin 256 → Fin 128 → EReal) (g : Fin 128 → EReal) (m : Fin 256) : EReal :=
  (Ideal.div (dprob g V m) (den q K) + -(∑ n, dprob g V n * Ideal.div 1 (den q K * den q K) * ex q K n)) * ex q K m * scale

variable {q : Fin 128 → EReal} {K V : Fin 256 → Fin 128 → EReal} {g : Fin 128 → EReal}

/-- A finite sum of coerced reals is the coerced sum. -/
theorem sum_coe {ι : Type} (s : Finset ι) (f : ι → ℝ) : ∑ i ∈ s, ((f i : ℝ) : EReal) = ((∑ i ∈ s, f i : ℝ) : EReal) := by
  classical
  induction s using Finset.induction_on with
  | empty => simp
  | insert a s h ih => rw [Finset.sum_insert h, Finset.sum_insert h, ih, EReal.coe_add]

/-- The maximum of reals over a nonempty finite set, taken from `⊥`, is a real. -/
theorem fold_max_real {ι : Type} (s : Finset ι) (hs : s.Nonempty) (f : ι → ℝ) :
    ∃ r : ℝ, s.fold max (⊥ : EReal) (fun i => ((f i : ℝ) : EReal)) = r := by
  classical
  induction hs using Finset.Nonempty.cons_induction with
  | singleton a => exact ⟨f a, by simp⟩
  | cons a s h hs ih =>
    obtain ⟨r, hr⟩ := ih
    exact ⟨max (f a) r, by rw [Finset.cons_eq_insert, Finset.fold_insert h, hr]; exact (EReal.coe_strictMono.monotone.map_max).symm⟩

/-- Multiplying by a nonnegative real distributes over a finite sum. -/
theorem mul_sum_of_real {ι : Type} (s : Finset ι) (c : ℝ) (hc : 0 ≤ c) (f : ι → EReal) :
    (c : EReal) * ∑ i ∈ s, f i = ∑ i ∈ s, (c : EReal) * f i := by
  classical
  induction s using Finset.induction_on with
  | empty => simp
  | insert a s h ih =>
    rw [Finset.sum_insert h, Finset.sum_insert h, EReal.left_distrib_of_nonneg_of_ne_top (by exact_mod_cast hc) (EReal.coe_ne_top c), ih]

theorem score_real (hq : ∀ d, ∃ r : ℝ, q d = r) (hK : ∀ m d, ∃ r : ℝ, K m d = r) : ∃ f : Fin 256 → ℝ, ∀ m, score q K m = f m := by
  choose fq hfq using hq
  choose fK hfK using hK
  refine ⟨fun m => (∑ d, fq d * fK m d) * (Real.sqrt 128)⁻¹, fun m => ?_⟩
  unfold score scale
  simp only [hfq, hfK, ← EReal.coe_mul, sum_coe]

/-- With finite scores the exponentials are positive reals. -/
theorem ex_real (hq : ∀ d, ∃ r : ℝ, q d = r) (hK : ∀ m d, ∃ r : ℝ, K m d = r) :
    ∃ e : Fin 256 → ℝ, (∀ m, 0 < e m) ∧ ∀ m, ex q K m = e m := by
  obtain ⟨f, hf⟩ := score_real hq hK
  obtain ⟨r, hr⟩ := fold_max_real (Finset.univ : Finset (Fin 256)) ⟨0, Finset.mem_univ _⟩ f
  refine ⟨fun m => Real.exp (f m - r), fun m => Real.exp_pos _, fun m => ?_⟩
  have ht : top q K = r := by
    unfold top
    rw [← hr]
    exact Finset.fold_congr fun m _ => hf m
  unfold ex
  rw [ht, hf, ← EReal.coe_sub, Ideal.exp_coe]

theorem den_real {e : Fin 256 → ℝ} (he : ∀ m, 0 < e m) (h : ∀ m, ex q K m = e m) :
    den q K = ((∑ m, e m : ℝ) : EReal) ∧ 0 < ∑ m, e m := by
  refine ⟨?_, Finset.sum_pos (fun m _ => he m) ⟨0, Finset.mem_univ _⟩⟩
  unfold den
  simp only [h, sum_coe]

/-- Both forms of the probability agree. -/
theorem prob_eq (hq : ∀ d, ∃ r : ℝ, q d = r) (hK : ∀ m d, ∃ r : ℝ, K m d = r) (m : Fin 256) :
    Ideal.div (ex q K m) (den q K) = prob q K m := by
  obtain ⟨e, he, h⟩ := ex_real hq hK
  obtain ⟨hl, hpos⟩ := den_real he h
  unfold prob
  rw [hl, Ideal.div_coe hpos.ne', Ideal.div_coe hpos.ne', one_mul]

/-- Both forms of the score's gradient agree. -/
theorem dscore_eq (hq : ∀ d, ∃ r : ℝ, q d = r) (hK : ∀ m d, ∃ r : ℝ, K m d = r) (m : Fin 256) :
    dscoreRef q K V g m = dscore q K V g m := by
  obtain ⟨e, he, h⟩ := ex_real hq hK
  obtain ⟨hl, hpos⟩ := den_real he h
  unfold dscoreRef dscore prob
  generalize dprob g V = dp
  simp only [h, hl]
  generalize hL : (∑ m, e m : ℝ) = L at hpos
  have hc : (0 : ℝ) ≤ 1 / L := by positivity
  have hsum : ∑ n, dp n * Ideal.div 1 ((L : EReal) * L) * (e n : EReal)
      = ((1 / L : ℝ) : EReal) * ∑ n, (e n : EReal) * Ideal.div 1 (L : EReal) * dp n := by
    rw [mul_sum_of_real _ _ hc]
    refine Finset.sum_congr rfl fun n _ => ?_
    rw [← EReal.coe_mul, Ideal.div_coe (mul_pos hpos hpos).ne', Ideal.div_coe hpos.ne', one_mul, one_mul,
      show (1 / (L * L) : ℝ) = 1 / L * (1 / L) by field_simp, EReal.coe_mul]
    ac_rfl
  rw [hsum, Ideal.div_coe hpos.ne', Ideal.div_coe hpos.ne', one_mul]
  generalize ∑ n, (e n : EReal) * ((1 / L : ℝ) : EReal) * dp n = S
  rw [mul_comm (dp m), ← mul_neg, ← EReal.left_distrib_of_nonneg_of_ne_top (by exact_mod_cast hc) (EReal.coe_ne_top _),
    sub_eq_add_neg]
  ac_rfl

/-! ## A token's four heads

A token's query holds its four heads one after another, 128 columns each; a memory slot's row holds the four heads' keys
and then the four heads' values. -/

/-- Head `h` of a token's row. -/
def cut (Q : Fin 512 → EReal) (h : Fin 4) (d : Fin 128) : EReal := Q ⟨128 * h.val + d.val, by omega⟩

/-- Head `h`'s keys. -/
def keys (KV : Fin 256 → Fin 1024 → EReal) (h : Fin 4) (m : Fin 256) (d : Fin 128) : EReal := KV m ⟨128 * h.val + d.val, by omega⟩

/-- Head `h`'s values. -/
def vals (KV : Fin 256 → Fin 1024 → EReal) (h : Fin 4) (m : Fin 256) (d : Fin 128) : EReal := KV m ⟨512 + (128 * h.val + d.val), by omega⟩

/-- The token's gradient of the scores of head `h`. -/
def ds (Q G : Fin 512 → EReal) (KV : Fin 256 → Fin 1024 → EReal) (h : Fin 4) (m : Fin 256) : EReal :=
  dscore (cut Q h) (keys KV h) (vals KV h) (cut G h) m

/-- The gradient of column `c` of the token's query. -/
def dqTok (Q G : Fin 512 → EReal) (KV : Fin 256 → Fin 1024 → EReal) (c : Fin 512) : EReal :=
  ∑ m, ds Q G KV ⟨c.val / 128, by omega⟩ m * KV m ⟨c.val, by omega⟩

/-- What the token adds to the gradient of column `c` of memory slot `m`: a key's column or a value's. -/
def dkvTok (Q G : Fin 512 → EReal) (KV : Fin 256 → Fin 1024 → EReal) (m : Fin 256) (c : Fin 1024) : EReal :=
  if h : c.val < 512 then ds Q G KV ⟨c.val / 128, by omega⟩ m * Q ⟨c.val, h⟩
  else prob (cut Q ⟨(c.val - 512) / 128, by omega⟩) (keys KV ⟨(c.val - 512) / 128, by omega⟩) m * G ⟨c.val - 512, by omega⟩

theorem dqTok_at (Q G : Fin 512 → EReal) (KV : Fin 256 → Fin 1024 → EReal) (h : Fin 4) (d : Fin 128) (c : Fin 512)
    (hc : c.val = 128 * h.val + d.val) : dqTok Q G KV c = ∑ m, ds Q G KV h m * keys KV h m d := by
  obtain ⟨c, hlt⟩ := c
  change c = _ at hc
  subst hc
  have e : (⟨(128 * h.val + d.val) / 128, by omega⟩ : Fin 4) = h := Fin.ext (by show (128 * h.val + d.val) / 128 = h.val; omega)
  unfold dqTok keys
  simp only [e]

theorem dkvTok_key (Q G : Fin 512 → EReal) (KV : Fin 256 → Fin 1024 → EReal) (m : Fin 256) (h : Fin 4) (d : Fin 128) (c : Fin 1024)
    (hc : c.val = 128 * h.val + d.val) : dkvTok Q G KV m c = ds Q G KV h m * cut Q h d := by
  obtain ⟨c, hlt⟩ := c
  change c = _ at hc
  subst hc
  have e : (⟨(128 * h.val + d.val) / 128, by omega⟩ : Fin 4) = h := Fin.ext (by show (128 * h.val + d.val) / 128 = h.val; omega)
  unfold dkvTok cut
  rw [dif_pos (by show 128 * h.val + d.val < 512; omega)]
  simp only [e]

theorem dkvTok_val (Q G : Fin 512 → EReal) (KV : Fin 256 → Fin 1024 → EReal) (m : Fin 256) (h : Fin 4) (d : Fin 128) (c : Fin 1024)
    (hc : c.val = 512 + (128 * h.val + d.val)) : dkvTok Q G KV m c = prob (cut Q h) (keys KV h) m * cut G h d := by
  obtain ⟨c, hlt⟩ := c
  change c = _ at hc
  subst hc
  have e' : 512 + (128 * h.val + d.val) - 512 = 128 * h.val + d.val := by omega
  have e : (⟨(128 * h.val + d.val) / 128, by omega⟩ : Fin 4) = h := Fin.ext (by show (128 * h.val + d.val) / 128 = h.val; omega)
  unfold dkvTok
  rw [dif_neg (by show ¬512 + (128 * h.val + d.val) < 512; omega)]
  simp only [e', e]
  rfl

end Cert.Memory

end

end
-- ==== Proof.Words.lean ====
/-
  The values of the few float words the kernels and the references hold, and what the certificates share about the
  extended reals: real values are closed under the arithmetic, and a positive real distributes over every sum.
-/
module

public import Idealize.ShloMosaic.PureOps.Ideal
public import Idealize.ShloMosaic.PureOps.Ideal.Laws

@[expose] public section

noncomputable section

open Idealize.ShloMosaic

namespace Cert.Words

theorem ofBits_one : Ideal.ofBits .f32 0x3F800000#32 = 1 := by simp [Ideal.ofBits, Ideal.ieee, -EReal.coe_mul]; norm_num

theorem ofBits_bot : Ideal.ofBits .f32 0xFF800000#32 = ⊥ := by simp [Ideal.ofBits, Ideal.ieee]

theorem ofBits_top : Ideal.ofBits .f32 0x7F800000#32 = ⊤ := by simp [Ideal.ofBits, Ideal.ieee]

theorem zeroWord : Ideal.ofBits .f32 0x00000000#32 = 0 := Ideal.ofBits_zero_f32

theorem ofBits_half : Ideal.ofBits .f32 0x3F000000#32 = ((1 / 2 : ℝ) : EReal) := by
  simp [Ideal.ofBits, Ideal.ieee, -EReal.coe_mul]; norm_num

theorem ofBits_negHalf : Ideal.ofBits .f32 0xBF000000#32 = ((-(1 / 2) : ℝ) : EReal) := by
  simp [Ideal.ofBits, Ideal.ieee, -EReal.coe_mul]; norm_num

theorem ofBits_width : Ideal.ofBits .f32 0x44800000#32 = ((1024 : ℝ) : EReal) := by
  simp [Ideal.ofBits, Ideal.ieee, -EReal.coe_mul]; norm_num

/-- The small constant under the root is a positive real. -/
theorem ofBits_eps : ∃ e : ℝ, 0 < e ∧ Ideal.ofBits .f32 0x358637BD#32 = (e : EReal) := by
  refine ⟨8796093 / 2 ^ 43, by norm_num, ?_⟩
  simp [Ideal.ofBits, Ideal.ieee, -EReal.coe_mul]
  norm_num

/-- An extended real that is a real number. -/
def IsReal (x : EReal) : Prop := ∃ r : ℝ, x = r

theorem isReal_coe (r : ℝ) : IsReal r := ⟨r, rfl⟩
theorem isReal_zero : IsReal 0 := ⟨0, rfl⟩

theorem IsReal.add {x y : EReal} : IsReal x → IsReal y → IsReal (x + y) := by
  rintro ⟨a, rfl⟩ ⟨b, rfl⟩; exact ⟨a + b, (EReal.coe_add a b).symm⟩

theorem IsReal.mul {x y : EReal} : IsReal x → IsReal y → IsReal (x * y) := by
  rintro ⟨a, rfl⟩ ⟨b, rfl⟩; exact ⟨a * b, (EReal.coe_mul a b).symm⟩

theorem isReal_sum {ι : Type} (s : Finset ι) {f : ι → EReal} (h : ∀ i, IsReal (f i)) : IsReal (∑ i ∈ s, f i) := by
  classical
  induction s using Finset.induction_on with
  | empty => exact ⟨0, by simp⟩
  | insert a s ha ih => rw [Finset.sum_insert ha]; exact (h a).add ih

/-- An extended real whose magnitude is below `⊤` is a real number. -/
theorem isReal_of_abs_lt (x : EReal) (h : Ideal.cmp .olt (max x (-x)) (Ideal.ofBits .f32 0x7F800000#32) = 1#1) : IsReal x := by
  rw [ofBits_top] at h
  induction x with
  | bot => simp [Ideal.cmp] at h
  | top => simp [Ideal.cmp] at h
  | coe r => exact ⟨r, rfl⟩

/-- A positive real distributes over a sum of two extended reals. -/
theorem pos_mul_add {r : ℝ} (hr : 0 ≤ r) (x y : EReal) : (r : EReal) * (x + y) = r * x + r * y :=
  EReal.left_distrib_of_nonneg_of_ne_top (by exact_mod_cast hr) (EReal.coe_ne_top r) x y

/-- A positive real distributes over every finite sum. -/
theorem pos_mul_sum {ι : Type} (s : Finset ι) {r : ℝ} (hr : 0 ≤ r) (f : ι → EReal) : (r : EReal) * ∑ i ∈ s, f i = ∑ i ∈ s, r * f i := by
  classical
  induction s using Finset.induction_on with
  | empty => simp
  | insert a s ha ih => rw [Finset.sum_insert ha, Finset.sum_insert ha, pos_mul_add hr, ih]

end Cert.Words

end

end
-- ==== Proof.Heads.lean ====
/-
  One head of the kernel's body at the extended reals: its probabilities, its gradient of the scores, and the three
  products it stores. Every stage is read at one index and is a formula of `Rows.lean`; the four heads run the same
  formulas on other columns, so the statements are about the first head's payloads and the others are those payloads.
-/
module

public import proofs.«01_k».proof.Proof.Rows
public import proofs.«01_k».proof.Proof.Words
public import proofs.«01_k».proof.Proof.Gen.KernelIdeal.Skeleton
public import Idealize.ShloMosaic.Lib.Pipeline.Value
public import Idealize.ShloMosaic.Lib.MatmulPlain
public import Idealize.ShloMosaic.Lib.ValueLayout
public import Idealize.ShloMosaic.Lib.ValueLayoutCasts

@[expose] public section

noncomputable section

namespace Cert.KernelIdeal.Value

open Cert.KernelIdeal Cert.KernelIdeal.Gen Idealize.ShloMosaic Idealize.ShloMosaic.ValueIdx Cert.Memory Cert.Words

/-- The kernel's named scale is `1/√128`. -/
theorem named_scale : Named.named (F := Ideal) Cert.KernelIdeal.κ "s" (φ := .f32) 0x3DB504F3#32 = scale :=
  IdealRules.named_const.ideal_named_scalar _ _ _ _ rfl

/-- A column spread along the rows reads, at `(t, m)`, the column at `t`. -/
theorem spread_apply {α : Type} (x : S512x1.Idx → α) (t : Fin 512) (m : Fin 256) :
    broadcastTo S512x256 x broadcasts_S512x1_S512x256 (ix2 t m) = x (ix2 t 0) :=
  broadcastTo_apply x _ _ _ fun a => match a with
    | ⟨0, _⟩ => rfl
    | ⟨1, _⟩ => rfl

theorem lift_row (t : Fin 512) (n : Fin 256) : Shape.Reduces.lift reduces_S512x256_S512 (ix1 t) n = ix2 t n :=
  funext fun a => Fin.ext (match a with
    | ⟨0, _⟩ => rfl
    | ⟨1, _⟩ => rfl)

/-- A row's sum, kept as a column and spread back. -/
theorem rowSum_apply (x : FVec Ideal S512x256 .f32) (t : Fin 512) (u : Fin 1) :
    shapeCast S512x1 (multiReduction .add [1] S512 x 0x00000000#32 reduces_S512x256_S512 (.inl rfl) rfl) shapeCasts_S512_S512x1 (ix2 t u)
      = ∑ n : Fin 256, x (ix2 t n) := by
  rw [shapeCast_a_a1_apply]
  refine (Ideal.multiReduction_add_single x _ reduces_S512x256_S512 _ _ (ix1 t)).trans ?_
  exact Finset.sum_congr rfl fun n _ => congrArg x (lift_row t n)

/-- A row's maximum, kept as a column and spread back. -/
theorem rowMax_apply (x : FVec Ideal S512x256 .f32) (t : Fin 512) (u : Fin 1) :
    shapeCast S512x1 (multiReduction .maximumf [1] S512 x 0xFF800000#32 reduces_S512x256_S512 (.inl rfl) rfl) shapeCasts_S512_S512x1 (ix2 t u)
      = Finset.univ.fold max ⊥ fun n : Fin 256 => x (ix2 t n) := by
  rw [shapeCast_a_a1_apply]
  refine (Ideal.multiReduction_maximumf_single x _ reduces_S512x256_S512 _ _ (ix1 t)).trans ?_
  exact congrArg₂ (fun b f => Finset.univ.fold max b f) ofBits_bot (funext fun n => congrArg x (lift_row t n))

/-- Rows against rows: `[512, 128] · [256, 128]ᵀ`. -/
theorem matmul_nt (x : FVec Ideal S512x128 .bf16) (y : FVec Ideal S256x128 .bf16) (t : Fin 512) (m : Fin 256) :
    matmul dot_S512x128_S256x128_S512x256_1_1_0_0_n_n none x y (constant S512x256 .f32 0x00000000#32) (ix2 t m)
      = ∑ d : Fin 128, x (ix2 t d) * y (ix2 m d) := by
  rw [show dot_S512x128_S256x128_S512x256_1_1_0_0_n_n = DotDims.transposedRhs 512 128 256 from rfl]
  show FloatOps.matmul _ _ _ _ _ _ = _
  rw [Ideal.matmul_transposedRhs_apply]
  show Ideal.ofBits .f32 0x00000000#32 + _ = _
  rw [zeroWord, zero_add]

/-- Rows against columns: `[512, 256] · [256, 128]`. -/
theorem matmul_nn (x : FVec Ideal S512x256 .bf16) (y : FVec Ideal S256x128 .bf16) (t : Fin 512) (d : Fin 128) :
    matmul dot_S512x256_S256x128_S512x128_1_0_0_1_n_n none x y (constant S512x128 .f32 0x00000000#32) (ix2 t d)
      = ∑ m : Fin 256, x (ix2 t m) * y (ix2 m d) := by
  rw [show dot_S512x256_S256x128_S512x128_1_0_0_1_n_n = DotDims.plain 512 256 128 from rfl]
  show FloatOps.matmul _ _ _ _ _ _ = _
  rw [Ideal.matmul_plain_apply]
  show Ideal.ofBits .f32 0x00000000#32 + _ = _
  rw [zeroWord, zero_add]

/-- Columns against columns: `[512, 256]ᵀ · [512, 128]`. -/
theorem matmul_tn (x : FVec Ideal S512x256 .bf16) (y : FVec Ideal S512x128 .bf16) (m : Fin 256) (d : Fin 128) :
    matmul dot_S512x256_S512x128_S256x128_0_0_1_1_n_n none x y (constant S256x128 .f32 0x00000000#32) (ix2 m d)
      = ∑ t : Fin 512, x (ix2 t m) * y (ix2 t d) := by
  show FloatOps.matmul _ _ _ _ _ _ = _
  rw [Ideal.matmul_constant_zero_apply,
    ← Equiv.sum_comp (contrEquiv1 dot_S512x256_S512x128_S256x128_0_0_1_1_n_n 512 rfl rfl).symm]
  refine Finset.sum_congr rfl fun t _ => ?_
  have ht := contrEquiv1_symm_val dot_S512x256_S512x128_S256x128_0_0_1_1_n_n 512 rfl rfl t
  refine congrArg₂ (· * ·) (congrArg x (funext fun a => Fin.ext ?_)) (congrArg y (funext fun a => Fin.ext ?_))
  · match a with
    | ⟨0, _⟩ => exact ht
    | ⟨1, _⟩ => rfl
  · match a with
    | ⟨0, _⟩ => exact ht
    | ⟨1, _⟩ => rfl

/-- Row `t` of a one-block slab of 512 rows. -/
abbrev row {e : EltTy} (x : Vec Ideal S1x512x128 e) (t : Fin 512) (d : Fin 128) : Elt Ideal e := x (ix3 0 t d)

/-- The rows of a one-block slab of 256 rows. -/
abbrev mem {e : EltTy} (x : Vec Ideal S1x256x128 e) (m : Fin 256) (d : Fin 128) : Elt Ideal e := x (ix3 0 m d)

/-- The head's scores: its queries against its keys, scaled. -/
theorem scores_apply (x : Vec Ideal S1x512x128 .bf16) (k : Vec Ideal S1x256x128 .bf16) (w : Ideal .f32) (hw : w = scale) (t : Fin 512) (n : Fin 256) :
    (mulf (matmul dot_S512x128_S256x128_S512x256_1_1_0_0_n_n none (shapeCast S512x128 x shapeCasts_S1x512x128_S512x128 : FVec Ideal S512x128 .bf16)
        (shapeCast S256x128 k shapeCasts_S1x256x128_S256x128 : FVec Ideal S256x128 .bf16) (constant S512x256 .f32 0x00000000#32))
      (broadcast S512x256 w) : FVec Ideal S512x256 .f32) (ix2 t n) = score (row x t) (mem k) n := by
  subst hw
  show matmul _ _ _ _ _ _ * _ = _
  rw [matmul_nt]
  unfold score
  simp only [shapeCast_1ab_ab_apply]
  rfl

/-- The exponentials of scores less their row's maximum. -/
theorem exps_apply {q : Fin 128 → EReal} {K : Fin 256 → Fin 128 → EReal} (z : FVec Ideal S512x256 .f32) (t : Fin 512)
    (hs : ∀ n, z (ix2 t n) = score q K n) (n : Fin 256) :
    exp (subf z (broadcastTo S512x256 (shapeCast S512x1 (multiReduction .maximumf [1] S512 z 0xFF800000#32 reduces_S512x256_S512 (.inl rfl) rfl) shapeCasts_S512_S512x1) broadcasts_S512x1_S512x256)) (ix2 t n) = ex q K n := by
  show Ideal.exp (z (ix2 t n) - broadcastTo _ _ _ _) = _
  rw [spread_apply, rowMax_apply]
  unfold ex top
  rw [hs]
  exact congrArg (fun f => Ideal.exp (_ - Finset.univ.fold max ⊥ f)) (funext hs)

/-- The head's probabilities. -/
theorem pay7_apply (x : Vec Ideal S1x512x128 .bf16) (k : Vec Ideal S1x256x128 .bf16) (t : Fin 512) (m : Fin 256) :
    k0_pay7 (F := Ideal) x k (ix2 t m) = prob (row x t) (mem k) m := by
  have hs : ∀ n, mulf (matmul dot_S512x128_S256x128_S512x256_1_1_0_0_n_n none (k0_pay4 x) (k0_pay5 k) (constant S512x256 .f32 0x00000000#32))
      (broadcast S512x256 (Named.named κ "s" 0x3DB504F3#32)) (ix2 t n) = score (row x t) (mem k) n := scores_apply x k _ named_scale t
  unfold k0_pay7
  dsimp only
  generalize mulf (matmul dot_S512x128_S256x128_S512x256_1_1_0_0_n_n none (k0_pay4 x) (k0_pay5 k) (constant S512x256 .f32 0x00000000#32))
      (broadcast S512x256 (Named.named κ "s" 0x3DB504F3#32)) = z at hs ⊢
  have he := exps_apply z t hs
  generalize exp (subf z (broadcastTo S512x256 (shapeCast S512x1 (multiReduction .maximumf [1] S512 z 0xFF800000#32 reduces_S512x256_S512 (.inl rfl) rfl) shapeCasts_S512_S512x1) broadcasts_S512x1_S512x256)) = e at he ⊢
  show e (ix2 t m) * broadcastTo _ _ _ _ = _
  rw [spread_apply]
  show _ * Ideal.div (Ideal.ofBits .f32 0x3F800000#32) (shapeCast _ _ _ _) = _
  rw [rowSum_apply, ofBits_one, he]
  unfold prob den
  simp only [he]

/-- The head's gradient of the unscaled scores. -/
theorem pay8_apply (x : Vec Ideal S1x512x128 .bf16) (k v : Vec Ideal S1x256x128 .bf16) (g : Vec Ideal S1x512x128 .bf16) (t : Fin 512) (m : Fin 256) :
    k0_pay8 (F := Ideal) x k v g (ix2 t m) = dscore (row x t) (mem k) (mem v) (row g t) m := by
  have hp := pay7_apply x k t
  have hd : ∀ n, matmul dot_S512x128_S256x128_S512x256_1_1_0_0_n_n none (k0_pay6 g) (shapeCast S256x128 v shapeCasts_S1x256x128_S256x128)
      (constant S512x256 .f32 0x00000000#32) (ix2 t n) = dprob (row g t) (mem v) n := fun n => by
    rw [matmul_nt]
    unfold dprob k0_pay6
    simp only [shapeCast_1ab_ab_apply]
  unfold k0_pay8
  dsimp only
  generalize k0_pay7 x k = p at hp ⊢
  generalize matmul dot_S512x128_S256x128_S512x256_1_1_0_0_n_n none (k0_pay6 g) (shapeCast S256x128 v shapeCasts_S1x256x128_S256x128)
      (constant S512x256 .f32 0x00000000#32) = dp at hd ⊢
  show p (ix2 t m) * (dp (ix2 t m) - broadcastTo _ _ _ _) * Named.named κ "s" 0x3DB504F3#32 = _
  rw [spread_apply, rowSum_apply, named_scale, hp, hd]
  unfold dscore
  refine congrArg (fun z => _ * (_ - z) * _) (Finset.sum_congr rfl fun n _ => ?_)
  show p (ix2 t n) * dp (ix2 t n) = _
  rw [hp, hd]

/-- The gradient of the head's queries. -/
theorem pay9_apply (k : Vec Ideal S1x256x128 .bf16) (ds : FVec Ideal S512x256 .bf16) (t : Fin 512) (d : Fin 128) :
    k0_pay9 (F := Ideal) (k0_pay5 k) ds (ix3 0 t d) = ∑ m, ds (ix2 t m) * mem k m d := by
  unfold k0_pay9
  rw [shapeCast_ab_1ab_apply]
  refine (matmul_nn ds (k0_pay5 k) t d).trans ?_
  unfold k0_pay5
  simp only [shapeCast_1ab_ab_apply]

/-- The head's part of the keys' gradient, added to what the block held. -/
theorem pay10_apply (x : Vec Ideal S1x512x128 .bf16) (ds : FVec Ideal S512x256 .bf16) (o : Vec Ideal S1x256x128 .f32) (m : Fin 256) (d : Fin 128) :
    k0_pay10 (F := Ideal) (k0_pay4 x) ds o (ix3 0 m d) = mem o m d + ∑ t, ds (ix2 t m) * row x t d := by
  unfold k0_pay10
  rw [shapeCast_ab_1ab_apply]
  show shapeCast _ _ _ _ + matmul _ _ _ _ _ _ = _
  rw [matmul_tn, shapeCast_1ab_ab_apply]
  unfold k0_pay4
  simp only [shapeCast_1ab_ab_apply]

/-- The head's part of the values' gradient, added to what the block held. -/
theorem pay11_apply (g : Vec Ideal S1x512x128 .bf16) (p : FVec Ideal S512x256 .f32) (o : Vec Ideal S1x256x128 .f32) (m : Fin 256) (d : Fin 128) :
    k0_pay11 (F := Ideal) (k0_pay6 g) p o (ix3 0 m d) = mem o m d + ∑ t, p (ix2 t m) * row g t d := by
  unfold k0_pay11
  rw [shapeCast_ab_1ab_apply]
  show shapeCast _ _ _ _ + matmul _ _ _ _ _ _ = _
  rw [matmul_tn, shapeCast_1ab_ab_apply]
  unfold k0_pay6
  simp only [shapeCast_1ab_ab_apply]
  rfl

end Cert.KernelIdeal.Value

end

end
-- ==== Proof.Tile.lean ====
/-
  What one grid point of the kernel leaves in its two result blocks, as functions of its input blocks: the query gradient
  of its 512 tokens, and the memory's gradient with its tokens' part added to what the block held — to zeros at a batch
  entry's first point.
-/
module

public import proofs.«01_k».proof.Proof.Heads
public import proofs.«01_k».proof.Proof.Gen.KernelIdeal.Value
public import Idealize.ShloMosaic.Lib.Pipeline.ValueKit.Tiles
public import Idealize.ShloMosaic.Lib.Pipeline.ReadBack
public import Idealize.ShloMosaic.Lib.Tactic

@[expose] public section

noncomputable section

namespace Cert.KernelIdeal.Value

open Cert.KernelIdeal Cert.KernelIdeal.Gen Idealize.ShloMosaic Idealize.ShloMosaic.ValueIdx Idealize.ShloMosaic.TcCoe Idealize.SL.Sem Cert.Memory

/-- Token `t`'s row of a block of 512 tokens. -/
abbrev tok (x : S1x512x512.Idx → EReal) (t : Fin 512) (c : Fin 512) : EReal := x (ix3 0 t c)

/-- The memory's rows of one batch entry. -/
abbrev slots (x : S1x256x1024.Idx → EReal) (m : Fin 256) (c : Fin 1024) : EReal := x (ix3 0 m c)

/-- The query gradient's block. -/
def dqBlk (x : S1x512x512.Idx → EReal) (k : S1x256x1024.Idx → EReal) (g : S1x512x512.Idx → EReal) (y : S1x512x512.Idx) : EReal :=
  dqTok (tok x (y 1)) (tok g (y 1)) (slots k) (y 2)

/-- The memory gradient's block, the tokens' part added to `o`. -/
def dkvBlk (x : S1x512x512.Idx → EReal) (k : S1x256x1024.Idx → EReal) (g : S1x512x512.Idx → EReal) (o : S1x256x1024.Idx → EReal)
    (y : S1x256x1024.Idx) : EReal :=
  o y + ∑ t, dkvTok (tok x t) (tok g t) (slots k) (y 1) (y 2)

theorem ld_tok (x : S1x512x512.Idx → EReal) (o : ℕ)
    (inb : ∀ a, (![0, 0, o] : Fin 3 → ℕ) a + (![1, 512, 128] : Fin 3 → ℕ) a ≤ S1x512x512.size a) (h : Fin 4) (ho : o = 128 * h.val) (t : Fin 512) :
    row (e := .bf16) (View.ld (Val := Elt Ideal) (e' := .bf16) x (Rect.unit ![0, 0, o] ![1, 512, 128] inb)) t = cut (tok x t) h :=
  funext fun d => View.ld_unit_apply_of _ _ _ _ _ _ fun a => match a with
    | ⟨0, _⟩ => rfl
    | ⟨1, _⟩ => (Nat.zero_add _).symm
    | ⟨2, _⟩ => by subst ho; rfl

theorem ld_key (k : S1x256x1024.Idx → EReal) (o : ℕ)
    (inb : ∀ a, (![0, 0, o] : Fin 3 → ℕ) a + (![1, 256, 128] : Fin 3 → ℕ) a ≤ S1x256x1024.size a) (h : Fin 4) (ho : o = 128 * h.val) :
    mem (e := .bf16) (View.ld (Val := Elt Ideal) (e' := .bf16) k (Rect.unit ![0, 0, o] ![1, 256, 128] inb)) = keys (slots k) h :=
  funext fun m => funext fun d => View.ld_unit_apply_of _ _ _ _ _ _ fun a => match a with
    | ⟨0, _⟩ => rfl
    | ⟨1, _⟩ => (Nat.zero_add _).symm
    | ⟨2, _⟩ => by subst ho; rfl

theorem ld_val (k : S1x256x1024.Idx → EReal) (o : ℕ)
    (inb : ∀ a, (![0, 0, o] : Fin 3 → ℕ) a + (![1, 256, 128] : Fin 3 → ℕ) a ≤ S1x256x1024.size a) (h : Fin 4) (ho : o = 512 + 128 * h.val) :
    mem (e := .bf16) (View.ld (Val := Elt Ideal) (e' := .bf16) k (Rect.unit ![0, 0, o] ![1, 256, 128] inb)) = vals (slots k) h :=
  funext fun m => funext fun d => View.ld_unit_apply_of _ _ _ _ _ _ fun a => match a with
    | ⟨0, _⟩ => rfl
    | ⟨1, _⟩ => (Nat.zero_add _).symm
    | ⟨2, _⟩ => by subst ho; exact (Nat.add_assoc ..).symm

theorem emb_tok (o : ℕ) (inb) (u : Fin 1) (t : Fin 512) (d : Fin 128) (c : Fin 512) (hc : c.val = o + d.val) :
    (Rect.unit (s := S1x512x512) ![0, 0, o] ![1, 512, 128] inb).emb (ix3 u t d) = ix3 0 t c :=
  funext fun a => Fin.ext ((Rect.idx_unit_val _ _ _ _ a).trans (match a with
    | ⟨0, _⟩ => (Nat.zero_add _).trans (by show u.val = 0; omega)
    | ⟨1, _⟩ => Nat.zero_add _
    | ⟨2, _⟩ => hc.symm))

theorem emb_mem (o : ℕ) (inb) (u : Fin 1) (m : Fin 256) (d : Fin 128) (c : Fin 1024) (hc : c.val = o + d.val) :
    (Rect.unit (s := S1x256x1024) ![0, 0, o] ![1, 256, 128] inb).emb (ix3 u m d) = ix3 0 m c :=
  funext fun a => Fin.ext ((Rect.idx_unit_val _ _ _ _ a).trans (match a with
    | ⟨0, _⟩ => (Nat.zero_add _).trans (by show u.val = 0; omega)
    | ⟨1, _⟩ => Nat.zero_add _
    | ⟨2, _⟩ => hc.symm))

section Stores

variable (x : Vec Ideal S1x512x512 .bf16) (k : Vec Ideal S1x256x1024 .bf16) (g : Vec Ideal S1x512x512 .bf16) (o : Vec Ideal S1x256x1024 .f32)
variable (h : Fin 4) (p q : ℕ) (hp : p = 128 * h.val) (hq : q = 512 + 128 * h.val)
variable (it : ∀ a, (![0, 0, p] : Fin 3 → ℕ) a + (![1, 512, 128] : Fin 3 → ℕ) a ≤ S1x512x512.size a)
variable (ik : ∀ a, (![0, 0, p] : Fin 3 → ℕ) a + (![1, 256, 128] : Fin 3 → ℕ) a ≤ S1x256x1024.size a)
variable (iv : ∀ a, (![0, 0, q] : Fin 3 → ℕ) a + (![1, 256, 128] : Fin 3 → ℕ) a ≤ S1x256x1024.size a)

include hp hq

/-- Head `h`'s gradient of the scores, of token `t`. -/
theorem head_ds (t : Fin 512) (m : Fin 256) :
    k0_pay8 (F := Ideal) (View.ld x (Rect.unit ![0, 0, p] ![1, 512, 128] it)) (View.ld k (Rect.unit ![0, 0, p] ![1, 256, 128] ik))
      (View.ld k (Rect.unit ![0, 0, q] ![1, 256, 128] iv)) (View.ld g (Rect.unit ![0, 0, p] ![1, 512, 128] it)) (ix2 t m)
      = ds (tok x t) (tok g t) (slots k) h m := by
  rw [pay8_apply]
  unfold ds
  rw [ld_tok x p it h hp, ld_tok g p it h hp, ld_key k p ik h hp, ld_val k q iv h hq]

/-- The store of head `h`'s query gradient is its part of the block. -/
theorem store_dq (y : (Rect.unit (s := S1x512x512) ![0, 0, p] ![1, 512, 128] it).shape.Idx) :
    k0_pay9 (F := Ideal) (k0_pay5 (View.ld k (Rect.unit ![0, 0, p] ![1, 256, 128] ik)))
      (k0_pay8 (View.ld x (Rect.unit ![0, 0, p] ![1, 512, 128] it)) (View.ld k (Rect.unit ![0, 0, p] ![1, 256, 128] ik))
        (View.ld k (Rect.unit ![0, 0, q] ![1, 256, 128] iv)) (View.ld g (Rect.unit ![0, 0, p] ![1, 512, 128] it))) y
      = dqBlk x k g ((Rect.unit (s := S1x512x512) ![0, 0, p] ![1, 512, 128] it).emb y) := by
  obtain ⟨u, t, d, rfl⟩ : ∃ (u : Fin 1) (t : Fin 512) (d : Fin 128), y = ix3 u t d := ⟨y 0, y 1, y 2, eq_ix3 y⟩
  obtain rfl : u = 0 := Subsingleton.elim _ _
  rw [emb_tok p it 0 t d ⟨p + d.val, by omega⟩ rfl, pay9_apply]
  unfold dqBlk
  refine Eq.trans ?_ (dqTok_at _ _ _ h d _ (by show p + d.val = _; omega)).symm
  refine Finset.sum_congr rfl fun m _ => ?_
  rw [head_ds x k g h p q hp hq it ik iv, ld_key k p ik h hp]

/-- The store of head `h`'s part of the keys' gradient. -/
theorem store_dk (y : (Rect.unit (s := S1x256x1024) ![0, 0, p] ![1, 256, 128] ik).shape.Idx) :
    k0_pay10 (F := Ideal) (k0_pay4 (View.ld x (Rect.unit ![0, 0, p] ![1, 512, 128] it)))
      (k0_pay8 (View.ld x (Rect.unit ![0, 0, p] ![1, 512, 128] it)) (View.ld k (Rect.unit ![0, 0, p] ![1, 256, 128] ik))
        (View.ld k (Rect.unit ![0, 0, q] ![1, 256, 128] iv)) (View.ld g (Rect.unit ![0, 0, p] ![1, 512, 128] it)))
      (View.ld o (Rect.unit ![0, 0, p] ![1, 256, 128] ik)) y
      = dkvBlk x k g o ((Rect.unit (s := S1x256x1024) ![0, 0, p] ![1, 256, 128] ik).emb y) := by
  obtain ⟨u, m, d, rfl⟩ : ∃ (u : Fin 1) (m : Fin 256) (d : Fin 128), y = ix3 u m d := ⟨y 0, y 1, y 2, eq_ix3 y⟩
  obtain rfl : u = 0 := Subsingleton.elim _ _
  rw [pay10_apply]
  unfold dkvBlk
  refine congrArg₂ (· + ·) rfl (Finset.sum_congr rfl fun t _ => ?_)
  rw [emb_mem p ik 0 m d ⟨p + d.val, by omega⟩ rfl]
  refine Eq.trans ?_ (dkvTok_key _ _ _ m h d _ (by show p + d.val = _; omega)).symm
  rw [head_ds x k g h p q hp hq it ik iv, ld_tok x p it h hp]

/-- The store of head `h`'s part of the values' gradient. -/
theorem store_dv (y : (Rect.unit (s := S1x256x1024) ![0, 0, q] ![1, 256, 128] iv).shape.Idx) :
    k0_pay11 (F := Ideal) (k0_pay6 (View.ld g (Rect.unit ![0, 0, p] ![1, 512, 128] it)))
      (k0_pay7 (View.ld x (Rect.unit ![0, 0, p] ![1, 512, 128] it)) (View.ld k (Rect.unit ![0, 0, p] ![1, 256, 128] ik)))
      (View.ld o (Rect.unit ![0, 0, q] ![1, 256, 128] iv)) y
      = dkvBlk x k g o ((Rect.unit (s := S1x256x1024) ![0, 0, q] ![1, 256, 128] iv).emb y) := by
  obtain ⟨u, m, d, rfl⟩ : ∃ (u : Fin 1) (m : Fin 256) (d : Fin 128), y = ix3 u m d := ⟨y 0, y 1, y 2, eq_ix3 y⟩
  obtain rfl : u = 0 := Subsingleton.elim _ _
  rw [pay11_apply]
  unfold dkvBlk
  refine congrArg₂ (· + ·) rfl (Finset.sum_congr rfl fun t _ => ?_)
  rw [emb_mem q iv 0 m d ⟨q + d.val, by omega⟩ rfl]
  refine Eq.trans ?_ (dkvTok_val _ _ _ m h d _ (by show q + d.val = _; omega)).symm
  rw [pay7_apply, ld_tok x p it h hp, ld_key k p ik h hp, ld_tok g p it h hp]

end Stores

variable (c : Dev nD) (i : grid0.Coords) (a2 : Memref sig .tc .vmem S1x512x512 .bf16) (h2 : a2.IsWhole)
  (a3 : Memref sig .tc .vmem S1x256x1024 .bf16) (h3 : a3.IsWhole) (a4 : Memref sig .tc .vmem S1x512x512 .bf16) (h4 : a4.IsWhole)
  (a5 : Memref sig .tc .vmem S1x512x512 .bf16) (h5 : a5.IsWhole) (a6 : Memref sig .tc .vmem S1x256x1024 .f32) (h6 : a6.IsWhole)
  (x : Vec Ideal S1x512x512 .bf16) (k : Vec Ideal S1x256x1024 .bf16) (g : Vec Ideal S1x512x512 .bf16)

/-- A later point's query gradient. -/
theorem out_B_3 (hc : ¬cond0_0 i) (o : Vec Ideal S1x256x1024 .f32) :
    out0_B_3 (F := Ideal) c i a2 h2 a3 h3 a4 h4 a5 h5 a6 h6 hc x k g o = dqBlk x k g := by
  have hcov := cover0_B_3 (F := Ideal) c i a2 h2 a3 h3 a4 h4 a5 h5 a6 h6 hc x k g o
  unfold out0_B_3
  rw [View.read_writes_eq_canon _ _ _ hcov]
  refine funext fun y => (View.canon_append_of_piecesOf (dqBlk x k g) [] _ ?_ y (hcov y) |>.symm.trans (by rw [List.append_nil])).symm
  unfold kernelRun0_B
  dsimp only
  sl_unfold_words
  simp only [View.readAt_eq_ld, h2.read_unread, h3.read_unread, h4.read_unread]
  exact ⟨store_dq x k g 3 384 896 rfl rfl _ _ _, store_dq x k g 2 256 768 rfl rfl _ _ _, store_dq x k g 1 128 640 rfl rfl _ _ _,
    store_dq x k g 0 0 512 rfl rfl _ _ _, trivial⟩

/-- A first point's query gradient. -/
theorem out_A_3 (hc : cond0_0 i) :
    out0_A_3 (F := Ideal) c i a2 h2 a3 h3 a4 h4 a5 h5 a6 h6 hc x k g = dqBlk x k g := by
  have hcov := cover0_A_3 (F := Ideal) c i a2 h2 a3 h3 a4 h4 a5 h5 a6 h6 hc x k g
  unfold out0_A_3
  rw [View.read_writes_eq_canon _ _ _ hcov]
  refine funext fun y => (View.canon_append_of_piecesOf (dqBlk x k g) [] _ ?_ y (hcov y) |>.symm.trans (by rw [List.append_nil])).symm
  unfold kernelRun0_A
  dsimp only
  sl_unfold_words
  simp only [View.readAt_eq_ld, h2.read_unread, h3.read_unread, h4.read_unread]
  exact ⟨store_dq x k g 3 384 896 rfl rfl _ _ _, store_dq x k g 2 256 768 rfl rfl _ _ _, store_dq x k g 1 128 640 rfl rfl _ _ _,
    store_dq x k g 0 0 512 rfl rfl _ _ _, trivial⟩

/-- A later point's memory gradient. -/
theorem out_B_4 (hc : ¬cond0_0 i) (o : Vec Ideal S1x256x1024 .f32) :
    out0_B_4 (F := Ideal) c i a2 h2 a3 h3 a4 h4 a5 h5 a6 h6 hc x k g o = dkvBlk x k g o := by
  have hcov := cover0_B_4 (F := Ideal) c i a2 h2 a3 h3 a4 h4 a5 h5 a6 h6 hc x k g o
  unfold out0_B_4
  rw [View.read_writes_eq_canon _ _ _ hcov]
  refine funext fun y => (View.canon_append_of_piecesOf (dkvBlk x k g o) [] _ ?_ y (hcov y) |>.symm.trans (by rw [List.append_nil])).symm
  unfold kernelRun0_B
  dsimp only
  sl_unfold_words
  simp only [View.readAt_eq_ld, h2.read_unread, h3.read_unread, h4.read_unread, h6.read_unread]
  exact ⟨store_dv x k g o 3 384 896 rfl rfl _ _ _, store_dk x k g o 3 384 896 rfl rfl _ _ _,
    store_dv x k g o 2 256 768 rfl rfl _ _ _, store_dk x k g o 2 256 768 rfl rfl _ _ _,
    store_dv x k g o 1 128 640 rfl rfl _ _ _, store_dk x k g o 1 128 640 rfl rfl _ _ _,
    store_dv x k g o 0 0 512 rfl rfl _ _ _, store_dk x k g o 0 0 512 rfl rfl _ _ _, trivial⟩

/-- Eight stores that are blocks of `G`, after one other store, leave `G` at every index one of them covers. -/
theorem canon_eight {s : Shape} {e : EltTy} (G : s.Idx → Elt Ideal e) (p1 p2 p3 p4 p5 p6 p7 p8 z : View.Piece (Elt Ideal) s e)
    (h : View.PiecesOf G [p1, p2, p3, p4, p5, p6, p7, p8]) (y : s.Idx) (hc : ∃ p ∈ [p1, p2, p3, p4, p5, p6, p7, p8], y ∈ p.1.set) :
    View.canon [p1, p2, p3, p4, p5, p6, p7, p8, z] y = G y :=
  View.canon_append_of_piecesOf G [z] [p1, p2, p3, p4, p5, p6, p7, p8] h y hc

/-- A first point's memory gradient: the block was zeroed. -/
theorem out_A_4 (hc : cond0_0 i) :
    out0_A_4 (F := Ideal) c i a2 h2 a3 h3 a4 h4 a5 h5 a6 h6 hc x k g = dkvBlk x k g (k0_pay3 (F := Ideal)) := by
  have hcov := cover0_A_4 (F := Ideal) c i a2 h2 a3 h3 a4 h4 a5 h5 a6 h6 hc x k g
  unfold out0_A_4
  rw [View.read_writes_eq_canon _ _ _ hcov]
  clear hcov
  unfold kernelRun0_A
  dsimp only
  sl_unfold_words
  simp (disch := decide) only [↓View.readCov_skip]
  have hz : ∀ a, (![0, 0, 0] : Fin 3 → ℕ) a = 0 := by decide
  simp only [View.readCov_fill (s := S1x256x1024) _ _ _ _ _ hz, View.readAt_eq_ld, h2.read_unread, h3.read_unread, h4.read_unread]
  refine funext fun y => canon_eight (s := S1x256x1024) (e := .f32) (dkvBlk x k g (k0_pay3 (F := Ideal))) _ _ _ _ _ _ _ _ _ ?_ y ?_
  · exact ⟨store_dv x k g _ 3 384 896 rfl rfl _ _ _, store_dk x k g _ 3 384 896 rfl rfl _ _ _,
      store_dv x k g _ 2 256 768 rfl rfl _ _ _, store_dk x k g _ 2 256 768 rfl rfl _ _ _,
      store_dv x k g _ 1 128 640 rfl rfl _ _ _, store_dk x k g _ 1 128 640 rfl rfl _ _ _,
      store_dv x k g _ 0 0 512 rfl rfl _ _ _, store_dk x k g _ 0 0 512 rfl rfl _ _ _, trivial⟩
  · exact View.cover_of_tiledL (s := S1x256x1024) _ S1x256x128.size (by sl_kernel_rfl) y

end Cert.KernelIdeal.Value

end

end
-- ==== Proof.Blocks.lean ====
/-
  The kernel's two result arrays after the run: every token's query gradient, and for every memory slot the sum of its
  gradients over all 2048 tokens of its batch entry, gathered tile by tile over four consecutive grid points.
-/
module

public import proofs.«01_k».proof.Proof.Tile

@[expose] public section

noncomputable section

namespace Cert.Memory

open Idealize.ShloMosaic Idealize.ShloMosaic.ValueIdx Cert.KernelIdeal

/-- Token `s` of batch entry `b`. -/
abbrev tokAt (x : S4x2048x512.Idx → EReal) (b : Fin 4) (s : Fin 2048) (c : Fin 512) : EReal := x (ix3 b s c)

/-- The memory's rows of batch entry `b`. -/
abbrev memAt (k : S4x256x1024.Idx → EReal) (b : Fin 4) (n : Fin 256) (c : Fin 1024) : EReal := k (ix3 b n c)

/-- The query gradient. -/
def dqAll (x : S4x2048x512.Idx → EReal) (k : S4x256x1024.Idx → EReal) (g : S4x2048x512.Idx → EReal) (i : S4x2048x512.Idx) : EReal :=
  dqTok (tokAt x (i 0) (i 1)) (tokAt g (i 0) (i 1)) (memAt k (i 0)) (i 2)

/-- The memory gradient. -/
def dkvAll (x : S4x2048x512.Idx → EReal) (k : S4x256x1024.Idx → EReal) (g : S4x2048x512.Idx → EReal) (i : S4x256x1024.Idx) : EReal :=
  ∑ s, dkvTok (tokAt x (i 0) s) (tokAt g (i 0) s) (memAt k (i 0)) (i 1) (i 2)

end Cert.Memory

namespace Cert.KernelIdeal.Value

open Cert.KernelIdeal Cert.KernelIdeal.Gen Idealize.ShloMosaic Idealize.ShloMosaic.ValueIdx Idealize.ShloMosaic.TcCoe Idealize.SL.Sem Cert.Memory
open Idealize.ShloMosaic.Pipeline (Dat)

variable (m : (ℓ : Loc nD τ sig) → Buf (Elt Ideal) ℓ) (c : Dev nD)

/-- The queries, the memory and the output's gradient the run starts from. -/
abbrev argQ : S4x2048x512.Idx → EReal := m ((c : Thread nD τ).loc main_arg0)
abbrev argK : S4x256x1024.Idx → EReal := m ((c : Thread nD τ).loc main_arg1)
abbrev argG : S4x2048x512.Idx → EReal := m ((c : Thread nD τ).loc main_arg2)

theorem index_tok : ∀ t : Fin grid0.N, (win0_0.index t 0 = t.val / 4 ∧ win0_0.index t 1 = t.val % 4 ∧ win0_0.index t 2 = 0)
    ∧ (win0_2.index t 0 = t.val / 4 ∧ win0_2.index t 1 = t.val % 4 ∧ win0_2.index t 2 = 0)
    ∧ (win0_3.index t 0 = t.val / 4 ∧ win0_3.index t 1 = t.val % 4 ∧ win0_3.index t 2 = 0) := by decide +kernel

theorem index_mem : ∀ t : Fin grid0.N, (win0_1.index t 0 = t.val / 4 ∧ win0_1.index t 1 = 0 ∧ win0_1.index t 2 = 0)
    ∧ (win0_4.index t 0 = t.val / 4 ∧ win0_4.index t 1 = 0 ∧ win0_4.index t 2 = 0) := by decide +kernel

/-- Batch entry and first token of a grid point. -/
def ent (t : Fin cfg0.N) : Fin 4 := ⟨t.val / 4, by have := t.isLt; have : cfg0.N = 16 := N_0; omega⟩
def at512 (t : Fin cfg0.N) (s : Fin 512) : Fin 2048 := ⟨t.val % 4 * 512 + s.val, by omega⟩

theorem blk_q (t : Fin cfg0.N) (s : Fin 512) : tok (iblk m c 0 t) s = tokAt (argQ m c) (ent t) (at512 t s) := by
  obtain ⟨h0, h1, h2⟩ := (index_tok t).1
  funext d
  unfold tok iblk
  rw [View.read_apply]
  show argQ m c _ = argQ m c _
  congr 1
  funext a
  apply Fin.ext
  match a with
  | ⟨0, _⟩ => show win0_0.index t 0 * 1 + 1 * 0 = t.val / 4; rw [h0]; omega
  | ⟨1, _⟩ => show win0_0.index t 1 * 512 + 1 * s.val = t.val % 4 * 512 + s.val; rw [h1]; omega
  | ⟨2, _⟩ => show win0_0.index t 2 * 512 + 1 * d.val = d.val; rw [h2]; omega

theorem blk_g (t : Fin cfg0.N) (s : Fin 512) : tok (iblk m c 2 t) s = tokAt (argG m c) (ent t) (at512 t s) := by
  obtain ⟨h0, h1, h2⟩ := (index_tok t).2.1
  funext d
  unfold tok iblk
  rw [View.read_apply]
  show argG m c _ = argG m c _
  congr 1
  funext a
  apply Fin.ext
  match a with
  | ⟨0, _⟩ => show win0_2.index t 0 * 1 + 1 * 0 = t.val / 4; rw [h0]; omega
  | ⟨1, _⟩ => show win0_2.index t 1 * 512 + 1 * s.val = t.val % 4 * 512 + s.val; rw [h1]; omega
  | ⟨2, _⟩ => show win0_2.index t 2 * 512 + 1 * d.val = d.val; rw [h2]; omega

theorem blk_k (t : Fin cfg0.N) : slots (iblk m c 1 t) = memAt (argK m c) (ent t) := by
  obtain ⟨h0, h1, h2⟩ := (index_mem t).1
  funext n d
  unfold slots iblk
  rw [View.read_apply]
  show argK m c _ = argK m c _
  congr 1
  funext a
  apply Fin.ext
  match a with
  | ⟨0, _⟩ => show win0_1.index t 0 * 1 + 1 * 0 = t.val / 4; rw [h0]; omega
  | ⟨1, _⟩ => show win0_1.index t 1 * 256 + 1 * n.val = n.val; rw [h1]; omega
  | ⟨2, _⟩ => show win0_1.index t 2 * 1024 + 1 * d.val = d.val; rw [h2]; omega

/-! ## The query gradient -/

theorem point_dq (t : Fin cfg0.N) : (outsAt0 m c t.val t.isLt).1 = dqBlk (iblk m c 0 t) (iblk m c 1 t) (iblk m c 2 t) := by
  by_cases h : t.val % 4 = 0
  · rw [outsAt0_A m c t h]; dsimp only; rw [out_A_3]
  · rw [outsAt0_B m c t h]; dsimp only; rw [out_B_3]

theorem flushed_dq (t : Fin cfg0.N) : (dats m 0 c).flushed 3 t
    = ((cfg0.win 3).blk t).view.read (Elt Ideal) (dqAll (argQ m c) (argK m c) (argG m c)) := by
  obtain ⟨h0, h1, h2⟩ := (index_tok t).2.2
  rw [flushed3, point_dq]
  funext y
  rw [View.read_apply]
  show dqBlk _ _ _ y = dqAll _ _ _ (((cfg0.win 3).blk t).view.emb y)
  have e : ((cfg0.win 3).blk t).view.emb y = ix3 (ent t) (at512 t (y 1)) (y 2) := by
    funext a
    apply Fin.ext
    have hy : (y 0).val < 1 := (y 0).isLt
    match a with
    | ⟨0, _⟩ => show win0_3.index t 0 * 1 + 1 * (y 0).val = t.val / 4; rw [h0]; omega
    | ⟨1, _⟩ => show win0_3.index t 1 * 512 + 1 * (y 1).val = t.val % 4 * 512 + (y 1).val; rw [h1]; omega
    | ⟨2, _⟩ => show win0_3.index t 2 * 512 + 1 * (y 2).val = (y 2).val; rw [h2]; omega
  rw [e]
  show dqTok (tok (iblk m c 0 t) (y 1 : Fin 512)) (tok (iblk m c 2 t) (y 1 : Fin 512)) (slots (iblk m c 1 t)) (y 2) = _
  exact congr (congr (congr (congrArg dqTok (blk_q m c t _)) (blk_g m c t _)) (blk_k m c t)) rfl

theorem final_dq : (dats m 0 c).arrAt 3 cfg0.N = dqAll (argQ m c) (argK m c) (argG m c) :=
  (dats m 0 c).arrAt_eq_of_cover 3 _ (fun t _ => flushed_dq m c t) fun i => by
    have i0 : (i 0 : Nat) < 4 := (i 0).isLt
    have i1 : (i 1 : Nat) < 2048 := (i 1).isLt
    have i2 : (i 2 : Nat) < 512 := (i 2).isLt
    have hN : cfg0.N = 16 := N_0
    refine ⟨⟨4 * (i 0 : Nat) + (i 1 : Nat) / 512, by omega⟩, flush0_3 _, ?_⟩
    generalize ht : (⟨4 * (i 0 : Nat) + (i 1 : Nat) / 512, by omega⟩ : Fin cfg0.N) = t
    have hv : t.val = 4 * (i 0 : Nat) + (i 1 : Nat) / 512 := by rw [← ht]
    obtain ⟨h0, h1, h2⟩ := (index_tok t).2.2
    show i ∈ ((View.whole main_v0_0).slice (win0_3.rect t)).set
    rw [View.set_slice_whole, Rect.mem_set_unit]
    intro a
    match a with
    | ⟨0, _⟩ => show win0_3.index t 0 * 1 ≤ (i 0 : Nat) ∧ (i 0 : Nat) < win0_3.index t 0 * 1 + 1; rw [h0]; omega
    | ⟨1, _⟩ => show win0_3.index t 1 * 512 ≤ (i 1 : Nat) ∧ (i 1 : Nat) < win0_3.index t 1 * 512 + 512; rw [h1]; omega
    | ⟨2, _⟩ => show win0_3.index t 2 * 512 ≤ (i 2 : Nat) ∧ (i 2 : Nat) < win0_3.index t 2 * 512 + 512; rw [h2]; omega

/-! ## The memory's gradient -/

/-- What grid point `n` adds to its batch entry's block (nothing past the grid). -/
def part (n : ℕ) (y : S1x256x1024.Idx) : EReal :=
  if h : n < cfg0.N then
    ∑ s, dkvTok (tokAt (argQ m c) (ent ⟨n, h⟩) (at512 ⟨n, h⟩ s)) (tokAt (argG m c) (ent ⟨n, h⟩) (at512 ⟨n, h⟩ s)) (memAt (argK m c) (ent ⟨n, h⟩)) (y 1) (y 2)
  else 0

theorem step_dkv (t : Fin cfg0.N) (o : S1x256x1024.Idx → EReal) (y : S1x256x1024.Idx) :
    dkvBlk (iblk m c 0 t) (iblk m c 1 t) (iblk m c 2 t) o y = o y + part m c t.val y := by
  unfold dkvBlk part
  rw [dif_pos t.isLt]
  simp only [blk_q, blk_g, blk_k]

theorem pay3_zero (y : S1x256x1024.Idx) : k0_pay3 (F := Ideal) y = 0 := by
  unfold k0_pay3
  exact Cert.Words.zeroWord

/-- The block after the run of points `4 b … 4 b + j`. -/
theorem point_dkv (b j : ℕ) (hj : j < 4) (h : 4 * b + j < cfg0.N) (y : S1x256x1024.Idx) :
    (outsAt0 m c (4 * b + j) h).2 y = ∑ s ∈ Finset.range (j + 1), part m c (4 * b + s) y := by
  induction j with
  | zero =>
    rw [Finset.sum_range_one, outsAt0_A m c ⟨4 * b + 0, h⟩ (by show (4 * b + 0) % 4 = 0; omega)]
    dsimp only
    rw [out_A_4]
    refine (step_dkv m c ⟨4 * b + 0, h⟩ _ y).trans ?_
    rw [pay3_zero, zero_add]
  | succ j ih =>
    rw [Finset.sum_range_succ, ← ih (by omega) (by omega), outsAt0_B m c ⟨4 * b + (j + 1), h⟩ (by show ¬(4 * b + (j + 1)) % 4 = 0; omega)]
    dsimp only
    rw [out_B_4]
    exact step_dkv m c ⟨4 * b + (j + 1), h⟩ _ y

/-- Four tiles of 512 tokens are the 2048 tokens. -/
theorem sum_tiles (f : Fin 2048 → EReal) : ∑ s, f s = ∑ j : Fin 4, ∑ s : Fin 512, f ⟨j.val * 512 + s.val, by omega⟩ := by
  rw [← Equiv.sum_comp (finProdFinEquiv (m := 4) (n := 512)) f, Fintype.sum_prod_type]
  refine Finset.sum_congr rfl fun j _ => Finset.sum_congr rfl fun s _ => congrArg f (Fin.ext ?_)
  show s.val + 512 * j.val = j.val * 512 + s.val
  omega

theorem flushed_dkv (t : Fin cfg0.N) (hf : (cfg0.win 4).flush t = true) : (dats m 0 c).flushed 4 t
    = ((cfg0.win 4).blk t).view.read (Elt Ideal) (dkvAll (argQ m c) (argK m c) (argG m c)) := by
  obtain ⟨h0, h1, h2⟩ := (index_mem t).2
  have hN : cfg0.N = 16 := N_0
  have h3 : t.val % 4 = 3 := by have := (flush0_4 t).mp hf; omega
  rw [flushed4]
  funext y
  rw [View.read_apply]
  show (outsAt0 m c t.val t.isLt).2 y = dkvAll _ _ _ (((cfg0.win 4).blk t).view.emb y)
  have e : ((cfg0.win 4).blk t).view.emb y = ix3 (ent t) (y 1) (y 2) := by
    funext a
    apply Fin.ext
    have hy : (y 0).val < 1 := (y 0).isLt
    match a with
    | ⟨0, _⟩ => show win0_4.index t 0 * 1 + 1 * (y 0).val = t.val / 4; rw [h0]; omega
    | ⟨1, _⟩ => show win0_4.index t 1 * 256 + 1 * (y 1).val = (y 1).val; rw [h1]; omega
    | ⟨2, _⟩ => show win0_4.index t 2 * 1024 + 1 * (y 2).val = (y 2).val; rw [h2]; omega
  rw [e]
  obtain ⟨n, hn⟩ := t
  dsimp only at h3
  obtain ⟨b, rfl⟩ : ∃ b, n = 4 * b + 3 := ⟨n / 4, by omega⟩
  refine (point_dkv m c b 3 (by omega) hn y).trans ?_
  unfold dkvAll
  rw [sum_tiles, Finset.sum_range]
  refine Finset.sum_congr rfl fun j _ => ?_
  unfold part
  have hb : 4 * b + j.val < cfg0.N := by have := j.isLt; omega
  rw [dif_pos hb]
  have e1 : ent ⟨4 * b + j.val, hb⟩ = ent ⟨4 * b + 3, hn⟩ := Fin.ext (by show (4 * b + j.val) / 4 = (4 * b + 3) / 4; omega)
  have e2 : ∀ s, at512 ⟨4 * b + j.val, hb⟩ s = ⟨j.val * 512 + s.val, by omega⟩ := fun s => Fin.ext (by
    show (4 * b + j.val) % 4 * 512 + s.val = j.val * 512 + s.val
    have : (4 * b + j.val) % 4 = j.val := by omega
    rw [this])
  simp only [e1, e2]

theorem final_dkv : (dats m 0 c).arrAt 4 cfg0.N = dkvAll (argQ m c) (argK m c) (argG m c) :=
  (dats m 0 c).arrAt_eq_of_cover 4 _ (flushed_dkv m c) fun i => by
    have i0 : (i 0 : Nat) < 4 := (i 0).isLt
    have i1 : (i 1 : Nat) < 256 := (i 1).isLt
    have i2 : (i 2 : Nat) < 1024 := (i 2).isLt
    have hN : cfg0.N = 16 := N_0
    refine ⟨⟨4 * (i 0 : Nat) + 3, by omega⟩, (flush0_4 _).mpr (by show (4 * (i 0 : Nat) + 3) % 4 = 3; omega), ?_⟩
    generalize ht : (⟨4 * (i 0 : Nat) + 3, by omega⟩ : Fin cfg0.N) = t
    have hv : t.val = 4 * (i 0 : Nat) + 3 := by rw [← ht]
    obtain ⟨h0, h1, h2⟩ := (index_mem t).2
    show i ∈ ((View.whole main_v0_1).slice (win0_4.rect t)).set
    rw [View.set_slice_whole, Rect.mem_set_unit]
    intro a
    match a with
    | ⟨0, _⟩ => show win0_4.index t 0 * 1 ≤ (i 0 : Nat) ∧ (i 0 : Nat) < win0_4.index t 0 * 1 + 1; rw [h0]; omega
    | ⟨1, _⟩ => show win0_4.index t 1 * 256 ≤ (i 1 : Nat) ∧ (i 1 : Nat) < win0_4.index t 1 * 256 + 256; rw [h1]; omega
    | ⟨2, _⟩ => show win0_4.index t 2 * 1024 ≤ (i 2 : Nat) ∧ (i 2 : Nat) < win0_4.index t 2 * 1024 + 1024; rw [h2]; omega

end Cert.KernelIdeal.Value

end
-- ==== Proof.Ref.lean ====
/-
  The reference's two results, stage by stage: the derivative of the memory attention's forward lines at one token of one
  head is `dscoreRef`, and with finite queries and keys the results are the query gradient `dqAll` and the memory gradient
  `dkvAll` that the kernel's arrays hold.
-/
module

public import proofs.«01_k».proof.Proof.Blocks
public import proofs.«01_k».proof.Proof.Gen.ReferenceIdeal.Read

@[expose] public section

noncomputable section

namespace Cert.ReferenceIdeal.Read

open Cert.ReferenceIdeal Cert.ReferenceIdeal.Gen Idealize.ShloMosaic Idealize.ShloMosaic.ValueIdx Cert.Memory
open Cert.Words (ofBits_one ofBits_bot zeroWord)

/-! ## Reading at literal indices -/

theorem at3 {α : Type} {a b c : ℕ} (f : (⟨3, ![a, b, c]⟩ : Shape).Idx → α) (i : (⟨3, ![a, b, c]⟩ : Shape).Idx) (x : Fin a) (y : Fin b) (z : Fin c)
    (hx : (i 0).val = x.val) (hy : (i 1).val = y.val) (hz : (i 2).val = z.val) : f i = f (ix3 x y z) :=
  congrArg f (funext fun j => Fin.ext (match j with | ⟨0, _⟩ => hx | ⟨1, _⟩ => hy | ⟨2, _⟩ => hz))

theorem at4 {α : Type} {a b c d : ℕ} (f : (⟨4, ![a, b, c, d]⟩ : Shape).Idx → α) (i : (⟨4, ![a, b, c, d]⟩ : Shape).Idx) (x : Fin a) (y : Fin b)
    (z : Fin c) (w : Fin d) (hx : (i 0).val = x.val) (hy : (i 1).val = y.val) (hz : (i 2).val = z.val) (hw : (i 3).val = w.val) :
    f i = f (ix4 x y z w) :=
  congrArg f (funext fun j => Fin.ext (match j with | ⟨0, _⟩ => hx | ⟨1, _⟩ => hy | ⟨2, _⟩ => hz | ⟨3, _⟩ => hw))

variable (x0 : S4x2048x512.Idx → EReal) (x1 : S4x256x1024.Idx → EReal) (x2 : S4x2048x512.Idx → EReal)
variable (b h : Fin 4) (s : Fin 2048) (n : Fin 256) (d : Fin 128)

/-- A head's query, keys, values and incoming gradient. -/
abbrev hq : Fin 128 → EReal := cut (tokAt x0 b s) h
abbrev hk : Fin 256 → Fin 128 → EReal := keys (memAt x1 b) h
abbrev hv : Fin 256 → Fin 128 → EReal := vals (memAt x1 b) h

theorem v4_at : val_main_v4 (F := Ideal) x0 (ix4 b s h d) = hq x0 b h s d := by
  rw [val_main_v4_apply]
  refine (at3 x0 _ b s ⟨128 * h.val + d.val, by omega⟩ ?_ ?_ ?_)
  · show ((((b.val * 2048 + s.val) * 4 + h.val) * 128 + d.val) / 1048576) = b.val; omega
  · show ((((b.val * 2048 + s.val) * 4 + h.val) * 128 + d.val) / 512 % 2048) = s.val; omega
  · show ((((b.val * 2048 + s.val) * 4 + h.val) * 128 + d.val) % 512) = 128 * h.val + d.val; omega

theorem v46_at : val_main_v46 (F := Ideal) x2 (ix4 b s h d) = hq x2 b h s d := by
  rw [val_main_v46_apply, val_main_v45_apply]
  refine (at3 x2 _ b s ⟨128 * h.val + d.val, by omega⟩ ?_ ?_ ?_)
  · show ((((b.val * 2048 + s.val) * 4 + h.val) * 128 + d.val) / 1048576) = b.val; omega
  · show ((((b.val * 2048 + s.val) * 4 + h.val) * 128 + d.val) / 512 % 2048) = s.val; omega
  · show ((((b.val * 2048 + s.val) * 4 + h.val) * 128 + d.val) % 512) = 128 * h.val + d.val; omega

theorem v5_at : val_main_v5 (F := Ideal) x1 (ix4 b n h d) = hk x1 b h n d := by
  rw [val_main_v5_apply, val_main_v2_apply]
  refine (at3 x1 _ b n ⟨128 * h.val + d.val, by omega⟩ ?_ ?_ ?_)
  · show ((((b.val * 256 + n.val) * 4 + h.val) * 128 + d.val) / 131072) = b.val; omega
  · show ((((b.val * 256 + n.val) * 4 + h.val) * 128 + d.val) / 512 % 256) = n.val; omega
  · show ((((b.val * 256 + n.val) * 4 + h.val) * 128 + d.val) % 512) = 128 * h.val + d.val; omega

theorem v6_at : val_main_v6 (F := Ideal) x1 (ix4 b n h d) = hv x1 b h n d := by
  rw [val_main_v6_apply, val_main_v3_apply]
  refine (at3 x1 _ b n ⟨512 + (128 * h.val + d.val), by omega⟩ ?_ ?_ ?_)
  · show ((((b.val * 256 + n.val) * 4 + h.val) * 128 + d.val) / 131072) = b.val; omega
  · show ((((b.val * 256 + n.val) * 4 + h.val) * 128 + d.val) / 512 % 256) = n.val; omega
  · show 512 + ((((b.val * 256 + n.val) * 4 + h.val) * 128 + d.val) % 512) = 512 + (128 * h.val + d.val); omega

/-! ## The softmax -/

theorem root_real : Ideal.sqrt (Ideal.ofBits .f32 0x43000000#32) = ((Real.sqrt 128 : ℝ) : EReal) := by
  have e : Ideal.ofBits .f32 0x43000000#32 = ((128 : ℝ) : EReal) := by
    simp [Ideal.ofBits, Ideal.ieee, -EReal.coe_mul]; norm_num
  rw [e, Ideal.sqrt_coe, if_neg (by norm_num)]

/-- Dividing by the root of the head's width is scaling. -/
theorem div_root (x : EReal) : Ideal.div x (Ideal.sqrt (Ideal.ofBits .f32 0x43000000#32)) = x * scale := by
  rw [root_real, Ideal.div_coe (Real.sqrt_pos.mpr (by norm_num)).ne', one_div]
  rfl

theorem v10_at : val_main_v10 (F := Ideal) x0 x1 (ix4 b h s n) = score (hq x0 b h s) (hk x1 b h) n := by
  rw [val_main_v10_apply, val_main_v9_apply, val_main_v8_apply, val_main_v7_apply]
  refine (div_root _).trans (congrArg (· * scale) (Finset.sum_congr rfl fun k _ => ?_))
  exact congrArg₂ (· * ·) ((at4 (val_main_v4 (F := Ideal) x0) _ b s h k rfl rfl rfl rfl).trans (v4_at x0 b h s k)) ((at4 (val_main_v5 (F := Ideal) x1) _ b n h k rfl rfl rfl rfl).trans (v5_at x1 b h n k))

theorem v11_at : val_main_v11 (F := Ideal) x0 x1 (ix3 b h s) = top (hq x0 b h s) (hk x1 b h) := by
  unfold val_main_v11
  refine (Host.reduce_eq_fold_single (α := EReal) max _ _ reducesTo_S4x4x2048x256_S4x4x2048_d3 (by decide) h_S_ (ix3 b h s)).trans ?_
  refine congrArg₂ (fun z f => Finset.univ.fold max z f) ofBits_bot (funext fun n => ?_)
  exact (at4 (val_main_v10 (F := Ideal) x0 x1) _ b h s n rfl rfl rfl rfl).trans (v10_at x0 x1 b h s n)

theorem v18_at : val_main_v18 (F := Ideal) x0 x1 (ix3 b h s) = top (hq x0 b h s) (hk x1 b h) := by
  rw [val_main_v18_apply, v11_at, val_main_v17_apply]
  show max (Ideal.ofBits .f32 0xFF800000#32) _ = _
  rw [ofBits_bot, bot_sup_eq]

theorem v31_at : val_main_v31 (F := Ideal) x0 x1 (ix4 b h s n) = ex (hq x0 b h s) (hk x1 b h) n := by
  rw [val_main_v31_apply, val_main_v30_apply, v10_at, val_main_v29_apply, val_main_v28_apply]
  have e := (at3 (val_main_v18 (F := Ideal) x0 x1) (idx_main_v28 (idx_main_v29 (ix4 b h s n))) b h s rfl rfl rfl).trans (v18_at x0 x1 b h s)
  rw [e]
  rfl

theorem v32_at : val_main_v32 (F := Ideal) x0 x1 (ix3 b h s) = den (hq x0 b h s) (hk x1 b h) := by
  rw [val_main_v32_apply]
  refine (congrArg (· + _) zeroWord).trans ((zero_add _).trans (Finset.sum_congr rfl fun n _ => ?_))
  exact (at4 (val_main_v31 (F := Ideal) x0 x1) _ b h s n rfl rfl rfl rfl).trans (v31_at x0 x1 b h s n)

theorem v33_at (u : Fin 1) : val_main_v33 (F := Ideal) x0 x1 (ix4 b h s u) = den (hq x0 b h s) (hk x1 b h) :=
  (val_main_v33_apply (F := Ideal) x0 x1 _).trans ((at3 (val_main_v32 (F := Ideal) x0 x1) _ b h s rfl rfl rfl).trans (v32_at x0 x1 b h s))

theorem v40_at : val_main_v40 (F := Ideal) x0 x1 (ix4 b h s n) = Ideal.div (ex (hq x0 b h s) (hk x1 b h) n) (den (hq x0 b h s) (hk x1 b h)) := by
  show Ideal.div (val_main_v31 (F := Ideal) x0 x1 (ix4 b h s n)) (val_main_v34 (F := Ideal) x0 x1 (ix4 b h s n)) = _
  rw [v31_at, val_main_v34_apply]
  exact congrArg (Ideal.div _) ((at4 (val_main_v33 (F := Ideal) x0 x1) _ b h s 0 rfl rfl rfl rfl).trans (v33_at x0 x1 b h s 0))

theorem v38_at (u : Fin 1) : val_main_v38 (F := Ideal) x0 x1 (ix4 b h s u)
    = Ideal.div 1 (den (hq x0 b h s) (hk x1 b h) * den (hq x0 b h s) (hk x1 b h)) := by
  rw [val_main_v38_apply, val_main_v37_apply, val_main_v36_apply, v33_at]
  exact congrArg (Ideal.div · _) ofBits_one

/-! ## Its derivative -/

theorem v47_at : val_main_v47 (F := Ideal) x2 (ix4 b h d s) = hq x2 b h s d :=
  (val_main_v47_apply (F := Ideal) x2 _).trans ((at4 (val_main_v46 (F := Ideal) x2) _ b s h d rfl rfl rfl rfl).trans (v46_at x2 b h s d))

theorem v52_at : val_main_v52 (F := Ideal) x1 x2 (ix4 b h s n) = dprob (hq x2 b h s) (hv x1 b h) n := by
  refine (val_main_v48_apply x1 x2 _).trans (Finset.sum_congr rfl fun k _ => ?_)
  exact congrArg₂ (· * ·) ((at4 (val_main_v47 (F := Ideal) x2) _ b h k s rfl rfl rfl rfl).trans (v47_at x2 b h s k)) ((at4 (val_main_v6 (F := Ideal) x1) _ b n h k rfl rfl rfl rfl).trans (v6_at x1 b h n k))

theorem v55_at : val_main_v55 (F := Ideal) x0 x1 x2 (ix4 b h s n)
    = dprob (hq x2 b h s) (hv x1 b h) n * Ideal.div 1 (den (hq x0 b h s) (hk x1 b h) * den (hq x0 b h s) (hk x1 b h)) * ex (hq x0 b h s) (hk x1 b h) n := by
  rw [val_main_v55_apply, val_main_v54_apply, v52_at, v31_at, val_main_v53_apply]
  exact congrArg (fun z => _ * z * _) ((at4 (val_main_v38 (F := Ideal) x0 x1) _ b h s 0 rfl rfl rfl rfl).trans (v38_at x0 x1 b h s 0))

theorem v56_at : val_main_v56 (F := Ideal) x0 x1 x2 (ix3 b h s) = ∑ n, dprob (hq x2 b h s) (hv x1 b h) n
    * Ideal.div 1 (den (hq x0 b h s) (hk x1 b h) * den (hq x0 b h s) (hk x1 b h)) * ex (hq x0 b h s) (hk x1 b h) n := by
  rw [val_main_v56_apply]
  refine (congrArg (· + _) zeroWord).trans ((zero_add _).trans (Finset.sum_congr rfl fun n _ => ?_))
  exact (at4 (val_main_v55 (F := Ideal) x0 x1 x2) _ b h s n rfl rfl rfl rfl).trans (v55_at x0 x1 x2 b h s n)

theorem v61_at : val_main_v61 (F := Ideal) x0 x1 x2 (ix3 b h s) = -∑ n, dprob (hq x2 b h s) (hv x1 b h) n
    * Ideal.div 1 (den (hq x0 b h s) (hk x1 b h) * den (hq x0 b h s) (hk x1 b h)) * ex (hq x0 b h s) (hk x1 b h) n := by
  rw [val_main_v61_apply]
  refine (congrArg (· + _) zeroWord).trans ((zero_add _).trans ?_)
  rw [Fin.sum_univ_one, val_main_v58_apply, val_main_v57_apply]
  refine congrArg (- ·) ((at3 (val_main_v56 (F := Ideal) x0 x1 x2) _ b h s ?_ ?_ ?_).trans (v56_at x0 x1 x2 b h s))
  · show (((b.val * 4 + h.val) * 2048 + s.val) * 1 + 0) / 8192 = b.val; omega
  · show (((b.val * 4 + h.val) * 2048 + s.val) * 1 + 0) / 2048 % 4 = h.val; omega
  · show (((b.val * 4 + h.val) * 2048 + s.val) * 1 + 0) % 2048 = s.val; omega

theorem v66_at : val_main_v66 (F := Ideal) x0 x1 x2 (ix4 b h s n) = dscoreRef (hq x0 b h s) (hk x1 b h) (hv x1 b h) (hq x2 b h s) n := by
  rw [val_main_v66_apply, val_main_v65_apply, val_main_v8_apply, val_main_v64_apply, val_main_v63_apply, val_main_v62_apply, v31_at,
    val_main_v60_apply, v52_at, val_main_v59_apply]
  refine (div_root _).trans (congrArg₂ (fun l z => (Ideal.div _ l + z) * _ * scale) ?_ ?_)
  · exact (at4 (val_main_v33 (F := Ideal) x0 x1) _ b h s 0 rfl rfl rfl rfl).trans (v33_at x0 x1 b h s 0)
  · exact (at3 (val_main_v61 (F := Ideal) x0 x1 x2) _ b h s rfl rfl rfl).trans (v61_at x0 x1 x2 b h s)

/-! ## The results, with finite queries and keys -/

/-- Every query and every key is a real number. -/
def Finite : Prop := (∀ b s c, ∃ r : ℝ, tokAt x0 b s c = r) ∧ ∀ b n (c : Fin 1024), c.val < 512 → ∃ r : ℝ, memAt x1 b n c = r

variable {x0 x1}

theorem Finite.q (hf : Finite x0 x1) (d : Fin 128) : ∃ r : ℝ, hq x0 b h s d = r := hf.1 _ _ _
theorem Finite.k (hf : Finite x0 x1) (n : Fin 256) (d : Fin 128) : ∃ r : ℝ, hk x1 b h n d = r := hf.2 _ _ _ (by show 128 * h.val + d.val < 512; omega)

theorem v66_ds (hf : Finite x0 x1) : val_main_v66 (F := Ideal) x0 x1 x2 (ix4 b h s n) = ds (tokAt x0 b s) (tokAt x2 b s) (memAt x1 b) h n :=
  (v66_at x0 x1 x2 b h s n).trans (dscore_eq (hf.q b h s) (hf.k b h) n)

theorem v69_at (hf : Finite x0 x1) : val_main_v69 (F := Ideal) x0 x1 x2 (ix4 b h s d)
    = ∑ n, ds (tokAt x0 b s) (tokAt x2 b s) (memAt x1 b) h n * hk x1 b h n d := by
  refine (val_main_v69_apply x0 x1 x2 _).trans (Finset.sum_congr rfl fun n _ => ?_)
  exact congrArg₂ (· * ·) ((at4 (val_main_v66 (F := Ideal) x0 x1 x2) _ b h s n rfl rfl rfl rfl).trans (v66_ds x2 b h s n hf)) ((at4 (val_main_v5 (F := Ideal) x1) _ b n h d rfl rfl rfl rfl).trans (v5_at x1 b h n d))

theorem v67_at (hf : Finite x0 x1) : val_main_v67 (F := Ideal) x0 x1 x2 (ix4 b h n d)
    = ∑ s, ds (tokAt x0 b s) (tokAt x2 b s) (memAt x1 b) h n * hq x0 b h s d := by
  refine (val_main_v67_apply x0 x1 x2 _).trans (Finset.sum_congr rfl fun s _ => ?_)
  exact congrArg₂ (· * ·) ((at4 (val_main_v66 (F := Ideal) x0 x1 x2) _ b h s n rfl rfl rfl rfl).trans (v66_ds x2 b h s n hf)) ((at4 (val_main_v4 (F := Ideal) x0) _ b s h d rfl rfl rfl rfl).trans (v4_at x0 b h s d))

theorem v49_at (hf : Finite x0 x1) : val_main_v49 (F := Ideal) x0 x1 x2 (ix4 b h d n)
    = ∑ s, prob (hq x0 b h s) (hk x1 b h) n * hq x2 b h s d := by
  refine (val_main_v49_apply x0 x1 x2 _).trans (Finset.sum_congr rfl fun s _ => ?_)
  refine (congrArg₂ (· * ·) ((at4 (val_main_v47 (F := Ideal) x2) _ b h d s rfl rfl rfl rfl).trans (v47_at x2 b h s d)) ((at4 (val_main_v40 (F := Ideal) x0 x1) _ b h s n rfl rfl rfl rfl).trans (v40_at x0 x1 b h s n))).trans ?_
  rw [prob_eq (hf.q b h s) (hf.k b h) n]
  exact mul_comm _ _

theorem v75_eq (hf : Finite x0 x1) : val_main_v75 (F := Ideal) x0 x1 x2 = dqAll x0 x1 x2 := by
  funext i
  have i0 : (i 0 : Nat) < 4 := (i 0).isLt
  have i1 : (i 1 : Nat) < 2048 := (i 1).isLt
  have i2 : (i 2 : Nat) < 512 := (i 2).isLt
  refine (val_main_v73_apply (F := Ideal) x0 x1 x2 i).trans ((val_main_v70_apply (F := Ideal) x0 x1 x2 _).trans ?_)
  refine (at4 (val_main_v69 (F := Ideal) x0 x1 x2) _ (i 0) ⟨(i 2 : Nat) / 128, by omega⟩ (i 1) ⟨(i 2 : Nat) % 128, by omega⟩ ?_ ?_ ?_ ?_).trans ?_
  · show (((i 0).val * 2048 + (i 1).val) * 512 + (i 2).val) / 1048576 = (i 0).val; omega
  · show (((i 0).val * 2048 + (i 1).val) * 512 + (i 2).val) / 128 % 4 = (i 2).val / 128; omega
  · show (((i 0).val * 2048 + (i 1).val) * 512 + (i 2).val) / 512 % 2048 = (i 1).val; omega
  · show (((i 0).val * 2048 + (i 1).val) * 512 + (i 2).val) % 128 = (i 2).val % 128; omega
  · exact (v69_at x2 _ _ _ _ hf).trans (dqTok_at _ _ _ _ _ _ (by show (i 2).val = 128 * ((i 2).val / 128) + (i 2).val % 128; omega)).symm

theorem v74_eq (hf : Finite x0 x1) : val_main_v74 (F := Ideal) x0 x1 x2 = dkvAll x0 x1 x2 := by
  funext i
  have i0 : (i 0 : Nat) < 4 := (i 0).isLt
  have i1 : (i 1 : Nat) < 256 := (i 1).isLt
  have i2 : (i 2 : Nat) < 1024 := (i 2).isLt
  unfold val_main_v74
  by_cases hc : (i 2 : Nat) < 512
  · refine (concatenate_pair_apply_left (s₁ := S4x256x512) (s₂ := S4x256x512) 2 _ _ _ i rfl (ix3 (i 0) (i 1) (⟨(i 2 : Nat), hc⟩ : Fin 512)) (fun a => match a with | ⟨0, _⟩ => rfl | ⟨1, _⟩ => rfl | ⟨2, _⟩ => rfl)).trans ?_
    refine (val_main_v72_apply (F := Ideal) x0 x1 x2 _).trans ((val_main_v68_apply (F := Ideal) x0 x1 x2 _).trans ?_)
    refine (at4 (val_main_v67 (F := Ideal) x0 x1 x2) _ (i 0) ⟨(i 2 : Nat) / 128, by omega⟩ (i 1) ⟨(i 2 : Nat) % 128, by omega⟩ ?_ ?_ ?_ ?_).trans ?_
    · show (((i 0).val * 256 + (i 1).val) * 512 + (i 2).val) / 131072 = (i 0).val; omega
    · show (((i 0).val * 256 + (i 1).val) * 512 + (i 2).val) / 128 % 4 = (i 2).val / 128; omega
    · show (((i 0).val * 256 + (i 1).val) * 512 + (i 2).val) / 512 % 256 = (i 1).val; omega
    · show (((i 0).val * 256 + (i 1).val) * 512 + (i 2).val) % 128 = (i 2).val % 128; omega
    · refine (v67_at x2 _ _ _ _ hf).trans (Finset.sum_congr rfl fun s _ => ?_)
      exact (dkvTok_key _ _ _ _ _ _ _ (by show (i 2).val = 128 * ((i 2).val / 128) + (i 2).val % 128; omega)).symm
  · refine (concatenate_pair_apply_right (s₁ := S4x256x512) (s₂ := S4x256x512) 2 _ _ _ i rfl rfl (ix3 (i 0) (i 1) (⟨(i 2 : Nat) - 512, by omega⟩ : Fin 512))
      (fun a => match a with | ⟨0, _⟩ => fun _ => rfl | ⟨1, _⟩ => fun _ => rfl | ⟨2, _⟩ => fun hne => absurd rfl hne) (by show (i 2 : Nat) - 512 + 512 = (i 2 : Nat); omega)).trans ?_
    refine (val_main_v71_apply (F := Ideal) x0 x1 x2 _).trans ((val_main_v50_apply (F := Ideal) x0 x1 x2 _).trans ?_)
    refine (at4 (val_main_v49 (F := Ideal) x0 x1 x2) _ (i 0) ⟨((i 2 : Nat) - 512) / 128, by omega⟩ ⟨((i 2 : Nat) - 512) % 128, by omega⟩ (i 1) ?_ ?_ ?_ ?_).trans ?_
    · show (((i 0).val * 256 + (i 1).val) * 512 + ((i 2).val - 512)) / 131072 = (i 0).val; omega
    · show (((i 0).val * 256 + (i 1).val) * 512 + ((i 2).val - 512)) / 128 % 4 = ((i 2).val - 512) / 128; omega
    · show (((i 0).val * 256 + (i 1).val) * 512 + ((i 2).val - 512)) % 128 = ((i 2).val - 512) % 128; omega
    · show (((i 0).val * 256 + (i 1).val) * 512 + ((i 2).val - 512)) / 512 % 256 = (i 1).val; omega
    · refine (v49_at x2 _ _ _ _ hf).trans (Finset.sum_congr rfl fun s _ => ?_)
      exact (dkvTok_val _ _ _ _ _ _ _ (by show (i 2).val = 512 + (128 * (((i 2).val - 512) / 128) + ((i 2).val - 512) % 128); omega)).symm

end Cert.ReferenceIdeal.Read

end
-- ==== Proof.MemoryClaims.lean ====
/-
  The claims about the memory attention's gradient: the kernel and the reference, from arguments whose queries and keys
  are finite, end with the same two results.
-/
module

public import proofs.«01_k».proof.Defs
public import proofs.«01_k».proof.Proof.Ref
public import proofs.«01_k».proof.Proof.Gen.ReferenceIdeal.Run
public import proofs.«01_k».proof.Proof.Gen.Kernel.Frame
public import proofs.«01_k».proof.Proof.Gen.Pre_finite
public import Idealize.ShloMosaic.Adequacy
public import Idealize.ShloMosaic.Init

@[expose] public section

noncomputable section

namespace Cert.MemoryClaims

open Idealize.ShloMosaic Idealize.ShloMosaic.ValueIdx Idealize.ShloMosaic.TcCoe Idealize.SL.Sem Cert.Memory

theorem frame_reference : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

theorem preserves : Cert.preserves_Kernel_KernelIdeal :=
  IdealRules.named_const.statement Cert.KernelIdeal.κ "s" .f32 0x3DB504F3#32 (((Real.sqrt 128)⁻¹ : ℝ) : EReal) rfl

/-- Queries whose magnitudes, and keys whose magnitudes, are below `⊤` are finite. -/
theorem finite_of (q : Cert.KernelIdeal.S4x2048x512.Idx → EReal) (k : Cert.KernelIdeal.S4x256x1024.Idx → EReal) (hs)
    (hq : ∀ i, Ideal.cmp .olt (max (q i) (-q i)) (Ideal.ofBits .f32 0x7F800000#32) = 1#1)
    (hk : ∀ i, Ideal.cmp .olt (max (extractStridedSlice Cert.ReferenceIdeal.S4x256x512 ![0, 0, 0] k hs i)
      (-extractStridedSlice Cert.ReferenceIdeal.S4x256x512 ![0, 0, 0] k hs i)) (Ideal.ofBits .f32 0x7F800000#32) = 1#1) :
    Cert.ReferenceIdeal.Read.Finite q k := by
  refine ⟨fun b s d => Cert.Words.isReal_of_abs_lt _ (hq (ix3 b s d)), fun b n d hd => ?_⟩
  obtain ⟨r, hr⟩ := Cert.Words.isReal_of_abs_lt _ (hk (ix3 b n ⟨d.val, hd⟩))
  refine ⟨r, Eq.trans ?_ hr⟩
  exact (extractStridedSlice_apply ![0, 0, 0] k hs (ix3 b n (⟨d.val, hd⟩ : Fin 512)) (ix3 b n d) fun a => match a with
    | ⟨0, _⟩ => (Nat.zero_add _).symm
    | ⟨1, _⟩ => (Nat.zero_add _).symm
    | ⟨2, _⟩ => (Nat.zero_add _).symm).symm

theorem algebraic : Cert.algebraic_KernelIdeal_ReferenceIdeal_pre_finite := by
  intro m ρ m' ρ' hpre hagree
  refine ⟨_, _, Cert.KernelIdeal.Value.run_blocks (F := Ideal) m ρ, ?_⟩
  refine (θ_run Cert.ReferenceIdeal.defs _ _).mono (fun _ h c => ?_) (Cert.ReferenceIdeal.Value.run (F := Ideal) m' ρ')
  have hf := finite_of (Cert.KernelIdeal.Value.argQ m c) (Cert.KernelIdeal.Value.argK m c) Cert.Pre_finite.Facts.slices_S4x256x1024_S4x256x512_0_0_0
    (congrFun (hpre c).1) (congrFun (hpre c).2)
  obtain ⟨h0, h1, h2⟩ := hagree c
  refine ⟨(h c).1.trans ?_, (h c).2.1.trans ?_, (h c).2.2⟩
  · rw [Cert.ReferenceIdeal.Read.val_main_v75_eq, h0, h1, h2, Cert.KernelIdeal.Value.final_dq]
    exact Cert.ReferenceIdeal.Read.v75_eq _ hf
  · rw [Cert.ReferenceIdeal.Read.val_main_v74_eq, h0, h1, h2, Cert.KernelIdeal.Value.final_dkv]
    exact Cert.ReferenceIdeal.Read.v74_eq _ hf

end Cert.MemoryClaims

end
-- ==== Proof.Norm.lean ====
/-
  The root-mean-square norm of a row of 1024 extended reals and its gradient. The kernels write the gradient as
  `r · (u − x̂ · mean (u · x̂))`; the derivative of the forward lines writes it through the derivative of the reciprocal root,
  `−½ · r / (mean x² + ε)`, and adds the row's two factors `x · c` and `c · x` one after the other. The two agree at every
  row of extended reals: in a row with an infinite entry `r` is zero and so are both, and otherwise `r` is a positive real.
-/
module

public import proofs.«01_k».proof.Proof.Words

@[expose] public section

noncomputable section

open Idealize.ShloMosaic Cert.Words

namespace Cert.Norm

/-- The width, and the constant under the root. -/
abbrev width : EReal := Ideal.ofBits .f32 0x44800000#32
abbrev eps : EReal := Ideal.ofBits .f32 0x358637BD#32

variable (x u : Fin 1024 → EReal)

/-- The mean square plus the constant. -/
def msq : EReal := Ideal.div (∑ d, x d * x d) width + eps

/-- The reciprocal root. -/
def inv : EReal := Ideal.rsqrt (msq x)

/-- The normalised row. -/
def hat (d : Fin 1024) : EReal := x d * inv x

/-- The gradient of the row from the gradient `u` of the normalised row, as the kernels write it. -/
def back (d : Fin 1024) : EReal := inv x * (u d - hat x d * Ideal.div (∑ e, u e * hat x e) width)

/-- The factor of the row in the derivative of the reciprocal root. -/
def rootFactor : EReal :=
  Ideal.div ((∑ e, x e * u e) * (Ideal.ofBits .f32 0xBF000000#32 * Ideal.div (inv x) (msq x))) width

/-- The same gradient as the derivative of the forward lines writes it. -/
def backRef (d : Fin 1024) : EReal := u d * inv x + x d * rootFactor x u + rootFactor x u * x d

theorem div_width (y : EReal) : Ideal.div y width = y * ((1 / 1024 : ℝ) : EReal) := by
  rw [show width = ((1024 : ℝ) : EReal) from ofBits_width, Ideal.div_coe (by norm_num)]

theorem sq_nonneg (y : EReal) : 0 ≤ y * y := by
  induction y with
  | bot => simp
  | top => simp
  | coe r => exact_mod_cast mul_self_nonneg r

/-- A row of reals has a positive real reciprocal root. -/
theorem inv_real (h : ∀ d, IsReal (x d)) : ∃ q : ℝ, 0 < q ∧ msq x = (q : EReal) ∧ inv x = (((Real.sqrt q)⁻¹ : ℝ) : EReal) := by
  obtain ⟨e, he, hw⟩ := ofBits_eps
  obtain ⟨s, hs⟩ := isReal_sum Finset.univ fun d => (h d).mul (h d)
  have h0 : 0 ≤ s := by
    have : (0 : EReal) ≤ ∑ d, x d * x d := Finset.sum_nonneg fun d _ => sq_nonneg (x d)
    rw [hs] at this
    exact_mod_cast this
  have hq : msq x = ((s * (1 / 1024) + e : ℝ) : EReal) := by
    unfold msq
    rw [div_width, hs, show eps = (e : EReal) from hw]
    push_cast
    rfl
  refine ⟨_, by positivity, hq, ?_⟩
  unfold inv
  have hp : 0 < s * (1 / 1024) + e := by positivity
  rw [hq, Ideal.rsqrt_coe, if_neg hp.not_gt, if_neg hp.ne']

/-- A row with an infinite entry has reciprocal root zero. -/
theorem inv_infinite (h : ∃ d, ¬IsReal (x d)) : msq x = ⊤ ∧ inv x = 0 := by
  obtain ⟨d, hd⟩ := h
  have hs : x d * x d = ⊤ := by
    generalize x d = y at hd
    induction y with
    | bot => simp
    | top => simp
    | coe r => exact absurd ⟨r, rfl⟩ hd
  have hm : msq x = ⊤ := by
    obtain ⟨e, he, hw⟩ := ofBits_eps
    unfold msq
    have : ∑ d, x d * x d = ⊤ := top_le_iff.mp (hs ▸ Finset.single_le_sum (f := fun d => x d * x d) (fun d _ => sq_nonneg (x d)) (Finset.mem_univ d))
    rw [div_width, this, show eps = (e : EReal) from hw, EReal.top_mul_coe_of_pos (by norm_num), EReal.top_add_coe]
  exact ⟨hm, by unfold inv; rw [hm, Ideal.rsqrt_top]⟩

/-- The normalised row is real, whatever the row holds. -/
theorem hat_real (d : Fin 1024) : IsReal (hat x d) := by
  unfold hat
  by_cases h : ∀ d, IsReal (x d)
  · obtain ⟨q, -, -, hi⟩ := inv_real x h
    rw [hi]
    exact (h d).mul (isReal_coe _)
  · rw [(inv_infinite x (not_forall.mp h)).2, mul_zero]
    exact isReal_zero

theorem twice (y : EReal) : y + y = ((2 : ℝ) : EReal) * y := by
  rw [show ((2 : ℝ) : EReal) = 1 + 1 by rw [show (2 : ℝ) = 1 + 1 by norm_num, EReal.coe_add, EReal.coe_one], EReal.right_distrib_of_nonneg zero_le_one zero_le_one, one_mul]

theorem back_eq (d : Fin 1024) : back x u d = backRef x u d := by
  unfold back backRef rootFactor hat
  simp only [div_width]
  rw [ofBits_negHalf]
  by_cases h : ∀ d, IsReal (x d)
  · obtain ⟨q, hq, hm, hi⟩ := inv_real x h
    have hr : 0 ≤ (Real.sqrt q)⁻¹ := by positivity
    rw [hi, hm, Ideal.div_coe hq.ne']
    have hrr : (Real.sqrt q)⁻¹ * (Real.sqrt q)⁻¹ = 1 / q := by
      rw [← mul_inv, Real.mul_self_sqrt hq.le, one_div]
    generalize (Real.sqrt q)⁻¹ = r at hr hrr
    have hS : ∑ e, u e * (x e * r) = (r : EReal) * ∑ e, x e * u e := by
      rw [pos_mul_sum _ hr]
      exact Finset.sum_congr rfl fun e _ => by rw [mul_comm (u e), mul_comm (x e) (r : EReal), mul_assoc]
    rw [hS]
    generalize ∑ e, x e * u e = S
    have hl : x d * r * (r * S * ((1 / 1024 : ℝ) : EReal)) = ((r * r * (1 / 1024) : ℝ) : EReal) * (x d * S) := by
      push_cast
      ac_rfl
    have hc : x d * (S * (((-(1 / 2) : ℝ) : EReal) * (r * ((1 / q : ℝ) : EReal))) * ((1 / 1024 : ℝ) : EReal))
        = ((-(1 / 2) * (r * (1 / q)) * (1 / 1024) : ℝ) : EReal) * (x d * S) := by
      rw [EReal.coe_mul, EReal.coe_mul, EReal.coe_mul r]
      ac_rfl
    rw [mul_comm (S * _ * _) (x d), hc, add_assoc, twice, hl, sub_eq_add_neg, pos_mul_add hr, mul_comm (u d) (r : EReal)]
    congr 1
    generalize x d * S = z
    rw [mul_neg, ← mul_assoc, ← mul_assoc, ← EReal.coe_mul, ← EReal.coe_mul, ← EReal.neg_mul, ← EReal.coe_neg]
    congr 2
    rw [← hrr]
    ring
  · obtain ⟨hm, hi⟩ := inv_infinite x (not_forall.mp h)
    rw [hi, hm]
    simp [Ideal.div]

end Cert.Norm

end

end
-- ==== Proof.FfnRows.lean ====
/-
  The gated feed-forward block of one token, and its gradients, as formulas of the token's row. A row of 1024 entries is
  normed, multiplied into 5632 columns — 2816 pairs of a gate and a value — and the pairs' products are multiplied back.
-/
module

public import proofs.«01_k».proof.Proof.Norm

@[expose] public section

noncomputable section

open Idealize.ShloMosaic Cert.Words Cert.Norm

namespace Cert.Ffn

/-- The gate's column and the value's column of a pair. -/
def lo (k : Fin 2816) : Fin 5632 := ⟨k.val, by omega⟩
def hi (k : Fin 2816) : Fin 5632 := ⟨2816 + k.val, by omega⟩

/-- The factor the block is added with. -/
abbrev half : EReal := Ideal.ofBits .f32 0x3F000000#32

/-- Two rows of 2816 entries, one after the other. -/
def join (a b : Fin 2816 → EReal) (j : Fin 5632) : EReal :=
  if h : j.val < 2816 then a ⟨j.val, h⟩ else b ⟨j.val - 2816, by omega⟩

theorem join_lo (a b : Fin 2816 → EReal) (k : Fin 2816) : join a b (lo k) = a k := by
  unfold join lo
  rw [dif_pos k.isLt]

theorem join_hi (a b : Fin 2816 → EReal) (k : Fin 2816) : join a b (hi k) = b k := by
  unfold join hi
  rw [dif_neg (by show ¬2816 + k.val < 2816; omega)]
  exact congrArg b (Fin.ext (by show 2816 + k.val - 2816 = k.val; omega))

/-- Every column is a gate's or a value's. -/
theorem col_cases (j : Fin 5632) : (∃ k, j = lo k) ∨ ∃ k, j = hi k := by
  by_cases h : j.val < 2816
  · exact .inl ⟨⟨j.val, h⟩, rfl⟩
  · exact .inr ⟨⟨j.val - 2816, by omega⟩, Fin.ext (by show j.val = 2816 + (j.val - 2816); omega)⟩

/-- A sum over the columns is the gates' and the values'. -/
theorem sum_cols (f : Fin 5632 → EReal) : ∑ j, f j = ∑ k, f (lo k) + ∑ k, f (hi k) := Fin.sum_univ_add (a := 2816) (b := 2816) f

section

variable (x g : Fin 1024 → EReal) (wu : Fin 5632 → Fin 1024 → EReal) (wd : Fin 2816 → Fin 1024 → EReal)
  (dy : Fin 1024 → EReal) (z : Fin 5632 → EReal)

/-- The normed row. -/
def normed (d : Fin 1024) : EReal := hat x d * g d

/-- The columns. -/
def cols (j : Fin 5632) : EReal := ∑ d, normed x g d * wu j d

/-- The logistic of the gate. -/
def squash (k : Fin 2816) : EReal := Ideal.logistic (z (lo k))

/-- The gated values. -/
def gated (k : Fin 2816) : EReal := z (lo k) * squash z k * z (hi k)

/-- The token after the block. -/
def outRow (d : Fin 1024) : EReal := x d + half * ∑ k, gated z k * wd k d

/-- The gradient of the gated values. -/
def dgated (k : Fin 2816) : EReal := ∑ d, half * dy d * wd k d

/-- The gates' gradient, as the kernel writes it. -/
def dgate (k : Fin 2816) : EReal := dgated wd dy k * z (hi k) * (squash z k * (1 + z (lo k) * (1 - squash z k)))

/-- The gates' gradient, by the product rule. -/
def dgateRef (k : Fin 2816) : EReal :=
  dgated wd dy k * z (hi k) * squash z k + z (lo k) * (dgated wd dy k * z (hi k)) * (squash z k * (1 - squash z k))

/-- The values' gradient. -/
def dvalue (k : Fin 2816) : EReal := dgated wd dy k * (z (lo k) * squash z k)

/-- The columns' gradient. -/
def dcols : Fin 5632 → EReal := join (dgate wd dy z) (dvalue wd dy z)

/-- The normed row's gradient. -/
def dnormed (d : Fin 1024) : EReal := ∑ j, dcols wd dy z j * wu j d

/-- The token's gradient. -/
def dtoken (d : Fin 1024) : EReal := dy d + back x (fun e => dnormed wu wd dy z e * g e) d

/-- The token's part of the gain's gradient. -/
def dgain (d : Fin 1024) : EReal := dnormed wu wd dy z d * hat x d

/-- The gates' gradient is that of the product rule where the gradient at the pair's product is real; the gate itself may be
    infinite. -/
theorem dgate_eq (k : Fin 2816) (h : IsReal (dgated wd dy k * z (hi k))) : dgate wd dy z k = dgateRef wd dy z k := by
  unfold dgate dgateRef squash
  obtain ⟨y, hy⟩ := h
  rw [hy]
  generalize z (lo k) = a
  induction a with
  | bot => simp [Ideal.logistic_bot]
  | top =>
    rw [Ideal.logistic_top, show (1 : EReal) - 1 = 0 by rw [← EReal.coe_one, ← EReal.coe_sub, sub_self, EReal.coe_zero]]
    simp
  | coe r =>
    rw [Ideal.logistic_coe, ← EReal.coe_one]
    norm_cast
    ring

end

section Real

variable {x g : Fin 1024 → EReal} {wu : Fin 5632 → Fin 1024 → EReal} {wd : Fin 2816 → Fin 1024 → EReal} {dy : Fin 1024 → EReal}

theorem half_real : IsReal half := ⟨_, ofBits_half⟩

/-- The gradient at a pair's product is real when the gain, the value's weights, the down projection and the incoming gradient
    are; the token and the gate's weights may be infinite. -/
theorem pair_real (hg : ∀ d, IsReal (g d)) (hu : ∀ k d, IsReal (wu (hi k) d)) (hd : ∀ k d, IsReal (wd k d)) (hy : ∀ d, IsReal (dy d)) (k : Fin 2816) :
    IsReal (dgated wd dy k * cols x g wu (hi k)) :=
  IsReal.mul (isReal_sum _ fun d => (half_real.mul (hy d)).mul (hd k d))
    (isReal_sum _ fun d => ((hat_real x d).mul (hg d)).mul (hu k d))

end Real

end Cert.Ffn

end

end
-- ==== Proof.Products.lean ====
/-
  Products, sums and spreads of matrices of any size, as the kernels take them, read at one index.
-/
module

public import proofs.«01_k».proof.Proof.Words
public import Idealize.ShloMosaic.Lib.Pipeline.Value
public import Idealize.ShloMosaic.Lib.Pipeline.ValueKit.Tiles
public import Idealize.ShloMosaic.Lib.Pipeline.ReadBack
public import Idealize.ShloMosaic.Lib.MatmulPlain
public import Idealize.ShloMosaic.Lib.ValueLayout
public import Idealize.ShloMosaic.Lib.ValueLayoutCasts

@[expose] public section

noncomputable section

open Idealize.ShloMosaic Idealize.ShloMosaic.ValueIdx Cert.Words

namespace Cert.Products

variable {m k n : ℕ}

/-- A matrix's shape. -/
abbrev Mat (m n : ℕ) : Shape := ⟨2, ![m, n]⟩

/-- Rows against rows, added to zeros. -/
theorem rows_rows (x : FVec Ideal (Mat m k) .bf16) (y : FVec Ideal (Mat n k) .bf16) (i : Fin m) (j : Fin n) :
    matmul (DotDims.transposedRhs m k n) none x y (constant (Mat m n) .f32 0x00000000#32) (ix2 i j) = ∑ d : Fin k, x (ix2 i d) * y (ix2 j d) := by
  show FloatOps.matmul _ _ _ _ _ _ = _
  rw [Ideal.matmul_transposedRhs_apply]
  show Ideal.ofBits .f32 0x00000000#32 + _ = _
  rw [zeroWord, zero_add]

/-- Rows against columns, added to zeros. -/
theorem rows_cols (x : FVec Ideal (Mat m k) .bf16) (y : FVec Ideal (Mat k n) .bf16) (i : Fin m) (j : Fin n) :
    matmul (DotDims.plain m k n) none x y (constant (Mat m n) .f32 0x00000000#32) (ix2 i j) = ∑ d : Fin k, x (ix2 i d) * y (ix2 d j) := by
  show FloatOps.matmul _ _ _ _ _ _ = _
  rw [Ideal.matmul_plain_apply]
  show Ideal.ofBits .f32 0x00000000#32 + _ = _
  rw [zeroWord, zero_add]

theorem lift_row (h : (Mat m n).Reduces [1] ⟨1, ![m]⟩) (i : Fin m) (j : Fin n) : h.lift (ix1 i) j = ix2 i j :=
  funext fun a => Fin.ext (match a with
    | ⟨0, _⟩ => rfl
    | ⟨1, _⟩ => rfl)

theorem lift_col (h : (Mat m n).Reduces [0] ⟨1, ![n]⟩) (j : Fin n) (i : Fin m) : h.lift (ix1 j) i = ix2 i j :=
  funext fun a => Fin.ext (match a with
    | ⟨0, _⟩ => rfl
    | ⟨1, _⟩ => rfl)

/-- The sum of a row, kept as a column. -/
theorem rowSum (x : FVec Ideal (Mat m n) .f32) (h : (Mat m n).Reduces [1] ⟨1, ![m]⟩) (hf) (ha) (hc : (⟨1, ![m]⟩ : Shape).ShapeCasts (Mat m 1))
    (i : Fin m) (u : Fin 1) : shapeCast (Mat m 1) (multiReduction .add [1] ⟨1, ![m]⟩ x 0x00000000#32 h hf ha) hc (ix2 i u) = ∑ j, x (ix2 i j) := by
  rw [shapeCast_a_a1_apply]
  refine (Ideal.multiReduction_add_single x _ h _ _ (ix1 i)).trans ?_
  exact Finset.sum_congr rfl fun j _ => congrArg x (lift_row h i j)

/-- The sum of a column, kept as a row. -/
theorem colSum (x : FVec Ideal (Mat m n) .f32) (h : (Mat m n).Reduces [0] ⟨1, ![n]⟩) (hf) (ha) (hc : (⟨1, ![n]⟩ : Shape).ShapeCasts (Mat 1 n))
    (u : Fin 1) (j : Fin n) : shapeCast (Mat 1 n) (multiReduction .add [0] ⟨1, ![n]⟩ x 0x00000000#32 h hf ha) hc (ix2 u j) = ∑ i, x (ix2 i j) := by
  rw [shapeCast_a_1a_apply]
  refine (Ideal.multiReduction_add_single x _ h _ _ (ix1 j)).trans ?_
  exact Finset.sum_congr rfl fun i _ => congrArg x (lift_col h j i)

/-- A column spread over a row's entries. -/
theorem spreadCol {α : Type} (x : (Mat m 1).Idx → α) (h : (Mat m 1).Broadcasts (Mat m n)) (hm : m ≠ 1) (i : Fin m) (j : Fin n) :
    broadcastTo (Mat m n) x h (ix2 i j) = x (ix2 i 0) :=
  broadcastTo_apply x _ _ _ fun a => match a with
    | ⟨0, _⟩ => (if_neg hm).symm
    | ⟨1, _⟩ => rfl

/-- A row spread over the rows. -/
theorem spreadRow {α : Type} (x : (Mat 1 n).Idx → α) (h : (Mat 1 n).Broadcasts (Mat m n)) (hn : n ≠ 1) (i : Fin m) (j : Fin n) :
    broadcastTo (Mat m n) x h (ix2 i j) = x (ix2 0 j) :=
  broadcastTo_apply x _ _ _ fun a => match a with
    | ⟨0, _⟩ => rfl
    | ⟨1, _⟩ => (if_neg hn).symm

/-- A block of rows and columns of a matrix, read at one index. -/
theorem ld_block {M N : ℕ} {e : EltTy} (x : (Mat M N).Idx → Elt Ideal e) (r c : ℕ)
    (inb : ∀ a, (![r, c] : Fin 2 → ℕ) a + (![m, n] : Fin 2 → ℕ) a ≤ (Mat M N).size a) (i : Fin m) (j : Fin n) (I : Fin M) (J : Fin N)
    (hI : I.val = r + i.val) (hJ : J.val = c + j.val) :
    View.ld (Val := Elt Ideal) (e' := e) x (Rect.unit (s := Mat M N) ![r, c] ![m, n] inb) (ix2 i j) = x (ix2 I J) :=
  View.ld_unit_apply_of _ _ _ _ _ _ fun a => match a with
    | ⟨0, _⟩ => hI
    | ⟨1, _⟩ => hJ

/-- Where a block of rows and columns lies in its matrix. -/
theorem emb_block {M N : ℕ} (r c : ℕ) (inb : ∀ a, (![r, c] : Fin 2 → ℕ) a + (![m, n] : Fin 2 → ℕ) a ≤ (Mat M N).size a) (i : Fin m) (j : Fin n)
    (I : Fin M) (J : Fin N) (hI : I.val = r + i.val) (hJ : J.val = c + j.val) :
    (Rect.unit (s := Mat M N) ![r, c] ![m, n] inb).emb (ix2 i j) = ix2 I J :=
  funext fun a => Fin.ext ((Rect.idx_unit_val _ _ _ _ a).trans (match a with
    | ⟨0, _⟩ => hI.symm
    | ⟨1, _⟩ => hJ.symm))

/-- Stores that are blocks of `G` and cover it leave `G`. -/
theorem canon_tiles {s : Shape} {e : EltTy} (G : s.Idx → Elt Ideal e) (L : List (View.Piece (Elt Ideal) s e)) (h : View.PiecesOf G L)
    (hc : ∀ y, ∃ p ∈ L, y ∈ p.1.set) : View.canon L = G :=
  funext fun y => (by rw [List.append_nil] : View.canon L y = View.canon (L ++ []) y).trans (View.canon_append_of_piecesOf G [] L h y (hc y))

/-- A store that is `G` everywhere, after another one, leaves `G`. -/
theorem canon_over {s : Shape} {e : EltTy} (G : s.Idx → Elt Ideal e) (p z : View.Piece (Elt Ideal) s e) (h : View.PiecesOf G [p])
    (hc : ∀ y, ∃ q ∈ [p], y ∈ q.1.set) : View.canon [p, z] = G :=
  funext fun y => View.canon_append_of_piecesOf G [z] [p] h y (hc y)

/-- A load of a whole buffer. -/
theorem ld_whole {m n : ℕ} {e : EltTy} (x : (Mat m n).Idx → Elt Ideal e) (inb) :
    View.ld (Val := Elt Ideal) (e' := e) x (Rect.unit (s := Mat m n) ![0, 0] (Mat m n).size inb) = x :=
  funext fun y => by
    obtain ⟨i, j, rfl⟩ : ∃ (i : Fin m) (j : Fin n), y = ix2 i j := ⟨y 0, y 1, eq_ix2 y⟩
    exact ld_block x 0 0 inb i j i j (Nat.zero_add _).symm (Nat.zero_add _).symm

theorem ld_full {m n : ℕ} {e : EltTy} (x : (Mat m n).Idx → Elt Ideal e) (inb) :
    View.ld (Val := Elt Ideal) (e' := e) x (Rect.unit (s := Mat m n) ![0, 0] ![m, n] inb) = x := ld_whole x inb

/-- An index of a matrix from its two coordinates. -/
theorem ix2_of {M N : ℕ} (e : (Mat M N).Idx) (I : Fin M) (J : Fin N) (h0 : (e 0).val = I.val) (h1 : (e 1).val = J.val) : e = ix2 I J :=
  funext fun a => Fin.ext (match a with
    | ⟨0, _⟩ => h0
    | ⟨1, _⟩ => h1)

/-- A row lies in the tile of `B` rows its number falls in. -/
theorem mem_tile {M N B : ℕ} (hB : 0 < B) (off : Fin 2 → ℕ) (inb : ∀ a, off a + (![B, N] : Fin 2 → ℕ) a ≤ (Mat M N).size a) (i : (Mat M N).Idx)
    (h0 : off 0 = (i 0).val / B * B) (h1 : off 1 = 0) : i ∈ (Rect.unit (s := Mat M N) off ![B, N] inb).set := by
  rw [Rect.mem_set_unit]
  intro a
  match a with
  | ⟨0, _⟩ =>
    show off 0 ≤ (i 0).val ∧ (i 0).val < off 0 + B
    rw [h0]
    have := Nat.div_add_mod' (i 0).val B
    have := Nat.mod_lt (i 0).val hB
    omega
  | ⟨1, _⟩ =>
    show off 1 ≤ (i 1).val ∧ (i 1).val < off 1 + N
    rw [h1, Nat.zero_add]
    exact ⟨Nat.zero_le _, (i 1).isLt⟩

/-! ## An array at an index given by its coordinates -/

theorem at1 {α : Type} {a : ℕ} (f : (⟨1, ![a]⟩ : Shape).Idx → α) (i : (⟨1, ![a]⟩ : Shape).Idx) (x : Fin a) (hx : (i 0).val = x.val) :
    f i = f (ix1 x) :=
  congrArg f (funext fun b => Fin.ext (match b with | ⟨0, _⟩ => hx))

theorem at2 {α : Type} {a b : ℕ} (f : (Mat a b).Idx → α) (i : (Mat a b).Idx) (x : Fin a) (y : Fin b) (hx : (i 0).val = x.val) (hy : (i 1).val = y.val) :
    f i = f (ix2 x y) := congrArg f (ix2_of i x y hx hy)

end Cert.Products

end

end
-- ==== Proof.FfnTile.lean ====
/-
  What one grid point of each of the two kernels leaves in its result blocks, as functions of its input blocks: the forward
  kernel's tokens and columns, and the backward kernel's gradients, its tokens' part of the gain's gradient added to what
  the block held — to zeros at the first point.
-/
module

public import proofs.«01_k».proof.Proof.FfnRows
public import proofs.«01_k».proof.Proof.Products
public import proofs.«01_k».proof.Proof.Gen.Kernel2Ideal.Frame
public import Idealize.ShloMosaic.Lib.Tactic

@[expose] public section

noncomputable section

namespace Cert.Kernel2Ideal.Ffn

open Cert.Kernel2Ideal Cert.Kernel2Ideal.Gen Idealize.ShloMosaic Idealize.ShloMosaic.ValueIdx Idealize.ShloMosaic.TcCoe Idealize.SL.Sem
  Cert.Words Cert.Norm Cert.Ffn Cert.Products

/-- Row `i` of a matrix. -/
abbrev rowOf {m n : ℕ} (x : (Mat m n).Idx → EReal) (i : Fin m) (j : Fin n) : EReal := x (ix2 i j)

/-! ## The forward kernel -/

section Forward

variable (x : Vec Ideal S512x1024 .f32) (g : Vec Ideal S1x1024 .f32)

theorem fwd_normed (t : Fin 512) (d : Fin 1024) : k0_pay1 (F := Ideal) x g (ix2 t d) = normed (rowOf x t) (rowOf g 0) d := by
  unfold k0_pay1
  dsimp only
  show x (ix2 t d) * broadcastTo _ _ _ _ * broadcastTo _ _ _ _ = _
  rw [spreadCol _ _ (by decide), spreadRow _ _ (by decide)]
  show _ * Ideal.rsqrt (Ideal.div (shapeCast _ _ _ _) width + eps) * _ = _
  exact congrArg (fun s => _ * Ideal.rsqrt (Ideal.div s width + eps) * _) (rowSum (mulf x x) _ _ _ _ t 0)

theorem fwd_gate (w : Vec Ideal S2816x1024 .bf16) (t : Fin 512) (k : Fin 2816) :
    k0_pay2 (F := Ideal) x g w (ix2 t k) = ∑ d, normed (rowOf x t) (rowOf g 0) d * w (ix2 k d) := by
  unfold k0_pay2
  rw [show dot_S512x1024_S2816x1024_S512x2816_1_1_0_0_n_n = DotDims.transposedRhs 512 1024 2816 from rfl]
  refine (rows_rows _ _ t k).trans ?_
  simp only [fwd_normed]

theorem fwd_value (w : Vec Ideal S2816x1024 .bf16) (t : Fin 512) (k : Fin 2816) :
    k0_pay3 (F := Ideal) x g w (ix2 t k) = ∑ d, normed (rowOf x t) (rowOf g 0) d * w (ix2 k d) := by
  unfold k0_pay3
  rw [show dot_S512x1024_S2816x1024_S512x2816_1_1_0_0_n_n = DotDims.transposedRhs 512 1024 2816 from rfl]
  refine (rows_rows _ _ t k).trans ?_
  simp only [fwd_normed]

variable (wu : Vec Ideal S5632x1024 .bf16) (wd : Vec Ideal S2816x1024 .bf16)

/-- A token's columns. -/
abbrev colsOf (t : Fin 512) : Fin 5632 → EReal := cols (rowOf x t) (rowOf g 0) (rowOf wu)

/-- The tokens' block and the columns' block. -/
def outBlk (y : S512x1024.Idx) : EReal := outRow (rowOf x (y 0)) (rowOf wd) (colsOf x g wu (y 0)) (y 1)
def colsBlk (y : S512x5632.Idx) : EReal := colsOf x g wu (y 0) (y 1)

theorem gate_at (t : Fin 512) (k : Fin 2816) : k0_pay2 (F := Ideal) x g (View.ld wu r0_2) (ix2 t k) = colsOf x g wu t (lo k) := by
  rw [fwd_gate]
  refine Finset.sum_congr rfl fun d _ => congrArg _ ?_
  exact ld_block wu 0 0 _ k d (lo k) d (Nat.zero_add _).symm (Nat.zero_add _).symm

theorem value_at (t : Fin 512) (k : Fin 2816) : k0_pay3 (F := Ideal) x g (View.ld wu r0_3) (ix2 t k) = colsOf x g wu t (hi k) := by
  rw [fwd_value]
  refine Finset.sum_congr rfl fun d _ => congrArg _ ?_
  exact ld_block wu 2816 0 _ k d (hi k) d rfl (Nat.zero_add _).symm

theorem fwd_out (t : Fin 512) (d : Fin 1024) :
    k0_pay6 (F := Ideal) x g (View.ld wu r0_2) (View.ld wu r0_3) wd (ix2 t d) = outRow (rowOf x t) (rowOf wd) (colsOf x g wu t) d := by
  have ha := gate_at x g wu t
  have hb := value_at x g wu t
  unfold k0_pay6
  generalize k0_pay2 x g (View.ld wu r0_2) = a at ha ⊢
  generalize k0_pay3 x g (View.ld wu r0_3) = b at hb ⊢
  rw [show dot_S512x2816_S2816x1024_S512x1024_1_0_0_1_n_n = DotDims.plain 512 2816 1024 from rfl]
  show x (ix2 t d) + half * (Ideal.ofBits .f32 0x00000000#32 + (matmul (F := Ideal) (DotDims.plain 512 2816 1024) _ _ _ _ (ix2 t d) : EReal)) = _
  rw [zeroWord, zero_add]
  refine congrArg (x (ix2 t d) + half * ·) ((rows_cols _ _ t d).trans (Finset.sum_congr rfl fun k _ => congrArg (· * _) ?_))
  show a (ix2 t k) * Ideal.logistic (a (ix2 t k)) * b (ix2 t k) = _
  rw [ha, hb]
  rfl

theorem out_4 : out0_4 (F := Ideal) x g wu wd = outBlk x g wu wd := by
  unfold out0_4
  rw [ld_whole, ld_whole, ld_whole]
  refine canon_tiles (s := S512x1024) (e := .f32) (outBlk x g wu wd) _ ?_ (cover0_4 _)
  refine ⟨fun y => ?_, trivial⟩
  obtain ⟨t, d, rfl⟩ : ∃ (t : Fin 512) (d : Fin 1024), y = ix2 t d := ⟨y 0, y 1, eq_ix2 y⟩
  rw [emb_block 0 0 _ t d t d (Nat.zero_add _).symm (Nat.zero_add _).symm]
  exact fwd_out x g wu wd t d

theorem out_5 : out0_5 (F := Ideal) x g wu wd = colsBlk x g wu := by
  unfold out0_5
  rw [ld_whole, ld_whole]
  refine canon_tiles (s := S512x5632) (e := .bf16) (colsBlk x g wu) _ ?_ (cover0_5 _ _)
  refine ⟨fun y => ?_, fun y => ?_, trivial⟩
  · obtain ⟨t, k, rfl⟩ : ∃ (t : Fin 512) (k : Fin 2816), y = ix2 t k := ⟨y 0, y 1, eq_ix2 y⟩
    rw [emb_block 0 2816 _ t k t (hi k) (Nat.zero_add _).symm rfl]
    exact value_at x g wu t k
  · obtain ⟨t, k, rfl⟩ : ∃ (t : Fin 512) (k : Fin 2816), y = ix2 t k := ⟨y 0, y 1, eq_ix2 y⟩
    rw [emb_block 0 0 _ t k t (lo k) (Nat.zero_add _).symm (Nat.zero_add _).symm]
    exact gate_at x g wu t k

end Forward

/-! ## The backward kernel -/

section Backward

variable (x dy : Vec Ideal S256x1024 .f32) (z : Vec Ideal S256x5632 .bf16) (g : Vec Ideal S1x1024 .f32)
  (wu : Vec Ideal S5632x1024 .bf16) (wd : Vec Ideal S2816x1024 .bf16)

theorem bwd_inv (t : Fin 256) (u : Fin 1) : k1_pay2 (F := Ideal) x (ix2 t u) = inv (rowOf x t) := by
  unfold k1_pay2
  exact congrArg (fun s => Ideal.rsqrt (Ideal.div s width + eps)) (rowSum (mulf x x) _ _ _ _ t u)

theorem bwd_hat (t : Fin 256) (d : Fin 1024) : k1_pay3 (F := Ideal) x (ix2 t d) = hat (rowOf x t) d := by
  unfold k1_pay3
  show x (ix2 t d) * broadcastTo _ _ _ _ = _
  rw [spreadCol _ _ (by decide), bwd_inv]
  rfl

theorem bwd_normed (t : Fin 256) (d : Fin 1024) : k1_pay4 (F := Ideal) x g (ix2 t d) = normed (rowOf x t) (rowOf g 0) d := by
  unfold k1_pay4
  show k1_pay3 x (ix2 t d) * broadcastTo _ _ _ _ = _
  rw [spreadRow _ _ (by decide), bwd_hat]
  rfl

theorem bwd_dgated (t : Fin 256) (k : Fin 2816) : k1_pay8 (F := Ideal) dy wd (ix2 t k) = dgated (rowOf wd) (rowOf dy t) k := by
  unfold k1_pay8
  rw [show dot_S256x1024_S2816x1024_S256x2816_1_1_0_0_n_n = DotDims.transposedRhs 256 1024 2816 from rfl]
  exact rows_rows _ _ t k

/-- The gates' columns and the values' columns of the block. -/
abbrev gates : Vec Ideal S256x2816 .bf16 :=
  View.ld z (Rect.unit (s := S256x5632) ![0, 0] S256x2816.size inb_S256x5632_S256x2816_0_0)
abbrev values : Vec Ideal S256x2816 .bf16 :=
  View.ld z (Rect.unit (s := S256x5632) ![0, 2816] S256x2816.size inb_S256x5632_S256x2816_0_2816)

theorem gates_at (t : Fin 256) (k : Fin 2816) : k1_pay6 (F := Ideal) (gates z) (ix2 t k) = rowOf z t (lo k) := by
  unfold k1_pay6
  rw [shapeCast_self]
  exact ld_block z 0 0 _ t k t (lo k) (Nat.zero_add _).symm (Nat.zero_add _).symm

theorem values_at (t : Fin 256) (k : Fin 2816) : k1_pay7 (F := Ideal) (values z) (ix2 t k) = rowOf z t (hi k) := by
  unfold k1_pay7
  rw [shapeCast_self]
  exact ld_block z 0 2816 _ t k t (hi k) (Nat.zero_add _).symm rfl

theorem bwd_sig (t : Fin 256) (k : Fin 2816) : k1_pay9 (F := Ideal) (gates z) (ix2 t k) = squash (rowOf z t) k := by
  unfold k1_pay9
  exact congrArg Ideal.logistic (gates_at z t k)

theorem bwd_silu (t : Fin 256) (k : Fin 2816) : k1_pay10 (F := Ideal) (gates z) (ix2 t k) = rowOf z t (lo k) * squash (rowOf z t) k := by
  unfold k1_pay10
  exact congrArg₂ (· * ·) (gates_at z t k) (bwd_sig z t k)

theorem bwd_gated (t : Fin 256) (k : Fin 2816) : k1_pay11 (F := Ideal) (gates z) (values z) (ix2 t k) = gated (rowOf z t) k := by
  unfold k1_pay11
  exact congrArg₂ (· * ·) (bwd_silu z t k) (values_at z t k)

theorem bwd_dpair (t : Fin 256) (k : Fin 2816) :
    k1_pay12 (F := Ideal) dy (values z) wd (ix2 t k) = dgated (rowOf wd) (rowOf dy t) k * rowOf z t (hi k) := by
  unfold k1_pay12
  exact congrArg₂ (· * ·) (bwd_dgated dy wd t k) (values_at z t k)

/-- The gates' and the values' gradients the kernel holds. -/
abbrev dgateT : FVec Ideal S256x2816 .bf16 := k1_pay13 (k1_pay6 (gates z)) (k1_pay9 (gates z)) (k1_pay12 dy (values z) wd)
abbrev dvalueT : FVec Ideal S256x2816 .bf16 := k1_pay14 (k1_pay8 dy wd) (k1_pay10 (gates z))

theorem bwd_dgate (t : Fin 256) (k : Fin 2816) : dgateT dy z wd (ix2 t k) = dgate (rowOf wd) (rowOf dy t) (rowOf z t) k := by
  have ha := gates_at z t k
  have hs := bwd_sig z t k
  have hp := bwd_dpair dy z wd t k
  unfold dgateT k1_pay13
  show k1_pay12 dy (values z) wd (ix2 t k) * (k1_pay9 (gates z) (ix2 t k)
    * (Ideal.ofBits .f32 0x3F800000#32 + k1_pay6 (gates z) (ix2 t k) * (Ideal.ofBits .f32 0x3F800000#32 - k1_pay9 (gates z) (ix2 t k)))) = _
  rw [ha, hs, hp, ofBits_one]
  rfl

theorem bwd_dvalue (t : Fin 256) (k : Fin 2816) : dvalueT dy z wd (ix2 t k) = dvalue (rowOf wd) (rowOf dy t) (rowOf z t) k := by
  unfold dvalueT k1_pay14
  exact congrArg₂ (· * ·) (bwd_dgated dy wd t k) (bwd_silu z t k)

/-- The two halves of the up projection's weights. -/
abbrev upLo : Vec Ideal S2816x1024 .bf16 := View.ld wu (Rect.unit (s := S5632x1024) ![0, 0] S2816x1024.size inb_S5632x1024_S2816x1024_0_0)
abbrev upHi : Vec Ideal S2816x1024 .bf16 := View.ld wu (Rect.unit (s := S5632x1024) ![2816, 0] S2816x1024.size inb_S5632x1024_S2816x1024_2816_0)

/-- The normed tokens' gradient the kernel holds. -/
abbrev dnormedT : FVec Ideal S256x1024 .f32 :=
  k1_pay15 k1_pay5 (k1_pay6 (gates z)) (k1_pay8 dy wd) (k1_pay9 (gates z)) (k1_pay10 (gates z)) (k1_pay12 dy (values z) wd) (upLo wu) (upHi wu)

/-- A token's gradient of its normed row. -/
abbrev dnormedOf (t : Fin 256) : Fin 1024 → EReal := dnormed (rowOf wu) (rowOf wd) (rowOf dy t) (rowOf z t)

theorem bwd_dnormed (t : Fin 256) (d : Fin 1024) : dnormedT dy z wu wd (ix2 t d) = dnormedOf dy z wu wd t d := by
  unfold dnormedT k1_pay15
  rw [show dot_S256x2816_S2816x1024_S256x1024_1_0_0_1_n_n = DotDims.plain 256 2816 1024 from rfl]
  show (k1_pay5 (F := Ideal) (ix2 t d) + (matmul (F := Ideal) (DotDims.plain 256 2816 1024) _ (dgateT dy z wd) (upLo wu) _ (ix2 t d) : EReal))
    + (matmul (F := Ideal) (DotDims.plain 256 2816 1024) _ (dvalueT dy z wd) (upHi wu) _ (ix2 t d) : EReal) = _
  unfold dnormedOf dnormed dcols
  rw [sum_cols]
  refine congrArg₂ (· + ·) ((congrArg₂ (· + ·) (show k1_pay5 (F := Ideal) (ix2 t d) = 0 from zeroWord) (rows_cols _ _ t d)).trans ?_)
    ((rows_cols _ _ t d).trans ?_)
  · rw [zero_add]
    refine Finset.sum_congr rfl fun k _ => ?_
    rw [join_lo, bwd_dgate]
    exact congrArg (_ * ·) (ld_block wu 0 0 _ k d (lo k) d (Nat.zero_add _).symm (Nat.zero_add _).symm)
  · refine Finset.sum_congr rfl fun k _ => ?_
    rw [join_hi, bwd_dvalue]
    exact congrArg (_ * ·) (ld_block wu 2816 0 _ k d (hi k) d rfl (Nat.zero_add _).symm)

theorem bwd_token (t : Fin 256) (d : Fin 1024) :
    k1_pay16 (F := Ideal) (k1_pay2 x) (k1_pay3 x) g dy k1_pay5 (k1_pay6 (gates z)) (k1_pay8 dy wd) (k1_pay9 (gates z)) (k1_pay10 (gates z))
      (k1_pay12 dy (values z) wd) (upLo wu) (upHi wu) (ix2 t d)
      = dtoken (rowOf x t) (rowOf g 0) (rowOf wu) (rowOf wd) (rowOf dy t) (rowOf z t) d := by
  have hn := bwd_dnormed dy z wu wd t
  unfold k1_pay16
  unfold dnormedT at hn
  generalize k1_pay15 k1_pay5 (k1_pay6 (gates z)) (k1_pay8 dy wd) (k1_pay9 (gates z)) (k1_pay10 (gates z)) (k1_pay12 dy (values z) wd) (upLo wu) (upHi wu)
    = u at hn ⊢
  have hu : ∀ e, mulf (F := Ideal) u (broadcastTo S256x1024 g broadcasts_S1x1024_S256x1024) (ix2 t e) = dnormedOf dy z wu wd t e * rowOf g 0 e := fun e => by
    show u (ix2 t e) * broadcastTo _ _ _ _ = _
    rw [spreadRow _ _ (by decide), hn]
  show dy (ix2 t d) + broadcastTo S256x1024 (k1_pay2 (F := Ideal) x) _ (ix2 t d)
    * (mulf (F := Ideal) u (broadcastTo S256x1024 g broadcasts_S1x1024_S256x1024) (ix2 t d) - k1_pay3 (F := Ideal) x (ix2 t d)
      * broadcastTo S256x1024 (divf (F := Ideal) (φ := .f32) (shapeCast S256x1 _ _) (broadcast S256x1 _)) _ (ix2 t d)) = _
  rw [spreadCol _ _ (by decide), spreadCol _ _ (by decide), bwd_inv, bwd_hat, hu]
  unfold dtoken back
  refine congrArg (fun s => dy (ix2 t d) + inv (rowOf x t) * (dnormedOf dy z wu wd t d * rowOf g 0 d - hat (rowOf x t) d * Ideal.div s width))
    ((rowSum (mulf (F := Ideal) (mulf u (broadcastTo S256x1024 g broadcasts_S1x1024_S256x1024)) (k1_pay3 x)) _ _ _ _ t 0).trans (Finset.sum_congr rfl fun e _ => ?_))
  exact congrArg₂ (· * ·) (hu e) (bwd_hat x t e)

theorem bwd_gain (o : Vec Ideal S1x1024 .f32) (u : Fin 1) (d : Fin 1024) :
    k1_pay1 (F := Ideal) (k1_pay3 x) (dnormedT dy z wu wd) o (ix2 u d)
      = o (ix2 u d) + ∑ t, dgain (rowOf x t) (rowOf wu) (rowOf wd) (rowOf dy t) (rowOf z t) d := by
  have hn := bwd_dnormed dy z wu wd
  generalize dnormedT dy z wu wd = v at hn ⊢
  unfold k1_pay1
  rw [shapeCast_self]
  refine congrArg (o (ix2 u d) + ·) ((colSum _ _ _ _ _ u d).trans (Finset.sum_congr rfl fun t _ => ?_))
  exact congrArg₂ (· * ·) (hn t d) (bwd_hat x t d)

/-- The five result blocks. -/
def tokenBlk (y : S256x1024.Idx) : EReal := dtoken (rowOf x (y 0)) (rowOf g 0) (rowOf wu) (rowOf wd) (rowOf dy (y 0)) (rowOf z (y 0)) (y 1)
def dcolsBlk (y : S256x5632.Idx) : EReal := dcols (rowOf wd) (rowOf dy (y 0)) (rowOf z (y 0)) (y 1)
def gatedBlk (y : S256x2816.Idx) : EReal := gated (rowOf z (y 0)) (y 1)
def normedBlk (y : S256x1024.Idx) : EReal := normed (rowOf x (y 0)) (rowOf g 0) (y 1)
def gainBlk (o : S1x1024.Idx → EReal) (y : S1x1024.Idx) : EReal :=
  o y + ∑ t, dgain (rowOf x t) (rowOf wu) (rowOf wd) (rowOf dy t) (rowOf z t) (y 1)

section Stores

include x in
theorem store_6 (inb) (y : (Rect.unit (s := S256x1024) ![0, 0] ![256, 1024] inb).shape.Idx) :
    k1_pay16 (F := Ideal) (k1_pay2 x) (k1_pay3 x) g dy k1_pay5 (k1_pay6 (gates z)) (k1_pay8 dy wd) (k1_pay9 (gates z)) (k1_pay10 (gates z))
      (k1_pay12 dy (values z) wd) (upLo wu) (upHi wu) y = tokenBlk x dy z g wu wd ((Rect.unit (s := S256x1024) ![0, 0] ![256, 1024] inb).emb y) := by
  obtain ⟨t, d, rfl⟩ : ∃ (t : Fin 256) (d : Fin 1024), y = ix2 t d := ⟨y 0, y 1, eq_ix2 y⟩
  rw [emb_block 0 0 _ t d t d (Nat.zero_add _).symm (Nat.zero_add _).symm]
  exact bwd_token x dy z g wu wd t d

theorem store_7_lo (inb) (y : (Rect.unit (s := S256x5632) ![0, 0] ![256, 2816] inb).shape.Idx) :
    dgateT dy z wd y = dcolsBlk dy z wd ((Rect.unit (s := S256x5632) ![0, 0] ![256, 2816] inb).emb y) := by
  obtain ⟨t, k, rfl⟩ : ∃ (t : Fin 256) (k : Fin 2816), y = ix2 t k := ⟨y 0, y 1, eq_ix2 y⟩
  rw [emb_block 0 0 _ t k t (lo k) (Nat.zero_add _).symm (Nat.zero_add _).symm]
  exact (bwd_dgate dy z wd t k).trans (join_lo _ _ k).symm

theorem store_7_hi (inb) (y : (Rect.unit (s := S256x5632) ![0, 2816] ![256, 2816] inb).shape.Idx) :
    dvalueT dy z wd y = dcolsBlk dy z wd ((Rect.unit (s := S256x5632) ![0, 2816] ![256, 2816] inb).emb y) := by
  obtain ⟨t, k, rfl⟩ : ∃ (t : Fin 256) (k : Fin 2816), y = ix2 t k := ⟨y 0, y 1, eq_ix2 y⟩
  rw [emb_block 0 2816 _ t k t (hi k) (Nat.zero_add _).symm rfl]
  exact (bwd_dvalue dy z wd t k).trans (join_hi _ _ k).symm

theorem store_8 (inb) (y : (Rect.unit (s := S256x2816) ![0, 0] ![256, 2816] inb).shape.Idx) :
    k1_pay11 (F := Ideal) (gates z) (values z) y = gatedBlk z ((Rect.unit (s := S256x2816) ![0, 0] ![256, 2816] inb).emb y) := by
  obtain ⟨t, k, rfl⟩ : ∃ (t : Fin 256) (k : Fin 2816), y = ix2 t k := ⟨y 0, y 1, eq_ix2 y⟩
  rw [emb_block 0 0 _ t k t k (Nat.zero_add _).symm (Nat.zero_add _).symm]
  exact bwd_gated z t k

theorem store_9 (inb) (y : (Rect.unit (s := S256x1024) ![0, 0] ![256, 1024] inb).shape.Idx) :
    k1_pay4 (F := Ideal) x g y = normedBlk x g ((Rect.unit (s := S256x1024) ![0, 0] ![256, 1024] inb).emb y) := by
  obtain ⟨t, d, rfl⟩ : ∃ (t : Fin 256) (d : Fin 1024), y = ix2 t d := ⟨y 0, y 1, eq_ix2 y⟩
  rw [emb_block 0 0 _ t d t d (Nat.zero_add _).symm (Nat.zero_add _).symm]
  exact bwd_normed x g t d

theorem store_10 (o : Vec Ideal S1x1024 .f32) (inb) (y : (Rect.unit (s := S1x1024) ![0, 0] ![1, 1024] inb).shape.Idx) :
    k1_pay1 (F := Ideal) (k1_pay3 x) (dnormedT dy z wu wd) o y = gainBlk x dy z wu wd o ((Rect.unit (s := S1x1024) ![0, 0] ![1, 1024] inb).emb y) := by
  obtain ⟨u, d, rfl⟩ : ∃ (u : Fin 1) (d : Fin 1024), y = ix2 u d := ⟨y 0, y 1, eq_ix2 y⟩
  rw [emb_block 0 0 _ u d u d (Nat.zero_add _).symm (Nat.zero_add _).symm]
  exact bwd_gain x dy z wu wd o u d

end Stores

variable (c : Dev nD) (i : grid1.Coords) (a1 : Memref sig .tc .vmem S256x1024 .f32) (h1 : a1.IsWhole) (a2 : Memref sig .tc .vmem S256x1024 .f32) (h2 : a2.IsWhole)
  (a3 : Memref sig .tc .vmem S256x5632 .bf16) (h3 : a3.IsWhole) (a4 : Memref sig .tc .vmem S1x1024 .f32) (h4 : a4.IsWhole)
  (a5 : Memref sig .tc .vmem S5632x1024 .bf16) (h5 : a5.IsWhole) (a6 : Memref sig .tc .vmem S2816x1024 .bf16) (h6 : a6.IsWhole)
  (a7 : Memref sig .tc .vmem S256x1024 .f32) (h7 : a7.IsWhole) (a8 : Memref sig .tc .vmem S256x5632 .bf16) (h8 : a8.IsWhole)
  (a9 : Memref sig .tc .vmem S256x2816 .bf16) (h9 : a9.IsWhole) (a10 : Memref sig .tc .vmem S256x1024 .bf16) (h10 : a10.IsWhole)
  (a11 : Memref sig .tc .vmem S1x1024 .f32) (h11 : a11.IsWhole)

theorem out_A_6 (hc : cond1_0 i) : out1_A_6 (F := Ideal) c i a1 h1 a2 h2 a3 h3 a4 h4 a5 h5 a6 h6 a7 h7 a8 h8 a9 h9 a10 h10 a11 h11 hc x dy z g wu wd = tokenBlk x dy z g wu wd := by
  have hcov := cover1_A_6 (F := Ideal) c i a1 h1 a2 h2 a3 h3 a4 h4 a5 h5 a6 h6 a7 h7 a8 h8 a9 h9 a10 h10 a11 h11 hc x dy z g wu wd
  unfold out1_A_6
  rw [View.read_writes_eq_canon _ _ _ hcov]
  refine canon_tiles (s := S256x1024) (e := .f32) (tokenBlk x dy z g wu wd) _ ?_ hcov
  unfold kernelRun1_A
  dsimp only
  sl_unfold_words
  simp only [View.readAt_eq_ld, h1.read_unread, h2.read_unread, h3.read_unread, h4.read_unread, h5.read_unread, h6.read_unread, h11.read_unread, ld_full]
  exact ⟨store_6 x dy z g wu wd inb_S256x1024_S256x1024_0_0, trivial⟩

theorem out_A_7 (hc : cond1_0 i) : out1_A_7 (F := Ideal) c i a1 h1 a2 h2 a3 h3 a4 h4 a5 h5 a6 h6 a7 h7 a8 h8 a9 h9 a10 h10 a11 h11 hc x dy z g wu wd = dcolsBlk dy z wd := by
  have hcov := cover1_A_7 (F := Ideal) c i a1 h1 a2 h2 a3 h3 a4 h4 a5 h5 a6 h6 a7 h7 a8 h8 a9 h9 a10 h10 a11 h11 hc x dy z g wu wd
  unfold out1_A_7
  rw [View.read_writes_eq_canon _ _ _ hcov]
  refine canon_tiles (s := S256x5632) (e := .bf16) (dcolsBlk dy z wd) _ ?_ hcov
  unfold kernelRun1_A
  dsimp only
  sl_unfold_words
  simp only [View.readAt_eq_ld, h1.read_unread, h2.read_unread, h3.read_unread, h4.read_unread, h5.read_unread, h6.read_unread, h11.read_unread, ld_full]
  exact ⟨store_7_hi dy z wd inb_S256x5632_S256x2816_0_2816, store_7_lo dy z wd inb_S256x5632_S256x2816_0_0, trivial⟩

theorem out_A_8 (hc : cond1_0 i) : out1_A_8 (F := Ideal) c i a1 h1 a2 h2 a3 h3 a4 h4 a5 h5 a6 h6 a7 h7 a8 h8 a9 h9 a10 h10 a11 h11 hc x dy z g wu wd = gatedBlk z := by
  have hcov := cover1_A_8 (F := Ideal) c i a1 h1 a2 h2 a3 h3 a4 h4 a5 h5 a6 h6 a7 h7 a8 h8 a9 h9 a10 h10 a11 h11 hc x dy z g wu wd
  unfold out1_A_8
  rw [View.read_writes_eq_canon _ _ _ hcov]
  refine canon_tiles (s := S256x2816) (e := .bf16) (gatedBlk z) _ ?_ hcov
  unfold kernelRun1_A
  dsimp only
  sl_unfold_words
  simp only [View.readAt_eq_ld, h1.read_unread, h2.read_unread, h3.read_unread, h4.read_unread, h5.read_unread, h6.read_unread, h11.read_unread, ld_full]
  exact ⟨store_8 z inb_S256x2816_S256x2816_0_0, trivial⟩

theorem out_A_9 (hc : cond1_0 i) : out1_A_9 (F := Ideal) c i a1 h1 a2 h2 a3 h3 a4 h4 a5 h5 a6 h6 a7 h7 a8 h8 a9 h9 a10 h10 a11 h11 hc x dy z g wu wd = normedBlk x g := by
  have hcov := cover1_A_9 (F := Ideal) c i a1 h1 a2 h2 a3 h3 a4 h4 a5 h5 a6 h6 a7 h7 a8 h8 a9 h9 a10 h10 a11 h11 hc x dy z g wu wd
  unfold out1_A_9
  rw [View.read_writes_eq_canon _ _ _ hcov]
  refine canon_tiles (s := S256x1024) (e := .bf16) (normedBlk x g) _ ?_ hcov
  unfold kernelRun1_A
  dsimp only
  sl_unfold_words
  simp only [View.readAt_eq_ld, h1.read_unread, h2.read_unread, h3.read_unread, h4.read_unread, h5.read_unread, h6.read_unread, h11.read_unread, ld_full]
  exact ⟨store_9 x g inb_S256x1024_S256x1024_0_0, trivial⟩

theorem out_B_6 (hc : ¬cond1_0 i) (o : Vec Ideal S1x1024 .f32) : out1_B_6 (F := Ideal) c i a1 h1 a2 h2 a3 h3 a4 h4 a5 h5 a6 h6 a7 h7 a8 h8 a9 h9 a10 h10 a11 h11 hc x dy z g wu wd o = tokenBlk x dy z g wu wd := by
  have hcov := cover1_B_6 (F := Ideal) c i a1 h1 a2 h2 a3 h3 a4 h4 a5 h5 a6 h6 a7 h7 a8 h8 a9 h9 a10 h10 a11 h11 hc x dy z g wu wd o
  unfold out1_B_6
  rw [View.read_writes_eq_canon _ _ _ hcov]
  refine canon_tiles (s := S256x1024) (e := .f32) (tokenBlk x dy z g wu wd) _ ?_ hcov
  unfold kernelRun1_B
  dsimp only
  sl_unfold_words
  simp only [View.readAt_eq_ld, h1.read_unread, h2.read_unread, h3.read_unread, h4.read_unread, h5.read_unread, h6.read_unread, h11.read_unread, ld_full]
  exact ⟨store_6 x dy z g wu wd inb_S256x1024_S256x1024_0_0, trivial⟩

theorem out_B_7 (hc : ¬cond1_0 i) (o : Vec Ideal S1x1024 .f32) : out1_B_7 (F := Ideal) c i a1 h1 a2 h2 a3 h3 a4 h4 a5 h5 a6 h6 a7 h7 a8 h8 a9 h9 a10 h10 a11 h11 hc x dy z g wu wd o = dcolsBlk dy z wd := by
  have hcov := cover1_B_7 (F := Ideal) c i a1 h1 a2 h2 a3 h3 a4 h4 a5 h5 a6 h6 a7 h7 a8 h8 a9 h9 a10 h10 a11 h11 hc x dy z g wu wd o
  unfold out1_B_7
  rw [View.read_writes_eq_canon _ _ _ hcov]
  refine canon_tiles (s := S256x5632) (e := .bf16) (dcolsBlk dy z wd) _ ?_ hcov
  unfold kernelRun1_B
  dsimp only
  sl_unfold_words
  simp only [View.readAt_eq_ld, h1.read_unread, h2.read_unread, h3.read_unread, h4.read_unread, h5.read_unread, h6.read_unread, h11.read_unread, ld_full]
  exact ⟨store_7_hi dy z wd inb_S256x5632_S256x2816_0_2816, store_7_lo dy z wd inb_S256x5632_S256x2816_0_0, trivial⟩

theorem out_B_8 (hc : ¬cond1_0 i) (o : Vec Ideal S1x1024 .f32) : out1_B_8 (F := Ideal) c i a1 h1 a2 h2 a3 h3 a4 h4 a5 h5 a6 h6 a7 h7 a8 h8 a9 h9 a10 h10 a11 h11 hc x dy z g wu wd o = gatedBlk z := by
  have hcov := cover1_B_8 (F := Ideal) c i a1 h1 a2 h2 a3 h3 a4 h4 a5 h5 a6 h6 a7 h7 a8 h8 a9 h9 a10 h10 a11 h11 hc x dy z g wu wd o
  unfold out1_B_8
  rw [View.read_writes_eq_canon _ _ _ hcov]
  refine canon_tiles (s := S256x2816) (e := .bf16) (gatedBlk z) _ ?_ hcov
  unfold kernelRun1_B
  dsimp only
  sl_unfold_words
  simp only [View.readAt_eq_ld, h1.read_unread, h2.read_unread, h3.read_unread, h4.read_unread, h5.read_unread, h6.read_unread, h11.read_unread, ld_full]
  exact ⟨store_8 z inb_S256x2816_S256x2816_0_0, trivial⟩

theorem out_B_9 (hc : ¬cond1_0 i) (o : Vec Ideal S1x1024 .f32) : out1_B_9 (F := Ideal) c i a1 h1 a2 h2 a3 h3 a4 h4 a5 h5 a6 h6 a7 h7 a8 h8 a9 h9 a10 h10 a11 h11 hc x dy z g wu wd o = normedBlk x g := by
  have hcov := cover1_B_9 (F := Ideal) c i a1 h1 a2 h2 a3 h3 a4 h4 a5 h5 a6 h6 a7 h7 a8 h8 a9 h9 a10 h10 a11 h11 hc x dy z g wu wd o
  unfold out1_B_9
  rw [View.read_writes_eq_canon _ _ _ hcov]
  refine canon_tiles (s := S256x1024) (e := .bf16) (normedBlk x g) _ ?_ hcov
  unfold kernelRun1_B
  dsimp only
  sl_unfold_words
  simp only [View.readAt_eq_ld, h1.read_unread, h2.read_unread, h3.read_unread, h4.read_unread, h5.read_unread, h6.read_unread, h11.read_unread, ld_full]
  exact ⟨store_9 x g inb_S256x1024_S256x1024_0_0, trivial⟩

theorem out_B_10 (hc : ¬cond1_0 i) (o : Vec Ideal S1x1024 .f32) : out1_B_10 (F := Ideal) c i a1 h1 a2 h2 a3 h3 a4 h4 a5 h5 a6 h6 a7 h7 a8 h8 a9 h9 a10 h10 a11 h11 hc x dy z g wu wd o = gainBlk x dy z wu wd o := by
  have hcov := cover1_B_10 (F := Ideal) c i a1 h1 a2 h2 a3 h3 a4 h4 a5 h5 a6 h6 a7 h7 a8 h8 a9 h9 a10 h10 a11 h11 hc x dy z g wu wd o
  unfold out1_B_10
  rw [View.read_writes_eq_canon _ _ _ hcov]
  refine canon_tiles (s := S1x1024) (e := .f32) (gainBlk x dy z wu wd o) _ ?_ hcov
  unfold kernelRun1_B
  dsimp only
  sl_unfold_words
  simp only [View.readAt_eq_ld, h1.read_unread, h2.read_unread, h3.read_unread, h4.read_unread, h5.read_unread, h6.read_unread, h11.read_unread, ld_full]
  exact ⟨store_10 x dy z wu wd o inb_S1x1024_S1x1024_0_0, trivial⟩

/-- The first point's gain block: the block was zeroed. -/
theorem out_A_10 (hc : cond1_0 i) : out1_A_10 (F := Ideal) c i a1 h1 a2 h2 a3 h3 a4 h4 a5 h5 a6 h6 a7 h7 a8 h8 a9 h9 a10 h10 a11 h11 hc x dy z g wu wd = gainBlk x dy z wu wd (k1_pay17 (F := Ideal)) := by
  have hcov := cover1_A_10 (F := Ideal) c i a1 h1 a2 h2 a3 h3 a4 h4 a5 h5 a6 h6 a7 h7 a8 h8 a9 h9 a10 h10 a11 h11 hc x dy z g wu wd
  unfold out1_A_10
  rw [View.read_writes_eq_canon _ _ _ hcov]
  clear hcov
  unfold kernelRun1_A
  dsimp only
  sl_unfold_words
  simp only [View.readAt_eq_ld, h1.read_unread, h2.read_unread, h3.read_unread, h4.read_unread, h5.read_unread, h6.read_unread, ld_full]
  have hz : ∀ a, (![0, 0] : Fin 2 → ℕ) a = 0 := by decide
  simp only [View.readCov_fill (s := S1x1024) _ _ _ _ _ hz]
  refine canon_over (s := S1x1024) (e := .f32) (gainBlk x dy z wu wd (k1_pay17 (F := Ideal))) _ _ ?_ fun y => ?_
  · exact ⟨store_10 x dy z wu wd _ inb_S1x1024_S1x1024_0_0, trivial⟩
  · exact View.cover_of_tiledL (s := S1x1024) _ S1x1024.size (by sl_kernel_rfl) y

end Backward

end Cert.Kernel2Ideal.Ffn

end

end
-- ==== Proof.FfnBlocks.lean ====
/-
  The result arrays of the two kernels after their runs, at any contents of the arrays they find: every token's row after
  the block, its columns and its gradients, and the gain's gradient as the sum over all 8192 tokens, gathered tile by tile
  over the 32 grid points.
-/
module

public import proofs.«01_k».proof.Proof.FfnTile

@[expose] public section

noncomputable section

namespace Cert.Kernel2Ideal.Ffn

open Cert.Kernel2Ideal Cert.Kernel2Ideal.Gen Idealize.ShloMosaic Idealize.ShloMosaic.ValueIdx Idealize.ShloMosaic.TcCoe Idealize.SL.Sem
  Cert.Words Cert.Norm Cert.Ffn Cert.Products
open Idealize.ShloMosaic.Pipeline (Dat)

section All

variable (x dy : S8192x1024.Idx → EReal) (z : S8192x5632.Idx → EReal) (g : S1x1024.Idx → EReal) (wu : S5632x1024.Idx → EReal)
  (wd : S2816x1024.Idx → EReal)

/-- The columns of every token, the tokens after the block, and the five gradients. -/
def colsAll (i : S8192x5632.Idx) : EReal := cols (rowOf x (i 0)) (rowOf g 0) (rowOf wu) (i 1)
def outAll (i : S8192x1024.Idx) : EReal := outRow (rowOf x (i 0)) (rowOf wd) (cols (rowOf x (i 0)) (rowOf g 0) (rowOf wu)) (i 1)
def tokenAll (i : S8192x1024.Idx) : EReal := dtoken (rowOf x (i 0)) (rowOf g 0) (rowOf wu) (rowOf wd) (rowOf dy (i 0)) (rowOf z (i 0)) (i 1)
def dcolsAll (i : S8192x5632.Idx) : EReal := dcols (rowOf wd) (rowOf dy (i 0)) (rowOf z (i 0)) (i 1)
def gatedAll (i : S8192x2816.Idx) : EReal := gated (rowOf z (i 0)) (i 1)
def normedAll (i : S8192x1024.Idx) : EReal := normed (rowOf x (i 0)) (rowOf g 0) (i 1)
def gainAll (i : S1x1024.Idx) : EReal := ∑ t, dgain (rowOf x t) (rowOf wu) (rowOf wd) (rowOf dy t) (rowOf z t) (i 1)

end All

variable (V : (c : Dev nD) → (b : Ref sig .tc) → Buf (Elt Ideal) ((c : Thread nD τ).loc b)) (c : Dev nD)

/-! ## The forward kernel -/

theorem index0 : ∀ t : Fin grid0.N, (win0_0.index t 0 = t.val ∧ win0_0.index t 1 = 0) ∧ (win0_1.index t 0 = 0 ∧ win0_1.index t 1 = 0)
    ∧ (win0_2.index t 0 = 0 ∧ win0_2.index t 1 = 0) ∧ (win0_3.index t 0 = 0 ∧ win0_3.index t 1 = 0)
    ∧ (win0_4.index t 0 = t.val ∧ win0_4.index t 1 = 0) ∧ (win0_5.index t 0 = t.val ∧ win0_5.index t 1 = 0) := by decide +kernel

/-- Token `s` of grid point `t`. -/
def at512 (t : Fin cfg0.N) (s : Fin 512) : Fin 8192 := ⟨t.val * 512 + s.val, by have := t.isLt; have : cfg0.N = 16 := N_0; omega⟩

theorem blk0_x (t : Fin cfg0.N) (s : Fin 512) : rowOf (iblk0 V c 0 t) s = rowOf (V c main_arg0) (at512 t s) := by
  obtain ⟨h0, h1⟩ := (index0 t).1
  funext d
  unfold rowOf iblk0
  rw [View.read_apply]
  exact congrArg (V c main_arg0) (ix2_of _ _ _ (by show win0_0.index t 0 * 512 + 1 * s.val = t.val * 512 + s.val; rw [h0]; omega)
    (by show win0_0.index t 1 * 1024 + 1 * d.val = d.val; rw [h1]; omega))

theorem blk0_g (t : Fin cfg0.N) : rowOf (iblk0 V c 1 t) 0 = rowOf (V c main_arg2) 0 := by
  obtain ⟨h0, h1⟩ := (index0 t).2.1
  funext d
  unfold rowOf iblk0
  rw [View.read_apply]
  exact congrArg (V c main_arg2) (ix2_of _ _ _ (by show win0_1.index t 0 * 1 + 1 * 0 = 0; rw [h0])
    (by show win0_1.index t 1 * 1024 + 1 * d.val = d.val; rw [h1]; omega))

theorem blk0_wu (t : Fin cfg0.N) : rowOf (iblk0 V c 2 t) = rowOf (V c main_arg3) := by
  obtain ⟨h0, h1⟩ := (index0 t).2.2.1
  funext k d
  unfold rowOf iblk0
  rw [View.read_apply]
  exact congrArg (V c main_arg3) (ix2_of _ _ _ (by show win0_2.index t 0 * 5632 + 1 * k.val = k.val; rw [h0]; omega)
    (by show win0_2.index t 1 * 1024 + 1 * d.val = d.val; rw [h1]; omega))

theorem blk0_wd (t : Fin cfg0.N) : rowOf (iblk0 V c 3 t) = rowOf (V c main_arg4) := by
  obtain ⟨h0, h1⟩ := (index0 t).2.2.2.1
  funext k d
  unfold rowOf iblk0
  rw [View.read_apply]
  exact congrArg (V c main_arg4) (ix2_of _ _ _ (by show win0_3.index t 0 * 2816 + 1 * k.val = k.val; rw [h0]; omega)
    (by show win0_3.index t 1 * 1024 + 1 * d.val = d.val; rw [h1]; omega))

theorem tile_out (t : Fin cfg0.N) (s : Fin 512) (d : Fin 1024) : outBlk (iblk0 V c 0 t) (iblk0 V c 1 t) (iblk0 V c 2 t) (iblk0 V c 3 t) (ix2 s d)
    = outAll (V c main_arg0) (V c main_arg2) (V c main_arg3) (V c main_arg4) (ix2 (at512 t s) d) := by
  show outRow (rowOf (iblk0 V c 0 t) s) (rowOf (iblk0 V c 3 t)) (cols (rowOf (iblk0 V c 0 t) s) (rowOf (iblk0 V c 1 t) 0) (rowOf (iblk0 V c 2 t))) d = _
  rw [blk0_x, blk0_g, blk0_wu, blk0_wd]
  rfl

theorem tile_cols (t : Fin cfg0.N) (s : Fin 512) (j : Fin 5632) : colsBlk (iblk0 V c 0 t) (iblk0 V c 1 t) (iblk0 V c 2 t) (ix2 s j)
    = colsAll (V c main_arg0) (V c main_arg2) (V c main_arg3) (ix2 (at512 t s) j) := by
  show cols (rowOf (iblk0 V c 0 t) s) (rowOf (iblk0 V c 1 t) 0) (rowOf (iblk0 V c 2 t)) j = _
  rw [blk0_x, blk0_g, blk0_wu]
  rfl

theorem flushed0_4 (t : Fin cfg0.N) : (dat0 V c).flushed 4 t
    = ((cfg0.win 4).blk t).view.read (Elt Ideal) (outAll (V c main_arg0) (V c main_arg2) (V c main_arg3) (V c main_arg4)) := by
  obtain ⟨h0, h1⟩ := (index0 t).2.2.2.2.1
  show (cfg0.win 4).cut (grid0.coords t) ((dat0 V c).after 4 t) = _
  rw [after0_4, out_4]
  funext y
  obtain ⟨s, d, rfl⟩ : ∃ (s : Fin 512) (d : Fin 1024), y = ix2 s d := ⟨y 0, y 1, eq_ix2 y⟩
  rw [View.read_apply]
  refine (tile_out V c t s d).trans (congrArg (outAll (V c main_arg0) (V c main_arg2) (V c main_arg3) (V c main_arg4)) (ix2_of _ _ _ ?_ ?_).symm)
  · show win0_4.index t 0 * 512 + 1 * s.val = t.val * 512 + s.val; rw [h0]; omega
  · show win0_4.index t 1 * 1024 + 1 * d.val = d.val; rw [h1]; omega

theorem flushed0_5 (t : Fin cfg0.N) : (dat0 V c).flushed 5 t
    = ((cfg0.win 5).blk t).view.read (Elt Ideal) (colsAll (V c main_arg0) (V c main_arg2) (V c main_arg3)) := by
  obtain ⟨h0, h1⟩ := (index0 t).2.2.2.2.2
  show (cfg0.win 5).cut (grid0.coords t) ((dat0 V c).after 5 t) = _
  rw [after0_5, out_5]
  funext y
  obtain ⟨s, j, rfl⟩ : ∃ (s : Fin 512) (j : Fin 5632), y = ix2 s j := ⟨y 0, y 1, eq_ix2 y⟩
  rw [View.read_apply]
  refine (tile_cols V c t s j).trans (congrArg (colsAll (V c main_arg0) (V c main_arg2) (V c main_arg3)) (ix2_of _ _ _ ?_ ?_).symm)
  · show win0_5.index t 0 * 512 + 1 * s.val = t.val * 512 + s.val; rw [h0]; omega
  · show win0_5.index t 1 * 5632 + 1 * j.val = j.val; rw [h1]; omega

/-- The grid point a token lies in. -/
def point0 (i : Fin 8192) : Fin cfg0.N := ⟨i.val / 512, by have : cfg0.N = 16 := N_0; omega⟩

theorem final0_4 : (dat0 V c).arrAt 4 cfg0.N = outAll (V c main_arg0) (V c main_arg2) (V c main_arg3) (V c main_arg4) :=
  (dat0 V c).arrAt_eq_of_cover 4 _ (fun t _ => flushed0_4 V c t) fun i => by
    refine ⟨point0 (i 0), flush0_4 _, ?_⟩
    obtain ⟨h0, h1⟩ := (index0 (point0 (i 0))).2.2.2.2.1
    show i ∈ ((View.whole main_v0_0).slice (win0_4.rect (point0 (i 0)))).set
    rw [View.set_slice_whole]
    exact mem_tile (M := 8192) (N := 1024) (B := 512) (by decide) _ _ i (by show win0_4.index (point0 (i 0)) 0 * 512 = _; rw [h0]; rfl)
      (by show win0_4.index (point0 (i 0)) 1 * 1024 = 0; rw [h1])

theorem final0_5 : (dat0 V c).arrAt 5 cfg0.N = colsAll (V c main_arg0) (V c main_arg2) (V c main_arg3) :=
  (dat0 V c).arrAt_eq_of_cover 5 _ (fun t _ => flushed0_5 V c t) fun i => by
    refine ⟨point0 (i 0), flush0_5 _, ?_⟩
    obtain ⟨h0, h1⟩ := (index0 (point0 (i 0))).2.2.2.2.2
    show i ∈ ((View.whole main_v0_1).slice (win0_5.rect (point0 (i 0)))).set
    rw [View.set_slice_whole]
    exact mem_tile (M := 8192) (N := 5632) (B := 512) (by decide) _ _ i (by show win0_5.index (point0 (i 0)) 0 * 512 = _; rw [h0]; rfl)
      (by show win0_5.index (point0 (i 0)) 1 * 5632 = 0; rw [h1])

/-! ## The backward kernel -/

theorem index1 : ∀ t : Fin grid1.N, (win1_0.index t 0 = t.val ∧ win1_0.index t 1 = 0) ∧ (win1_1.index t 0 = t.val ∧ win1_1.index t 1 = 0) ∧ (win1_2.index t 0 = t.val ∧ win1_2.index t 1 = 0)
    ∧ (win1_3.index t 0 = 0 ∧ win1_3.index t 1 = 0) ∧ (win1_4.index t 0 = 0 ∧ win1_4.index t 1 = 0) ∧ (win1_5.index t 0 = 0 ∧ win1_5.index t 1 = 0)
    ∧ (win1_6.index t 0 = t.val ∧ win1_6.index t 1 = 0) ∧ (win1_7.index t 0 = t.val ∧ win1_7.index t 1 = 0) ∧ (win1_8.index t 0 = t.val ∧ win1_8.index t 1 = 0)
    ∧ (win1_9.index t 0 = t.val ∧ win1_9.index t 1 = 0) ∧ (win1_10.index t 0 = 0 ∧ win1_10.index t 1 = 0) := by decide +kernel

/-- Token `s` of grid point `t`. -/
def at256 (t : Fin cfg1.N) (s : Fin 256) : Fin 8192 := ⟨t.val * 256 + s.val, by have := t.isLt; have : cfg1.N = 32 := N_1; omega⟩

/-- The grid point a token lies in. -/
def point1 (i : Fin 8192) : Fin cfg1.N := ⟨i.val / 256, by have : cfg1.N = 32 := N_1; omega⟩

theorem blk1_x (t : Fin cfg1.N) (s : Fin 256) : rowOf (iblk1 V c 0 t) s = rowOf (V c main_arg0) (at256 t s) := by
  obtain ⟨h0, h1⟩ := (index1 t).1
  funext d
  unfold rowOf iblk1
  rw [View.read_apply]
  exact congrArg (V c main_arg0) (ix2_of _ _ _ (by show win1_0.index t 0 * 256 + 1 * s.val = t.val * 256 + s.val; rw [h0]; omega)
    (by show win1_0.index t 1 * 1024 + 1 * d.val = d.val; rw [h1]; omega))

theorem blk1_dy (t : Fin cfg1.N) (s : Fin 256) : rowOf (iblk1 V c 1 t) s = rowOf (V c main_arg1) (at256 t s) := by
  obtain ⟨h0, h1⟩ := (index1 t).2.1
  funext d
  unfold rowOf iblk1
  rw [View.read_apply]
  exact congrArg (V c main_arg1) (ix2_of _ _ _ (by show win1_1.index t 0 * 256 + 1 * s.val = t.val * 256 + s.val; rw [h0]; omega)
    (by show win1_1.index t 1 * 1024 + 1 * d.val = d.val; rw [h1]; omega))

theorem blk1_z (t : Fin cfg1.N) (s : Fin 256) : rowOf (iblk1 V c 2 t) s = rowOf (V c main_v0_1) (at256 t s) := by
  obtain ⟨h0, h1⟩ := (index1 t).2.2.1
  funext d
  unfold rowOf iblk1
  rw [View.read_apply]
  exact congrArg (V c main_v0_1) (ix2_of _ _ _ (by show win1_2.index t 0 * 256 + 1 * s.val = t.val * 256 + s.val; rw [h0]; omega)
    (by show win1_2.index t 1 * 5632 + 1 * d.val = d.val; rw [h1]; omega))

theorem blk1_g (t : Fin cfg1.N) : rowOf (iblk1 V c 3 t) 0 = rowOf (V c main_arg2) 0 := by
  obtain ⟨h0, h1⟩ := (index1 t).2.2.2.1
  funext d
  unfold rowOf iblk1
  rw [View.read_apply]
  exact congrArg (V c main_arg2) (ix2_of _ _ _ (by show win1_3.index t 0 * 1 + 1 * 0 = 0; rw [h0])
    (by show win1_3.index t 1 * 1024 + 1 * d.val = d.val; rw [h1]; omega))

theorem blk1_wu (t : Fin cfg1.N) : rowOf (iblk1 V c 4 t) = rowOf (V c main_arg3) := by
  obtain ⟨h0, h1⟩ := (index1 t).2.2.2.2.1
  funext k d
  unfold rowOf iblk1
  rw [View.read_apply]
  exact congrArg (V c main_arg3) (ix2_of _ _ _ (by show win1_4.index t 0 * 5632 + 1 * k.val = k.val; rw [h0]; omega)
    (by show win1_4.index t 1 * 1024 + 1 * d.val = d.val; rw [h1]; omega))

theorem blk1_wd (t : Fin cfg1.N) : rowOf (iblk1 V c 5 t) = rowOf (V c main_arg4) := by
  obtain ⟨h0, h1⟩ := (index1 t).2.2.2.2.2.1
  funext k d
  unfold rowOf iblk1
  rw [View.read_apply]
  exact congrArg (V c main_arg4) (ix2_of _ _ _ (by show win1_5.index t 0 * 2816 + 1 * k.val = k.val; rw [h0]; omega)
    (by show win1_5.index t 1 * 1024 + 1 * d.val = d.val; rw [h1]; omega))

theorem tile_token (t : Fin cfg1.N) (s : Fin 256) (d : Fin 1024) : tokenBlk (iblk1 V c 0 t) (iblk1 V c 1 t) (iblk1 V c 2 t) (iblk1 V c 3 t) (iblk1 V c 4 t) (iblk1 V c 5 t) (ix2 s d)
    = tokenAll (V c main_arg0) (V c main_arg1) (V c main_v0_1) (V c main_arg2) (V c main_arg3) (V c main_arg4) (ix2 (at256 t s) d) := by
  show dtoken (rowOf (iblk1 V c 0 t) s) (rowOf (iblk1 V c 3 t) 0) (rowOf (iblk1 V c 4 t)) (rowOf (iblk1 V c 5 t)) (rowOf (iblk1 V c 1 t) s) (rowOf (iblk1 V c 2 t) s) d = _
  rw [blk1_x, blk1_dy, blk1_z, blk1_g, blk1_wu, blk1_wd]
  rfl

theorem flushed1_6 (t : Fin cfg1.N) : (dat1 V c).flushed 6 t
    = ((cfg1.win 6).blk t).view.read (Elt Ideal) (tokenAll (V c main_arg0) (V c main_arg1) (V c main_v0_1) (V c main_arg2) (V c main_arg3) (V c main_arg4)) := by
  obtain ⟨h0, h1⟩ := (index1 t).2.2.2.2.2.2.1
  have hp : (outsAt1 V c t.val t.isLt).1 = tokenBlk (iblk1 V c 0 t) (iblk1 V c 1 t) (iblk1 V c 2 t) (iblk1 V c 3 t) (iblk1 V c 4 t) (iblk1 V c 5 t) := by
    by_cases h : t.val % 32 = 0
    · rw [outsAt1_A V c t h]; dsimp only; rw [out_A_6]
    · rw [outsAt1_B V c t h]; dsimp only; rw [out_B_6]
  show (cfg1.win 6).cut (grid1.coords t) ((dat1 V c).after 6 t) = _
  rw [after1_6, hp]
  funext y
  obtain ⟨s, d, rfl⟩ : ∃ (s : Fin 256) (d : Fin 1024), y = ix2 s d := ⟨y 0, y 1, eq_ix2 y⟩
  rw [View.read_apply]
  refine (tile_token V c t s d).trans (congrArg (tokenAll (V c main_arg0) (V c main_arg1) (V c main_v0_1) (V c main_arg2) (V c main_arg3) (V c main_arg4)) (ix2_of _ _ _ ?_ ?_).symm)
  · show win1_6.index t 0 * 256 + 1 * s.val = t.val * 256 + s.val; rw [h0]; omega
  · show win1_6.index t 1 * 1024 + 1 * d.val = d.val; rw [h1]; omega

theorem final1_6 : (dat1 V c).arrAt 6 cfg1.N = tokenAll (V c main_arg0) (V c main_arg1) (V c main_v0_1) (V c main_arg2) (V c main_arg3) (V c main_arg4) :=
  (dat1 V c).arrAt_eq_of_cover 6 _ (fun t _ => flushed1_6 V c t) fun i => by
    refine ⟨point1 (i 0), flush1_6 _, ?_⟩
    obtain ⟨h0, h1⟩ := (index1 (point1 (i 0))).2.2.2.2.2.2.1
    show i ∈ ((View.whole main_v1_0).slice (win1_6.rect (point1 (i 0)))).set
    rw [View.set_slice_whole]
    exact mem_tile (M := 8192) (N := 1024) (B := 256) (by decide) _ _ i (by show win1_6.index (point1 (i 0)) 0 * 256 = _; rw [h0]; rfl)
      (by show win1_6.index (point1 (i 0)) 1 * 1024 = 0; rw [h1])

theorem tile_dcols (t : Fin cfg1.N) (s : Fin 256) (d : Fin 5632) : dcolsBlk (iblk1 V c 1 t) (iblk1 V c 2 t) (iblk1 V c 5 t) (ix2 s d)
    = dcolsAll (V c main_arg1) (V c main_v0_1) (V c main_arg4) (ix2 (at256 t s) d) := by
  show dcols (rowOf (iblk1 V c 5 t)) (rowOf (iblk1 V c 1 t) s) (rowOf (iblk1 V c 2 t) s) d = _
  rw [blk1_dy, blk1_z, blk1_wd]
  rfl

theorem flushed1_7 (t : Fin cfg1.N) : (dat1 V c).flushed 7 t
    = ((cfg1.win 7).blk t).view.read (Elt Ideal) (dcolsAll (V c main_arg1) (V c main_v0_1) (V c main_arg4)) := by
  obtain ⟨h0, h1⟩ := (index1 t).2.2.2.2.2.2.2.1
  have hp : (outsAt1 V c t.val t.isLt).2.1 = dcolsBlk (iblk1 V c 1 t) (iblk1 V c 2 t) (iblk1 V c 5 t) := by
    by_cases h : t.val % 32 = 0
    · rw [outsAt1_A V c t h]; dsimp only; rw [out_A_7]
    · rw [outsAt1_B V c t h]; dsimp only; rw [out_B_7]
  show (cfg1.win 7).cut (grid1.coords t) ((dat1 V c).after 7 t) = _
  rw [after1_7, hp]
  funext y
  obtain ⟨s, d, rfl⟩ : ∃ (s : Fin 256) (d : Fin 5632), y = ix2 s d := ⟨y 0, y 1, eq_ix2 y⟩
  rw [View.read_apply]
  refine (tile_dcols V c t s d).trans (congrArg (dcolsAll (V c main_arg1) (V c main_v0_1) (V c main_arg4)) (ix2_of _ _ _ ?_ ?_).symm)
  · show win1_7.index t 0 * 256 + 1 * s.val = t.val * 256 + s.val; rw [h0]; omega
  · show win1_7.index t 1 * 5632 + 1 * d.val = d.val; rw [h1]; omega

theorem final1_7 : (dat1 V c).arrAt 7 cfg1.N = dcolsAll (V c main_arg1) (V c main_v0_1) (V c main_arg4) :=
  (dat1 V c).arrAt_eq_of_cover 7 _ (fun t _ => flushed1_7 V c t) fun i => by
    refine ⟨point1 (i 0), flush1_7 _, ?_⟩
    obtain ⟨h0, h1⟩ := (index1 (point1 (i 0))).2.2.2.2.2.2.2.1
    show i ∈ ((View.whole main_v1_1).slice (win1_7.rect (point1 (i 0)))).set
    rw [View.set_slice_whole]
    exact mem_tile (M := 8192) (N := 5632) (B := 256) (by decide) _ _ i (by show win1_7.index (point1 (i 0)) 0 * 256 = _; rw [h0]; rfl)
      (by show win1_7.index (point1 (i 0)) 1 * 5632 = 0; rw [h1])

theorem tile_gated (t : Fin cfg1.N) (s : Fin 256) (d : Fin 2816) : gatedBlk (iblk1 V c 2 t) (ix2 s d)
    = gatedAll (V c main_v0_1) (ix2 (at256 t s) d) := by
  show gated (rowOf (iblk1 V c 2 t) s) d = _
  rw [blk1_z]
  rfl

theorem flushed1_8 (t : Fin cfg1.N) : (dat1 V c).flushed 8 t
    = ((cfg1.win 8).blk t).view.read (Elt Ideal) (gatedAll (V c main_v0_1)) := by
  obtain ⟨h0, h1⟩ := (index1 t).2.2.2.2.2.2.2.2.1
  have hp : (outsAt1 V c t.val t.isLt).2.2.1 = gatedBlk (iblk1 V c 2 t) := by
    by_cases h : t.val % 32 = 0
    · rw [outsAt1_A V c t h]; dsimp only; rw [out_A_8]
    · rw [outsAt1_B V c t h]; dsimp only; rw [out_B_8]
  show (cfg1.win 8).cut (grid1.coords t) ((dat1 V c).after 8 t) = _
  rw [after1_8, hp]
  funext y
  obtain ⟨s, d, rfl⟩ : ∃ (s : Fin 256) (d : Fin 2816), y = ix2 s d := ⟨y 0, y 1, eq_ix2 y⟩
  rw [View.read_apply]
  refine (tile_gated V c t s d).trans (congrArg (gatedAll (V c main_v0_1)) (ix2_of _ _ _ ?_ ?_).symm)
  · show win1_8.index t 0 * 256 + 1 * s.val = t.val * 256 + s.val; rw [h0]; omega
  · show win1_8.index t 1 * 2816 + 1 * d.val = d.val; rw [h1]; omega

theorem final1_8 : (dat1 V c).arrAt 8 cfg1.N = gatedAll (V c main_v0_1) :=
  (dat1 V c).arrAt_eq_of_cover 8 _ (fun t _ => flushed1_8 V c t) fun i => by
    refine ⟨point1 (i 0), flush1_8 _, ?_⟩
    obtain ⟨h0, h1⟩ := (index1 (point1 (i 0))).2.2.2.2.2.2.2.2.1
    show i ∈ ((View.whole main_v1_2).slice (win1_8.rect (point1 (i 0)))).set
    rw [View.set_slice_whole]
    exact mem_tile (M := 8192) (N := 2816) (B := 256) (by decide) _ _ i (by show win1_8.index (point1 (i 0)) 0 * 256 = _; rw [h0]; rfl)
      (by show win1_8.index (point1 (i 0)) 1 * 2816 = 0; rw [h1])

theorem tile_normed (t : Fin cfg1.N) (s : Fin 256) (d : Fin 1024) : normedBlk (iblk1 V c 0 t) (iblk1 V c 3 t) (ix2 s d)
    = normedAll (V c main_arg0) (V c main_arg2) (ix2 (at256 t s) d) := by
  show normed (rowOf (iblk1 V c 0 t) s) (rowOf (iblk1 V c 3 t) 0) d = _
  rw [blk1_x, blk1_g]
  rfl

theorem flushed1_9 (t : Fin cfg1.N) : (dat1 V c).flushed 9 t
    = ((cfg1.win 9).blk t).view.read (Elt Ideal) (normedAll (V c main_arg0) (V c main_arg2)) := by
  obtain ⟨h0, h1⟩ := (index1 t).2.2.2.2.2.2.2.2.2.1
  have hp : (outsAt1 V c t.val t.isLt).2.2.2.1 = normedBlk (iblk1 V c 0 t) (iblk1 V c 3 t) := by
    by_cases h : t.val % 32 = 0
    · rw [outsAt1_A V c t h]; dsimp only; rw [out_A_9]
    · rw [outsAt1_B V c t h]; dsimp only; rw [out_B_9]
  show (cfg1.win 9).cut (grid1.coords t) ((dat1 V c).after 9 t) = _
  rw [after1_9, hp]
  funext y
  obtain ⟨s, d, rfl⟩ : ∃ (s : Fin 256) (d : Fin 1024), y = ix2 s d := ⟨y 0, y 1, eq_ix2 y⟩
  rw [View.read_apply]
  refine (tile_normed V c t s d).trans (congrArg (normedAll (V c main_arg0) (V c main_arg2)) (ix2_of _ _ _ ?_ ?_).symm)
  · show win1_9.index t 0 * 256 + 1 * s.val = t.val * 256 + s.val; rw [h0]; omega
  · show win1_9.index t 1 * 1024 + 1 * d.val = d.val; rw [h1]; omega

theorem final1_9 : (dat1 V c).arrAt 9 cfg1.N = normedAll (V c main_arg0) (V c main_arg2) :=
  (dat1 V c).arrAt_eq_of_cover 9 _ (fun t _ => flushed1_9 V c t) fun i => by
    refine ⟨point1 (i 0), flush1_9 _, ?_⟩
    obtain ⟨h0, h1⟩ := (index1 (point1 (i 0))).2.2.2.2.2.2.2.2.2.1
    show i ∈ ((View.whole main_v1_3).slice (win1_9.rect (point1 (i 0)))).set
    rw [View.set_slice_whole]
    exact mem_tile (M := 8192) (N := 1024) (B := 256) (by decide) _ _ i (by show win1_9.index (point1 (i 0)) 0 * 256 = _; rw [h0]; rfl)
      (by show win1_9.index (point1 (i 0)) 1 * 1024 = 0; rw [h1])

/-! ### The gain's gradient -/

/-- What grid point `n` adds to the gain's gradient (nothing past the grid). -/
def part (n : ℕ) (d : Fin 1024) : EReal :=
  if h : n < cfg1.N then
    ∑ s, dgain (rowOf (V c main_arg0) (at256 ⟨n, h⟩ s)) (rowOf (V c main_arg3)) (rowOf (V c main_arg4)) (rowOf (V c main_arg1) (at256 ⟨n, h⟩ s)) (rowOf (V c main_v0_1) (at256 ⟨n, h⟩ s)) d
  else 0

theorem step_gain (t : Fin cfg1.N) (o : S1x1024.Idx → EReal) (u : Fin 1) (d : Fin 1024) :
    gainBlk (iblk1 V c 0 t) (iblk1 V c 1 t) (iblk1 V c 2 t) (iblk1 V c 4 t) (iblk1 V c 5 t) o (ix2 u d) = o (ix2 u d) + part V c t.val d := by
  unfold part
  rw [dif_pos t.isLt]
  show o (ix2 u d) + ∑ s, dgain (rowOf (iblk1 V c 0 t) s) (rowOf (iblk1 V c 4 t)) (rowOf (iblk1 V c 5 t)) (rowOf (iblk1 V c 1 t) s) (rowOf (iblk1 V c 2 t) s) d = _
  simp only [blk1_x, blk1_dy, blk1_z, blk1_wu, blk1_wd]

/-- The block after the points `0 … n`. -/
theorem point_gain (n : ℕ) (h : n < cfg1.N) (u : Fin 1) (d : Fin 1024) :
    (outsAt1 V c n h).2.2.2.2 (ix2 u d) = ∑ j ∈ Finset.range (n + 1), part V c j d := by
  induction n with
  | zero =>
    rw [Finset.sum_range_one, outsAt1_A V c ⟨0, h⟩ rfl]
    dsimp only
    rw [out_A_10]
    refine (step_gain V c ⟨0, h⟩ _ u d).trans ?_
    rw [show k1_pay17 (F := Ideal) (ix2 u d) = 0 from zeroWord, zero_add]
  | succ n ih =>
    have hN : cfg1.N = 32 := N_1
    rw [Finset.sum_range_succ, ← ih (by omega), outsAt1_B V c ⟨n + 1, h⟩ (by show ¬(n + 1) % 32 = 0; omega)]
    dsimp only
    rw [out_B_10]
    exact step_gain V c ⟨n + 1, h⟩ _ u d

/-- 32 tiles of 256 tokens are the 8192 tokens. -/
theorem sum_tiles (f : Fin 8192 → EReal) : ∑ s, f s = ∑ j : Fin 32, ∑ s : Fin 256, f ⟨j.val * 256 + s.val, by omega⟩ := by
  rw [← Equiv.sum_comp (finProdFinEquiv (m := 32) (n := 256)) f, Fintype.sum_prod_type]
  refine Finset.sum_congr rfl fun j _ => Finset.sum_congr rfl fun s _ => congrArg f (Fin.ext ?_)
  show s.val + 256 * j.val = j.val * 256 + s.val
  omega

/-- After the last point the block is the sum over every token. -/
theorem tile_gain (t : Fin cfg1.N) (h3 : t.val = 31) (u : Fin 1) (d : Fin 1024) :
    (outsAt1 V c t.val t.isLt).2.2.2.2 (ix2 u d) = gainAll (V c main_arg0) (V c main_arg1) (V c main_v0_1) (V c main_arg3) (V c main_arg4) (ix2 u d) := by
  have hN : cfg1.N = 32 := N_1
  refine (point_gain V c t.val t.isLt u d).trans ?_
  refine Eq.trans ?_ (sum_tiles fun s => dgain (rowOf (V c main_arg0) s) (rowOf (V c main_arg3)) (rowOf (V c main_arg4)) (rowOf (V c main_arg1) s)
    (rowOf (V c main_v0_1) s) d).symm
  rw [h3, Finset.sum_range]
  refine Finset.sum_congr rfl fun j _ => ?_
  unfold part
  rw [dif_pos (by have := j.isLt; omega)]
  rfl

set_option maxRecDepth 16384 in
theorem flushed1_10 (t : Fin cfg1.N) (hf : (cfg1.win 10).flush t = true) : (dat1 V c).flushed 10 t
    = ((cfg1.win 10).blk t).view.read (Elt Ideal) (gainAll (V c main_arg0) (V c main_arg1) (V c main_v0_1) (V c main_arg3) (V c main_arg4)) := by
  obtain ⟨h0, h1⟩ := (index1 t).2.2.2.2.2.2.2.2.2.2
  have hN : cfg1.N = 32 := N_1
  have h3 : t.val = 31 := by have := (flush1_10 t).mp hf; have := t.isLt; omega
  show (cfg1.win 10).cut (grid1.coords t) ((dat1 V c).after 10 t) = _
  rw [after1_10]
  funext y
  obtain ⟨u, d, rfl⟩ : ∃ (u : Fin 1) (d : Fin 1024), y = ix2 u d := ⟨y 0, y 1, eq_ix2 y⟩
  rw [View.read_apply]
  refine (tile_gain V c t h3 u d).trans (congrArg (gainAll (V c main_arg0) (V c main_arg1) (V c main_v0_1) (V c main_arg3) (V c main_arg4)) (ix2_of _ _ _ ?_ ?_).symm)
  · show win1_10.index t 0 * 1 + 1 * u.val = u.val; rw [h0]; omega
  · show win1_10.index t 1 * 1024 + 1 * d.val = d.val; rw [h1]; omega

theorem final1_10 : (dat1 V c).arrAt 10 cfg1.N = gainAll (V c main_arg0) (V c main_arg1) (V c main_v0_1) (V c main_arg3) (V c main_arg4) :=
  (dat1 V c).arrAt_eq_of_cover 10 _ (flushed1_10 V c) fun i => by
    have hN : cfg1.N = 32 := N_1
    let t : Fin cfg1.N := ⟨31, by omega⟩
    refine ⟨t, (flush1_10 t).mpr rfl, ?_⟩
    obtain ⟨h0, h1⟩ := (index1 t).2.2.2.2.2.2.2.2.2.2
    show i ∈ ((View.whole main_v1_4).slice (win1_10.rect t)).set
    rw [View.set_slice_whole]
    exact mem_tile (M := 1) (N := 1024) (B := 1) (by decide) _ _ i (by show win1_10.index t 0 * 1 = (i 0).val / 1 * 1; have i0 : (i 0).val < 1 := (i 0).isLt; rw [h0]; omega)
      (by show win1_10.index t 1 * 1024 = 0; rw [h1])

end Cert.Kernel2Ideal.Ffn

end
-- ==== Proof.FfnRun.lean ====
/-
  The whole run of the two kernels: what every array holds at the end, as a function of the arguments.
-/
module

public import proofs.«01_k».proof.Proof.FfnBlocks

@[expose] public section

set_option maxRecDepth 16384

noncomputable section

namespace Cert.Kernel2Ideal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable (m : (ℓ : Loc nD τ sig) → Buf (Elt Ideal) ℓ) (ρ : Dev nD → PrngReg)

/-! ## What the second kernel finds -/

theorem found_0 (c : Dev nD) : V1 m ρ c main_arg0 = m ((c : Thread nD τ).loc main_arg0) := W1_args m ρ c main_arg0 (by decide)

theorem found_1 (c : Dev nD) : V1 m ρ c main_arg1 = m ((c : Thread nD τ).loc main_arg1) := W1_args m ρ c main_arg1 (by decide)

theorem found_2 (c : Dev nD) : V1 m ρ c main_arg2 = m ((c : Thread nD τ).loc main_arg2) := W1_args m ρ c main_arg2 (by decide)

theorem found_3 (c : Dev nD) : V1 m ρ c main_arg3 = m ((c : Thread nD τ).loc main_arg3) := W1_args m ρ c main_arg3 (by decide)

theorem found_4 (c : Dev nD) : V1 m ρ c main_arg4 = m ((c : Thread nD τ).loc main_arg4) := W1_args m ρ c main_arg4 (by decide)

theorem found_cols (c : Dev nD) : V1 m ρ c main_v0_1 = colsAll (m ((c : Thread nD τ).loc main_arg0)) (m ((c : Thread nD τ).loc main_arg2)) (m ((c : Thread nD τ).loc main_arg3)) :=
  (W1_arr m ρ c 5).trans (final0_5 (V0 m ρ) c)

/-! ## What is left at the end -/

theorem left_out (c : Dev nD) : W2 m ρ c (Proc.devRef .tc main_v0_0) = outAll (m ((c : Thread nD τ).loc main_arg0)) (m ((c : Thread nD τ).loc main_arg2)) (m ((c : Thread nD τ).loc main_arg3)) (m ((c : Thread nD τ).loc main_arg4)) :=
  (W2_of m ρ c main_v0_0 (by decide)).trans ((W1_arr m ρ c 4).trans (final0_4 (V0 m ρ) c))

theorem left_token (c : Dev nD) : W2 m ρ c (Proc.devRef .tc main_v1_0) = tokenAll (m ((c : Thread nD τ).loc main_arg0)) (m ((c : Thread nD τ).loc main_arg1)) (colsAll (m ((c : Thread nD τ).loc main_arg0)) (m ((c : Thread nD τ).loc main_arg2)) (m ((c : Thread nD τ).loc main_arg3))) (m ((c : Thread nD τ).loc main_arg2)) (m ((c : Thread nD τ).loc main_arg3)) (m ((c : Thread nD τ).loc main_arg4)) := by
  refine (W2_arr m ρ c 6).trans ((final1_6 (V1 m ρ) c).trans ?_)
  rw [found_0, found_1, found_2, found_3, found_4, found_cols]

theorem left_dcols (c : Dev nD) : W2 m ρ c (Proc.devRef .tc main_v1_1) = dcolsAll (m ((c : Thread nD τ).loc main_arg1)) (colsAll (m ((c : Thread nD τ).loc main_arg0)) (m ((c : Thread nD τ).loc main_arg2)) (m ((c : Thread nD τ).loc main_arg3))) (m ((c : Thread nD τ).loc main_arg4)) := by
  refine (W2_arr m ρ c 7).trans ((final1_7 (V1 m ρ) c).trans ?_)
  rw [found_1, found_4, found_cols]

theorem left_gated (c : Dev nD) : W2 m ρ c (Proc.devRef .tc main_v1_2) = gatedAll (colsAll (m ((c : Thread nD τ).loc main_arg0)) (m ((c : Thread nD τ).loc main_arg2)) (m ((c : Thread nD τ).loc main_arg3))) := by
  refine (W2_arr m ρ c 8).trans ((final1_8 (V1 m ρ) c).trans ?_)
  rw [found_cols]

theorem left_normed (c : Dev nD) : W2 m ρ c (Proc.devRef .tc main_v1_3) = normedAll (m ((c : Thread nD τ).loc main_arg0)) (m ((c : Thread nD τ).loc main_arg2)) := by
  refine (W2_arr m ρ c 9).trans ((final1_9 (V1 m ρ) c).trans ?_)
  rw [found_0, found_2]

theorem left_gain (c : Dev nD) : W2 m ρ c (Proc.devRef .tc main_v1_4) = gainAll (m ((c : Thread nD τ).loc main_arg0)) (m ((c : Thread nD τ).loc main_arg1)) (colsAll (m ((c : Thread nD τ).loc main_arg0)) (m ((c : Thread nD τ).loc main_arg2)) (m ((c : Thread nD τ).loc main_arg3))) (m ((c : Thread nD τ).loc main_arg3)) (m ((c : Thread nD τ).loc main_arg4)) := by
  refine (W2_arr m ρ c 10).trans ((final1_10 (V1 m ρ) c).trans ?_)
  rw [found_0, found_1, found_3, found_4, found_cols]

set_option backward.isDefEq.respectTransparency.types false in
theorem run : θ_run defs (onTc (τ := τ) (main (F := Ideal))) ⟨m, fun _ => 0, ρ⟩ (fun r => ∀ c : Dev nD,
      r.2.mem ((c.tc : Thread nD τ).loc main_v0_0) = outAll (m ((c : Thread nD τ).loc main_arg0)) (m ((c : Thread nD τ).loc main_arg2)) (m ((c : Thread nD τ).loc main_arg3)) (m ((c : Thread nD τ).loc main_arg4))
      ∧ r.2.mem ((c.tc : Thread nD τ).loc main_v1_0) = tokenAll (m ((c : Thread nD τ).loc main_arg0)) (m ((c : Thread nD τ).loc main_arg1)) (colsAll (m ((c : Thread nD τ).loc main_arg0)) (m ((c : Thread nD τ).loc main_arg2)) (m ((c : Thread nD τ).loc main_arg3))) (m ((c : Thread nD τ).loc main_arg2)) (m ((c : Thread nD τ).loc main_arg3)) (m ((c : Thread nD τ).loc main_arg4))
      ∧ r.2.mem ((c.tc : Thread nD τ).loc main_v1_1) = dcolsAll (m ((c : Thread nD τ).loc main_arg1)) (colsAll (m ((c : Thread nD τ).loc main_arg0)) (m ((c : Thread nD τ).loc main_arg2)) (m ((c : Thread nD τ).loc main_arg3))) (m ((c : Thread nD τ).loc main_arg4))
      ∧ r.2.mem ((c.tc : Thread nD τ).loc main_v1_2) = gatedAll (colsAll (m ((c : Thread nD τ).loc main_arg0)) (m ((c : Thread nD τ).loc main_arg2)) (m ((c : Thread nD τ).loc main_arg3)))
      ∧ r.2.mem ((c.tc : Thread nD τ).loc main_v1_3) = normedAll (m ((c : Thread nD τ).loc main_arg0)) (m ((c : Thread nD τ).loc main_arg2))
      ∧ r.2.mem ((c.tc : Thread nD τ).loc main_v1_4) = gainAll (m ((c : Thread nD τ).loc main_arg0)) (m ((c : Thread nD τ).loc main_arg1)) (colsAll (m ((c : Thread nD τ).loc main_arg0)) (m ((c : Thread nD τ).loc main_arg2)) (m ((c : Thread nD τ).loc main_arg3))) (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h hz c =>
      ⟨(h c _ (mem_uc main_v0_0 (by decide))).trans (left_out m ρ c),
       (h c _ (mem_uc main_v1_0 (by decide))).trans (left_token m ρ c),
       (h c _ (mem_uc main_v1_1 (by decide))).trans (left_dcols m ρ c),
       (h c _ (mem_uc main_v1_2 (by decide))).trans (left_gated m ρ c),
       (h c _ (mem_uc main_v1_3 (by decide))).trans (left_normed m ρ c),
       (h c _ (mem_uc main_v1_4 (by decide))).trans (left_gain m ρ c),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c),
       (h c _ (mem_uc main_arg3 (by decide))).trans (W2_main_arg3 m ρ c),
       (h c _ (mem_uc main_arg4 (by decide))).trans (W2_main_arg4 m ρ c)⟩)

end Cert.Kernel2Ideal.Ffn

end
-- ==== Proof.FfnRef.lean ====
/-
  The reference's results, stage by stage: the feed-forward block and its derivative at one token are the rows of the
  block's own module, and with a finite incoming gradient, gain, values' weights and output weights the six results are what
  the kernels' arrays hold.
-/
module

public import proofs.«01_k».proof.Proof.FfnBlocks
public import proofs.«01_k».proof.Proof.Gen.Reference2Ideal.Read

@[expose] public section

noncomputable section

namespace Cert.Reference2Ideal.Read

open Cert.Reference2Ideal Cert.Reference2Ideal.Gen Idealize.ShloMosaic Idealize.ShloMosaic.ValueIdx Cert.Ffn Cert.Norm Cert.Products
open Cert.Words (IsReal ofBits_one zeroWord)
open Cert.Kernel2Ideal.Ffn (rowOf colsAll outAll tokenAll dcolsAll gatedAll normedAll gainAll)

variable (x0 x1 : S8192x1024.Idx → EReal) (x2 : S1x1024.Idx → EReal) (x3 : S5632x1024.Idx → EReal) (x4 : S2816x1024.Idx → EReal)
variable (t : Fin 8192) (u : Fin 1) (d : Fin 1024) (k : Fin 2816) (j : Fin 5632)

/-! ## The normed row -/

theorem r4 : val_main_v4 (F := Ideal) x0 (ix1 t) = ∑ e, rowOf x0 t e * rowOf x0 t e := by
  rw [val_main_v4_apply]
  refine (congrArg (· + _) zeroWord).trans ((zero_add _).trans (Finset.sum_congr rfl fun e _ => ?_))
  exact at2 (val_main_v3 (F := Ideal) x0) _ t e rfl rfl

theorem r9 : val_main_v9 (F := Ideal) x0 (ix2 t u) = msq (rowOf x0 t) := by
  show Ideal.div (val_main_v5 (F := Ideal) x0 (ix2 t u)) (val_main_v6 (F := Ideal) (ix2 t u)) + val_main_v8 (F := Ideal) (ix2 t u) = _
  rw [val_main_v5_apply (F := Ideal), val_main_v6_apply (F := Ideal), val_main_v8_apply (F := Ideal)]
  exact congrArg (fun s => Ideal.div s width + eps) ((at1 (val_main_v4 (F := Ideal) x0) _ t rfl).trans (r4 x0 t))

theorem r10 : val_main_v10 (F := Ideal) x0 (ix2 t u) = inv (rowOf x0 t) := congrArg Ideal.rsqrt (r9 x0 t u)

theorem r13 : val_main_v13 (F := Ideal) x0 (ix2 t u) = Ideal.ofBits .f32 0xBF000000#32 * Ideal.div (inv (rowOf x0 t)) (msq (rowOf x0 t)) := by
  show val_main_v12 (F := Ideal) (ix2 t u) * Ideal.div (val_main_v10 (F := Ideal) x0 (ix2 t u)) (val_main_v9 (F := Ideal) x0 (ix2 t u)) = _
  rw [val_main_v12_apply (F := Ideal), r10, r9]
  rfl

theorem r14 : val_main_v14 (F := Ideal) x0 (ix2 t d) = inv (rowOf x0 t) := by
  rw [val_main_v14_apply (F := Ideal)]
  exact (at2 (val_main_v10 (F := Ideal) x0) _ t 0 rfl rfl).trans (r10 x0 t 0)

theorem r15 : val_main_v15 (F := Ideal) x0 (ix2 t d) = hat (rowOf x0 t) d := congrArg (x0 (ix2 t d) * ·) (r14 x0 t d)

theorem r17 : val_main_v17 (F := Ideal) x0 x2 (ix2 t d) = normed (rowOf x0 t) (rowOf x2 0) d := by
  refine congrArg₂ (· * ·) (r15 x0 t d) ?_
  rw [val_main_v16_apply (F := Ideal)]
  exact at2 x2 _ 0 d rfl rfl

/-! ## The columns and the gated values -/

theorem r1 : val_main_v1 (F := Ideal) x3 (ix2 d j) = rowOf x3 j d := by
  rw [val_main_v1_apply (F := Ideal)]
  exact at2 x3 _ j d rfl rfl

theorem r18 : val_main_v18 (F := Ideal) x0 x2 x3 (ix2 t j) = colsAll x0 x2 x3 (ix2 t j) := by
  rw [val_main_v18_apply]
  show _ = ∑ e, normed (rowOf x0 t) (rowOf x2 0) e * rowOf x3 j e
  refine Finset.sum_congr rfl fun e _ => ?_
  exact congrArg₂ (· * ·) ((at2 (val_main_v17 (F := Ideal) x0 x2) _ t e rfl rfl).trans (r17 x0 x2 t e))
    ((at2 (val_main_v1 (F := Ideal) x3) _ e j rfl rfl).trans (r1 x3 e j))

/-- The columns of a token. -/
abbrev zs : Fin 5632 → EReal := rowOf (colsAll x0 x2 x3) t

theorem r19 : val_main_v19 (F := Ideal) x0 x2 x3 (ix2 t k) = zs x0 x2 x3 t (lo k) := by
  rw [val_main_v19_apply (F := Ideal)]
  exact (at2 (val_main_v18 (F := Ideal) x0 x2 x3) _ t (lo k) rfl rfl).trans (r18 x0 x2 x3 t (lo k))

theorem r20 : val_main_v20 (F := Ideal) x0 x2 x3 (ix2 t k) = zs x0 x2 x3 t (hi k) := by
  rw [val_main_v20_apply (F := Ideal)]
  exact (at2 (val_main_v18 (F := Ideal) x0 x2 x3) _ t (hi k) rfl rfl).trans (r18 x0 x2 x3 t (hi k))

theorem r21_2 : val_main_v21_2 (F := Ideal) x0 x2 x3 (ix2 t k) = squash (zs x0 x2 x3 t) k := by
  show Ideal.div (val_main_call0_v4 (F := Ideal) (ix2 t k))
    (val_main_call0_v2 (F := Ideal) (ix2 t k) + Ideal.exp (-(val_main_v19 (F := Ideal) x0 x2 x3 (ix2 t k)))) = _
  rw [val_main_call0_v4_apply (F := Ideal), val_main_call0_v2_apply (F := Ideal), r19]
  exact congrArg₂ (fun a b => Ideal.div a (b + Ideal.exp (-(zs x0 x2 x3 t (lo k))))) ofBits_one ofBits_one

theorem r21_1 : val_main_v21_1 (F := Ideal) x0 x2 x3 (ix2 t k)
    = squash (zs x0 x2 x3 t) k * (1 - squash (zs x0 x2 x3 t) k) := by
  show val_main_v21_2 (F := Ideal) x0 x2 x3 (ix2 t k) * (val_main_call0_v6 (F := Ideal) (ix2 t k) - val_main_v21_2 (F := Ideal) x0 x2 x3 (ix2 t k)) = _
  rw [val_main_call0_v6_apply (F := Ideal), r21_2]
  exact congrArg (fun a => squash (zs x0 x2 x3 t) k * (a - squash (zs x0 x2 x3 t) k)) ofBits_one

theorem r21_0 : val_main_v21_0 (F := Ideal) x0 x2 x3 (ix2 t k) = zs x0 x2 x3 t (lo k) * squash (zs x0 x2 x3 t) k :=
  congrArg₂ (· * ·) (r19 x0 x2 x3 t k) (r21_2 x0 x2 x3 t k)

theorem r22 : val_main_v22 (F := Ideal) x0 x2 x3 (ix2 t k) = gated (zs x0 x2 x3 t) k :=
  congrArg₂ (· * ·) (r21_0 x0 x2 x3 t k) (r20 x0 x2 x3 t k)

theorem r26 : val_main_v26 (F := Ideal) x0 x2 x3 x4 (ix2 t d) = outAll x0 x2 x3 x4 (ix2 t d) := by
  show x0 (ix2 t d) + val_main_v24 (F := Ideal) (ix2 t d) * val_main_v23 (F := Ideal) x0 x2 x3 x4 (ix2 t d) = _
  rw [val_main_v24_apply (F := Ideal), val_main_v23_apply]
  refine congrArg (fun s => x0 (ix2 t d) + half * s) (Finset.sum_congr rfl fun k _ => ?_)
  exact congrArg₂ (· * ·) ((at2 (val_main_v22 (F := Ideal) x0 x2 x3) _ t k rfl rfl).trans (r22 x0 x2 x3 t k)) (at2 x4 _ k d rfl rfl)

/-! ## The gradient of the columns -/

/-- What the claim asks of the arguments. -/
structure Finite : Prop where
  dy : ∀ i, IsReal (x1 i)
  g : ∀ i, IsReal (x2 i)
  wu : ∀ k d, IsReal (rowOf x3 (hi k) d)
  wd : ∀ i, IsReal (x4 i)

theorem r27 : val_main_v27 (F := Ideal) x1 = x1 := shapeCast_self _ _

theorem r29 : val_main_v29 (F := Ideal) x1 (ix2 t d) = half * rowOf x1 t d := by
  show val_main_v28 (F := Ideal) (ix2 t d) * val_main_v27 (F := Ideal) x1 (ix2 t d) = _
  rw [val_main_v28_apply (F := Ideal), r27]
  rfl

theorem r30 : val_main_v30 (F := Ideal) x1 x4 (ix2 t k) = dgated (rowOf x4) (rowOf x1 t) k := by
  rw [val_main_v30_apply]
  refine Finset.sum_congr rfl fun e _ => ?_
  exact congrArg₂ (· * ·) ((at2 (val_main_v29 (F := Ideal) x1) _ t e rfl rfl).trans (r29 x1 t e)) (at2 x4 _ k e rfl rfl)

theorem r31 : val_main_v31 (F := Ideal) x0 x1 x2 x3 x4 (ix2 t k) = dvalue (rowOf x4) (rowOf x1 t) (zs x0 x2 x3 t) k :=
  (congrArg₂ (· * ·) (r21_0 x0 x2 x3 t k) (r30 x1 x4 t k)).trans (mul_comm _ _)

theorem r32 : val_main_v32 (F := Ideal) x0 x1 x2 x3 x4 (ix2 t k) = dgated (rowOf x4) (rowOf x1 t) k * zs x0 x2 x3 t (hi k) :=
  congrArg₂ (· * ·) (r30 x1 x4 t k) (r20 x0 x2 x3 t k)

theorem r33 : val_main_v33 (F := Ideal) x0 x1 x2 x3 x4 (ix2 t k) = dgateRef (rowOf x4) (rowOf x1 t) (zs x0 x2 x3 t) k :=
  congrArg₂ (· + ·) (congrArg₂ (· * ·) (r32 x0 x1 x2 x3 x4 t k) (r21_2 x0 x2 x3 t k))
    (congrArg₂ (· * ·) (congrArg₂ (· * ·) (r19 x0 x2 x3 t k) (r32 x0 x1 x2 x3 x4 t k)) (r21_1 x0 x2 x3 t k))

variable {x0 x1 x2 x3 x4}

theorem dgate_ref (hf : Finite x1 x2 x3 x4) : dgateRef (rowOf x4) (rowOf x1 t) (zs x0 x2 x3 t) k = dgate (rowOf x4) (rowOf x1 t) (zs x0 x2 x3 t) k :=
  (dgate_eq _ _ _ k (pair_real (x := rowOf x0 t) (g := rowOf x2 0) (wu := rowOf x3) (wd := rowOf x4) (dy := rowOf x1 t) (fun _ => hf.g _) hf.wu (fun _ _ => hf.wd _) (fun _ => hf.dy _) k)).symm

theorem r34 (hf : Finite x1 x2 x3 x4) : val_main_v34 (F := Ideal) x0 x1 x2 x3 x4 (ix2 t j) = dcols (rowOf x4) (rowOf x1 t) (zs x0 x2 x3 t) j := by
  unfold dcols
  obtain ⟨k, rfl⟩ | ⟨k, rfl⟩ := col_cases j
  · rw [join_lo, ← dgate_ref t k hf, ← r33 x0 x1 x2 x3 x4 t k]
    exact concatenate_pair_apply_left (s₁ := S8192x2816) (s₂ := S8192x2816) 1 _ _ _ (ix2 t (lo k)) rfl (ix2 t k) (fun a => match a with | ⟨0, _⟩ => rfl | ⟨1, _⟩ => rfl)
  · rw [join_hi, ← r31 x0 x1 x2 x3 x4 t k]
    exact concatenate_pair_apply_right (s₁ := S8192x2816) (s₂ := S8192x2816) 1 _ _ _ (ix2 t (hi k)) rfl rfl (ix2 t k)
      (fun a => match a with | ⟨0, _⟩ => fun _ => rfl | ⟨1, _⟩ => fun hne => absurd rfl hne) (by show k.val + 2816 = 2816 + k.val; omega)

/-! ## The gradients of the normed row, the gain and the token -/

theorem r35 (hf : Finite x1 x2 x3 x4) : val_main_v35 (F := Ideal) x0 x1 x2 x3 x4 (ix2 t d) = dnormed (rowOf x3) (rowOf x4) (rowOf x1 t) (zs x0 x2 x3 t) d := by
  rw [val_main_v35_apply]
  refine Finset.sum_congr rfl fun j _ => ?_
  exact congrArg₂ (· * ·) ((at2 (val_main_v34 (F := Ideal) x0 x1 x2 x3 x4) _ t j rfl rfl).trans (r34 t j hf))
    ((at2 (val_main_v1 (F := Ideal) x3) _ d j rfl rfl).trans (r1 x3 d j))

theorem r38 (hf : Finite x1 x2 x3 x4) : val_main_v38 (F := Ideal) x0 x1 x2 x3 x4 (ix2 u d) = gainAll x0 x1 (colsAll x0 x2 x3) x3 x4 (ix2 u d) := by
  rw [val_main_v38_apply (F := Ideal)]
  refine (at1 (val_main_v37 (F := Ideal) x0 x1 x2 x3 x4) _ d (by show u.val * 1024 + d.val = d.val; omega)).trans ?_
  rw [val_main_v37_apply]
  refine (congrArg (· + _) zeroWord).trans ((zero_add _).trans (Finset.sum_congr rfl fun t _ => ?_))
  refine (at2 (val_main_v36 (F := Ideal) x0 x1 x2 x3 x4) _ t d rfl rfl).trans ?_
  exact (congrArg₂ (· * ·) (r15 x0 t d) (r35 t d hf)).trans (mul_comm _ _)

/-- The gradient of the normalised row. -/
abbrev us (x0 x1 : S8192x1024.Idx → EReal) (x2 : S1x1024.Idx → EReal) (x3 : S5632x1024.Idx → EReal) (x4 : S2816x1024.Idx → EReal) (t : Fin 8192) :
    Fin 1024 → EReal := fun e => dnormed (rowOf x3) (rowOf x4) (rowOf x1 t) (zs x0 x2 x3 t) e * rowOf x2 0 e

theorem r40 (hf : Finite x1 x2 x3 x4) : val_main_v40 (F := Ideal) x0 x1 x2 x3 x4 (ix2 t d) = us x0 x1 x2 x3 x4 t d := by
  refine congrArg₂ (· * ·) (r35 t d hf) ?_
  rw [val_main_v39_apply (F := Ideal)]
  exact at2 x2 _ 0 d rfl rfl

theorem r42 (hf : Finite x1 x2 x3 x4) : val_main_v42 (F := Ideal) x0 x1 x2 x3 x4 (ix1 t) = ∑ e, rowOf x0 t e * us x0 x1 x2 x3 x4 t e := by
  rw [val_main_v42_apply]
  refine (congrArg (· + _) zeroWord).trans ((zero_add _).trans (Finset.sum_congr rfl fun e _ => ?_))
  refine (at2 (val_main_v41 (F := Ideal) x0 x1 x2 x3 x4) _ t e rfl rfl).trans ?_
  exact congrArg (x0 (ix2 t e) * ·) (r40 t e hf)

theorem r48 (hf : Finite x1 x2 x3 x4) : val_main_v48 (F := Ideal) x0 x1 x2 x3 x4 (ix2 t u) = rootFactor (rowOf x0 t) (us x0 x1 x2 x3 x4 t) := by
  show Ideal.div (val_main_v43 (F := Ideal) x0 x1 x2 x3 x4 (ix2 t u) * val_main_v13 (F := Ideal) x0 (ix2 t u)) (val_main_v47 (F := Ideal) (ix2 t u)) = _
  rw [val_main_v43_apply (F := Ideal), r13, val_main_v47_apply (F := Ideal)]
  exact congrArg (fun s => Ideal.div (s * (Ideal.ofBits .f32 0xBF000000#32 * Ideal.div (inv (rowOf x0 t)) (msq (rowOf x0 t)))) width) ((at1 (val_main_v42 (F := Ideal) x0 x1 x2 x3 x4) _ t (by show t.val * 1 + u.val = t.val; omega)).trans (r42 t hf))

theorem r50 (hf : Finite x1 x2 x3 x4) : val_main_v50 (F := Ideal) x0 x1 x2 x3 x4 (ix2 t d) = rootFactor (rowOf x0 t) (us x0 x1 x2 x3 x4 t) := by
  rw [val_main_v50_apply (F := Ideal)]
  refine (at1 (val_main_v49 (F := Ideal) x0 x1 x2 x3 x4) _ t rfl).trans ?_
  rw [val_main_v49_apply]
  refine (congrArg (· + _) zeroWord).trans ((zero_add _).trans ?_)
  rw [Fin.sum_univ_one]
  exact (at2 (val_main_v48 (F := Ideal) x0 x1 x2 x3 x4) _ t 0 rfl rfl).trans (r48 t 0 hf)

theorem r55 (hf : Finite x1 x2 x3 x4) : val_main_v55 (F := Ideal) x0 x1 x2 x3 x4 (ix2 t d) = tokenAll x0 x1 (colsAll x0 x2 x3) x2 x3 x4 (ix2 t d) := by
  show x1 (ix2 t d) + (val_main_v40 (F := Ideal) x0 x1 x2 x3 x4 (ix2 t d) * val_main_v44 (F := Ideal) x0 (ix2 t d)
    + x0 (ix2 t d) * val_main_v50 (F := Ideal) x0 x1 x2 x3 x4 (ix2 t d) + val_main_v50 (F := Ideal) x0 x1 x2 x3 x4 (ix2 t d) * x0 (ix2 t d)) = _
  rw [r40 t d hf, r50 t d hf, val_main_v44_apply (F := Ideal)]
  rw [show val_main_v10 (F := Ideal) x0 (idx_main_v44 (ix2 t d)) = inv (rowOf x0 t) from (at2 (val_main_v10 (F := Ideal) x0) _ t 0 rfl rfl).trans (r10 x0 t 0)]
  exact congrArg (x1 (ix2 t d) + ·) (back_eq (rowOf x0 t) (us x0 x1 x2 x3 x4 t) d).symm

/-! ## The results -/

variable (x0)

theorem out_ref : val_main_v26 (F := Ideal) x0 x2 x3 x4 = outAll x0 x2 x3 x4 := by
  funext i
  obtain ⟨t, d, rfl⟩ : ∃ (t : Fin 8192) (d : Fin 1024), i = ix2 t d := ⟨i 0, i 1, eq_ix2 i⟩
  exact r26 x0 x2 x3 x4 t d

theorem token_ref (hf : Finite x1 x2 x3 x4) : val_main_v55 (F := Ideal) x0 x1 x2 x3 x4 = tokenAll x0 x1 (colsAll x0 x2 x3) x2 x3 x4 := by
  funext i
  obtain ⟨t, d, rfl⟩ : ∃ (t : Fin 8192) (d : Fin 1024), i = ix2 t d := ⟨i 0, i 1, eq_ix2 i⟩
  exact r55 t d hf

theorem dcols_ref (hf : Finite x1 x2 x3 x4) : val_main_v56 (F := Ideal) x0 x1 x2 x3 x4 = dcolsAll x1 (colsAll x0 x2 x3) x4 := by
  funext i
  obtain ⟨t, d, rfl⟩ : ∃ (t : Fin 8192) (d : Fin 5632), i = ix2 t d := ⟨i 0, i 1, eq_ix2 i⟩
  exact r34 t d hf

theorem gated_ref : val_main_v57 (F := Ideal) x0 x2 x3 = gatedAll (colsAll x0 x2 x3) := by
  funext i
  obtain ⟨t, d, rfl⟩ : ∃ (t : Fin 8192) (d : Fin 2816), i = ix2 t d := ⟨i 0, i 1, eq_ix2 i⟩
  exact r22 x0 x2 x3 t d

theorem normed_ref : val_main_v58 (F := Ideal) x0 x2 = normedAll x0 x2 := by
  funext i
  obtain ⟨t, d, rfl⟩ : ∃ (t : Fin 8192) (d : Fin 1024), i = ix2 t d := ⟨i 0, i 1, eq_ix2 i⟩
  exact r17 x0 x2 t d

theorem gain_ref (hf : Finite x1 x2 x3 x4) : val_main_v38 (F := Ideal) x0 x1 x2 x3 x4 = gainAll x0 x1 (colsAll x0 x2 x3) x3 x4 := by
  funext i
  obtain ⟨t, d, rfl⟩ : ∃ (t : Fin 1) (d : Fin 1024), i = ix2 t d := ⟨i 0, i 1, eq_ix2 i⟩
  exact r38 t d hf

end Cert.Reference2Ideal.Read

end
-- ==== Proof.FfnClaims.lean ====
/-
  The claims about the feed-forward block: the forward kernel and the backward kernel after it, from arguments whose incoming
  gradient, gain, values' weights and output weights are finite, end with the reference's six results.
-/
module

public import proofs.«01_k».proof.Defs
public import proofs.«01_k».proof.Proof.FfnRun
public import proofs.«01_k».proof.Proof.FfnRef
public import proofs.«01_k».proof.Proof.Gen.Reference2Ideal.Run
public import proofs.«01_k».proof.Proof.Gen.Pre_finite_ffn
public import Idealize.ShloMosaic.Adequacy
public import Idealize.ShloMosaic.Init

@[expose] public section

noncomputable section

namespace Cert.FfnClaims

open Idealize.ShloMosaic Idealize.ShloMosaic.ValueIdx Idealize.ShloMosaic.TcCoe Idealize.SL.Sem Cert.Words

theorem frame_reference : Cert.quiescent_Reference2Ideal := fun m ρ _ =>
  (θ_run Cert.Reference2Ideal.defs _ _).mono (fun r h => ⟨fun c => (h c).2.2.2.2.2.2, sem_eq_zero_of_no_sems (by decide) r.2⟩)
    (Cert.Reference2Ideal.Value.run (F := Ideal) m ρ)

variable (m : (ℓ : Loc Cert.Kernel2Ideal.nD Cert.Kernel2Ideal.τ Cert.Kernel2Ideal.sig) → Buf (Elt Ideal) ℓ)

theorem finite_of_pre (h : Cert.Pre_Kernel2Ideal_finite_ffn m) (c : Dev Cert.Kernel2Ideal.nD) :
    Cert.Reference2Ideal.Read.Finite (m ((c.tc : Thread Cert.Kernel2Ideal.nD Cert.Kernel2Ideal.τ).loc Cert.Kernel2Ideal.main_arg1))
      (m ((c.tc : Thread Cert.Kernel2Ideal.nD Cert.Kernel2Ideal.τ).loc Cert.Kernel2Ideal.main_arg2))
      (m ((c.tc : Thread Cert.Kernel2Ideal.nD Cert.Kernel2Ideal.τ).loc Cert.Kernel2Ideal.main_arg3))
      (m ((c.tc : Thread Cert.Kernel2Ideal.nD Cert.Kernel2Ideal.τ).loc Cert.Kernel2Ideal.main_arg4)) := by
  obtain ⟨hdy, hg, hu, hd⟩ := h c
  refine ⟨fun i => isReal_of_abs_lt _ (congrFun hdy i), fun i => isReal_of_abs_lt _ (congrFun hg i), fun k d => ?_, fun i => isReal_of_abs_lt _ (congrFun hd i)⟩
  obtain ⟨r, hr⟩ := isReal_of_abs_lt _ (congrFun hu (ix2 k d))
  refine ⟨r, Eq.trans ?_ hr⟩
  exact (extractStridedSlice_apply ![2816, 0] (m ((c.tc : Thread Cert.Kernel2Ideal.nD Cert.Kernel2Ideal.τ).loc Cert.Kernel2Ideal.main_arg3))
    Cert.Pre_finite_ffn.Facts.slices_S5632x1024_S2816x1024_2816_0 (ix2 k d) (ix2 (Cert.Ffn.hi k) d) fun a => match a with
      | ⟨0, _⟩ => rfl
      | ⟨1, _⟩ => (Nat.zero_add _).symm).symm

theorem algebraic : Cert.algebraic_Kernel2Ideal_Reference2Ideal_pre_finite_ffn := by
  intro m ρ m' ρ' hpre hagree
  refine ⟨_, _, _, _, _, _, Cert.Kernel2Ideal.Ffn.run m ρ, ?_⟩
  refine (θ_run Cert.Reference2Ideal.defs _ _).mono (fun _ h c => ?_) (Cert.Reference2Ideal.Value.run (F := Ideal) m' ρ')
  have hf := finite_of_pre m hpre c
  obtain ⟨h0, h1, h2, h3, h4⟩ := hagree c
  refine ⟨(h c).1.trans ?_, (h c).2.1.trans ?_, (h c).2.2.1.trans ?_, (h c).2.2.2.1.trans ?_, (h c).2.2.2.2.1.trans ?_, (h c).2.2.2.2.2.1.trans ?_, (h c).2.2.2.2.2.2⟩
  · rw [Cert.Reference2Ideal.Read.val_main_v26_eq, h0, h2, h3, h4]
    exact Cert.Reference2Ideal.Read.out_ref _
  · rw [Cert.Reference2Ideal.Read.val_main_v55_eq, h0, h1, h2, h3, h4]
    exact Cert.Reference2Ideal.Read.token_ref _ hf
  · rw [Cert.Reference2Ideal.Read.val_main_v56_eq, h0, h1, h2, h3, h4]
    exact Cert.Reference2Ideal.Read.dcols_ref _ hf
  · rw [Cert.Reference2Ideal.Read.val_main_v57_eq, h0, h2, h3]
    exact Cert.Reference2Ideal.Read.gated_ref _
  · rw [Cert.Reference2Ideal.Read.val_main_v58_eq, h0, h2]
    exact Cert.Reference2Ideal.Read.normed_ref _
  · rw [Cert.Reference2Ideal.Read.val_main_v38_eq, h0, h1, h2, h3, h4]
    exact Cert.Reference2Ideal.Read.gain_ref _ hf

end Cert.FfnClaims

end
-- ==== Proof.MixGradStep.lean ====
module

public import Idealize.ShloMosaic.Lib.Pipeline.FrameBody
public import Idealize.ShloMosaic.Lib.Ring
public import Idealize.ShloMosaic.Lib.Tactic

@[expose] public section

/-!
# One grid point of a kernel with two streamed operands

The gradient of the gated mix keeps eight input blocks, eight output blocks and two three-slot rings.  The
bookkeeping of one grid point is the same for every point: open the two rings into their slots, run the body,
close the rings, and read each output block off the stores that cover it.  It is proved here over arbitrary
assertions, so that the large terms of the kernel never take part in it.
-/

noncomputable section

namespace Cert.MixGradStep

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- A run of the body stated slot by slot gives the point's obligation stated ring by ring.  `I` are the blocks as
    the pipeline hands them over, `X` and `E` as the run takes them, `D` as the stores leave them and `O` as the
    pipeline takes them back; `A` and `B` are the slots of the two rings. -/
theorem regroup {M : Type} [URA M] {Ω : Type} (run : (PUnit → sProp M) → sProp M) {p q : Ω → Prop} {ow : Ω → sProp M}
    {G R S R' S' A1 A2 A3 B1 B2 B3 A1' A2' A3' B1' B2' B3' : sProp M}
    {I0 I1 I2 I3 I4 I5 I6 I7 I8 I9 I10 I11 I12 I13 I14 I15 : sProp M}
    {X0 X1 X2 X3 X4 X5 X6 X7 E8 E9 E10 E11 E12 E13 E14 E15 : sProp M}
    {D8 D9 D10 D11 D12 D13 D14 D15 O8 O9 O10 O11 O12 O13 O14 O15 : sProp M}
    (hrun : ∀ (W : Ω) (K : PUnit → sProp M),
      iprop(X0 ∗ X1 ∗ X2 ∗ X3 ∗ X4 ∗ X5 ∗ X6 ∗ X7 ∗ E8 ∗ E9 ∗ E10 ∗ E11 ∗ E12 ∗ E13 ∗ E14 ∗ E15 ∗ A1 ∗ A2 ∗ A3 ∗ B1 ∗ B2 ∗ B3 ∗ ow W
        ∗ (iprop(X0 ∗ X1 ∗ X2 ∗ X3 ∗ X4 ∗ X5 ∗ X6 ∗ X7 ∗ D8 ∗ D9 ∗ D10 ∗ D11 ∗ D12 ∗ D13 ∗ D14 ∗ D15 ∗ A1' ∗ A2' ∗ A3' ∗ B1' ∗ B2' ∗ B3' ∗ (∃ W', ow W')) -∗ K ⟨⟩)) ⊢ run K)
    (hR : R ⊢ iprop(A1 ∗ A2 ∗ A3)) (hS : S ⊢ iprop(B1 ∗ B2 ∗ B3))
    (hR' : iprop(A1' ∗ A2' ∗ A3') ⊢ R') (hS' : iprop(B1' ∗ B2' ∗ B3') ⊢ S')
    (h0 : I0 ⊢ X0) (h1 : I1 ⊢ X1) (h2 : I2 ⊢ X2) (h3 : I3 ⊢ X3) (h4 : I4 ⊢ X4) (h5 : I5 ⊢ X5) (h6 : I6 ⊢ X6) (h7 : I7 ⊢ X7) (h8 : I8 ⊢ E8) (h9 : I9 ⊢ E9) (h10 : I10 ⊢ E10) (h11 : I11 ⊢ E11) (h12 : I12 ⊢ E12) (h13 : I13 ⊢ E13) (h14 : I14 ⊢ E14) (h15 : I15 ⊢ E15)
    (o8 : D8 ⊢ O8) (o9 : D9 ⊢ O9) (o10 : D10 ⊢ O10) (o11 : D11 ⊢ O11) (o12 : D12 ⊢ O12) (o13 : D13 ⊢ O13) (o14 : D14 ⊢ O14) (o15 : D15 ⊢ O15)
    (hq : ∀ W, q W) :
    iprop((G ∗ R ∗ S) ∗ (∃ W, ⌜p W⌝ ∗ ow W) ∗ I0 ∗ I1 ∗ I2 ∗ I3 ∗ I4 ∗ I5 ∗ I6 ∗ I7 ∗ I8 ∗ I9 ∗ I10 ∗ I11 ∗ I12 ∗ I13 ∗ I14 ∗ I15)
      ⊢ run (fun _ => iprop((G ∗ R' ∗ S') ∗ (∃ W, ⌜q W⌝ ∗ ow W) ∗ X0 ∗ X1 ∗ X2 ∗ X3 ∗ X4 ∗ X5 ∗ X6 ∗ X7 ∗ O8 ∗ O9 ∗ O10 ∗ O11 ∗ O12 ∗ O13 ∗ O14 ∗ O15)) := by
  iintro ⟨⟨HG, HR, HS⟩, ⟨%W, -, HW⟩, H0, H1, H2, H3, H4, H5, H6, H7, H8, H9, H10, H11, H12, H13, H14, H15⟩
  ihave HRs := hR $$ HR
  icases HRs with ⟨Ha1, Ha2, Ha3⟩
  ihave HSs := hS $$ HS
  icases HSs with ⟨Hb1, Hb2, Hb3⟩
  iapply (hrun W _)
  isplitl [H0]; · iapply h0; iexact H0
  isplitl [H1]; · iapply h1; iexact H1
  isplitl [H2]; · iapply h2; iexact H2
  isplitl [H3]; · iapply h3; iexact H3
  isplitl [H4]; · iapply h4; iexact H4
  isplitl [H5]; · iapply h5; iexact H5
  isplitl [H6]; · iapply h6; iexact H6
  isplitl [H7]; · iapply h7; iexact H7
  isplitl [H8]; · iapply h8; iexact H8
  isplitl [H9]; · iapply h9; iexact H9
  isplitl [H10]; · iapply h10; iexact H10
  isplitl [H11]; · iapply h11; iexact H11
  isplitl [H12]; · iapply h12; iexact H12
  isplitl [H13]; · iapply h13; iexact H13
  isplitl [H14]; · iapply h14; iexact H14
  isplitl [H15]; · iapply h15; iexact H15
  isplitl [Ha1]; · iexact Ha1
  isplitl [Ha2]; · iexact Ha2
  isplitl [Ha3]; · iexact Ha3
  isplitl [Hb1]; · iexact Hb1
  isplitl [Hb2]; · iexact Hb2
  isplitl [Hb3]; · iexact Hb3
  isplitl [HW]; · iexact HW
  iintro ⟨H0, H1, H2, H3, H4, H5, H6, H7, H8, H9, H10, H11, H12, H13, H14, H15, Ha1, Ha2, Ha3, Hb1, Hb2, Hb3, ⟨%W', HW⟩⟩
  isplitl [HG Ha1 Ha2 Ha3 Hb1 Hb2 Hb3]
  · isplitl [HG]; · iexact HG
    isplitl [Ha1 Ha2 Ha3]
    · iapply hR'
      isplitl [Ha1]; · iexact Ha1
      isplitl [Ha2]; · iexact Ha2
      iexact Ha3
    iapply hS'
    isplitl [Hb1]; · iexact Hb1
    isplitl [Hb2]; · iexact Hb2
    iexact Hb3
  isplitl [HW]
  · iexists W'
    isplitr; · ipureintro; exact hq W'
    iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iapply o8; iexact H8
  isplitl [H9]; · iapply o9; iexact H9
  isplitl [H10]; · iapply o10; iexact H10
  isplitl [H11]; · iapply o11; iexact H11
  isplitl [H12]; · iapply o12; iexact H12
  isplitl [H13]; · iapply o13; iexact H13
  isplitl [H14]; · iapply o14; iexact H14
  iapply o15; iexact H15

end Cert.MixGradStep

end
-- ==== Proof.MixGradFrame.lean ====
module

public import proofs.«01_k».proof.Proof.Gen.Kernel9Ideal.Frame.RunC
public import proofs.«01_k».proof.Proof.MixGradStep
public import Idealize.ShloMosaic.Lib.Claim

@[expose] public section

set_option maxRecDepth 16384

/-!
# The frame of the gradient of the gated mix

The kernel visits 32 row blocks.  Two operands stay in the large memory and reach the body through rings of three
slots, filled two points ahead; the bias gradient stays in one staging block, is cleared at the first point and
is written back after the last one.  The body is run in three cases: the first point, which starts the rings, a middle point, which starts the fetch two ahead, and one of the last two points, which start no fetch.
-/

noncomputable section

namespace Cert.MixGradFrame

open Cert.Kernel9Ideal Cert.Kernel9Ideal.Gen Cert.MixGradStep
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The assertions of this program's proof. -/
abbrev Asrt (F : FTy → Type) : Type := sProp (MT nD τ sig Unit (Elt F) ℕ (Pipeline.UD sig nD τ) ℕ)

variable (m : (ℓ : Loc nD τ sig) → Buf (Elt F) ℓ) (ρ : Dev nD → PrngReg)

/-! ## The rings before and after a point -/

section Rings

variable {C : Fin 3 → Type} (cell : Fin 3 → Asrt F) (slot : (s : Fin 3) → C s → Asrt F) (flight : (s : Fin 3) → Fin 32 → C s → Asrt F)

/-- A ring of three slots before the point `k`, filled two blocks ahead. -/
def ringOf (k : ℕ) : Asrt F :=
  if k = 0 then Ring.At₀ cell slot (fun _ : Fin 32 => iprop(emp)) else Ring.At 2 cell slot (fun _ => iprop(emp)) flight k

/-- Before the first point every slot of the ring is free. -/
theorem open_A (k : ℕ) (hk : k = 0) :
    ringOf (F := F) cell slot flight k ⊢ iprop(Ring.free cell slot (Ring.sl 3 k)
      ∗ Ring.free cell slot (Ring.sl 3 (k + 1)) ∗ Ring.free cell slot (Ring.sl 3 (k + 2))) := by
  unfold ringOf
  rw [if_pos hk, Ring.At₀_eq3' _ _ _ k hk (by decide : 3 ≤ 32)]
  iintro ⟨-, H⟩
  iexact H
/-- The first point leaves two blocks of the ring in flight and one slot free. -/
theorem close_A (k : ℕ) (hk : k = 0) :
    iprop(Ring.inflight flight (Ring.sl 3 (k + 1)) (Ring.bk 32 (k + 1))
      ∗ Ring.inflight flight (Ring.sl 3 (k + 2)) (Ring.bk 32 (k + 2))
      ∗ Ring.free cell slot (Ring.sl 3 k)) ⊢ ringOf (F := F) cell slot flight (k + 1) := by
  unfold ringOf
  rw [if_neg (Nat.succ_ne_zero k), Ring.At3_one' _ _ _ _ k hk (by decide : 3 ≤ 32)]
  exact Ring.with_homes (Entails.refl _)
/-- Before a middle point two blocks of the ring are in flight and one slot is free. -/
theorem open_B (k : ℕ) (hk : 1 ≤ k) (hB : k + 2 < 32) :
    ringOf (F := F) cell slot flight k ⊢ iprop(Ring.inflight flight (Ring.sl 3 k) (Ring.bk 32 k)
      ∗ Ring.inflight flight (Ring.sl 3 (k + 1)) (Ring.bk 32 (k + 1))
      ∗ Ring.free cell slot (Ring.sl 3 (k + 2))) := by
  unfold ringOf
  rw [if_neg (by omega), Ring.At3_here _ _ _ _ k hB]
  iintro ⟨-, H⟩
  iexact H
/-- A middle point leaves the ring one block further. -/
theorem close_B (k : ℕ) (hB : k + 2 < 32) :
    iprop(Ring.inflight flight (Ring.sl 3 (k + 1)) (Ring.bk 32 (k + 1))
      ∗ Ring.inflight flight (Ring.sl 3 (k + 2)) (Ring.bk 32 (k + 2))
      ∗ Ring.free cell slot (Ring.sl 3 k)) ⊢ ringOf (F := F) cell slot flight (k + 1) := by
  unfold ringOf
  rw [if_neg (Nat.succ_ne_zero k), Ring.At3_next _ _ _ _ k hB, Ring.slotAt3_next0 _ _ _ k (by omega), Ring.slotAt3_next1 _ _ _ k hB]
  exact Ring.with_homes (Entails.refl _)
/-- Before one of the last two points a block of the ring is in flight and nothing more goes out. -/
theorem open_C (k : ℕ) (hk : 1 ≤ k) (hl : k < 32) :
    ringOf (F := F) cell slot flight k ⊢ iprop(Ring.inflight flight (Ring.sl 3 k) (Ring.bk 32 k)
      ∗ Ring.slotAt 2 cell slot flight k 1
      ∗ Ring.free cell slot (Ring.sl 3 (k + 2))) := by
  unfold ringOf
  rw [if_neg (by omega), Ring.At3_here_tail _ _ _ _ k hl]
  iintro ⟨-, H⟩
  iexact H
/-- One of the last two points frees a slot of the ring. -/
theorem close_C (k : ℕ) (hB : 32 ≤ k + 2) (hl : k < 32) :
    iprop(Ring.slotAt 2 cell slot flight k 1
      ∗ Ring.free cell slot (Ring.sl 3 (k + 2))
      ∗ Ring.free cell slot (Ring.sl 3 k)) ⊢ ringOf (F := F) cell slot flight (k + 1) := by
  unfold ringOf
  rw [if_neg (Nat.succ_ne_zero k), Ring.At3_next_tail _ _ _ _ k hB hl, Ring.slotAt3_tail_role _ _ _ k]
  exact Ring.with_homes (Entails.refl _)

end Rings

/-! ## The blocks a point reads and writes -/

/-- A staging block whose contents are known. -/
theorem known {sp s e} (c : Dev nD) (a : Memref sig .tc sp s e) {β : Type} (g : β → Vec F s e) (x : Vec F s e) (h : ∀ d, g d = x) :
    (iprop(∃ d, owns (c : Thread nD τ) a fullShare (g d)) : Asrt F) ⊢ owns (c : Thread nD τ) a fullShare x := by
  iintro ⟨%d, H⟩
  rw [h d]
  iexact H
/-- A staging block at some contents. -/
theorem held {sp s e} (c : Dev nD) (a : Memref sig .tc sp s e) {β : Type} (g : β → Vec F s e) :
    (iprop(∃ d, owns (c : Thread nD τ) a fullShare (g d)) : Asrt F) ⊢ iprop(∃ d, owns (c : Thread nD τ) a fullShare d) := by
  iintro ⟨%d, H⟩
  iexists (g d)
  iexact H
/-- A staging block covered by stores holds the stores, whatever it held before and wherever they are read. -/
theorem stored {sp s e} (c : Dev nD) (a : Memref sig .tc sp s e) (v : View sig .tc sp s e) (z) (L : List (View.Piece (Elt F) s e))
    (h : ∀ y, ∃ p ∈ L, y ∈ p.1.set) :
    (iprop(∃ f, a.view.loc (c : Thread nD τ) ↦[a.view.set]{fullShare} a.view.writes (Elt F) f L) : Asrt F)
      ⊢ owns (c : Thread nD τ) a fullShare (v.read (Elt F) (v.writes (Elt F) z L)) := by
  unfold owns
  iintro ⟨%f, H⟩
  iexists _
  isplitr
  swap
  · iexact H
  · ipureintro
    exact View.read_writes_of_cover _ _ _ _ _ h

/-- What the eight output blocks hold after a point. -/
structure Left (F : FTy → Type) [FloatOps F] where
  /-- The block of `dgl`. -/
  dgl : Vec F S256x3072 .bf16
  /-- The block of `dc`. -/
  dc : Vec F S256x512 .f32
  /-- The block of `da`. -/
  da : Vec F S256x512 .bf16
  /-- The block of `dm`. -/
  dm : Vec F S256x512 .bf16
  /-- The block of `dyc`. -/
  dyc : Vec F S256x1024 .bf16
  /-- The block of `dya`. -/
  dya : Vec F S256x1024 .bf16
  /-- The block of `dym`. -/
  dym : Vec F S256x1024 .bf16
  /-- The block of `dbg`. -/
  dbg : Vec F S1x3072 .f32

/-- The stores of a run: eight lists of pieces with what is proved of them. -/
abbrev Stores (p : List (View.Piece (Elt F) S256x3072 .bf16) → List (View.Piece (Elt F) S256x512 .f32) → List (View.Piece (Elt F) S256x512 .bf16) → List (View.Piece (Elt F) S256x512 .bf16) → List (View.Piece (Elt F) S256x1024 .bf16) → List (View.Piece (Elt F) S256x1024 .bf16) → List (View.Piece (Elt F) S256x1024 .bf16) → List (View.Piece (Elt F) S1x3072 .f32) → Prop) : Type :=
  Σ' (L8 : List (View.Piece (Elt F) S256x3072 .bf16)), Σ' (L9 : List (View.Piece (Elt F) S256x512 .f32)), Σ' (L10 : List (View.Piece (Elt F) S256x512 .bf16)), Σ' (L11 : List (View.Piece (Elt F) S256x512 .bf16)), Σ' (L12 : List (View.Piece (Elt F) S256x1024 .bf16)), Σ' (L13 : List (View.Piece (Elt F) S256x1024 .bf16)), Σ' (L14 : List (View.Piece (Elt F) S256x1024 .bf16)), { L15 : List (View.Piece (Elt F) S1x3072 .f32) // p L8 L9 L10 L11 L12 L13 L14 L15 }

/-- The stores of a run read back. -/
def readBack {p} (r : Stores (F := F) p) : Left F where
  dgl := VO0_8.read (Elt F) (VO0_8.writes (Elt F) VO0_8.junk r.1)
  dc := VO0_9.read (Elt F) (VO0_9.writes (Elt F) VO0_9.junk r.2.1)
  da := VO0_10.read (Elt F) (VO0_10.writes (Elt F) VO0_10.junk r.2.2.1)
  dm := VO0_11.read (Elt F) (VO0_11.writes (Elt F) VO0_11.junk r.2.2.2.1)
  dyc := VO0_12.read (Elt F) (VO0_12.writes (Elt F) VO0_12.junk r.2.2.2.2.1)
  dya := VO0_13.read (Elt F) (VO0_13.writes (Elt F) VO0_13.junk r.2.2.2.2.2.1)
  dym := VO0_14.read (Elt F) (VO0_14.writes (Elt F) VO0_14.junk r.2.2.2.2.2.2.1)
  dbg := VO0_15.read (Elt F) (VO0_15.writes (Elt F) VO0_15.junk r.2.2.2.2.2.2.2.1)

/-- The stores of a run cover the eight blocks. -/
structure Covers {p} (r : Stores (F := F) p) : Prop where
  /-- The stores into the block of `dgl` cover it. -/
  dgl : ∀ y, ∃ pc ∈ r.1, y ∈ pc.1.set
  /-- The stores into the block of `dc` cover it. -/
  dc : ∀ y, ∃ pc ∈ r.2.1, y ∈ pc.1.set
  /-- The stores into the block of `da` cover it. -/
  da : ∀ y, ∃ pc ∈ r.2.2.1, y ∈ pc.1.set
  /-- The stores into the block of `dm` cover it. -/
  dm : ∀ y, ∃ pc ∈ r.2.2.2.1, y ∈ pc.1.set
  /-- The stores into the block of `dyc` cover it. -/
  dyc : ∀ y, ∃ pc ∈ r.2.2.2.2.1, y ∈ pc.1.set
  /-- The stores into the block of `dya` cover it. -/
  dya : ∀ y, ∃ pc ∈ r.2.2.2.2.2.1, y ∈ pc.1.set
  /-- The stores into the block of `dym` cover it. -/
  dym : ∀ y, ∃ pc ∈ r.2.2.2.2.2.2.1, y ∈ pc.1.set
  /-- The stores into the block of `dbg` cover it. -/
  dbg : ∀ y, ∃ pc ∈ r.2.2.2.2.2.2.2.1, y ∈ pc.1.set

/-- Eight lists of stores are what the body leaves at point `t`: from the input blocks, any output blocks, the bias
    gradient's block at `X` and the slots `A`, `B`, it ends with the stores made and the slots at `A'`, `B'`. -/
def Runs (c : Dev nD) (t : Fin cfg0.N) (X A1 A2 A3 B1 B2 B3 A1' A2' A3' B1' B2' B3' : Asrt F) (L8 : List (View.Piece (Elt F) S256x3072 .bf16)) (L9 : List (View.Piece (Elt F) S256x512 .f32)) (L10 : List (View.Piece (Elt F) S256x512 .bf16)) (L11 : List (View.Piece (Elt F) S256x512 .bf16)) (L12 : List (View.Piece (Elt F) S256x1024 .bf16)) (L13 : List (View.Piece (Elt F) S256x1024 .bf16)) (L14 : List (View.Piece (Elt F) S256x1024 .bf16)) (L15 : List (View.Piece (Elt F) S1x3072 .f32)) : Prop :=
  ∀ (W : Waits sig Unit) (K : PUnit → Asrt F),
    iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t) ∗ owns (c : Thread nD τ) (ms0_7 t) fullShare (iblk m c 7 t) ∗ (∃ d, owns (c : Thread nD τ) (ms0_8 t) fullShare d) ∗ (∃ d, owns (c : Thread nD τ) (ms0_9 t) fullShare d) ∗ (∃ d, owns (c : Thread nD τ) (ms0_10 t) fullShare d) ∗ (∃ d, owns (c : Thread nD τ) (ms0_11 t) fullShare d) ∗ (∃ d, owns (c : Thread nD τ) (ms0_12 t) fullShare d) ∗ (∃ d, owns (c : Thread nD τ) (ms0_13 t) fullShare d) ∗ (∃ d, owns (c : Thread nD τ) (ms0_14 t) fullShare d) ∗ X ∗ A1 ∗ A2 ∗ A3 ∗ B1 ∗ B2 ∗ B3 ∗ owes (c : Thread nD τ) 0 W
      ∗ (iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t) ∗ owns (c : Thread nD τ) (ms0_7 t) fullShare (iblk m c 7 t) ∗ (∃ f, (ms0_8 t).view.loc (c : Thread nD τ) ↦[(ms0_8 t).view.set]{fullShare} (ms0_8 t).view.writes (Elt F) f L8) ∗ (∃ f, (ms0_9 t).view.loc (c : Thread nD τ) ↦[(ms0_9 t).view.set]{fullShare} (ms0_9 t).view.writes (Elt F) f L9) ∗ (∃ f, (ms0_10 t).view.loc (c : Thread nD τ) ↦[(ms0_10 t).view.set]{fullShare} (ms0_10 t).view.writes (Elt F) f L10) ∗ (∃ f, (ms0_11 t).view.loc (c : Thread nD τ) ↦[(ms0_11 t).view.set]{fullShare} (ms0_11 t).view.writes (Elt F) f L11) ∗ (∃ f, (ms0_12 t).view.loc (c : Thread nD τ) ↦[(ms0_12 t).view.set]{fullShare} (ms0_12 t).view.writes (Elt F) f L12) ∗ (∃ f, (ms0_13 t).view.loc (c : Thread nD τ) ↦[(ms0_13 t).view.set]{fullShare} (ms0_13 t).view.writes (Elt F) f L13) ∗ (∃ f, (ms0_14 t).view.loc (c : Thread nD τ) ↦[(ms0_14 t).view.set]{fullShare} (ms0_14 t).view.writes (Elt F) f L14) ∗ (∃ f, (ms0_15 t).view.loc (c : Thread nD τ) ↦[(ms0_15 t).view.set]{fullShare} (ms0_15 t).view.writes (Elt F) f L15) ∗ A1' ∗ A2' ∗ A3' ∗ B1' ∗ B2' ∗ B3' ∗ (∃ W', owes (c : Thread nD τ) 0 W')) -∗ K ⟨⟩))
      ⊢ wp frame (wpE (defs₀ (F := F)) Variants.none c none) Set.univ (bodyAt0 t) K

/-- The run of the body at the first point, which starts the rings. -/
def runA (c : Dev nD) (t : Fin cfg0.N) (h0 : t.val % 32 = 0) (h1 : t.val < 30) :
    Stores (F := F) (Runs m c t (iprop(∃ d, owns (c : Thread nD τ) (ms0_15 t) fullShare d))
      (Ring.free (cellP0_0 c) (slotW0_0 c (V m c main_arg0)) (Ring.sl 3 t.val)) (Ring.free (cellP0_0 c) (slotW0_0 c (V m c main_arg0)) (Ring.sl 3 (t.val + 1))) (Ring.free (cellP0_0 c) (slotW0_0 c (V m c main_arg0)) (Ring.sl 3 (t.val + 2)))
      (Ring.free (cellP0_1 c) (slotW0_1 c (V m c main_arg4)) (Ring.sl 3 t.val)) (Ring.free (cellP0_1 c) (slotW0_1 c (V m c main_arg4)) (Ring.sl 3 (t.val + 1))) (Ring.free (cellP0_1 c) (slotW0_1 c (V m c main_arg4)) (Ring.sl 3 (t.val + 2)))
      (Ring.inflight (flightW0_0 c (V m c main_arg0)) (Ring.sl 3 (t.val + 1)) (Ring.bk 32 (t.val + 1))) (Ring.inflight (flightW0_0 c (V m c main_arg0)) (Ring.sl 3 (t.val + 2)) (Ring.bk 32 (t.val + 2))) (Ring.free (cellP0_0 c) (slotW0_0 c (V m c main_arg0)) (Ring.sl 3 t.val))
      (Ring.inflight (flightW0_1 c (V m c main_arg4)) (Ring.sl 3 (t.val + 1)) (Ring.bk 32 (t.val + 1))) (Ring.inflight (flightW0_1 c (V m c main_arg4)) (Ring.sl 3 (t.val + 2)) (Ring.bk 32 (t.val + 2))) (Ring.free (cellP0_1 c) (slotW0_1 c (V m c main_arg4)) (Ring.sl 3 t.val))) :=
  kernelRun0_A (F := F) c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) ((hcond0_0 t).mpr h0) ((hcond0_1 t).mpr h1) (iblk m c 0 t) (iblk m c 1 t) (iblk m c 2 t) (iblk m c 3 t) (iblk m c 4 t) (iblk m c 5 t) (iblk m c 6 t) (iblk m c 7 t)  (V m c main_arg0) (V m c main_arg4)

/-- The run of the body at a middle point, which starts the fetch two ahead. -/
def runB (c : Dev nD) (t : Fin cfg0.N) (h0 : ¬t.val % 32 = 0) (h1 : t.val < 30) (xo : Vec F S1x3072 .f32) :
    Stores (F := F) (Runs m c t (owns (c : Thread nD τ) (ms0_15 t) fullShare xo)
      (Ring.inflight (flightW0_0 c (V m c main_arg0)) (Ring.sl 3 t.val) (Ring.bk 32 t.val)) (Ring.inflight (flightW0_0 c (V m c main_arg0)) (Ring.sl 3 (t.val + 1)) (Ring.bk 32 (t.val + 1))) (Ring.free (cellP0_0 c) (slotW0_0 c (V m c main_arg0)) (Ring.sl 3 (t.val + 2)))
      (Ring.inflight (flightW0_1 c (V m c main_arg4)) (Ring.sl 3 t.val) (Ring.bk 32 t.val)) (Ring.inflight (flightW0_1 c (V m c main_arg4)) (Ring.sl 3 (t.val + 1)) (Ring.bk 32 (t.val + 1))) (Ring.free (cellP0_1 c) (slotW0_1 c (V m c main_arg4)) (Ring.sl 3 (t.val + 2)))
      (Ring.inflight (flightW0_0 c (V m c main_arg0)) (Ring.sl 3 (t.val + 1)) (Ring.bk 32 (t.val + 1))) (Ring.inflight (flightW0_0 c (V m c main_arg0)) (Ring.sl 3 (t.val + 2)) (Ring.bk 32 (t.val + 2))) (Ring.free (cellP0_0 c) (slotW0_0 c (V m c main_arg0)) (Ring.sl 3 t.val))
      (Ring.inflight (flightW0_1 c (V m c main_arg4)) (Ring.sl 3 (t.val + 1)) (Ring.bk 32 (t.val + 1))) (Ring.inflight (flightW0_1 c (V m c main_arg4)) (Ring.sl 3 (t.val + 2)) (Ring.bk 32 (t.val + 2))) (Ring.free (cellP0_1 c) (slotW0_1 c (V m c main_arg4)) (Ring.sl 3 t.val))) :=
  kernelRun0_B (F := F) c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) xo (V m c main_arg0) (V m c main_arg4)

/-- The run of the body at one of the last two points, which start no fetch. -/
def runC (c : Dev nD) (t : Fin cfg0.N) (h0 : ¬t.val % 32 = 0) (h1 : ¬t.val < 30) (xo : Vec F S1x3072 .f32) :
    Stores (F := F) (Runs m c t (owns (c : Thread nD τ) (ms0_15 t) fullShare xo)
      (Ring.inflight (flightW0_0 c (V m c main_arg0)) (Ring.sl 3 t.val) (Ring.bk 32 t.val)) (Ring.slotAt 2 (cellP0_0 c) (slotW0_0 c (V m c main_arg0)) (flightW0_0 c (V m c main_arg0)) t.val 1) (Ring.free (cellP0_0 c) (slotW0_0 c (V m c main_arg0)) (Ring.sl 3 (t.val + 2)))
      (Ring.inflight (flightW0_1 c (V m c main_arg4)) (Ring.sl 3 t.val) (Ring.bk 32 t.val)) (Ring.slotAt 2 (cellP0_1 c) (slotW0_1 c (V m c main_arg4)) (flightW0_1 c (V m c main_arg4)) t.val 1) (Ring.free (cellP0_1 c) (slotW0_1 c (V m c main_arg4)) (Ring.sl 3 (t.val + 2)))
      (Ring.slotAt 2 (cellP0_0 c) (slotW0_0 c (V m c main_arg0)) (flightW0_0 c (V m c main_arg0)) t.val 1) (Ring.free (cellP0_0 c) (slotW0_0 c (V m c main_arg0)) (Ring.sl 3 (t.val + 2))) (Ring.free (cellP0_0 c) (slotW0_0 c (V m c main_arg0)) (Ring.sl 3 t.val))
      (Ring.slotAt 2 (cellP0_1 c) (slotW0_1 c (V m c main_arg4)) (flightW0_1 c (V m c main_arg4)) t.val 1) (Ring.free (cellP0_1 c) (slotW0_1 c (V m c main_arg4)) (Ring.sl 3 (t.val + 2))) (Ring.free (cellP0_1 c) (slotW0_1 c (V m c main_arg4)) (Ring.sl 3 t.val))) :=
  kernelRun0_C (F := F) c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) xo (V m c main_arg0) (V m c main_arg4)

/-- The stores at the first point, which starts the rings cover the blocks. -/
theorem coversA (c : Dev nD) (t : Fin cfg0.N) (h0 : t.val % 32 = 0) (h1 : t.val < 30) : Covers (runA m c t h0 h1) where
  dgl := View.cover_of_tiledL (runA m c t h0 h1).1 S256x1024.size (by sl_kernel_rfl)
  dc := View.cover_of_tiledL (runA m c t h0 h1).2.1 S256x512.size (by sl_kernel_rfl)
  da := View.cover_of_tiledL (runA m c t h0 h1).2.2.1 S256x512.size (by sl_kernel_rfl)
  dm := View.cover_of_tiledL (runA m c t h0 h1).2.2.2.1 S256x512.size (by sl_kernel_rfl)
  dyc := View.cover_of_tiledL (runA m c t h0 h1).2.2.2.2.1 S256x1024.size (by sl_kernel_rfl)
  dya := View.cover_of_tiledL (runA m c t h0 h1).2.2.2.2.2.1 S256x1024.size (by sl_kernel_rfl)
  dym := View.cover_of_tiledL (runA m c t h0 h1).2.2.2.2.2.2.1 S256x1024.size (by sl_kernel_rfl)
  dbg := View.cover_of_tiledBy (runA m c t h0 h1).2.2.2.2.2.2.2.1 ![1, 1024] (by sl_kernel_rfl)

/-- The stores at a middle point, which starts the fetch two ahead cover the blocks. -/
theorem coversB (c : Dev nD) (t : Fin cfg0.N) (h0 : ¬t.val % 32 = 0) (h1 : t.val < 30) (xo : Vec F S1x3072 .f32) : Covers (runB m c t h0 h1 xo) where
  dgl := View.cover_of_tiledL (runB m c t h0 h1 xo).1 S256x1024.size (by sl_kernel_rfl)
  dc := View.cover_of_tiledL (runB m c t h0 h1 xo).2.1 S256x512.size (by sl_kernel_rfl)
  da := View.cover_of_tiledL (runB m c t h0 h1 xo).2.2.1 S256x512.size (by sl_kernel_rfl)
  dm := View.cover_of_tiledL (runB m c t h0 h1 xo).2.2.2.1 S256x512.size (by sl_kernel_rfl)
  dyc := View.cover_of_tiledL (runB m c t h0 h1 xo).2.2.2.2.1 S256x1024.size (by sl_kernel_rfl)
  dya := View.cover_of_tiledL (runB m c t h0 h1 xo).2.2.2.2.2.1 S256x1024.size (by sl_kernel_rfl)
  dym := View.cover_of_tiledL (runB m c t h0 h1 xo).2.2.2.2.2.2.1 S256x1024.size (by sl_kernel_rfl)
  dbg := View.cover_of_tiledL (runB m c t h0 h1 xo).2.2.2.2.2.2.2.1 S1x1024.size (by sl_kernel_rfl)

/-- The stores at one of the last two points, which start no fetch cover the blocks. -/
theorem coversC (c : Dev nD) (t : Fin cfg0.N) (h0 : ¬t.val % 32 = 0) (h1 : ¬t.val < 30) (xo : Vec F S1x3072 .f32) : Covers (runC m c t h0 h1 xo) where
  dgl := View.cover_of_tiledL (runC m c t h0 h1 xo).1 S256x1024.size (by sl_kernel_rfl)
  dc := View.cover_of_tiledL (runC m c t h0 h1 xo).2.1 S256x512.size (by sl_kernel_rfl)
  da := View.cover_of_tiledL (runC m c t h0 h1 xo).2.2.1 S256x512.size (by sl_kernel_rfl)
  dm := View.cover_of_tiledL (runC m c t h0 h1 xo).2.2.2.1 S256x512.size (by sl_kernel_rfl)
  dyc := View.cover_of_tiledL (runC m c t h0 h1 xo).2.2.2.2.1 S256x1024.size (by sl_kernel_rfl)
  dya := View.cover_of_tiledL (runC m c t h0 h1 xo).2.2.2.2.2.1 S256x1024.size (by sl_kernel_rfl)
  dym := View.cover_of_tiledL (runC m c t h0 h1 xo).2.2.2.2.2.2.1 S256x1024.size (by sl_kernel_rfl)
  dbg := View.cover_of_tiledL (runC m c t h0 h1 xo).2.2.2.2.2.2.2.1 S1x1024.size (by sl_kernel_rfl)

attribute [irreducible] runA runB runC

/-- What the output blocks hold after each point: the case's stores read back, the carried block of the bias
    gradient taken from the point before. -/
def leftAt (c : Dev nD) : (n : ℕ) → n < cfg0.N → Left F
  | 0, hn => readBack (runA m c ⟨0, hn⟩ rfl (show 0 < 30 by omega))
  | n + 1, hn =>
    if h0 : (n + 1) % 32 = 0 then
      if h1 : n + 1 < 30 then readBack (runA m c ⟨n + 1, hn⟩ h0 h1)
      else False.elim (by have hN : n + 1 < 32 := lt_of_lt_of_eq hn (show cfg0.N = 32 from N_0); omega)
    else if h1 : n + 1 < 30 then readBack (runB m c ⟨n + 1, hn⟩ h0 h1 (leftAt c n (Nat.lt_of_succ_lt hn)).dbg)
    else readBack (runC m c ⟨n + 1, hn⟩ h0 h1 (leftAt c n (Nat.lt_of_succ_lt hn)).dbg)

/-- The bias gradient carried into point `t`. -/
abbrev carried (c : Dev nD) (t : Fin cfg0.N) : Vec F S1x3072 .f32 :=
  (leftAt m c (t.val - 1) (Nat.lt_of_le_of_lt (Nat.sub_le _ _) t.isLt)).dbg

/-- The first point. -/
theorem leftAt_A (c : Dev nD) (t : Fin cfg0.N) (h0 : t.val % 32 = 0) (h1 : t.val < 30) :
    leftAt m c t.val t.isLt = readBack (runA m c t h0 h1) := by
  obtain ⟨_ | n, hn⟩ := t
  · rfl
  · exact (dif_pos h0).trans (dif_pos h1)
/-- A middle point. -/
theorem leftAt_B (c : Dev nD) (t : Fin cfg0.N) (h0 : ¬t.val % 32 = 0) (h1 : t.val < 30) :
    leftAt m c t.val t.isLt = readBack (runB m c t h0 h1 (carried m c t)) := by
  obtain ⟨_ | n, hn⟩ := t
  · exact absurd rfl h0
  · exact (dif_neg h0).trans (dif_pos h1)
/-- One of the last two points. -/
theorem leftAt_C (c : Dev nD) (t : Fin cfg0.N) (h0 : ¬t.val % 32 = 0) (h1 : ¬t.val < 30) :
    leftAt m c t.val t.isLt = readBack (runC m c t h0 h1 (carried m c t)) := by
  obtain ⟨_ | n, hn⟩ := t
  · exact absurd rfl h0
  · exact (dif_neg h0).trans (dif_neg h1)

/-! ## The proof data -/

/-- What holds between points: the generator's register and the two rings. -/
def between (c : Dev nD) (k : ℕ) : Asrt F :=
  iprop((∃ r, prngReg c r) ∗ ringAt0_0 c (V m c main_arg0) k ∗ ringAt0_1 c (V m c main_arg4) k)

/-- The arrays, the blocks after each point, and what holds between points. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (leftAt m c t.val t.isLt).dgl
    | ⟨9, _⟩ => (leftAt m c t.val t.isLt).dc
    | ⟨10, _⟩ => (leftAt m c t.val t.isLt).da
    | ⟨11, _⟩ => (leftAt m c t.val t.isLt).dm
    | ⟨12, _⟩ => (leftAt m c t.val t.isLt).dyc
    | ⟨13, _⟩ => (leftAt m c t.val t.isLt).dya
    | ⟨14, _⟩ => (leftAt m c t.val t.isLt).dym
    | ⟨15, _⟩ => (leftAt m c t.val t.isLt).dbg
    | ⟨_ + 16, h⟩ => absurd h (Nat.not_lt.2 (Nat.le_add_left _ _))
  Φ t := between m c t.val
  q _ := fullShare
  owed _ := 0

/-- The arrays are those the program starts with. -/
theorem dats_A (c : Dev nD) (w : Fin cfg0.W) : (dats m 0 c).A w = V m c (Pipeline.arrRef spec0 w) := by
  dsimp only [dats]
/-- Input block 0 is there before and after each point. -/
theorem after0 (c : Dev nD) (t : Fin cfg0.N) : (dats m 0 c).after 0 t = iblk m c 0 t := by dsimp only [dats]
theorem before0 (c : Dev nD) (t : Fin cfg0.N) (d) : (dats m 0 c).before 0 t d = iblk m c 0 t :=
  before0_0_of m (dats m 0 c) (dats_A m c 0) (after0 m c) t d
/-- Input block 1 is there before and after each point. -/
theorem after1 (c : Dev nD) (t : Fin cfg0.N) : (dats m 0 c).after 1 t = iblk m c 1 t := by dsimp only [dats]
theorem before1 (c : Dev nD) (t : Fin cfg0.N) (d) : (dats m 0 c).before 1 t d = iblk m c 1 t :=
  before0_1_of m (dats m 0 c) (dats_A m c 1) (after1 m c) t d
/-- Input block 2 is there before and after each point. -/
theorem after2 (c : Dev nD) (t : Fin cfg0.N) : (dats m 0 c).after 2 t = iblk m c 2 t := by dsimp only [dats]
theorem before2 (c : Dev nD) (t : Fin cfg0.N) (d) : (dats m 0 c).before 2 t d = iblk m c 2 t :=
  before0_2_of m (dats m 0 c) (dats_A m c 2) (after2 m c) t d
/-- Input block 3 is there before and after each point. -/
theorem after3 (c : Dev nD) (t : Fin cfg0.N) : (dats m 0 c).after 3 t = iblk m c 3 t := by dsimp only [dats]
theorem before3 (c : Dev nD) (t : Fin cfg0.N) (d) : (dats m 0 c).before 3 t d = iblk m c 3 t :=
  before0_3_of m (dats m 0 c) (dats_A m c 3) (after3 m c) t d
/-- Input block 4 is there before and after each point. -/
theorem after4 (c : Dev nD) (t : Fin cfg0.N) : (dats m 0 c).after 4 t = iblk m c 4 t := by dsimp only [dats]
theorem before4 (c : Dev nD) (t : Fin cfg0.N) (d) : (dats m 0 c).before 4 t d = iblk m c 4 t :=
  before0_4_of m (dats m 0 c) (dats_A m c 4) (after4 m c) t d
/-- Input block 5 is there before and after each point. -/
theorem after5 (c : Dev nD) (t : Fin cfg0.N) : (dats m 0 c).after 5 t = iblk m c 5 t := by dsimp only [dats]
theorem before5 (c : Dev nD) (t : Fin cfg0.N) (d) : (dats m 0 c).before 5 t d = iblk m c 5 t :=
  before0_5_of m (dats m 0 c) (dats_A m c 5) (after5 m c) t d
/-- Input block 6 is there before and after each point. -/
theorem after6 (c : Dev nD) (t : Fin cfg0.N) : (dats m 0 c).after 6 t = iblk m c 6 t := by dsimp only [dats]
theorem before6 (c : Dev nD) (t : Fin cfg0.N) (d) : (dats m 0 c).before 6 t d = iblk m c 6 t :=
  before0_6_of m (dats m 0 c) (dats_A m c 6) (after6 m c) t d
/-- Input block 7 is there before and after each point. -/
theorem after7 (c : Dev nD) (t : Fin cfg0.N) : (dats m 0 c).after 7 t = iblk m c 7 t := by dsimp only [dats]
theorem before7 (c : Dev nD) (t : Fin cfg0.N) (d) : (dats m 0 c).before 7 t d = iblk m c 7 t :=
  before0_7_of m (dats m 0 c) (dats_A m c 7) (after7 m c) t d
/-- The block of `dgl` after a point. -/
theorem after8 (c : Dev nD) (t : Fin cfg0.N) : (dats m 0 c).after 8 t = (leftAt m c t.val t.isLt).dgl := by dsimp only [dats]
/-- The block of `dc` after a point. -/
theorem after9 (c : Dev nD) (t : Fin cfg0.N) : (dats m 0 c).after 9 t = (leftAt m c t.val t.isLt).dc := by dsimp only [dats]
/-- The block of `da` after a point. -/
theorem after10 (c : Dev nD) (t : Fin cfg0.N) : (dats m 0 c).after 10 t = (leftAt m c t.val t.isLt).da := by dsimp only [dats]
/-- The block of `dm` after a point. -/
theorem after11 (c : Dev nD) (t : Fin cfg0.N) : (dats m 0 c).after 11 t = (leftAt m c t.val t.isLt).dm := by dsimp only [dats]
/-- The block of `dyc` after a point. -/
theorem after12 (c : Dev nD) (t : Fin cfg0.N) : (dats m 0 c).after 12 t = (leftAt m c t.val t.isLt).dyc := by dsimp only [dats]
/-- The block of `dya` after a point. -/
theorem after13 (c : Dev nD) (t : Fin cfg0.N) : (dats m 0 c).after 13 t = (leftAt m c t.val t.isLt).dya := by dsimp only [dats]
/-- The block of `dym` after a point. -/
theorem after14 (c : Dev nD) (t : Fin cfg0.N) : (dats m 0 c).after 14 t = (leftAt m c t.val t.isLt).dym := by dsimp only [dats]
/-- The block of `dbg` after a point. -/
theorem after15 (c : Dev nD) (t : Fin cfg0.N) : (dats m 0 c).after 15 t = (leftAt m c t.val t.isLt).dbg := by dsimp only [dats]
/-- After the first point the bias gradient's block holds what the point before left. -/
theorem before15 (c : Dev nD) (t : Fin cfg0.N) (h0 : ¬t.val % 32 = 0) (d) : (dats m 0 c).before 15 t d = carried m c t := by
  have hN : t.val < 32 := lt_of_lt_of_eq t.isLt (show cfg0.N = 32 from N_0)
  rw [Dat.before_out_kept _ 15 rfl t (by omega) (Bool.eq_false_iff.mpr fun h => by have := (flush0_15 _).mp h; dsimp only at this; omega)
    (fun _ => rfl) (fun _ _ => rfl)]
  dsimp only [dats]

/-! ## The body at a point -/

/-- What the body starts from at point `t`. -/
def pre (c : Dev nD) (t : Fin cfg0.N) : Asrt F :=
  iprop(between m c t.val ∗ (dats m 0 c).owesAt () t.castSucc ∗ (∃ d, owns (c : Thread nD τ) (ms0_0 t) fullShare ((dats m 0 c).before 0 t d)) ∗ (∃ d, owns (c : Thread nD τ) (ms0_1 t) fullShare ((dats m 0 c).before 1 t d)) ∗ (∃ d, owns (c : Thread nD τ) (ms0_2 t) fullShare ((dats m 0 c).before 2 t d)) ∗ (∃ d, owns (c : Thread nD τ) (ms0_3 t) fullShare ((dats m 0 c).before 3 t d)) ∗ (∃ d, owns (c : Thread nD τ) (ms0_4 t) fullShare ((dats m 0 c).before 4 t d)) ∗ (∃ d, owns (c : Thread nD τ) (ms0_5 t) fullShare ((dats m 0 c).before 5 t d)) ∗ (∃ d, owns (c : Thread nD τ) (ms0_6 t) fullShare ((dats m 0 c).before 6 t d)) ∗ (∃ d, owns (c : Thread nD τ) (ms0_7 t) fullShare ((dats m 0 c).before 7 t d)) ∗ (∃ d, owns (c : Thread nD τ) (ms0_8 t) fullShare ((dats m 0 c).before 8 t d)) ∗ (∃ d, owns (c : Thread nD τ) (ms0_9 t) fullShare ((dats m 0 c).before 9 t d)) ∗ (∃ d, owns (c : Thread nD τ) (ms0_10 t) fullShare ((dats m 0 c).before 10 t d)) ∗ (∃ d, owns (c : Thread nD τ) (ms0_11 t) fullShare ((dats m 0 c).before 11 t d)) ∗ (∃ d, owns (c : Thread nD τ) (ms0_12 t) fullShare ((dats m 0 c).before 12 t d)) ∗ (∃ d, owns (c : Thread nD τ) (ms0_13 t) fullShare ((dats m 0 c).before 13 t d)) ∗ (∃ d, owns (c : Thread nD τ) (ms0_14 t) fullShare ((dats m 0 c).before 14 t d)) ∗ (∃ d, owns (c : Thread nD τ) (ms0_15 t) fullShare ((dats m 0 c).before 15 t d)))
/-- What the body leaves at point `t` when the output blocks hold `left`. -/
def post (c : Dev nD) (t : Fin cfg0.N) (left : Left F) : Asrt F :=
  iprop(between m c (t.val + 1) ∗ (dats m 0 c).owesAt () t.succ ∗ owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t) ∗ owns (c : Thread nD τ) (ms0_7 t) fullShare (iblk m c 7 t) ∗ owns (c : Thread nD τ) (ms0_8 t) fullShare (left.dgl) ∗ owns (c : Thread nD τ) (ms0_9 t) fullShare (left.dc) ∗ owns (c : Thread nD τ) (ms0_10 t) fullShare (left.da) ∗ owns (c : Thread nD τ) (ms0_11 t) fullShare (left.dm) ∗ owns (c : Thread nD τ) (ms0_12 t) fullShare (left.dyc) ∗ owns (c : Thread nD τ) (ms0_13 t) fullShare (left.dya) ∗ owns (c : Thread nD τ) (ms0_14 t) fullShare (left.dym) ∗ owns (c : Thread nD τ) (ms0_15 t) fullShare (left.dbg))

/-- The body at a point, from a run whose slots are those of the rings. -/
theorem body_of (c : Dev nD) (t : Fin cfg0.N) {X A1 A2 A3 B1 B2 B3 A1' A2' A3' B1' B2' B3' : Asrt F}
    (r : Stores (F := F) (Runs m c t X A1 A2 A3 B1 B2 B3 A1' A2' A3' B1' B2' B3')) (cov : Covers r)
    (hX : iprop(∃ d, owns (c : Thread nD τ) (ms0_15 t) fullShare ((dats m 0 c).before 15 t d)) ⊢ X)
    (hR : ringAt0_0 c (V m c main_arg0) t.val ⊢ iprop(A1 ∗ A2 ∗ A3)) (hS : ringAt0_1 c (V m c main_arg4) t.val ⊢ iprop(B1 ∗ B2 ∗ B3))
    (hR' : iprop(A1' ∗ A2' ∗ A3') ⊢ ringAt0_0 c (V m c main_arg0) (t.val + 1))
    (hS' : iprop(B1' ∗ B2' ∗ B3') ⊢ ringAt0_1 c (V m c main_arg4) (t.val + 1)) :
    pre m c t ⊢ wp frame (wpE (defs₀ (F := F)) Variants.none c none) Set.univ (bodyAt0 t) (fun _ => post m c t (readBack r)) := by
  obtain ⟨L8, L9, L10, L11, L12, L13, L14, L15, hr⟩ := r
  unfold pre post between Dat.owesAt Pipeline.owesWithin
  exact regroup (fun K => wp frame (wpE (defs₀ (F := F)) Variants.none c none) Set.univ (bodyAt0 t) K)
    hr hR hS hR' hS'
    (known c _ _ _ (before0 m c t)) (known c _ _ _ (before1 m c t)) (known c _ _ _ (before2 m c t)) (known c _ _ _ (before3 m c t)) (known c _ _ _ (before4 m c t)) (known c _ _ _ (before5 m c t)) (known c _ _ _ (before6 m c t)) (known c _ _ _ (before7 m c t)) (held c _ _) (held c _ _) (held c _ _) (held c _ _) (held c _ _) (held c _ _) (held c _ _) hX
    (stored c _ VO0_8 _ _ cov.dgl) (stored c _ VO0_9 _ _ cov.dc) (stored c _ VO0_10 _ _ cov.da) (stored c _ VO0_11 _ _ cov.dm) (stored c _ VO0_12 _ _ cov.dyc) (stored c _ VO0_13 _ _ cov.dya) (stored c _ VO0_14 _ _ cov.dym) (stored c _ VO0_15 _ _ cov.dbg) (fun _ _ _ => Or.inl trivial)

/-- The body at the first point, which starts the rings. -/
theorem bodyA (c : Dev nD) (t : Fin cfg0.N) (h0 : t.val % 32 = 0) (h1 : t.val < 30) :
    pre m c t ⊢ wp frame (wpE (defs₀ (F := F)) Variants.none c none) Set.univ (bodyAt0 t)
      (fun _ => post m c t (leftAt m c t.val t.isLt)) := by
  have hN : t.val < 32 := lt_of_lt_of_eq t.isLt (show cfg0.N = 32 from N_0)
  have hk : t.val = 0 := by omega
  rw [leftAt_A m c t h0 h1]
  exact body_of m c t (runA m c t h0 h1) (coversA m c t h0 h1) (held c _ _)
    (open_A (cellP0_0 c) (slotW0_0 c _) (flightW0_0 c _) t.val hk) (open_A (cellP0_1 c) (slotW0_1 c _) (flightW0_1 c _) t.val hk) (close_A (cellP0_0 c) (slotW0_0 c _) (flightW0_0 c _) t.val hk) (close_A (cellP0_1 c) (slotW0_1 c _) (flightW0_1 c _) t.val hk)

/-- The body at a middle point, which starts the fetch two ahead. -/
theorem bodyB (c : Dev nD) (t : Fin cfg0.N) (h0 : ¬t.val % 32 = 0) (h1 : t.val < 30) :
    pre m c t ⊢ wp frame (wpE (defs₀ (F := F)) Variants.none c none) Set.univ (bodyAt0 t)
      (fun _ => post m c t (leftAt m c t.val t.isLt)) := by
  have hN : t.val < 32 := lt_of_lt_of_eq t.isLt (show cfg0.N = 32 from N_0)
  have hk : 1 ≤ t.val := by omega
  have hB : t.val + 2 < 32 := by omega
  rw [leftAt_B m c t h0 h1]
  exact body_of m c t (runB m c t h0 h1 (carried m c t)) (coversB m c t h0 h1 (carried m c t)) (known c _ _ _ (before15 m c t h0))
    (open_B (cellP0_0 c) (slotW0_0 c _) (flightW0_0 c _) t.val hk hB) (open_B (cellP0_1 c) (slotW0_1 c _) (flightW0_1 c _) t.val hk hB) (close_B (cellP0_0 c) (slotW0_0 c _) (flightW0_0 c _) t.val hB) (close_B (cellP0_1 c) (slotW0_1 c _) (flightW0_1 c _) t.val hB)

/-- The body at one of the last two points, which start no fetch. -/
theorem bodyC (c : Dev nD) (t : Fin cfg0.N) (h0 : ¬t.val % 32 = 0) (h1 : ¬t.val < 30) :
    pre m c t ⊢ wp frame (wpE (defs₀ (F := F)) Variants.none c none) Set.univ (bodyAt0 t)
      (fun _ => post m c t (leftAt m c t.val t.isLt)) := by
  have hN : t.val < 32 := lt_of_lt_of_eq t.isLt (show cfg0.N = 32 from N_0)
  have hk : 1 ≤ t.val := by omega
  have hB : 32 ≤ t.val + 2 := by omega
  have hl : t.val < 32 := hN
  rw [leftAt_C m c t h0 h1]
  exact body_of m c t (runC m c t h0 h1 (carried m c t)) (coversC m c t h0 h1 (carried m c t)) (known c _ _ _ (before15 m c t h0))
    (open_C (cellP0_0 c) (slotW0_0 c _) (flightW0_0 c _) t.val hk hl) (open_C (cellP0_1 c) (slotW0_1 c _) (flightW0_1 c _) t.val hk hl) (close_C (cellP0_0 c) (slotW0_0 c _) (flightW0_0 c _) t.val hB hl) (close_C (cellP0_1 c) (slotW0_1 c _) (flightW0_1 c _) t.val hB hl)

/-- The body at any point. -/
theorem body (c : Dev nD) (t : Fin cfg0.N) :
    pre m c t ⊢ wp frame (wpE (defs₀ (F := F)) Variants.none c none) Set.univ (bodyAt0 t)
      (fun _ => post m c t (leftAt m c t.val t.isLt)) := by
  have hN : t.val < 32 := lt_of_lt_of_eq t.isLt (show cfg0.N = 32 from N_0)
  by_cases h0 : t.val % 32 = 0
  · exact bodyA m c t h0 (by omega)
  · by_cases h1 : t.val < 30
    · exact bodyB m c t h0 h1
    · exact bodyC m c t h0 h1

/-- The body's obligation, at every point. -/
theorem obligation (c : Dev nD) : BodyObligation (dats (F := F) m 0 c) (defs₀ (F := F)) Variants.none () Set.univ := fun t => by
  have hrow : defs₀ (F := F) .tc cfg0.body (cfg0.bodyArgs t (cfg0.slots t)) = bodyAt0 t := by
    unfold defs₀
    rw [Defs.onTc_tc]
  rw [bigSep_W0, bigSep_W0, hrow]
  exact triple_restated (body m c t) rfl .rfl fun _ => .rfl

/-! ## The whole run -/

/-- What the program starts from opens the first point. -/
theorem enter (c : Dev nD) : Pipeline.ΦD osem0 spec0 H0 (V m) c ⊢ (dats m 0 c).Φ 0 := by
  rw [PhiD0_eq, show (dats m 0 c).Φ 0 = between m c 0 from rfl]
  unfold between
  iintro ⟨⟨Hs, Ht⟩, Hg, ⟨Ha, Hb, Hc, Hd, He, Hf⟩, Hx, Hy⟩
  isplitl [Hg]
  · iexact Hg
  isplitl [Hs Ha Hb Hc Hx]
  · iapply (ring0_0_in (F := F) m c)
    isplitl [Hs]
    · iexact Hs
    isplitr [Hx]
    · isplitl [Ha]
      · iexact Ha
      isplitl [Hb]
      · iexact Hb
      iexact Hc
    iexact Hx
  iapply (ring0_1_in (F := F) m c)
  isplitl [Ht]
  · iexact Ht
  isplitr [Hy]
  · isplitl [Hd]
    · iexact Hd
    isplitl [He]
    · iexact He
    iexact Hf
  iexact Hy

/-- What holds after the last point is what the program ends with. -/
theorem leave (c : Dev nD) : (dats m 0 c).Φ (Fin.last cfg0.N) ⊢ Pipeline.ΦD osem0 spec0 H0 (V m) c := by
  rw [PhiD0_eq, show (dats m 0 c).Φ (Fin.last cfg0.N) = between m c grid0.N from rfl, N_0]
  unfold between
  iintro ⟨Hg, HR, HS⟩
  ihave HRo := (ring0_0_out (F := F) m c) $$ HR
  icases HRo with ⟨Hs, ⟨Ha, Hb, Hc⟩, Hx⟩
  ihave HSo := (ring0_1_out (F := F) m c) $$ HS
  icases HSo with ⟨Ht, ⟨Hd, He, Hf⟩, Hy⟩
  isplitl [Hs Ht]
  · isplitl [Hs]
    · iexact Hs
    iexact Ht
  isplitl [Hg]
  · iexact Hg
  isplitl [Ha Hb Hc Hd He Hf]
  · isplitl [Ha]
    · iexact Ha
    isplitl [Hb]
    · iexact Hb
    isplitl [Hc]
    · iexact Hc
    isplitl [Hd]
    · iexact Hd
    isplitl [He]
    · iexact He
    iexact Hf
  isplitl [Hx]
  · iexact Hx
  iexact Hy

set_option backward.isDefEq.respectTransparency.types false in
/-- The program ends with every array as the blocks make it, and every counter at zero. -/
theorem ran : θ_run defs (onTc (τ := τ) (main (F := F))) (s₀ m ρ)
    (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (obligation m c).loose) (hshare := fun c => (dats m 0 c).share_full fun _ => rfl)
    (howed := fun _ _ => rfl) (V := V m) (hmain := hmain m Variants.none) (hA := dats_A m)
    (hin := enter m) (hout := leave m)

/-- The program ends, its arguments unchanged and its counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) ∧ r.2.sem = fun _ => 0) :=
  θ_run_and (frame_of m ρ (dats m) (dats_A m) ((θ_run defs _ _).mono (fun _ h => h.1) (ran m ρ)))
    ((θ_run defs _ _).mono (fun _ h => h.2) (ran m ρ))

end Cert.MixGradFrame

end
-- ==== Proof.MixGradWords.lean ====
module

public import proofs.«01_k».proof.Proof.MixGradFrame
public import proofs.«01_k».proof.Proof.Gen.Kernel9

@[expose] public section

/-!
# The frame of the gradient of the gated mix, on words

The program over words and the program over exact numbers have the same text, so the run proved for any values
holds of both.
-/

noncomputable section

namespace Cert.MixGradFrame

open Idealize.ShloMosaic Idealize.ShloMosaic.TcCoe Idealize.ShloMosaic.Tactic Idealize.SL.Sem

variable {F : FTy → Type} [FloatOps F]

/-- The two programs' frame statements are one statement. -/
theorem same_text (m : (ℓ : Loc Cert.Kernel9.nD Cert.Kernel9.τ Cert.Kernel9.sig) → Buf (Elt F) ℓ) (ρ : Dev Cert.Kernel9.nD → PrngReg) :
    (θ_run (Cert.Kernel9.defs (F := F)) (onTc (τ := Cert.Kernel9.τ) (Cert.Kernel9.main (F := F))) ⟨m, fun _ => 0, ρ⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7)
      ∧ r.2.mem ((c.tc : Thread Cert.Kernel9.nD Cert.Kernel9.τ).loc Cert.Kernel9.main_arg8) = m ((c.tc : Thread Cert.Kernel9.nD Cert.Kernel9.τ).loc Cert.Kernel9.main_arg8)
      ∧ r.2.mem ((c.tc : Thread Cert.Kernel9.nD Cert.Kernel9.τ).loc Cert.Kernel9.main_arg9) = m ((c.tc : Thread Cert.Kernel9.nD Cert.Kernel9.τ).loc Cert.Kernel9.main_arg9)) ∧ r.2.sem = fun _ => 0))
    = (θ_run (Cert.Kernel9Ideal.defs (F := F)) (onTc (τ := Cert.Kernel9Ideal.τ) (Cert.Kernel9Ideal.main (F := F))) ⟨m, fun _ => 0, ρ⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
      ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
      ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9)) ∧ r.2.sem = fun _ => 0)) := by
  sl_kernel_rfl

/-- The program over words ends, its arguments unchanged and its counters at zero. -/
theorem frame_words (m : (ℓ : Loc Cert.Kernel9.nD Cert.Kernel9.τ Cert.Kernel9.sig) → Buf (Elt F) ℓ) (ρ : Dev Cert.Kernel9.nD → PrngReg) :
    θ_run (Cert.Kernel9.defs (F := F)) (onTc (τ := Cert.Kernel9.τ) (Cert.Kernel9.main (F := F))) ⟨m, fun _ => 0, ρ⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7)
      ∧ r.2.mem ((c.tc : Thread Cert.Kernel9.nD Cert.Kernel9.τ).loc Cert.Kernel9.main_arg8) = m ((c.tc : Thread Cert.Kernel9.nD Cert.Kernel9.τ).loc Cert.Kernel9.main_arg8)
      ∧ r.2.mem ((c.tc : Thread Cert.Kernel9.nD Cert.Kernel9.τ).loc Cert.Kernel9.main_arg9) = m ((c.tc : Thread Cert.Kernel9.nD Cert.Kernel9.τ).loc Cert.Kernel9.main_arg9)) ∧ r.2.sem = fun _ => 0) :=
  (same_text m ρ).mpr (frame (F := F) m ρ)

end Cert.MixGradFrame

end
-- ==== Proof.AttTile.lean ====
/-
  The memory attention itself: what its kernel leaves, for every token and head the exponentials against the values times
  one over the exponentials' sum.
-/
module

public import proofs.«01_k».proof.Proof.Ref
public import proofs.«01_k».proof.Proof.Products
public import proofs.«01_k».proof.Proof.Gen.Kernel22Ideal.Value

@[expose] public section

noncomputable section

namespace Cert.Memory

open Idealize.ShloMosaic Idealize.ShloMosaic.ValueIdx

/-- One column of a head's output: the exponentials against that column of the values, then one over their sum. -/
def att (q : Fin 128 → EReal) (K : Fin 256 → Fin 128 → EReal) (v : Fin 256 → EReal) : EReal := (∑ m, ex q K m * v m) * Ideal.div 1 (den q K)

/-- With a finite query and finite keys, the same with each exponential divided first. -/
theorem att_eq {q : Fin 128 → EReal} {K : Fin 256 → Fin 128 → EReal} (hq : ∀ d, ∃ r : ℝ, q d = r) (hK : ∀ m d, ∃ r : ℝ, K m d = r) (v : Fin 256 → EReal) :
    ∑ m, v m * Ideal.div (ex q K m) (den q K) = att q K v := by
  obtain ⟨e, he, h⟩ := ex_real hq hK
  obtain ⟨hl, hpos⟩ := den_real he h
  unfold att
  rw [hl, Ideal.div_coe hpos.ne', one_mul, mul_comm, mul_sum_of_real _ _ (by positivity)]
  refine Finset.sum_congr rfl fun m _ => ?_
  rw [Ideal.div_coe hpos.ne']
  ac_rfl

/-- Column `c` of a token's output. -/
def attTok (Q : Fin 512 → EReal) (KV : Fin 256 → Fin 1024 → EReal) (c : Fin 512) : EReal :=
  att (cut Q ⟨c.val / 128, by omega⟩) (keys KV ⟨c.val / 128, by omega⟩) fun m => KV m ⟨512 + c.val, by omega⟩

theorem attTok_at (Q : Fin 512 → EReal) (KV : Fin 256 → Fin 1024 → EReal) (h : Fin 4) (d : Fin 128) (c : Fin 512) (hc : c.val = 128 * h.val + d.val) :
    attTok Q KV c = att (cut Q h) (keys KV h) fun m => vals KV h m d := by
  obtain ⟨c, hlt⟩ := c
  change c = _ at hc
  subst hc
  have e : (⟨(128 * h.val + d.val) / 128, by omega⟩ : Fin 4) = h := Fin.ext (by show (128 * h.val + d.val) / 128 = h.val; omega)
  unfold attTok vals
  simp only [e]

/-- Every token's output. -/
def attAll (x : Cert.KernelIdeal.S4x2048x512.Idx → EReal) (k : Cert.KernelIdeal.S4x256x1024.Idx → EReal) (i : Cert.KernelIdeal.S4x2048x512.Idx) : EReal :=
  attTok (tokAt x (i 0) (i 1)) (memAt k (i 0)) (i 2)

end Cert.Memory

namespace Cert.Kernel22Ideal.Att

open Cert.Kernel22Ideal Cert.Kernel22Ideal.Gen Cert.Kernel22Ideal.Value Idealize.ShloMosaic Idealize.ShloMosaic.ValueIdx Idealize.ShloMosaic.TcCoe Idealize.SL.Sem
  Cert.Memory
open Cert.KernelIdeal.Value (row mem tok slots scores_apply exps_apply rowSum_apply matmul_nn ld_tok ld_key ld_val emb_tok)
open Cert.Products (spreadCol canon_tiles)
open Cert.ReferenceIdeal.Read (at3)
open Idealize.ShloMosaic.Pipeline (Dat)

theorem exps_at (x : Vec Ideal S1x512x128 .bf16) (k : Vec Ideal S1x256x128 .bf16) (t : Fin 512) (n : Fin 256) :
    k0_pay5 (F := Ideal) x k (ix2 t n) = ex (row x t) (mem k) n :=
  exps_apply _ t (scores_apply x k _ (IdealRules.named_const.ideal_named_scalar _ _ _ _ rfl) t) n

/-- A head's store; the other heads' payloads are these, of other columns. -/
theorem head_at (x : Vec Ideal S1x512x128 .bf16) (k v : Vec Ideal S1x256x128 .bf16) (t : Fin 512) (d : Fin 128) :
    k0_pay8 (F := Ideal) (k0_pay6 x k) (k0_pay7 x k) v (ix3 0 t d) = att (row x t) (mem k) fun m => mem v m d := by
  have he := exps_at x k t
  unfold k0_pay8 k0_pay6 k0_pay7
  dsimp only
  generalize k0_pay5 x k = e at he ⊢
  rw [shapeCast_ab_1ab_apply]
  show (_ : EReal) * broadcastTo _ _ _ _ = _
  rw [spreadCol _ _ (by decide)]
  show _ * Ideal.div (Ideal.ofBits .f32 0x3F800000#32) (shapeCast _ _ _ _) = _
  rw [Cert.Words.ofBits_one]
  refine congrArg₂ (fun a b => a * Ideal.div 1 b) ((matmul_nn _ _ t d).trans (Finset.sum_congr rfl fun m _ => congrArg₂ (· * ·) (he m) ?_))
    ((rowSum_apply e t 0).trans (Finset.sum_congr rfl fun m _ => he m))
  exact shapeCast_1ab_ab_apply ..

/-- A block's output. -/
def attBlk (x : S1x512x512.Idx → EReal) (k : S1x256x1024.Idx → EReal) (y : S1x512x512.Idx) : EReal := attTok (tok x (y 1)) (slots k) (y 2)

variable (x : Vec Ideal S1x512x512 .bf16) (k : Vec Ideal S1x256x1024 .bf16)

theorem store (h : Fin 4) (p q : ℕ) (hp : p = 128 * h.val) (hq : q = 512 + 128 * h.val)
    (it : ∀ a, (![0, 0, p] : Fin 3 → ℕ) a + (![1, 512, 128] : Fin 3 → ℕ) a ≤ S1x512x512.size a)
    (ik : ∀ a, (![0, 0, p] : Fin 3 → ℕ) a + (![1, 256, 128] : Fin 3 → ℕ) a ≤ S1x256x1024.size a)
    (iv : ∀ a, (![0, 0, q] : Fin 3 → ℕ) a + (![1, 256, 128] : Fin 3 → ℕ) a ≤ S1x256x1024.size a)
    (y : (Rect.unit (s := S1x512x512) ![0, 0, p] ![1, 512, 128] it).shape.Idx) :
    k0_pay8 (F := Ideal) (k0_pay6 (View.ld x (Rect.unit ![0, 0, p] ![1, 512, 128] it)) (View.ld k (Rect.unit ![0, 0, p] ![1, 256, 128] ik)))
      (k0_pay7 (View.ld x (Rect.unit ![0, 0, p] ![1, 512, 128] it)) (View.ld k (Rect.unit ![0, 0, p] ![1, 256, 128] ik)))
      (View.ld k (Rect.unit ![0, 0, q] ![1, 256, 128] iv)) y = attBlk x k ((Rect.unit (s := S1x512x512) ![0, 0, p] ![1, 512, 128] it).emb y) := by
  obtain ⟨u, t, d, rfl⟩ : ∃ (u : Fin 1) (t : Fin 512) (d : Fin 128), y = ix3 u t d := ⟨y 0, y 1, y 2, eq_ix3 y⟩
  obtain rfl : u = 0 := Subsingleton.elim _ _
  refine (head_at _ _ _ t d).trans (Eq.trans ?_ (congrArg (attBlk x k) (emb_tok p it 0 t d ⟨p + d.val, by omega⟩ rfl)).symm)
  refine Eq.trans ?_ (attTok_at _ _ h d _ (by show p + d.val = _; omega)).symm
  exact congr (congrArg₂ att (ld_tok x p it h hp t) (ld_key k p ik h hp)) (funext fun m => congrFun (congrFun (ld_val k q iv h hq) m) d)

theorem out : out0_2 (F := Ideal) x k = attBlk x k := by
  unfold out0_2
  exact canon_tiles (s := S1x512x512) (e := .bf16) (attBlk x k) _ ⟨store x k 3 384 896 rfl rfl _ _ _, store x k 2 256 768 rfl rfl _ _ _,
    store x k 1 128 640 rfl rfl _ _ _, store x k 0 0 512 rfl rfl _ _ _, trivial⟩ (cover0_2 _ _ _ _)

variable (m : (ℓ : Loc nD τ sig) → Buf (Elt Ideal) ℓ) (c : Dev nD)

abbrev argQ : S4x2048x512.Idx → EReal := m ((c : Thread nD τ).loc main_arg0)
abbrev argK : S4x256x1024.Idx → EReal := m ((c : Thread nD τ).loc main_arg1)

theorem index : ∀ t : Fin grid0.N, (win0_0.index t 0 = t.val / 4 ∧ win0_0.index t 1 = t.val % 4 ∧ win0_0.index t 2 = 0)
    ∧ (win0_1.index t 0 = t.val / 4 ∧ win0_1.index t 1 = 0 ∧ win0_1.index t 2 = 0)
    ∧ (win0_2.index t 0 = t.val / 4 ∧ win0_2.index t 1 = t.val % 4 ∧ win0_2.index t 2 = 0) := by decide +kernel

theorem block (t : Fin cfg0.N) : (dats m 0 c).flushed 2 t = ((cfg0.win 2).blk t).view.read (Elt Ideal) (attAll (argQ m c) (argK m c)) := by
  obtain ⟨⟨a0, a1, a2⟩, ⟨b0, b1, b2⟩, h0, h1, h2⟩ := index t
  have ht : t.val < 16 := lt_of_lt_of_eq t.isLt N_0
  rw [flushed2, out]
  funext y
  obtain ⟨u, s, d, rfl⟩ : ∃ (u : Fin 1) (s : Fin 512) (d : Fin 512), y = ix3 u s d := ⟨y 0, y 1, y 2, eq_ix3 y⟩
  rw [View.read_apply]
  refine Eq.trans ?_ (at3 (attAll (argQ m c) (argK m c)) _ ⟨t.val / 4, by omega⟩ ⟨t.val % 4 * 512 + s.val, by omega⟩ d
    (by show win0_2.index t 0 * 1 + 1 * u.val = t.val / 4; rw [h0]; omega) (by show win0_2.index t 1 * 512 + 1 * s.val = t.val % 4 * 512 + s.val; rw [h1]; omega)
    (by show win0_2.index t 2 * 512 + 1 * d.val = d.val; rw [h2]; omega)).symm
  refine congrFun (congrArg₂ attTok (funext fun e => ?_) (funext fun n => funext fun e => ?_)) d
  · unfold tok iblk
    rw [View.read_apply]
    exact at3 (V m c main_arg0) _ _ _ _ (by show win0_0.index t 0 * 1 + 1 * 0 = t.val / 4; rw [a0]; omega)
      (by show win0_0.index t 1 * 512 + 1 * s.val = t.val % 4 * 512 + s.val; rw [a1]; omega) (by show win0_0.index t 2 * 512 + 1 * e.val = e.val; rw [a2]; omega)
  · unfold slots iblk
    rw [View.read_apply]
    exact at3 (V m c main_arg1) _ _ _ _ (by show win0_1.index t 0 * 1 + 1 * 0 = t.val / 4; rw [b0]; omega)
      (by show win0_1.index t 1 * 256 + 1 * n.val = n.val; rw [b1]; omega) (by show win0_1.index t 2 * 1024 + 1 * e.val = e.val; rw [b2]; omega)

theorem final : (dats m 0 c).arrAt 2 cfg0.N = attAll (argQ m c) (argK m c) :=
  (dats m 0 c).arrAt_eq_of_cover 2 _ (fun t _ => block m c t) fun i => by
    have i0 : (i 0 : Nat) < 4 := (i 0).isLt
    have i1 : (i 1 : Nat) < 2048 := (i 1).isLt
    have i2 : (i 2 : Nat) < 512 := (i 2).isLt
    have hN : cfg0.N = 16 := N_0
    refine ⟨⟨4 * (i 0 : Nat) + (i 1 : Nat) / 512, by omega⟩, flush0_2 _, ?_⟩
    generalize ht : (⟨4 * (i 0 : Nat) + (i 1 : Nat) / 512, by omega⟩ : Fin cfg0.N) = t
    have hv : t.val = 4 * (i 0 : Nat) + (i 1 : Nat) / 512 := by rw [← ht]
    obtain ⟨-, -, h0, h1, h2⟩ := index t
    show i ∈ ((View.whole main_v0).slice (win0_2.rect t)).set
    rw [View.set_slice_whole, Rect.mem_set_unit]
    intro a
    match a with
    | ⟨0, _⟩ => show win0_2.index t 0 * 1 ≤ (i 0 : Nat) ∧ (i 0 : Nat) < win0_2.index t 0 * 1 + 1; rw [h0]; omega
    | ⟨1, _⟩ => show win0_2.index t 1 * 512 ≤ (i 1 : Nat) ∧ (i 1 : Nat) < win0_2.index t 1 * 512 + 512; rw [h1]; omega
    | ⟨2, _⟩ => show win0_2.index t 2 * 512 ≤ (i 2 : Nat) ∧ (i 2 : Nat) < win0_2.index t 2 * 512 + 512; rw [h2]; omega

end Cert.Kernel22Ideal.Att

end

end
-- ==== Proof.AttClaims.lean ====
/-
  The claims about the memory attention itself: from finite queries and keys the kernel and the reference end with the same
  output, whatever the values hold.
-/
module

public import proofs.«01_k».proof.Proof.AttTile
public import proofs.«01_k».proof.Proof.MemoryClaims
public import proofs.«01_k».proof.Proof.Gen.Pre_finite_att
public import proofs.«01_k».proof.Proof.Gen.Reference22Ideal.Read
public import proofs.«01_k».proof.Proof.Gen.Reference22Ideal.Run

@[expose] public section

noncomputable section

namespace Cert.AttClaims

open Idealize.ShloMosaic Idealize.ShloMosaic.ValueIdx Idealize.ShloMosaic.TcCoe Idealize.SL.Sem Cert.Memory
open Cert.ReferenceIdeal.Read (at4 hq hk hv v6_at v40_at Finite)
open Cert.Reference22Ideal.Read

variable (x0 : Cert.KernelIdeal.S4x2048x512.Idx → EReal) (x1 : Cert.KernelIdeal.S4x256x1024.Idx → EReal)

/-- The values and the probabilities are the stages the gradient's reference has too. -/
theorem values_stage : val_main_v6 (F := Ideal) x1 = Cert.ReferenceIdeal.Read.val_main_v6 (F := Ideal) x1 := rfl
theorem probs_stage : val_main_v23 (F := Ideal) x0 x1 = Cert.ReferenceIdeal.Read.val_main_v40 (F := Ideal) x0 x1 := rfl

theorem head_ref (hf : Finite x0 x1) (b h : Fin 4) (s : Fin 2048) (d : Fin 128) :
    val_main_v24 (F := Ideal) x0 x1 (ix4 b h d s) = att (hq x0 b h s) (hk x1 b h) fun n => hv x1 b h n d := by
  refine (val_main_v24_apply x0 x1 _).trans (Eq.trans ?_ (att_eq (hf.q b h s) (hf.k b h) fun n => hv x1 b h n d))
  rw [values_stage, probs_stage]
  exact Finset.sum_congr rfl fun n _ => congrArg₂ (· * ·)
    ((at4 (Cert.ReferenceIdeal.Read.val_main_v6 (F := Ideal) x1) _ b n h d rfl rfl rfl rfl).trans (v6_at x1 b h n d))
    ((at4 (Cert.ReferenceIdeal.Read.val_main_v40 (F := Ideal) x0 x1) _ b h s n rfl rfl rfl rfl).trans (v40_at x0 x1 b h s n))

theorem att_ref (hf : Finite x0 x1) : val_main_v27 (F := Ideal) x0 x1 = attAll x0 x1 := by
  funext i
  have i0 : (i 0 : Nat) < 4 := (i 0).isLt
  have i1 : (i 1 : Nat) < 2048 := (i 1).isLt
  have i2 : (i 2 : Nat) < 512 := (i 2).isLt
  refine (val_main_v27_apply (F := Ideal) x0 x1 i).trans ((val_main_v25_apply (F := Ideal) x0 x1 _).trans ?_)
  refine (at4 (val_main_v24 (F := Ideal) x0 x1) _ (i 0) ⟨(i 2 : Nat) / 128, by omega⟩ ⟨(i 2 : Nat) % 128, by omega⟩ (i 1) ?_ ?_ ?_ ?_).trans ?_
  · show (((i 0).val * 2048 + (i 1).val) * 512 + (i 2).val) / 1048576 = (i 0).val; omega
  · show (((i 0).val * 2048 + (i 1).val) * 512 + (i 2).val) / 128 % 4 = (i 2).val / 128; omega
  · show (((i 0).val * 2048 + (i 1).val) * 512 + (i 2).val) % 128 = (i 2).val % 128; omega
  · show (((i 0).val * 2048 + (i 1).val) * 512 + (i 2).val) / 512 % 2048 = (i 1).val; omega
  · exact (head_ref x0 x1 hf _ _ _ _).trans (attTok_at _ _ _ _ _ (by show (i 2).val = 128 * ((i 2).val / 128) + (i 2).val % 128; omega)).symm

theorem frame_reference : Cert.quiescent_Reference22Ideal := fun m ρ _ =>
  (θ_run Cert.Reference22Ideal.defs _ _).mono (fun r h => ⟨fun c => (h c).2, sem_eq_zero_of_no_sems (by decide) r.2⟩)
    (Cert.Reference22Ideal.Value.run (F := Ideal) m ρ)

theorem preserves : Cert.preserves_Kernel22_Kernel22Ideal :=
  IdealRules.named_const.statement Cert.Kernel22Ideal.κ "s" .f32 0x3DB504F3#32 (((Real.sqrt 128)⁻¹ : ℝ) : EReal) rfl

theorem algebraic : Cert.algebraic_Kernel22Ideal_Reference22Ideal_pre_finite_att := by
  intro m ρ m' ρ' hpre hagree
  refine ⟨_, Cert.Kernel22Ideal.Value.run_blocks (F := Ideal) m ρ, ?_⟩
  refine (θ_run Cert.Reference22Ideal.defs _ _).mono (fun _ h c => ?_) (Cert.Reference22Ideal.Value.run (F := Ideal) m' ρ')
  have hf := Cert.MemoryClaims.finite_of (Cert.Kernel22Ideal.Att.argQ m c) (Cert.Kernel22Ideal.Att.argK m c)
    Cert.Pre_finite_att.Facts.slices_S4x256x1024_S4x256x512_0_0_0 (congrFun (hpre c).1) (congrFun (hpre c).2)
  obtain ⟨h0, h1⟩ := hagree c
  refine ⟨(h c).1.trans ?_, (h c).2⟩
  rw [Cert.Reference22Ideal.Read.val_main_v27_eq, h0, h1, Cert.Kernel22Ideal.Att.final]
  exact att_ref _ _ hf

end Cert.AttClaims

end
-- ==== Proof.Gather.lean ====
/-
  Sums over all tokens gathered tile by tile, and products of two matrices over their common rows.
-/
module

public import proofs.«01_k».proof.Proof.Products

@[expose] public section

noncomputable section

open Idealize.ShloMosaic Idealize.ShloMosaic.ValueIdx Cert.Words

namespace Cert.Gather

variable {m k n : ℕ}

/-- A matrix's shape. -/
abbrev Mat (m n : ℕ) : Shape := Cert.Products.Mat m n

/-- Columns against columns. -/
def overRows (x : (Mat k m).Idx → EReal) (y : (Mat k n).Idx → EReal) (i : Fin m) (j : Fin n) : EReal := ∑ t : Fin k, x (ix2 t i) * y (ix2 t j)

/-- The dimension numbers of columns against columns. -/
def colDims (wf : DotDims.WF (Mat k m) (Mat k n) (Mat m n) [0] [0] [1] [1] [] []) : DotDims (Mat k m) (Mat k n) (Mat m n) where
  lhsContracting := [0]
  rhsContracting := [0]
  lhsNonContracting := [1]
  rhsNonContracting := [1]
  lhsBatch := []
  rhsBatch := []
  wf := wf

/-- The product of columns against columns, added to zeros. -/
theorem cols_cols (wf : DotDims.WF (Mat k m) (Mat k n) (Mat m n) [0] [0] [1] [1] [] []) (x : FVec Ideal (Mat k m) .bf16) (y : FVec Ideal (Mat k n) .bf16)
    (i : Fin m) (j : Fin n) : matmul (colDims wf) none x y (constant (Mat m n) .f32 0x00000000#32) (ix2 i j) = overRows x y i j := by
  show FloatOps.matmul _ _ _ _ _ _ = _
  rw [Ideal.matmul_constant_zero_apply, ← Equiv.sum_comp (contrEquiv1 (colDims wf) k rfl rfl).symm]
  refine Finset.sum_congr rfl fun t _ => ?_
  have ht := contrEquiv1_symm_val (colDims wf) k rfl rfl t
  refine congrArg₂ (· * ·) (congrArg x (funext fun a => Fin.ext ?_)) (congrArg y (funext fun a => Fin.ext ?_))
  · match a with
    | ⟨0, _⟩ => exact ht
    | ⟨1, _⟩ => rfl
  · match a with
    | ⟨0, _⟩ => exact ht
    | ⟨1, _⟩ => rfl

/-- A running sum that starts afresh at the first of every `T` points, at the last of them. -/
theorem gathered {N T : ℕ} (f : ∀ t, t < N → EReal) (b : ℕ) (q : ℕ → EReal) (first : ∀ t h, t / T = b → t % T = 0 → f t h = q 0)
    (later : ∀ t (h : t < N), t / T = b → ¬t % T = 0 → f t h = f (t - 1) (by omega) + q (t % T)) :
    ∀ j (_ : j < T) (h : b * T + j < N), f (b * T + j) h = ∑ s ∈ Finset.range (j + 1), q s := by
  intro j
  induction j with
  | zero =>
    intro hj h
    rw [Finset.sum_range_one]
    exact first _ h (by rw [Nat.add_zero]; exact Nat.mul_div_cancel _ hj) (by rw [Nat.add_zero]; exact Nat.mul_mod_left b T)
  | succ j ih =>
    intro hj h
    have e : (b * T + (j + 1)) % T = j + 1 := by rw [Nat.mul_add_mod_self_right]; exact Nat.mod_eq_of_lt hj
    have d : (b * T + (j + 1)) / T = b := by
      rw [Nat.add_comm, Nat.add_mul_div_right _ _ (by omega), Nat.div_eq_of_lt hj, Nat.zero_add]
    rw [Finset.sum_range_succ, ← ih (by omega) (by omega), later _ h d (by omega), e]
    rfl

/-- The last of a run of `T` points holds the sum over the run. -/
theorem gathered_last {N T : ℕ} (f : ∀ t, t < N → EReal) (t : ℕ) (h : t < N) (hT : t % T + 1 = T) (q : ℕ → EReal)
    (first : ∀ s h, s / T = t / T → s % T = 0 → f s h = q 0)
    (later : ∀ s (h : s < N), s / T = t / T → ¬s % T = 0 → f s h = f (s - 1) (by omega) + q (s % T)) : f t h = ∑ s ∈ Finset.range T, q s := by
  have e : t / T * T + t % T = t := Nat.div_add_mod' t T
  have key := gathered f (t / T) q first later (t % T) (by omega)
  rw [hT] at key
  have same : ∀ u (hu : u < N), u = t → f t h = f u hu := fun u hu hut => by subst hut; rfl
  exact (same _ (lt_of_eq_of_lt e h) e).trans (key (lt_of_eq_of_lt e h))

/-- The entry of `f` numbered `s` (nothing past the end). -/
def at0 {M : ℕ} (f : Fin M → EReal) (s : ℕ) : EReal := if h : s < M then f ⟨s, h⟩ else 0

theorem at0_of {M : ℕ} (f : Fin M → EReal) (s : ℕ) (h : s < M) : at0 f s = f ⟨s, h⟩ := dif_pos h

/-- `T` tiles of `B` entries are all the entries. -/
theorem sum_tiles {M T B : ℕ} (hM : T * B = M) (f : Fin M → EReal) : ∑ j ∈ Finset.range T, ∑ s : Fin B, at0 f (j * B + s.val) = ∑ s, f s := by
  subst hM
  rw [← Equiv.sum_comp (finProdFinEquiv (m := T) (n := B)) f, Fintype.sum_prod_type, Finset.sum_range]
  refine Finset.sum_congr rfl fun j _ => Finset.sum_congr rfl fun s _ => ?_
  have hlt : j.val * B + s.val < T * B := by
    have := (finProdFinEquiv (j, s)).isLt
    have e : (finProdFinEquiv (j, s)).val = s.val + B * j.val := rfl
    rw [e, Nat.mul_comm B] at this
    omega
  rw [at0_of f _ hlt]
  refine congrArg f (Fin.ext ?_)
  show j.val * B + s.val = s.val + B * j.val
  rw [Nat.mul_comm, Nat.add_comm]

/-- An accumulator to which each of `T` points adds the product over its tile of `B` rows holds, at the last of them, the product over
    all rows. -/
theorem product_last {N T B M : ℕ} (hM : T * B = M) (X : (Mat M m).Idx → EReal) (Y : (Mat M n).Idx → EReal) (f : ∀ t, t < N → EReal) (r : Fin m) (d : Fin n)
    (t : ℕ) (h : t < N) (hT : t % T + 1 = T) (part : ∀ s, s < N → EReal)
    (tile : ∀ s h, s / T = t / T → part s h = ∑ u : Fin B, at0 (fun q : Fin M => X (ix2 q r) * Y (ix2 q d)) (s % T * B + u.val))
    (first : ∀ s h, s % T = 0 → f s h = part s h) (later : ∀ s (h : s < N), ¬s % T = 0 → f s h = f (s - 1) (by omega) + part s h) :
    f t h = overRows X Y r d := by
  refine (gathered_last (T := T) f t h hT (fun s => ∑ u : Fin B, at0 (fun q : Fin M => X (ix2 q r) * Y (ix2 q d)) (s * B + u.val)) ?_ ?_).trans (sum_tiles hM _)
  · intro s h e h0
    rw [first s h h0, tile s h e, h0]
  · intro s h e h0
    rw [later s h h0, tile s h e]

/-- A column lies in the tile of `B` columns its number falls in. -/
theorem mem_cols {M N B : ℕ} (hB : 0 < B) (off : Fin 2 → ℕ) (inb : ∀ a, off a + (![M, B] : Fin 2 → ℕ) a ≤ (Mat M N).size a) (i : (Mat M N).Idx)
    (h0 : off 0 = 0) (h1 : off 1 = (i 1).val / B * B) : i ∈ (Rect.unit (s := Mat M N) off ![M, B] inb).set := by
  rw [Rect.mem_set_unit]
  intro a
  match a with
  | ⟨0, _⟩ =>
    have i0 : (i 0).val < M := (i 0).isLt
    show off 0 ≤ (i 0).val ∧ (i 0).val < off 0 + M
    rw [h0, Nat.zero_add]
    exact ⟨Nat.zero_le _, i0⟩
  | ⟨1, _⟩ =>
    show off 1 ≤ (i 1).val ∧ (i 1).val < off 1 + B
    rw [h1]
    have := Nat.div_add_mod' (i 1).val B
    have := Nat.mod_lt (i 1).val hB
    omega

end Cert.Gather

end

end
-- ==== Proof.WeightTile.lean ====
/-
  Gradients of weights gathered tile by tile, at any sizes: what a tile adds to the accumulator, the accumulator at a column block's last
  tile, and the places of a result that the blocks cover.
-/
module

public import proofs.«01_k».proof.Proof.Gather

@[expose] public section

noncomputable section

open Idealize.ShloMosaic Idealize.ShloMosaic.ValueIdx Cert.Words Cert.Products

namespace Cert.Gather

variable {k m n : ℕ}

/-- A tile's contribution added to `o`. -/
def addTile (x : (Mat k m).Idx → EReal) (y : (Mat k n).Idx → EReal) (o : (Mat m n).Idx → EReal) (i : (Mat m n).Idx) : EReal :=
  o i + overRows x y (i 0) (i 1)

theorem store_tile (wf : DotDims.WF (Mat k m) (Mat k n) (Mat m n) [0] [0] [1] [1] [] []) (x : FVec Ideal (Mat k m) .bf16) (y : FVec Ideal (Mat k n) .bf16)
    (o : FVec Ideal (Mat m n) .f32) (hc : (Mat m n).ShapeCasts (Mat m n)) (inb) (j : (Rect.unit (s := Mat m n) ![0, 0] ![m, n] inb).shape.Idx) :
    shapeCast (Mat m n) (addf (F := Ideal) o (matmul (colDims wf) none x y (constant (Mat m n) .f32 0x00000000#32))) hc j
      = addTile x y o ((Rect.unit (s := Mat m n) ![0, 0] ![m, n] inb).emb j) := by
  obtain ⟨r, d, rfl⟩ : ∃ (r : Fin m) (d : Fin n), j = ix2 r d := ⟨j 0, j 1, eq_ix2 j⟩
  rw [emb_block 0 0 _ r d r d (Nat.zero_add _).symm (Nat.zero_add _).symm, shapeCast_self]
  exact congrArg (o (ix2 r d) + ·) (cols_cols wf x y r d)

theorem zeros_at (hc : (Mat m n).ShapeCasts (Mat m n)) (i : (Mat m n).Idx) :
    shapeCast (Mat m n) (broadcast (Mat m n) (Scalar.ofBits (F := Ideal) .f32 0x00000000#32)) hc i = 0 := by
  rw [shapeCast_self]
  exact zeroWord

/-- What covering stores of blocks of `G` leave in a buffer reads back as `G`. -/
theorem read_tiles {sig : RefSig} {κ : Kind} {sp : Space} {s : Shape} {e : EltTy} (V : View sig κ sp s e) (g : V.ty.Contents (Elt Ideal))
    (G : s.Idx → Elt Ideal e) (L : List (View.Piece (Elt Ideal) s e)) (hc : ∀ y, ∃ p ∈ L, y ∈ p.1.set) (h : View.PiecesOf G L) :
    V.read (Elt Ideal) (V.writes (Elt Ideal) g L) = G :=
  (View.read_writes_eq_canon V g L hc).trans (canon_tiles G L h hc)

/-- The same for one store over another. -/
theorem read_over {sig : RefSig} {κ : Kind} {sp : Space} {s : Shape} {e : EltTy} (V : View sig κ sp s e) (g : V.ty.Contents (Elt Ideal))
    (G : s.Idx → Elt Ideal e) (p z : View.Piece (Elt Ideal) s e) (hc : ∀ y, ∃ q ∈ [p], y ∈ q.1.set) (h : View.PiecesOf G [p]) :
    V.read (Elt Ideal) (V.writes (Elt Ideal) g [p, z]) = G :=
  (View.read_writes_eq_canon V g [p, z] fun y => let ⟨q, hq, hy⟩ := hc y; ⟨q, List.mem_cons.2 (Or.inl (List.mem_singleton.1 hq)), hy⟩).trans
    (canon_over G p z h hc)

/-- The accumulator of the product of two arrays' columns, at the last of a run of `T` tiles of `B` rows, where the tiles' blocks are the arrays'
    rows and the place `r, d` of the blocks is the place `r', d'` of the arrays. -/
theorem product_block {N T B M KX NY : ℕ} (hM : T * B = M) (X : (Mat M KX).Idx → EReal) (Y : (Mat M NY).Idx → EReal)
    (xb : ∀ t, t < N → (Mat B m).Idx → EReal) (yb : ∀ t, t < N → (Mat B n).Idx → EReal) (f : ∀ t, t < N → (Mat m n).Idx → EReal)
    (z : (Mat m n).Idx → EReal) (hz : ∀ i, z i = 0) (first : ∀ s h, s % T = 0 → f s h = addTile (xb s h) (yb s h) z)
    (later : ∀ s (h : s < N), ¬s % T = 0 → f s h = addTile (xb s h) (yb s h) (f (s - 1) (by omega))) (t : ℕ) (h : t < N) (hT : t % T + 1 = T)
    (r : Fin m) (d : Fin n) (r' : Fin KX) (d' : Fin NY)
    (hx : ∀ s h, s / T = t / T → ∀ (u : Fin B) (q : Fin M), q.val = s % T * B + u.val → xb s h (ix2 u r) = X (ix2 q r'))
    (hy : ∀ s h, s / T = t / T → ∀ (u : Fin B) (q : Fin M), q.val = s % T * B + u.val → yb s h (ix2 u d) = Y (ix2 q d')) :
    f t h (ix2 r d) = overRows X Y r' d' := by
  refine product_last (T := T) (B := B) hM X Y (fun s h => f s h (ix2 r d)) r' d' t h hT (fun s h => overRows (xb s h) (yb s h) r d) ?_ ?_ ?_
  · intro s hs e
    refine Finset.sum_congr rfl fun u _ => ?_
    have hb : s % T * B + u.val < M := by
      have h1 : s % T < T := Nat.mod_lt _ (by omega)
      have h2 : s % T * B + B ≤ T * B := by rw [← Nat.succ_mul]; exact Nat.mul_le_mul_right B h1
      have := u.isLt
      omega
    rw [at0_of _ _ hb]
    exact congrArg₂ (· * ·) (hx s hs e u ⟨_, hb⟩ rfl) (hy s hs e u ⟨_, hb⟩ rfl)
  · intro s hs h0
    show f s hs (ix2 r d) = _
    rw [first s hs h0]
    show z (ix2 r d) + _ = _
    rw [hz, zero_add]
    rfl
  · intro s hs h0
    show f s hs (ix2 r d) = _
    rw [later s hs h0]
    rfl

/-- The places a block of `m` rows and `n` columns covers. -/
theorem mem_block {M N : ℕ} (off : Fin 2 → ℕ) (inb : ∀ a, off a + (![m, n] : Fin 2 → ℕ) a ≤ (Mat M N).size a) (i : (Mat M N).Idx) :
    i ∈ (Rect.unit (s := Mat M N) off ![m, n] inb).set ↔ (off 0 ≤ (i 0).val ∧ (i 0).val < off 0 + m) ∧ off 1 ≤ (i 1).val ∧ (i 1).val < off 1 + n := by
  rw [Rect.mem_set_unit]
  exact ⟨fun h => ⟨h 0, h 1⟩, fun h a => match a with
    | ⟨0, _⟩ => h.1
    | ⟨1, _⟩ => h.2⟩

/-- An array's columns set at column `o` of a wider array of zeros. -/
def placed {M NY NO : ℕ} (o : ℕ) (y : (Mat M NY).Idx → EReal) (i : (Mat M NO).Idx) : EReal :=
  if h : o ≤ (i 1).val ∧ (i 1).val - o < NY then y (ix2 (i 0) ⟨(i 1).val - o, h.2⟩) else 0

theorem placed_at {M NY NO : ℕ} (o : ℕ) (y : (Mat M NY).Idx → EReal) (q : Fin M) (d : Fin NY) (d' : Fin NO) (h : d'.val = o + d.val) :
    placed (NO := NO) o y (ix2 q d') = y (ix2 q d) := by
  have hd := d.isLt
  refine (dif_pos (show o ≤ d'.val ∧ d'.val - o < NY from ⟨by omega, by omega⟩)).trans (congrArg y (ix2_of _ _ _ rfl ?_))
  show d'.val - o = d.val
  omega

/-- The product with the placed columns, at a placed column. -/
theorem overRows_placed {M NY NO : ℕ} (o : ℕ) (x : (Mat M m).Idx → EReal) (y : (Mat M NY).Idx → EReal) (r : Fin m) (d : Fin NY) (d' : Fin NO)
    (h : d'.val = o + d.val) : overRows x (placed (NO := NO) o y) r d' = overRows x y r d :=
  Finset.sum_congr rfl fun q _ => congrArg (_ * ·) (placed_at o y q d d' h)

end Cert.Gather

end

end
-- ==== Proof.Adam.lean ====
/-
  The optimiser's step at any sizes: the sum of eight blocks of a gradient, the new moments and the weight's change, one element at a time; and
  what the kernels' sums over slices and single stores of a block are.
-/
module

public import proofs.«01_k».proof.Proof.WeightTile
public import Idealize.ShloMosaic.Lib.Tactic

@[expose] public section

noncomputable section

namespace Cert.Adam

open Idealize.ShloMosaic Idealize.ShloMosaic.ValueIdx Cert.Products Cert.Words

variable {R C : ℕ}

/-- Eight arrays of `R` rows and `C` columns. -/
abbrev Parts (R C : ℕ) : Shape := ⟨3, ![8, R, C]⟩

def total (p : (Parts R C).Idx → EReal) (i : (Mat R C).Idx) : EReal := ∑ d : Fin 8, p (ix3 d (i 0) (i 1))

/-- The new first and second moments of a gradient `g`, and the change of a weight `w`. -/
def first (g m : EReal) : EReal := Ideal.ofBits .f32 0x3F666666#32 * m + Ideal.ofBits .f32 0x3DCCCCCD#32 * g
def second (g v : EReal) : EReal := Ideal.ofBits .f32 0x3F7FBE77#32 * v + Ideal.ofBits .f32 0x3A83126F#32 * (g * g)
def change (g w m v : EReal) : EReal :=
  Ideal.ofBits .f32 0xBA83126F#32 * (Ideal.div (Ideal.div (first g m) (Ideal.ofBits .f32 0x3F26BD02#32))
    (Ideal.sqrt (Ideal.div (second g v) (Ideal.ofBits .f32 0x3C231ACC#32)) + Ideal.ofBits .f32 0x322BCC77#32) + Ideal.ofBits .f32 0x3C23D70A#32 * w)

variable (p : (Parts R C).Idx → EReal) (w m v : (Mat R C).Idx → EReal)

def firstAll (i : (Mat R C).Idx) : EReal := first (total p i) (m i)
def secondAll (i : (Mat R C).Idx) : EReal := second (total p i) (v i)
def changeAll (i : (Mat R C).Idx) : EReal := change (total p i) (w i) (m i) (v i)

/-- One of the eight arrays, loaded and seen as a matrix. -/
theorem slice_at (n : ℕ) (d : Fin 8) (hn : n = d.val) (inb) (hc : (⟨3, ![1, R, C]⟩ : Shape).ShapeCasts (Mat R C)) (r : Fin R) (c : Fin C) :
    shapeCast (Mat R C) (View.ld (Val := Elt Ideal) (e' := .bf16) p (Rect.unit (s := Parts R C) ![n, 0, 0] ![1, R, C] inb)) hc (ix2 r c) = p (ix3 d r c) := by
  refine (shapeCast_1ab_ab_apply _ hc r c).trans (congrArg p (funext fun a => Fin.ext ((Rect.idx_unit_val _ _ _ _ a).trans ?_)))
  match a with
  | ⟨0, _⟩ => exact hn
  | ⟨1, _⟩ => exact Nat.zero_add _
  | ⟨2, _⟩ => exact Nat.zero_add _

/-- The sum of the eight. -/
theorem total_eq (hc : (⟨3, ![1, R, C]⟩ : Shape).ShapeCasts (Mat R C)) (i0 i1 i2 i3 i4 i5 i6 i7) : (fun i : (Mat R C).Idx =>
    shapeCast (Mat R C) (View.ld (Val := Elt Ideal) (e' := .bf16) p (Rect.unit (s := Parts R C) ![0, 0, 0] ![1, R, C] i0)) hc i
    + shapeCast (Mat R C) (View.ld (Val := Elt Ideal) (e' := .bf16) p (Rect.unit (s := Parts R C) ![1, 0, 0] ![1, R, C] i1)) hc i
    + shapeCast (Mat R C) (View.ld (Val := Elt Ideal) (e' := .bf16) p (Rect.unit (s := Parts R C) ![2, 0, 0] ![1, R, C] i2)) hc i
    + shapeCast (Mat R C) (View.ld (Val := Elt Ideal) (e' := .bf16) p (Rect.unit (s := Parts R C) ![3, 0, 0] ![1, R, C] i3)) hc i
    + shapeCast (Mat R C) (View.ld (Val := Elt Ideal) (e' := .bf16) p (Rect.unit (s := Parts R C) ![4, 0, 0] ![1, R, C] i4)) hc i
    + shapeCast (Mat R C) (View.ld (Val := Elt Ideal) (e' := .bf16) p (Rect.unit (s := Parts R C) ![5, 0, 0] ![1, R, C] i5)) hc i
    + shapeCast (Mat R C) (View.ld (Val := Elt Ideal) (e' := .bf16) p (Rect.unit (s := Parts R C) ![6, 0, 0] ![1, R, C] i6)) hc i
    + shapeCast (Mat R C) (View.ld (Val := Elt Ideal) (e' := .bf16) p (Rect.unit (s := Parts R C) ![7, 0, 0] ![1, R, C] i7)) hc i) = total p := by
  funext i
  obtain ⟨r, c, rfl⟩ : ∃ (r : Fin R) (c : Fin C), i = ix2 r c := ⟨i 0, i 1, eq_ix2 i⟩
  rw [slice_at p 0 0 rfl, slice_at p 1 1 rfl, slice_at p 2 2 rfl, slice_at p 3 3 rfl, slice_at p 4 4 rfl, slice_at p 5 5 rfl, slice_at p 6 6 rfl,
    slice_at p 7 7 rfl]
  exact (Fin.sum_univ_eight fun d => p (ix3 d r c)).symm

/-- A store of a whole block. -/
theorem stored (f G : (Mat R C).Idx → EReal) (inb) (h : f = G) (j : (Rect.unit (s := Mat R C) ![0, 0] ![R, C] inb).shape.Idx) :
    f j = G ((Rect.unit (s := Mat R C) ![0, 0] ![R, C] inb).emb j) := by
  obtain ⟨r, d, rfl⟩ : ∃ (r : Fin R) (d : Fin C), j = ix2 r d := ⟨j 0, j 1, eq_ix2 j⟩
  rw [emb_block 0 0 _ r d r d (Nat.zero_add _).symm (Nat.zero_add _).symm, h]

/-- The same total from a sum that begins with zero. -/
theorem total_of (g : (Mat R C).Idx → EReal) (q : Fin 8 → (Parts R C).Idx) (i : (Mat R C).Idx)
    (h : g i = Ideal.ofBits .f32 0x00000000#32 + ∑ d, p (q d)) (hq : ∀ d, q d = ix3 d (i 0) (i 1)) : g i = total p i :=
  h.trans ((congrArg (· + _) zeroWord).trans ((zero_add _).trans (Finset.sum_congr rfl fun d _ => congrArg p (hq d))))

/-- A block of the eight arrays' sum is the sum of their blocks at the same rows and columns: `E` and `E'` place a block's entries, block by
    block of the sizes `8`, `r` and `k`. -/
theorem total_tile {r k : ℕ} (x : (Parts r k).Idx → EReal) (E : (Parts r k).Idx → (Parts R C).Idx) (E' : (Mat r k).Idx → (Mat R C).Idx)
    {i0 i1 i2 j0 j1 : ℕ} (hx : ∀ j, x j = p (E j)) (e0 : ∀ j, (E j 0).val = i0 * 8 + 1 * (j 0).val) (e1 : ∀ j, (E j 1).val = i1 * r + 1 * (j 1).val)
    (e2 : ∀ j, (E j 2).val = i2 * k + 1 * (j 2).val) (f0 : ∀ y, (E' y 0).val = j0 * r + 1 * (y 0).val)
    (f1 : ∀ y, (E' y 1).val = j1 * k + 1 * (y 1).val) (h0 : i0 = 0) (h1 : i1 = j0) (h2 : i2 = j1) (y : (Mat r k).Idx) : total x y = total p (E' y) := by
  subst h0 h1 h2
  refine Finset.sum_congr rfl fun d _ => (hx _).trans (congrArg p (funext fun a => Fin.ext ?_))
  match a with
  | ⟨0, _⟩ => exact (e0 _).trans (by show 0 * 8 + 1 * d.val = d.val; omega)
  | ⟨1, _⟩ => exact (e1 _).trans (f0 y).symm
  | ⟨2, _⟩ => exact (e2 _).trans (f1 y).symm

/-- The four results of a step: the sum of the eight arrays, the weight's change and the new moments. -/
structure Outcome (s d a b : (Mat R C).Idx → EReal) : Prop where
  sum : s = total p
  change : d = changeAll p w m v
  first : a = firstAll p m
  second : b = secondAll p v

/-- The results computed from an array that is the sum. -/
theorem Outcome.of_sum (g : (Mat R C).Idx → EReal) (h : g = total p) :
    Outcome p w m v g (fun i => Adam.change (g i) (w i) (m i) (v i)) (fun i => Adam.first (g i) (m i)) (fun i => Adam.second (g i) (v i)) := by
  subst h
  exact ⟨rfl, rfl, rfl, rfl⟩

/-- The results of a block are the blocks of the results. -/
theorem Outcome.of_block {r k : ℕ} {x : (Parts r k).Idx → EReal} {w' m' v' s d a b : (Mat r k).Idx → EReal} (o : Outcome x w' m' v' s d a b)
    (E : (Mat r k).Idx → (Mat R C).Idx) (h : ∀ y, total x y = total p (E y)) (hw : ∀ y, w' y = w (E y)) (hm : ∀ y, m' y = m (E y))
    (hv : ∀ y, v' y = v (E y)) : s = (fun y => total p (E y)) ∧ d = (fun y => changeAll p w m v (E y)) ∧ a = (fun y => firstAll p m (E y))
    ∧ b = fun y => secondAll p v (E y) := by
  obtain ⟨rfl, rfl, rfl, rfl⟩ := o
  refine ⟨funext h, funext fun y => ?_, funext fun y => ?_, funext fun y => ?_⟩
  · show Adam.change (total x y) _ _ _ = _
    rw [h, hw, hm, hv]
    rfl
  · show Adam.first (total x y) _ = _
    rw [h, hm]
    rfl
  · show Adam.second (total x y) _ = _
    rw [h, hv]
    rfl

/-- Two computations of a step have the same results. -/
theorem Outcome.same {s d a b s' d' a' b' : (Mat R C).Idx → EReal} (o : Outcome p w m v s d a b) (o' : Outcome p w m v s' d' a' b') :
    s = s' ∧ d = d' ∧ a = a' ∧ b = b' :=
  ⟨o.sum.trans o'.sum.symm, o.change.trans o'.change.symm, o.first.trans o'.first.symm, o.second.trans o'.second.symm⟩

/-- Two blocks of columns side by side. -/
def joined {K : ℕ} (a b : (Parts R C).Idx → EReal) (i : (Parts R K).Idx) : EReal :=
  if h : (i 2).val < C then a (ix3 (i 0) (i 1) ⟨(i 2).val, h⟩)
  else if h : (i 2).val - C < C then b (ix3 (i 0) (i 1) ⟨(i 2).val - C, h⟩) else 0

theorem joined_left {K : ℕ} (a b : (Parts R C).Idx → EReal) (d : Fin 8) (r : Fin R) (j : Fin K) (k : Fin C) (h : j.val = k.val) :
    joined a b (ix3 d r j) = a (ix3 d r k) := by
  unfold joined
  refine (dif_pos (show j.val < C from h ▸ k.isLt)).trans (congrArg (fun k => a (ix3 d r k)) (Fin.ext h))

theorem joined_right {K : ℕ} (a b : (Parts R C).Idx → EReal) (d : Fin 8) (r : Fin R) (j : Fin K) (k : Fin C) (h : j.val = C + k.val) :
    joined a b (ix3 d r j) = b (ix3 d r k) := by
  have hk := k.isLt
  unfold joined
  refine (dif_neg (show ¬j.val < C by omega)).trans ((dif_pos (show j.val - C < C by omega)).trans (congrArg (fun k => b (ix3 d r k)) (Fin.ext ?_)))
  show j.val - C = k.val
  omega

end Cert.Adam

end

end
-- ==== Proof.AdamClaims.lean ====
/-
  The optimiser's step for the large weights: what its kernels leave — the sum of the eight blocks of the gradient, the weight's change and the
  two moments —, and that the reference's results are the same.
-/
module

public import proofs.«01_k».proof.Defs
public import proofs.«01_k».proof.Proof.Adam
public import proofs.«01_k».proof.Proof.Gen.Kernel18Ideal.Value
public import proofs.«01_k».proof.Proof.Gen.Reference18Ideal.Read
public import proofs.«01_k».proof.Proof.Gen.Reference18Ideal.Run
public import proofs.«01_k».proof.Proof.Gen.Kernel24Ideal.Value
public import proofs.«01_k».proof.Proof.Gen.Reference24Ideal.Read
public import proofs.«01_k».proof.Proof.Gen.Reference24Ideal.Run
public import proofs.«01_k».proof.Proof.Gen.Kernel25Ideal.Value
public import proofs.«01_k».proof.Proof.Gen.Reference25Ideal.Read
public import proofs.«01_k».proof.Proof.Gen.Reference25Ideal.Run
public import proofs.«01_k».proof.Proof.Gen.Kernel26Ideal.Value
public import proofs.«01_k».proof.Proof.Gen.Reference26Ideal.Read
public import proofs.«01_k».proof.Proof.Gen.Reference26Ideal.Run
public import proofs.«01_k».proof.Proof.Gen.Kernel27Ideal.Value
public import proofs.«01_k».proof.Proof.Gen.Reference27Ideal.Read
public import proofs.«01_k».proof.Proof.Gen.Reference27Ideal.Run
public import Idealize.ShloMosaic.Adequacy
public import Idealize.ShloMosaic.Init

@[expose] public section

noncomputable section

namespace Cert.Kernel18Ideal.Adam

open Cert.Kernel18Ideal Cert.Kernel18Ideal.Gen Cert.Kernel18Ideal.Value Idealize.ShloMosaic Idealize.ShloMosaic.ValueIdx Idealize.ShloMosaic.TcCoe Cert.Products
  Cert.Gather Cert.Adam

variable (m : (ℓ : Loc nD τ sig) → Buf (Elt Ideal) ℓ) (c : Dev nD) (t : Fin cfg0.N)

abbrev argP : S8x352x1024.Idx → EReal := m ((c : Thread nD τ).loc main_arg0)
abbrev argW : S352x1024.Idx → EReal := m ((c : Thread nD τ).loc main_arg1)
abbrev argM : S352x1024.Idx → EReal := m ((c : Thread nD τ).loc main_arg2)
abbrev argV : S352x1024.Idx → EReal := m ((c : Thread nD τ).loc main_arg3)

theorem index : ∀ t : Fin grid0.N, (win0_0.index t 0 = 0 ∧ win0_0.index t 1 = t.val ∧ win0_0.index t 2 = 0) ∧ win0_4.index t 0 = t.val ∧ win0_4.index t 1 = 0 := by
  decide +kernel

theorem total_block (y : S176x1024.Idx) : total (iblk m c 0 t) y = total (argP m c) (((cfg0.win 4).blk t).view.emb y) := by
  obtain ⟨⟨h0, h1, h2⟩, h3, h4⟩ := index t
  exact total_tile (argP m c) _ ((cfg0.win 0).blk t).view.emb ((cfg0.win 4).blk t).view.emb (fun _ => View.read_apply _ _) (fun _ => rfl) (fun _ => rfl)
    (fun _ => rfl) (fun _ => rfl) (fun _ => rfl) h0 (h1.trans h3.symm) (h2.trans h4.symm) y

theorem flushed : Outcome (iblk m c 0 t) (iblk m c 1 t) (iblk m c 2 t) (iblk m c 3 t) ((dats m 0 c).flushed 4 t) ((dats m 0 c).flushed 5 t)
    ((dats m 0 c).flushed 6 t) ((dats m 0 c).flushed 7 t) := by
  have sum := fun hc i0 i1 i2 i3 i4 i5 i6 i7 => total_eq (R := 176) (C := 1024) (iblk m c 0 t) hc i0 i1 i2 i3 i4 i5 i6 i7
  refine ⟨(flushed4_A m c t).trans (read_tiles (s := S176x1024) (e := .f32) _ _ _ _ (by intro y; apply cover0_A_4) ?_ :),
    (flushed5_A m c t).trans (read_tiles (s := S176x1024) (e := .f32) _ _ _ _ (by intro y; apply cover0_A_5) ?_ :),
    (flushed6_A m c t).trans (read_tiles (s := S176x1024) (e := .f32) _ _ _ _ (by intro y; apply cover0_A_6) ?_ :),
    (flushed7_A m c t).trans (read_tiles (s := S176x1024) (e := .f32) _ _ _ _ (by intro y; apply cover0_A_7) ?_ :)⟩ <;>
    (unfold kernelRun0_A; dsimp only; sl_unfold_words
     simp only [View.readAt_eq_ld, (hs0_0 t).read_unread, (hs0_1 t).read_unread, (hs0_2 t).read_unread, (hs0_3 t).read_unread, ld_full]
     refine ⟨stored _ _ inb_S176x1024_S176x1024_0_0 ?_, trivial⟩)
  · exact sum _ _ _ _ _ _ _ _ _
  · exact congrArg (fun g => k0_pay3 (F := Ideal) g (iblk m c 1 t) (iblk m c 2 t) (iblk m c 3 t)) (sum _ _ _ _ _ _ _ _ _)
  · exact congrArg (fun g => k0_pay1 (F := Ideal) g (iblk m c 2 t)) (sum _ _ _ _ _ _ _ _ _)
  · exact congrArg (fun g => k0_pay2 (F := Ideal) g (iblk m c 3 t)) (sum _ _ _ _ _ _ _ _ _)

theorem covered (i : S352x1024.Idx) : ∃ t : Fin cfg0.N, i ∈ ((cfg0.win 4).blk t).view.set := by
  have hi : (i 0).val < 352 := (i 0).isLt
  let t : Fin cfg0.N := ⟨(i 0).val / 176, by have : cfg0.N = 2 := N_0; omega⟩
  obtain ⟨_, h0, h1⟩ := index t
  refine ⟨t, ?_⟩
  show i ∈ ((View.whole main_v0_0).slice (win0_4.rect t)).set
  rw [View.set_slice_whole]
  exact mem_tile (by decide) _ _ i (by show win0_4.index t 0 * 176 = _; rw [h0]) (by show win0_4.index t 1 * 1024 = 0; rw [h1])

theorem final : Outcome (argP m c) (argW m c) (argM m c) (argV m c) ((dats m 0 c).arrAt 4 cfg0.N) ((dats m 0 c).arrAt 5 cfg0.N)
    ((dats m 0 c).arrAt 6 cfg0.N) ((dats m 0 c).arrAt 7 cfg0.N) := by
  have b := fun t => (flushed m c t).of_block (argP m c) (argW m c) (argM m c) (argV m c) ((cfg0.win 4).blk t).view.emb (total_block m c t)
    (fun _ => View.read_apply _ _) (fun _ => View.read_apply _ _) (fun _ => View.read_apply _ _)
  exact ⟨(dats m 0 c).arrAt_eq_of_cover 4 _ (fun t _ => (b t).1) fun i => let ⟨t, h⟩ := covered i; ⟨t, flush0_4 _, h⟩,
    (dats m 0 c).arrAt_eq_of_cover 5 _ (fun t _ => (b t).2.1) fun i => let ⟨t, h⟩ := covered i; ⟨t, flush0_5 _, h⟩,
    (dats m 0 c).arrAt_eq_of_cover 6 _ (fun t _ => (b t).2.2.1) fun i => let ⟨t, h⟩ := covered i; ⟨t, flush0_6 _, h⟩,
    (dats m 0 c).arrAt_eq_of_cover 7 _ (fun t _ => (b t).2.2.2) fun i => let ⟨t, h⟩ := covered i; ⟨t, flush0_7 _, h⟩⟩

end Cert.Kernel18Ideal.Adam

namespace Cert.Reference18Ideal.Adam

open Cert.Reference18Ideal Cert.Reference18Ideal.Gen Cert.Reference18Ideal.Read Idealize.ShloMosaic Idealize.ShloMosaic.ValueIdx Cert.Adam

theorem total_ref (p : S8x352x1024.Idx → EReal) : val_main_v1 (F := Ideal) p = total p :=
  funext fun i => total_of p _ _ i (val_main_v1_apply p i) fun d => (eq_ix3 _).trans rfl

theorem results (p : S8x352x1024.Idx → EReal) (w m v : S352x1024.Idx → EReal) : Outcome p w m v (val_main_v1 (F := Ideal) p) (val_main_v25 (F := Ideal) p w m v)
    (val_main_v6 (F := Ideal) p m) (val_main_v12 (F := Ideal) p v) :=
  Outcome.of_sum p w m v _ (total_ref p)

end Cert.Reference18Ideal.Adam

namespace Cert.AdamClaims

open Idealize.ShloMosaic Idealize.ShloMosaic.TcCoe Idealize.SL.Sem

theorem frame_reference_18 : Cert.quiescent_Reference18Ideal := fun m ρ _ =>
  (θ_run Cert.Reference18Ideal.defs _ _).mono (fun r h => ⟨fun c => (h c).2.2.2.2, sem_eq_zero_of_no_sems (by decide) r.2⟩)
    (Cert.Reference18Ideal.Value.run (F := Ideal) m ρ)

open Cert.Reference18Ideal.Read Cert.Reference18Ideal.Adam Cert.Kernel18Ideal.Adam in
theorem algebraic_18 : Cert.algebraic_Kernel18Ideal_Reference18Ideal := by
  intro m ρ m' ρ' _ hagree
  refine ⟨_, _, _, _, Cert.Kernel18Ideal.Value.run_blocks (F := Ideal) m ρ, ?_⟩
  refine (θ_run Cert.Reference18Ideal.defs _ _).mono (fun _ h c => ?_) (Cert.Reference18Ideal.Value.run (F := Ideal) m' ρ')
  obtain ⟨h0, h1, h2, h3⟩ := hagree c
  obtain ⟨f0, f1, f2, f3⟩ := (results _ _ _ _).same _ _ _ _ (final m c)
  refine ⟨(h c).1.trans ?_, (h c).2.1.trans ?_, (h c).2.2.1.trans ?_, (h c).2.2.2.1.trans ?_, (h c).2.2.2.2⟩
  · rw [val_main_v1_eq, h0, f0]
  · rw [val_main_v25_eq, h0, h1, h2, h3, f1]
  · rw [val_main_v6_eq, h0, h2, f2]
  · rw [val_main_v12_eq, h0, h3, f3]

end Cert.AdamClaims

namespace Cert.Kernel24Ideal.Adam

open Cert.Kernel24Ideal Cert.Kernel24Ideal.Gen Cert.Kernel24Ideal.Value Idealize.ShloMosaic Idealize.ShloMosaic.ValueIdx Idealize.ShloMosaic.TcCoe Cert.Products
  Cert.Gather Cert.Adam

variable (m : (ℓ : Loc nD τ sig) → Buf (Elt Ideal) ℓ) (c : Dev nD) (t : Fin cfg0.N)

abbrev argP : S8x704x1024.Idx → EReal := m ((c : Thread nD τ).loc main_arg0)
abbrev argW : S704x1024.Idx → EReal := m ((c : Thread nD τ).loc main_arg1)
abbrev argM : S704x1024.Idx → EReal := m ((c : Thread nD τ).loc main_arg2)
abbrev argV : S704x1024.Idx → EReal := m ((c : Thread nD τ).loc main_arg3)

theorem index : ∀ t : Fin grid0.N, (win0_0.index t 0 = 0 ∧ win0_0.index t 1 = t.val ∧ win0_0.index t 2 = 0) ∧ win0_4.index t 0 = t.val ∧ win0_4.index t 1 = 0 := by
  decide +kernel

theorem total_block (y : S176x1024.Idx) : total (iblk m c 0 t) y = total (argP m c) (((cfg0.win 4).blk t).view.emb y) := by
  obtain ⟨⟨h0, h1, h2⟩, h3, h4⟩ := index t
  exact total_tile (argP m c) _ ((cfg0.win 0).blk t).view.emb ((cfg0.win 4).blk t).view.emb (fun _ => View.read_apply _ _) (fun _ => rfl) (fun _ => rfl)
    (fun _ => rfl) (fun _ => rfl) (fun _ => rfl) h0 (h1.trans h3.symm) (h2.trans h4.symm) y

theorem flushed : Outcome (iblk m c 0 t) (iblk m c 1 t) (iblk m c 2 t) (iblk m c 3 t) ((dats m 0 c).flushed 4 t) ((dats m 0 c).flushed 5 t)
    ((dats m 0 c).flushed 6 t) ((dats m 0 c).flushed 7 t) := by
  have sum := fun hc i0 i1 i2 i3 i4 i5 i6 i7 => total_eq (R := 176) (C := 1024) (iblk m c 0 t) hc i0 i1 i2 i3 i4 i5 i6 i7
  refine ⟨(flushed4_A m c t).trans (read_tiles (s := S176x1024) (e := .f32) _ _ _ _ (by intro y; apply cover0_A_4) ?_ :),
    (flushed5_A m c t).trans (read_tiles (s := S176x1024) (e := .f32) _ _ _ _ (by intro y; apply cover0_A_5) ?_ :),
    (flushed6_A m c t).trans (read_tiles (s := S176x1024) (e := .f32) _ _ _ _ (by intro y; apply cover0_A_6) ?_ :),
    (flushed7_A m c t).trans (read_tiles (s := S176x1024) (e := .f32) _ _ _ _ (by intro y; apply cover0_A_7) ?_ :)⟩ <;>
    (unfold kernelRun0_A; dsimp only; sl_unfold_words
     simp only [View.readAt_eq_ld, (hs0_0 t).read_unread, (hs0_1 t).read_unread, (hs0_2 t).read_unread, (hs0_3 t).read_unread, ld_full]
     refine ⟨stored _ _ inb_S176x1024_S176x1024_0_0 ?_, trivial⟩)
  · exact sum _ _ _ _ _ _ _ _ _
  · exact congrArg (fun g => k0_pay3 (F := Ideal) g (iblk m c 1 t) (iblk m c 2 t) (iblk m c 3 t)) (sum _ _ _ _ _ _ _ _ _)
  · exact congrArg (fun g => k0_pay1 (F := Ideal) g (iblk m c 2 t)) (sum _ _ _ _ _ _ _ _ _)
  · exact congrArg (fun g => k0_pay2 (F := Ideal) g (iblk m c 3 t)) (sum _ _ _ _ _ _ _ _ _)

theorem covered (i : S704x1024.Idx) : ∃ t : Fin cfg0.N, i ∈ ((cfg0.win 4).blk t).view.set := by
  have hi : (i 0).val < 704 := (i 0).isLt
  let t : Fin cfg0.N := ⟨(i 0).val / 176, by have : cfg0.N = 4 := N_0; omega⟩
  obtain ⟨_, h0, h1⟩ := index t
  refine ⟨t, ?_⟩
  show i ∈ ((View.whole main_v0_0).slice (win0_4.rect t)).set
  rw [View.set_slice_whole]
  exact mem_tile (by decide) _ _ i (by show win0_4.index t 0 * 176 = _; rw [h0]) (by show win0_4.index t 1 * 1024 = 0; rw [h1])

theorem final : Outcome (argP m c) (argW m c) (argM m c) (argV m c) ((dats m 0 c).arrAt 4 cfg0.N) ((dats m 0 c).arrAt 5 cfg0.N)
    ((dats m 0 c).arrAt 6 cfg0.N) ((dats m 0 c).arrAt 7 cfg0.N) := by
  have b := fun t => (flushed m c t).of_block (argP m c) (argW m c) (argM m c) (argV m c) ((cfg0.win 4).blk t).view.emb (total_block m c t)
    (fun _ => View.read_apply _ _) (fun _ => View.read_apply _ _) (fun _ => View.read_apply _ _)
  exact ⟨(dats m 0 c).arrAt_eq_of_cover 4 _ (fun t _ => (b t).1) fun i => let ⟨t, h⟩ := covered i; ⟨t, flush0_4 _, h⟩,
    (dats m 0 c).arrAt_eq_of_cover 5 _ (fun t _ => (b t).2.1) fun i => let ⟨t, h⟩ := covered i; ⟨t, flush0_5 _, h⟩,
    (dats m 0 c).arrAt_eq_of_cover 6 _ (fun t _ => (b t).2.2.1) fun i => let ⟨t, h⟩ := covered i; ⟨t, flush0_6 _, h⟩,
    (dats m 0 c).arrAt_eq_of_cover 7 _ (fun t _ => (b t).2.2.2) fun i => let ⟨t, h⟩ := covered i; ⟨t, flush0_7 _, h⟩⟩

end Cert.Kernel24Ideal.Adam

namespace Cert.Reference24Ideal.Adam

open Cert.Reference24Ideal Cert.Reference24Ideal.Gen Cert.Reference24Ideal.Read Idealize.ShloMosaic Idealize.ShloMosaic.ValueIdx Cert.Adam

theorem total_ref (p : S8x704x1024.Idx → EReal) : val_main_v1 (F := Ideal) p = total p :=
  funext fun i => total_of p _ _ i (val_main_v1_apply p i) fun d => (eq_ix3 _).trans rfl

theorem results (p : S8x704x1024.Idx → EReal) (w m v : S704x1024.Idx → EReal) : Outcome p w m v (val_main_v1 (F := Ideal) p) (val_main_v25 (F := Ideal) p w m v)
    (val_main_v6 (F := Ideal) p m) (val_main_v12 (F := Ideal) p v) :=
  Outcome.of_sum p w m v _ (total_ref p)

end Cert.Reference24Ideal.Adam

namespace Cert.AdamClaims

open Idealize.ShloMosaic Idealize.ShloMosaic.TcCoe Idealize.SL.Sem

theorem frame_reference_24 : Cert.quiescent_Reference24Ideal := fun m ρ _ =>
  (θ_run Cert.Reference24Ideal.defs _ _).mono (fun r h => ⟨fun c => (h c).2.2.2.2, sem_eq_zero_of_no_sems (by decide) r.2⟩)
    (Cert.Reference24Ideal.Value.run (F := Ideal) m ρ)

open Cert.Reference24Ideal.Read Cert.Reference24Ideal.Adam Cert.Kernel24Ideal.Adam in
theorem algebraic_24 : Cert.algebraic_Kernel24Ideal_Reference24Ideal := by
  intro m ρ m' ρ' _ hagree
  refine ⟨_, _, _, _, Cert.Kernel24Ideal.Value.run_blocks (F := Ideal) m ρ, ?_⟩
  refine (θ_run Cert.Reference24Ideal.defs _ _).mono (fun _ h c => ?_) (Cert.Reference24Ideal.Value.run (F := Ideal) m' ρ')
  obtain ⟨h0, h1, h2, h3⟩ := hagree c
  obtain ⟨f0, f1, f2, f3⟩ := (results _ _ _ _).same _ _ _ _ (final m c)
  refine ⟨(h c).1.trans ?_, (h c).2.1.trans ?_, (h c).2.2.1.trans ?_, (h c).2.2.2.1.trans ?_, (h c).2.2.2.2⟩
  · rw [val_main_v1_eq, h0, f0]
  · rw [val_main_v25_eq, h0, h1, h2, h3, f1]
  · rw [val_main_v6_eq, h0, h2, f2]
  · rw [val_main_v12_eq, h0, h3, f3]

end Cert.AdamClaims

namespace Cert.Kernel25Ideal.Adam

open Cert.Kernel25Ideal Cert.Kernel25Ideal.Gen Cert.Kernel25Ideal.Value Idealize.ShloMosaic Idealize.ShloMosaic.ValueIdx Idealize.ShloMosaic.TcCoe Cert.Products
  Cert.Gather Cert.Adam

variable (m : (ℓ : Loc nD τ sig) → Buf (Elt Ideal) ℓ) (c : Dev nD) (t : Fin cfg0.N)

abbrev argP : S8x1024x768.Idx → EReal := m ((c : Thread nD τ).loc main_arg0)
abbrev argW : S1024x768.Idx → EReal := m ((c : Thread nD τ).loc main_arg1)
abbrev argM : S1024x768.Idx → EReal := m ((c : Thread nD τ).loc main_arg2)
abbrev argV : S1024x768.Idx → EReal := m ((c : Thread nD τ).loc main_arg3)

theorem index : ∀ t : Fin grid0.N, (win0_0.index t 0 = 0 ∧ win0_0.index t 1 = t.val ∧ win0_0.index t 2 = 0) ∧ win0_4.index t 0 = t.val ∧ win0_4.index t 1 = 0 := by
  decide +kernel

theorem total_block (y : S256x768.Idx) : total (iblk m c 0 t) y = total (argP m c) (((cfg0.win 4).blk t).view.emb y) := by
  obtain ⟨⟨h0, h1, h2⟩, h3, h4⟩ := index t
  exact total_tile (argP m c) _ ((cfg0.win 0).blk t).view.emb ((cfg0.win 4).blk t).view.emb (fun _ => View.read_apply _ _) (fun _ => rfl) (fun _ => rfl)
    (fun _ => rfl) (fun _ => rfl) (fun _ => rfl) h0 (h1.trans h3.symm) (h2.trans h4.symm) y

theorem flushed : Outcome (iblk m c 0 t) (iblk m c 1 t) (iblk m c 2 t) (iblk m c 3 t) ((dats m 0 c).flushed 4 t) ((dats m 0 c).flushed 5 t)
    ((dats m 0 c).flushed 6 t) ((dats m 0 c).flushed 7 t) := by
  have sum := fun hc i0 i1 i2 i3 i4 i5 i6 i7 => total_eq (R := 256) (C := 768) (iblk m c 0 t) hc i0 i1 i2 i3 i4 i5 i6 i7
  refine ⟨(flushed4_A m c t).trans (read_tiles (s := S256x768) (e := .f32) _ _ _ _ (by intro y; apply cover0_A_4) ?_ :),
    (flushed5_A m c t).trans (read_tiles (s := S256x768) (e := .f32) _ _ _ _ (by intro y; apply cover0_A_5) ?_ :),
    (flushed6_A m c t).trans (read_tiles (s := S256x768) (e := .f32) _ _ _ _ (by intro y; apply cover0_A_6) ?_ :),
    (flushed7_A m c t).trans (read_tiles (s := S256x768) (e := .f32) _ _ _ _ (by intro y; apply cover0_A_7) ?_ :)⟩ <;>
    (unfold kernelRun0_A; dsimp only; sl_unfold_words
     simp only [View.readAt_eq_ld, (hs0_0 t).read_unread, (hs0_1 t).read_unread, (hs0_2 t).read_unread, (hs0_3 t).read_unread, ld_full]
     refine ⟨stored _ _ inb_S256x768_S256x768_0_0 ?_, trivial⟩)
  · exact sum _ _ _ _ _ _ _ _ _
  · exact congrArg (fun g => k0_pay3 (F := Ideal) g (iblk m c 1 t) (iblk m c 2 t) (iblk m c 3 t)) (sum _ _ _ _ _ _ _ _ _)
  · exact congrArg (fun g => k0_pay1 (F := Ideal) g (iblk m c 2 t)) (sum _ _ _ _ _ _ _ _ _)
  · exact congrArg (fun g => k0_pay2 (F := Ideal) g (iblk m c 3 t)) (sum _ _ _ _ _ _ _ _ _)

theorem covered (i : S1024x768.Idx) : ∃ t : Fin cfg0.N, i ∈ ((cfg0.win 4).blk t).view.set := by
  have hi : (i 0).val < 1024 := (i 0).isLt
  let t : Fin cfg0.N := ⟨(i 0).val / 256, by have : cfg0.N = 4 := N_0; omega⟩
  obtain ⟨_, h0, h1⟩ := index t
  refine ⟨t, ?_⟩
  show i ∈ ((View.whole main_v0_0).slice (win0_4.rect t)).set
  rw [View.set_slice_whole]
  exact mem_tile (by decide) _ _ i (by show win0_4.index t 0 * 256 = _; rw [h0]) (by show win0_4.index t 1 * 768 = 0; rw [h1])

theorem final : Outcome (argP m c) (argW m c) (argM m c) (argV m c) ((dats m 0 c).arrAt 4 cfg0.N) ((dats m 0 c).arrAt 5 cfg0.N)
    ((dats m 0 c).arrAt 6 cfg0.N) ((dats m 0 c).arrAt 7 cfg0.N) := by
  have b := fun t => (flushed m c t).of_block (argP m c) (argW m c) (argM m c) (argV m c) ((cfg0.win 4).blk t).view.emb (total_block m c t)
    (fun _ => View.read_apply _ _) (fun _ => View.read_apply _ _) (fun _ => View.read_apply _ _)
  exact ⟨(dats m 0 c).arrAt_eq_of_cover 4 _ (fun t _ => (b t).1) fun i => let ⟨t, h⟩ := covered i; ⟨t, flush0_4 _, h⟩,
    (dats m 0 c).arrAt_eq_of_cover 5 _ (fun t _ => (b t).2.1) fun i => let ⟨t, h⟩ := covered i; ⟨t, flush0_5 _, h⟩,
    (dats m 0 c).arrAt_eq_of_cover 6 _ (fun t _ => (b t).2.2.1) fun i => let ⟨t, h⟩ := covered i; ⟨t, flush0_6 _, h⟩,
    (dats m 0 c).arrAt_eq_of_cover 7 _ (fun t _ => (b t).2.2.2) fun i => let ⟨t, h⟩ := covered i; ⟨t, flush0_7 _, h⟩⟩

end Cert.Kernel25Ideal.Adam

namespace Cert.Reference25Ideal.Adam

open Cert.Reference25Ideal Cert.Reference25Ideal.Gen Cert.Reference25Ideal.Read Idealize.ShloMosaic Idealize.ShloMosaic.ValueIdx Cert.Adam

theorem total_ref (p : S8x1024x768.Idx → EReal) : val_main_v1 (F := Ideal) p = total p :=
  funext fun i => total_of p _ _ i (val_main_v1_apply p i) fun d => (eq_ix3 _).trans rfl

theorem results (p : S8x1024x768.Idx → EReal) (w m v : S1024x768.Idx → EReal) : Outcome p w m v (val_main_v1 (F := Ideal) p) (val_main_v25 (F := Ideal) p w m v)
    (val_main_v6 (F := Ideal) p m) (val_main_v12 (F := Ideal) p v) :=
  Outcome.of_sum p w m v _ (total_ref p)

end Cert.Reference25Ideal.Adam

namespace Cert.AdamClaims

open Idealize.ShloMosaic Idealize.ShloMosaic.TcCoe Idealize.SL.Sem

theorem frame_reference_25 : Cert.quiescent_Reference25Ideal := fun m ρ _ =>
  (θ_run Cert.Reference25Ideal.defs _ _).mono (fun r h => ⟨fun c => (h c).2.2.2.2, sem_eq_zero_of_no_sems (by decide) r.2⟩)
    (Cert.Reference25Ideal.Value.run (F := Ideal) m ρ)

open Cert.Reference25Ideal.Read Cert.Reference25Ideal.Adam Cert.Kernel25Ideal.Adam in
theorem algebraic_25 : Cert.algebraic_Kernel25Ideal_Reference25Ideal := by
  intro m ρ m' ρ' _ hagree
  refine ⟨_, _, _, _, Cert.Kernel25Ideal.Value.run_blocks (F := Ideal) m ρ, ?_⟩
  refine (θ_run Cert.Reference25Ideal.defs _ _).mono (fun _ h c => ?_) (Cert.Reference25Ideal.Value.run (F := Ideal) m' ρ')
  obtain ⟨h0, h1, h2, h3⟩ := hagree c
  obtain ⟨f0, f1, f2, f3⟩ := (results _ _ _ _).same _ _ _ _ (final m c)
  refine ⟨(h c).1.trans ?_, (h c).2.1.trans ?_, (h c).2.2.1.trans ?_, (h c).2.2.2.1.trans ?_, (h c).2.2.2.2⟩
  · rw [val_main_v1_eq, h0, f0]
  · rw [val_main_v25_eq, h0, h1, h2, h3, f1]
  · rw [val_main_v6_eq, h0, h2, f2]
  · rw [val_main_v12_eq, h0, h3, f3]

end Cert.AdamClaims

namespace Cert.Kernel26Ideal.Adam

open Cert.Kernel26Ideal Cert.Kernel26Ideal.Gen Cert.Kernel26Ideal.Value Idealize.ShloMosaic Idealize.ShloMosaic.ValueIdx Idealize.ShloMosaic.TcCoe Cert.Products
  Cert.Gather Cert.Adam

variable (m : (ℓ : Loc nD τ sig) → Buf (Elt Ideal) ℓ) (c : Dev nD) (t : Fin cfg0.N)

abbrev argP : S8x512x128.Idx → EReal := m ((c : Thread nD τ).loc main_arg0)
abbrev argW : S512x128.Idx → EReal := m ((c : Thread nD τ).loc main_arg1)
abbrev argM : S512x128.Idx → EReal := m ((c : Thread nD τ).loc main_arg2)
abbrev argV : S512x128.Idx → EReal := m ((c : Thread nD τ).loc main_arg3)

theorem index : ∀ t : Fin grid0.N, (win0_0.index t 0 = 0 ∧ win0_0.index t 1 = t.val ∧ win0_0.index t 2 = 0) ∧ win0_4.index t 0 = t.val ∧ win0_4.index t 1 = 0 := by
  decide +kernel

theorem total_block (y : S256x128.Idx) : total (iblk m c 0 t) y = total (argP m c) (((cfg0.win 4).blk t).view.emb y) := by
  obtain ⟨⟨h0, h1, h2⟩, h3, h4⟩ := index t
  exact total_tile (argP m c) _ ((cfg0.win 0).blk t).view.emb ((cfg0.win 4).blk t).view.emb (fun _ => View.read_apply _ _) (fun _ => rfl) (fun _ => rfl)
    (fun _ => rfl) (fun _ => rfl) (fun _ => rfl) h0 (h1.trans h3.symm) (h2.trans h4.symm) y

theorem flushed : Outcome (iblk m c 0 t) (iblk m c 1 t) (iblk m c 2 t) (iblk m c 3 t) ((dats m 0 c).flushed 4 t) ((dats m 0 c).flushed 5 t)
    ((dats m 0 c).flushed 6 t) ((dats m 0 c).flushed 7 t) := by
  have sum := fun hc i0 i1 i2 i3 i4 i5 i6 i7 => total_eq (R := 256) (C := 128) (iblk m c 0 t) hc i0 i1 i2 i3 i4 i5 i6 i7
  refine ⟨(flushed4_A m c t).trans (read_tiles (s := S256x128) (e := .f32) _ _ _ _ (by intro y; apply cover0_A_4) ?_ :),
    (flushed5_A m c t).trans (read_tiles (s := S256x128) (e := .f32) _ _ _ _ (by intro y; apply cover0_A_5) ?_ :),
    (flushed6_A m c t).trans (read_tiles (s := S256x128) (e := .f32) _ _ _ _ (by intro y; apply cover0_A_6) ?_ :),
    (flushed7_A m c t).trans (read_tiles (s := S256x128) (e := .f32) _ _ _ _ (by intro y; apply cover0_A_7) ?_ :)⟩ <;>
    (unfold kernelRun0_A; dsimp only; sl_unfold_words
     simp only [View.readAt_eq_ld, (hs0_0 t).read_unread, (hs0_1 t).read_unread, (hs0_2 t).read_unread, (hs0_3 t).read_unread, ld_full]
     refine ⟨stored _ _ inb_S256x128_S256x128_0_0 ?_, trivial⟩)
  · exact sum _ _ _ _ _ _ _ _ _
  · exact congrArg (fun g => k0_pay3 (F := Ideal) g (iblk m c 1 t) (iblk m c 2 t) (iblk m c 3 t)) (sum _ _ _ _ _ _ _ _ _)
  · exact congrArg (fun g => k0_pay1 (F := Ideal) g (iblk m c 2 t)) (sum _ _ _ _ _ _ _ _ _)
  · exact congrArg (fun g => k0_pay2 (F := Ideal) g (iblk m c 3 t)) (sum _ _ _ _ _ _ _ _ _)

theorem covered (i : S512x128.Idx) : ∃ t : Fin cfg0.N, i ∈ ((cfg0.win 4).blk t).view.set := by
  have hi : (i 0).val < 512 := (i 0).isLt
  let t : Fin cfg0.N := ⟨(i 0).val / 256, by have : cfg0.N = 2 := N_0; omega⟩
  obtain ⟨_, h0, h1⟩ := index t
  refine ⟨t, ?_⟩
  show i ∈ ((View.whole main_v0_0).slice (win0_4.rect t)).set
  rw [View.set_slice_whole]
  exact mem_tile (by decide) _ _ i (by show win0_4.index t 0 * 256 = _; rw [h0]) (by show win0_4.index t 1 * 128 = 0; rw [h1])

theorem final : Outcome (argP m c) (argW m c) (argM m c) (argV m c) ((dats m 0 c).arrAt 4 cfg0.N) ((dats m 0 c).arrAt 5 cfg0.N)
    ((dats m 0 c).arrAt 6 cfg0.N) ((dats m 0 c).arrAt 7 cfg0.N) := by
  have b := fun t => (flushed m c t).of_block (argP m c) (argW m c) (argM m c) (argV m c) ((cfg0.win 4).blk t).view.emb (total_block m c t)
    (fun _ => View.read_apply _ _) (fun _ => View.read_apply _ _) (fun _ => View.read_apply _ _)
  exact ⟨(dats m 0 c).arrAt_eq_of_cover 4 _ (fun t _ => (b t).1) fun i => let ⟨t, h⟩ := covered i; ⟨t, flush0_4 _, h⟩,
    (dats m 0 c).arrAt_eq_of_cover 5 _ (fun t _ => (b t).2.1) fun i => let ⟨t, h⟩ := covered i; ⟨t, flush0_5 _, h⟩,
    (dats m 0 c).arrAt_eq_of_cover 6 _ (fun t _ => (b t).2.2.1) fun i => let ⟨t, h⟩ := covered i; ⟨t, flush0_6 _, h⟩,
    (dats m 0 c).arrAt_eq_of_cover 7 _ (fun t _ => (b t).2.2.2) fun i => let ⟨t, h⟩ := covered i; ⟨t, flush0_7 _, h⟩⟩

end Cert.Kernel26Ideal.Adam

namespace Cert.Reference26Ideal.Adam

open Cert.Reference26Ideal Cert.Reference26Ideal.Gen Cert.Reference26Ideal.Read Idealize.ShloMosaic Idealize.ShloMosaic.ValueIdx Cert.Adam

theorem total_ref (p : S8x512x128.Idx → EReal) : val_main_v1 (F := Ideal) p = total p :=
  funext fun i => total_of p _ _ i (val_main_v1_apply p i) fun d => (eq_ix3 _).trans rfl

theorem results (p : S8x512x128.Idx → EReal) (w m v : S512x128.Idx → EReal) : Outcome p w m v (val_main_v1 (F := Ideal) p) (val_main_v25 (F := Ideal) p w m v)
    (val_main_v6 (F := Ideal) p m) (val_main_v12 (F := Ideal) p v) :=
  Outcome.of_sum p w m v _ (total_ref p)

end Cert.Reference26Ideal.Adam

namespace Cert.AdamClaims

open Idealize.ShloMosaic Idealize.ShloMosaic.TcCoe Idealize.SL.Sem

theorem frame_reference_26 : Cert.quiescent_Reference26Ideal := fun m ρ _ =>
  (θ_run Cert.Reference26Ideal.defs _ _).mono (fun r h => ⟨fun c => (h c).2.2.2.2, sem_eq_zero_of_no_sems (by decide) r.2⟩)
    (Cert.Reference26Ideal.Value.run (F := Ideal) m ρ)

open Cert.Reference26Ideal.Read Cert.Reference26Ideal.Adam Cert.Kernel26Ideal.Adam in
theorem algebraic_26 : Cert.algebraic_Kernel26Ideal_Reference26Ideal := by
  intro m ρ m' ρ' _ hagree
  refine ⟨_, _, _, _, Cert.Kernel26Ideal.Value.run_blocks (F := Ideal) m ρ, ?_⟩
  refine (θ_run Cert.Reference26Ideal.defs _ _).mono (fun _ h c => ?_) (Cert.Reference26Ideal.Value.run (F := Ideal) m' ρ')
  obtain ⟨h0, h1, h2, h3⟩ := hagree c
  obtain ⟨f0, f1, f2, f3⟩ := (results _ _ _ _).same _ _ _ _ (final m c)
  refine ⟨(h c).1.trans ?_, (h c).2.1.trans ?_, (h c).2.2.1.trans ?_, (h c).2.2.2.1.trans ?_, (h c).2.2.2.2⟩
  · rw [val_main_v1_eq, h0, f0]
  · rw [val_main_v25_eq, h0, h1, h2, h3, f1]
  · rw [val_main_v6_eq, h0, h2, f2]
  · rw [val_main_v12_eq, h0, h3, f3]

end Cert.AdamClaims

namespace Cert.Kernel27Ideal.Adam

open Cert.Kernel27Ideal Cert.Kernel27Ideal.Gen Cert.Kernel27Ideal.Value Idealize.ShloMosaic Idealize.ShloMosaic.ValueIdx Idealize.ShloMosaic.TcCoe Cert.Products
  Cert.Gather Cert.Adam

variable (m : (ℓ : Loc nD τ sig) → Buf (Elt Ideal) ℓ) (c : Dev nD) (t : Fin cfg0.N)

abbrev argP : S8x128x1024.Idx → EReal := m ((c : Thread nD τ).loc main_arg0)
abbrev argW : S128x1024.Idx → EReal := m ((c : Thread nD τ).loc main_arg1)
abbrev argM : S128x1024.Idx → EReal := m ((c : Thread nD τ).loc main_arg2)
abbrev argV : S128x1024.Idx → EReal := m ((c : Thread nD τ).loc main_arg3)

theorem index : ∀ t : Fin grid0.N, (win0_0.index t 0 = 0 ∧ win0_0.index t 1 = t.val ∧ win0_0.index t 2 = 0) ∧ win0_4.index t 0 = t.val ∧ win0_4.index t 1 = 0 := by
  decide +kernel

theorem total_block (y : S128x1024.Idx) : total (iblk m c 0 t) y = total (argP m c) (((cfg0.win 4).blk t).view.emb y) := by
  obtain ⟨⟨h0, h1, h2⟩, h3, h4⟩ := index t
  exact total_tile (argP m c) _ ((cfg0.win 0).blk t).view.emb ((cfg0.win 4).blk t).view.emb (fun _ => View.read_apply _ _) (fun _ => rfl) (fun _ => rfl)
    (fun _ => rfl) (fun _ => rfl) (fun _ => rfl) h0 (h1.trans h3.symm) (h2.trans h4.symm) y

theorem flushed : Outcome (iblk m c 0 t) (iblk m c 1 t) (iblk m c 2 t) (iblk m c 3 t) ((dats m 0 c).flushed 4 t) ((dats m 0 c).flushed 5 t)
    ((dats m 0 c).flushed 6 t) ((dats m 0 c).flushed 7 t) := by
  have sum := fun hc i0 i1 i2 i3 i4 i5 i6 i7 => total_eq (R := 128) (C := 1024) (iblk m c 0 t) hc i0 i1 i2 i3 i4 i5 i6 i7
  refine ⟨(flushed4_A m c t).trans (read_tiles (s := S128x1024) (e := .f32) _ _ _ _ (by intro y; apply cover0_A_4) ?_ :),
    (flushed5_A m c t).trans (read_tiles (s := S128x1024) (e := .f32) _ _ _ _ (by intro y; apply cover0_A_5) ?_ :),
    (flushed6_A m c t).trans (read_tiles (s := S128x1024) (e := .f32) _ _ _ _ (by intro y; apply cover0_A_6) ?_ :),
    (flushed7_A m c t).trans (read_tiles (s := S128x1024) (e := .f32) _ _ _ _ (by intro y; apply cover0_A_7) ?_ :)⟩ <;>
    (unfold kernelRun0_A; dsimp only; sl_unfold_words
     simp only [View.readAt_eq_ld, (hs0_0 t).read_unread, (hs0_1 t).read_unread, (hs0_2 t).read_unread, (hs0_3 t).read_unread, ld_full]
     refine ⟨stored _ _ inb_S128x1024_S128x1024_0_0 ?_, trivial⟩)
  · exact sum _ _ _ _ _ _ _ _ _
  · exact congrArg (fun g => k0_pay3 (F := Ideal) g (iblk m c 1 t) (iblk m c 2 t) (iblk m c 3 t)) (sum _ _ _ _ _ _ _ _ _)
  · exact congrArg (fun g => k0_pay1 (F := Ideal) g (iblk m c 2 t)) (sum _ _ _ _ _ _ _ _ _)
  · exact congrArg (fun g => k0_pay2 (F := Ideal) g (iblk m c 3 t)) (sum _ _ _ _ _ _ _ _ _)

theorem covered (i : S128x1024.Idx) : ∃ t : Fin cfg0.N, i ∈ ((cfg0.win 4).blk t).view.set := by
  have hi : (i 0).val < 128 := (i 0).isLt
  let t : Fin cfg0.N := ⟨(i 0).val / 128, by have : cfg0.N = 1 := N_0; omega⟩
  obtain ⟨_, h0, h1⟩ := index t
  refine ⟨t, ?_⟩
  show i ∈ ((View.whole main_v0_0).slice (win0_4.rect t)).set
  rw [View.set_slice_whole]
  exact mem_tile (by decide) _ _ i (by show win0_4.index t 0 * 128 = _; rw [h0]) (by show win0_4.index t 1 * 1024 = 0; rw [h1])

theorem final : Outcome (argP m c) (argW m c) (argM m c) (argV m c) ((dats m 0 c).arrAt 4 cfg0.N) ((dats m 0 c).arrAt 5 cfg0.N)
    ((dats m 0 c).arrAt 6 cfg0.N) ((dats m 0 c).arrAt 7 cfg0.N) := by
  have b := fun t => (flushed m c t).of_block (argP m c) (argW m c) (argM m c) (argV m c) ((cfg0.win 4).blk t).view.emb (total_block m c t)
    (fun _ => View.read_apply _ _) (fun _ => View.read_apply _ _) (fun _ => View.read_apply _ _)
  exact ⟨(dats m 0 c).arrAt_eq_of_cover 4 _ (fun t _ => (b t).1) fun i => let ⟨t, h⟩ := covered i; ⟨t, flush0_4 _, h⟩,
    (dats m 0 c).arrAt_eq_of_cover 5 _ (fun t _ => (b t).2.1) fun i => let ⟨t, h⟩ := covered i; ⟨t, flush0_5 _, h⟩,
    (dats m 0 c).arrAt_eq_of_cover 6 _ (fun t _ => (b t).2.2.1) fun i => let ⟨t, h⟩ := covered i; ⟨t, flush0_6 _, h⟩,
    (dats m 0 c).arrAt_eq_of_cover 7 _ (fun t _ => (b t).2.2.2) fun i => let ⟨t, h⟩ := covered i; ⟨t, flush0_7 _, h⟩⟩

end Cert.Kernel27Ideal.Adam

namespace Cert.Reference27Ideal.Adam

open Cert.Reference27Ideal Cert.Reference27Ideal.Gen Cert.Reference27Ideal.Read Idealize.ShloMosaic Idealize.ShloMosaic.ValueIdx Cert.Adam

theorem total_ref (p : S8x128x1024.Idx → EReal) : val_main_v1 (F := Ideal) p = total p :=
  funext fun i => total_of p _ _ i (val_main_v1_apply p i) fun d => (eq_ix3 _).trans rfl

theorem results (p : S8x128x1024.Idx → EReal) (w m v : S128x1024.Idx → EReal) : Outcome p w m v (val_main_v1 (F := Ideal) p) (val_main_v25 (F := Ideal) p w m v)
    (val_main_v6 (F := Ideal) p m) (val_main_v12 (F := Ideal) p v) :=
  Outcome.of_sum p w m v _ (total_ref p)

end Cert.Reference27Ideal.Adam

namespace Cert.AdamClaims

open Idealize.ShloMosaic Idealize.ShloMosaic.TcCoe Idealize.SL.Sem

theorem frame_reference_27 : Cert.quiescent_Reference27Ideal := fun m ρ _ =>
  (θ_run Cert.Reference27Ideal.defs _ _).mono (fun r h => ⟨fun c => (h c).2.2.2.2, sem_eq_zero_of_no_sems (by decide) r.2⟩)
    (Cert.Reference27Ideal.Value.run (F := Ideal) m ρ)

open Cert.Reference27Ideal.Read Cert.Reference27Ideal.Adam Cert.Kernel27Ideal.Adam in
theorem algebraic_27 : Cert.algebraic_Kernel27Ideal_Reference27Ideal := by
  intro m ρ m' ρ' _ hagree
  refine ⟨_, _, _, _, Cert.Kernel27Ideal.Value.run_blocks (F := Ideal) m ρ, ?_⟩
  refine (θ_run Cert.Reference27Ideal.defs _ _).mono (fun _ h c => ?_) (Cert.Reference27Ideal.Value.run (F := Ideal) m' ρ')
  obtain ⟨h0, h1, h2, h3⟩ := hagree c
  obtain ⟨f0, f1, f2, f3⟩ := (results _ _ _ _).same _ _ _ _ (final m c)
  refine ⟨(h c).1.trans ?_, (h c).2.1.trans ?_, (h c).2.2.1.trans ?_, (h c).2.2.2.1.trans ?_, (h c).2.2.2.2⟩
  · rw [val_main_v1_eq, h0, f0]
  · rw [val_main_v25_eq, h0, h1, h2, h3, f1]
  · rw [val_main_v6_eq, h0, h2, f2]
  · rw [val_main_v12_eq, h0, h3, f3]

end Cert.AdamClaims

end

end
-- ==== Proof.AdamPair.lean ====
/-
  The optimiser's step for the weight whose gradient arrives as two blocks of columns: the kernel's results and the reference's are the same.
-/
module

public import proofs.«01_k».proof.Defs
public import proofs.«01_k».proof.Proof.Adam
public import proofs.«01_k».proof.Proof.Gen.Kernel19Ideal.Value
public import proofs.«01_k».proof.Proof.Gen.Reference19Ideal.Read
public import proofs.«01_k».proof.Proof.Gen.Reference19Ideal.Run
public import Idealize.ShloMosaic.Adequacy
public import Idealize.ShloMosaic.Init

@[expose] public section

noncomputable section

namespace Cert.Kernel19Ideal.Adam

open Cert.Kernel19Ideal Cert.Kernel19Ideal.Gen Cert.Kernel19Ideal.Value Idealize.ShloMosaic Idealize.ShloMosaic.ValueIdx Idealize.ShloMosaic.TcCoe Cert.Products
  Cert.Gather Cert.Adam

variable (m : (ℓ : Loc nD τ sig) → Buf (Elt Ideal) ℓ) (c : Dev nD) (t : Fin cfg0.N)

abbrev argA : S8x704x512.Idx → EReal := m ((c : Thread nD τ).loc main_arg0)
abbrev argB : S8x704x512.Idx → EReal := m ((c : Thread nD τ).loc main_arg1)
abbrev argP : (Parts 704 1024).Idx → EReal := joined (argA m c) (argB m c)
abbrev argW : S704x1024.Idx → EReal := m ((c : Thread nD τ).loc main_arg2)
abbrev argM : S704x1024.Idx → EReal := m ((c : Thread nD τ).loc main_arg3)
abbrev argV : S704x1024.Idx → EReal := m ((c : Thread nD τ).loc main_arg4)

theorem index : ∀ t : Fin grid0.N, (win0_0.index t 0 = 0 ∧ win0_0.index t 1 = t.val % 4 ∧ win0_0.index t 2 = 0)
    ∧ (win0_1.index t 0 = 0 ∧ win0_1.index t 1 = t.val % 4 ∧ win0_1.index t 2 = 0) ∧ win0_5.index t 0 = t.val % 4 ∧ win0_5.index t 1 = t.val / 4 := by
  decide +kernel

theorem total_left (h : t.val < 4) (y : S176x512.Idx) : total (iblk m c 0 t) y = total (argP m c) (((cfg0.win 5).blk t).view.emb y) := by
  obtain ⟨⟨h0, h1, h2⟩, _, h3, h4⟩ := index t
  refine Finset.sum_congr rfl fun d _ => (View.read_apply _ _).trans ((congrArg (argA m c) (funext fun a => Fin.ext ?_)).trans
    (joined_left (argA m c) (argB m c) d _ _ (y 1) ?_).symm)
  · match a with
    | ⟨0, _⟩ => show win0_0.index t 0 * 8 + 1 * d.val = d.val; rw [h0]; omega
    | ⟨1, _⟩ => show win0_0.index t 1 * 176 + 1 * (y 0).val = win0_5.index t 0 * 176 + 1 * (y 0).val; rw [h1, h3]
    | ⟨2, _⟩ => show win0_0.index t 2 * 512 + 1 * (y 1).val = (y 1).val; rw [h2]; omega
  · show win0_5.index t 1 * 512 + 1 * (y 1).val = (y 1).val
    rw [h4]
    omega

theorem total_right (h : 4 ≤ t.val) (y : S176x512.Idx) : total (iblk m c 1 t) y = total (argP m c) (((cfg0.win 5).blk t).view.emb y) := by
  have ht : t.val < 8 := Nat.lt_of_lt_of_eq t.isLt N_0
  obtain ⟨_, ⟨h0, h1, h2⟩, h3, h4⟩ := index t
  refine Finset.sum_congr rfl fun d _ => (View.read_apply _ _).trans ((congrArg (argB m c) (funext fun a => Fin.ext ?_)).trans
    (joined_right (argA m c) (argB m c) d _ _ (y 1) ?_).symm)
  · match a with
    | ⟨0, _⟩ => show win0_1.index t 0 * 8 + 1 * d.val = d.val; rw [h0]; omega
    | ⟨1, _⟩ => show win0_1.index t 1 * 176 + 1 * (y 0).val = win0_5.index t 0 * 176 + 1 * (y 0).val; rw [h1, h3]
    | ⟨2, _⟩ => show win0_1.index t 2 * 512 + 1 * (y 1).val = (y 1).val; rw [h2]; omega
  · show win0_5.index t 1 * 512 + 1 * (y 1).val = 512 + (y 1).val
    rw [h4]
    omega

theorem flushed : ∃ b : (Parts 176 512).Idx → EReal, (∀ y, total b y = total (argP m c) (((cfg0.win 5).blk t).view.emb y))
    ∧ Outcome b (iblk m c 2 t) (iblk m c 3 t) (iblk m c 4 t) ((dats m 0 c).flushed 5 t) ((dats m 0 c).flushed 6 t) ((dats m 0 c).flushed 7 t)
      ((dats m 0 c).flushed 8 t) := by
  rcases Nat.lt_or_ge t.val 4 with h | h
  · have sum := fun hc i0 i1 i2 i3 i4 i5 i6 i7 => total_eq (R := 176) (C := 512) (iblk m c 0 t) hc i0 i1 i2 i3 i4 i5 i6 i7
    refine ⟨iblk m c 0 t, total_left m c t h, (flushed5_A m c t h (by omega)).trans (read_tiles (s := S176x512) (e := .f32) _ _ _ _ (by intro y; apply cover0_A_5) ?_ :),
      (flushed6_A m c t h (by omega)).trans (read_tiles (s := S176x512) (e := .f32) _ _ _ _ (by intro y; apply cover0_A_6) ?_ :),
      (flushed7_A m c t h (by omega)).trans (read_tiles (s := S176x512) (e := .f32) _ _ _ _ (by intro y; apply cover0_A_7) ?_ :),
      (flushed8_A m c t h (by omega)).trans (read_tiles (s := S176x512) (e := .f32) _ _ _ _ (by intro y; apply cover0_A_8) ?_ :)⟩ <;>
      (unfold kernelRun0_A; dsimp only; sl_unfold_words
       simp only [View.readAt_eq_ld, (hs0_0 t).read_unread, (hs0_2 t).read_unread, (hs0_3 t).read_unread, (hs0_4 t).read_unread, ld_full]
       refine ⟨stored _ _ inb_S176x512_S176x512_0_0 ?_, trivial⟩)
    · exact sum _ _ _ _ _ _ _ _ _
    · exact congrArg (fun g => k0_pay3 (F := Ideal) g (iblk m c 2 t) (iblk m c 3 t) (iblk m c 4 t)) (sum _ _ _ _ _ _ _ _ _)
    · exact congrArg (fun g => k0_pay1 (F := Ideal) g (iblk m c 3 t)) (sum _ _ _ _ _ _ _ _ _)
    · exact congrArg (fun g => k0_pay2 (F := Ideal) g (iblk m c 4 t)) (sum _ _ _ _ _ _ _ _ _)
  · have sum := fun hc i0 i1 i2 i3 i4 i5 i6 i7 => total_eq (R := 176) (C := 512) (iblk m c 1 t) hc i0 i1 i2 i3 i4 i5 i6 i7
    refine ⟨iblk m c 1 t, total_right m c t h, (flushed5_B m c t (by omega) h).trans (read_tiles (s := S176x512) (e := .f32) _ _ _ _ (by intro y; apply cover0_B_5) ?_ :),
      (flushed6_B m c t (by omega) h).trans (read_tiles (s := S176x512) (e := .f32) _ _ _ _ (by intro y; apply cover0_B_6) ?_ :),
      (flushed7_B m c t (by omega) h).trans (read_tiles (s := S176x512) (e := .f32) _ _ _ _ (by intro y; apply cover0_B_7) ?_ :),
      (flushed8_B m c t (by omega) h).trans (read_tiles (s := S176x512) (e := .f32) _ _ _ _ (by intro y; apply cover0_B_8) ?_ :)⟩ <;>
      (unfold kernelRun0_B; dsimp only; sl_unfold_words
       simp only [View.readAt_eq_ld, (hs0_1 t).read_unread, (hs0_2 t).read_unread, (hs0_3 t).read_unread, (hs0_4 t).read_unread, ld_full]
       refine ⟨stored _ _ inb_S176x512_S176x512_0_0 ?_, trivial⟩)
    · exact sum _ _ _ _ _ _ _ _ _
    · exact congrArg (fun g => k0_pay6 (F := Ideal) g (iblk m c 2 t) (iblk m c 3 t) (iblk m c 4 t)) (sum _ _ _ _ _ _ _ _ _)
    · exact congrArg (fun g => k0_pay4 (F := Ideal) g (iblk m c 3 t)) (sum _ _ _ _ _ _ _ _ _)
    · exact congrArg (fun g => k0_pay5 (F := Ideal) g (iblk m c 4 t)) (sum _ _ _ _ _ _ _ _ _)

theorem covered (i : S704x1024.Idx) : ∃ t : Fin cfg0.N, i ∈ ((cfg0.win 5).blk t).view.set := by
  have hi : (i 0).val < 704 := (i 0).isLt
  have hj : (i 1).val < 1024 := (i 1).isLt
  let t : Fin cfg0.N := ⟨(i 1).val / 512 * 4 + (i 0).val / 176, by have : cfg0.N = 8 := N_0; omega⟩
  have ht : t.val = (i 1).val / 512 * 4 + (i 0).val / 176 := rfl
  obtain ⟨_, _, h0, h1⟩ := index t
  refine ⟨t, ?_⟩
  show i ∈ ((View.whole main_v0_0).slice (win0_5.rect t)).set
  rw [View.set_slice_whole]
  refine (mem_block (m := 176) (n := 512) _ _ i).2 ?_
  show (win0_5.index t 0 * 176 ≤ (i 0).val ∧ (i 0).val < win0_5.index t 0 * 176 + 176) ∧ win0_5.index t 1 * 512 ≤ (i 1).val ∧ (i 1).val < win0_5.index t 1 * 512 + 512
  rw [h0, h1]
  omega

theorem final : Outcome (argP m c) (argW m c) (argM m c) (argV m c) ((dats m 0 c).arrAt 5 cfg0.N) ((dats m 0 c).arrAt 6 cfg0.N)
    ((dats m 0 c).arrAt 7 cfg0.N) ((dats m 0 c).arrAt 8 cfg0.N) := by
  have b := fun t => let ⟨_, h, o⟩ := flushed m c t
    o.of_block (argP m c) (argW m c) (argM m c) (argV m c) ((cfg0.win 5).blk t).view.emb h (fun _ => View.read_apply _ _) (fun _ => View.read_apply _ _)
      (fun _ => View.read_apply _ _)
  exact ⟨(dats m 0 c).arrAt_eq_of_cover 5 _ (fun t _ => (b t).1) fun i => let ⟨t, h⟩ := covered i; ⟨t, flush0_5 _, h⟩,
    (dats m 0 c).arrAt_eq_of_cover 6 _ (fun t _ => (b t).2.1) fun i => let ⟨t, h⟩ := covered i; ⟨t, flush0_6 _, h⟩,
    (dats m 0 c).arrAt_eq_of_cover 7 _ (fun t _ => (b t).2.2.1) fun i => let ⟨t, h⟩ := covered i; ⟨t, flush0_7 _, h⟩,
    (dats m 0 c).arrAt_eq_of_cover 8 _ (fun t _ => (b t).2.2.2) fun i => let ⟨t, h⟩ := covered i; ⟨t, flush0_8 _, h⟩⟩

end Cert.Kernel19Ideal.Adam

namespace Cert.Reference19Ideal.Adam

open Cert.Reference19Ideal Cert.Reference19Ideal.Gen Cert.Reference19Ideal.Read Idealize.ShloMosaic Idealize.ShloMosaic.ValueIdx Cert.Adam

theorem joined_ref (a b : S8x704x512.Idx → EReal) (d : Fin 8) (r : Fin 704) (j : Fin 1024) : val_main_v0 (F := Ideal) a b (ix3 d r j) = joined a b (ix3 d r j) := by
  have hj := j.isLt
  rcases Nat.lt_or_ge j.val 512 with h | h
  · rw [joined_left a b d r j ⟨j.val, h⟩ rfl]
    exact concatenate_pair_apply_left (s₁ := S8x704x512) (s₂ := S8x704x512) 2 _ _ _ (ix3 d r j) rfl (ix3 d r ⟨j.val, h⟩) (fun a => match a with
      | ⟨0, _⟩ => rfl
      | ⟨1, _⟩ => rfl
      | ⟨2, _⟩ => rfl)
  · have e : j.val = 512 + (j.val - 512) := by omega
    rw [joined_right a b d r j ⟨j.val - 512, by omega⟩ e]
    exact concatenate_pair_apply_right (s₁ := S8x704x512) (s₂ := S8x704x512) 2 _ _ _ (ix3 d r j) rfl rfl (ix3 d r ⟨j.val - 512, by omega⟩)
      (fun a ha => match a with
        | ⟨0, _⟩ => rfl
        | ⟨1, _⟩ => rfl
        | ⟨2, _⟩ => absurd rfl ha) (by show j.val - 512 + 512 = j.val; omega)

theorem total_ref (a b : S8x704x512.Idx → EReal) : val_main_v2 (F := Ideal) a b = total (joined a b : (Parts 704 1024).Idx → EReal) :=
  funext fun i => total_of _ _ (fun d => ix3 d (i 0) (i 1)) i ((val_main_v2_apply a b i).trans (congrArg (_ + ·) (Finset.sum_congr rfl fun d _ =>
    (congrArg (val_main_v0 (F := Ideal) a b) ((eq_ix3 _).trans rfl)).trans (joined_ref a b d (i 0) (i 1))))) fun _ => rfl

theorem results (a b : S8x704x512.Idx → EReal) (w m v : S704x1024.Idx → EReal) : Outcome (joined a b : (Parts 704 1024).Idx → EReal) w m v
    (val_main_v2 (F := Ideal) a b) (val_main_v26 (F := Ideal) a b w m v) (val_main_v7 (F := Ideal) a b m) (val_main_v13 (F := Ideal) a b v) :=
  Outcome.of_sum _ w m v _ (total_ref a b)

end Cert.Reference19Ideal.Adam

namespace Cert.AdamClaims

open Idealize.ShloMosaic Idealize.ShloMosaic.TcCoe Idealize.SL.Sem

theorem frame_reference_19 : Cert.quiescent_Reference19Ideal := fun m ρ _ =>
  (θ_run Cert.Reference19Ideal.defs _ _).mono (fun r h => ⟨fun c => (h c).2.2.2.2, sem_eq_zero_of_no_sems (by decide) r.2⟩)
    (Cert.Reference19Ideal.Value.run (F := Ideal) m ρ)

open Cert.Reference19Ideal.Read Cert.Reference19Ideal.Adam Cert.Kernel19Ideal.Adam in
theorem algebraic_19 : Cert.algebraic_Kernel19Ideal_Reference19Ideal := by
  intro m ρ m' ρ' _ hagree
  refine ⟨_, _, _, _, Cert.Kernel19Ideal.Value.run_blocks (F := Ideal) m ρ, ?_⟩
  refine (θ_run Cert.Reference19Ideal.defs _ _).mono (fun _ h c => ?_) (Cert.Reference19Ideal.Value.run (F := Ideal) m' ρ')
  obtain ⟨h0, h1, h2, h3, h4⟩ := hagree c
  obtain ⟨f0, f1, f2, f3⟩ := (results _ _ _ _ _).same _ _ _ _ (final m c)
  refine ⟨(h c).1.trans ?_, (h c).2.1.trans ?_, (h c).2.2.1.trans ?_, (h c).2.2.2.1.trans ?_, (h c).2.2.2.2⟩
  · rw [val_main_v2_eq, h0, h1, f0]
  · rw [val_main_v26_eq, h0, h1, h2, h3, h4, f1]
  · rw [val_main_v7_eq, h0, h1, h3, f2]
  · rw [val_main_v13_eq, h0, h1, h4, f3]

end Cert.AdamClaims

end

end
-- ==== Proof.GateRows.lean ====
/-
  The gated mix of one token's three branches, and its gradients, as formulas of the token's rows: each branch's row of 512
  entries is projected to 1024, the three projections are weighed by the logistics of their logits and added, and the sum is
  projected once more and added to the token.
-/
module

public import proofs.«01_k».proof.Proof.Words

@[expose] public section

noncomputable section

open Idealize.ShloMosaic Cert.Words

namespace Cert.Gate

/-- The logit of entry `d` of branch `j`. -/
def col (j : Fin 3) (d : Fin 1024) : Fin 3072 := ⟨j.val * 1024 + d.val, by omega⟩

/-- The branch and the entry a logit belongs to. -/
def branch (i : Fin 3072) : Fin 3 := ⟨i.val / 1024, by omega⟩
def entry (i : Fin 3072) : Fin 1024 := ⟨i.val % 1024, by omega⟩

theorem branch_col (j : Fin 3) (d : Fin 1024) : branch (col j d) = j := Fin.ext (by show (j.val * 1024 + d.val) / 1024 = j.val; omega)
theorem entry_col (j : Fin 3) (d : Fin 1024) : entry (col j d) = d := Fin.ext (by show (j.val * 1024 + d.val) % 1024 = d.val; omega)
theorem col_branch (i : Fin 3072) : col (branch i) (entry i) = i := Fin.ext (by show i.val / 1024 * 1024 + i.val % 1024 = i.val; omega)

section

variable (a : Fin 512 → EReal) (w : Fin 512 → Fin 1024 → EReal) (z b : Fin 3072 → EReal) (g : Fin 1024 → EReal)
  (wo : Fin 1024 → Fin 1024 → EReal) (j : Fin 3)

/-- A branch's projection. -/
def proj (d : Fin 1024) : EReal := ∑ k, a k * w k d

/-- A branch's gate. -/
def gate (d : Fin 1024) : EReal := Ideal.logistic (z (col j d) + b (col j d))

/-- The gradient arriving at the sum of the branches. -/
def arrive (d : Fin 1024) : EReal := ∑ e, g e * wo d e

/-- The gradient of a branch's projection, and of the branch's row. -/
def through (d : Fin 1024) : EReal := arrive g wo d * gate z b j d
def dbranch (k : Fin 512) : EReal := ∑ d, through z b g wo j d * w k d

/-- The gradient of a branch's logits. -/
def dlogit (d : Fin 1024) : EReal := through z b g wo j d * proj a w d * (1 - gate z b j d)

end

section

variable (A : Fin 3 → Fin 512 → EReal) (W : Fin 3 → Fin 512 → Fin 1024 → EReal) (z b : Fin 3072 → EReal)
  (wo : Fin 1024 → Fin 1024 → EReal) (x : Fin 1024 → EReal)

/-- The sum of the gated branches, and the token after it. -/
def mixed (d : Fin 1024) : EReal :=
  gate z b 0 d * proj (A 0) (W 0) d + gate z b 1 d * proj (A 1) (W 1) d + gate z b 2 d * proj (A 2) (W 2) d
def stepped (d : Fin 1024) : EReal := x d + ∑ e, mixed A W z b e * wo e d

end

end Cert.Gate

end

end
-- ==== Proof.CombineTile.lean ====
/-
  What one grid point of the gated mix's forward kernel leaves in its two result blocks, as functions of its input blocks, and
  the two result arrays after the kernel's 16 points.
-/
module

public import proofs.«01_k».proof.Proof.GateRows
public import proofs.«01_k».proof.Proof.FfnTile
public import proofs.«01_k».proof.Proof.Gen.Kernel8Ideal.Value
public import Idealize.ShloMosaic.Lib.Tactic

@[expose] public section

noncomputable section

namespace Cert.Kernel8Ideal.Combine

open Cert.Kernel8Ideal Cert.Kernel8Ideal.Gen Cert.Kernel8Ideal.Value Idealize.ShloMosaic Idealize.ShloMosaic.ValueIdx Idealize.ShloMosaic.TcCoe Idealize.SL.Sem
  Cert.Words Cert.Gate Cert.Products
open Cert.Kernel2Ideal.Ffn (rowOf)
open Idealize.ShloMosaic.Pipeline (Dat)

/-- A token's three branches, and the three branches' projections. -/
abbrev rowsOf {m : ℕ} (a₀ a₁ a₂ : (Mat m 512).Idx → EReal) (t : Fin m) (j : Fin 3) : Fin 512 → EReal := rowOf (![a₀, a₁, a₂] j) t
abbrev matsOf (w₀ w₁ w₂ : (Mat 512 1024).Idx → EReal) (j : Fin 3) : Fin 512 → Fin 1024 → EReal := rowOf (![w₀, w₁, w₂] j)

/-- The mix of every token of `m`, and the tokens after it. -/
def mixOf {m : ℕ} (a₀ a₁ a₂ : (Mat m 512).Idx → EReal) (z : (Mat m 3072).Idx → EReal) (b : (Mat 1 3072).Idx → EReal)
    (w₀ w₁ w₂ : (Mat 512 1024).Idx → EReal) (i : (Mat m 1024).Idx) : EReal :=
  mixed (rowsOf a₀ a₁ a₂ (i 0)) (matsOf w₀ w₁ w₂) (rowOf z (i 0)) (rowOf b 0) (i 1)
def stepOf {m : ℕ} (x : (Mat m 1024).Idx → EReal) (a₀ a₁ a₂ : (Mat m 512).Idx → EReal) (z : (Mat m 3072).Idx → EReal) (b : (Mat 1 3072).Idx → EReal)
    (w₀ w₁ w₂ : (Mat 512 1024).Idx → EReal) (wo : (Mat 1024 1024).Idx → EReal) (i : (Mat m 1024).Idx) : EReal :=
  stepped (rowsOf a₀ a₁ a₂ (i 0)) (matsOf w₀ w₁ w₂) (rowOf z (i 0)) (rowOf b 0) (rowOf wo) (rowOf x (i 0)) (i 1)

/-- One gated branch. -/
theorem branch_at (a : FVec Ideal S512x512 .bf16) (w : FVec Ideal S512x1024 .bf16) (z : FVec Ideal S512x1024 .bf16) (b : FVec Ideal S1x1024 .f32)
    (t : Fin 512) (d : Fin 1024) :
    mulf (F := Ideal) (logistic (addf (extf .f32 z bitsLt_bf16_f32) (broadcastTo S512x1024 b broadcasts_S1x1024_S512x1024)))
      (matmul dot_S512x512_S512x1024_S512x1024_1_0_0_1_n_n none a w (constant S512x1024 .f32 0x00000000#32)) (ix2 t d)
      = Ideal.logistic (z (ix2 t d) + b (ix2 0 d)) * ∑ k, a (ix2 t k) * w (ix2 k d) := by
  rw [show dot_S512x512_S512x1024_S512x1024_1_0_0_1_n_n = DotDims.plain 512 512 1024 from rfl]
  exact congrArg₂ (· * ·) (congrArg (fun s => Ideal.logistic (z (ix2 t d) + s)) (spreadRow _ _ (by decide) t d)) (rows_cols a w t d)

section Point

variable (x : Vec Ideal S512x1024 .f32) (a₀ a₁ a₂ : Vec Ideal S512x512 .bf16) (z : Vec Ideal S512x3072 .bf16) (b : Vec Ideal S1x3072 .f32)
  (w₀ w₁ w₂ : Vec Ideal S512x1024 .bf16) (wo : Vec Ideal S1024x1024 .bf16)

theorem mix_at (t : Fin 512) (d : Fin 1024) : k0_pay4 (F := Ideal) x a₀ a₁ a₂ z b w₀ w₁ w₂ wo (ix2 t d) = mixOf (m := 512) a₀ a₁ a₂ z b w₀ w₁ w₂ (ix2 t d) := by
  unfold k0_pay4 k0_pay3
  rw [ld_whole, ld_whole, ld_whole, ld_whole, ld_whole, ld_whole]
  have hz : ∀ (j : Fin 3) (o : ℕ) (inb), o = j.val * 1024 → View.ld (Val := Elt Ideal) (e' := .bf16) z (Rect.unit (s := S512x3072) ![0, o] S512x1024.size inb) (ix2 t d)
      = z (ix2 t (col j d)) := fun j o inb ho => ld_block z 0 o inb t d t (col j d) (Nat.zero_add _).symm (by subst ho; rfl)
  have hb : ∀ (j : Fin 3) (o : ℕ) (inb), o = j.val * 1024 → View.ld (Val := Elt Ideal) (e' := .f32) b (Rect.unit (s := S1x3072) ![0, o] S1x1024.size inb) (ix2 0 d)
      = b (ix2 0 (col j d)) := fun j o inb ho => ld_block b 0 o inb 0 d 0 (col j d) rfl (by subst ho; rfl)
  have each : ∀ (j : Fin 3) (o : ℕ) (inb inb') (a : FVec Ideal S512x512 .bf16) (w : FVec Ideal S512x1024 .bf16), o = j.val * 1024 →
      mulf (F := Ideal) (logistic (addf (extf .f32 (View.ld (Val := Elt Ideal) (e' := .bf16) z (Rect.unit (s := S512x3072) ![0, o] S512x1024.size inb)) bitsLt_bf16_f32)
        (broadcastTo S512x1024 (View.ld (Val := Elt Ideal) (e' := .f32) b (Rect.unit (s := S1x3072) ![0, o] S1x1024.size inb')) broadcasts_S1x1024_S512x1024)))
        (matmul dot_S512x512_S512x1024_S512x1024_1_0_0_1_n_n none a w (constant S512x1024 .f32 0x00000000#32)) (ix2 t d)
      = gate (rowOf z t) (rowOf b 0) j d * proj (rowOf a t) (rowOf w) d := fun j o inb inb' a w ho =>
    (branch_at a w _ _ t d).trans (congrArg₂ (fun p q => Ideal.logistic (p + q) * _) (hz j o inb ho) (hb j o inb' ho))
  exact congrArg₂ (· + ·) (congrArg₂ (· + ·) (each 0 0 _ _ a₀ w₀ rfl) (each 1 1024 _ _ a₁ w₁ rfl)) (each 2 2048 _ _ a₂ w₂ rfl)

theorem out_11 : out0_11 (F := Ideal) x a₀ a₁ a₂ z b w₀ w₁ w₂ wo = mixOf (m := 512) a₀ a₁ a₂ z b w₀ w₁ w₂ := by
  unfold out0_11
  refine canon_tiles (s := S512x1024) (e := .bf16) (mixOf (m := 512) a₀ a₁ a₂ z b w₀ w₁ w₂) _ ?_ (cover0_11 _)
  refine ⟨fun y => ?_, trivial⟩
  obtain ⟨t, d, rfl⟩ : ∃ (t : Fin 512) (d : Fin 1024), y = ix2 t d := ⟨y 0, y 1, eq_ix2 y⟩
  rw [emb_block 0 0 _ t d t d (Nat.zero_add _).symm (Nat.zero_add _).symm]
  exact mix_at x a₀ a₁ a₂ z b w₀ w₁ w₂ wo t d

theorem out_10 : out0_10 (F := Ideal) x a₀ a₁ a₂ z b w₀ w₁ w₂ wo = stepOf (m := 512) x a₀ a₁ a₂ z b w₀ w₁ w₂ wo := by
  unfold out0_10
  rw [ld_whole, ld_whole]
  refine canon_tiles (s := S512x1024) (e := .f32) (stepOf (m := 512) x a₀ a₁ a₂ z b w₀ w₁ w₂ wo) _ ?_ (cover0_10 _)
  refine ⟨fun y => ?_, trivial⟩
  obtain ⟨t, d, rfl⟩ : ∃ (t : Fin 512) (d : Fin 1024), y = ix2 t d := ⟨y 0, y 1, eq_ix2 y⟩
  rw [emb_block 0 0 _ t d t d (Nat.zero_add _).symm (Nat.zero_add _).symm]
  have h := mix_at x a₀ a₁ a₂ z b w₀ w₁ w₂ wo t
  generalize k0_pay4 (F := Ideal) x a₀ a₁ a₂ z b w₀ w₁ w₂ wo = y at h ⊢
  unfold k0_pay2
  rw [show dot_S512x1024_S1024x1024_S512x1024_1_0_0_1_n_n = DotDims.plain 512 1024 1024 from rfl]
  exact congrArg (x (ix2 t d) + ·) ((rows_cols (k0_pay1 y) wo t d).trans (Finset.sum_congr rfl fun e _ => congrArg (· * _) (h e)))

end Point

/-! ## The result arrays -/

variable (m : (ℓ : Loc nD τ sig) → Buf (Elt Ideal) ℓ) (c : Dev nD)

/-- The arrays the run starts from. -/
abbrev argX : S8192x1024.Idx → EReal := m ((c : Thread nD τ).loc main_arg0)
abbrev argA0 : S8192x512.Idx → EReal := m ((c : Thread nD τ).loc main_arg1)
abbrev argA1 : S8192x512.Idx → EReal := m ((c : Thread nD τ).loc main_arg2)
abbrev argA2 : S8192x512.Idx → EReal := m ((c : Thread nD τ).loc main_arg3)
abbrev argZ : S8192x3072.Idx → EReal := m ((c : Thread nD τ).loc main_arg4)
abbrev argB : S1x3072.Idx → EReal := m ((c : Thread nD τ).loc main_arg5)
abbrev argW0 : S512x1024.Idx → EReal := m ((c : Thread nD τ).loc main_arg6)
abbrev argW1 : S512x1024.Idx → EReal := m ((c : Thread nD τ).loc main_arg7)
abbrev argW2 : S512x1024.Idx → EReal := m ((c : Thread nD τ).loc main_arg8)
abbrev argO : S1024x1024.Idx → EReal := m ((c : Thread nD τ).loc main_arg9)

theorem index : ∀ t : Fin grid0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0) ∧ (win0_4.index t 0 = t.val ∧ win0_4.index t 1 = 0)
    ∧ (win0_5.index t 0 = 0 ∧ win0_5.index t 1 = 0) ∧ (win0_6.index t 0 = 0 ∧ win0_6.index t 1 = 0) ∧ (win0_7.index t 0 = 0 ∧ win0_7.index t 1 = 0)
    ∧ (win0_8.index t 0 = 0 ∧ win0_8.index t 1 = 0) ∧ (win0_9.index t 0 = 0 ∧ win0_9.index t 1 = 0) ∧ (win0_10.index t 0 = t.val ∧ win0_10.index t 1 = 0)
    ∧ (win0_11.index t 0 = t.val ∧ win0_11.index t 1 = 0) := by decide +kernel

/-- Token `s` of grid point `t`. -/
def at512 (t : Fin cfg0.N) (s : Fin 512) : Fin 8192 := ⟨t.val * 512 + s.val, by have := t.isLt; have : cfg0.N = 16 := N_0; omega⟩

section Blocks

variable (t : Fin cfg0.N) (s : Fin 512)

theorem blk_x : rowOf (iblk m c 0 t) s = rowOf (argX m c) (at512 t s) := by
  obtain ⟨h0, h1⟩ := (index t).1
  funext d
  unfold rowOf iblk
  rw [View.read_apply]
  exact congrArg (argX m c) (ix2_of _ _ _ (by show win0_0.index t 0 * 512 + 1 * s.val = t.val * 512 + s.val; rw [h0]; omega)
    (by show win0_0.index t 1 * 1024 + 1 * d.val = d.val; rw [h1]; omega))

theorem blk_a : rowsOf (m := 512) (iblk m c 1 t) (iblk m c 2 t) (iblk m c 3 t) s = rowsOf (argA0 m c) (argA1 m c) (argA2 m c) (at512 t s) := by
  obtain ⟨-, ⟨h0, h1⟩, ⟨i0, i1⟩, ⟨j0, j1⟩, -⟩ := index t
  funext j k
  match j with
  | 0 =>
    show rowOf (iblk m c 1 t) s k = rowOf (argA0 m c) _ k
    unfold rowOf iblk
    rw [View.read_apply]
    exact congrArg (argA0 m c) (ix2_of _ _ _ (by show win0_1.index t 0 * 512 + 1 * s.val = t.val * 512 + s.val; rw [h0]; omega)
      (by show win0_1.index t 1 * 512 + 1 * k.val = k.val; rw [h1]; omega))
  | 1 =>
    show rowOf (iblk m c 2 t) s k = rowOf (argA1 m c) _ k
    unfold rowOf iblk
    rw [View.read_apply]
    exact congrArg (argA1 m c) (ix2_of _ _ _ (by show win0_2.index t 0 * 512 + 1 * s.val = t.val * 512 + s.val; rw [i0]; omega)
      (by show win0_2.index t 1 * 512 + 1 * k.val = k.val; rw [i1]; omega))
  | 2 =>
    show rowOf (iblk m c 3 t) s k = rowOf (argA2 m c) _ k
    unfold rowOf iblk
    rw [View.read_apply]
    exact congrArg (argA2 m c) (ix2_of _ _ _ (by show win0_3.index t 0 * 512 + 1 * s.val = t.val * 512 + s.val; rw [j0]; omega)
      (by show win0_3.index t 1 * 512 + 1 * k.val = k.val; rw [j1]; omega))

theorem blk_z : rowOf (iblk m c 4 t) s = rowOf (argZ m c) (at512 t s) := by
  obtain ⟨h0, h1⟩ := (index t).2.2.2.2.1
  funext d
  unfold rowOf iblk
  rw [View.read_apply]
  exact congrArg (argZ m c) (ix2_of _ _ _ (by show win0_4.index t 0 * 512 + 1 * s.val = t.val * 512 + s.val; rw [h0]; omega)
    (by show win0_4.index t 1 * 3072 + 1 * d.val = d.val; rw [h1]; omega))

theorem blk_b : rowOf (iblk m c 5 t) 0 = rowOf (argB m c) 0 := by
  obtain ⟨h0, h1⟩ := (index t).2.2.2.2.2.1
  funext d
  unfold rowOf iblk
  rw [View.read_apply]
  exact congrArg (argB m c) (ix2_of _ _ _ (by show win0_5.index t 0 * 1 + 1 * 0 = 0; rw [h0])
    (by show win0_5.index t 1 * 3072 + 1 * d.val = d.val; rw [h1]; omega))

theorem blk_w : matsOf (iblk m c 6 t) (iblk m c 7 t) (iblk m c 8 t) = matsOf (argW0 m c) (argW1 m c) (argW2 m c) := by
  obtain ⟨-, -, -, -, -, -, ⟨h0, h1⟩, ⟨i0, i1⟩, ⟨j0, j1⟩, -⟩ := index t
  funext j k d
  match j with
  | 0 =>
    show rowOf (iblk m c 6 t) k d = rowOf (argW0 m c) k d
    unfold rowOf iblk
    rw [View.read_apply]
    exact congrArg (argW0 m c) (ix2_of _ _ _ (by show win0_6.index t 0 * 512 + 1 * k.val = k.val; rw [h0]; omega)
      (by show win0_6.index t 1 * 1024 + 1 * d.val = d.val; rw [h1]; omega))
  | 1 =>
    show rowOf (iblk m c 7 t) k d = rowOf (argW1 m c) k d
    unfold rowOf iblk
    rw [View.read_apply]
    exact congrArg (argW1 m c) (ix2_of _ _ _ (by show win0_7.index t 0 * 512 + 1 * k.val = k.val; rw [i0]; omega)
      (by show win0_7.index t 1 * 1024 + 1 * d.val = d.val; rw [i1]; omega))
  | 2 =>
    show rowOf (iblk m c 8 t) k d = rowOf (argW2 m c) k d
    unfold rowOf iblk
    rw [View.read_apply]
    exact congrArg (argW2 m c) (ix2_of _ _ _ (by show win0_8.index t 0 * 512 + 1 * k.val = k.val; rw [j0]; omega)
      (by show win0_8.index t 1 * 1024 + 1 * d.val = d.val; rw [j1]; omega))

theorem blk_o : rowOf (iblk m c 9 t) = rowOf (argO m c) := by
  obtain ⟨h0, h1⟩ := (index t).2.2.2.2.2.2.2.2.2.1
  funext k d
  unfold rowOf iblk
  rw [View.read_apply]
  exact congrArg (argO m c) (ix2_of _ _ _ (by show win0_9.index t 0 * 1024 + 1 * k.val = k.val; rw [h0]; omega)
    (by show win0_9.index t 1 * 1024 + 1 * d.val = d.val; rw [h1]; omega))

end Blocks

/-- The grid point a token lies in. -/
def point (i : Fin 8192) : Fin cfg0.N := ⟨i.val / 512, by have : cfg0.N = 16 := N_0; omega⟩

/-- The arrays after the run. -/
abbrev mixAll : S8192x1024.Idx → EReal := mixOf (argA0 m c) (argA1 m c) (argA2 m c) (argZ m c) (argB m c) (argW0 m c) (argW1 m c) (argW2 m c)
abbrev stepAll : S8192x1024.Idx → EReal :=
  stepOf (argX m c) (argA0 m c) (argA1 m c) (argA2 m c) (argZ m c) (argB m c) (argW0 m c) (argW1 m c) (argW2 m c) (argO m c)

set_option maxRecDepth 16384 in
theorem flushed_mix (t : Fin cfg0.N) : (dats m 0 c).flushed 11 t = ((cfg0.win 11).blk t).view.read (Elt Ideal) (mixAll m c) := by
  obtain ⟨-, -, -, -, -, -, -, -, -, -, -, h0, h1⟩ := index t
  rw [flushed11, out_11]
  funext y
  obtain ⟨s, d, rfl⟩ : ∃ (s : Fin 512) (d : Fin 1024), y = ix2 s d := ⟨y 0, y 1, eq_ix2 y⟩
  rw [View.read_apply]
  refine Eq.trans (b := mixAll m c (ix2 (at512 t s) d)) ?_ (congrArg (mixAll m c) (ix2_of _ _ _ ?_ ?_).symm)
  · show mixed (rowsOf (m := 512) (iblk m c 1 t) (iblk m c 2 t) (iblk m c 3 t) s) (matsOf (iblk m c 6 t) (iblk m c 7 t) (iblk m c 8 t)) (rowOf (iblk m c 4 t) s) (rowOf (iblk m c 5 t) 0) d = _
    rw [blk_a, blk_w, blk_z, blk_b]
    rfl
  · show win0_11.index t 0 * 512 + 1 * s.val = t.val * 512 + s.val; rw [h0]; omega
  · show win0_11.index t 1 * 1024 + 1 * d.val = d.val; rw [h1]; omega

set_option maxRecDepth 16384 in
theorem flushed_step (t : Fin cfg0.N) : (dats m 0 c).flushed 10 t = ((cfg0.win 10).blk t).view.read (Elt Ideal) (stepAll m c) := by
  obtain ⟨-, -, -, -, -, -, -, -, -, -, ⟨h0, h1⟩, -⟩ := index t
  rw [flushed10, out_10]
  funext y
  obtain ⟨s, d, rfl⟩ : ∃ (s : Fin 512) (d : Fin 1024), y = ix2 s d := ⟨y 0, y 1, eq_ix2 y⟩
  rw [View.read_apply]
  refine Eq.trans (b := stepAll m c (ix2 (at512 t s) d)) ?_ (congrArg (stepAll m c) (ix2_of _ _ _ ?_ ?_).symm)
  · show stepped (rowsOf (m := 512) (iblk m c 1 t) (iblk m c 2 t) (iblk m c 3 t) s) (matsOf (iblk m c 6 t) (iblk m c 7 t) (iblk m c 8 t)) (rowOf (iblk m c 4 t) s) (rowOf (iblk m c 5 t) 0) (rowOf (iblk m c 9 t)) (rowOf (iblk m c 0 t) s) d = _
    rw [blk_a, blk_w, blk_z, blk_b, blk_o, blk_x]
    rfl
  · show win0_10.index t 0 * 512 + 1 * s.val = t.val * 512 + s.val; rw [h0]; omega
  · show win0_10.index t 1 * 1024 + 1 * d.val = d.val; rw [h1]; omega

theorem final_mix : (dats m 0 c).arrAt 11 cfg0.N = mixAll m c :=
  (dats m 0 c).arrAt_eq_of_cover 11 _ (fun t _ => flushed_mix m c t) fun i => by
    refine ⟨point (i 0), flush0_11 _, ?_⟩
    obtain ⟨-, -, -, -, -, -, -, -, -, -, -, h0, h1⟩ := index (point (i 0))
    show i ∈ ((View.whole main_v0_1).slice (win0_11.rect (point (i 0)))).set
    rw [View.set_slice_whole]
    exact mem_tile (M := 8192) (N := 1024) (B := 512) (by decide) _ _ i (by show win0_11.index (point (i 0)) 0 * 512 = _; rw [h0]; rfl)
      (by show win0_11.index (point (i 0)) 1 * 1024 = 0; rw [h1])

theorem final_step : (dats m 0 c).arrAt 10 cfg0.N = stepAll m c :=
  (dats m 0 c).arrAt_eq_of_cover 10 _ (fun t _ => flushed_step m c t) fun i => by
    refine ⟨point (i 0), flush0_10 _, ?_⟩
    obtain ⟨-, -, -, -, -, -, -, -, -, -, ⟨h0, h1⟩, -⟩ := index (point (i 0))
    show i ∈ ((View.whole main_v0_0).slice (win0_10.rect (point (i 0)))).set
    rw [View.set_slice_whole]
    exact mem_tile (M := 8192) (N := 1024) (B := 512) (by decide) _ _ i (by show win0_10.index (point (i 0)) 0 * 512 = _; rw [h0]; rfl)
      (by show win0_10.index (point (i 0)) 1 * 1024 = 0; rw [h1])

end Cert.Kernel8Ideal.Combine

end

end
-- ==== Proof.CombineRef.lean ====
/-
  The plain forward program of the gated mix, stage by stage: what each of its arrays holds at an index, and that its two
  results are the kernel's.
-/
module

public import proofs.«01_k».proof.Proof.CombineTile
public import proofs.«01_k».proof.Proof.Gen.Reference8Ideal.Read

@[expose] public section

noncomputable section

namespace Cert.Reference8Ideal.Read

open Cert.Reference8Ideal Cert.Reference8Ideal.Gen Idealize.ShloMosaic Idealize.ShloMosaic.ValueIdx Cert.Gate Cert.Products
open Cert.Words (ofBits_one zeroWord)
open Cert.Kernel2Ideal.Ffn (rowOf)
open Cert.Kernel8Ideal.Combine (rowsOf matsOf mixOf stepOf)

variable (x0 : S8192x1024.Idx → EReal) (x1 x2 x3 : S8192x512.Idx → EReal) (x4 : S8192x3072.Idx → EReal) (x5 : S1x3072.Idx → EReal)
  (x6 x7 x8 : S512x1024.Idx → EReal) (x9 : S1024x1024.Idx → EReal)
variable (t : Fin 8192) (d : Fin 1024) (j : Fin 3) (i : Fin 3072)

/-- The three branches' projections. -/
theorem proj0 : val_main_v2 (F := Ideal) x1 x6 (ix2 t d) = proj (rowOf x1 t) (rowOf x6) d := by
  rw [val_main_v2_apply]
  exact Finset.sum_congr rfl fun k _ => congrArg₂ (· * ·) (at2 (val_main_v0 (F := Ideal) x1) _ t k rfl rfl) (at2 (val_main_v1 (F := Ideal) x6) _ k d rfl rfl)

theorem proj1 : val_main_v5 (F := Ideal) x2 x7 (ix2 t d) = proj (rowOf x2 t) (rowOf x7) d := proj0 x2 x7 t d

theorem proj2 : val_main_v8 (F := Ideal) x3 x8 (ix2 t d) = proj (rowOf x3 t) (rowOf x8) d := proj0 x3 x8 t d

/-- The logistic of every logit. -/
theorem squash_at : val_main_v17 (F := Ideal) x4 x5 (ix2 t i) = Ideal.logistic (x4 (ix2 t i) + x5 (ix2 0 i)) := by
  show Ideal.div (val_main_v16 (F := Ideal) (ix2 t i))
    (val_main_v14 (F := Ideal) (ix2 t i) + Ideal.exp (-(x4 (ix2 t i) + val_main_v10 (F := Ideal) x5 (ix2 t i)))) = _
  rw [val_main_v16_apply (F := Ideal), val_main_v14_apply (F := Ideal), val_main_v10_apply (F := Ideal),
    show x5 (idx_main_v10 (ix2 t i)) = x5 (ix2 0 i) from at2 x5 _ 0 i rfl rfl]
  exact congrArg₂ (fun a b => Ideal.div a (b + Ideal.exp (-(x4 (ix2 t i) + x5 (ix2 0 i))))) ofBits_one ofBits_one

theorem gate0 : val_main_v18 (F := Ideal) x4 x5 (ix2 t d) = gate (rowOf x4 t) (rowOf x5 0) 0 d := by
  rw [val_main_v18_apply (F := Ideal)]
  exact (at2 (val_main_v17 (F := Ideal) x4 x5) _ t (col 0 d) rfl (by show d.val = 0 * 1024 + d.val; omega)).trans (squash_at x4 x5 t (col 0 d))

theorem gate1 : val_main_v19 (F := Ideal) x4 x5 (ix2 t d) = gate (rowOf x4 t) (rowOf x5 0) 1 d := by
  rw [val_main_v19_apply (F := Ideal)]
  exact (at2 (val_main_v17 (F := Ideal) x4 x5) _ t (col 1 d) rfl (by show 1024 + d.val = 1 * 1024 + d.val; omega)).trans (squash_at x4 x5 t (col 1 d))

theorem gate2 : val_main_v20 (F := Ideal) x4 x5 (ix2 t d) = gate (rowOf x4 t) (rowOf x5 0) 2 d := by
  rw [val_main_v20_apply (F := Ideal)]
  exact (at2 (val_main_v17 (F := Ideal) x4 x5) _ t (col 2 d) rfl (by show 2048 + d.val = 2 * 1024 + d.val; omega)).trans (squash_at x4 x5 t (col 2 d))

theorem mix_at : val_main_v25 (F := Ideal) x1 x2 x3 x4 x5 x6 x7 x8 (ix2 t d) = mixOf (m := 8192) x1 x2 x3 x4 x5 x6 x7 x8 (ix2 t d) :=
  congrArg₂ (· + ·) (congrArg₂ (· + ·) (congrArg₂ (· * ·) (gate0 x4 x5 t d) (proj0 x1 x6 t d)) (congrArg₂ (· * ·) (gate1 x4 x5 t d) (proj1 x2 x7 t d)))
    (congrArg₂ (· * ·) (gate2 x4 x5 t d) (proj2 x3 x8 t d))

theorem mix_ref : val_main_v29 (F := Ideal) x1 x2 x3 x4 x5 x6 x7 x8 = mixOf (m := 8192) x1 x2 x3 x4 x5 x6 x7 x8 := by
  funext y
  obtain ⟨t, d, rfl⟩ : ∃ (t : Fin 8192) (d : Fin 1024), y = ix2 t d := ⟨y 0, y 1, eq_ix2 y⟩
  exact mix_at x1 x2 x3 x4 x5 x6 x7 x8 t d

theorem step_ref : val_main_v28 (F := Ideal) x0 x1 x2 x3 x4 x5 x6 x7 x8 x9 = stepOf (m := 8192) x0 x1 x2 x3 x4 x5 x6 x7 x8 x9 := by
  funext y
  obtain ⟨t, d, rfl⟩ : ∃ (t : Fin 8192) (d : Fin 1024), y = ix2 t d := ⟨y 0, y 1, eq_ix2 y⟩
  refine congrArg (x0 (ix2 t d) + ·) ?_
  rw [val_main_v27_apply]
  exact Finset.sum_congr rfl fun e _ => congrArg₂ (· * ·)
    ((at2 (val_main_v25 (F := Ideal) x1 x2 x3 x4 x5 x6 x7 x8) _ t e rfl rfl).trans (mix_at x1 x2 x3 x4 x5 x6 x7 x8 t e))
    (at2 (val_main_v26 (F := Ideal) x9) _ e d rfl rfl)

end Cert.Reference8Ideal.Read

end

end
-- ==== Proof.CombineClaims.lean ====
/-
  The claims about the gated mix's forward kernel: from any arguments it ends with the results of the plain program.
-/
module

public import proofs.«01_k».proof.Defs
public import proofs.«01_k».proof.Proof.CombineRef
public import proofs.«01_k».proof.Proof.Gen.Reference8Ideal.Run
public import Idealize.ShloMosaic.Adequacy
public import Idealize.ShloMosaic.Init

@[expose] public section

noncomputable section

namespace Cert.CombineClaims

open Idealize.ShloMosaic Idealize.ShloMosaic.TcCoe Idealize.SL.Sem

theorem frame_reference : Cert.quiescent_Reference8Ideal := fun m ρ _ =>
  (θ_run Cert.Reference8Ideal.defs _ _).mono (fun r h => ⟨fun c => (h c).2.2, sem_eq_zero_of_no_sems (by decide) r.2⟩)
    (Cert.Reference8Ideal.Value.run (F := Ideal) m ρ)

theorem algebraic : Cert.algebraic_Kernel8Ideal_Reference8Ideal := by
  intro m ρ m' ρ' _ hagree
  refine ⟨_, _, Cert.Kernel8Ideal.Value.run_blocks (F := Ideal) m ρ, ?_⟩
  refine (θ_run Cert.Reference8Ideal.defs _ _).mono (fun _ h c => ?_) (Cert.Reference8Ideal.Value.run (F := Ideal) m' ρ')
  obtain ⟨h0, h1, h2, h3, h4, h5, h6, h7, h8, h9⟩ := hagree c
  refine ⟨(h c).1.trans ?_, (h c).2.1.trans ?_, (h c).2.2⟩
  · rw [Cert.Reference8Ideal.Read.val_main_v28_eq, h0, h1, h2, h3, h4, h5, h6, h7, h8, h9, Cert.Kernel8Ideal.Combine.final_step]
    exact Cert.Reference8Ideal.Read.step_ref _ _ _ _ _ _ _ _ _ _
  · rw [Cert.Reference8Ideal.Read.val_main_v29_eq, h1, h2, h3, h4, h5, h6, h7, h8, Cert.Kernel8Ideal.Combine.final_mix]
    exact Cert.Reference8Ideal.Read.mix_ref _ _ _ _ _ _ _ _

end Cert.CombineClaims

end
-- ==== Proof.MixRows.lean ====
/-
  One token's row through the norm and the mixer's input projection, and back.
-/
module

public import proofs.«01_k».proof.Proof.FfnRows
public import proofs.«01_k».proof.Proof.Products

@[expose] public section

noncomputable section

open Idealize.ShloMosaic Idealize.ShloMosaic.ValueIdx Cert.Words Cert.Norm Cert.Products
open Cert.Ffn (normed)

namespace Cert.Mix

/-- Row `i` of a matrix. -/
abbrev rowOf {m n : ℕ} (x : (Mat m n).Idx → EReal) (i : Fin m) (j : Fin n) : EReal := x (ix2 i j)

/-- Column `k` of the band of `n` columns that begins at `o`. -/
def band (o n : ℕ) (h : o + n ≤ 6144) (k : Fin n) : Fin 6144 := ⟨o + k.val, by omega⟩

/-- The bands of the four branches: the convolution's, the attention's, the memory's and the gates'. -/
abbrev conv : Fin 1024 → Fin 6144 := band 0 1024 (by decide)
abbrev att : Fin 1536 → Fin 6144 := band 1024 1536 (by decide)
abbrev mem : Fin 512 → Fin 6144 := band 2560 512 (by decide)
abbrev gate : Fin 3072 → Fin 6144 := band 3072 3072 (by decide)

/-- A sum over the columns is the four branches'. -/
theorem sum_bands (f : Fin 6144 → EReal) : ∑ j, f j = ∑ k, f (conv k) + ∑ k, f (att k) + ∑ k, f (mem k) + ∑ k, f (gate k) := by
  refine (Fin.sum_univ_add (a := 3072) (b := 3072) f).trans (congrArg₂ (· + ·) ?_ rfl)
  refine (Fin.sum_univ_add (a := 2560) (b := 512) _).trans (congrArg₂ (· + ·) ?_ rfl)
  refine (Fin.sum_univ_add (a := 1024) (b := 1536) _).trans (congrArg₂ (· + ·) ?_ rfl)
  exact Finset.sum_congr rfl fun k _ => congrArg f (Fin.ext (Nat.zero_add _).symm)

/-- Four rows, one after the other. -/
def join (a : Fin 1024 → EReal) (b : Fin 1536 → EReal) (c : Fin 512 → EReal) (e : Fin 3072 → EReal) (j : Fin 6144) : EReal :=
  if h : j.val < 1024 then a ⟨j.val, h⟩
  else if h : j.val < 2560 then b ⟨j.val - 1024, by omega⟩
  else if h : j.val < 3072 then c ⟨j.val - 2560, by omega⟩
  else e ⟨j.val - 3072, by omega⟩

section

variable (a : Fin 1024 → EReal) (b : Fin 1536 → EReal) (c : Fin 512 → EReal) (e : Fin 3072 → EReal)

theorem join_conv (k : Fin 1024) : join a b c e (conv k) = a k := by
  have hk : (conv k).val = k.val := Nat.zero_add _
  unfold join
  rw [dif_pos (by omega)]
  exact congrArg a (Fin.ext hk)

theorem join_att (k : Fin 1536) : join a b c e (att k) = b k := by
  have hk : (att k).val = 1024 + k.val := rfl
  unfold join
  rw [dif_neg (by omega), dif_pos (by omega)]
  exact congrArg b (Fin.ext (by show (att k).val - 1024 = k.val; omega))

theorem join_mem (k : Fin 512) : join a b c e (mem k) = c k := by
  have hk : (mem k).val = 2560 + k.val := rfl
  unfold join
  rw [dif_neg (by omega), dif_neg (by omega), dif_pos (by omega)]
  exact congrArg c (Fin.ext (by show (mem k).val - 2560 = k.val; omega))

theorem join_gate (k : Fin 3072) : join a b c e (gate k) = e k := by
  have hk : (gate k).val = 3072 + k.val := rfl
  unfold join
  rw [dif_neg (by omega), dif_neg (by omega), dif_neg (by omega)]
  exact congrArg e (Fin.ext (by show (gate k).val - 3072 = k.val; omega))

end

/-- Every column lies in one of the bands. -/
theorem band_cases (j : Fin 6144) : (∃ k, j = conv k) ∨ (∃ k, j = att k) ∨ (∃ k, j = mem k) ∨ ∃ k, j = gate k := by
  by_cases h1 : j.val < 1024
  · exact .inl ⟨⟨j.val, h1⟩, Fin.ext (Nat.zero_add _).symm⟩
  by_cases h2 : j.val < 2560
  · exact .inr (.inl ⟨⟨j.val - 1024, by omega⟩, Fin.ext (by show j.val = 1024 + (j.val - 1024); omega)⟩)
  by_cases h3 : j.val < 3072
  · exact .inr (.inr (.inl ⟨⟨j.val - 2560, by omega⟩, Fin.ext (by show j.val = 2560 + (j.val - 2560); omega)⟩))
  · exact .inr (.inr (.inr ⟨⟨j.val - 3072, by omega⟩, Fin.ext (by show j.val = 3072 + (j.val - 3072); omega)⟩))

variable (x g r : Fin 1024 → EReal) (w : Fin 1024 → Fin 6144 → EReal) (q : Fin 6144 → EReal)

/-- The projection of the normed row. -/
def proj (j : Fin 6144) : EReal := ∑ d, normed x g d * w d j

/-- The normed row's gradient, from that of the projection. -/
def dnormed (d : Fin 1024) : EReal := ∑ j, q j * w d j

/-- The row's gradient, added to the one that passes the mixer by. -/
def dtoken (d : Fin 1024) : EReal := r d + back x (fun e => dnormed w q e * g e) d

/-- The row's part of the gain's gradient. -/
def dgain (d : Fin 1024) : EReal := dnormed w q d * hat x d

end Cert.Mix

end

end
-- ==== Proof.KvTile.lean ====
/-
  The memory's keys and values: what their kernel leaves (the normed memory and its product with the weights), and what the kernels of the
  weights' gradient and of the gain's gradient leave, each a sum over all 1024 rows of the memory.
-/
module

public import proofs.«01_k».proof.Proof.MixRows
public import proofs.«01_k».proof.Proof.WeightTile
public import proofs.«01_k».proof.Proof.Gen.Kernel20Ideal.Value
public import proofs.«01_k».proof.Proof.Gen.Kernel21Ideal.Value
public import proofs.«01_k».proof.Proof.Gen.Kernel23Ideal.Value
public import Idealize.ShloMosaic.Lib.Tactic

@[expose] public section

noncomputable section

namespace Cert.Kv

open Idealize.ShloMosaic Idealize.ShloMosaic.ValueIdx Cert.Norm Cert.Mix
open Cert.Products (Mat)
open Cert.Ffn (normed)

variable (x y w : (Mat 1024 1024).Idx → EReal) (g : (Mat 1 1024).Idx → EReal)

/-- The normed memory, its keys and values, and the gradient of the gain from the gradient `y` of the keys and values. -/
def normedAll (i : (Mat 1024 1024).Idx) : EReal := normed (rowOf x (i 0)) (rowOf g 0) (i 1)
def kvAll (i : (Mat 1024 1024).Idx) : EReal := ∑ d, normed (rowOf x (i 0)) (rowOf g 0) d * w (ix2 d (i 1))
def gainRow (x y : Fin 1024 → EReal) (w : (Mat 1024 1024).Idx → EReal) (d : Fin 1024) : EReal := (∑ j, y j * w (ix2 d j)) * hat x d
def gainAll (i : (Mat 1 1024).Idx) : EReal := ∑ t, gainRow (rowOf x t) (rowOf y t) w (i 1)

end Cert.Kv

namespace Cert.Kernel21Ideal.Kv

open Cert.Kernel21Ideal Cert.Kernel21Ideal.Gen Cert.Kernel21Ideal.Value Idealize.ShloMosaic Idealize.ShloMosaic.ValueIdx Idealize.ShloMosaic.TcCoe Idealize.SL.Sem
  Cert.Words Cert.Norm Cert.Products Cert.Mix Cert.Kv
open Cert.Ffn (normed)
open Idealize.ShloMosaic.Pipeline (Dat)

section Tile

variable (x : Vec Ideal S512x1024 .f32) (g : Vec Ideal S1x1024 .f32) (w : Vec Ideal S1024x1024 .bf16) (t : Fin 512) (d : Fin 1024)

theorem normed_at : k0_pay1 (F := Ideal) x g (ix2 t d) = normed (rowOf x t) (rowOf g 0) d := by
  unfold k0_pay1
  show x (ix2 t d) * broadcastTo _ _ _ _ * broadcastTo _ _ _ _ = _
  rw [spreadCol _ _ (by decide), spreadRow _ _ (by decide)]
  show _ * Ideal.rsqrt (Ideal.div (shapeCast _ _ _ _) width + eps) * _ = _
  exact congrArg (fun s => _ * Ideal.rsqrt (Ideal.div s width + eps) * _) (rowSum (mulf x x) _ _ _ _ t 0)

theorem kv_at : k0_pay2 (F := Ideal) x g w (ix2 t d) = ∑ e, normed (rowOf x t) (rowOf g 0) e * w (ix2 e d) :=
  (rows_cols _ _ t d).trans (Finset.sum_congr rfl fun e _ => congrArg (· * w (ix2 e d)) (normed_at x g t e))

theorem out_3 : out0_3 (F := Ideal) x g w (ix2 t d) = normed (rowOf x t) (rowOf g 0) d := by
  unfold out0_3
  rw [ld_whole, ld_whole]
  refine (congrFun (canon_tiles (s := S512x1024) (e := .bf16) (k0_pay1 (F := Ideal) x g) _ ?_ (cover0_3 _)) _).trans (normed_at x g t d)
  refine ⟨fun y => ?_, trivial⟩
  obtain ⟨t, k, rfl⟩ : ∃ (t : Fin 512) (k : Fin 1024), y = ix2 t k := ⟨y 0, y 1, eq_ix2 y⟩
  rw [emb_block 0 0 _ t k t k (Nat.zero_add _).symm (Nat.zero_add _).symm]

theorem out_4 : out0_4 (F := Ideal) x g w (ix2 t d) = ∑ e, normed (rowOf x t) (rowOf g 0) e * w (ix2 e d) := by
  unfold out0_4
  rw [ld_whole, ld_whole, ld_whole]
  refine (congrFun (canon_tiles (s := S512x1024) (e := .bf16) (k0_pay2 (F := Ideal) x g w) _ ?_ (cover0_4 _)) _).trans (kv_at x g w t d)
  refine ⟨fun y => ?_, trivial⟩
  obtain ⟨t, k, rfl⟩ : ∃ (t : Fin 512) (k : Fin 1024), y = ix2 t k := ⟨y 0, y 1, eq_ix2 y⟩
  rw [emb_block 0 0 _ t k t k (Nat.zero_add _).symm (Nat.zero_add _).symm]

end Tile

variable (m : (ℓ : Loc nD τ sig) → Buf (Elt Ideal) ℓ) (c : Dev nD)

abbrev argX : S1024x1024.Idx → EReal := m ((c : Thread nD τ).loc main_arg0)
abbrev argG : S1x1024.Idx → EReal := m ((c : Thread nD τ).loc main_arg1)
abbrev argW : S1024x1024.Idx → EReal := m ((c : Thread nD τ).loc main_arg2)

theorem index : ∀ t : Fin grid0.N, (win0_0.index t 0 = t.val ∧ win0_0.index t 1 = 0) ∧ (win0_1.index t 0 = 0 ∧ win0_1.index t 1 = 0)
    ∧ (win0_2.index t 0 = 0 ∧ win0_2.index t 1 = 0) ∧ (win0_3.index t 0 = t.val ∧ win0_3.index t 1 = 0)
    ∧ (win0_4.index t 0 = t.val ∧ win0_4.index t 1 = 0) := by decide +kernel

/-- Row `s` of grid point `t`, and the grid point a row lies in. -/
def row (t : Fin cfg0.N) (s : Fin 512) : Fin 1024 := ⟨t.val * 512 + s.val, by have := t.isLt; have : cfg0.N = 2 := N_0; omega⟩
def point (i : Fin 1024) : Fin cfg0.N := ⟨i.val / 512, by have : cfg0.N = 2 := N_0; omega⟩

theorem blk_x (t : Fin cfg0.N) (s : Fin 512) : rowOf (iblk m c 0 t) s = rowOf (argX m c) (row t s) := by
  obtain ⟨h0, h1⟩ := (index t).1
  funext d
  unfold rowOf iblk
  rw [View.read_apply]
  exact congrArg (V m c main_arg0) (ix2_of _ _ _ (by show win0_0.index t 0 * 512 + 1 * s.val = t.val * 512 + s.val; rw [h0]; omega)
    (by show win0_0.index t 1 * 1024 + 1 * d.val = d.val; rw [h1]; omega))

theorem blk_g (t : Fin cfg0.N) : rowOf (iblk m c 1 t) 0 = rowOf (argG m c) 0 := by
  obtain ⟨h0, h1⟩ := (index t).2.1
  funext d
  unfold rowOf iblk
  rw [View.read_apply]
  exact congrArg (V m c main_arg1) (ix2_of _ _ _ (by show win0_1.index t 0 * 1 + 1 * 0 = 0; rw [h0])
    (by show win0_1.index t 1 * 1024 + 1 * d.val = d.val; rw [h1]; omega))

theorem blk_w (t : Fin cfg0.N) (d j : Fin 1024) : iblk m c 2 t (ix2 d j) = argW m c (ix2 d j) := by
  obtain ⟨h0, h1⟩ := (index t).2.2.1
  unfold iblk
  rw [View.read_apply]
  exact congrArg (V m c main_arg2) (ix2_of _ _ _ (by show win0_2.index t 0 * 1024 + 1 * d.val = d.val; rw [h0]; omega)
    (by show win0_2.index t 1 * 1024 + 1 * j.val = j.val; rw [h1]; omega))

theorem block_3 (t : Fin cfg0.N) : (dats m 0 c).flushed 3 t = ((cfg0.win 3).blk t).view.read (Elt Ideal) (normedAll (argX m c) (argG m c)) := by
  obtain ⟨h0, h1⟩ := (index t).2.2.2.1
  rw [flushed3]
  funext y
  obtain ⟨s, d, rfl⟩ : ∃ (s : Fin 512) (d : Fin 1024), y = ix2 s d := ⟨y 0, y 1, eq_ix2 y⟩
  rw [View.read_apply]
  refine (out_3 (iblk m c 0 t) (iblk m c 1 t) (iblk m c 2 t) s d).trans ?_
  rw [blk_x, blk_g]
  refine (congrArg (normedAll (argX m c) (argG m c)) (ix2_of _ (row t s) d ?_ ?_)).symm
  · show win0_3.index t 0 * 512 + 1 * s.val = t.val * 512 + s.val; rw [h0]; omega
  · show win0_3.index t 1 * 1024 + 1 * d.val = d.val; rw [h1]; omega

theorem block_4 (t : Fin cfg0.N) : (dats m 0 c).flushed 4 t = ((cfg0.win 4).blk t).view.read (Elt Ideal) (kvAll (argX m c) (argW m c) (argG m c)) := by
  obtain ⟨h0, h1⟩ := (index t).2.2.2.2
  rw [flushed4]
  funext y
  obtain ⟨s, d, rfl⟩ : ∃ (s : Fin 512) (d : Fin 1024), y = ix2 s d := ⟨y 0, y 1, eq_ix2 y⟩
  rw [View.read_apply]
  refine (out_4 (iblk m c 0 t) (iblk m c 1 t) (iblk m c 2 t) s d).trans ?_
  rw [blk_x, blk_g]
  refine (Finset.sum_congr rfl fun e _ => congrArg (_ * ·) (blk_w m c t e d)).trans ?_
  refine (congrArg (kvAll (argX m c) (argW m c) (argG m c)) (ix2_of _ (row t s) d ?_ ?_)).symm
  · show win0_4.index t 0 * 512 + 1 * s.val = t.val * 512 + s.val; rw [h0]; omega
  · show win0_4.index t 1 * 1024 + 1 * d.val = d.val; rw [h1]; omega

theorem final_3 : (dats m 0 c).arrAt 3 cfg0.N = normedAll (argX m c) (argG m c) :=
  (dats m 0 c).arrAt_eq_of_cover 3 _ (fun t _ => block_3 m c t) fun i => by
    refine ⟨point (i 0), flush0_3 _, ?_⟩
    obtain ⟨h0, h1⟩ := (index (point (i 0))).2.2.2.1
    show i ∈ ((View.whole main_v0_0).slice (win0_3.rect (point (i 0)))).set
    rw [View.set_slice_whole]
    exact mem_tile (M := 1024) (N := 1024) (B := 512) (by decide) _ _ i (by show win0_3.index (point (i 0)) 0 * 512 = _; rw [h0]; rfl)
      (by show win0_3.index (point (i 0)) 1 * 1024 = 0; rw [h1])

theorem final_4 : (dats m 0 c).arrAt 4 cfg0.N = kvAll (argX m c) (argW m c) (argG m c) :=
  (dats m 0 c).arrAt_eq_of_cover 4 _ (fun t _ => block_4 m c t) fun i => by
    refine ⟨point (i 0), flush0_4 _, ?_⟩
    obtain ⟨h0, h1⟩ := (index (point (i 0))).2.2.2.2
    show i ∈ ((View.whole main_v0_1).slice (win0_4.rect (point (i 0)))).set
    rw [View.set_slice_whole]
    exact mem_tile (M := 1024) (N := 1024) (B := 512) (by decide) _ _ i (by show win0_4.index (point (i 0)) 0 * 512 = _; rw [h0]; rfl)
      (by show win0_4.index (point (i 0)) 1 * 1024 = 0; rw [h1])

end Cert.Kernel21Ideal.Kv

namespace Cert.Kernel23Ideal.Kv

open Cert.Kernel23Ideal Cert.Kernel23Ideal.Gen Cert.Kernel23Ideal.Value Idealize.ShloMosaic Idealize.ShloMosaic.ValueIdx Idealize.ShloMosaic.TcCoe Idealize.SL.Sem
  Cert.Words Cert.Norm Cert.Products Cert.Mix Cert.Kv
open Cert.Gather (at0 at0_of sum_tiles)

/-- The gain's gradient of a tile of rows, added to what was held. -/
theorem gain_at (x y : Vec Ideal S512x1024 .f32) (w : Vec Ideal S1024x1024 .bf16) (o : Vec Ideal S1x1024 .f32) (u : Fin 1) (d : Fin 1024) :
    k0_pay2 (F := Ideal) x y w o (ix2 u d) = o (ix2 u d) + ∑ t, gainRow (rowOf x t) (rowOf y t) w d := by
  unfold k0_pay2
  rw [shapeCast_self]
  refine congrArg (o (ix2 u d) + ·) ((colSum _ _ _ _ _ u d).trans (Finset.sum_congr rfl fun t _ => congrArg₂ (· * ·) (rows_rows _ _ t d) ?_))
  show x (ix2 t d) * broadcastTo _ _ _ _ = _
  rw [spreadCol _ _ (by decide)]
  exact congrArg (fun s => x (ix2 t d) * Ideal.rsqrt (Ideal.div s width + eps)) (rowSum (mulf x x) _ _ _ _ t 0)

variable (m : (ℓ : Loc nD τ sig) → Buf (Elt Ideal) ℓ) (c : Dev nD)

abbrev argX : S1024x1024.Idx → EReal := m ((c : Thread nD τ).loc main_arg0)
abbrev argY : S1024x1024.Idx → EReal := m ((c : Thread nD τ).loc main_arg1)
abbrev argW : S1024x1024.Idx → EReal := m ((c : Thread nD τ).loc main_arg2)

theorem index : ∀ t : Fin grid0.N, (win0_0.index t 0 = t.val ∧ win0_0.index t 1 = 0) ∧ (win0_1.index t 0 = t.val ∧ win0_1.index t 1 = 0)
    ∧ (win0_2.index t 0 = 0 ∧ win0_2.index t 1 = 0) := by decide +kernel

theorem blk_x (t : Fin cfg0.N) (s : Fin 512) (q : Fin 1024) (hq : q.val = t.val * 512 + s.val) : rowOf (iblk m c 0 t) s = rowOf (argX m c) q := by
  obtain ⟨h0, h1⟩ := (index t).1
  funext d
  unfold rowOf iblk
  rw [View.read_apply]
  exact congrArg (V m c main_arg0) (ix2_of _ _ _ (by show win0_0.index t 0 * 512 + 1 * s.val = q.val; rw [h0]; omega)
    (by show win0_0.index t 1 * 1024 + 1 * d.val = d.val; rw [h1]; omega))

theorem blk_y (t : Fin cfg0.N) (s : Fin 512) (q : Fin 1024) (hq : q.val = t.val * 512 + s.val) : rowOf (iblk m c 1 t) s = rowOf (argY m c) q := by
  obtain ⟨h0, h1⟩ := (index t).2.1
  funext d
  unfold rowOf iblk
  rw [View.read_apply]
  exact congrArg (V m c main_arg1) (ix2_of _ _ _ (by show win0_1.index t 0 * 512 + 1 * s.val = q.val; rw [h0]; omega)
    (by show win0_1.index t 1 * 1024 + 1 * d.val = d.val; rw [h1]; omega))

theorem blk_w (t : Fin cfg0.N) : iblk m c 2 t = argW m c := by
  obtain ⟨h0, h1⟩ := (index t).2.2
  funext y
  obtain ⟨d, j, rfl⟩ : ∃ (d j : Fin 1024), y = ix2 d j := ⟨y 0, y 1, eq_ix2 y⟩
  unfold iblk
  rw [View.read_apply]
  exact congrArg (V m c main_arg2) (ix2_of _ _ _ (by show win0_2.index t 0 * 1024 + 1 * d.val = d.val; rw [h0]; omega)
    (by show win0_2.index t 1 * 1024 + 1 * j.val = j.val; rw [h1]; omega))

theorem tile (t : Fin cfg0.N) (d : Fin 1024) : ∑ s, gainRow (rowOf (iblk m c 0 t) s) (rowOf (iblk m c 1 t) s) (iblk m c 2 t) d
    = ∑ s : Fin 512, at0 (fun q : Fin 1024 => gainRow (rowOf (argX m c) q) (rowOf (argY m c) q) (argW m c) d) (t.val * 512 + s.val) := by
  have hN : cfg0.N = 2 := N_0
  have ht := t.isLt
  refine Finset.sum_congr rfl fun s _ => ?_
  rw [at0_of _ _ (show t.val * 512 + s.val < 1024 by omega), blk_x m c t s ⟨t.val * 512 + s.val, by omega⟩ rfl, blk_y m c t s ⟨t.val * 512 + s.val, by omega⟩ rfl, blk_w]

theorem final : (dats m 0 c).arrAt 3 cfg0.N = gainAll (argX m c) (argY m c) (argW m c) := by
  have hN : cfg0.N = 2 := N_0
  rw [final3]
  funext i
  obtain ⟨u, d, rfl⟩ : ∃ (u : Fin 1) (d : Fin 1024), i = ix2 u d := ⟨i 0, i 1, eq_ix2 i⟩
  have hr : run3Of (ix2 u d) = 0 := by
    show 1 * (u.val / 1 - 0) + 1 * (d.val / 1024 - 0) = 0
    omega
  have hl : loc3Of (ix2 u d) = ix2 u d := ix2_of _ _ _ (by show u.val % 1 = u.val; omega) (by show d.val % 1024 = d.val; omega)
  unfold G3
  rw [dif_pos (by rw [hr]; omega), hl]
  generalize run3Of (ix2 u d) = q at hr
  subst hr
  refine (gain_at (iblk m c 0 ⟨1, by omega⟩) (iblk m c 1 ⟨1, by omega⟩) (iblk m c 2 ⟨1, by omega⟩) _ u d).trans ?_
  rw [tile]
  refine (congrArg (· + _) ((gain_at (iblk m c 0 ⟨0, by omega⟩) (iblk m c 1 ⟨0, by omega⟩) (iblk m c 2 ⟨0, by omega⟩) (k0_pay1 (F := Ideal)) u d).trans
    ((congrArg (· + _) zeroWord).trans ((zero_add _).trans (tile m c ⟨0, by omega⟩ d))))).trans ?_
  refine Eq.trans ?_ (sum_tiles (T := 2) (B := 512) rfl fun q : Fin 1024 => gainRow (rowOf (argX m c) q) (rowOf (argY m c) q) (argW m c) d)
  rw [Finset.sum_range_succ, Finset.sum_range_one]

end Cert.Kernel23Ideal.Kv

namespace Cert.Kernel20Ideal.Kv

open Cert.Kernel20Ideal Cert.Kernel20Ideal.Gen Cert.Kernel20Ideal.Value Idealize.ShloMosaic Idealize.ShloMosaic.ValueIdx Idealize.ShloMosaic.TcCoe Idealize.SL.Sem
  Cert.Words Cert.Products Cert.Gather

variable (m : (ℓ : Loc nD τ sig) → Buf (Elt Ideal) ℓ) (c : Dev nD)

abbrev argX : S1024x1024.Idx → EReal := m ((c : Thread nD τ).loc main_arg0)
abbrev argY : S1024x1024.Idx → EReal := m ((c : Thread nD τ).loc main_arg1)

theorem out_A (i : grid0.Coords) (a2 : Memref sig .tc .vmem S1024x1024 .bf16) (h2 : a2.IsWhole) (a3 : Memref sig .tc .vmem S1024x512 .f32) (h3 : a3.IsWhole)
    (a4 : Memref sig .tc .vmem S1024x512 .bf16) (h4 : a4.IsWhole) (a5 : Memref sig .tc .vmem S1024x512 .f32) (h5 : a5.IsWhole)
    (x : Vec Ideal S1024x1024 .bf16) (y : Vec Ideal S1024x512 .f32) (hc : cond0_0 i) (hd : cond0_1 i) :
    out0_A_2 (F := Ideal) c i a2 h2 a3 h3 a4 h4 a5 h5 hc hd x y = addTile x y (k0_pay1 (F := Ideal)) := by
  unfold out0_A_2
  exact read_tiles _ _ (addTile x y (k0_pay1 (F := Ideal))) _ (cover0_A_2 (F := Ideal) c i a2 h2 a3 h3 a4 h4 a5 h5 hc hd x y) (by
    unfold kernelRun0_A
    dsimp only
    sl_unfold_words
    have hz : ∀ a, (![0, 0] : Fin 2 → ℕ) a = 0 := by decide
    simp only [View.readAt_eq_ld, h2.read_unread, h3.read_unread, ld_full, View.readCov_fill (s := S1024x512) _ _ _ _ _ hz]
    exact ⟨fun j => store_tile dot_S1024x1024_S1024x512_S1024x512_0_0_1_1_n_n_wf x y (k0_pay1 (F := Ideal)) shapeCasts_S1024x512_S1024x512 inb_S1024x512_S1024x512_0_0 j, trivial⟩)

theorem index : ∀ t : Fin grid0.N, (win0_0.index t 0 = 0 ∧ win0_0.index t 1 = 0) ∧ (win0_1.index t 0 = 0 ∧ win0_1.index t 1 = t.val)
    ∧ (win0_2.index t 0 = 0 ∧ win0_2.index t 1 = t.val) := by decide +kernel

/-- The product of the normed memory's columns with the gradients' columns. -/
def wAll (x y : S1024x1024.Idx → EReal) (i : S1024x1024.Idx) : EReal := overRows (m := 1024) (n := 1024) x y (i 0) (i 1)

theorem block (t : Fin cfg0.N) : (dats m 0 c).flushed 2 t = ((cfg0.win 2).blk t).view.read (Elt Ideal) (wAll (argX m c) (argY m c)) := by
  obtain ⟨⟨a0, a1⟩, ⟨b0, b1⟩, h0, h1⟩ := index t
  have ht : t.val < 2 := lt_of_lt_of_eq t.isLt N_0
  rw [flushed2_A, out_A]
  funext y
  obtain ⟨r, d, rfl⟩ : ∃ (r : Fin 1024) (d : Fin 512), y = ix2 r d := ⟨y 0, y 1, eq_ix2 y⟩
  rw [View.read_apply]
  have hd := d.isLt
  refine (congrArg (· + _) (zeros_at shapeCasts_S1024x512_S1024x512 (ix2 r d))).trans ((zero_add _).trans ?_)
  refine Eq.trans ?_ (congrArg (wAll (argX m c) (argY m c)) (ix2_of _ r ⟨t.val * 512 + d.val, by omega⟩ ?_ ?_)).symm
  · show overRows (m := 1024) (n := 512) (iblk m c 0 t) (iblk m c 1 t) r d = overRows (m := 1024) (n := 1024) (argX m c) (argY m c) r ⟨t.val * 512 + d.val, _⟩
    unfold overRows
    refine Finset.sum_congr rfl fun k _ => congrArg₂ (· * ·) ?_ ?_
    · unfold iblk
      rw [View.read_apply]
      exact congrArg (V m c main_arg0) (ix2_of _ k r (by show win0_0.index t 0 * 1024 + 1 * k.val = k.val; rw [a0]; omega)
        (by show win0_0.index t 1 * 1024 + 1 * r.val = r.val; rw [a1]; omega))
    · unfold iblk
      rw [View.read_apply]
      exact congrArg (V m c main_arg1) (ix2_of _ k ⟨t.val * 512 + d.val, by omega⟩ (by show win0_1.index t 0 * 1024 + 1 * k.val = k.val; rw [b0]; omega)
        (by show win0_1.index t 1 * 512 + 1 * d.val = t.val * 512 + d.val; rw [b1]; omega))
  · show win0_2.index t 0 * 1024 + 1 * r.val = r.val; rw [h0]; omega
  · show win0_2.index t 1 * 512 + 1 * d.val = t.val * 512 + d.val; rw [h1]; omega

theorem final : (dats m 0 c).arrAt 2 cfg0.N = wAll (argX m c) (argY m c) :=
  (dats m 0 c).arrAt_eq_of_cover 2 _ (fun t _ => block m c t) fun i => by
    have i1 : (i 1).val < 1024 := (i 1).isLt
    have hN : cfg0.N = 2 := N_0
    let t : Fin cfg0.N := ⟨(i 1).val / 512, by omega⟩
    refine ⟨t, flush0_2 _, ?_⟩
    obtain ⟨-, -, h0, h1⟩ := index t
    show i ∈ ((View.whole main_v0).slice (win0_2.rect t)).set
    rw [View.set_slice_whole]
    exact mem_cols (M := 1024) (N := 1024) (B := 512) (by decide) _ _ i (by show win0_2.index t 0 * 1024 = _; rw [h0])
      (by show win0_2.index t 1 * 512 = _; rw [h1])

end Cert.Kernel20Ideal.Kv

end

end
-- ==== Proof.KvClaims.lean ====
/-
  The claims about the memory's keys and values, the gradient of their weights and the gradient of the memory's gain: from any arguments the
  kernel and the reference end with the same results.
-/
module

public import proofs.«01_k».proof.Defs
public import proofs.«01_k».proof.Proof.KvTile
public import proofs.«01_k».proof.Proof.Gen.Reference20Ideal.Read
public import proofs.«01_k».proof.Proof.Gen.Reference20Ideal.Run
public import proofs.«01_k».proof.Proof.Gen.Reference21Ideal.Read
public import proofs.«01_k».proof.Proof.Gen.Reference21Ideal.Run
public import proofs.«01_k».proof.Proof.Gen.Reference23Ideal.Read
public import proofs.«01_k».proof.Proof.Gen.Reference23Ideal.Run
public import Idealize.ShloMosaic.Adequacy
public import Idealize.ShloMosaic.Init

@[expose] public section

noncomputable section

namespace Cert.Reference20Ideal.Read

open Cert.Reference20Ideal Cert.Reference20Ideal.Gen Idealize.ShloMosaic Idealize.ShloMosaic.ValueIdx Cert.Products Cert.Gather

/-- The derivative of the product along its second factor. -/
theorem weight_ref (x y : S1024x1024.Idx → EReal) : val_main_v5 (F := Ideal) x y = Cert.Kernel20Ideal.Kv.wAll x y := by
  funext i
  show val_main_v4 (F := Ideal) x y i = _
  rw [val_main_v4_apply, val_main_v3_apply]
  unfold Cert.Kernel20Ideal.Kv.wAll overRows
  exact Finset.sum_congr rfl fun k _ => (mul_comm _ _).trans (congrArg₂ (· * ·) (congrArg x (ix2_of _ _ _ rfl rfl)) (congrArg y (ix2_of _ _ _ rfl rfl)))

end Cert.Reference20Ideal.Read

namespace Cert.Reference21Ideal.Read

open Cert.Reference21Ideal Cert.Reference21Ideal.Gen Idealize.ShloMosaic Idealize.ShloMosaic.ValueIdx Cert.Mix Cert.Norm Cert.Products
open Cert.Words (zeroWord)
open Cert.Ffn (normed)

variable (x w : S1024x1024.Idx → EReal) (g : S1x1024.Idx → EReal) (t d : Fin 1024)

theorem sq_ref : val_main_v6 (F := Ideal) x (ix2 t 0) = msq (rowOf x t) := by
  show Ideal.div (val_main_v2 (F := Ideal) x (ix2 t 0)) (val_main_v3 (F := Ideal) (ix2 t 0)) + val_main_v5 (F := Ideal) (ix2 t 0) = _
  rw [val_main_v2_apply (F := Ideal), val_main_v3_apply (F := Ideal), val_main_v5_apply (F := Ideal)]
  refine congrArg (fun s => Ideal.div s width + eps) ((at1 (val_main_v1 (F := Ideal) x) _ t rfl).trans ?_)
  rw [val_main_v1_apply]
  refine (congrArg (· + _) zeroWord).trans ((zero_add _).trans (Finset.sum_congr rfl fun e _ => ?_))
  exact at2 (val_main_v0 (F := Ideal) x) _ t e rfl rfl

theorem row_ref : val_main_v11 (F := Ideal) x g (ix2 t d) = normed (rowOf x t) (rowOf g 0) d := by
  refine congrArg₂ (· * ·) (congrArg (x (ix2 t d) * ·) ?_) ?_
  · rw [val_main_v8_apply (F := Ideal)]
    exact (at2 (val_main_v7 (F := Ideal) x) _ t 0 rfl rfl).trans (congrArg Ideal.rsqrt (sq_ref x t))
  · rw [val_main_v10_apply (F := Ideal)]
    exact at2 g _ 0 d rfl rfl

theorem normed_ref : val_main_v12 (F := Ideal) x g = Cert.Kv.normedAll x g := by
  funext i
  obtain ⟨t, d, rfl⟩ : ∃ (t d : Fin 1024), i = ix2 t d := ⟨i 0, i 1, eq_ix2 i⟩
  exact row_ref x g t d

theorem kv_ref : val_main_v15 (F := Ideal) x g w = Cert.Kv.kvAll x w g := by
  funext i
  obtain ⟨t, d, rfl⟩ : ∃ (t d : Fin 1024), i = ix2 t d := ⟨i 0, i 1, eq_ix2 i⟩
  show val_main_v14 (F := Ideal) x g w (ix2 t d) = ∑ e, normed (rowOf x t) (rowOf g 0) e * w (ix2 e d)
  rw [val_main_v14_apply]
  exact Finset.sum_congr rfl fun e _ => congrArg₂ (· * ·) ((at2 (val_main_v11 (F := Ideal) x g) _ t e rfl rfl).trans (row_ref x g t e)) (at2 w _ e d rfl rfl)

end Cert.Reference21Ideal.Read

namespace Cert.Reference23Ideal.Read

open Cert.Reference23Ideal Cert.Reference23Ideal.Gen Idealize.ShloMosaic Idealize.ShloMosaic.ValueIdx Cert.Mix Cert.Norm Cert.Products Cert.Kv
open Cert.Words (zeroWord)

variable (x y w : S1024x1024.Idx → EReal)

theorem hat_ref (t d : Fin 1024) : val_main_v14 (F := Ideal) x (ix2 t d) = hat (rowOf x t) d := by
  refine congrArg (x (ix2 t d) * ·) ?_
  rw [val_main_v13_apply (F := Ideal)]
  exact (at2 (val_main_v12 (F := Ideal) x) _ t 0 rfl rfl).trans (congrArg Ideal.rsqrt (Cert.Reference21Ideal.Read.sq_ref x t))

theorem gain_ref : val_main_v19 (F := Ideal) x y w = gainAll x y w := by
  funext i
  obtain ⟨u, d, rfl⟩ : ∃ (u : Fin 1) (d : Fin 1024), i = ix2 u d := ⟨i 0, i 1, eq_ix2 i⟩
  rw [val_main_v19_apply (F := Ideal)]
  refine (at1 (val_main_v18 (F := Ideal) x y w) _ d (by show u.val * 1024 + d.val = d.val; omega)).trans ?_
  rw [val_main_v18_apply]
  refine (congrArg (· + _) zeroWord).trans ((zero_add _).trans (Finset.sum_congr rfl fun t _ => ?_))
  refine (at2 (val_main_v17 (F := Ideal) x y w) _ t d rfl rfl).trans ((congrArg₂ (· * ·) (hat_ref x t d) ?_).trans (mul_comm _ _))
  rw [val_main_v3_apply]
  exact Finset.sum_congr rfl fun j _ => congrArg₂ (· * ·) (at2 y _ t j rfl rfl) (at2 w _ d j rfl rfl)

end Cert.Reference23Ideal.Read

namespace Cert.KvClaims

open Idealize.ShloMosaic Idealize.ShloMosaic.TcCoe Idealize.SL.Sem

theorem frame_reference : Cert.quiescent_Reference21Ideal := fun m ρ _ =>
  (θ_run Cert.Reference21Ideal.defs _ _).mono (fun r h => ⟨fun c => (h c).2.2, sem_eq_zero_of_no_sems (by decide) r.2⟩)
    (Cert.Reference21Ideal.Value.run (F := Ideal) m ρ)

theorem algebraic : Cert.algebraic_Kernel21Ideal_Reference21Ideal := by
  intro m ρ m' ρ' _ hagree
  refine ⟨_, _, Cert.Kernel21Ideal.Value.run_blocks (F := Ideal) m ρ, ?_⟩
  refine (θ_run Cert.Reference21Ideal.defs _ _).mono (fun _ h c => ?_) (Cert.Reference21Ideal.Value.run (F := Ideal) m' ρ')
  obtain ⟨h0, h1, h2⟩ := hagree c
  refine ⟨(h c).1.trans ?_, (h c).2.1.trans ?_, (h c).2.2⟩
  · rw [Cert.Reference21Ideal.Read.val_main_v12_eq, h0, h1, Cert.Kernel21Ideal.Kv.final_3]
    exact Cert.Reference21Ideal.Read.normed_ref _ _
  · rw [Cert.Reference21Ideal.Read.val_main_v15_eq, h0, h1, h2, Cert.Kernel21Ideal.Kv.final_4]
    exact Cert.Reference21Ideal.Read.kv_ref _ _ _

theorem frame_reference_weight : Cert.quiescent_Reference20Ideal := fun m ρ _ =>
  (θ_run Cert.Reference20Ideal.defs _ _).mono (fun r h => ⟨fun c => (h c).2, sem_eq_zero_of_no_sems (by decide) r.2⟩)
    (Cert.Reference20Ideal.Value.run (F := Ideal) m ρ)

theorem algebraic_weight : Cert.algebraic_Kernel20Ideal_Reference20Ideal := by
  intro m ρ m' ρ' _ hagree
  refine ⟨_, Cert.Kernel20Ideal.Value.run_blocks (F := Ideal) m ρ, ?_⟩
  refine (θ_run Cert.Reference20Ideal.defs _ _).mono (fun _ h c => ?_) (Cert.Reference20Ideal.Value.run (F := Ideal) m' ρ')
  obtain ⟨h0, h1⟩ := hagree c
  refine ⟨(h c).1.trans ?_, (h c).2⟩
  rw [Cert.Reference20Ideal.Read.val_main_v5_eq, h0, h1, Cert.Kernel20Ideal.Kv.final]
  exact Cert.Reference20Ideal.Read.weight_ref _ _

theorem frame_reference_gain : Cert.quiescent_Reference23Ideal := fun m ρ _ =>
  (θ_run Cert.Reference23Ideal.defs _ _).mono (fun r h => ⟨fun c => (h c).2, sem_eq_zero_of_no_sems (by decide) r.2⟩)
    (Cert.Reference23Ideal.Value.run (F := Ideal) m ρ)

theorem algebraic_gain : Cert.algebraic_Kernel23Ideal_Reference23Ideal := by
  intro m ρ m' ρ' _ hagree
  refine ⟨_, Cert.Kernel23Ideal.Value.run_blocks (F := Ideal) m ρ, ?_⟩
  refine (θ_run Cert.Reference23Ideal.defs _ _).mono (fun _ h c => ?_) (Cert.Reference23Ideal.Value.run (F := Ideal) m' ρ')
  obtain ⟨h0, h1, h2⟩ := hagree c
  refine ⟨(h c).1.trans ?_, (h c).2⟩
  rw [Cert.Reference23Ideal.Read.val_main_v19_eq, h0, h1, h2, Cert.Kernel23Ideal.Kv.final]
  exact Cert.Reference23Ideal.Read.gain_ref _ _ _

end Cert.KvClaims

end

end
-- ==== Proof.LossRows.lean ====
/-
  The last norm and the squared distance of one token's row `y` from its target `t`, and their gradients. The loss is half the
  mean of the squares over the row, summed over the tokens.
-/
module

public import proofs.«01_k».proof.Proof.Norm
public import proofs.«01_k».proof.Proof.Products

@[expose] public section

noncomputable section

open Idealize.ShloMosaic Idealize.ShloMosaic.ValueIdx Cert.Words Cert.Norm Cert.Products

namespace Cert.Loss

/-- Half of one over the width, and one over the width. -/
abbrev lossWord : EReal := Ideal.ofBits .f32 0x3A000000#32
abbrev meanWord : EReal := Ideal.ofBits .f32 0x3A800000#32

theorem lossWord_eq : lossWord = ((1 / 2048 : ℝ) : EReal) := by
  simp [Ideal.ofBits, Ideal.ieee, -EReal.coe_mul]; norm_num

theorem meanWord_eq : meanWord = ((1 / 1024 : ℝ) : EReal) := by
  simp [Ideal.ofBits, Ideal.ieee, -EReal.coe_mul]; norm_num

theorem two_eq : Ideal.ofBits .f32 0x40000000#32 = ((2 : ℝ) : EReal) := by
  simp [Ideal.ofBits, Ideal.ieee, -EReal.coe_mul]; norm_num

variable (y a t : Fin 1024 → EReal)

/-- The distance from the target. -/
def off (d : Fin 1024) : EReal := hat y d * a d - t d

/-- The gradient arriving at the normed row, as the kernel writes it. -/
def arrive (d : Fin 1024) : EReal := off y a t d * meanWord

/-- The token's part of the loss. -/
def share : EReal := (∑ d, off y a t d * off y a t d) * lossWord

/-- The token's gradient. -/
def token (d : Fin 1024) : EReal := back y (fun e => arrive y a t e * a e) d

/-- Half of one, over the width, times twice the distance. -/
theorem arrive_eq (d : Fin 1024) : arrive y a t d
    = Ideal.div (Ideal.ofBits .f32 0x3F000000#32 * Ideal.ofBits .f32 0x3F800000#32) width * (Ideal.ofBits .f32 0x40000000#32 * off y a t d) := by
  unfold arrive
  rw [div_width, ofBits_half, ofBits_one, mul_one, two_eq, meanWord_eq, ← mul_assoc, ← EReal.coe_mul, ← EReal.coe_mul, mul_comm]
  congr 2
  norm_num

/-- The loss: half the sum of the rows' mean squares. -/
theorem share_sum {n : ℕ} (f : Fin n → EReal) : Ideal.ofBits .f32 0x3F000000#32 * ∑ s, Ideal.div (f s) width = ∑ s, f s * lossWord := by
  rw [ofBits_half, pos_mul_sum _ (by norm_num)]
  refine Finset.sum_congr rfl fun s _ => ?_
  rw [div_width, lossWord_eq, mul_left_comm, ← EReal.coe_mul]
  congr 2
  norm_num

/-- One entry spread over a row. -/
theorem spreadOne {α : Type} {n : ℕ} (x : (Mat 1 1).Idx → α) (h : (Mat 1 1).Broadcasts (Mat 1 n)) (u : Fin 1) (l : Fin n) :
    broadcastTo (Mat 1 n) x h (ix2 u l) = x (ix2 0 0) :=
  broadcastTo_apply x _ _ _ fun a => match a with
    | ⟨0, _⟩ => rfl
    | ⟨1, _⟩ => rfl

end Cert.Loss

end

end
-- ==== Proof.LossTile.lean ====
/-
  What one grid point of the last half-step's kernel leaves in its result blocks: the gradient of its 512 tokens, their
  columns, and its tokens' part of the loss and of the last norm's gain's gradient added to what the blocks held — to zeros
  at the first point.
-/
module

public import proofs.«01_k».proof.Proof.FfnTile
public import proofs.«01_k».proof.Proof.LossRows
public import proofs.«01_k».proof.Proof.Gen.Kernel3Ideal.Value

@[expose] public section

noncomputable section

namespace Cert.Kernel3Ideal.Loss

open Cert.Kernel3Ideal Cert.Kernel3Ideal.Gen Idealize.ShloMosaic Idealize.ShloMosaic.ValueIdx Idealize.ShloMosaic.TcCoe Idealize.SL.Sem
  Cert.Words Cert.Norm Cert.Ffn Cert.Loss Cert.Products
open Cert.Kernel2Ideal.Ffn (rowOf colsOf colsBlk outBlk)

/-! ## From the tokens after the half-step -/

section Head

variable (y : FVec Ideal S512x1024 .f32) (a : Vec Ideal S1x1024 .f32) (tg : Vec Ideal S512x1024 .f32)

theorem inv_at (t : Fin 512) (u : Fin 1) : k0_pay9 (F := Ideal) (mulf y y) (ix2 t u) = inv (rowOf y t) := by
  unfold k0_pay9
  exact congrArg (fun s => Ideal.rsqrt (Ideal.div s width + eps)) (rowSum (mulf y y) _ _ _ _ t u)

theorem hat_at (t : Fin 512) (d : Fin 1024) : k0_pay10 (F := Ideal) y (mulf y y) (ix2 t d) = hat (rowOf y t) d := by
  unfold k0_pay10
  show y (ix2 t d) * broadcastTo _ _ _ _ = _
  rw [spreadCol _ _ (by decide), inv_at]
  rfl

theorem off_at (t : Fin 512) (d : Fin 1024) : k0_pay11 (F := Ideal) y (mulf y y) a tg (ix2 t d) = off (rowOf y t) (rowOf a 0) (rowOf tg t) d := by
  unfold k0_pay11
  show k0_pay10 y (mulf y y) (ix2 t d) * broadcastTo _ _ _ _ - _ = _
  rw [spreadRow _ _ (by decide), hat_at]
  rfl

theorem arrive_at (t : Fin 512) (d : Fin 1024) : k0_pay12 (F := Ideal) y (mulf y y) a tg (ix2 t d) = arrive (rowOf y t) (rowOf a 0) (rowOf tg t) d := by
  unfold k0_pay12
  show k0_pay11 y (mulf y y) a tg (ix2 t d) * _ = _
  rw [off_at]
  rfl

/-- The norm's gradient, from the reciprocal root, the normalised row and the gradient `w` arriving at the normed row. -/
theorem back_at (r : FVec Ideal S512x1 .f32) (h v : FVec Ideal S512x1024 .f32) (w : Fin 1024 → EReal) (t : Fin 512) (d : Fin 1024)
    (hr : r (ix2 t 0) = inv (rowOf y t)) (hh : ∀ e, h (ix2 t e) = hat (rowOf y t) e) (hv : ∀ e, v (ix2 t e) = w e) :
    k0_pay1 (F := Ideal) r h a v (ix2 t d) = back (rowOf y t) (fun e => w e * rowOf a 0 e) d := by
  unfold k0_pay1
  dsimp only
  show broadcastTo _ _ _ _ * (v (ix2 t d) * broadcastTo _ _ _ _ - h (ix2 t d) * broadcastTo _ _ _ _) = _
  rw [spreadCol _ _ (by decide), spreadRow _ _ (by decide), spreadCol _ _ (by decide), hr, hh, hv]
  refine congrArg (fun s => inv (rowOf y t) * (w d * a (ix2 0 d) - hat (rowOf y t) d * Ideal.div s width)) ((rowSum _ _ _ _ _ t 0).trans (Finset.sum_congr rfl fun e _ => ?_))
  show v (ix2 t e) * broadcastTo _ _ _ _ * h (ix2 t e) = _
  rw [spreadRow _ _ (by decide), hh, hv]

theorem token_at (t : Fin 512) (d : Fin 1024) :
    k0_pay1 (F := Ideal) (k0_pay9 (mulf y y)) (k0_pay10 y (mulf y y)) a (k0_pay12 y (mulf y y) a tg) (ix2 t d) = token (rowOf y t) (rowOf a 0) (rowOf tg t) d :=
  back_at y a _ _ _ (arrive (rowOf y t) (rowOf a 0) (rowOf tg t)) t d (inv_at y t 0) (hat_at y t) (arrive_at y a tg t)

theorem loss_at (o : Vec Ideal S1x128 .f32) (u : Fin 1) (l : Fin 128) : k0_pay15 (F := Ideal) y (mulf y y) a tg o (ix2 u l)
    = o (ix2 u l) + ∑ t, share (rowOf y t) (rowOf a 0) (rowOf tg t) := by
  have hv := off_at y a tg
  unfold k0_pay15
  generalize k0_pay11 y (mulf y y) a tg = v at hv ⊢
  dsimp only
  rw [shapeCast_self]
  refine congrArg (o (ix2 u l) + ·) ?_
  refine (spreadOne _ _ u l).trans ?_
  rw [shapeCast_self]
  refine (congrArg (· * lossWord) ((rowSum _ _ _ _ _ 0 0).trans (Finset.sum_congr rfl fun d _ => colSum _ _ _ _ _ 0 d))).trans ?_
  refine (congrArg (· * lossWord) Finset.sum_comm).trans ?_
  rw [mul_comm, lossWord_eq, pos_mul_sum _ (by norm_num)]
  refine Finset.sum_congr rfl fun t _ => ?_
  unfold share
  rw [mul_comm, lossWord_eq]
  refine congrArg (· * _) (Finset.sum_congr rfl fun d _ => ?_)
  show v (ix2 t d) * v (ix2 t d) = _
  rw [hv]

theorem gain_at (o : Vec Ideal S1x1024 .f32) (u : Fin 1) (d : Fin 1024) : k0_pay16 (F := Ideal) y (mulf y y) a tg o (ix2 u d)
    = o (ix2 u d) + ∑ t, arrive (rowOf y t) (rowOf a 0) (rowOf tg t) d * hat (rowOf y t) d := by
  have hh := hat_at y
  have hv := arrive_at y a tg
  unfold k0_pay16
  generalize k0_pay10 y (mulf y y) = h at hh ⊢
  generalize k0_pay12 y (mulf y y) a tg = v at hv ⊢
  dsimp only
  rw [shapeCast_self]
  refine congrArg (o (ix2 u d) + ·) ((colSum _ _ _ _ _ u d).trans (Finset.sum_congr rfl fun t _ => ?_))
  show v (ix2 t d) * h (ix2 t d) = _
  rw [hh, hv]

end Head

/-! ## The point's blocks -/

section Points

variable (c : Dev nD) (i : grid0.Coords) (a1 : Memref sig .tc .vmem S512x1024 .f32) (h1 : a1.IsWhole) (a2 : Memref sig .tc .vmem S1x1024 .f32) (h2 : a2.IsWhole)
  (a3 : Memref sig .tc .vmem S5632x1024 .bf16) (h3 : a3.IsWhole) (a4 : Memref sig .tc .vmem S2816x1024 .bf16) (h4 : a4.IsWhole)
  (a5 : Memref sig .tc .vmem S1x1024 .f32) (h5 : a5.IsWhole) (a6 : Memref sig .tc .vmem S512x1024 .f32) (h6 : a6.IsWhole)
  (a7 : Memref sig .tc .vmem S512x1024 .f32) (h7 : a7.IsWhole) (a8 : Memref sig .tc .vmem S512x5632 .bf16) (h8 : a8.IsWhole)
  (a9 : Memref sig .tc .vmem S1x128 .f32) (h9 : a9.IsWhole) (a10 : Memref sig .tc .vmem S1x1024 .f32) (h10 : a10.IsWhole)
  (x : Vec Ideal S512x1024 .f32) (g : Vec Ideal S1x1024 .f32) (wu : Vec Ideal S5632x1024 .bf16) (wd : Vec Ideal S2816x1024 .bf16)
  (a : Vec Ideal S1x1024 .f32) (tg : Vec Ideal S512x1024 .f32)

/-- A token's row after the half-step. -/
abbrev rowAfter (t : Fin 512) : Fin 1024 → EReal := outRow (rowOf x t) (rowOf wd) (colsOf x g wu t)

/-- The tokens' gradients, and the blocks of the loss and of the gain's gradient after the point. -/
def dxBlk (j : S512x1024.Idx) : EReal := token (rowAfter x g wu wd (j 0)) (rowOf a 0) (rowOf tg (j 0)) (j 1)
def lossBlk (o : S1x128.Idx → EReal) (j : S1x128.Idx) : EReal := o j + ∑ t, share (rowAfter x g wu wd t) (rowOf a 0) (rowOf tg t)
def gainBlk (o : S1x1024.Idx → EReal) (j : S1x1024.Idx) : EReal :=
  o j + ∑ t, arrive (rowAfter x g wu wd t) (rowOf a 0) (rowOf tg t) (j 1) * hat (rowAfter x g wu wd t) (j 1)

/-- The two halves of the up projection's rows. -/
abbrev upLo : Vec Ideal S2816x1024 .bf16 := View.ld wu (Rect.unit (s := S5632x1024) ![0, 0] S2816x1024.size inb_S5632x1024_S2816x1024_0_0)
abbrev upHi : Vec Ideal S2816x1024 .bf16 := View.ld wu (Rect.unit (s := S5632x1024) ![2816, 0] S2816x1024.size inb_S5632x1024_S2816x1024_2816_0)

/-- The tokens after the half-step. -/
abbrev after : Vec Ideal S512x1024 .f32 := k0_pay7 (F := Ideal) x g (upLo wu) (upHi wu) wd

theorem after_row (t : Fin 512) : rowOf (after x g wu wd) t = rowAfter x g wu wd t := funext fun d => Cert.Kernel2Ideal.Ffn.fwd_out x g wu wd t d

theorem store_6 (inb) (j : (Rect.unit (s := S512x1024) ![0, 0] ![512, 1024] inb).shape.Idx) :
    k0_pay1 (F := Ideal) (k0_pay9 (k0_pay8 x g (upLo wu) (upHi wu) wd)) (k0_pay10 (after x g wu wd) (k0_pay8 x g (upLo wu) (upHi wu) wd)) a
      (k0_pay12 (after x g wu wd) (k0_pay8 x g (upLo wu) (upHi wu) wd) a tg) j
    = dxBlk x g wu wd a tg ((Rect.unit (s := S512x1024) ![0, 0] ![512, 1024] inb).emb j) := by
  obtain ⟨t, d, rfl⟩ : ∃ (t : Fin 512) (d : Fin 1024), j = ix2 t d := ⟨j 0, j 1, eq_ix2 j⟩
  rw [emb_block 0 0 _ t d t d (Nat.zero_add _).symm (Nat.zero_add _).symm]
  refine (token_at (after x g wu wd) a tg t d).trans ?_
  rw [after_row]
  rfl

theorem store_7_hi (inb) (j : (Rect.unit (s := S512x5632) ![0, 2816] ![512, 2816] inb).shape.Idx) :
    k0_pay6 (F := Ideal) x g (upHi wu) j = colsBlk x g wu ((Rect.unit (s := S512x5632) ![0, 2816] ![512, 2816] inb).emb j) := by
  obtain ⟨t, k, rfl⟩ : ∃ (t : Fin 512) (k : Fin 2816), j = ix2 t k := ⟨j 0, j 1, eq_ix2 j⟩
  rw [emb_block 0 2816 _ t k t (hi k) (Nat.zero_add _).symm rfl]
  exact Cert.Kernel2Ideal.Ffn.value_at x g wu t k

theorem store_7_lo (inb) (j : (Rect.unit (s := S512x5632) ![0, 0] ![512, 2816] inb).shape.Idx) :
    k0_pay5 (F := Ideal) x g (upLo wu) j = colsBlk x g wu ((Rect.unit (s := S512x5632) ![0, 0] ![512, 2816] inb).emb j) := by
  obtain ⟨t, k, rfl⟩ : ∃ (t : Fin 512) (k : Fin 2816), j = ix2 t k := ⟨j 0, j 1, eq_ix2 j⟩
  rw [emb_block 0 0 _ t k t (lo k) (Nat.zero_add _).symm (Nat.zero_add _).symm]
  exact Cert.Kernel2Ideal.Ffn.gate_at x g wu t k

theorem store_8 (o : Vec Ideal S1x128 .f32) (inb) (j : (Rect.unit (s := S1x128) ![0, 0] ![1, 128] inb).shape.Idx) :
    k0_pay15 (F := Ideal) (after x g wu wd) (k0_pay8 x g (upLo wu) (upHi wu) wd) a tg o j
    = lossBlk x g wu wd a tg o ((Rect.unit (s := S1x128) ![0, 0] ![1, 128] inb).emb j) := by
  obtain ⟨u, l, rfl⟩ : ∃ (u : Fin 1) (l : Fin 128), j = ix2 u l := ⟨j 0, j 1, eq_ix2 j⟩
  rw [emb_block 0 0 _ u l u l (Nat.zero_add _).symm (Nat.zero_add _).symm]
  refine (loss_at (after x g wu wd) a tg o u l).trans ?_
  simp only [after_row]
  rfl

theorem store_9 (o : Vec Ideal S1x1024 .f32) (inb) (j : (Rect.unit (s := S1x1024) ![0, 0] ![1, 1024] inb).shape.Idx) :
    k0_pay16 (F := Ideal) (after x g wu wd) (k0_pay8 x g (upLo wu) (upHi wu) wd) a tg o j
    = gainBlk x g wu wd a tg o ((Rect.unit (s := S1x1024) ![0, 0] ![1, 1024] inb).emb j) := by
  obtain ⟨u, d, rfl⟩ : ∃ (u : Fin 1) (d : Fin 1024), j = ix2 u d := ⟨j 0, j 1, eq_ix2 j⟩
  rw [emb_block 0 0 _ u d u d (Nat.zero_add _).symm (Nat.zero_add _).symm]
  refine (gain_at (after x g wu wd) a tg o u d).trans ?_
  simp only [after_row]
  rfl

theorem out_B_6 (hc : ¬cond0_0 i) (o : Vec Ideal S1x128 .f32) (q : Vec Ideal S1x1024 .f32) : out0_B_6 (F := Ideal) c i a1 h1 a2 h2 a3 h3 a4 h4 a5 h5 a6 h6 a7 h7 a8 h8 a9 h9 a10 h10 hc x g wu wd a tg o q = dxBlk x g wu wd a tg := by
  have hcov := cover0_B_6 (F := Ideal) c i a1 h1 a2 h2 a3 h3 a4 h4 a5 h5 a6 h6 a7 h7 a8 h8 a9 h9 a10 h10 hc x g wu wd a tg o q
  unfold out0_B_6
  rw [View.read_writes_eq_canon _ _ _ hcov]
  refine canon_tiles (s := S512x1024) (e := .f32) (dxBlk x g wu wd a tg) _ ?_ hcov
  unfold kernelRun0_B
  dsimp only
  sl_unfold_words
  simp only [View.readAt_eq_ld, h1.read_unread, h2.read_unread, h3.read_unread, h4.read_unread, h5.read_unread, h6.read_unread, h9.read_unread, h10.read_unread, ld_full]
  exact ⟨store_6 x g wu wd a tg inb_S512x1024_S512x1024_0_0, trivial⟩

theorem out_B_7 (hc : ¬cond0_0 i) (o : Vec Ideal S1x128 .f32) (q : Vec Ideal S1x1024 .f32) : out0_B_7 (F := Ideal) c i a1 h1 a2 h2 a3 h3 a4 h4 a5 h5 a6 h6 a7 h7 a8 h8 a9 h9 a10 h10 hc x g wu wd a tg o q = colsBlk x g wu := by
  have hcov := cover0_B_7 (F := Ideal) c i a1 h1 a2 h2 a3 h3 a4 h4 a5 h5 a6 h6 a7 h7 a8 h8 a9 h9 a10 h10 hc x g wu wd a tg o q
  unfold out0_B_7
  rw [View.read_writes_eq_canon _ _ _ hcov]
  refine canon_tiles (s := S512x5632) (e := .bf16) (colsBlk x g wu) _ ?_ hcov
  unfold kernelRun0_B
  dsimp only
  sl_unfold_words
  simp only [View.readAt_eq_ld, h1.read_unread, h2.read_unread, h3.read_unread, h4.read_unread, h5.read_unread, h6.read_unread, h9.read_unread, h10.read_unread, ld_full]
  exact ⟨store_7_hi x g wu inb_S512x5632_S512x2816_0_2816, store_7_lo x g wu inb_S512x5632_S512x2816_0_0, trivial⟩

theorem out_B_8 (hc : ¬cond0_0 i) (o : Vec Ideal S1x128 .f32) (q : Vec Ideal S1x1024 .f32) : out0_B_8 (F := Ideal) c i a1 h1 a2 h2 a3 h3 a4 h4 a5 h5 a6 h6 a7 h7 a8 h8 a9 h9 a10 h10 hc x g wu wd a tg o q = lossBlk x g wu wd a tg o := by
  have hcov := cover0_B_8 (F := Ideal) c i a1 h1 a2 h2 a3 h3 a4 h4 a5 h5 a6 h6 a7 h7 a8 h8 a9 h9 a10 h10 hc x g wu wd a tg o q
  unfold out0_B_8
  rw [View.read_writes_eq_canon _ _ _ hcov]
  refine canon_tiles (s := S1x128) (e := .f32) (lossBlk x g wu wd a tg o) _ ?_ hcov
  unfold kernelRun0_B
  dsimp only
  sl_unfold_words
  simp only [View.readAt_eq_ld, h1.read_unread, h2.read_unread, h3.read_unread, h4.read_unread, h5.read_unread, h6.read_unread, h9.read_unread, h10.read_unread, ld_full]
  exact ⟨store_8 x g wu wd a tg o inb_S1x128_S1x128_0_0, trivial⟩

theorem out_B_9 (hc : ¬cond0_0 i) (o : Vec Ideal S1x128 .f32) (q : Vec Ideal S1x1024 .f32) : out0_B_9 (F := Ideal) c i a1 h1 a2 h2 a3 h3 a4 h4 a5 h5 a6 h6 a7 h7 a8 h8 a9 h9 a10 h10 hc x g wu wd a tg o q = gainBlk x g wu wd a tg q := by
  have hcov := cover0_B_9 (F := Ideal) c i a1 h1 a2 h2 a3 h3 a4 h4 a5 h5 a6 h6 a7 h7 a8 h8 a9 h9 a10 h10 hc x g wu wd a tg o q
  unfold out0_B_9
  rw [View.read_writes_eq_canon _ _ _ hcov]
  refine canon_tiles (s := S1x1024) (e := .f32) (gainBlk x g wu wd a tg q) _ ?_ hcov
  unfold kernelRun0_B
  dsimp only
  sl_unfold_words
  simp only [View.readAt_eq_ld, h1.read_unread, h2.read_unread, h3.read_unread, h4.read_unread, h5.read_unread, h6.read_unread, h9.read_unread, h10.read_unread, ld_full]
  exact ⟨store_9 x g wu wd a tg q inb_S1x1024_S1x1024_0_0, trivial⟩

theorem out_A_6 (hc : cond0_0 i) : out0_A_6 (F := Ideal) c i a1 h1 a2 h2 a3 h3 a4 h4 a5 h5 a6 h6 a7 h7 a8 h8 a9 h9 a10 h10 hc x g wu wd a tg = dxBlk x g wu wd a tg := by
  have hcov := cover0_A_6 (F := Ideal) c i a1 h1 a2 h2 a3 h3 a4 h4 a5 h5 a6 h6 a7 h7 a8 h8 a9 h9 a10 h10 hc x g wu wd a tg
  unfold out0_A_6
  rw [View.read_writes_eq_canon _ _ _ hcov]
  refine canon_tiles (s := S512x1024) (e := .f32) (dxBlk x g wu wd a tg) _ ?_ hcov
  unfold kernelRun0_A
  dsimp only
  sl_unfold_words
  simp only [View.readAt_eq_ld, h1.read_unread, h2.read_unread, h3.read_unread, h4.read_unread, h5.read_unread, h6.read_unread, ld_full]
  exact ⟨store_6 x g wu wd a tg inb_S512x1024_S512x1024_0_0, trivial⟩

theorem out_A_7 (hc : cond0_0 i) : out0_A_7 (F := Ideal) c i a1 h1 a2 h2 a3 h3 a4 h4 a5 h5 a6 h6 a7 h7 a8 h8 a9 h9 a10 h10 hc x g wu wd a tg = colsBlk x g wu := by
  have hcov := cover0_A_7 (F := Ideal) c i a1 h1 a2 h2 a3 h3 a4 h4 a5 h5 a6 h6 a7 h7 a8 h8 a9 h9 a10 h10 hc x g wu wd a tg
  unfold out0_A_7
  rw [View.read_writes_eq_canon _ _ _ hcov]
  refine canon_tiles (s := S512x5632) (e := .bf16) (colsBlk x g wu) _ ?_ hcov
  unfold kernelRun0_A
  dsimp only
  sl_unfold_words
  simp only [View.readAt_eq_ld, h1.read_unread, h2.read_unread, h3.read_unread, h4.read_unread, h5.read_unread, h6.read_unread, ld_full]
  exact ⟨store_7_hi x g wu inb_S512x5632_S512x2816_0_2816, store_7_lo x g wu inb_S512x5632_S512x2816_0_0, trivial⟩

theorem out_A_8 (hc : cond0_0 i) : out0_A_8 (F := Ideal) c i a1 h1 a2 h2 a3 h3 a4 h4 a5 h5 a6 h6 a7 h7 a8 h8 a9 h9 a10 h10 hc x g wu wd a tg = lossBlk x g wu wd a tg (k0_pay13 (F := Ideal)) := by
  have hcov := cover0_A_8 (F := Ideal) c i a1 h1 a2 h2 a3 h3 a4 h4 a5 h5 a6 h6 a7 h7 a8 h8 a9 h9 a10 h10 hc x g wu wd a tg
  unfold out0_A_8
  rw [View.read_writes_eq_canon _ _ _ hcov]
  clear hcov
  unfold kernelRun0_A
  dsimp only
  sl_unfold_words
  simp only [View.readAt_eq_ld, h1.read_unread, h2.read_unread, h3.read_unread, h4.read_unread, h5.read_unread, h6.read_unread, ld_full]
  have hz : ∀ a, (![0, 0] : Fin 2 → ℕ) a = 0 := by decide
  simp only [View.readCov_fill (s := S1x128) _ _ _ _ _ hz]
  refine canon_over (s := S1x128) (e := .f32) (lossBlk x g wu wd a tg (k0_pay13 (F := Ideal))) _ _ ?_ fun y => ?_
  · exact ⟨store_8 x g wu wd a tg _ inb_S1x128_S1x128_0_0, trivial⟩
  · exact View.cover_of_tiledL (s := S1x128) _ S1x128.size (by sl_kernel_rfl) y

theorem out_A_9 (hc : cond0_0 i) : out0_A_9 (F := Ideal) c i a1 h1 a2 h2 a3 h3 a4 h4 a5 h5 a6 h6 a7 h7 a8 h8 a9 h9 a10 h10 hc x g wu wd a tg = gainBlk x g wu wd a tg (k0_pay14 (F := Ideal)) := by
  have hcov := cover0_A_9 (F := Ideal) c i a1 h1 a2 h2 a3 h3 a4 h4 a5 h5 a6 h6 a7 h7 a8 h8 a9 h9 a10 h10 hc x g wu wd a tg
  unfold out0_A_9
  rw [View.read_writes_eq_canon _ _ _ hcov]
  clear hcov
  unfold kernelRun0_A
  dsimp only
  sl_unfold_words
  simp only [View.readAt_eq_ld, h1.read_unread, h2.read_unread, h3.read_unread, h4.read_unread, h5.read_unread, h6.read_unread, ld_full]
  have hz : ∀ a, (![0, 0] : Fin 2 → ℕ) a = 0 := by decide
  simp only [View.readCov_fill (s := S1x1024) _ _ _ _ _ hz]
  refine canon_over (s := S1x1024) (e := .f32) (gainBlk x g wu wd a tg (k0_pay14 (F := Ideal))) _ _ ?_ fun y => ?_
  · exact ⟨store_9 x g wu wd a tg _ inb_S1x1024_S1x1024_0_0, trivial⟩
  · exact View.cover_of_tiledL (s := S1x1024) _ S1x1024.size (by sl_kernel_rfl) y

end Points

end Cert.Kernel3Ideal.Loss

end

end
-- ==== Proof.LossBlocks.lean ====
/-
  The result arrays of the last half-step's kernel after its run: every token's gradient and columns, the loss and the gain's
  gradient, the last two as sums over all 8192 tokens, gathered tile by tile over the 16 grid points.
-/
module

public import proofs.«01_k».proof.Proof.LossTile
public import proofs.«01_k».proof.Proof.FfnBlocks
public import proofs.«01_k».proof.Proof.Gather

@[expose] public section

noncomputable section

namespace Cert.Kernel3Ideal.Loss

open Cert.Kernel3Ideal Cert.Kernel3Ideal.Gen Cert.Kernel3Ideal.Value Idealize.ShloMosaic Idealize.ShloMosaic.ValueIdx Idealize.ShloMosaic.TcCoe Idealize.SL.Sem
  Cert.Words Cert.Norm Cert.Ffn Cert.Loss Cert.Products
open Cert.Kernel2Ideal.Ffn (rowOf colsOf colsBlk outAll colsAll)
open Cert.Gather (at0 at0_of)
open Idealize.ShloMosaic.Pipeline (Dat)

section All

variable (x : S8192x1024.Idx → EReal) (g : S1x1024.Idx → EReal) (wu : S5632x1024.Idx → EReal) (wd : S2816x1024.Idx → EReal)
  (a : S1x1024.Idx → EReal) (tg : S8192x1024.Idx → EReal)

/-- A token's row after the half-step. -/
abbrev rowEnd (s : Fin 8192) : Fin 1024 → EReal := outRow (rowOf x s) (rowOf wd) (cols (rowOf x s) (rowOf g 0) (rowOf wu))

/-- The tokens' gradients, the loss and the gain's gradient. -/
def dxAll (i : S8192x1024.Idx) : EReal := token (rowEnd x g wu wd (i 0)) (rowOf a 0) (rowOf tg (i 0)) (i 1)
def lossAll (_ : S1x128.Idx) : EReal := ∑ s, share (rowEnd x g wu wd s) (rowOf a 0) (rowOf tg s)
def gainAll (i : S1x1024.Idx) : EReal := ∑ s, arrive (rowEnd x g wu wd s) (rowOf a 0) (rowOf tg s) (i 1) * hat (rowEnd x g wu wd s) (i 1)

end All

variable (m : (ℓ : Loc nD τ sig) → Buf (Elt Ideal) ℓ) (c : Dev nD)

/-- The arrays the run starts from. -/
abbrev argX : S8192x1024.Idx → EReal := m ((c : Thread nD τ).loc main_arg0)
abbrev argG : S1x1024.Idx → EReal := m ((c : Thread nD τ).loc main_arg1)
abbrev argU : S5632x1024.Idx → EReal := m ((c : Thread nD τ).loc main_arg2)
abbrev argD : S2816x1024.Idx → EReal := m ((c : Thread nD τ).loc main_arg3)
abbrev argA : S1x1024.Idx → EReal := m ((c : Thread nD τ).loc main_arg4)
abbrev argT : S8192x1024.Idx → EReal := m ((c : Thread nD τ).loc main_arg5)

theorem index : ∀ t : Fin grid0.N, (win0_0.index t 0 = t.val ∧ win0_0.index t 1 = 0) ∧ (win0_1.index t 0 = 0 ∧ win0_1.index t 1 = 0) ∧ (win0_2.index t 0 = 0 ∧ win0_2.index t 1 = 0) ∧ (win0_3.index t 0 = 0 ∧ win0_3.index t 1 = 0) ∧ (win0_4.index t 0 = 0 ∧ win0_4.index t 1 = 0) ∧ (win0_5.index t 0 = t.val ∧ win0_5.index t 1 = 0) ∧ (win0_6.index t 0 = t.val ∧ win0_6.index t 1 = 0) ∧ (win0_7.index t 0 = t.val ∧ win0_7.index t 1 = 0) ∧ (win0_8.index t 0 = 0 ∧ win0_8.index t 1 = 0) ∧ (win0_9.index t 0 = 0 ∧ win0_9.index t 1 = 0) := by decide +kernel

/-- Token `s` of grid point `t`. -/
def at512 (t : Fin cfg0.N) (s : Fin 512) : Fin 8192 := ⟨t.val * 512 + s.val, by have := t.isLt; have : cfg0.N = 16 := N_0; omega⟩

theorem blk_x (t : Fin cfg0.N) (s : Fin 512) : rowOf (iblk m c 0 t) s = rowOf (argX m c) (at512 t s) := by
  obtain ⟨h0, h1⟩ := (index t).1
  funext d
  unfold rowOf iblk
  rw [View.read_apply]
  exact congrArg (argX m c) (ix2_of _ _ _ (by show win0_0.index t 0 * 512 + 1 * s.val = t.val * 512 + s.val; rw [h0]; omega)
    (by show win0_0.index t 1 * 1024 + 1 * d.val = d.val; rw [h1]; omega))

theorem blk_g (t : Fin cfg0.N) : rowOf (iblk m c 1 t) 0 = rowOf (argG m c) 0 := by
  obtain ⟨h0, h1⟩ := (index t).2.1
  funext d
  unfold rowOf iblk
  rw [View.read_apply]
  exact congrArg (argG m c) (ix2_of _ _ _ (by show win0_1.index t 0 * 1 + 1 * 0 = 0; rw [h0])
    (by show win0_1.index t 1 * 1024 + 1 * d.val = d.val; rw [h1]; omega))

theorem blk_wu (t : Fin cfg0.N) : rowOf (iblk m c 2 t) = rowOf (argU m c) := by
  obtain ⟨h0, h1⟩ := (index t).2.2.1
  funext k d
  unfold rowOf iblk
  rw [View.read_apply]
  exact congrArg (argU m c) (ix2_of _ _ _ (by show win0_2.index t 0 * 5632 + 1 * k.val = k.val; rw [h0]; omega)
    (by show win0_2.index t 1 * 1024 + 1 * d.val = d.val; rw [h1]; omega))

theorem blk_wd (t : Fin cfg0.N) : rowOf (iblk m c 3 t) = rowOf (argD m c) := by
  obtain ⟨h0, h1⟩ := (index t).2.2.2.1
  funext k d
  unfold rowOf iblk
  rw [View.read_apply]
  exact congrArg (argD m c) (ix2_of _ _ _ (by show win0_3.index t 0 * 2816 + 1 * k.val = k.val; rw [h0]; omega)
    (by show win0_3.index t 1 * 1024 + 1 * d.val = d.val; rw [h1]; omega))

theorem blk_a (t : Fin cfg0.N) : rowOf (iblk m c 4 t) 0 = rowOf (argA m c) 0 := by
  obtain ⟨h0, h1⟩ := (index t).2.2.2.2.1
  funext d
  unfold rowOf iblk
  rw [View.read_apply]
  exact congrArg (argA m c) (ix2_of _ _ _ (by show win0_4.index t 0 * 1 + 1 * 0 = 0; rw [h0])
    (by show win0_4.index t 1 * 1024 + 1 * d.val = d.val; rw [h1]; omega))

theorem blk_tg (t : Fin cfg0.N) (s : Fin 512) : rowOf (iblk m c 5 t) s = rowOf (argT m c) (at512 t s) := by
  obtain ⟨h0, h1⟩ := (index t).2.2.2.2.2.1
  funext d
  unfold rowOf iblk
  rw [View.read_apply]
  exact congrArg (argT m c) (ix2_of _ _ _ (by show win0_5.index t 0 * 512 + 1 * s.val = t.val * 512 + s.val; rw [h0]; omega)
    (by show win0_5.index t 1 * 1024 + 1 * d.val = d.val; rw [h1]; omega))

theorem row_end (t : Fin cfg0.N) (s : Fin 512) : rowAfter (iblk m c 0 t) (iblk m c 1 t) (iblk m c 2 t) (iblk m c 3 t) s = rowEnd (argX m c) (argG m c) (argU m c) (argD m c) (at512 t s) := by
  unfold rowAfter rowEnd colsOf
  rw [blk_x, blk_g, blk_wu, blk_wd]

/-! ## The tokens' gradients and columns -/

theorem out_dx (t : Fin cfg0.N) : (outsAt0 m c t.val t.isLt).1 = dxBlk (iblk m c 0 t) (iblk m c 1 t) (iblk m c 2 t) (iblk m c 3 t) (iblk m c 4 t) (iblk m c 5 t) := by
  by_cases h : t.val % 16 = 0
  · rw [outsAt0_A m c t h]; dsimp only; rw [out_A_6]
  · rw [outsAt0_B m c t h]; dsimp only; rw [out_B_6]

theorem out_cols (t : Fin cfg0.N) : (outsAt0 m c t.val t.isLt).2.1 = colsBlk (iblk m c 0 t) (iblk m c 1 t) (iblk m c 2 t) := by
  by_cases h : t.val % 16 = 0
  · rw [outsAt0_A m c t h]; dsimp only; rw [out_A_7]
  · rw [outsAt0_B m c t h]; dsimp only; rw [out_B_7]

theorem tile_dx (t : Fin cfg0.N) (s : Fin 512) (d : Fin 1024) : dxBlk (iblk m c 0 t) (iblk m c 1 t) (iblk m c 2 t) (iblk m c 3 t) (iblk m c 4 t) (iblk m c 5 t) (ix2 s d) = dxAll (argX m c) (argG m c) (argU m c) (argD m c) (argA m c) (argT m c) (ix2 (at512 t s) d) := by
  show token (rowAfter (iblk m c 0 t) (iblk m c 1 t) (iblk m c 2 t) (iblk m c 3 t) s) (rowOf (iblk m c 4 t) 0) (rowOf (iblk m c 5 t) s) d = _
  rw [row_end, blk_a, blk_tg]
  rfl

theorem tile_cols (t : Fin cfg0.N) (s : Fin 512) (j : Fin 5632) : colsBlk (iblk m c 0 t) (iblk m c 1 t) (iblk m c 2 t) (ix2 s j)
    = colsAll (argX m c) (argG m c) (argU m c) (ix2 (at512 t s) j) := by
  show cols (rowOf (iblk m c 0 t) s) (rowOf (iblk m c 1 t) 0) (rowOf (iblk m c 2 t)) j = _
  rw [blk_x, blk_g, blk_wu]
  rfl

/-- The grid point a token lies in. -/
def point (i : Fin 8192) : Fin cfg0.N := ⟨i.val / 512, by have : cfg0.N = 16 := N_0; omega⟩

set_option maxRecDepth 16384 in
theorem flushed_dx (t : Fin cfg0.N) : (dats m 0 c).flushed 6 t = ((cfg0.win 6).blk t).view.read (Elt Ideal) (dxAll (argX m c) (argG m c) (argU m c) (argD m c) (argA m c) (argT m c)) := by
  obtain ⟨h0, h1⟩ := (index t).2.2.2.2.2.2.1
  rw [flushed6, out_dx]
  funext y
  obtain ⟨s, d, rfl⟩ : ∃ (s : Fin 512) (d : Fin 1024), y = ix2 s d := ⟨y 0, y 1, eq_ix2 y⟩
  rw [View.read_apply]
  refine (tile_dx m c t s d).trans (congrArg (dxAll (argX m c) (argG m c) (argU m c) (argD m c) (argA m c) (argT m c)) (ix2_of _ _ _ ?_ ?_).symm)
  · show win0_6.index t 0 * 512 + 1 * s.val = t.val * 512 + s.val; rw [h0]; omega
  · show win0_6.index t 1 * 1024 + 1 * d.val = d.val; rw [h1]; omega

theorem final_dx : (dats m 0 c).arrAt 6 cfg0.N = dxAll (argX m c) (argG m c) (argU m c) (argD m c) (argA m c) (argT m c) :=
  (dats m 0 c).arrAt_eq_of_cover 6 _ (fun t _ => flushed_dx m c t) fun i => by
    refine ⟨point (i 0), flush0_6 _, ?_⟩
    obtain ⟨h0, h1⟩ := (index (point (i 0))).2.2.2.2.2.2.1
    show i ∈ ((View.whole main_v0_0).slice (win0_6.rect (point (i 0)))).set
    rw [View.set_slice_whole]
    exact mem_tile (M := 8192) (N := 1024) (B := 512) (by decide) _ _ i (by show win0_6.index (point (i 0)) 0 * 512 = _; rw [h0]; rfl)
      (by show win0_6.index (point (i 0)) 1 * 1024 = 0; rw [h1])

set_option maxRecDepth 16384 in
theorem flushed_cols (t : Fin cfg0.N) : (dats m 0 c).flushed 7 t = ((cfg0.win 7).blk t).view.read (Elt Ideal) (colsAll (argX m c) (argG m c) (argU m c)) := by
  obtain ⟨h0, h1⟩ := (index t).2.2.2.2.2.2.2.1
  rw [flushed7, out_cols]
  funext y
  obtain ⟨s, d, rfl⟩ : ∃ (s : Fin 512) (d : Fin 5632), y = ix2 s d := ⟨y 0, y 1, eq_ix2 y⟩
  rw [View.read_apply]
  refine (tile_cols m c t s d).trans (congrArg (colsAll (argX m c) (argG m c) (argU m c)) (ix2_of _ _ _ ?_ ?_).symm)
  · show win0_7.index t 0 * 512 + 1 * s.val = t.val * 512 + s.val; rw [h0]; omega
  · show win0_7.index t 1 * 5632 + 1 * d.val = d.val; rw [h1]; omega

theorem final_cols : (dats m 0 c).arrAt 7 cfg0.N = colsAll (argX m c) (argG m c) (argU m c) :=
  (dats m 0 c).arrAt_eq_of_cover 7 _ (fun t _ => flushed_cols m c t) fun i => by
    refine ⟨point (i 0), flush0_7 _, ?_⟩
    obtain ⟨h0, h1⟩ := (index (point (i 0))).2.2.2.2.2.2.2.1
    show i ∈ ((View.whole main_v0_1).slice (win0_7.rect (point (i 0)))).set
    rw [View.set_slice_whole]
    exact mem_tile (M := 8192) (N := 5632) (B := 512) (by decide) _ _ i (by show win0_7.index (point (i 0)) 0 * 512 = _; rw [h0]; rfl)
      (by show win0_7.index (point (i 0)) 1 * 5632 = 0; rw [h1])

/-! ## The loss and the gain's gradient -/

/-- A running sum over the 16 points, each of which adds a term for every token of its tile. -/
theorem sum_points (f : ∀ n, n < cfg0.N → EReal) (q : Fin 8192 → EReal)
    (first : ∀ t : Fin cfg0.N, t.val % 16 = 0 → f t.val t.isLt = ∑ s, q (at512 t s))
    (later : ∀ t : Fin cfg0.N, ¬t.val % 16 = 0 → f t.val t.isLt = f (t.val - 1) (Nat.lt_of_le_of_lt (Nat.sub_le _ _) t.isLt) + ∑ s, q (at512 t s))
    (t : Fin cfg0.N) (h : t.val = 15) : f t.val t.isLt = ∑ s, q s := by
  have hN : cfg0.N = 16 := N_0
  have tile : ∀ u : Fin cfg0.N, ∑ s, q (at512 u s) = ∑ s : Fin 512, at0 q (u.val % 16 * 512 + s.val) := fun u =>
    Finset.sum_congr rfl fun s _ => by
      have e : u.val % 16 = u.val := Nat.mod_eq_of_lt (hN ▸ u.isLt)
      rw [e]
      exact (at0_of q (u.val * 512 + s.val) (at512 u s).isLt).symm
  refine (Cert.Gather.gathered_last (T := 16) f t.val t.isLt (by omega) (fun j => ∑ s : Fin 512, at0 q (j * 512 + s.val)) ?_ ?_).trans
    (Cert.Gather.sum_tiles (by decide) q)
  · intro u hu _ h0
    rw [first ⟨u, hu⟩ h0, tile ⟨u, hu⟩, h0]
  · intro u hu _ h0
    rw [later ⟨u, hu⟩ h0, tile ⟨u, hu⟩]

theorem step_loss (t : Fin cfg0.N) (o : S1x128.Idx → EReal) (u : Fin 1) (d : Fin 128) : lossBlk (iblk m c 0 t) (iblk m c 1 t) (iblk m c 2 t) (iblk m c 3 t) (iblk m c 4 t) (iblk m c 5 t) o (ix2 u d)
    = o (ix2 u d) + ∑ s, share (rowEnd (argX m c) (argG m c) (argU m c) (argD m c) (at512 t s)) (rowOf (argA m c) 0) (rowOf (argT m c) (at512 t s)) := by
  show o (ix2 u d) + ∑ s, share (rowAfter (iblk m c 0 t) (iblk m c 1 t) (iblk m c 2 t) (iblk m c 3 t) s) (rowOf (iblk m c 4 t) 0) (rowOf (iblk m c 5 t) s) = _
  simp only [row_end, blk_a, blk_tg]

set_option maxRecDepth 16384 in
theorem last_loss (t : Fin cfg0.N) (h : t.val = 15) (u : Fin 1) (d : Fin 128) : (outsAt0 m c t.val t.isLt).2.2.1 (ix2 u d) = lossAll (argX m c) (argG m c) (argU m c) (argD m c) (argA m c) (argT m c) (ix2 u d) := by
  refine sum_points (fun n hn => (outsAt0 m c n hn).2.2.1 (ix2 u d)) (fun s => share (rowEnd (argX m c) (argG m c) (argU m c) (argD m c) s) (rowOf (argA m c) 0) (rowOf (argT m c) s)) ?_ ?_ t h
  · intro t h0
    rw [outsAt0_A m c t h0]
    dsimp only
    rw [out_A_8]
    refine (step_loss m c t _ u d).trans ?_
    rw [show k0_pay13 (F := Ideal) (ix2 u d) = 0 from zeroWord, zero_add]
  · intro t h0
    rw [outsAt0_B m c t h0]
    dsimp only
    rw [out_B_8]
    exact step_loss m c t _ u d

set_option maxRecDepth 16384 in
theorem flushed_loss (t : Fin cfg0.N) (hf : (cfg0.win 8).flush t = true) : (dats m 0 c).flushed 8 t
    = ((cfg0.win 8).blk t).view.read (Elt Ideal) (lossAll (argX m c) (argG m c) (argU m c) (argD m c) (argA m c) (argT m c)) := by
  have hN : cfg0.N = 16 := N_0
  have h15 : t.val = 15 := by have := (flush0_8 t).mp hf; have := t.isLt; omega
  rw [flushed8]
  funext y
  obtain ⟨u, d, rfl⟩ : ∃ (u : Fin 1) (d : Fin 128), y = ix2 u d := ⟨y 0, y 1, eq_ix2 y⟩
  rw [View.read_apply]
  exact last_loss m c t h15 u d

theorem final_loss : (dats m 0 c).arrAt 8 cfg0.N = lossAll (argX m c) (argG m c) (argU m c) (argD m c) (argA m c) (argT m c) :=
  (dats m 0 c).arrAt_eq_of_cover 8 _ (flushed_loss m c) fun i => by
    have hN : cfg0.N = 16 := N_0
    let t : Fin cfg0.N := ⟨15, by omega⟩
    refine ⟨t, (flush0_8 t).mpr rfl, ?_⟩
    obtain ⟨h0, h1⟩ := (index t).2.2.2.2.2.2.2.2.1
    show i ∈ ((View.whole main_v0_2).slice (win0_8.rect t)).set
    rw [View.set_slice_whole]
    exact mem_tile (M := 1) (N := 128) (B := 1) (by decide) _ _ i (by show win0_8.index t 0 * 1 = (i 0).val / 1 * 1; have i0 : (i 0).val < 1 := (i 0).isLt; rw [h0]; omega)
      (by show win0_8.index t 1 * 128 = 0; rw [h1])

theorem step_gain (t : Fin cfg0.N) (o : S1x1024.Idx → EReal) (u : Fin 1) (d : Fin 1024) : gainBlk (iblk m c 0 t) (iblk m c 1 t) (iblk m c 2 t) (iblk m c 3 t) (iblk m c 4 t) (iblk m c 5 t) o (ix2 u d)
    = o (ix2 u d) + ∑ s, arrive (rowEnd (argX m c) (argG m c) (argU m c) (argD m c) (at512 t s)) (rowOf (argA m c) 0) (rowOf (argT m c) (at512 t s)) d * hat (rowEnd (argX m c) (argG m c) (argU m c) (argD m c) (at512 t s)) d := by
  show o (ix2 u d) + ∑ s, arrive (rowAfter (iblk m c 0 t) (iblk m c 1 t) (iblk m c 2 t) (iblk m c 3 t) s) (rowOf (iblk m c 4 t) 0) (rowOf (iblk m c 5 t) s) d * hat (rowAfter (iblk m c 0 t) (iblk m c 1 t) (iblk m c 2 t) (iblk m c 3 t) s) d = _
  simp only [row_end, blk_a, blk_tg]

set_option maxRecDepth 16384 in
theorem last_gain (t : Fin cfg0.N) (h : t.val = 15) (u : Fin 1) (d : Fin 1024) : (outsAt0 m c t.val t.isLt).2.2.2 (ix2 u d) = gainAll (argX m c) (argG m c) (argU m c) (argD m c) (argA m c) (argT m c) (ix2 u d) := by
  refine sum_points (fun n hn => (outsAt0 m c n hn).2.2.2 (ix2 u d)) (fun s => arrive (rowEnd (argX m c) (argG m c) (argU m c) (argD m c) s) (rowOf (argA m c) 0) (rowOf (argT m c) s) d * hat (rowEnd (argX m c) (argG m c) (argU m c) (argD m c) s) d) ?_ ?_ t h
  · intro t h0
    rw [outsAt0_A m c t h0]
    dsimp only
    rw [out_A_9]
    refine (step_gain m c t _ u d).trans ?_
    rw [show k0_pay14 (F := Ideal) (ix2 u d) = 0 from zeroWord, zero_add]
  · intro t h0
    rw [outsAt0_B m c t h0]
    dsimp only
    rw [out_B_9]
    exact step_gain m c t _ u d

set_option maxRecDepth 16384 in
theorem flushed_gain (t : Fin cfg0.N) (hf : (cfg0.win 9).flush t = true) : (dats m 0 c).flushed 9 t
    = ((cfg0.win 9).blk t).view.read (Elt Ideal) (gainAll (argX m c) (argG m c) (argU m c) (argD m c) (argA m c) (argT m c)) := by
  obtain ⟨h0, h1⟩ := (index t).2.2.2.2.2.2.2.2.2
  have hN : cfg0.N = 16 := N_0
  have h15 : t.val = 15 := by have := (flush0_9 t).mp hf; have := t.isLt; omega
  rw [flushed9]
  funext y
  obtain ⟨u, d, rfl⟩ : ∃ (u : Fin 1) (d : Fin 1024), y = ix2 u d := ⟨y 0, y 1, eq_ix2 y⟩
  rw [View.read_apply]
  refine (last_gain m c t h15 u d).trans (congrArg (gainAll (argX m c) (argG m c) (argU m c) (argD m c) (argA m c) (argT m c)) (ix2_of _ _ _ ?_ ?_).symm)
  · show win0_9.index t 0 * 1 + 1 * u.val = u.val; rw [h0]; omega
  · show win0_9.index t 1 * 1024 + 1 * d.val = d.val; rw [h1]; omega

theorem final_gain : (dats m 0 c).arrAt 9 cfg0.N = gainAll (argX m c) (argG m c) (argU m c) (argD m c) (argA m c) (argT m c) :=
  (dats m 0 c).arrAt_eq_of_cover 9 _ (flushed_gain m c) fun i => by
    have hN : cfg0.N = 16 := N_0
    let t : Fin cfg0.N := ⟨15, by omega⟩
    refine ⟨t, (flush0_9 t).mpr rfl, ?_⟩
    obtain ⟨h0, h1⟩ := (index t).2.2.2.2.2.2.2.2.2
    show i ∈ ((View.whole main_v0_3).slice (win0_9.rect t)).set
    rw [View.set_slice_whole]
    exact mem_tile (M := 1) (N := 1024) (B := 1) (by decide) _ _ i (by show win0_9.index t 0 * 1 = (i 0).val / 1 * 1; have i0 : (i 0).val < 1 := (i 0).isLt; rw [h0]; omega)
      (by show win0_9.index t 1 * 1024 = 0; rw [h1])

end Cert.Kernel3Ideal.Loss

end

end
-- ==== Proof.LossRef.lean ====
/-
  The reference's results, stage by stage: the last half-step, the last norm and the loss at one token are the rows of the
  loss's own module, and its four results are what the kernel's arrays hold, whatever the arguments are.
-/
module

public import proofs.«01_k».proof.Proof.LossBlocks
public import proofs.«01_k».proof.Proof.FfnRef
public import proofs.«01_k».proof.Proof.Gen.Reference3Ideal.Read

@[expose] public section

noncomputable section

namespace Cert.Reference3Ideal.Read

open Cert.Reference3Ideal Cert.Reference3Ideal.Gen Idealize.ShloMosaic Idealize.ShloMosaic.ValueIdx Cert.Ffn Cert.Norm Cert.Loss Cert.Products
open Cert.Words (zeroWord)
open Cert.Kernel2Ideal.Ffn (rowOf colsAll outAll)
open Cert.Kernel3Ideal.Loss (rowEnd dxAll lossAll gainAll)

variable (x0 : S8192x1024.Idx → EReal) (x1 : S1x1024.Idx → EReal) (x2 : S5632x1024.Idx → EReal) (x3 : S2816x1024.Idx → EReal)
  (x4 : S1x1024.Idx → EReal) (x5 : S8192x1024.Idx → EReal)
variable (t : Fin 8192) (u : Fin 1) (d : Fin 1024) (j : Fin 5632)

/-! ## The half-step: the stages of the first half-step's reference -/

theorem r15 : val_main_v15 (F := Ideal) x0 x1 x2 (ix2 t j) = colsAll x0 x1 x2 (ix2 t j) := Cert.Reference2Ideal.Read.r18 x0 x1 x2 t j

theorem r23 : val_main_v23 (F := Ideal) x0 x1 x2 x3 (ix2 t d) = outAll x0 x1 x2 x3 (ix2 t d) := Cert.Reference2Ideal.Read.r26 x0 x1 x2 x3 t d

/-- A token's row after the half-step, its gain and its target. -/
abbrev ys : Fin 1024 → EReal := rowEnd x0 x1 x2 x3 t

/-! ## The last norm -/

theorem r25 : val_main_v25 (F := Ideal) x0 x1 x2 x3 (ix1 t) = ∑ e, ys x0 x1 x2 x3 t e * ys x0 x1 x2 x3 t e := by
  rw [val_main_v25_apply]
  refine (congrArg (· + _) zeroWord).trans ((zero_add _).trans (Finset.sum_congr rfl fun e _ => ?_))
  refine (at2 (val_main_v24 (F := Ideal) x0 x1 x2 x3) _ t e rfl rfl).trans ?_
  exact congrArg₂ (· * ·) (r23 x0 x1 x2 x3 t e) (r23 x0 x1 x2 x3 t e)

theorem r30 : val_main_v30 (F := Ideal) x0 x1 x2 x3 (ix2 t u) = msq (ys x0 x1 x2 x3 t) := by
  show Ideal.div (val_main_v26 (F := Ideal) x0 x1 x2 x3 (ix2 t u)) (val_main_v27 (F := Ideal) (ix2 t u)) + val_main_v29 (F := Ideal) (ix2 t u) = _
  rw [val_main_v26_apply (F := Ideal), val_main_v27_apply (F := Ideal), val_main_v29_apply (F := Ideal)]
  exact congrArg (fun s => Ideal.div s width + eps) ((at1 (val_main_v25 (F := Ideal) x0 x1 x2 x3) _ t rfl).trans (r25 x0 x1 x2 x3 t))

theorem r31 : val_main_v31 (F := Ideal) x0 x1 x2 x3 (ix2 t u) = inv (ys x0 x1 x2 x3 t) := congrArg Ideal.rsqrt (r30 x0 x1 x2 x3 t u)

theorem r34 : val_main_v34 (F := Ideal) x0 x1 x2 x3 (ix2 t u)
    = Ideal.ofBits .f32 0xBF000000#32 * Ideal.div (inv (ys x0 x1 x2 x3 t)) (msq (ys x0 x1 x2 x3 t)) := by
  show val_main_v33 (F := Ideal) (ix2 t u) * Ideal.div (val_main_v31 (F := Ideal) x0 x1 x2 x3 (ix2 t u)) (val_main_v30 (F := Ideal) x0 x1 x2 x3 (ix2 t u)) = _
  rw [val_main_v33_apply (F := Ideal), r31, r30]
  rfl

theorem r35 : val_main_v35 (F := Ideal) x0 x1 x2 x3 (ix2 t d) = inv (ys x0 x1 x2 x3 t) := by
  rw [val_main_v35_apply (F := Ideal)]
  exact (at2 (val_main_v31 (F := Ideal) x0 x1 x2 x3) _ t 0 rfl rfl).trans (r31 x0 x1 x2 x3 t 0)

theorem r36 : val_main_v36 (F := Ideal) x0 x1 x2 x3 (ix2 t d) = hat (ys x0 x1 x2 x3 t) d :=
  congrArg₂ (· * ·) (r23 x0 x1 x2 x3 t d) (r35 x0 x1 x2 x3 t d)

/-- The distance of a token from its target, and the gradient arriving at its normed row. -/
abbrev offs : Fin 1024 → EReal := off (ys x0 x1 x2 x3 t) (rowOf x4 0) (rowOf x5 t)
abbrev arrivals : Fin 1024 → EReal := arrive (ys x0 x1 x2 x3 t) (rowOf x4 0) (rowOf x5 t)

theorem r39 : val_main_v39 (F := Ideal) x0 x1 x2 x3 x4 x5 (ix2 t d) = offs x0 x1 x2 x3 x4 x5 t d := by
  refine congrArg (· - x5 (ix2 t d)) (congrArg₂ (· * ·) (r36 x0 x1 x2 x3 t d) ?_)
  rw [val_main_v37_apply (F := Ideal)]
  exact at2 x4 _ 0 d rfl rfl

/-! ## The loss -/

theorem r43 : val_main_v43 (F := Ideal) x0 x1 x2 x3 x4 x5 (ix1 t) = ∑ e, offs x0 x1 x2 x3 x4 x5 t e * offs x0 x1 x2 x3 x4 x5 t e := by
  rw [val_main_v43_apply]
  refine (congrArg (· + _) zeroWord).trans ((zero_add _).trans (Finset.sum_congr rfl fun e _ => ?_))
  refine (at2 (val_main_v40 (F := Ideal) x0 x1 x2 x3 x4 x5) _ t e rfl rfl).trans ?_
  exact congrArg₂ (· * ·) (r39 x0 x1 x2 x3 x4 x5 t e) (r39 x0 x1 x2 x3 x4 x5 t e)

theorem r45 : val_main_v45 (F := Ideal) x0 x1 x2 x3 x4 x5 (ix1 t)
    = Ideal.div (∑ e, offs x0 x1 x2 x3 x4 x5 t e * offs x0 x1 x2 x3 x4 x5 t e) width := by
  show Ideal.div (val_main_v43 (F := Ideal) x0 x1 x2 x3 x4 x5 (ix1 t)) (val_main_v44 (F := Ideal) (ix1 t)) = _
  rw [r43, val_main_v44_apply (F := Ideal)]
  rfl

/-- The entries of an array of one dimension, by number. -/
def line : Fin 8192 ≃ S8192.Idx where
  toFun t := ix1 t
  invFun i := i 0
  left_inv _ := rfl
  right_inv i := (eq_ix1 i).symm

theorem r47 (i : S_.Idx) : val_main_v47 (F := Ideal) x0 x1 x2 x3 x4 x5 i
    = ∑ s, share (ys x0 x1 x2 x3 s) (rowOf x4 0) (rowOf x5 s) := by
  refine Eq.trans (congrArg (Ideal.ofBits .f32 0x3F000000#32 * ·) ?_) (share_sum fun s => ∑ e, offs x0 x1 x2 x3 x4 x5 s e * offs x0 x1 x2 x3 x4 x5 s e)
  rw [val_main_v46_apply]
  refine (congrArg (· + _) zeroWord).trans ((zero_add _).trans ?_)
  rw [← Equiv.sum_comp line]
  exact Finset.sum_congr rfl fun s _ => r45 x0 x1 x2 x3 x4 x5 s

/-! ## The gradients -/

theorem r53 : val_main_v53 (F := Ideal) x0 x1 x2 x3 x4 x5 (ix2 t d) = arrivals x0 x1 x2 x3 x4 x5 t d := by
  refine Eq.trans ?_ (arrive_eq _ _ _ d).symm
  refine congrArg₂ (· * ·) ?_ (congrArg₂ (· * ·) ?_ (r39 x0 x1 x2 x3 x4 x5 t d))
  · rw [val_main_v52_apply (F := Ideal)]
    refine (at1 (val_main_v51 (F := Ideal)) _ t rfl).trans ?_
    show Ideal.div (val_main_v49 (F := Ideal) (ix1 t)) (val_main_v50 (F := Ideal) (ix1 t)) = _
    rw [val_main_v49_apply (F := Ideal), val_main_v50_apply (F := Ideal)]
    rfl
  · rw [val_main_v41_apply (F := Ideal)]
    rfl

theorem r56 : val_main_v56 (F := Ideal) x0 x1 x2 x3 x4 x5 (ix2 u d) = gainAll x0 x1 x2 x3 x4 x5 (ix2 u d) := by
  rw [val_main_v56_apply (F := Ideal)]
  refine (at1 (val_main_v55 (F := Ideal) x0 x1 x2 x3 x4 x5) _ d (by show u.val * 1024 + d.val = d.val; omega)).trans ?_
  rw [val_main_v55_apply]
  refine (congrArg (· + _) zeroWord).trans ((zero_add _).trans (Finset.sum_congr rfl fun t _ => ?_))
  refine (at2 (val_main_v54 (F := Ideal) x0 x1 x2 x3 x4 x5) _ t d rfl rfl).trans ?_
  exact (congrArg₂ (· * ·) (r36 x0 x1 x2 x3 t d) (r53 x0 x1 x2 x3 x4 x5 t d)).trans (mul_comm _ _)

/-- The gradient of the normalised row. -/
abbrev us : Fin 1024 → EReal := fun e => arrivals x0 x1 x2 x3 x4 x5 t e * rowOf x4 0 e

theorem r58 : val_main_v58 (F := Ideal) x0 x1 x2 x3 x4 x5 (ix2 t d) = us x0 x1 x2 x3 x4 x5 t d := by
  refine congrArg₂ (· * ·) (r53 x0 x1 x2 x3 x4 x5 t d) ?_
  rw [val_main_v57_apply (F := Ideal)]
  exact at2 x4 _ 0 d rfl rfl

theorem r60 : val_main_v60 (F := Ideal) x0 x1 x2 x3 x4 x5 (ix1 t) = ∑ e, ys x0 x1 x2 x3 t e * us x0 x1 x2 x3 x4 x5 t e := by
  rw [val_main_v60_apply]
  refine (congrArg (· + _) zeroWord).trans ((zero_add _).trans (Finset.sum_congr rfl fun e _ => ?_))
  refine (at2 (val_main_v59 (F := Ideal) x0 x1 x2 x3 x4 x5) _ t e rfl rfl).trans ?_
  exact congrArg₂ (· * ·) (r23 x0 x1 x2 x3 t e) (r58 x0 x1 x2 x3 x4 x5 t e)

theorem r66 : val_main_v66 (F := Ideal) x0 x1 x2 x3 x4 x5 (ix2 t u) = rootFactor (ys x0 x1 x2 x3 t) (us x0 x1 x2 x3 x4 x5 t) := by
  show Ideal.div (val_main_v61 (F := Ideal) x0 x1 x2 x3 x4 x5 (ix2 t u) * val_main_v34 (F := Ideal) x0 x1 x2 x3 (ix2 t u)) (val_main_v65 (F := Ideal) (ix2 t u)) = _
  rw [val_main_v61_apply (F := Ideal), r34, val_main_v65_apply (F := Ideal)]
  exact congrArg (fun s => Ideal.div (s * (Ideal.ofBits .f32 0xBF000000#32 * Ideal.div (inv (ys x0 x1 x2 x3 t)) (msq (ys x0 x1 x2 x3 t)))) width)
    ((at1 (val_main_v60 (F := Ideal) x0 x1 x2 x3 x4 x5) _ t (by show t.val * 1 + u.val = t.val; omega)).trans (r60 x0 x1 x2 x3 x4 x5 t))

theorem r68 : val_main_v68 (F := Ideal) x0 x1 x2 x3 x4 x5 (ix2 t d) = rootFactor (ys x0 x1 x2 x3 t) (us x0 x1 x2 x3 x4 x5 t) := by
  rw [val_main_v68_apply (F := Ideal)]
  refine (at1 (val_main_v67 (F := Ideal) x0 x1 x2 x3 x4 x5) _ t rfl).trans ?_
  rw [val_main_v67_apply]
  refine (congrArg (· + _) zeroWord).trans ((zero_add _).trans ?_)
  rw [Fin.sum_univ_one]
  exact (at2 (val_main_v66 (F := Ideal) x0 x1 x2 x3 x4 x5) _ t 0 rfl rfl).trans (r66 x0 x1 x2 x3 x4 x5 t 0)

theorem r62 : val_main_v62 (F := Ideal) x0 x1 x2 x3 (ix2 t d) = inv (ys x0 x1 x2 x3 t) := by
  rw [val_main_v62_apply (F := Ideal)]
  exact (at2 (val_main_v31 (F := Ideal) x0 x1 x2 x3) _ t 0 rfl rfl).trans (r31 x0 x1 x2 x3 t 0)

theorem r72 : val_main_v72 (F := Ideal) x0 x1 x2 x3 x4 x5 (ix2 t d) = dxAll x0 x1 x2 x3 x4 x5 (ix2 t d) := by
  refine Eq.trans ?_ (back_eq (ys x0 x1 x2 x3 t) (us x0 x1 x2 x3 x4 x5 t) d).symm
  exact congrArg₂ (· + ·) (congrArg₂ (· + ·) (congrArg₂ (· * ·) (r58 x0 x1 x2 x3 x4 x5 t d) (r62 x0 x1 x2 x3 t d))
    (congrArg₂ (· * ·) (r23 x0 x1 x2 x3 t d) (r68 x0 x1 x2 x3 x4 x5 t d))) (congrArg₂ (· * ·) (r68 x0 x1 x2 x3 x4 x5 t d) (r23 x0 x1 x2 x3 t d))

/-! ## The results -/

theorem token_ref : val_main_v72 (F := Ideal) x0 x1 x2 x3 x4 x5 = dxAll x0 x1 x2 x3 x4 x5 := by
  funext i
  obtain ⟨t, d, rfl⟩ : ∃ (t : Fin 8192) (d : Fin 1024), i = ix2 t d := ⟨i 0, i 1, eq_ix2 i⟩
  exact r72 x0 x1 x2 x3 x4 x5 t d

theorem cols_ref : val_main_v73 (F := Ideal) x0 x1 x2 = colsAll x0 x1 x2 := by
  funext i
  obtain ⟨t, j, rfl⟩ : ∃ (t : Fin 8192) (j : Fin 5632), i = ix2 t j := ⟨i 0, i 1, eq_ix2 i⟩
  exact r15 x0 x1 x2 t j

theorem loss_ref : val_main_v74 (F := Ideal) x0 x1 x2 x3 x4 x5 = lossAll x0 x1 x2 x3 x4 x5 := by
  funext i
  rw [val_main_v74_apply (F := Ideal), r47]
  rfl

theorem gain_ref : val_main_v56 (F := Ideal) x0 x1 x2 x3 x4 x5 = gainAll x0 x1 x2 x3 x4 x5 := by
  funext i
  obtain ⟨u, d, rfl⟩ : ∃ (u : Fin 1) (d : Fin 1024), i = ix2 u d := ⟨i 0, i 1, eq_ix2 i⟩
  exact r56 x0 x1 x2 x3 x4 x5 u d

end Cert.Reference3Ideal.Read

end
-- ==== Proof.LossClaims.lean ====
/-
  The claims about the last half-step's kernel with the loss: from any arguments it ends with the results of the plain program.
-/
module

public import proofs.«01_k».proof.Defs
public import proofs.«01_k».proof.Proof.LossRef
public import proofs.«01_k».proof.Proof.Gen.Reference3Ideal.Run
public import Idealize.ShloMosaic.Adequacy
public import Idealize.ShloMosaic.Init

@[expose] public section

noncomputable section

namespace Cert.LossClaims

open Idealize.ShloMosaic Idealize.ShloMosaic.TcCoe Idealize.SL.Sem

theorem frame_reference : Cert.quiescent_Reference3Ideal := fun m ρ _ =>
  (θ_run Cert.Reference3Ideal.defs _ _).mono (fun r h => ⟨fun c => (h c).2.2.2.2, sem_eq_zero_of_no_sems (by decide) r.2⟩)
    (Cert.Reference3Ideal.Value.run (F := Ideal) m ρ)

theorem algebraic : Cert.algebraic_Kernel3Ideal_Reference3Ideal := by
  intro m ρ m' ρ' _ hagree
  refine ⟨_, _, _, _, Cert.Kernel3Ideal.Value.run_blocks (F := Ideal) m ρ, ?_⟩
  refine (θ_run Cert.Reference3Ideal.defs _ _).mono (fun _ h c => ?_) (Cert.Reference3Ideal.Value.run (F := Ideal) m' ρ')
  obtain ⟨h0, h1, h2, h3, h4, h5⟩ := hagree c
  refine ⟨(h c).1.trans ?_, (h c).2.1.trans ?_, (h c).2.2.1.trans ?_, (h c).2.2.2.1.trans ?_, (h c).2.2.2.2⟩
  · rw [Cert.Reference3Ideal.Read.val_main_v72_eq, h0, h1, h2, h3, h4, h5, Cert.Kernel3Ideal.Loss.final_dx]
    exact Cert.Reference3Ideal.Read.token_ref _ _ _ _ _ _
  · rw [Cert.Reference3Ideal.Read.val_main_v73_eq, h0, h1, h2, Cert.Kernel3Ideal.Loss.final_cols]
    exact Cert.Reference3Ideal.Read.cols_ref _ _ _
  · rw [Cert.Reference3Ideal.Read.val_main_v74_eq, h0, h1, h2, h3, h4, h5, Cert.Kernel3Ideal.Loss.final_loss]
    exact Cert.Reference3Ideal.Read.loss_ref _ _ _ _ _ _
  · rw [Cert.Reference3Ideal.Read.val_main_v56_eq, h0, h1, h2, h3, h4, h5, Cert.Kernel3Ideal.Loss.final_gain]
    exact Cert.Reference3Ideal.Read.gain_ref _ _ _ _ _ _

end Cert.LossClaims

end
-- ==== Proof.MixTile.lean ====
/-
  What one grid point of each of the mixer's two projection kernels leaves in its result blocks, as functions of its input
  blocks: the four branches' columns and the normed tokens of the forward kernel, and the tokens' gradients of the backward
  kernel with the tokens' part of the gain's gradient added to what the block held — to zeros at the first point.
-/
module

public import proofs.«01_k».proof.Proof.MixRows
public import proofs.«01_k».proof.Proof.Gen.Kernel4Ideal.Frame
public import Idealize.ShloMosaic.Lib.Tactic

@[expose] public section

noncomputable section

namespace Cert.Kernel4Ideal.Mix

open Cert.Kernel4Ideal Cert.Kernel4Ideal.Gen Idealize.ShloMosaic Idealize.ShloMosaic.ValueIdx Idealize.ShloMosaic.TcCoe Idealize.SL.Sem
  Cert.Words Cert.Norm Cert.Products Cert.Mix
open Cert.Ffn (normed)

/-! ## The forward kernel -/

section Forward

variable (x : Vec Ideal S512x1024 .f32) (g : Vec Ideal S1x1024 .f32) (w : Vec Ideal S1024x6144 .bf16)

theorem fwd_normed (t : Fin 512) (d : Fin 1024) : k0_pay4 (F := Ideal) x g (ix2 t d) = normed (rowOf x t) (rowOf g 0) d := by
  unfold k0_pay4
  show x (ix2 t d) * broadcastTo _ _ _ _ * broadcastTo _ _ _ _ = _
  rw [spreadCol _ _ (by decide), spreadRow _ _ (by decide)]
  show _ * Ideal.rsqrt (Ideal.div (shapeCast _ _ _ _) width + eps) * _ = _
  exact congrArg (fun s => _ * Ideal.rsqrt (Ideal.div s width + eps) * _) (rowSum (mulf x x) _ _ _ _ t 0)

/-- A band of the projection's columns, of the block of tokens. -/
def bandBlk (o n : ℕ) (h : o + n ≤ 6144) (i : (Mat 512 n).Idx) : EReal := proj (rowOf x (i 0)) (rowOf g 0) (rowOf w) (band o n h (i 1))

/-- The product of the normed tokens with a band of the weights. -/
theorem fwd_band (o n : ℕ) (h : o + n ≤ 6144) (inb) (t : Fin 512) (k : Fin n) :
    matmul (F := Ideal) (φ₂ := .bf16) (DotDims.plain 512 1024 n) none (k0_pay4 (F := Ideal) x g) (View.ld w (Rect.unit (s := S1024x6144) ![0, o] ![1024, n] inb))
      (constant (Mat 512 n) .f32 0x00000000#32) (ix2 t k) = bandBlk x g w o n h (ix2 t k) := by
  refine (rows_cols _ _ t k).trans ?_
  show _ = ∑ d, normed (rowOf x t) (rowOf g 0) d * rowOf w d (band o n h k)
  refine Finset.sum_congr rfl fun d _ => congrArg₂ (· * ·) (fwd_normed x g t d) ?_
  exact ld_block w 0 o inb d k d (band o n h k) (Nat.zero_add _).symm rfl

/-- The normed block. -/
def normedBlk (i : S512x1024.Idx) : EReal := normed (rowOf x (i 0)) (rowOf g 0) (i 1)

theorem out_3 : out0_3 (F := Ideal) x g w = bandBlk x g w 0 1024 (by decide) := by
  unfold out0_3
  rw [ld_whole, ld_whole]
  refine canon_tiles (s := S512x1024) (e := .f32) (bandBlk x g w 0 1024 (by decide)) _ ?_ (cover0_3 _)
  refine ⟨fun y => ?_, trivial⟩
  obtain ⟨t, k, rfl⟩ : ∃ (t : Fin 512) (k : Fin 1024), y = ix2 t k := ⟨y 0, y 1, eq_ix2 y⟩
  rw [emb_block 0 0 _ t k t k (Nat.zero_add _).symm (Nat.zero_add _).symm]
  exact fwd_band x g w 0 1024 _ _ t k

theorem out_4 : out0_4 (F := Ideal) x g w = bandBlk x g w 1024 1536 (by decide) := by
  unfold out0_4
  rw [ld_whole, ld_whole]
  refine canon_tiles (s := S512x1536) (e := .bf16) (bandBlk x g w 1024 1536 (by decide)) _ ?_ (cover0_4 _)
  refine ⟨fun y => ?_, trivial⟩
  obtain ⟨t, k, rfl⟩ : ∃ (t : Fin 512) (k : Fin 1536), y = ix2 t k := ⟨y 0, y 1, eq_ix2 y⟩
  rw [emb_block 0 0 _ t k t k (Nat.zero_add _).symm (Nat.zero_add _).symm]
  exact fwd_band x g w 1024 1536 _ _ t k

theorem out_5 : out0_5 (F := Ideal) x g w = bandBlk x g w 2560 512 (by decide) := by
  unfold out0_5
  rw [ld_whole, ld_whole]
  refine canon_tiles (s := S512x512) (e := .bf16) (bandBlk x g w 2560 512 (by decide)) _ ?_ (cover0_5 _)
  refine ⟨fun y => ?_, trivial⟩
  obtain ⟨t, k, rfl⟩ : ∃ (t : Fin 512) (k : Fin 512), y = ix2 t k := ⟨y 0, y 1, eq_ix2 y⟩
  rw [emb_block 0 0 _ t k t k (Nat.zero_add _).symm (Nat.zero_add _).symm]
  exact fwd_band x g w 2560 512 _ _ t k

/-- A third of the gates' band, in its place. -/
theorem gate_third (o : ℕ) (ho : o + 1024 ≤ 3072) (inb) (inb') (y : (Mat 512 1024).Idx) :
    matmul (F := Ideal) (φ₂ := .bf16) (DotDims.plain 512 1024 1024) none (k0_pay4 (F := Ideal) x g) (View.ld w (Rect.unit (s := S1024x6144) ![0, 3072 + o] ![1024, 1024] inb))
      (constant (Mat 512 1024) .f32 0x00000000#32) y
      = bandBlk x g w 3072 3072 (by decide) ((Rect.unit (s := S512x3072) ![0, o] ![512, 1024] inb').emb y) := by
  obtain ⟨t, k, rfl⟩ : ∃ (t : Fin 512) (k : Fin 1024), y = ix2 t k := ⟨y 0, y 1, eq_ix2 y⟩
  rw [emb_block 0 o inb' t k t ⟨o + k.val, by omega⟩ (Nat.zero_add _).symm rfl]
  refine (fwd_band x g w (3072 + o) 1024 (by omega) inb t k).trans (congrArg (proj (rowOf x t) (rowOf g 0) (rowOf w)) (Fin.ext ?_))
  show 3072 + o + k.val = 3072 + (o + k.val)
  omega

theorem out_6 : out0_6 (F := Ideal) x g w = bandBlk x g w 3072 3072 (by decide) := by
  unfold out0_6 k0_pay8
  rw [ld_whole, ld_whole]
  refine canon_tiles (s := S512x3072) (e := .bf16) (bandBlk x g w 3072 3072 (by decide)) _ ?_ (cover0_6 _ _ _)
  exact ⟨gate_third x g w 2048 (by decide) inb_S1024x6144_S1024x1024_0_5120 inb_S512x3072_S512x1024_0_2048,
    gate_third x g w 1024 (by decide) inb_S1024x6144_S1024x1024_0_4096 inb_S512x3072_S512x1024_0_1024,
    gate_third x g w 0 (by decide) inb_S1024x6144_S1024x1024_0_3072 inb_S512x3072_S512x1024_0_0, trivial⟩

theorem out_7 : out0_7 (F := Ideal) x g w = normedBlk x g := by
  unfold out0_7
  rw [ld_whole, ld_whole]
  refine canon_tiles (s := S512x1024) (e := .bf16) (normedBlk x g) _ ?_ (cover0_7 _)
  refine ⟨fun y => ?_, trivial⟩
  obtain ⟨t, k, rfl⟩ : ∃ (t : Fin 512) (k : Fin 1024), y = ix2 t k := ⟨y 0, y 1, eq_ix2 y⟩
  rw [emb_block 0 0 _ t k t k (Nat.zero_add _).symm (Nat.zero_add _).symm]
  exact fwd_normed x g t k

end Forward

/-! ## The backward kernel -/

section Backward

variable (x r : Vec Ideal S512x1024 .f32) (qa : Vec Ideal S512x1024 .bf16) (qb : Vec Ideal S512x1536 .bf16) (qc : Vec Ideal S512x512 .bf16)
  (qe : Vec Ideal S512x3072 .bf16) (g : Vec Ideal S1x1024 .f32) (w : Vec Ideal S1024x6144 .bf16)

theorem bwd_inv (t : Fin 512) (u : Fin 1) : k1_pay4 (F := Ideal) x (ix2 t u) = inv (rowOf x t) := by
  unfold k1_pay4
  exact congrArg (fun s => Ideal.rsqrt (Ideal.div s width + eps)) (rowSum (mulf x x) _ _ _ _ t u)

theorem bwd_hat (t : Fin 512) (d : Fin 1024) : k1_pay5 (F := Ideal) x (ix2 t d) = hat (rowOf x t) d := by
  unfold k1_pay5
  show x (ix2 t d) * broadcastTo _ _ _ _ = _
  rw [spreadCol _ _ (by decide), bwd_inv]
  rfl

/-- A token's gradient of its projection. -/
abbrev colsOf (t : Fin 512) : Fin 6144 → EReal := join (rowOf qa t) (rowOf qb t) (rowOf qc t) (rowOf qe t)

/-- The product of a branch's gradient with its band of the weights. -/
theorem bwd_band (o n : ℕ) (h : o + n ≤ 6144) (inb) (q : FVec Ideal (Mat 512 n) .bf16) (t : Fin 512) (d : Fin 1024) :
    matmul (F := Ideal) (φ₂ := .bf16) (DotDims.transposedRhs 512 n 1024) none q (View.ld w (Rect.unit (s := S1024x6144) ![0, o] ![1024, n] inb))
      (constant (Mat 512 1024) .f32 0x00000000#32) (ix2 t d) = ∑ k, q (ix2 t k) * rowOf w d (band o n h k) :=
  (rows_rows _ _ t d).trans (Finset.sum_congr rfl fun k _ => congrArg _ (ld_block w 0 o inb d k d (band o n h k) (Nat.zero_add _).symm rfl))

/-- The normed tokens' gradient the kernel holds, and its product with the gain. -/
abbrev dnormedT : FVec Ideal S512x1024 .f32 :=
  k1_pay6 qa (View.ld w (Rect.unit (s := S1024x6144) ![0, 0] S1024x1024.size inb_S1024x6144_S1024x1024_0_0))
    qb (View.ld w (Rect.unit (s := S1024x6144) ![0, 1024] S1024x1536.size inb_S1024x6144_S1024x1536_0_1024))
    qc (View.ld w (Rect.unit (s := S1024x6144) ![0, 2560] S1024x512.size inb_S1024x6144_S1024x512_0_2560))
    qe (View.ld w (Rect.unit (s := S1024x6144) ![0, 3072] S1024x3072.size inb_S1024x6144_S1024x3072_0_3072))
abbrev dhatT : FVec Ideal S512x1024 .f32 :=
  k1_pay7 qa (View.ld w (Rect.unit (s := S1024x6144) ![0, 0] S1024x1024.size inb_S1024x6144_S1024x1024_0_0))
    qb (View.ld w (Rect.unit (s := S1024x6144) ![0, 1024] S1024x1536.size inb_S1024x6144_S1024x1536_0_1024))
    qc (View.ld w (Rect.unit (s := S1024x6144) ![0, 2560] S1024x512.size inb_S1024x6144_S1024x512_0_2560))
    qe (View.ld w (Rect.unit (s := S1024x6144) ![0, 3072] S1024x3072.size inb_S1024x6144_S1024x3072_0_3072)) g

theorem bwd_dnormed (t : Fin 512) (d : Fin 1024) : dnormedT qa qb qc qe w (ix2 t d) = dnormed (rowOf w) (colsOf qa qb qc qe t) d := by
  unfold dnormedT k1_pay6 dnormed colsOf
  rw [sum_bands]
  simp only [join_conv, join_att, join_mem, join_gate]
  exact congrArg₂ (· + ·) (congrArg₂ (· + ·) (congrArg₂ (· + ·) (bwd_band w 0 1024 _ _ qa t d) (bwd_band w 1024 1536 _ _ qb t d))
    (bwd_band w 2560 512 _ _ qc t d)) (bwd_band w 3072 3072 _ _ qe t d)

theorem bwd_dhat (t : Fin 512) (d : Fin 1024) : dhatT qa qb qc qe g w (ix2 t d) = dnormed (rowOf w) (colsOf qa qb qc qe t) d * rowOf g 0 d := by
  unfold dhatT k1_pay7
  show dnormedT qa qb qc qe w (ix2 t d) * broadcastTo _ _ _ _ = _
  rw [spreadRow _ _ (by decide), bwd_dnormed]

theorem bwd_token (t : Fin 512) (d : Fin 1024) : k1_pay1 (F := Ideal) (k1_pay4 x) (k1_pay5 x) r (dhatT qa qb qc qe g w) (ix2 t d)
    = dtoken (rowOf x t) (rowOf g 0) (rowOf r t) (rowOf w) (colsOf qa qb qc qe t) d := by
  have hu := bwd_dhat qa qb qc qe g w t
  generalize dhatT qa qb qc qe g w = u at hu ⊢
  unfold k1_pay1
  show r (ix2 t d) + broadcastTo S512x1024 (k1_pay4 (F := Ideal) x) _ (ix2 t d)
    * (u (ix2 t d) - k1_pay5 (F := Ideal) x (ix2 t d)
      * broadcastTo S512x1024 (divf (F := Ideal) (φ := .f32) (shapeCast S512x1 _ _) (broadcast S512x1 _)) _ (ix2 t d)) = _
  rw [spreadCol _ _ (by decide), spreadCol _ _ (by decide), bwd_inv, bwd_hat, hu]
  unfold dtoken back
  refine congrArg (fun s => r (ix2 t d) + inv (rowOf x t) * (dnormed (rowOf w) (colsOf qa qb qc qe t) d * rowOf g 0 d - hat (rowOf x t) d * Ideal.div s width))
    ((rowSum (mulf (F := Ideal) u (k1_pay5 x)) _ _ _ _ t 0).trans (Finset.sum_congr rfl fun e _ => ?_))
  exact congrArg₂ (· * ·) (hu e) (bwd_hat x t e)

theorem bwd_gain (o : Vec Ideal S1x1024 .f32) (u : Fin 1) (d : Fin 1024) : k1_pay3 (F := Ideal) (k1_pay5 x) (dnormedT qa qb qc qe w) o (ix2 u d)
    = o (ix2 u d) + ∑ t, dgain (rowOf x t) (rowOf w) (colsOf qa qb qc qe t) d := by
  have hn := bwd_dnormed qa qb qc qe w
  generalize dnormedT qa qb qc qe w = v at hn ⊢
  unfold k1_pay3
  rw [shapeCast_self]
  refine congrArg (o (ix2 u d) + ·) ((colSum _ _ _ _ _ u d).trans (Finset.sum_congr rfl fun t _ => ?_))
  exact congrArg₂ (· * ·) (hn t d) (bwd_hat x t d)

/-- The two result blocks. -/
def tokenBlk (y : S512x1024.Idx) : EReal :=
  dtoken (rowOf x (y 0)) (rowOf g 0) (rowOf r (y 0)) (rowOf w) (colsOf qa qb qc qe (y 0)) (y 1)
def gainBlk (o : S1x1024.Idx → EReal) (y : S1x1024.Idx) : EReal :=
  o y + ∑ t, dgain (rowOf x t) (rowOf w) (colsOf qa qb qc qe t) (y 1)

theorem store_8 (inb) (y : (Rect.unit (s := S512x1024) ![0, 0] ![512, 1024] inb).shape.Idx) :
    k1_pay1 (F := Ideal) (k1_pay4 x) (k1_pay5 x) r (dhatT qa qb qc qe g w) y
      = tokenBlk x r qa qb qc qe g w ((Rect.unit (s := S512x1024) ![0, 0] ![512, 1024] inb).emb y) := by
  obtain ⟨t, d, rfl⟩ : ∃ (t : Fin 512) (d : Fin 1024), y = ix2 t d := ⟨y 0, y 1, eq_ix2 y⟩
  rw [emb_block 0 0 _ t d t d (Nat.zero_add _).symm (Nat.zero_add _).symm]
  exact bwd_token x r qa qb qc qe g w t d

theorem store_9 (o : Vec Ideal S1x1024 .f32) (inb) (y : (Rect.unit (s := S1x1024) ![0, 0] ![1, 1024] inb).shape.Idx) :
    k1_pay3 (F := Ideal) (k1_pay5 x) (dnormedT qa qb qc qe w) o y
      = gainBlk x qa qb qc qe w o ((Rect.unit (s := S1x1024) ![0, 0] ![1, 1024] inb).emb y) := by
  obtain ⟨u, d, rfl⟩ : ∃ (u : Fin 1) (d : Fin 1024), y = ix2 u d := ⟨y 0, y 1, eq_ix2 y⟩
  rw [emb_block 0 0 _ u d u d (Nat.zero_add _).symm (Nat.zero_add _).symm]
  exact bwd_gain x qa qb qc qe w o u d

variable (c : Dev nD) (i : grid1.Coords) (a1 : Memref sig .tc .vmem S512x1024 .f32) (h1 : a1.IsWhole) (a2 : Memref sig .tc .vmem S512x1024 .f32) (h2 : a2.IsWhole)
  (a3 : Memref sig .tc .vmem S512x1024 .bf16) (h3 : a3.IsWhole) (a4 : Memref sig .tc .vmem S512x1536 .bf16) (h4 : a4.IsWhole)
  (a5 : Memref sig .tc .vmem S512x512 .bf16) (h5 : a5.IsWhole) (a6 : Memref sig .tc .vmem S512x3072 .bf16) (h6 : a6.IsWhole)
  (a7 : Memref sig .tc .vmem S1x1024 .f32) (h7 : a7.IsWhole) (a8 : Memref sig .tc .vmem S1024x6144 .bf16) (h8 : a8.IsWhole)
  (a9 : Memref sig .tc .vmem S512x1024 .f32) (h9 : a9.IsWhole) (a10 : Memref sig .tc .vmem S1x1024 .f32) (h10 : a10.IsWhole)

theorem out_A_8 (hc : cond1_0 i) : out1_A_8 (F := Ideal) c i a1 h1 a2 h2 a3 h3 a4 h4 a5 h5 a6 h6 a7 h7 a8 h8 a9 h9 a10 h10 hc x r qa qb qc qe g w
    = tokenBlk x r qa qb qc qe g w := by
  have hcov := cover1_A_8 (F := Ideal) c i a1 h1 a2 h2 a3 h3 a4 h4 a5 h5 a6 h6 a7 h7 a8 h8 a9 h9 a10 h10 hc x r qa qb qc qe g w
  unfold out1_A_8
  rw [View.read_writes_eq_canon _ _ _ hcov]
  refine canon_tiles (s := S512x1024) (e := .f32) (tokenBlk x r qa qb qc qe g w) _ ?_ hcov
  unfold kernelRun1_A
  dsimp only
  sl_unfold_words
  simp only [View.readAt_eq_ld, h1.read_unread, h2.read_unread, h3.read_unread, h4.read_unread, h5.read_unread, h6.read_unread, h7.read_unread, h8.read_unread, ld_full]
  exact ⟨store_8 x r qa qb qc qe g w inb_S512x1024_S512x1024_0_0, trivial⟩

theorem out_A_9 (hc : cond1_0 i) : out1_A_9 (F := Ideal) c i a1 h1 a2 h2 a3 h3 a4 h4 a5 h5 a6 h6 a7 h7 a8 h8 a9 h9 a10 h10 hc x r qa qb qc qe g w
    = gainBlk x qa qb qc qe w (k1_pay2 (F := Ideal)) := by
  have hcov := cover1_A_9 (F := Ideal) c i a1 h1 a2 h2 a3 h3 a4 h4 a5 h5 a6 h6 a7 h7 a8 h8 a9 h9 a10 h10 hc x r qa qb qc qe g w
  unfold out1_A_9
  rw [View.read_writes_eq_canon _ _ _ hcov]
  clear hcov
  unfold kernelRun1_A
  dsimp only
  sl_unfold_words
  simp only [View.readAt_eq_ld, h1.read_unread, h3.read_unread, h4.read_unread, h5.read_unread, h6.read_unread, h8.read_unread, ld_full]
  have hz : ∀ a, (![0, 0] : Fin 2 → ℕ) a = 0 := by decide
  simp only [View.readCov_fill (s := S1x1024) _ _ _ _ _ hz]
  refine canon_over (s := S1x1024) (e := .f32) (gainBlk x qa qb qc qe w (k1_pay2 (F := Ideal))) _ _ ?_ fun j => ?_
  · exact ⟨store_9 x qa qb qc qe w _ inb_S1x1024_S1x1024_0_0, trivial⟩
  · exact View.cover_of_tiledL (s := S1x1024) _ S1x1024.size (by sl_kernel_rfl) j

theorem out_B_8 (hc : ¬cond1_0 i) (o : Vec Ideal S1x1024 .f32) :
    out1_B_8 (F := Ideal) c i a1 h1 a2 h2 a3 h3 a4 h4 a5 h5 a6 h6 a7 h7 a8 h8 a9 h9 a10 h10 hc x r qa qb qc qe g w o = tokenBlk x r qa qb qc qe g w := by
  have hcov := cover1_B_8 (F := Ideal) c i a1 h1 a2 h2 a3 h3 a4 h4 a5 h5 a6 h6 a7 h7 a8 h8 a9 h9 a10 h10 hc x r qa qb qc qe g w o
  unfold out1_B_8
  rw [View.read_writes_eq_canon _ _ _ hcov]
  refine canon_tiles (s := S512x1024) (e := .f32) (tokenBlk x r qa qb qc qe g w) _ ?_ hcov
  unfold kernelRun1_B
  dsimp only
  sl_unfold_words
  simp only [View.readAt_eq_ld, h1.read_unread, h2.read_unread, h3.read_unread, h4.read_unread, h5.read_unread, h6.read_unread, h7.read_unread, h8.read_unread, ld_full]
  exact ⟨store_8 x r qa qb qc qe g w inb_S512x1024_S512x1024_0_0, trivial⟩

theorem out_B_9 (hc : ¬cond1_0 i) (o : Vec Ideal S1x1024 .f32) :
    out1_B_9 (F := Ideal) c i a1 h1 a2 h2 a3 h3 a4 h4 a5 h5 a6 h6 a7 h7 a8 h8 a9 h9 a10 h10 hc x r qa qb qc qe g w o = gainBlk x qa qb qc qe w o := by
  have hcov := cover1_B_9 (F := Ideal) c i a1 h1 a2 h2 a3 h3 a4 h4 a5 h5 a6 h6 a7 h7 a8 h8 a9 h9 a10 h10 hc x r qa qb qc qe g w o
  unfold out1_B_9
  rw [View.read_writes_eq_canon _ _ _ hcov]
  refine canon_tiles (s := S1x1024) (e := .f32) (gainBlk x qa qb qc qe w o) _ ?_ hcov
  unfold kernelRun1_B
  dsimp only
  sl_unfold_words
  simp only [View.readAt_eq_ld, h1.read_unread, h3.read_unread, h4.read_unread, h5.read_unread, h6.read_unread, h8.read_unread, h10.read_unread, ld_full]
  exact ⟨store_9 x qa qb qc qe w o inb_S1x1024_S1x1024_0_0, trivial⟩

end Backward

end Cert.Kernel4Ideal.Mix

end

end
-- ==== Proof.MixBlocks.lean ====
/-
  What the mixer's two projection kernels leave over all their grid points, as functions of the arrays they find: sixteen tiles
  of 512 tokens each, the gain's gradient gathered over them.
-/
module

public import proofs.«01_k».proof.Proof.MixTile
public import proofs.«01_k».proof.Proof.Gather

@[expose] public section

noncomputable section

namespace Cert.Kernel4Ideal.Mix

open Cert.Kernel4Ideal Cert.Kernel4Ideal.Gen Idealize.ShloMosaic Idealize.ShloMosaic.ValueIdx Idealize.ShloMosaic.TcCoe Idealize.SL.Sem
  Cert.Words Cert.Norm Cert.Products Cert.Mix Cert.Gather
open Cert.Ffn (normed)
open Idealize.ShloMosaic.Pipeline (Dat)

section All

variable (x r : S8192x1024.Idx → EReal) (qa : S8192x1024.Idx → EReal) (qb : S8192x1536.Idx → EReal) (qc : S8192x512.Idx → EReal)
  (qe : S8192x3072.Idx → EReal) (g : S1x1024.Idx → EReal) (w : S1024x6144.Idx → EReal)

/-- A band of every token's projection, the normed tokens, and the two gradients. -/
def bandAll (o n : ℕ) (h : o + n ≤ 6144) (i : (Cert.Products.Mat 8192 n).Idx) : EReal := proj (rowOf x (i 0)) (rowOf g 0) (rowOf w) (band o n h (i 1))
def normedAll (i : S8192x1024.Idx) : EReal := normed (rowOf x (i 0)) (rowOf g 0) (i 1)
def colsAt (t : Fin 8192) : Fin 6144 → EReal := join (rowOf qa t) (rowOf qb t) (rowOf qc t) (rowOf qe t)
def tokenAll (i : S8192x1024.Idx) : EReal := dtoken (rowOf x (i 0)) (rowOf g 0) (rowOf r (i 0)) (rowOf w) (colsAt qa qb qc qe (i 0)) (i 1)
def gainAll (i : S1x1024.Idx) : EReal := ∑ t, dgain (rowOf x t) (rowOf w) (colsAt qa qb qc qe t) (i 1)

end All

variable (V : (c : Dev nD) → (b : Ref sig .tc) → Buf (Elt Ideal) ((c : Thread nD τ).loc b)) (c : Dev nD)

/-! ## The forward kernel -/

theorem index0 : ∀ t : Fin grid0.N, (win0_0.index t 0 = t.val ∧ win0_0.index t 1 = 0) ∧ (win0_1.index t 0 = 0 ∧ win0_1.index t 1 = 0)
    ∧ (win0_2.index t 0 = 0 ∧ win0_2.index t 1 = 0) ∧ (win0_3.index t 0 = t.val ∧ win0_3.index t 1 = 0)
    ∧ (win0_4.index t 0 = t.val ∧ win0_4.index t 1 = 0) ∧ (win0_5.index t 0 = t.val ∧ win0_5.index t 1 = 0)
    ∧ (win0_6.index t 0 = t.val ∧ win0_6.index t 1 = 0) ∧ (win0_7.index t 0 = t.val ∧ win0_7.index t 1 = 0) := by decide +kernel

/-- Token `s` of grid point `t`, and the grid point a token lies in. -/
def at0512 (t : Fin cfg0.N) (s : Fin 512) : Fin 8192 := ⟨t.val * 512 + s.val, by have := t.isLt; have : cfg0.N = 16 := N_0; omega⟩
def point0 (i : Fin 8192) : Fin cfg0.N := ⟨i.val / 512, by have : cfg0.N = 16 := N_0; omega⟩

theorem blk0_x (t : Fin cfg0.N) (s : Fin 512) : rowOf (iblk0 V c 0 t) s = rowOf (V c main_arg0) (at0512 t s) := by
  obtain ⟨h0, h1⟩ := (index0 t).1
  funext d
  unfold rowOf iblk0
  rw [View.read_apply]
  exact congrArg (V c main_arg0) (ix2_of _ _ _ (by show win0_0.index t 0 * 512 + 1 * s.val = t.val * 512 + s.val; rw [h0]; omega)
    (by show win0_0.index t 1 * 1024 + 1 * d.val = d.val; rw [h1]; omega))

theorem blk0_g (t : Fin cfg0.N) : rowOf (iblk0 V c 1 t) 0 = rowOf (V c main_arg6) 0 := by
  obtain ⟨h0, h1⟩ := (index0 t).2.1
  funext d
  unfold rowOf iblk0
  rw [View.read_apply]
  exact congrArg (V c main_arg6) (ix2_of _ _ _ (by show win0_1.index t 0 * 1 + 1 * 0 = 0; rw [h0])
    (by show win0_1.index t 1 * 1024 + 1 * d.val = d.val; rw [h1]; omega))

theorem blk0_w (t : Fin cfg0.N) : rowOf (iblk0 V c 2 t) = rowOf (V c main_arg7) := by
  obtain ⟨h0, h1⟩ := (index0 t).2.2.1
  funext d j
  unfold rowOf iblk0
  rw [View.read_apply]
  exact congrArg (V c main_arg7) (ix2_of _ _ _ (by show win0_2.index t 0 * 1024 + 1 * d.val = d.val; rw [h0]; omega)
    (by show win0_2.index t 1 * 6144 + 1 * j.val = j.val; rw [h1]; omega))

theorem tile_band (o n : ℕ) (h : o + n ≤ 6144) (t : Fin cfg0.N) (s : Fin 512) (k : Fin n) :
    bandBlk (iblk0 V c 0 t) (iblk0 V c 1 t) (iblk0 V c 2 t) o n h (ix2 s k)
      = bandAll (V c main_arg0) (V c main_arg6) (V c main_arg7) o n h (ix2 (at0512 t s) k) := by
  show proj (rowOf (iblk0 V c 0 t) s) (rowOf (iblk0 V c 1 t) 0) (rowOf (iblk0 V c 2 t)) (band o n h k) = _
  rw [blk0_x, blk0_g, blk0_w]
  rfl

theorem tile_normed (t : Fin cfg0.N) (s : Fin 512) (k : Fin 1024) : normedBlk (iblk0 V c 0 t) (iblk0 V c 1 t) (ix2 s k)
    = normedAll (V c main_arg0) (V c main_arg6) (ix2 (at0512 t s) k) := by
  show normed (rowOf (iblk0 V c 0 t) s) (rowOf (iblk0 V c 1 t) 0) k = _
  rw [blk0_x, blk0_g]
  rfl

theorem flushed0_3 (t : Fin cfg0.N) : (dat0 V c).flushed 3 t = ((cfg0.win 3).blk t).view.read (Elt Ideal) (bandAll (V c main_arg0) (V c main_arg6) (V c main_arg7) 0 1024 (by decide)) := by
  obtain ⟨h0, h1⟩ := (index0 t).2.2.2.1
  show (cfg0.win 3).cut (grid0.coords t) ((dat0 V c).after 3 t) = _
  rw [after0_3, out_3]
  funext y
  obtain ⟨s, d, rfl⟩ : ∃ (s : Fin 512) (d : Fin 1024), y = ix2 s d := ⟨y 0, y 1, eq_ix2 y⟩
  rw [View.read_apply]
  refine (tile_band V c 0 1024 _ t s d).trans (congrArg (bandAll (V c main_arg0) (V c main_arg6) (V c main_arg7) 0 1024 (by decide)) (ix2_of _ _ _ ?_ ?_).symm)
  · show win0_3.index t 0 * 512 + 1 * s.val = t.val * 512 + s.val; rw [h0]; omega
  · show win0_3.index t 1 * 1024 + 1 * d.val = d.val; rw [h1]; omega

theorem final0_3 : (dat0 V c).arrAt 3 cfg0.N = bandAll (V c main_arg0) (V c main_arg6) (V c main_arg7) 0 1024 (by decide) :=
  (dat0 V c).arrAt_eq_of_cover 3 _ (fun t _ => flushed0_3 V c t) fun i => by
    refine ⟨point0 (i 0), flush0_3 _, ?_⟩
    obtain ⟨h0, h1⟩ := (index0 (point0 (i 0))).2.2.2.1
    show i ∈ ((View.whole main_v0_0).slice (win0_3.rect (point0 (i 0)))).set
    rw [View.set_slice_whole]
    exact mem_tile (M := 8192) (N := 1024) (B := 512) (by decide) _ _ i (by show win0_3.index (point0 (i 0)) 0 * 512 = _; rw [h0]; rfl)
      (by show win0_3.index (point0 (i 0)) 1 * 1024 = 0; rw [h1])

theorem flushed0_4 (t : Fin cfg0.N) : (dat0 V c).flushed 4 t = ((cfg0.win 4).blk t).view.read (Elt Ideal) (bandAll (V c main_arg0) (V c main_arg6) (V c main_arg7) 1024 1536 (by decide)) := by
  obtain ⟨h0, h1⟩ := (index0 t).2.2.2.2.1
  show (cfg0.win 4).cut (grid0.coords t) ((dat0 V c).after 4 t) = _
  rw [after0_4, out_4]
  funext y
  obtain ⟨s, d, rfl⟩ : ∃ (s : Fin 512) (d : Fin 1536), y = ix2 s d := ⟨y 0, y 1, eq_ix2 y⟩
  rw [View.read_apply]
  refine (tile_band V c 1024 1536 _ t s d).trans (congrArg (bandAll (V c main_arg0) (V c main_arg6) (V c main_arg7) 1024 1536 (by decide)) (ix2_of _ _ _ ?_ ?_).symm)
  · show win0_4.index t 0 * 512 + 1 * s.val = t.val * 512 + s.val; rw [h0]; omega
  · show win0_4.index t 1 * 1536 + 1 * d.val = d.val; rw [h1]; omega

theorem final0_4 : (dat0 V c).arrAt 4 cfg0.N = bandAll (V c main_arg0) (V c main_arg6) (V c main_arg7) 1024 1536 (by decide) :=
  (dat0 V c).arrAt_eq_of_cover 4 _ (fun t _ => flushed0_4 V c t) fun i => by
    refine ⟨point0 (i 0), flush0_4 _, ?_⟩
    obtain ⟨h0, h1⟩ := (index0 (point0 (i 0))).2.2.2.2.1
    show i ∈ ((View.whole main_v0_1).slice (win0_4.rect (point0 (i 0)))).set
    rw [View.set_slice_whole]
    exact mem_tile (M := 8192) (N := 1536) (B := 512) (by decide) _ _ i (by show win0_4.index (point0 (i 0)) 0 * 512 = _; rw [h0]; rfl)
      (by show win0_4.index (point0 (i 0)) 1 * 1536 = 0; rw [h1])

theorem flushed0_5 (t : Fin cfg0.N) : (dat0 V c).flushed 5 t = ((cfg0.win 5).blk t).view.read (Elt Ideal) (bandAll (V c main_arg0) (V c main_arg6) (V c main_arg7) 2560 512 (by decide)) := by
  obtain ⟨h0, h1⟩ := (index0 t).2.2.2.2.2.1
  show (cfg0.win 5).cut (grid0.coords t) ((dat0 V c).after 5 t) = _
  rw [after0_5, out_5]
  funext y
  obtain ⟨s, d, rfl⟩ : ∃ (s : Fin 512) (d : Fin 512), y = ix2 s d := ⟨y 0, y 1, eq_ix2 y⟩
  rw [View.read_apply]
  refine (tile_band V c 2560 512 _ t s d).trans (congrArg (bandAll (V c main_arg0) (V c main_arg6) (V c main_arg7) 2560 512 (by decide)) (ix2_of _ _ _ ?_ ?_).symm)
  · show win0_5.index t 0 * 512 + 1 * s.val = t.val * 512 + s.val; rw [h0]; omega
  · show win0_5.index t 1 * 512 + 1 * d.val = d.val; rw [h1]; omega

theorem final0_5 : (dat0 V c).arrAt 5 cfg0.N = bandAll (V c main_arg0) (V c main_arg6) (V c main_arg7) 2560 512 (by decide) :=
  (dat0 V c).arrAt_eq_of_cover 5 _ (fun t _ => flushed0_5 V c t) fun i => by
    refine ⟨point0 (i 0), flush0_5 _, ?_⟩
    obtain ⟨h0, h1⟩ := (index0 (point0 (i 0))).2.2.2.2.2.1
    show i ∈ ((View.whole main_v0_2).slice (win0_5.rect (point0 (i 0)))).set
    rw [View.set_slice_whole]
    exact mem_tile (M := 8192) (N := 512) (B := 512) (by decide) _ _ i (by show win0_5.index (point0 (i 0)) 0 * 512 = _; rw [h0]; rfl)
      (by show win0_5.index (point0 (i 0)) 1 * 512 = 0; rw [h1])

theorem flushed0_6 (t : Fin cfg0.N) : (dat0 V c).flushed 6 t = ((cfg0.win 6).blk t).view.read (Elt Ideal) (bandAll (V c main_arg0) (V c main_arg6) (V c main_arg7) 3072 3072 (by decide)) := by
  obtain ⟨h0, h1⟩ := (index0 t).2.2.2.2.2.2.1
  show (cfg0.win 6).cut (grid0.coords t) ((dat0 V c).after 6 t) = _
  rw [after0_6, out_6]
  funext y
  obtain ⟨s, d, rfl⟩ : ∃ (s : Fin 512) (d : Fin 3072), y = ix2 s d := ⟨y 0, y 1, eq_ix2 y⟩
  rw [View.read_apply]
  refine (tile_band V c 3072 3072 _ t s d).trans (congrArg (bandAll (V c main_arg0) (V c main_arg6) (V c main_arg7) 3072 3072 (by decide)) (ix2_of _ _ _ ?_ ?_).symm)
  · show win0_6.index t 0 * 512 + 1 * s.val = t.val * 512 + s.val; rw [h0]; omega
  · show win0_6.index t 1 * 3072 + 1 * d.val = d.val; rw [h1]; omega

theorem final0_6 : (dat0 V c).arrAt 6 cfg0.N = bandAll (V c main_arg0) (V c main_arg6) (V c main_arg7) 3072 3072 (by decide) :=
  (dat0 V c).arrAt_eq_of_cover 6 _ (fun t _ => flushed0_6 V c t) fun i => by
    refine ⟨point0 (i 0), flush0_6 _, ?_⟩
    obtain ⟨h0, h1⟩ := (index0 (point0 (i 0))).2.2.2.2.2.2.1
    show i ∈ ((View.whole main_v0_3).slice (win0_6.rect (point0 (i 0)))).set
    rw [View.set_slice_whole]
    exact mem_tile (M := 8192) (N := 3072) (B := 512) (by decide) _ _ i (by show win0_6.index (point0 (i 0)) 0 * 512 = _; rw [h0]; rfl)
      (by show win0_6.index (point0 (i 0)) 1 * 3072 = 0; rw [h1])

theorem flushed0_7 (t : Fin cfg0.N) : (dat0 V c).flushed 7 t = ((cfg0.win 7).blk t).view.read (Elt Ideal) (normedAll (V c main_arg0) (V c main_arg6)) := by
  obtain ⟨h0, h1⟩ := (index0 t).2.2.2.2.2.2.2
  show (cfg0.win 7).cut (grid0.coords t) ((dat0 V c).after 7 t) = _
  rw [after0_7, out_7]
  funext y
  obtain ⟨s, d, rfl⟩ : ∃ (s : Fin 512) (d : Fin 1024), y = ix2 s d := ⟨y 0, y 1, eq_ix2 y⟩
  rw [View.read_apply]
  refine (tile_normed V c t s d).trans (congrArg (normedAll (V c main_arg0) (V c main_arg6)) (ix2_of _ _ _ ?_ ?_).symm)
  · show win0_7.index t 0 * 512 + 1 * s.val = t.val * 512 + s.val; rw [h0]; omega
  · show win0_7.index t 1 * 1024 + 1 * d.val = d.val; rw [h1]; omega

theorem final0_7 : (dat0 V c).arrAt 7 cfg0.N = normedAll (V c main_arg0) (V c main_arg6) :=
  (dat0 V c).arrAt_eq_of_cover 7 _ (fun t _ => flushed0_7 V c t) fun i => by
    refine ⟨point0 (i 0), flush0_7 _, ?_⟩
    obtain ⟨h0, h1⟩ := (index0 (point0 (i 0))).2.2.2.2.2.2.2
    show i ∈ ((View.whole main_v0_4).slice (win0_7.rect (point0 (i 0)))).set
    rw [View.set_slice_whole]
    exact mem_tile (M := 8192) (N := 1024) (B := 512) (by decide) _ _ i (by show win0_7.index (point0 (i 0)) 0 * 512 = _; rw [h0]; rfl)
      (by show win0_7.index (point0 (i 0)) 1 * 1024 = 0; rw [h1])

/-! ## The backward kernel -/

theorem index1 : ∀ t : Fin grid1.N, (win1_0.index t 0 = t.val ∧ win1_0.index t 1 = 0)
    ∧ (win1_1.index t 0 = t.val ∧ win1_1.index t 1 = 0)
    ∧ (win1_2.index t 0 = t.val ∧ win1_2.index t 1 = 0)
    ∧ (win1_3.index t 0 = t.val ∧ win1_3.index t 1 = 0)
    ∧ (win1_4.index t 0 = t.val ∧ win1_4.index t 1 = 0)
    ∧ (win1_5.index t 0 = t.val ∧ win1_5.index t 1 = 0)
    ∧ (win1_6.index t 0 = 0 ∧ win1_6.index t 1 = 0)
    ∧ (win1_7.index t 0 = 0 ∧ win1_7.index t 1 = 0)
    ∧ (win1_8.index t 0 = t.val ∧ win1_8.index t 1 = 0)
    ∧ (win1_9.index t 0 = 0 ∧ win1_9.index t 1 = 0) := by decide +kernel

/-- Token `s` of grid point `t`, and the grid point a token lies in. -/
def at1512 (t : Fin cfg1.N) (s : Fin 512) : Fin 8192 := ⟨t.val * 512 + s.val, by have := t.isLt; have : cfg1.N = 16 := N_1; omega⟩
def point1 (i : Fin 8192) : Fin cfg1.N := ⟨i.val / 512, by have : cfg1.N = 16 := N_1; omega⟩

theorem blk1_x (t : Fin cfg1.N) (s : Fin 512) : rowOf (iblk1 V c 0 t) s = rowOf (V c main_arg0) (at1512 t s) := by
  obtain ⟨h0, h1⟩ := (index1 t).1
  funext d
  unfold rowOf iblk1
  rw [View.read_apply]
  exact congrArg (V c main_arg0) (ix2_of _ _ _ (by show win1_0.index t 0 * 512 + 1 * s.val = t.val * 512 + s.val; rw [h0]; omega)
    (by show win1_0.index t 1 * 1024 + 1 * d.val = d.val; rw [h1]; omega))

theorem blk1_r (t : Fin cfg1.N) (s : Fin 512) : rowOf (iblk1 V c 1 t) s = rowOf (V c main_arg1) (at1512 t s) := by
  obtain ⟨h0, h1⟩ := (index1 t).2.1
  funext d
  unfold rowOf iblk1
  rw [View.read_apply]
  exact congrArg (V c main_arg1) (ix2_of _ _ _ (by show win1_1.index t 0 * 512 + 1 * s.val = t.val * 512 + s.val; rw [h0]; omega)
    (by show win1_1.index t 1 * 1024 + 1 * d.val = d.val; rw [h1]; omega))

theorem blk1_qa (t : Fin cfg1.N) (s : Fin 512) : rowOf (iblk1 V c 2 t) s = rowOf (V c main_arg2) (at1512 t s) := by
  obtain ⟨h0, h1⟩ := (index1 t).2.2.1
  funext d
  unfold rowOf iblk1
  rw [View.read_apply]
  exact congrArg (V c main_arg2) (ix2_of _ _ _ (by show win1_2.index t 0 * 512 + 1 * s.val = t.val * 512 + s.val; rw [h0]; omega)
    (by show win1_2.index t 1 * 1024 + 1 * d.val = d.val; rw [h1]; omega))

theorem blk1_qb (t : Fin cfg1.N) (s : Fin 512) : rowOf (iblk1 V c 3 t) s = rowOf (V c main_arg3) (at1512 t s) := by
  obtain ⟨h0, h1⟩ := (index1 t).2.2.2.1
  funext d
  unfold rowOf iblk1
  rw [View.read_apply]
  exact congrArg (V c main_arg3) (ix2_of _ _ _ (by show win1_3.index t 0 * 512 + 1 * s.val = t.val * 512 + s.val; rw [h0]; omega)
    (by show win1_3.index t 1 * 1536 + 1 * d.val = d.val; rw [h1]; omega))

theorem blk1_qc (t : Fin cfg1.N) (s : Fin 512) : rowOf (iblk1 V c 4 t) s = rowOf (V c main_arg4) (at1512 t s) := by
  obtain ⟨h0, h1⟩ := (index1 t).2.2.2.2.1
  funext d
  unfold rowOf iblk1
  rw [View.read_apply]
  exact congrArg (V c main_arg4) (ix2_of _ _ _ (by show win1_4.index t 0 * 512 + 1 * s.val = t.val * 512 + s.val; rw [h0]; omega)
    (by show win1_4.index t 1 * 512 + 1 * d.val = d.val; rw [h1]; omega))

theorem blk1_qe (t : Fin cfg1.N) (s : Fin 512) : rowOf (iblk1 V c 5 t) s = rowOf (V c main_arg5) (at1512 t s) := by
  obtain ⟨h0, h1⟩ := (index1 t).2.2.2.2.2.1
  funext d
  unfold rowOf iblk1
  rw [View.read_apply]
  exact congrArg (V c main_arg5) (ix2_of _ _ _ (by show win1_5.index t 0 * 512 + 1 * s.val = t.val * 512 + s.val; rw [h0]; omega)
    (by show win1_5.index t 1 * 3072 + 1 * d.val = d.val; rw [h1]; omega))

theorem blk1_g (t : Fin cfg1.N) : rowOf (iblk1 V c 6 t) 0 = rowOf (V c main_arg6) 0 := by
  obtain ⟨h0, h1⟩ := (index1 t).2.2.2.2.2.2.1
  funext d
  unfold rowOf iblk1
  rw [View.read_apply]
  exact congrArg (V c main_arg6) (ix2_of _ _ _ (by show win1_6.index t 0 * 1 + 1 * 0 = 0; rw [h0])
    (by show win1_6.index t 1 * 1024 + 1 * d.val = d.val; rw [h1]; omega))

theorem blk1_w (t : Fin cfg1.N) : rowOf (iblk1 V c 7 t) = rowOf (V c main_arg7) := by
  obtain ⟨h0, h1⟩ := (index1 t).2.2.2.2.2.2.2.1
  funext d j
  unfold rowOf iblk1
  rw [View.read_apply]
  exact congrArg (V c main_arg7) (ix2_of _ _ _ (by show win1_7.index t 0 * 1024 + 1 * d.val = d.val; rw [h0]; omega)
    (by show win1_7.index t 1 * 6144 + 1 * j.val = j.val; rw [h1]; omega))

theorem blk1_cols (t : Fin cfg1.N) (s : Fin 512) : colsOf (iblk1 V c 2 t) (iblk1 V c 3 t) (iblk1 V c 4 t) (iblk1 V c 5 t) s = colsAt (V c main_arg2) (V c main_arg3) (V c main_arg4) (V c main_arg5) (at1512 t s) := by
  unfold colsOf colsAt
  rw [blk1_qa, blk1_qb, blk1_qc, blk1_qe]

theorem tile_token (t : Fin cfg1.N) (s : Fin 512) (d : Fin 1024) : tokenBlk (iblk1 V c 0 t) (iblk1 V c 1 t) (iblk1 V c 2 t) (iblk1 V c 3 t) (iblk1 V c 4 t) (iblk1 V c 5 t) (iblk1 V c 6 t) (iblk1 V c 7 t) (ix2 s d)
    = tokenAll (V c main_arg0) (V c main_arg1) (V c main_arg2) (V c main_arg3) (V c main_arg4) (V c main_arg5) (V c main_arg6) (V c main_arg7) (ix2 (at1512 t s) d) := by
  show dtoken (rowOf (iblk1 V c 0 t) s) (rowOf (iblk1 V c 6 t) 0) (rowOf (iblk1 V c 1 t) s) (rowOf (iblk1 V c 7 t)) (colsOf (iblk1 V c 2 t) (iblk1 V c 3 t) (iblk1 V c 4 t) (iblk1 V c 5 t) s) d = _
  rw [blk1_cols, blk1_x, blk1_r, blk1_g, blk1_w]
  rfl

theorem flushed1_8 (t : Fin cfg1.N) : (dat1 V c).flushed 8 t = ((cfg1.win 8).blk t).view.read (Elt Ideal) (tokenAll (V c main_arg0) (V c main_arg1) (V c main_arg2) (V c main_arg3) (V c main_arg4) (V c main_arg5) (V c main_arg6) (V c main_arg7)) := by
  obtain ⟨h0, h1⟩ := (index1 t).2.2.2.2.2.2.2.2.1
  have hp : (outsAt1 V c t.val t.isLt).1 = tokenBlk (iblk1 V c 0 t) (iblk1 V c 1 t) (iblk1 V c 2 t) (iblk1 V c 3 t) (iblk1 V c 4 t) (iblk1 V c 5 t) (iblk1 V c 6 t) (iblk1 V c 7 t) := by
    by_cases h : t.val % 16 = 0
    · rw [outsAt1_A V c t h]; dsimp only; rw [out_A_8]
    · rw [outsAt1_B V c t h]; dsimp only; rw [out_B_8]
  show (cfg1.win 8).cut (grid1.coords t) ((dat1 V c).after 8 t) = _
  rw [after1_8, hp]
  funext y
  obtain ⟨s, d, rfl⟩ : ∃ (s : Fin 512) (d : Fin 1024), y = ix2 s d := ⟨y 0, y 1, eq_ix2 y⟩
  rw [View.read_apply]
  refine (tile_token V c t s d).trans (congrArg (tokenAll (V c main_arg0) (V c main_arg1) (V c main_arg2) (V c main_arg3) (V c main_arg4) (V c main_arg5) (V c main_arg6) (V c main_arg7)) (ix2_of _ _ _ ?_ ?_).symm)
  · show win1_8.index t 0 * 512 + 1 * s.val = t.val * 512 + s.val; rw [h0]; omega
  · show win1_8.index t 1 * 1024 + 1 * d.val = d.val; rw [h1]; omega

theorem final1_8 : (dat1 V c).arrAt 8 cfg1.N = tokenAll (V c main_arg0) (V c main_arg1) (V c main_arg2) (V c main_arg3) (V c main_arg4) (V c main_arg5) (V c main_arg6) (V c main_arg7) :=
  (dat1 V c).arrAt_eq_of_cover 8 _ (fun t _ => flushed1_8 V c t) fun i => by
    refine ⟨point1 (i 0), flush1_8 _, ?_⟩
    obtain ⟨h0, h1⟩ := (index1 (point1 (i 0))).2.2.2.2.2.2.2.2.1
    show i ∈ ((View.whole main_v1_0).slice (win1_8.rect (point1 (i 0)))).set
    rw [View.set_slice_whole]
    exact mem_tile (M := 8192) (N := 1024) (B := 512) (by decide) _ _ i (by show win1_8.index (point1 (i 0)) 0 * 512 = _; rw [h0]; rfl)
      (by show win1_8.index (point1 (i 0)) 1 * 1024 = 0; rw [h1])

/-! ### The gain's gradient -/

/-- One token's part of the gain's gradient. -/
def term (d : Fin 1024) (s : Fin 8192) : EReal := dgain (rowOf (V c main_arg0) s) (rowOf (V c main_arg7)) (colsAt (V c main_arg2) (V c main_arg3) (V c main_arg4) (V c main_arg5) s) d

theorem step_gain (t : Fin cfg1.N) (o : S1x1024.Idx → EReal) (u : Fin 1) (d : Fin 1024) : gainBlk (iblk1 V c 0 t) (iblk1 V c 2 t) (iblk1 V c 3 t) (iblk1 V c 4 t) (iblk1 V c 5 t) (iblk1 V c 7 t) o (ix2 u d)
    = o (ix2 u d) + ∑ s : Fin 512, at0 (term V c d) (t.val * 512 + s.val) := by
  show o (ix2 u d) + ∑ s, dgain (rowOf (iblk1 V c 0 t) s) (rowOf (iblk1 V c 7 t)) (colsOf (iblk1 V c 2 t) (iblk1 V c 3 t) (iblk1 V c 4 t) (iblk1 V c 5 t) s) d = _
  refine congrArg (o (ix2 u d) + ·) (Finset.sum_congr rfl fun s _ => ?_)
  rw [blk1_cols, blk1_x, blk1_w]
  exact (at0_of (term V c d) _ (at1512 t s).isLt).symm

theorem gain_first (t : Fin cfg1.N) (h : t.val % 16 = 0) (u : Fin 1) (d : Fin 1024) :
    (outsAt1 V c t.val t.isLt).2 (ix2 u d) = ∑ s : Fin 512, at0 (term V c d) (t.val * 512 + s.val) := by
  rw [outsAt1_A V c t h]
  dsimp only
  rw [out_A_9]
  refine (step_gain V c t _ u d).trans ?_
  rw [show k1_pay2 (F := Ideal) (ix2 u d) = 0 from zeroWord, zero_add]

theorem gain_later (t : Fin cfg1.N) (h : ¬t.val % 16 = 0) (u : Fin 1) (d : Fin 1024) : (outsAt1 V c t.val t.isLt).2 (ix2 u d)
    = (outsAt1 V c (t.val - 1) (Nat.lt_of_le_of_lt (Nat.sub_le _ _) t.isLt)).2 (ix2 u d) + ∑ s : Fin 512, at0 (term V c d) (t.val * 512 + s.val) := by
  rw [outsAt1_B V c t h]
  dsimp only
  rw [out_B_9]
  exact step_gain V c t _ u d

/-- After the last point the block is the sum over every token. -/
theorem tile_gain (t : Fin cfg1.N) (h : t.val = 15) (u : Fin 1) (d : Fin 1024) : (outsAt1 V c t.val t.isLt).2 (ix2 u d) = gainAll (V c main_arg0) (V c main_arg2) (V c main_arg3) (V c main_arg4) (V c main_arg5) (V c main_arg7) (ix2 u d) := by
  have hN : cfg1.N = 16 := N_1
  refine (gathered_last (T := 16) (fun s h => (outsAt1 V c s h).2 (ix2 u d)) t.val t.isLt (by omega)
    (fun s => ∑ v : Fin 512, at0 (term V c d) (s * 512 + v.val)) ?_ ?_).trans (sum_tiles (by decide) _)
  · intro s h e h0
    rw [gain_first V c ⟨s, h⟩ h0]
    show ∑ v : Fin 512, at0 _ (s * 512 + v.val) = _
    rw [show s = 0 by omega]
  · intro s h e h0
    rw [gain_later V c ⟨s, h⟩ h0]
    show _ + ∑ v : Fin 512, at0 _ (s * 512 + v.val) = _
    rw [show s % 16 = s by omega]

set_option maxRecDepth 16384 in
theorem flushed1_9 (t : Fin cfg1.N) (hf : (cfg1.win 9).flush t = true) : (dat1 V c).flushed 9 t = ((cfg1.win 9).blk t).view.read (Elt Ideal) (gainAll (V c main_arg0) (V c main_arg2) (V c main_arg3) (V c main_arg4) (V c main_arg5) (V c main_arg7)) := by
  obtain ⟨h0, h1⟩ := (index1 t).2.2.2.2.2.2.2.2.2
  have hN : cfg1.N = 16 := N_1
  have h3 : t.val = 15 := by have := (flush1_9 t).mp hf; have := t.isLt; omega
  show (cfg1.win 9).cut (grid1.coords t) ((dat1 V c).after 9 t) = _
  rw [after1_9]
  funext y
  obtain ⟨u, d, rfl⟩ : ∃ (u : Fin 1) (d : Fin 1024), y = ix2 u d := ⟨y 0, y 1, eq_ix2 y⟩
  rw [View.read_apply]
  refine (tile_gain V c t h3 u d).trans (congrArg (gainAll (V c main_arg0) (V c main_arg2) (V c main_arg3) (V c main_arg4) (V c main_arg5) (V c main_arg7)) (ix2_of _ _ _ ?_ ?_).symm)
  · show win1_9.index t 0 * 1 + 1 * u.val = u.val; rw [h0]; omega
  · show win1_9.index t 1 * 1024 + 1 * d.val = d.val; rw [h1]; omega

theorem final1_9 : (dat1 V c).arrAt 9 cfg1.N = gainAll (V c main_arg0) (V c main_arg2) (V c main_arg3) (V c main_arg4) (V c main_arg5) (V c main_arg7) :=
  (dat1 V c).arrAt_eq_of_cover 9 _ (flushed1_9 V c) fun i => by
    have hN : cfg1.N = 16 := N_1
    let t : Fin cfg1.N := ⟨15, by omega⟩
    refine ⟨t, (flush1_9 t).mpr rfl, ?_⟩
    obtain ⟨h0, h1⟩ := (index1 t).2.2.2.2.2.2.2.2.2
    show i ∈ ((View.whole main_v1_1).slice (win1_9.rect t)).set
    rw [View.set_slice_whole]
    exact mem_tile (M := 1) (N := 1024) (B := 1) (by decide) _ _ i (by show win1_9.index t 0 * 1 = (i 0).val / 1 * 1; have i0 : (i 0).val < 1 := (i 0).isLt; rw [h0]; omega)
      (by show win1_9.index t 1 * 1024 = 0; rw [h1])

end Cert.Kernel4Ideal.Mix

end

end
-- ==== Proof.MixRun.lean ====
/-
  The whole run of the mixer's two kernels: what every array holds at the end, as a function of the arguments.
-/
module

public import proofs.«01_k».proof.Proof.MixBlocks

@[expose] public section

set_option maxRecDepth 16384

noncomputable section

namespace Cert.Kernel4Ideal.Mix

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal.Gen

variable (m : (ℓ : Loc nD τ sig) → Buf (Elt Ideal) ℓ) (ρ : Dev nD → PrngReg)

/-! ## What the backward kernel finds: the arguments as they were -/

theorem found_0 (c : Dev nD) : V1 m ρ c main_arg0 = m ((c : Thread nD τ).loc main_arg0) := W1_args m ρ c main_arg0 (by decide)

theorem found_1 (c : Dev nD) : V1 m ρ c main_arg1 = m ((c : Thread nD τ).loc main_arg1) := W1_args m ρ c main_arg1 (by decide)

theorem found_2 (c : Dev nD) : V1 m ρ c main_arg2 = m ((c : Thread nD τ).loc main_arg2) := W1_args m ρ c main_arg2 (by decide)

theorem found_3 (c : Dev nD) : V1 m ρ c main_arg3 = m ((c : Thread nD τ).loc main_arg3) := W1_args m ρ c main_arg3 (by decide)

theorem found_4 (c : Dev nD) : V1 m ρ c main_arg4 = m ((c : Thread nD τ).loc main_arg4) := W1_args m ρ c main_arg4 (by decide)

theorem found_5 (c : Dev nD) : V1 m ρ c main_arg5 = m ((c : Thread nD τ).loc main_arg5) := W1_args m ρ c main_arg5 (by decide)

theorem found_6 (c : Dev nD) : V1 m ρ c main_arg6 = m ((c : Thread nD τ).loc main_arg6) := W1_args m ρ c main_arg6 (by decide)

theorem found_7 (c : Dev nD) : V1 m ρ c main_arg7 = m ((c : Thread nD τ).loc main_arg7) := W1_args m ρ c main_arg7 (by decide)

/-! ## What is left at the end -/

theorem left_uc (c : Dev nD) : W2 m ρ c (Proc.devRef .tc main_v0_0) = bandAll (m ((c : Thread nD τ).loc main_arg0)) (m ((c : Thread nD τ).loc main_arg6)) (m ((c : Thread nD τ).loc main_arg7)) 0 1024 (by decide) :=
  (W2_of m ρ c main_v0_0 (by decide)).trans ((W1_arr m ρ c 3).trans (final0_3 (V0 m ρ) c))

theorem left_qkv (c : Dev nD) : W2 m ρ c (Proc.devRef .tc main_v0_1) = bandAll (m ((c : Thread nD τ).loc main_arg0)) (m ((c : Thread nD τ).loc main_arg6)) (m ((c : Thread nD τ).loc main_arg7)) 1024 1536 (by decide) :=
  (W2_of m ρ c main_v0_1 (by decide)).trans ((W1_arr m ρ c 4).trans (final0_4 (V0 m ρ) c))

theorem left_mq (c : Dev nD) : W2 m ρ c (Proc.devRef .tc main_v0_2) = bandAll (m ((c : Thread nD τ).loc main_arg0)) (m ((c : Thread nD τ).loc main_arg6)) (m ((c : Thread nD τ).loc main_arg7)) 2560 512 (by decide) :=
  (W2_of m ρ c main_v0_2 (by decide)).trans ((W1_arr m ρ c 5).trans (final0_5 (V0 m ρ) c))

theorem left_gl (c : Dev nD) : W2 m ρ c (Proc.devRef .tc main_v0_3) = bandAll (m ((c : Thread nD τ).loc main_arg0)) (m ((c : Thread nD τ).loc main_arg6)) (m ((c : Thread nD τ).loc main_arg7)) 3072 3072 (by decide) :=
  (W2_of m ρ c main_v0_3 (by decide)).trans ((W1_arr m ρ c 6).trans (final0_6 (V0 m ρ) c))

theorem left_normed (c : Dev nD) : W2 m ρ c (Proc.devRef .tc main_v0_4) = normedAll (m ((c : Thread nD τ).loc main_arg0)) (m ((c : Thread nD τ).loc main_arg6)) :=
  (W2_of m ρ c main_v0_4 (by decide)).trans ((W1_arr m ρ c 7).trans (final0_7 (V0 m ρ) c))

theorem left_token (c : Dev nD) : W2 m ρ c (Proc.devRef .tc main_v1_0) = tokenAll (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W2_arr m ρ c 8).trans ((final1_8 (V1 m ρ) c).trans ?_)
  rw [found_0, found_1, found_2, found_3, found_4, found_5, found_6, found_7]

theorem left_gain (c : Dev nD) : W2 m ρ c (Proc.devRef .tc main_v1_1) = gainAll (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg7)) := by
  refine (W2_arr m ρ c 9).trans ((final1_9 (V1 m ρ) c).trans ?_)
  rw [found_0, found_2, found_3, found_4, found_5, found_7]

set_option backward.isDefEq.respectTransparency.types false in
theorem run : θ_run defs (onTc (τ := τ) (main (F := Ideal))) ⟨m, fun _ => 0, ρ⟩ (fun r => ∀ c : Dev nD,
      r.2.mem ((c.tc : Thread nD τ).loc main_v0_0) = bandAll (m ((c : Thread nD τ).loc main_arg0)) (m ((c : Thread nD τ).loc main_arg6)) (m ((c : Thread nD τ).loc main_arg7)) 0 1024 (by decide)
      ∧ r.2.mem ((c.tc : Thread nD τ).loc main_v0_1) = bandAll (m ((c : Thread nD τ).loc main_arg0)) (m ((c : Thread nD τ).loc main_arg6)) (m ((c : Thread nD τ).loc main_arg7)) 1024 1536 (by decide)
      ∧ r.2.mem ((c.tc : Thread nD τ).loc main_v0_2) = bandAll (m ((c : Thread nD τ).loc main_arg0)) (m ((c : Thread nD τ).loc main_arg6)) (m ((c : Thread nD τ).loc main_arg7)) 2560 512 (by decide)
      ∧ r.2.mem ((c.tc : Thread nD τ).loc main_v0_3) = bandAll (m ((c : Thread nD τ).loc main_arg0)) (m ((c : Thread nD τ).loc main_arg6)) (m ((c : Thread nD τ).loc main_arg7)) 3072 3072 (by decide)
      ∧ r.2.mem ((c.tc : Thread nD τ).loc main_v0_4) = normedAll (m ((c : Thread nD τ).loc main_arg0)) (m ((c : Thread nD τ).loc main_arg6))
      ∧ r.2.mem ((c.tc : Thread nD τ).loc main_v1_0) = tokenAll (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c.tc : Thread nD τ).loc main_v1_1) = gainAll (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h hz c =>
      ⟨(h c _ (mem_uc main_v0_0 (by decide))).trans (left_uc m ρ c),
       (h c _ (mem_uc main_v0_1 (by decide))).trans (left_qkv m ρ c),
       (h c _ (mem_uc main_v0_2 (by decide))).trans (left_mq m ρ c),
       (h c _ (mem_uc main_v0_3 (by decide))).trans (left_gl m ρ c),
       (h c _ (mem_uc main_v0_4 (by decide))).trans (left_normed m ρ c),
       (h c _ (mem_uc main_v1_0 (by decide))).trans (left_token m ρ c),
       (h c _ (mem_uc main_v1_1 (by decide))).trans (left_gain m ρ c),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c),
       (h c _ (mem_uc main_arg3 (by decide))).trans (W2_main_arg3 m ρ c),
       (h c _ (mem_uc main_arg4 (by decide))).trans (W2_main_arg4 m ρ c),
       (h c _ (mem_uc main_arg5 (by decide))).trans (W2_main_arg5 m ρ c),
       (h c _ (mem_uc main_arg6 (by decide))).trans (W2_main_arg6 m ρ c),
       (h c _ (mem_uc main_arg7 (by decide))).trans (W2_main_arg7 m ρ c)⟩)

end Cert.Kernel4Ideal.Mix

end
-- ==== Proof.MixRef.lean ====
/-
  The mixer's plain program: every stage that the results depend on, as a function of its arguments.
-/
module

public import proofs.«01_k».proof.Proof.Gen.Reference4Ideal.Read
public import proofs.«01_k».proof.Proof.MixBlocks

@[expose] public section

noncomputable section

namespace Cert.Reference4Ideal.Read

open Cert.Reference4Ideal Cert.Reference4Ideal.Gen Idealize.ShloMosaic Idealize.ShloMosaic.ValueIdx Cert.Mix Cert.Norm Cert.Products
open Cert.Words (zeroWord)
open Cert.Ffn (normed)
open Cert.Kernel4Ideal.Mix (bandAll normedAll colsAt tokenAll gainAll)

variable (x0 x1 x2 : S8192x1024.Idx → EReal) (x3 : S8192x1536.Idx → EReal) (x4 : S8192x512.Idx → EReal) (x5 : S8192x3072.Idx → EReal)
variable (x6 : S1x1024.Idx → EReal) (x7 : S1024x6144.Idx → EReal)
variable (t : Fin 8192) (u : Fin 1) (d : Fin 1024) (j : Fin 6144)

/-! ## The normed row -/

theorem r2 : val_main_v2 (F := Ideal) x0 (ix1 t) = ∑ e, rowOf x0 t e * rowOf x0 t e := by
  rw [val_main_v2_apply]
  refine (congrArg (· + _) zeroWord).trans ((zero_add _).trans (Finset.sum_congr rfl fun e _ => ?_))
  exact at2 (val_main_v1 (F := Ideal) x0) _ t e rfl rfl

theorem r7 : val_main_v7 (F := Ideal) x0 (ix2 t u) = msq (rowOf x0 t) := by
  show Ideal.div (val_main_v3 (F := Ideal) x0 (ix2 t u)) (val_main_v4 (F := Ideal) (ix2 t u)) + val_main_v6 (F := Ideal) (ix2 t u) = _
  rw [val_main_v3_apply (F := Ideal), val_main_v4_apply (F := Ideal), val_main_v6_apply (F := Ideal)]
  exact congrArg (fun s => Ideal.div s width + eps) ((at1 (val_main_v2 (F := Ideal) x0) _ t rfl).trans (r2 x0 t))

theorem r8 : val_main_v8 (F := Ideal) x0 (ix2 t u) = inv (rowOf x0 t) := congrArg Ideal.rsqrt (r7 x0 t u)

theorem r11 : val_main_v11 (F := Ideal) x0 (ix2 t u) = Ideal.ofBits .f32 0xBF000000#32 * Ideal.div (inv (rowOf x0 t)) (msq (rowOf x0 t)) := by
  show val_main_v10 (F := Ideal) (ix2 t u) * Ideal.div (val_main_v8 (F := Ideal) x0 (ix2 t u)) (val_main_v7 (F := Ideal) x0 (ix2 t u)) = _
  rw [val_main_v10_apply (F := Ideal), r8, r7]
  rfl

theorem r12 : val_main_v12 (F := Ideal) x0 (ix2 t d) = inv (rowOf x0 t) := by
  rw [val_main_v12_apply (F := Ideal)]
  exact (at2 (val_main_v8 (F := Ideal) x0) _ t 0 rfl rfl).trans (r8 x0 t 0)

theorem r13 : val_main_v13 (F := Ideal) x0 (ix2 t d) = hat (rowOf x0 t) d := congrArg (x0 (ix2 t d) * ·) (r12 x0 t d)

theorem r15 : val_main_v15 (F := Ideal) x0 x6 (ix2 t d) = normed (rowOf x0 t) (rowOf x6 0) d := by
  refine congrArg₂ (· * ·) (r13 x0 t d) ?_
  rw [val_main_v14_apply (F := Ideal)]
  exact at2 x6 _ 0 d rfl rfl

/-! ## The projection -/

theorem r16 : val_main_v16 (F := Ideal) x0 x6 x7 (ix2 t j) = proj (rowOf x0 t) (rowOf x6 0) (rowOf x7) j := by
  rw [val_main_v16_apply]
  show _ = ∑ e, normed (rowOf x0 t) (rowOf x6 0) e * rowOf x7 e j
  refine Finset.sum_congr rfl fun e _ => ?_
  exact congrArg₂ (· * ·) ((at2 (val_main_v15 (F := Ideal) x0 x6) _ t e rfl rfl).trans (r15 x0 x6 t e)) (at2 (val_main_v0 (F := Ideal) x7) _ e j rfl rfl)

theorem r17 (k : Fin 1024) : val_main_v17 (F := Ideal) x0 x6 x7 (ix2 t k) = proj (rowOf x0 t) (rowOf x6 0) (rowOf x7) (conv k) := by
  rw [val_main_v17_apply (F := Ideal)]
  exact (at2 (val_main_v16 (F := Ideal) x0 x6 x7) _ t (conv k) rfl (by show k.val = 0 + k.val; omega)).trans (r16 x0 x6 x7 t (conv k))

theorem r18 (k : Fin 1536) : val_main_v18 (F := Ideal) x0 x6 x7 (ix2 t k) = proj (rowOf x0 t) (rowOf x6 0) (rowOf x7) (att k) := by
  rw [val_main_v18_apply (F := Ideal)]
  exact (at2 (val_main_v16 (F := Ideal) x0 x6 x7) _ t (att k) rfl rfl).trans (r16 x0 x6 x7 t (att k))

theorem r19 (k : Fin 512) : val_main_v19 (F := Ideal) x0 x6 x7 (ix2 t k) = proj (rowOf x0 t) (rowOf x6 0) (rowOf x7) (mem k) := by
  rw [val_main_v19_apply (F := Ideal)]
  exact (at2 (val_main_v16 (F := Ideal) x0 x6 x7) _ t (mem k) rfl rfl).trans (r16 x0 x6 x7 t (mem k))

theorem r20 (k : Fin 3072) : val_main_v20 (F := Ideal) x0 x6 x7 (ix2 t k) = proj (rowOf x0 t) (rowOf x6 0) (rowOf x7) (gate k) := by
  rw [val_main_v20_apply (F := Ideal)]
  exact (at2 (val_main_v16 (F := Ideal) x0 x6 x7) _ t (gate k) rfl rfl).trans (r16 x0 x6 x7 t (gate k))

/-! ## The four gradients side by side -/

/-- The four arrays, each with its shape. -/
abbrev pieces : List ((s : Shape) × (s.Idx → EReal)) :=
  [⟨S8192x1024, val_main_v21 (F := Ideal) x2⟩, ⟨S8192x1536, val_main_v22 (F := Ideal) x3⟩, ⟨S8192x512, val_main_v23 (F := Ideal) x4⟩, ⟨S8192x3072, val_main_v24 (F := Ideal) x5⟩]

theorem r25 : val_main_v25 (F := Ideal) x2 x3 x4 x5 (ix2 t j) = colsAt x2 x3 x4 x5 t j := by
  unfold colsAt
  have hoff : ∀ (n : ℕ) (k : Fin n) (b : Fin 2), b ≠ 1 → (ix2 t k b).val = (ix2 t j b).val := fun n k b hb => match b with
    | ⟨0, _⟩ => rfl
    | ⟨1, _⟩ => absurd rfl hb
  obtain ⟨k, rfl⟩ | ⟨k, rfl⟩ | ⟨k, rfl⟩ | ⟨k, rfl⟩ := band_cases j
  · rw [join_conv]
    exact concatenate_apply_piece (t := S8192x6144) 1 (pieces x2 x3 x4 x5) concatenates_S8192x1024_S8192x1536_S8192x512_S8192x3072_S8192x6144_d1 (ix2 t (conv k)) 0 (Nat.lt_of_lt_of_eq (by decide : 0 < 4) rfl) S8192x1024 (val_main_v21 (F := Ideal) x2) rfl rfl 0 rfl (ix2 t k) (hoff _ k) rfl
  · rw [join_att]
    exact concatenate_apply_piece (t := S8192x6144) 1 (pieces x2 x3 x4 x5) concatenates_S8192x1024_S8192x1536_S8192x512_S8192x3072_S8192x6144_d1 (ix2 t (att k)) 1 (Nat.lt_of_lt_of_eq (by decide : 1 < 4) rfl) S8192x1536 (val_main_v22 (F := Ideal) x3) rfl rfl 1024 rfl (ix2 t k) (hoff _ k) rfl
  · rw [join_mem]
    exact concatenate_apply_piece (t := S8192x6144) 1 (pieces x2 x3 x4 x5) concatenates_S8192x1024_S8192x1536_S8192x512_S8192x3072_S8192x6144_d1 (ix2 t (mem k)) 2 (Nat.lt_of_lt_of_eq (by decide : 2 < 4) rfl) S8192x512 (val_main_v23 (F := Ideal) x4) rfl rfl 2560 rfl (ix2 t k) (hoff _ k) rfl
  · rw [join_gate]
    exact concatenate_apply_piece (t := S8192x6144) 1 (pieces x2 x3 x4 x5) concatenates_S8192x1024_S8192x1536_S8192x512_S8192x3072_S8192x6144_d1 (ix2 t (gate k)) 3 (Nat.lt_of_lt_of_eq (by decide : 3 < 4) rfl) S8192x3072 (val_main_v24 (F := Ideal) x5) rfl rfl 3072 rfl (ix2 t k) (hoff _ k) rfl

/-! ## The gradients of the normed row, the gain and the token -/

theorem r26 : val_main_v26 (F := Ideal) x2 x3 x4 x5 x7 (ix2 t d) = dnormed (rowOf x7) (colsAt x2 x3 x4 x5 t) d := by
  rw [val_main_v26_apply]
  show _ = ∑ j, colsAt x2 x3 x4 x5 t j * rowOf x7 d j
  refine Finset.sum_congr rfl fun j _ => ?_
  exact congrArg₂ (· * ·) ((at2 (val_main_v25 (F := Ideal) x2 x3 x4 x5) _ t j rfl rfl).trans (r25 x2 x3 x4 x5 t j)) (at2 (val_main_v0 (F := Ideal) x7) _ d j rfl rfl)

theorem r29 : val_main_v29 (F := Ideal) x0 x2 x3 x4 x5 x7 (ix2 u d) = gainAll x0 x2 x3 x4 x5 x7 (ix2 u d) := by
  rw [val_main_v29_apply (F := Ideal)]
  refine (at1 (val_main_v28 (F := Ideal) x0 x2 x3 x4 x5 x7) _ d (by show u.val * 1024 + d.val = d.val; omega)).trans ?_
  rw [val_main_v28_apply]
  show _ = ∑ t, dgain (rowOf x0 t) (rowOf x7) (colsAt x2 x3 x4 x5 t) d
  refine (congrArg (· + _) zeroWord).trans ((zero_add _).trans (Finset.sum_congr rfl fun t _ => ?_))
  refine (at2 (val_main_v27 (F := Ideal) x0 x2 x3 x4 x5 x7) _ t d rfl rfl).trans ?_
  exact (congrArg₂ (· * ·) (r13 x0 t d) (r26 x2 x3 x4 x5 x7 t d)).trans (mul_comm _ _)

/-- The gradient of the normalised row. -/
abbrev us : Fin 1024 → EReal := fun e => dnormed (rowOf x7) (colsAt x2 x3 x4 x5 t) e * rowOf x6 0 e

theorem r31 : val_main_v31 (F := Ideal) x2 x3 x4 x5 x6 x7 (ix2 t d) = us x2 x3 x4 x5 x6 x7 t d := by
  refine congrArg₂ (· * ·) (r26 x2 x3 x4 x5 x7 t d) ?_
  rw [val_main_v30_apply (F := Ideal)]
  exact at2 x6 _ 0 d rfl rfl

theorem r33 : val_main_v33 (F := Ideal) x0 x2 x3 x4 x5 x6 x7 (ix1 t) = ∑ e, rowOf x0 t e * us x2 x3 x4 x5 x6 x7 t e := by
  rw [val_main_v33_apply]
  refine (congrArg (· + _) zeroWord).trans ((zero_add _).trans (Finset.sum_congr rfl fun e _ => ?_))
  refine (at2 (val_main_v32 (F := Ideal) x0 x2 x3 x4 x5 x6 x7) _ t e rfl rfl).trans ?_
  exact congrArg (x0 (ix2 t e) * ·) (r31 x2 x3 x4 x5 x6 x7 t e)

theorem r39 : val_main_v39 (F := Ideal) x0 x2 x3 x4 x5 x6 x7 (ix2 t u) = rootFactor (rowOf x0 t) (us x2 x3 x4 x5 x6 x7 t) := by
  show Ideal.div (val_main_v34 (F := Ideal) x0 x2 x3 x4 x5 x6 x7 (ix2 t u) * val_main_v11 (F := Ideal) x0 (ix2 t u)) (val_main_v38 (F := Ideal) (ix2 t u)) = _
  rw [val_main_v34_apply (F := Ideal), r11, val_main_v38_apply (F := Ideal)]
  exact congrArg (fun s => Ideal.div (s * (Ideal.ofBits .f32 0xBF000000#32 * Ideal.div (inv (rowOf x0 t)) (msq (rowOf x0 t)))) width)
    ((at1 (val_main_v33 (F := Ideal) x0 x2 x3 x4 x5 x6 x7) _ t (by show t.val * 1 + u.val = t.val; omega)).trans (r33 x0 x2 x3 x4 x5 x6 x7 t))

theorem r41 : val_main_v41 (F := Ideal) x0 x2 x3 x4 x5 x6 x7 (ix2 t d) = rootFactor (rowOf x0 t) (us x2 x3 x4 x5 x6 x7 t) := by
  rw [val_main_v41_apply (F := Ideal)]
  refine (at1 (val_main_v40 (F := Ideal) x0 x2 x3 x4 x5 x6 x7) _ t rfl).trans ?_
  rw [val_main_v40_apply]
  refine (congrArg (· + _) zeroWord).trans ((zero_add _).trans ?_)
  rw [Fin.sum_univ_one]
  exact (at2 (val_main_v39 (F := Ideal) x0 x2 x3 x4 x5 x6 x7) _ t 0 rfl rfl).trans (r39 x0 x2 x3 x4 x5 x6 x7 t 0)

theorem r50 : val_main_v50 (F := Ideal) x0 x1 x2 x3 x4 x5 x6 x7 (ix2 t d) = tokenAll x0 x1 x2 x3 x4 x5 x6 x7 (ix2 t d) := by
  show x1 (ix2 t d) + (val_main_v31 (F := Ideal) x2 x3 x4 x5 x6 x7 (ix2 t d) * val_main_v35 (F := Ideal) x0 (ix2 t d)
    + x0 (ix2 t d) * val_main_v41 (F := Ideal) x0 x2 x3 x4 x5 x6 x7 (ix2 t d) + val_main_v41 (F := Ideal) x0 x2 x3 x4 x5 x6 x7 (ix2 t d) * x0 (ix2 t d)) = _
  rw [r31, r41, val_main_v35_apply (F := Ideal)]
  rw [show val_main_v8 (F := Ideal) x0 (idx_main_v35 (ix2 t d)) = inv (rowOf x0 t) from (at2 (val_main_v8 (F := Ideal) x0) _ t 0 rfl rfl).trans (r8 x0 t 0)]
  exact congrArg (x1 (ix2 t d) + ·) (back_eq (rowOf x0 t) (us x2 x3 x4 x5 x6 x7 t) d).symm

/-! ## The results -/

theorem uc_ref : val_main_v17 (F := Ideal) x0 x6 x7 = bandAll x0 x6 x7 0 1024 (by decide) := by
  funext i
  obtain ⟨t, d, rfl⟩ : ∃ (t : Fin 8192) (d : Fin 1024), i = ix2 t d := ⟨i 0, i 1, eq_ix2 i⟩
  exact r17 x0 x6 x7 t d

theorem qkv_ref : val_main_v46 (F := Ideal) x0 x6 x7 = bandAll x0 x6 x7 1024 1536 (by decide) := by
  funext i
  obtain ⟨t, d, rfl⟩ : ∃ (t : Fin 8192) (d : Fin 1536), i = ix2 t d := ⟨i 0, i 1, eq_ix2 i⟩
  exact r18 x0 x6 x7 t d

theorem mq_ref : val_main_v47 (F := Ideal) x0 x6 x7 = bandAll x0 x6 x7 2560 512 (by decide) := by
  funext i
  obtain ⟨t, d, rfl⟩ : ∃ (t : Fin 8192) (d : Fin 512), i = ix2 t d := ⟨i 0, i 1, eq_ix2 i⟩
  exact r19 x0 x6 x7 t d

theorem gl_ref : val_main_v48 (F := Ideal) x0 x6 x7 = bandAll x0 x6 x7 3072 3072 (by decide) := by
  funext i
  obtain ⟨t, d, rfl⟩ : ∃ (t : Fin 8192) (d : Fin 3072), i = ix2 t d := ⟨i 0, i 1, eq_ix2 i⟩
  exact r20 x0 x6 x7 t d

theorem normed_ref : val_main_v49 (F := Ideal) x0 x6 = normedAll x0 x6 := by
  funext i
  obtain ⟨t, d, rfl⟩ : ∃ (t : Fin 8192) (d : Fin 1024), i = ix2 t d := ⟨i 0, i 1, eq_ix2 i⟩
  exact r15 x0 x6 t d

theorem token_ref : val_main_v50 (F := Ideal) x0 x1 x2 x3 x4 x5 x6 x7 = tokenAll x0 x1 x2 x3 x4 x5 x6 x7 := by
  funext i
  obtain ⟨t, d, rfl⟩ : ∃ (t : Fin 8192) (d : Fin 1024), i = ix2 t d := ⟨i 0, i 1, eq_ix2 i⟩
  exact r50 x0 x1 x2 x3 x4 x5 x6 x7 t d

theorem gain_ref : val_main_v29 (F := Ideal) x0 x2 x3 x4 x5 x7 = gainAll x0 x2 x3 x4 x5 x7 := by
  funext i
  obtain ⟨t, d, rfl⟩ : ∃ (t : Fin 1) (d : Fin 1024), i = ix2 t d := ⟨i 0, i 1, eq_ix2 i⟩
  exact r29 x0 x2 x3 x4 x5 x7 t d

end Cert.Reference4Ideal.Read

end
-- ==== Proof.MixClaims.lean ====
/-
  The claims about the mixer's two kernels: from any arguments they end with the results of the plain program.
-/
module

public import proofs.«01_k».proof.Defs
public import proofs.«01_k».proof.Proof.MixRun
public import proofs.«01_k».proof.Proof.MixRef
public import proofs.«01_k».proof.Proof.Gen.Reference4Ideal.Run
public import Idealize.ShloMosaic.Adequacy
public import Idealize.ShloMosaic.Init

@[expose] public section

noncomputable section

namespace Cert.MixClaims

open Idealize.ShloMosaic Idealize.ShloMosaic.TcCoe Idealize.SL.Sem

theorem frame_reference : Cert.quiescent_Reference4Ideal := fun m ρ _ =>
  (θ_run Cert.Reference4Ideal.defs _ _).mono (fun r h => ⟨fun c => (h c).2.2.2.2.2.2.2, sem_eq_zero_of_no_sems (by decide) r.2⟩)
    (Cert.Reference4Ideal.Value.run (F := Ideal) m ρ)

theorem algebraic : Cert.algebraic_Kernel4Ideal_Reference4Ideal := by
  intro m ρ m' ρ' _ hagree
  refine ⟨_, _, _, _, _, _, _, Cert.Kernel4Ideal.Mix.run m ρ, ?_⟩
  refine (θ_run Cert.Reference4Ideal.defs _ _).mono (fun _ h c => ?_) (Cert.Reference4Ideal.Value.run (F := Ideal) m' ρ')
  obtain ⟨h0, h1, h2, h3, h4, h5, h6, h7⟩ := hagree c
  refine ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2⟩
  · rw [Cert.Reference4Ideal.Read.val_main_v17_eq, h0, h6, h7]
    exact Cert.Reference4Ideal.Read.uc_ref _ _ _
  · rw [Cert.Reference4Ideal.Read.val_main_v46_eq, h0, h6, h7]
    exact Cert.Reference4Ideal.Read.qkv_ref _ _ _
  · rw [Cert.Reference4Ideal.Read.val_main_v47_eq, h0, h6, h7]
    exact Cert.Reference4Ideal.Read.mq_ref _ _ _
  · rw [Cert.Reference4Ideal.Read.val_main_v48_eq, h0, h6, h7]
    exact Cert.Reference4Ideal.Read.gl_ref _ _ _
  · rw [Cert.Reference4Ideal.Read.val_main_v49_eq, h0, h6]
    exact Cert.Reference4Ideal.Read.normed_ref _ _
  · rw [Cert.Reference4Ideal.Read.val_main_v50_eq, h0, h1, h2, h3, h4, h5, h6, h7]
    exact Cert.Reference4Ideal.Read.token_ref _ _ _ _ _ _ _ _
  · rw [Cert.Reference4Ideal.Read.val_main_v29_eq, h0, h2, h3, h4, h5, h7]
    exact Cert.Reference4Ideal.Read.gain_ref _ _ _ _ _ _

end Cert.MixClaims

end
-- ==== Proof.MixGradStores.lean ====
/-
  What the gated mix's gradient kernel stores at a grid point: the same stores at every point, over the sums the point before
  left in the bias gradient's block, or over zeros at the first point.
-/
module

public import proofs.«01_k».proof.Proof.MixGradFrame
public import proofs.«01_k».proof.Proof.CombineTile
public import proofs.«01_k».proof.Proof.WeightTile
import Idealize.ShloMosaic.Lib.Tactic

@[expose] public section

set_option maxRecDepth 16384

noncomputable section

namespace Cert.MixGradTile

open Cert.Kernel9Ideal Cert.Kernel9Ideal.Gen Cert.MixGradFrame
open Idealize.ShloMosaic Idealize.ShloMosaic.ValueIdx Idealize.ShloMosaic.TcCoe Idealize.SL.Sem
open Cert.Words

variable (m : (ℓ : Loc nD τ sig) → Buf (Elt Ideal) ℓ) (c : Dev nD) (t : Fin cfg0.N)

/-! ## The stores of a point -/

/-- The gradient arriving at a point's tokens, before the last product. -/
abbrev dyV : FVec Ideal S256x1024 .f32 := kernelRun0_C.sl.r (F := Ideal) c t (ms0_7 t) (hs0_7 t) (iblk m c 7 t) (V m c main_arg0)
/-- The three branches' projections. -/
abbrev yV0 : FVec Ideal S256x1024 .f32 := kernelRun0_C.sl.r_1 (F := Ideal) c (ms0_0 t) (hs0_0 t) (ms0_4 t) (hs0_4 t) (iblk m c 0 t) (iblk m c 4 t)
abbrev yV1 : FVec Ideal S256x1024 .f32 := kernelRun0_C.sl.r_3 (F := Ideal) c (ms0_1 t) (hs0_1 t) (ms0_5 t) (hs0_5 t) (iblk m c 1 t) (iblk m c 5 t)
abbrev yV2 : FVec Ideal S256x1024 .f32 := kernelRun0_C.sl.r_5 (F := Ideal) c (ms0_2 t) (hs0_2 t) (ms0_6 t) (hs0_6 t) (iblk m c 2 t) (iblk m c 6 t)
/-- The first branch's logits and the two others' gates. -/
abbrev zV0 : FVec Ideal S256x1024 .f32 := kernelRun0_C.sl.r_2 (F := Ideal) c t (ms0_3 t) (hs0_3 t) (iblk m c 3 t) (V m c main_arg4)
abbrev gV1 : FVec Ideal S256x1024 .f32 := kernelRun0_C.sl.r_4 (F := Ideal) c t (ms0_3 t) (hs0_3 t) (iblk m c 3 t) (V m c main_arg4)
abbrev gV2 : FVec Ideal S256x1024 .f32 := kernelRun0_C.sl.r_6 (F := Ideal) c t (ms0_3 t) (hs0_3 t) (iblk m c 3 t) (V m c main_arg4)
/-- The three branches' matrices as the last products load them. -/
abbrev wV0 : FVec Ideal S512x1024 .bf16 :=
  View.readAt (Elt Ideal) (ms0_4 t).view (Rect.unit (s := S512x1024) ![0, 0] ![512, 1024] inb_S512x1024_S512x1024_0_0).toLoadRect ((hs0_4 t).unread (iblk m c 4 t))
abbrev wV1 : FVec Ideal S512x1024 .bf16 :=
  View.readAt (Elt Ideal) (ms0_5 t).view (Rect.unit (s := S512x1024) ![0, 0] ![512, 1024] inb_S512x1024_S512x1024_0_0).toLoadRect ((hs0_5 t).unread (iblk m c 5 t))
abbrev wV2 : FVec Ideal S512x1024 .bf16 :=
  View.readAt (Elt Ideal) (ms0_6 t).view (Rect.unit (s := S512x1024) ![0, 0] ![512, 1024] inb_S512x1024_S512x1024_0_0).toLoadRect ((hs0_6 t).unread (iblk m c 6 t))

/-- The stores of a point into the blocks that are not carried. -/
structure Made {p} (r : Stores (F := Ideal) p) : Prop where
  dgl : r.1 = [⟨Rect.unit ![0, 2048] ![256, 1024] inb_S256x3072_S256x1024_0_2048, k0_pay3 (dyV m c t) (yV2 m c t) (gV2 m c t)⟩,
    ⟨Rect.unit ![0, 1024] ![256, 1024] inb_S256x3072_S256x1024_0_1024, k0_pay22 (dyV m c t) (yV1 m c t) (gV1 m c t)⟩,
    ⟨Rect.unit ![0, 0] ![256, 1024] inb_S256x3072_S256x1024_0_0, k0_pay14 (dyV m c t) (yV0 m c t) (zV0 m c t)⟩]
  dc : r.2.1 = [⟨Rect.unit ![0, 0] ![256, 512] inb_S256x512_S256x512_0_0, k0_pay17 (dyV m c t) (zV0 m c t) (wV0 m c t)⟩]
  da : r.2.2.1 = [⟨Rect.unit ![0, 0] ![256, 512] inb_S256x512_S256x512_0_0, k0_pay25 (dyV m c t) (gV1 m c t) (wV1 m c t)⟩]
  dm : r.2.2.2.1 = [⟨Rect.unit ![0, 0] ![256, 512] inb_S256x512_S256x512_0_0, k0_pay6 (dyV m c t) (gV2 m c t) (wV2 m c t)⟩]
  dyc : r.2.2.2.2.1 = [⟨Rect.unit ![0, 0] ![256, 1024] inb_S256x1024_S256x1024_0_0, k0_pay16 (dyV m c t) (zV0 m c t)⟩]
  dya : r.2.2.2.2.2.1 = [⟨Rect.unit ![0, 0] ![256, 1024] inb_S256x1024_S256x1024_0_0, k0_pay24 (dyV m c t) (gV1 m c t)⟩]
  dym : r.2.2.2.2.2.2.1 = [⟨Rect.unit ![0, 0] ![256, 1024] inb_S256x1024_S256x1024_0_0, k0_pay5 (dyV m c t) (gV2 m c t)⟩]

/-- The stores into the bias gradient's block, over rows `x0`, `x1`, `x2` of sums so far. -/
abbrev biasStores (x0 x1 x2 : Vec Ideal S1x1024 .f32) : List (View.Piece (Elt Ideal) S1x3072 .f32) :=
  [⟨Rect.unit ![0, 2048] ![1, 1024] inb_S1x3072_S1x1024_0_2048, k0_pay4 (dyV m c t) (yV2 m c t) (gV2 m c t) x2⟩,
    ⟨Rect.unit ![0, 1024] ![1, 1024] inb_S1x3072_S1x1024_0_1024, k0_pay23 (dyV m c t) (yV1 m c t) (gV1 m c t) x1⟩,
    ⟨Rect.unit ![0, 0] ![1, 1024] inb_S1x3072_S1x1024_0_0, k0_pay15 (dyV m c t) (yV0 m c t) (zV0 m c t) x0⟩]

/-- A block of the carried sums, as a point loads it. -/
abbrev carriedRow (xo : Vec Ideal S1x3072 .f32) (o : ℕ) (inb : ∀ a, (![0, o] : Fin 2 → ℕ) a + (![1, 1024] : Fin 2 → ℕ) a ≤ S1x3072.size a) : Vec Ideal S1x1024 .f32 :=
  View.readAt (Elt Ideal) (ms0_15 t).view (Rect.unit (s := S1x3072) ![0, o] ![1, 1024] inb).toLoadRect ((hs0_15 t).unread xo)

/-- The stores of a point that starts no fetch. -/
theorem madeC (h0 : ¬t.val % 32 = 0) (h1 : ¬t.val < 30) (xo : Vec Ideal S1x3072 .f32) : Made m c t (runC m c t h0 h1 xo) := by
  unfold runC kernelRun0_C
  exact ⟨rfl, rfl, rfl, rfl, rfl, rfl, rfl⟩
theorem biasC (h0 : ¬t.val % 32 = 0) (h1 : ¬t.val < 30) (xo : Vec Ideal S1x3072 .f32) : (runC m c t h0 h1 xo).2.2.2.2.2.2.2.1
    = biasStores m c t (carriedRow t xo 0 inb_S1x3072_S1x1024_0_0) (carriedRow t xo 1024 inb_S1x3072_S1x1024_0_1024) (carriedRow t xo 2048 inb_S1x3072_S1x1024_0_2048) := by
  unfold runC kernelRun0_C
  rfl
/-- The stores of a middle point. -/
theorem madeB (h0 : ¬t.val % 32 = 0) (h1 : t.val < 30) (xo : Vec Ideal S1x3072 .f32) : Made m c t (runB m c t h0 h1 xo) := by
  unfold runB kernelRun0_B
  exact ⟨rfl, rfl, rfl, rfl, rfl, rfl, rfl⟩
theorem biasB (h0 : ¬t.val % 32 = 0) (h1 : t.val < 30) (xo : Vec Ideal S1x3072 .f32) : (runB m c t h0 h1 xo).2.2.2.2.2.2.2.1
    = biasStores m c t (carriedRow t xo 0 inb_S1x3072_S1x1024_0_0) (carriedRow t xo 1024 inb_S1x3072_S1x1024_0_1024) (carriedRow t xo 2048 inb_S1x3072_S1x1024_0_2048) := by
  unfold runB kernelRun0_B
  rfl
/-- The stores of the first point. -/
theorem madeA (h0 : t.val % 32 = 0) (h1 : t.val < 30) : Made m c t (runA m c t h0 h1) := by
  unfold runA kernelRun0_A
  exact ⟨rfl, rfl, rfl, rfl, rfl, rfl, rfl⟩
/-- The block of zeros the first point stores. -/
abbrev zeroStore : View.Piece (Elt Ideal) S1x3072 .f32 := ⟨Rect.unit (s := S1x3072) ![0, 0] S1x3072.size inb_S1x3072_S1x3072_0_0, k0_pay7 (F := Ideal)⟩

/-- A load of the bias gradient's block after the zeros. -/
theorem zeros_load (r : Rect S1x3072) (i : r.shape.Idx) : (ms0_15 t).view.readCov [zeroStore] r.toLoadRect i = 0 := by
  rw [View.readCov_fill _ _ _ _ _ (by decide)]
  exact zeroWord

/-- The same for the second and the third columns, past the stores into the columns before. -/
theorem zeros_load1 (w0 : Vec Ideal S1x1024 .f32) (i : S1x1024.Idx) :
    (ms0_15 t).view.readCov [⟨Rect.unit ![0, 0] ![1, 1024] inb_S1x3072_S1x1024_0_0, w0⟩, zeroStore]
      (Rect.unit (s := S1x3072) ![0, 1024] ![1, 1024] inb_S1x3072_S1x1024_0_1024).toLoadRect i = 0 := by
  rw [View.readCov_skip _ _ _ _ _ (by decide)]
  exact zeros_load t (Rect.unit (s := S1x3072) ![0, 1024] ![1, 1024] inb_S1x3072_S1x1024_0_1024) i
theorem zeros_load2 (w0 w1 : Vec Ideal S1x1024 .f32) (i : S1x1024.Idx) :
    (ms0_15 t).view.readCov [⟨Rect.unit ![0, 1024] ![1, 1024] inb_S1x3072_S1x1024_0_1024, w1⟩, ⟨Rect.unit ![0, 0] ![1, 1024] inb_S1x3072_S1x1024_0_0, w0⟩, zeroStore]
      (Rect.unit (s := S1x3072) ![0, 2048] ![1, 1024] inb_S1x3072_S1x1024_0_2048).toLoadRect i = 0 := by
  rw [View.readCov_skip _ _ _ _ _ (by decide), View.readCov_skip _ _ _ _ _ (by decide)]
  exact zeros_load t (Rect.unit (s := S1x3072) ![0, 2048] ![1, 1024] inb_S1x3072_S1x1024_0_2048) i

/-- The stores of the first point: what it loads of the bias gradient's block is zero. -/
theorem biasA (h0 : t.val % 32 = 0) (h1 : t.val < 30) : ∃ x0 x1 x2, (runA m c t h0 h1).2.2.2.2.2.2.2.1 = biasStores m c t x0 x1 x2 ++ [zeroStore]
    ∧ (∀ i, x0 i = 0) ∧ (∀ i, x1 i = 0) ∧ (∀ i, x2 i = 0) := by
  unfold runA kernelRun0_A
  refine ⟨kernelRun0_A.sl.v74 c (ms0_15 t), kernelRun0_A.sl.v103 c t (ms0_0 t) (hs0_0 t) (ms0_3 t) (hs0_3 t) (ms0_4 t) (hs0_4 t) (ms0_7 t) (hs0_7 t) (ms0_15 t) (iblk m c 0 t) (iblk m c 3 t) (iblk m c 4 t) (iblk m c 7 t) (V m c main_arg0) (V m c main_arg4),
    kernelRun0_A.sl.v133 c t (ms0_0 t) (hs0_0 t) (ms0_1 t) (hs0_1 t) (ms0_3 t) (hs0_3 t) (ms0_4 t) (hs0_4 t) (ms0_5 t) (hs0_5 t) (ms0_7 t) (hs0_7 t) (ms0_15 t) (iblk m c 0 t) (iblk m c 1 t) (iblk m c 3 t) (iblk m c 4 t) (iblk m c 5 t) (iblk m c 7 t) (V m c main_arg0) (V m c main_arg4), rfl, ?_, ?_, ?_⟩
  · intro i
    unfold kernelRun0_A.sl.v74 kernelRun0_A.sl.H15_1
    exact zeros_load t (Rect.unit (s := S1x3072) ![0, 0] S1x1024.size inb_S1x3072_S1x1024_0_0) i
  · intro i
    unfold kernelRun0_A.sl.v103 kernelRun0_A.sl.H15_2 kernelRun0_A.sl.H15_1
    exact zeros_load1 t _ i
  · intro i
    unfold kernelRun0_A.sl.v133 kernelRun0_A.sl.H15_3 kernelRun0_A.sl.H15_2 kernelRun0_A.sl.H15_1
    exact zeros_load2 t _ _ i

end Cert.MixGradTile

end

end
-- ==== Proof.MixGradTile.lean ====
/-
  What one grid point of the gated mix's gradient kernel leaves in its blocks, as functions of the token's rows, and the result
  arrays after the kernel's 32 points.
-/
module

public import proofs.«01_k».proof.Proof.MixGradStores

@[expose] public section

set_option maxRecDepth 16384

noncomputable section

namespace Cert.MixGradTile

open Cert.Kernel9Ideal Cert.Kernel9Ideal.Gen Cert.MixGradFrame
open Idealize.ShloMosaic Idealize.ShloMosaic.ValueIdx Idealize.ShloMosaic.TcCoe Idealize.SL.Sem
open Cert.Words Cert.Gate Cert.Products
open Cert.Kernel2Ideal.Ffn (rowOf)
open Cert.Kernel8Ideal.Combine (rowsOf matsOf)
open Cert.Gather (read_tiles gathered_last at0 at0_of sum_tiles)

/-! ## The gradients of all tokens -/

section Whole

variable {n : ℕ} (x : (Mat n 1024).Idx → EReal) (a₀ a₁ a₂ : (Mat n 512).Idx → EReal) (z : (Mat n 3072).Idx → EReal) (b : (Mat 1 3072).Idx → EReal)
  (w₀ w₁ w₂ w : (Mat 512 1024).Idx → EReal) (wo : (Mat 1024 1024).Idx → EReal) (j : Fin 3)

/-- The gradient of every logit of every token. -/
def logitGrad (i : (Mat n 3072).Idx) : EReal :=
  dlogit (rowsOf a₀ a₁ a₂ (i 0) (branch (i 1))) (matsOf w₀ w₁ w₂ (branch (i 1))) (rowOf z (i 0)) (rowOf b 0) (rowOf x (i 0)) (rowOf wo) (branch (i 1)) (entry (i 1))
/-- The gradient of the logits' bias. -/
def biasGrad (i : (Mat 1 3072).Idx) : EReal := ∑ t : Fin n, logitGrad x a₀ a₁ a₂ z b w₀ w₁ w₂ wo (ix2 t (i 1))
/-- The gradients of a branch's projections and of its rows. -/
def projGrad (i : (Mat n 1024).Idx) : EReal := through (rowOf z (i 0)) (rowOf b 0) (rowOf x (i 0)) (rowOf wo) j (i 1)
def branchGrad (i : (Mat n 512).Idx) : EReal := dbranch (rowOf w) (rowOf z (i 0)) (rowOf b 0) (rowOf x (i 0)) (rowOf wo) j (i 1)

theorem logitGrad_col (t : Fin n) (d : Fin 1024) : logitGrad x a₀ a₁ a₂ z b w₀ w₁ w₂ wo (ix2 t (col j d))
    = dlogit (rowsOf a₀ a₁ a₂ t j) (matsOf w₀ w₁ w₂ j) (rowOf z t) (rowOf b 0) (rowOf x t) (rowOf wo) j d := by
  show dlogit (rowsOf a₀ a₁ a₂ t (branch (col j d))) (matsOf w₀ w₁ w₂ (branch (col j d))) (rowOf z t) (rowOf b 0) (rowOf x t) (rowOf wo) (branch (col j d)) (entry (col j d)) = _
  rw [branch_col, entry_col]

theorem projGrad_at (t : Fin n) (d : Fin 1024) : projGrad x z b wo j (ix2 t d) = arrive (rowOf x t) (rowOf wo) d * gate (rowOf z t) (rowOf b 0) j d := rfl

theorem branchGrad_at (t : Fin n) (k : Fin 512) : branchGrad x z b w wo j (ix2 t k) = ∑ d, projGrad x z b wo j (ix2 t d) * w (ix2 k d) := rfl

end Whole

/-! ## The stored values -/

section Values

variable (dy y z g : FVec Ideal S256x1024 .f32) (s : Fin 256) (d : Fin 1024) (k : Fin 512)

theorem proj_at (a : Vec Ideal S256x512 .bf16) (w : Vec Ideal S512x1024 .bf16) : k0_pay9 (F := Ideal) a w (ix2 s d) = ∑ k, a (ix2 s k) * w (ix2 k d) := by
  unfold k0_pay9
  rw [show dot_S256x512_S512x1024_S256x1024_1_0_0_1_n_n = DotDims.plain 256 512 1024 from rfl]
  exact rows_cols a w s d

theorem arrive_at (v : Vec Ideal S1x256x1024 .f32) (w : Vec Ideal S1024x1024 .bf16) :
    k0_pay8 (F := Ideal) v w (ix2 s d) = ∑ e, shapeCast S256x1024 v shapeCasts_S1x256x1024_S256x1024 (ix2 s e) * w (ix2 d e) := by
  unfold k0_pay8
  rw [show dot_S256x1024_S1024x1024_S256x1024_1_1_0_0_n_n = DotDims.transposedRhs 256 1024 1024 from rfl]
  exact rows_rows (truncf .bf16 (shapeCast S256x1024 v shapeCasts_S1x256x1024_S256x1024) bitsLt_bf16_f32) w s d

theorem logit_at (v : Vec Ideal S256x1024 .bf16) (b : Vec Ideal S1x1024 .f32) : k0_pay10 (F := Ideal) v b (ix2 s d) = v (ix2 s d) + b (ix2 0 d) :=
  congrArg (v (ix2 s d) + ·) (spreadRow _ _ (by decide) s d)

theorem gate_at (v : Vec Ideal S256x1024 .bf16) (b : Vec Ideal S1x1024 .f32) : k0_pay19 (F := Ideal) v b (ix2 s d) = Ideal.logistic (v (ix2 s d) + b (ix2 0 d)) :=
  congrArg (fun q => Ideal.logistic (v (ix2 s d) + q)) (spreadRow _ _ (by decide) s d)

theorem dlogit_at (i : S256x1024.Idx) : k0_pay21 (F := Ideal) dy y g i = dy i * g i * y i * (1 - g i) :=
  congrArg (fun o => dy i * g i * y i * (o - g i)) ofBits_one

theorem bias_at (x : Vec Ideal S1x1024 .f32) : k0_pay23 (F := Ideal) dy y g x (ix2 0 d) = x (ix2 0 d) + ∑ s, k0_pay21 (F := Ideal) dy y g (ix2 s d) := by
  unfold k0_pay23
  exact congrArg₂ (· + ·) (congrFun (shapeCast_self x _) _) (colSum _ _ _ _ _ 0 d)

theorem through_at (i : S256x1024.Idx) : k0_pay24 (F := Ideal) dy g i = dy i * g i := rfl

theorem dbranch_at (w : Vec Ideal S512x1024 .bf16) : k0_pay25 (F := Ideal) dy g w (ix2 s k) = ∑ d, dy (ix2 s d) * g (ix2 s d) * w (ix2 k d) := by
  unfold k0_pay25
  rw [show dot_S256x1024_S512x1024_S256x512_1_1_0_0_n_n = DotDims.transposedRhs 256 1024 512 from rfl]
  exact rows_rows (k0_pay24 (F := Ideal) dy g) w s k

/-- The first branch's values are the second's at the gate of its logits, the third's are the second's. -/
theorem first_logit : k0_pay14 (F := Ideal) dy y z = k0_pay22 (F := Ideal) dy y (logistic (F := Ideal) (φ := .f32) z) := rfl
theorem first_bias (x : Vec Ideal S1x1024 .f32) : k0_pay15 (F := Ideal) dy y z x = k0_pay23 (F := Ideal) dy y (logistic (F := Ideal) (φ := .f32) z) x := rfl
theorem first_proj : k0_pay16 (F := Ideal) dy z = k0_pay24 (F := Ideal) dy (logistic (F := Ideal) (φ := .f32) z) := rfl
theorem first_branch (w : Vec Ideal S512x1024 .bf16) : k0_pay17 (F := Ideal) dy z w = k0_pay25 (F := Ideal) dy (logistic (F := Ideal) (φ := .f32) z) w := rfl
theorem third_bias (x : Vec Ideal S1x1024 .f32) : k0_pay4 (F := Ideal) dy y g x = k0_pay23 (F := Ideal) dy y g x := rfl
theorem third_proj : k0_pay5 (F := Ideal) dy g = k0_pay24 (F := Ideal) dy g := rfl
theorem third_branch (w : Vec Ideal S512x1024 .bf16) : k0_pay6 (F := Ideal) dy g w = k0_pay25 (F := Ideal) dy g w := rfl

end Values

/-! ## The blocks a point loads -/

variable (m : (ℓ : Loc nD τ sig) → Buf (Elt Ideal) ℓ) (c : Dev nD) (t : Fin cfg0.N)

/-- The arrays the run starts from. -/
abbrev argX : S8192x1024.Idx → EReal := m ((c : Thread nD τ).loc main_arg0)
abbrev argA0 : S8192x512.Idx → EReal := m ((c : Thread nD τ).loc main_arg1)
abbrev argA1 : S8192x512.Idx → EReal := m ((c : Thread nD τ).loc main_arg2)
abbrev argA2 : S8192x512.Idx → EReal := m ((c : Thread nD τ).loc main_arg3)
abbrev argZ : S8192x3072.Idx → EReal := m ((c : Thread nD τ).loc main_arg4)
abbrev argB : S1x3072.Idx → EReal := m ((c : Thread nD τ).loc main_arg5)
abbrev argW0 : S512x1024.Idx → EReal := m ((c : Thread nD τ).loc main_arg6)
abbrev argW1 : S512x1024.Idx → EReal := m ((c : Thread nD τ).loc main_arg7)
abbrev argW2 : S512x1024.Idx → EReal := m ((c : Thread nD τ).loc main_arg8)
abbrev argO : S1024x1024.Idx → EReal := m ((c : Thread nD τ).loc main_arg9)

theorem index : ∀ t : Fin grid0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = 0 ∧ win0_3.index t 1 = 0) ∧ (win0_4.index t 0 = 0 ∧ win0_4.index t 1 = 0)
    ∧ (win0_5.index t 0 = 0 ∧ win0_5.index t 1 = 0) ∧ (win0_6.index t 0 = 0 ∧ win0_6.index t 1 = 0) ∧ (win0_7.index t 0 = 0 ∧ win0_7.index t 1 = 0) := by decide +kernel

theorem index' : ∀ t : Fin grid0.N, (win0_8.index t 0 = t.val ∧ win0_8.index t 1 = 0) ∧ (win0_9.index t 0 = t.val ∧ win0_9.index t 1 = 0)
    ∧ (win0_10.index t 0 = t.val ∧ win0_10.index t 1 = 0) ∧ (win0_11.index t 0 = t.val ∧ win0_11.index t 1 = 0) ∧ (win0_12.index t 0 = t.val ∧ win0_12.index t 1 = 0)
    ∧ (win0_13.index t 0 = t.val ∧ win0_13.index t 1 = 0) ∧ (win0_14.index t 0 = t.val ∧ win0_14.index t 1 = 0) ∧ (win0_15.index t 0 = 0 ∧ win0_15.index t 1 = 0) := by decide +kernel

/-- Token `s` of grid point `t`. -/
def at256 (t : Fin cfg0.N) (s : Fin 256) : Fin 8192 := ⟨t.val * 256 + s.val, by have := t.isLt; have : cfg0.N = 32 := N_0; omega⟩

section Blocks

variable (s : Fin 256) (d : Fin 1024) (k : Fin 512)

theorem blk_a0 : iblk m c 0 t (ix2 s k) = argA0 m c (ix2 (at256 t s) k) := by
  obtain ⟨h0, h1⟩ := (index t).1
  unfold iblk
  rw [View.read_apply]
  exact congrArg (argA0 m c) (ix2_of _ _ _ (by show win0_0.index t 0 * 256 + 1 * s.val = t.val * 256 + s.val; rw [h0]; omega)
    (by show win0_0.index t 1 * 512 + 1 * k.val = k.val; rw [h1]; omega))
theorem blk_a1 : iblk m c 1 t (ix2 s k) = argA1 m c (ix2 (at256 t s) k) := by
  obtain ⟨h0, h1⟩ := (index t).2.1
  unfold iblk
  rw [View.read_apply]
  exact congrArg (argA1 m c) (ix2_of _ _ _ (by show win0_1.index t 0 * 256 + 1 * s.val = t.val * 256 + s.val; rw [h0]; omega)
    (by show win0_1.index t 1 * 512 + 1 * k.val = k.val; rw [h1]; omega))
theorem blk_a2 : iblk m c 2 t (ix2 s k) = argA2 m c (ix2 (at256 t s) k) := by
  obtain ⟨h0, h1⟩ := (index t).2.2.1
  unfold iblk
  rw [View.read_apply]
  exact congrArg (argA2 m c) (ix2_of _ _ _ (by show win0_2.index t 0 * 256 + 1 * s.val = t.val * 256 + s.val; rw [h0]; omega)
    (by show win0_2.index t 1 * 512 + 1 * k.val = k.val; rw [h1]; omega))
theorem blk_b (i : Fin 3072) : iblk m c 3 t (ix2 0 i) = argB m c (ix2 0 i) := by
  obtain ⟨h0, h1⟩ := (index t).2.2.2.1
  unfold iblk
  rw [View.read_apply]
  exact congrArg (argB m c) (ix2_of _ _ _ (by show win0_3.index t 0 * 1 + 1 * 0 = 0; rw [h0])
    (by show win0_3.index t 1 * 3072 + 1 * i.val = i.val; rw [h1]; omega))
theorem blk_w0 : iblk m c 4 t (ix2 k d) = argW0 m c (ix2 k d) := by
  obtain ⟨h0, h1⟩ := (index t).2.2.2.2.1
  unfold iblk
  rw [View.read_apply]
  exact congrArg (argW0 m c) (ix2_of _ _ _ (by show win0_4.index t 0 * 512 + 1 * k.val = k.val; rw [h0]; omega)
    (by show win0_4.index t 1 * 1024 + 1 * d.val = d.val; rw [h1]; omega))
theorem blk_w1 : iblk m c 5 t (ix2 k d) = argW1 m c (ix2 k d) := by
  obtain ⟨h0, h1⟩ := (index t).2.2.2.2.2.1
  unfold iblk
  rw [View.read_apply]
  exact congrArg (argW1 m c) (ix2_of _ _ _ (by show win0_5.index t 0 * 512 + 1 * k.val = k.val; rw [h0]; omega)
    (by show win0_5.index t 1 * 1024 + 1 * d.val = d.val; rw [h1]; omega))
theorem blk_w2 : iblk m c 6 t (ix2 k d) = argW2 m c (ix2 k d) := by
  obtain ⟨h0, h1⟩ := (index t).2.2.2.2.2.2.1
  unfold iblk
  rw [View.read_apply]
  exact congrArg (argW2 m c) (ix2_of _ _ _ (by show win0_6.index t 0 * 512 + 1 * k.val = k.val; rw [h0]; omega)
    (by show win0_6.index t 1 * 1024 + 1 * d.val = d.val; rw [h1]; omega))
theorem blk_o (e : Fin 1024) : iblk m c 7 t (ix2 d e) = argO m c (ix2 d e) := by
  obtain ⟨h0, h1⟩ := (index t).2.2.2.2.2.2.2
  unfold iblk
  rw [View.read_apply]
  exact congrArg (argO m c) (ix2_of _ _ _ (by show win0_7.index t 0 * 1024 + 1 * d.val = d.val; rw [h0]; omega)
    (by show win0_7.index t 1 * 1024 + 1 * e.val = e.val; rw [h1]; omega))

/-- A load of a staging block that holds `x`. -/
theorem load_at {M N a b : ℕ} {e : EltTy} (mm : Memref sig .tc .vmem (Mat M N) e) (h : mm.IsWhole) (x : Vec Ideal (Mat M N) e) (r o : ℕ) (inb) (i : Fin a) (j : Fin b)
    (I : Fin M) (J : Fin N) (hI : I.val = r + i.val) (hJ : J.val = o + j.val) :
    View.readAt (Elt Ideal) mm.view (Rect.unit (s := Mat M N) ![r, o] ![a, b] inb).toLoadRect (h.unread x) (ix2 i j) = x (ix2 I J) :=
  (congrFun (congrArg (fun f => View.ld (Val := Elt Ideal) (e' := e) f (Rect.unit (s := Mat M N) ![r, o] ![a, b] inb)) (h.read_unread x)) (ix2 i j)).trans
    (ld_block x r o inb i j I J hI hJ)

/-- The block of the gradient's rows and of the logits' rows that a point has fetched. -/
theorem bk_val : ∀ t : Fin grid0.N, (Ring.bk 32 t.val).val = t.val := by decide +kernel

theorem source_x (e : Fin 1024) : (srcB0_0 (Ring.bk 32 t.val)).view.read (Elt Ideal) (V m c main_arg0) (ix2 s e) = argX m c (ix2 (at256 t s) e) := by
  refine (View.read_apply _ _).trans ?_
  exact congrArg (argX m c) (ix2_of _ _ _ (by show 256 * (Ring.bk 32 t.val).val + 1 * s.val = t.val * 256 + s.val; rw [bk_val t]; omega)
    (by show 0 + 1 * e.val = e.val; omega))
theorem source_z (i : Fin 3072) : (srcB0_1 (Ring.bk 32 t.val)).view.read (Elt Ideal) (V m c main_arg4) (ix2 s i) = argZ m c (ix2 (at256 t s) i) := by
  refine (View.read_apply _ _).trans ?_
  exact congrArg (argZ m c) (ix2_of _ _ _ (by show 256 * (Ring.bk 32 t.val).val + 1 * s.val = t.val * 256 + s.val; rw [bk_val t]; omega)
    (by show 0 + 1 * i.val = i.val; omega))

/-- A block landed in a slot of a ring, as it is loaded from the ring's memory. -/
theorem landed (A : Memref sig .tc .vmem S3x256x1024 .f32) (w : Vec Ideal S256x1024 .f32) (off off' : Fin 3 → ℕ) (inb inb' f) (h : off = off') :
    shapeCast S256x1024 (View.readAt (Elt Ideal) A.view (Rect.unit (s := S3x256x1024) off S1x256x1024.size inb).toLoadRect
      (((A.slice (Rect.unit (s := S3x256x1024) off' S1x256x1024.size inb') (fun _ => rfl)).squeeze S256x1024 squeezes_S1x256x1024_S256x1024).view.writes (Elt Ideal)
        f [⟨Rect.whole S256x1024, w⟩])) shapeCasts_S1x256x1024_S256x1024 = w := by
  subst h
  exact View.read_writes_whole ((A.slice (Rect.unit (s := S3x256x1024) off S1x256x1024.size inb') (fun _ => rfl)).squeeze S256x1024 squeezes_S1x256x1024_S256x1024).view f w

theorem dy_at : dyV m c t (ix2 s d) = arrive (rowOf (argX m c) (at256 t s)) (rowOf (argO m c)) d := by
  unfold dyV kernelRun0_C.sl.r
  rw [arrive_at]
  refine Finset.sum_congr rfl fun e _ => congrArg₂ (· * ·) ?_ ?_
  · refine Eq.trans (congrFun ?_ (ix2 s e)) (source_x m c t s e)
    unfold kernelRun0_C.sl.v51
    exact landed scM0_0 _ _ _ _ _ _ (coff0_0_13 t)
  · exact (load_at (ms0_7 t) (hs0_7 t) _ 0 0 _ d e d e (Nat.zero_add _).symm (Nat.zero_add _).symm).trans (blk_o m c t d e)

theorem y0_at : yV0 m c t (ix2 s d) = proj (rowOf (argA0 m c) (at256 t s)) (rowOf (argW0 m c)) d := by
  unfold yV0 kernelRun0_C.sl.r_1
  rw [proj_at]
  exact Finset.sum_congr rfl fun k _ => congrArg₂ (· * ·)
    ((load_at (ms0_0 t) (hs0_0 t) _ 0 0 _ s k s k (Nat.zero_add _).symm (Nat.zero_add _).symm).trans (blk_a0 m c t s k))
    ((load_at (ms0_4 t) (hs0_4 t) _ 0 0 _ k d k d (Nat.zero_add _).symm (Nat.zero_add _).symm).trans (blk_w0 m c t d k))
theorem y1_at : yV1 m c t (ix2 s d) = proj (rowOf (argA1 m c) (at256 t s)) (rowOf (argW1 m c)) d := by
  unfold yV1 kernelRun0_C.sl.r_3
  refine (proj_at s d _ _).trans ?_
  exact Finset.sum_congr rfl fun k _ => congrArg₂ (· * ·)
    ((load_at (ms0_1 t) (hs0_1 t) _ 0 0 _ s k s k (Nat.zero_add _).symm (Nat.zero_add _).symm).trans (blk_a1 m c t s k))
    ((load_at (ms0_5 t) (hs0_5 t) _ 0 0 _ k d k d (Nat.zero_add _).symm (Nat.zero_add _).symm).trans (blk_w1 m c t d k))
theorem y2_at : yV2 m c t (ix2 s d) = proj (rowOf (argA2 m c) (at256 t s)) (rowOf (argW2 m c)) d := by
  unfold yV2 kernelRun0_C.sl.r_5
  refine (proj_at s d _ _).trans ?_
  exact Finset.sum_congr rfl fun k _ => congrArg₂ (· * ·)
    ((load_at (ms0_2 t) (hs0_2 t) _ 0 0 _ s k s k (Nat.zero_add _).symm (Nat.zero_add _).symm).trans (blk_a2 m c t s k))
    ((load_at (ms0_6 t) (hs0_6 t) _ 0 0 _ k d k d (Nat.zero_add _).symm (Nat.zero_add _).symm).trans (blk_w2 m c t d k))

theorem w0_at : wV0 m c t (ix2 k d) = argW0 m c (ix2 k d) :=
  (load_at (ms0_4 t) (hs0_4 t) _ 0 0 _ k d k d (Nat.zero_add _).symm (Nat.zero_add _).symm).trans (blk_w0 m c t d k)
theorem w1_at : wV1 m c t (ix2 k d) = argW1 m c (ix2 k d) :=
  (load_at (ms0_5 t) (hs0_5 t) _ 0 0 _ k d k d (Nat.zero_add _).symm (Nat.zero_add _).symm).trans (blk_w1 m c t d k)
theorem w2_at : wV2 m c t (ix2 k d) = argW2 m c (ix2 k d) :=
  (load_at (ms0_6 t) (hs0_6 t) _ 0 0 _ k d k d (Nat.zero_add _).symm (Nat.zero_add _).symm).trans (blk_w2 m c t d k)

/-- A fetched block of the logits' rows, as the point loads `1024` columns of it. -/
theorem fetched (v : View sig .tc .vmem S256x3072 .bf16) (w : Vec Ideal S256x3072 .bf16) (o : ℕ) (inb) (i : Fin 3072) (hi : i.val = o + d.val) :
    v.readCov [⟨Rect.whole S256x3072, w⟩] (Rect.unit (s := S256x3072) ![0, o] ![256, 1024] inb).toLoadRect (ix2 s d) = w (ix2 s i) :=
  (congrFun (congrArg (fun f => View.ld (Val := Elt Ideal) (e' := .bf16) f (Rect.unit (s := S256x3072) ![0, o] ![256, 1024] inb))
    (View.read_writes_whole v v.junk w)) (ix2 s d)).trans (ld_block w 0 o inb s d s i (Nat.zero_add _).symm hi)

theorem logit0_at : zV0 m c t (ix2 s d) = argZ m c (ix2 (at256 t s) (col 0 d)) + argB m c (ix2 0 (col 0 d)) := by
  unfold zV0 kernelRun0_C.sl.r_2
  rw [logit_at]
  refine congrArg₂ (· + ·) ?_ ?_
  · exact (fetched s d (rslot0_1 (Ring.sl 3 t.val)).view _ 0 _ (col 0 d) rfl).trans (source_z m c t s (col 0 d))
  · exact (load_at (ms0_3 t) (hs0_3 t) _ 0 0 _ 0 d 0 (col 0 d) rfl rfl).trans (blk_b m c t (col 0 d))
theorem logistic_at (z : FVec Ideal S256x1024 .f32) (i : S256x1024.Idx) : logistic (F := Ideal) (φ := .f32) z i = Ideal.logistic (z i) := rfl
theorem g0_at : logistic (F := Ideal) (φ := .f32) (zV0 m c t) (ix2 s d) = gate (rowOf (argZ m c) (at256 t s)) (rowOf (argB m c) 0) 0 d :=
  (logistic_at _ _).trans (congrArg Ideal.logistic (logit0_at m c t s d))
theorem g1_at : gV1 m c t (ix2 s d) = gate (rowOf (argZ m c) (at256 t s)) (rowOf (argB m c) 0) 1 d := by
  unfold gV1 kernelRun0_C.sl.r_4
  rw [gate_at]
  refine congrArg₂ (fun p q => Ideal.logistic (p + q)) ?_ ?_
  · exact (fetched s d (rslot0_1 (Ring.sl 3 t.val)).view _ 1024 _ (col 1 d) rfl).trans (source_z m c t s (col 1 d))
  · exact (load_at (ms0_3 t) (hs0_3 t) _ 0 1024 _ 0 d 0 (col 1 d) rfl rfl).trans (blk_b m c t (col 1 d))
theorem g2_at : gV2 m c t (ix2 s d) = gate (rowOf (argZ m c) (at256 t s)) (rowOf (argB m c) 0) 2 d := by
  unfold gV2 kernelRun0_C.sl.r_6
  refine (gate_at s d _ _).trans ?_
  refine congrArg₂ (fun p q => Ideal.logistic (p + q)) ?_ ?_
  · exact (fetched s d (rslot0_1 (Ring.sl 3 t.val)).view _ 2048 _ (col 2 d) rfl).trans (source_z m c t s (col 2 d))
  · exact (load_at (ms0_3 t) (hs0_3 t) _ 0 2048 _ 0 d 0 (col 2 d) rfl rfl).trans (blk_b m c t (col 2 d))

end Blocks

end Cert.MixGradTile

end

end
-- ==== Proof.MixGradRun.lean ====
/-
  The eight result arrays of the gated mix's gradient kernel after its 32 points, and the run that ends with them.
-/
module

public import proofs.«01_k».proof.Proof.MixGradTile

@[expose] public section

set_option maxRecDepth 16384

noncomputable section

namespace Cert.MixGradTile

open Cert.Kernel9Ideal Cert.Kernel9Ideal.Gen Cert.MixGradFrame
open Idealize.ShloMosaic Idealize.ShloMosaic.ValueIdx Idealize.ShloMosaic.TcCoe Idealize.ShloMosaic.Tactic Idealize.SL.Sem
open Cert.Words Cert.Gate Cert.Products
open Cert.Kernel2Ideal.Ffn (rowOf)
open Cert.Kernel8Ideal.Combine (rowsOf matsOf)
open Cert.Gather (read_tiles gathered_last at0 at0_of sum_tiles)

variable (m : (ℓ : Loc nD τ sig) → Buf (Elt Ideal) ℓ) (c : Dev nD) (t : Fin cfg0.N)

/-- The arrays after the run. -/
abbrev logitAll : S8192x3072.Idx → EReal :=
  logitGrad (argX m c) (argA0 m c) (argA1 m c) (argA2 m c) (argZ m c) (argB m c) (argW0 m c) (argW1 m c) (argW2 m c) (argO m c)
abbrev biasAll : S1x3072.Idx → EReal :=
  biasGrad (argX m c) (argA0 m c) (argA1 m c) (argA2 m c) (argZ m c) (argB m c) (argW0 m c) (argW1 m c) (argW2 m c) (argO m c)
abbrev projAll (j : Fin 3) : S8192x1024.Idx → EReal := projGrad (argX m c) (argZ m c) (argB m c) (argO m c) j
abbrev branchAll (w : S512x1024.Idx → EReal) (j : Fin 3) : S8192x512.Idx → EReal := branchGrad (argX m c) (argZ m c) (argB m c) w (argO m c) j

/-- The rows of a point. -/
abbrev rowsAt {n : ℕ} (f : (Mat 8192 n).Idx → EReal) (y : (Mat 256 n).Idx) : EReal := f (ix2 (at256 t (y 0)) (y 1))

/-! ## The values of a point -/

section Values

variable (j : Fin 3) (s : Fin 256) (d : Fin 1024) (g : FVec Ideal S256x1024 .f32)
  (hg : ∀ s d, g (ix2 s d) = gate (rowOf (argZ m c) (at256 t s)) (rowOf (argB m c) 0) j d)

include hg

theorem through_val : k0_pay24 (F := Ideal) (dyV m c t) g (ix2 s d) = projAll m c j (ix2 (at256 t s) d) :=
  (through_at (dyV m c t) g (ix2 s d)).trans ((congrArg₂ (· * ·) (dy_at m c t s d) (hg s d)).trans (projGrad_at _ _ _ _ j (at256 t s) d).symm)

theorem branch_val (w : Vec Ideal S512x1024 .bf16) (w' : S512x1024.Idx → EReal) (hw : ∀ k d, w (ix2 k d) = w' (ix2 k d)) (k : Fin 512) :
    k0_pay25 (F := Ideal) (dyV m c t) g w (ix2 s k) = branchAll m c w' j (ix2 (at256 t s) k) :=
  (dbranch_at (dyV m c t) g s k w).trans (Eq.trans
    (Finset.sum_congr rfl fun d _ => congrArg₂ (· * ·) ((through_at (dyV m c t) g (ix2 s d)).symm.trans (through_val m c t j s d g hg)) (hw k d))
    (branchGrad_at _ _ _ _ _ j (at256 t s) k).symm)

theorem logit_val (y : FVec Ideal S256x1024 .f32)
    (hy : ∀ s d, y (ix2 s d) = proj (rowsOf (argA0 m c) (argA1 m c) (argA2 m c) (at256 t s) j) (matsOf (argW0 m c) (argW1 m c) (argW2 m c) j) d) :
    k0_pay21 (F := Ideal) (dyV m c t) y g (ix2 s d) = logitAll m c (ix2 (at256 t s) (col j d)) := by
  refine Eq.trans ?_ (logitGrad_col _ _ _ _ _ _ _ _ _ _ j (at256 t s) d).symm
  rw [dlogit_at, dy_at, hg, hy]
  rfl

end Values

/-! ## The blocks after a point -/

/-- The stores of a point, whichever case it is. -/
theorem left : ∃ p, ∃ r : Stores (F := Ideal) p, leftAt m c t.val t.isLt = readBack r ∧ Made m c t r ∧ Covers r := by
  by_cases h0 : t.val % 32 = 0
  · have h1 : t.val < 30 := by have := t.isLt; have : cfg0.N = 32 := N_0; omega
    exact ⟨_, _, leftAt_A m c t h0 h1, madeA m c t h0 h1, coversA m c t h0 h1⟩
  · by_cases h1 : t.val < 30
    · exact ⟨_, _, leftAt_B m c t h0 h1, madeB m c t h0 h1 _, coversB m c t h0 h1 _⟩
    · exact ⟨_, _, leftAt_C m c t h0 h1, madeC m c t h0 h1 _, coversC m c t h0 h1 _⟩

/-- One store of a whole block of rows. -/
theorem whole_rows {n : ℕ} {e : EltTy} (V : View sig .tc .vmem (Mat 256 n) e) (G : (Mat 256 n).Idx → Elt Ideal e) (f : (Mat 256 n).Idx → Elt Ideal e) (inb)
    (L : List (View.Piece (Elt Ideal) (Mat 256 n) e)) (hL : L = [⟨Rect.unit (s := Mat 256 n) ![0, 0] ![256, n] inb, f⟩])
    (hc : ∀ y, ∃ pc ∈ L, y ∈ pc.1.set) (h : ∀ (s : Fin 256) (d : Fin n), f (ix2 s d) = G (ix2 s d)) :
    V.read (Elt Ideal) (V.writes (Elt Ideal) V.junk L) = G := by
  subst hL
  refine read_tiles V _ G _ hc ⟨fun y => ?_, trivial⟩
  obtain ⟨s, d, rfl⟩ : ∃ (s : Fin 256) (d : Fin n), y = ix2 s d := ⟨y 0, y 1, eq_ix2 y⟩
  rw [emb_block 0 0 _ s d s d (Nat.zero_add _).symm (Nat.zero_add _).symm]
  exact h s d

theorem left_dgl : (leftAt m c t.val t.isLt).dgl = rowsAt t (logitAll m c) := by
  obtain ⟨p, r, hr, hm, hc⟩ := left m c t
  have hc' := hc.dgl
  rw [hr]
  show VO0_8.read (Elt Ideal) (VO0_8.writes (Elt Ideal) VO0_8.junk r.1) = _
  rw [hm.dgl] at hc' ⊢
  refine read_tiles VO0_8 _ (rowsAt t (logitAll m c)) _ hc' ⟨fun y => ?_, fun y => ?_, fun y => ?_, trivial⟩
  · obtain ⟨s, d, rfl⟩ : ∃ (s : Fin 256) (d : Fin 1024), y = ix2 s d := ⟨y 0, y 1, eq_ix2 y⟩
    rw [emb_block 0 2048 _ s d s (col 2 d) (Nat.zero_add _).symm rfl]
    exact logit_val m c t 2 s d (gV2 m c t) (g2_at m c t) (yV2 m c t) (y2_at m c t)
  · obtain ⟨s, d, rfl⟩ : ∃ (s : Fin 256) (d : Fin 1024), y = ix2 s d := ⟨y 0, y 1, eq_ix2 y⟩
    rw [emb_block 0 1024 _ s d s (col 1 d) (Nat.zero_add _).symm rfl]
    exact logit_val m c t 1 s d (gV1 m c t) (g1_at m c t) (yV1 m c t) (y1_at m c t)
  · obtain ⟨s, d, rfl⟩ : ∃ (s : Fin 256) (d : Fin 1024), y = ix2 s d := ⟨y 0, y 1, eq_ix2 y⟩
    rw [emb_block 0 0 _ s d s (col 0 d) (Nat.zero_add _).symm rfl]
    refine (congrFun (first_logit _ _ _) _).trans ?_
    exact logit_val m c t 0 s d _ (g0_at m c t) (yV0 m c t) (y0_at m c t)

theorem left_dc : (leftAt m c t.val t.isLt).dc = rowsAt t (branchAll m c (argW0 m c) 0) := by
  obtain ⟨p, r, hr, hm, hc⟩ := left m c t
  rw [hr]
  exact whole_rows VO0_9 _ _ _ _ hm.dc hc.dc fun s k =>
    (congrFun (first_branch _ _ _) _).trans (branch_val m c t 0 s _ (g0_at m c t) (wV0 m c t) (argW0 m c) (fun k d => w0_at m c t d k) k)
theorem left_da : (leftAt m c t.val t.isLt).da = rowsAt t (branchAll m c (argW1 m c) 1) := by
  obtain ⟨p, r, hr, hm, hc⟩ := left m c t
  rw [hr]
  exact whole_rows VO0_10 _ _ _ _ hm.da hc.da fun s k => branch_val m c t 1 s _ (g1_at m c t) (wV1 m c t) (argW1 m c) (fun k d => w1_at m c t d k) k
theorem left_dm : (leftAt m c t.val t.isLt).dm = rowsAt t (branchAll m c (argW2 m c) 2) := by
  obtain ⟨p, r, hr, hm, hc⟩ := left m c t
  rw [hr]
  exact whole_rows VO0_11 _ _ _ _ hm.dm hc.dm fun s k =>
    (congrFun (third_branch _ _ _) _).trans (branch_val m c t 2 s _ (g2_at m c t) (wV2 m c t) (argW2 m c) (fun k d => w2_at m c t d k) k)
theorem left_dyc : (leftAt m c t.val t.isLt).dyc = rowsAt t (projAll m c 0) := by
  obtain ⟨p, r, hr, hm, hc⟩ := left m c t
  rw [hr]
  exact whole_rows VO0_12 _ _ _ _ hm.dyc hc.dyc fun s d => (congrFun (first_proj _ _) _).trans (through_val m c t 0 s d _ (g0_at m c t))
theorem left_dya : (leftAt m c t.val t.isLt).dya = rowsAt t (projAll m c 1) := by
  obtain ⟨p, r, hr, hm, hc⟩ := left m c t
  rw [hr]
  exact whole_rows VO0_13 _ _ _ _ hm.dya hc.dya fun s d => through_val m c t 1 s d _ (g1_at m c t)
theorem left_dym : (leftAt m c t.val t.isLt).dym = rowsAt t (projAll m c 2) := by
  obtain ⟨p, r, hr, hm, hc⟩ := left m c t
  rw [hr]
  exact whole_rows VO0_14 _ _ _ _ hm.dym hc.dym fun s d => (congrFun (third_proj _ _) _).trans (through_val m c t 2 s d _ (g2_at m c t))

/-! ## The bias gradient -/

/-- What a point adds to the bias gradient. -/
def added (i : Fin 3072) : EReal := ∑ s : Fin 256, logitAll m c (ix2 (at256 t s) i)

theorem bias_pieces (xo : (Mat 1 3072).Idx → EReal) (x0 x1 x2 : Vec Ideal S1x1024 .f32) (h0 : ∀ d, x0 (ix2 0 d) = xo (ix2 0 (col 0 d)))
    (h1 : ∀ d, x1 (ix2 0 d) = xo (ix2 0 (col 1 d))) (h2 : ∀ d, x2 (ix2 0 d) = xo (ix2 0 (col 2 d))) :
    View.PiecesOf (Val := Elt Ideal) (s := S1x3072) (e := .f32) (fun y : (Mat 1 3072).Idx => xo (ix2 0 (y 1)) + added m c t (y 1)) (biasStores m c t x0 x1 x2) := by
  refine ⟨fun y => ?_, fun y => ?_, fun y => ?_, trivial⟩
  · obtain ⟨u, d, rfl⟩ : ∃ (u : Fin 1) (d : Fin 1024), y = ix2 u d := ⟨y 0, y 1, eq_ix2 y⟩
    obtain rfl : u = 0 := Subsingleton.elim _ _
    rw [emb_block 0 2048 _ 0 d 0 (col 2 d) rfl rfl]
    refine (congrFun (third_bias _ _ _ _) _).trans ((bias_at _ _ _ d x2).trans ?_)
    exact congrArg₂ (· + ·) (h2 d) (Finset.sum_congr rfl fun s _ => logit_val m c t 2 s d (gV2 m c t) (g2_at m c t) (yV2 m c t) (y2_at m c t))
  · obtain ⟨u, d, rfl⟩ : ∃ (u : Fin 1) (d : Fin 1024), y = ix2 u d := ⟨y 0, y 1, eq_ix2 y⟩
    obtain rfl : u = 0 := Subsingleton.elim _ _
    rw [emb_block 0 1024 _ 0 d 0 (col 1 d) rfl rfl]
    refine (bias_at _ _ _ d x1).trans ?_
    exact congrArg₂ (· + ·) (h1 d) (Finset.sum_congr rfl fun s _ => logit_val m c t 1 s d (gV1 m c t) (g1_at m c t) (yV1 m c t) (y1_at m c t))
  · obtain ⟨u, d, rfl⟩ : ∃ (u : Fin 1) (d : Fin 1024), y = ix2 u d := ⟨y 0, y 1, eq_ix2 y⟩
    obtain rfl : u = 0 := Subsingleton.elim _ _
    rw [emb_block 0 0 _ 0 d 0 (col 0 d) rfl rfl]
    refine (congrFun (first_bias _ _ _ _) _).trans ((bias_at _ _ _ d x0).trans ?_)
    exact congrArg₂ (· + ·) (h0 d) (Finset.sum_congr rfl fun s _ => logit_val m c t 0 s d _ (g0_at m c t) (yV0 m c t) (y0_at m c t))

theorem bias_cover (x0 x1 x2 : Vec Ideal S1x1024 .f32) : ∀ y, ∃ pc ∈ biasStores m c t x0 x1 x2, y ∈ pc.1.set :=
  View.cover_of_tiledL (biasStores m c t x0 x1 x2) S1x1024.size (by sl_kernel_rfl)

/-- A later point adds its rows to the block it was given. -/
theorem bias_later (h0 : ¬t.val % 32 = 0) (i : Fin 3072) :
    (leftAt m c t.val t.isLt).dbg (ix2 0 i) = carried m c t (ix2 0 i) + added m c t i := by
  have key : ∀ (L : List (View.Piece (Elt Ideal) S1x3072 .f32)), L = biasStores m c t (carriedRow t (carried m c t) 0 inb_S1x3072_S1x1024_0_0)
      (carriedRow t (carried m c t) 1024 inb_S1x3072_S1x1024_0_1024) (carriedRow t (carried m c t) 2048 inb_S1x3072_S1x1024_0_2048) →
      VO0_15.read (Elt Ideal) (VO0_15.writes (Elt Ideal) VO0_15.junk L) (ix2 0 i) = carried m c t (ix2 0 i) + added m c t i := fun L hL => by
    subst hL
    exact congrFun (read_tiles VO0_15 _ _ _ (bias_cover m c t _ _ _) (bias_pieces m c t (carried m c t) _ _ _
      (fun d => load_at (ms0_15 t) (hs0_15 t) _ 0 0 _ 0 d 0 (col 0 d) rfl rfl) (fun d => load_at (ms0_15 t) (hs0_15 t) _ 0 1024 _ 0 d 0 (col 1 d) rfl rfl)
      (fun d => load_at (ms0_15 t) (hs0_15 t) _ 0 2048 _ 0 d 0 (col 2 d) rfl rfl))) (ix2 0 i)
  by_cases h1 : t.val < 30
  · rw [leftAt_B m c t h0 h1]
    exact key _ (biasB m c t h0 h1 _)
  · rw [leftAt_C m c t h0 h1]
    exact key _ (biasC m c t h0 h1 _)

/-- The first point leaves its own rows. -/
theorem bias_first (h0 : t.val % 32 = 0) (i : Fin 3072) : (leftAt m c t.val t.isLt).dbg (ix2 0 i) = added m c t i := by
  have h1 : t.val < 30 := by have := t.isLt; have : cfg0.N = 32 := N_0; omega
  obtain ⟨x0, x1, x2, hL, z0, z1, z2⟩ := biasA m c t h0 h1
  rw [leftAt_A m c t h0 h1]
  show VO0_15.read (Elt Ideal) (VO0_15.writes (Elt Ideal) VO0_15.junk (runA m c t h0 h1).2.2.2.2.2.2.2.1) (ix2 0 i) = _
  rw [View.read_writes_eq_canon VO0_15 _ _ (coversA m c t h0 h1).dbg, hL,
    View.canon_append_of_piecesOf _ [zeroStore] _ (bias_pieces m c t (fun _ => 0) x0 x1 x2 (fun d => z0 _) (fun d => z1 _) (fun d => z2 _)) (ix2 0 i) (bias_cover m c t _ _ _ _)]
  exact zero_add _

/-- The last point leaves the sum over all tokens. -/
theorem bias_last (h : t.val % 32 = 31) (i : Fin 3072) : (leftAt m c t.val t.isLt).dbg (ix2 0 i) = biasAll m c (ix2 0 i) := by
  have hN : cfg0.N = 32 := N_0
  refine (gathered_last (T := 32) (fun n hn => (leftAt m c n hn).dbg (ix2 0 i)) t.val t.isLt (by omega)
    (fun s => ∑ u : Fin 256, at0 (fun q : Fin 8192 => logitAll m c (ix2 q i)) (s * 256 + u.val)) ?_ ?_).trans (sum_tiles (by decide) _)
  · intro s hs _ h0
    refine (bias_first m c ⟨s, hs⟩ h0 i).trans (Finset.sum_congr rfl fun u _ => ?_)
    rw [at0_of _ _ (by omega)]
    exact congrArg (fun q => logitAll m c (ix2 q i)) (Fin.ext (show s * 256 + u.val = 0 * 256 + u.val by omega))
  · intro s hs _ h0
    refine (bias_later m c ⟨s, hs⟩ h0 i).trans (congrArg (_ + ·) (Finset.sum_congr rfl fun u _ => ?_))
    rw [at0_of _ _ (by omega)]
    exact congrArg (fun q => logitAll m c (ix2 q i)) (Fin.ext (show s * 256 + u.val = s % 32 * 256 + u.val by omega))

/-! ## The result arrays -/

/-- The grid point a token lies in. -/
def point (i : Fin 8192) : Fin cfg0.N := ⟨i.val / 256, by have : cfg0.N = 32 := N_0; omega⟩

/-- The rows of a point, through a block's places. -/
theorem rows_through {n : ℕ} (G : (Mat 8192 n).Idx → EReal) (e : (Mat 256 n).Idx → (Mat 8192 n).Idx)
    (h0 : ∀ y, (e y 0).val = t.val * 256 + (y 0).val) (h1 : ∀ y, (e y 1).val = (y 1).val) : rowsAt t G = fun y => G (e y) :=
  funext fun y => congrArg G (ix2_of (e y) (at256 t (y 0)) (y 1) (h0 y) (h1 y)).symm

theorem final_dgl : (dats m 0 c).arrAt 8 cfg0.N = logitAll m c := by
  refine (dats m 0 c).arrAt_eq_of_cover 8 _ (fun t _ => ?_) fun i => ⟨point (i 0), flush0_8 _, ?_⟩
  · obtain ⟨h0, h1⟩ := (index' t).1
    show (cfg0.win 8).cut (grid0.coords t) ((dats m 0 c).after 8 t) = _
    rw [after8, left_dgl]
    exact rows_through t (logitAll m c) _ (fun y => by show win0_8.index t 0 * 256 + 1 * (y 0).val = _; rw [h0]; omega)
      (fun y => by show win0_8.index t 1 * 3072 + 1 * (y 1).val = _; rw [h1]; omega)
  · obtain ⟨h0, h1⟩ := (index' (point (i 0))).1
    show i ∈ ((View.whole main_v0_0).slice (win0_8.rect (point (i 0)))).set
    rw [View.set_slice_whole]
    exact mem_tile (M := 8192) (N := 3072) (B := 256) (by decide) _ _ i (by show win0_8.index (point (i 0)) 0 * 256 = _; rw [h0]; rfl)
      (by show win0_8.index (point (i 0)) 1 * 3072 = 0; rw [h1])

theorem final_dc : (dats m 0 c).arrAt 9 cfg0.N = branchAll m c (argW0 m c) 0 := by
  refine (dats m 0 c).arrAt_eq_of_cover 9 _ (fun t _ => ?_) fun i => ⟨point (i 0), flush0_9 _, ?_⟩
  · obtain ⟨h0, h1⟩ := (index' t).2.1
    show (cfg0.win 9).cut (grid0.coords t) ((dats m 0 c).after 9 t) = _
    rw [after9, left_dc]
    exact rows_through t (branchAll m c (argW0 m c) 0) _ (fun y => by show win0_9.index t 0 * 256 + 1 * (y 0).val = _; rw [h0]; omega)
      (fun y => by show win0_9.index t 1 * 512 + 1 * (y 1).val = _; rw [h1]; omega)
  · obtain ⟨h0, h1⟩ := (index' (point (i 0))).2.1
    show i ∈ ((View.whole main_v0_1).slice (win0_9.rect (point (i 0)))).set
    rw [View.set_slice_whole]
    exact mem_tile (M := 8192) (N := 512) (B := 256) (by decide) _ _ i (by show win0_9.index (point (i 0)) 0 * 256 = _; rw [h0]; rfl)
      (by show win0_9.index (point (i 0)) 1 * 512 = 0; rw [h1])

theorem final_da : (dats m 0 c).arrAt 10 cfg0.N = branchAll m c (argW1 m c) 1 := by
  refine (dats m 0 c).arrAt_eq_of_cover 10 _ (fun t _ => ?_) fun i => ⟨point (i 0), flush0_10 _, ?_⟩
  · obtain ⟨h0, h1⟩ := (index' t).2.2.1
    show (cfg0.win 10).cut (grid0.coords t) ((dats m 0 c).after 10 t) = _
    rw [after10, left_da]
    exact rows_through t (branchAll m c (argW1 m c) 1) _ (fun y => by show win0_10.index t 0 * 256 + 1 * (y 0).val = _; rw [h0]; omega)
      (fun y => by show win0_10.index t 1 * 512 + 1 * (y 1).val = _; rw [h1]; omega)
  · obtain ⟨h0, h1⟩ := (index' (point (i 0))).2.2.1
    show i ∈ ((View.whole main_v0_2).slice (win0_10.rect (point (i 0)))).set
    rw [View.set_slice_whole]
    exact mem_tile (M := 8192) (N := 512) (B := 256) (by decide) _ _ i (by show win0_10.index (point (i 0)) 0 * 256 = _; rw [h0]; rfl)
      (by show win0_10.index (point (i 0)) 1 * 512 = 0; rw [h1])

theorem final_dm : (dats m 0 c).arrAt 11 cfg0.N = branchAll m c (argW2 m c) 2 := by
  refine (dats m 0 c).arrAt_eq_of_cover 11 _ (fun t _ => ?_) fun i => ⟨point (i 0), flush0_11 _, ?_⟩
  · obtain ⟨h0, h1⟩ := (index' t).2.2.2.1
    show (cfg0.win 11).cut (grid0.coords t) ((dats m 0 c).after 11 t) = _
    rw [after11, left_dm]
    exact rows_through t (branchAll m c (argW2 m c) 2) _ (fun y => by show win0_11.index t 0 * 256 + 1 * (y 0).val = _; rw [h0]; omega)
      (fun y => by show win0_11.index t 1 * 512 + 1 * (y 1).val = _; rw [h1]; omega)
  · obtain ⟨h0, h1⟩ := (index' (point (i 0))).2.2.2.1
    show i ∈ ((View.whole main_v0_3).slice (win0_11.rect (point (i 0)))).set
    rw [View.set_slice_whole]
    exact mem_tile (M := 8192) (N := 512) (B := 256) (by decide) _ _ i (by show win0_11.index (point (i 0)) 0 * 256 = _; rw [h0]; rfl)
      (by show win0_11.index (point (i 0)) 1 * 512 = 0; rw [h1])

theorem final_dyc : (dats m 0 c).arrAt 12 cfg0.N = projAll m c 0 := by
  refine (dats m 0 c).arrAt_eq_of_cover 12 _ (fun t _ => ?_) fun i => ⟨point (i 0), flush0_12 _, ?_⟩
  · obtain ⟨h0, h1⟩ := (index' t).2.2.2.2.1
    show (cfg0.win 12).cut (grid0.coords t) ((dats m 0 c).after 12 t) = _
    rw [after12, left_dyc]
    exact rows_through t (projAll m c 0) _ (fun y => by show win0_12.index t 0 * 256 + 1 * (y 0).val = _; rw [h0]; omega)
      (fun y => by show win0_12.index t 1 * 1024 + 1 * (y 1).val = _; rw [h1]; omega)
  · obtain ⟨h0, h1⟩ := (index' (point (i 0))).2.2.2.2.1
    show i ∈ ((View.whole main_v0_4).slice (win0_12.rect (point (i 0)))).set
    rw [View.set_slice_whole]
    exact mem_tile (M := 8192) (N := 1024) (B := 256) (by decide) _ _ i (by show win0_12.index (point (i 0)) 0 * 256 = _; rw [h0]; rfl)
      (by show win0_12.index (point (i 0)) 1 * 1024 = 0; rw [h1])

theorem final_dya : (dats m 0 c).arrAt 13 cfg0.N = projAll m c 1 := by
  refine (dats m 0 c).arrAt_eq_of_cover 13 _ (fun t _ => ?_) fun i => ⟨point (i 0), flush0_13 _, ?_⟩
  · obtain ⟨h0, h1⟩ := (index' t).2.2.2.2.2.1
    show (cfg0.win 13).cut (grid0.coords t) ((dats m 0 c).after 13 t) = _
    rw [after13, left_dya]
    exact rows_through t (projAll m c 1) _ (fun y => by show win0_13.index t 0 * 256 + 1 * (y 0).val = _; rw [h0]; omega)
      (fun y => by show win0_13.index t 1 * 1024 + 1 * (y 1).val = _; rw [h1]; omega)
  · obtain ⟨h0, h1⟩ := (index' (point (i 0))).2.2.2.2.2.1
    show i ∈ ((View.whole main_v0_5).slice (win0_13.rect (point (i 0)))).set
    rw [View.set_slice_whole]
    exact mem_tile (M := 8192) (N := 1024) (B := 256) (by decide) _ _ i (by show win0_13.index (point (i 0)) 0 * 256 = _; rw [h0]; rfl)
      (by show win0_13.index (point (i 0)) 1 * 1024 = 0; rw [h1])

theorem final_dym : (dats m 0 c).arrAt 14 cfg0.N = projAll m c 2 := by
  refine (dats m 0 c).arrAt_eq_of_cover 14 _ (fun t _ => ?_) fun i => ⟨point (i 0), flush0_14 _, ?_⟩
  · obtain ⟨h0, h1⟩ := (index' t).2.2.2.2.2.2.1
    show (cfg0.win 14).cut (grid0.coords t) ((dats m 0 c).after 14 t) = _
    rw [after14, left_dym]
    exact rows_through t (projAll m c 2) _ (fun y => by show win0_14.index t 0 * 256 + 1 * (y 0).val = _; rw [h0]; omega)
      (fun y => by show win0_14.index t 1 * 1024 + 1 * (y 1).val = _; rw [h1]; omega)
  · obtain ⟨h0, h1⟩ := (index' (point (i 0))).2.2.2.2.2.2.1
    show i ∈ ((View.whole main_v0_6).slice (win0_14.rect (point (i 0)))).set
    rw [View.set_slice_whole]
    exact mem_tile (M := 8192) (N := 1024) (B := 256) (by decide) _ _ i (by show win0_14.index (point (i 0)) 0 * 256 = _; rw [h0]; rfl)
      (by show win0_14.index (point (i 0)) 1 * 1024 = 0; rw [h1])

/-- The last grid point. -/
def last : Fin cfg0.N := ⟨31, by have : cfg0.N = 32 := N_0; omega⟩

theorem final_dbg : (dats m 0 c).arrAt 15 cfg0.N = biasAll m c := by
  refine (dats m 0 c).arrAt_eq_of_cover 15 _ (fun t ht => ?_) fun i => ⟨last, (flush0_15 _).2 rfl, ?_⟩
  · obtain ⟨h0, h1⟩ := (index' t).2.2.2.2.2.2.2
    show (cfg0.win 15).cut (grid0.coords t) ((dats m 0 c).after 15 t) = _
    rw [after15]
    funext y
    obtain ⟨u, i, rfl⟩ : ∃ (u : Fin 1) (i : Fin 3072), y = ix2 u i := ⟨y 0, y 1, eq_ix2 y⟩
    obtain rfl : u = 0 := Subsingleton.elim _ _
    rw [View.read_apply]
    refine (bias_last m c t ((flush0_15 t).1 ht) i).trans (congrArg (biasAll m c) (ix2_of _ _ _ ?_ ?_).symm)
    · show win0_15.index t 0 * 1 + 1 * 0 = 0; rw [h0]
    · show win0_15.index t 1 * 3072 + 1 * i.val = i.val; rw [h1]; omega
  · obtain ⟨h0, h1⟩ := (index' last).2.2.2.2.2.2.2
    show i ∈ ((View.whole main_v0_7).slice (win0_15.rect last)).set
    rw [View.set_slice_whole]
    exact mem_tile (M := 1) (N := 3072) (B := 1) (by decide) _ _ i
      (by have : (i 0).val < 1 := (i 0).isLt; show win0_15.index last 0 * 1 = (i 0).val / 1 * 1; rw [h0]; omega)
      (by show win0_15.index last 1 * 3072 = 0; rw [h1])

variable (ρ : Dev nD → PrngReg)

/-- The kernel ends with the eight arrays, its arguments unchanged. -/
theorem run : θ_run defs (onTc (τ := τ) (main (F := Ideal))) ⟨m, fun _ => 0, ρ⟩ (fun r => (∀ c : Dev nD,
      r.2.mem ((c.tc : Thread nD τ).loc main_v0_0) = logitAll m c
      ∧ r.2.mem ((c.tc : Thread nD τ).loc main_v0_1) = branchAll m c (argW0 m c) 0
      ∧ r.2.mem ((c.tc : Thread nD τ).loc main_v0_2) = branchAll m c (argW1 m c) 1
      ∧ r.2.mem ((c.tc : Thread nD τ).loc main_v0_3) = branchAll m c (argW2 m c) 2
      ∧ r.2.mem ((c.tc : Thread nD τ).loc main_v0_4) = projAll m c 0
      ∧ r.2.mem ((c.tc : Thread nD τ).loc main_v0_5) = projAll m c 1
      ∧ r.2.mem ((c.tc : Thread nD τ).loc main_v0_6) = projAll m c 2
      ∧ r.2.mem ((c.tc : Thread nD τ).loc main_v0_7) = biasAll m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))) :=
  (θ_run defs _ _).mono (fun r h c => ⟨(h.1.1 c).1 8 |>.trans (final_dgl m c), (h.1.1 c).1 9 |>.trans (final_dc m c), (h.1.1 c).1 10 |>.trans (final_da m c),
      (h.1.1 c).1 11 |>.trans (final_dm m c), (h.1.1 c).1 12 |>.trans (final_dyc m c), (h.1.1 c).1 13 |>.trans (final_dya m c),
      (h.1.1 c).1 14 |>.trans (final_dym m c), (h.1.1 c).1 15 |>.trans (final_dbg m c), h.2.1 c⟩)
    (θ_run_and (ran m ρ) (frame m ρ))

end Cert.MixGradTile

end

end
-- ==== Proof.HalfTile.lean ====
/-
  The gradients of the two halves of the second half-step's first weight matrix's rows, held transposed: what their kernels leave, each half as
  the sum over all 8192 tokens gathered in eight tiles, and the second over what the first left.
-/
module

public import proofs.«01_k».proof.Proof.WeightTile
public import proofs.«01_k».proof.Proof.Gen.Kernel11Ideal.Value
public import proofs.«01_k».proof.Proof.Gen.Kernel12Ideal.Value
public import Idealize.ShloMosaic.Lib.Tactic

@[expose] public section

noncomputable section

namespace Cert.Kernel11Ideal.Half

open Cert.Kernel11Ideal Cert.Kernel11Ideal.Gen Cert.Kernel11Ideal.Value Idealize.ShloMosaic Idealize.ShloMosaic.ValueIdx Idealize.ShloMosaic.TcCoe Idealize.SL.Sem
  Cert.Words Cert.Products Cert.Gather
open Idealize.ShloMosaic.Pipeline (Dat)

section Points

variable (c : Dev nD) (i : grid0.Coords) (a2 : Memref sig .tc .vmem S1024x2816 .bf16) (h2 : a2.IsWhole) (a3 : Memref sig .tc .vmem S1024x512 .bf16) (h3 : a3.IsWhole)
  (a4 : Memref sig .tc .vmem S2816x512 .bf16) (h4 : a4.IsWhole) (a5 : Memref sig .tc .vmem S2816x512 .f32) (h5 : a5.IsWhole)
  (x : Vec Ideal S1024x2816 .bf16) (y : Vec Ideal S1024x512 .bf16) (o : Vec Ideal S2816x512 .f32)

theorem store_add (inb) (j : (Rect.unit (s := S2816x512) ![0, 0] ![2816, 512] inb).shape.Idx) :
    k0_pay2 (F := Ideal) o x y j = addTile x y o ((Rect.unit (s := S2816x512) ![0, 0] ![2816, 512] inb).emb j) :=
  store_tile dot_S1024x2816_S1024x512_S2816x512_0_0_1_1_n_n_wf x y o shapeCasts_S2816x512_S2816x512 inb j

theorem scratch_B (hc : ¬cond0_0 i) (hd : ¬cond0_1 i) : sout0_B_0 (F := Ideal) c i a2 h2 a3 h3 a4 h4 a5 h5 hc hd x y o = addTile x y o := by
  unfold sout0_B_0
  exact read_tiles _ _ (addTile x y o) _ (scover0_B_0 (F := Ideal) c i a2 h2 a3 h3 a4 h4 a5 h5 hc hd x y o) (by
    unfold kernelRun0_B
    dsimp only
    sl_unfold_words
    simp only [View.readAt_eq_ld, h2.read_unread, h3.read_unread, h5.read_unread, ld_full]
    exact ⟨store_add x y o inb_S2816x512_S2816x512_0_0, trivial⟩)

theorem scratch_C (hc : ¬cond0_0 i) (hd : cond0_1 i) : sout0_C_0 (F := Ideal) c i a2 h2 a3 h3 a4 h4 a5 h5 hc hd x y o = addTile x y o := by
  unfold sout0_C_0
  exact read_tiles _ _ (addTile x y o) _ (scover0_C_0 (F := Ideal) c i a2 h2 a3 h3 a4 h4 a5 h5 hc hd x y o) (by
    unfold kernelRun0_C
    dsimp only
    sl_unfold_words
    simp only [View.readAt_eq_ld, h2.read_unread, h3.read_unread, h5.read_unread, ld_full]
    exact ⟨store_add x y o inb_S2816x512_S2816x512_0_0, trivial⟩)

theorem scratch_A (hc : cond0_0 i) (hd : ¬cond0_1 i) : sout0_A_0 (F := Ideal) c i a2 h2 a3 h3 a4 h4 a5 h5 hc hd x y = addTile x y (k0_pay1 (F := Ideal)) := by
  unfold sout0_A_0 kernelRun0_A
  dsimp only
  sl_unfold_words
  have hz : ∀ a, (![0, 0] : Fin 2 → ℕ) a = 0 := by decide
  simp only [View.readAt_eq_ld, h2.read_unread, h3.read_unread, ld_full, View.readCov_fill (s := S2816x512) _ _ _ _ _ hz]
  exact read_over (s := S2816x512) (e := .f32) _ _ (addTile x y (k0_pay1 (F := Ideal))) _ _
    (fun j => View.cover_of_tiledL (s := S2816x512) _ S2816x512.size (by sl_kernel_rfl) j) ⟨store_add x y _ inb_S2816x512_S2816x512_0_0, trivial⟩

theorem out_C (hc : ¬cond0_0 i) (hd : cond0_1 i) : out0_C_2 (F := Ideal) c i a2 h2 a3 h3 a4 h4 a5 h5 hc hd x y o = addTile x y o := by
  unfold out0_C_2
  exact read_tiles _ _ (addTile x y o) _ (cover0_C_2 (F := Ideal) c i a2 h2 a3 h3 a4 h4 a5 h5 hc hd x y o) (by
    unfold kernelRun0_C
    dsimp only
    sl_unfold_words
    have hz : ∀ a, (![0, 0] : Fin 2 → ℕ) a = 0 := by decide
    simp only [View.readAt_eq_ld, h2.read_unread, h3.read_unread, h5.read_unread, ld_full, View.readCov_fill (s := S2816x512) _ _ _ _ _ hz]
    exact ⟨fun j => store_add x y o inb_S2816x512_S2816x512_0_0 j, trivial⟩)

end Points

variable (m : (ℓ : Loc nD τ sig) → Buf (Elt Ideal) ℓ) (c : Dev nD)

/-- The gradients of the half-step's hidden rows and the rows its first product took. -/
abbrev argX : S8192x5632.Idx → EReal := m ((c : Thread nD τ).loc main_arg0)
abbrev argY : S8192x1024.Idx → EReal := m ((c : Thread nD τ).loc main_arg1)

theorem index : ∀ t : Fin grid0.N, (win0_0.index t 0 = t.val % 8 ∧ win0_0.index t 1 = 0) ∧ (win0_1.index t 0 = t.val % 8 ∧ win0_1.index t 1 = t.val / 8)
    ∧ (win0_2.index t 0 = 0 ∧ win0_2.index t 1 = t.val / 8) := by decide +kernel

theorem first (t : Fin cfg0.N) (h : t.val % 8 = 0) :
    (outsAt0 m c t.val t.isLt).2 = addTile (iblk m c 0 t) (iblk m c 1 t) (k0_pay1 (F := Ideal)) := by
  rw [outsAt0_A m c t h (by omega)]
  dsimp only
  rw [scratch_A]

theorem later (t : Fin cfg0.N) (h : ¬t.val % 8 = 0) : (outsAt0 m c t.val t.isLt).2
    = addTile (iblk m c 0 t) (iblk m c 1 t) (outsAt0 m c (t.val - 1) (Nat.lt_of_le_of_lt (Nat.sub_le _ _) t.isLt)).2 := by
  by_cases h1 : t.val % 8 = 7
  · rw [outsAt0_C m c t h h1]; dsimp only; rw [scratch_C]
  · rw [outsAt0_B m c t h h1]; dsimp only; rw [scratch_B]

theorem out_scratch (t : Fin cfg0.N) (h0 : ¬t.val % 8 = 0) (h1 : t.val % 8 = 7) : (outsAt0 m c t.val t.isLt).1 = (outsAt0 m c t.val t.isLt).2 := by
  rw [outsAt0_C m c t h0 h1]
  dsimp only
  rw [out_C, scratch_C]

/-- What the last tile of a column block leaves. -/
theorem out_last (t : Fin cfg0.N) (h1 : t.val % 8 = 7) (r : Fin 2816) (d : Fin 512) (r' : Fin 5632) (d' : Fin 1024) (hr : r'.val = 0 * 2816 + r.val)
    (hd : d'.val = t.val / 8 * 512 + d.val) : (outsAt0 m c t.val t.isLt).1 (ix2 r d) = overRows (argX m c) (argY m c) r' d' := by
  rw [out_scratch m c t (by omega) h1]
  refine product_block (T := 8) (B := 1024) (by decide) (argX m c) (argY m c) (fun s h => iblk m c 0 ⟨s, h⟩) (fun s h => iblk m c 1 ⟨s, h⟩)
    (fun s h => (outsAt0 m c s h).2) (k0_pay1 (F := Ideal)) (zeros_at shapeCasts_S2816x512_S2816x512) (fun s h h0 => first m c ⟨s, h⟩ h0) (fun s h h0 => later m c ⟨s, h⟩ h0) t.val t.isLt (by omega)
    r d r' d' (fun s h e u q hq => ?_) (fun s h e u q hq => ?_)
  · obtain ⟨⟨p0, p1⟩, -, -⟩ := index ⟨s, h⟩
    unfold iblk
    rw [View.read_apply]
    refine congrArg (V m c main_arg0) (ix2_of _ q r' ?_ ?_)
    · show win0_0.index ⟨s, h⟩ 0 * 1024 + 1 * u.val = q.val; rw [p0, hq]; dsimp only; omega
    · show win0_0.index ⟨s, h⟩ 1 * 2816 + 1 * r.val = r'.val; rw [p1, hr]; omega
  · obtain ⟨-, ⟨p0, p1⟩, -⟩ := index ⟨s, h⟩
    unfold iblk
    rw [View.read_apply]
    refine congrArg (V m c main_arg1) (ix2_of _ q d' ?_ ?_)
    · show win0_1.index ⟨s, h⟩ 0 * 1024 + 1 * u.val = q.val; rw [p0, hq]; dsimp only; omega
    · show win0_1.index ⟨s, h⟩ 1 * 512 + 1 * d.val = d'.val; rw [p1, hd]; dsimp only; rw [e]; omega

/-- The product of the hidden rows' gradients' columns with the rows' columns. -/
def wAll (x : S8192x5632.Idx → EReal) (y : S8192x1024.Idx → EReal) (i : S5632x1024.Idx) : EReal := overRows (m := 5632) (n := 1024) x y (i 0) (i 1)

set_option maxRecDepth 16384 in
theorem flushed (t : Fin cfg0.N) (hf : (cfg0.win 2).flush t = true) : (dats m 0 c).flushed 2 t
    = ((cfg0.win 2).blk t).view.read (Elt Ideal) (wAll (argX m c) (argY m c)) := by
  obtain ⟨-, -, h0, h1⟩ := index t
  have ht : t.val < 16 := lt_of_lt_of_eq t.isLt N_0
  rw [flushed2]
  funext y
  obtain ⟨r, d, rfl⟩ : ∃ (r : Fin 2816) (d : Fin 512), y = ix2 r d := ⟨y 0, y 1, eq_ix2 y⟩
  rw [View.read_apply]
  have hr := r.isLt
  have hd := d.isLt
  refine (out_last m c t ((flush0_2 t).mp hf) r d ⟨0 * 2816 + r.val, by omega⟩ ⟨t.val / 8 * 512 + d.val, by omega⟩ rfl rfl).trans (Eq.symm ?_)
  refine (congrArg (wAll (argX m c) (argY m c)) (ix2_of (M := 5632) (N := 1024) _ ⟨0 * 2816 + r.val, by omega⟩ ⟨0 + (t.val / 8 * 512 + d.val), by omega⟩ ?_ ?_)).trans ?_
  · show win0_2.index t 0 * 2816 + 1 * r.val = 0 * 2816 + r.val; rw [h0]; omega
  · show win0_2.index t 1 * 512 + 1 * d.val = 0 + (t.val / 8 * 512 + d.val); rw [h1]; omega
  · exact congrArg (overRows _ _ _) (Fin.ext (Nat.zero_add _))

theorem mem_iff (t : Fin cfg0.N) (i : S5632x1024.Idx) : i ∈ ((cfg0.win 2).blk t).view.set
    ↔ (0 * 2816 ≤ (i 0).val ∧ (i 0).val < 0 * 2816 + 2816) ∧ 0 + t.val / 8 * 512 ≤ (i 1).val ∧ (i 1).val < 0 + t.val / 8 * 512 + 512 := by
  obtain ⟨-, -, h0, h1⟩ := index t
  have e0 : win0_2.index t 0 * 2816 = 0 * 2816 := by rw [h0]
  have e1 : win0_2.index t 1 * 512 = 0 + t.val / 8 * 512 := by rw [h1]; omega
  show i ∈ ((View.whole main_v0).slice (win0_2.rect t)).set ↔ _
  rw [View.set_slice_whole]
  refine (mem_block (M := 5632) (N := 1024) (m := 2816) (n := 512) _ _ i).trans ?_
  show (win0_2.index t 0 * 2816 ≤ _ ∧ _ < win0_2.index t 0 * 2816 + _) ∧ win0_2.index t 1 * 512 ≤ _ ∧ _ < win0_2.index t 1 * 512 + _ ↔ _
  rw [e0, e1]

theorem final_at (i : S5632x1024.Idx) (hi : (i 0).val < 2816) : (dats m 0 c).arrAt 2 cfg0.N i = wAll (argX m c) (argY m c) i := by
  have i0 : (i 0).val < 5632 := (i 0).isLt
  have i1 : (i 1).val < 1024 := (i 1).isLt
  have hN : cfg0.N = 16 := N_0
  let t : Fin cfg0.N := ⟨((i 1).val - 0) / 512 * 8 + 7, by omega⟩
  have ht : t.val = ((i 1).val - 0) / 512 * 8 + 7 := rfl
  exact (dats m 0 c).arrAt_apply_of_mem 2 (wAll (argX m c) (argY m c)) (flushed m c) cfg0.N t i t.isLt ((flush0_2 t).mpr (by omega))
    ((mem_iff t i).2 (by omega))

end Cert.Kernel11Ideal.Half

namespace Cert.Kernel12Ideal.Half

open Cert.Kernel12Ideal Cert.Kernel12Ideal.Gen Cert.Kernel12Ideal.Value Idealize.ShloMosaic Idealize.ShloMosaic.ValueIdx Idealize.ShloMosaic.TcCoe Idealize.SL.Sem
  Cert.Words Cert.Products Cert.Gather
open Idealize.ShloMosaic.Pipeline (Dat)

section Points

variable (c : Dev nD) (i : grid0.Coords) (a2 : Memref sig .tc .vmem S1024x2816 .bf16) (h2 : a2.IsWhole) (a3 : Memref sig .tc .vmem S1024x512 .bf16) (h3 : a3.IsWhole)
  (a4 : Memref sig .tc .vmem S2816x512 .bf16) (h4 : a4.IsWhole) (a5 : Memref sig .tc .vmem S2816x512 .f32) (h5 : a5.IsWhole)
  (x : Vec Ideal S1024x2816 .bf16) (y : Vec Ideal S1024x512 .bf16) (o : Vec Ideal S2816x512 .f32)

theorem store_add (inb) (j : (Rect.unit (s := S2816x512) ![0, 0] ![2816, 512] inb).shape.Idx) :
    k0_pay2 (F := Ideal) o x y j = addTile x y o ((Rect.unit (s := S2816x512) ![0, 0] ![2816, 512] inb).emb j) :=
  store_tile dot_S1024x2816_S1024x512_S2816x512_0_0_1_1_n_n_wf x y o shapeCasts_S2816x512_S2816x512 inb j

theorem scratch_B (hc : ¬cond0_0 i) (hd : ¬cond0_1 i) : sout0_B_0 (F := Ideal) c i a2 h2 a3 h3 a4 h4 a5 h5 hc hd x y o = addTile x y o := by
  unfold sout0_B_0
  exact read_tiles _ _ (addTile x y o) _ (scover0_B_0 (F := Ideal) c i a2 h2 a3 h3 a4 h4 a5 h5 hc hd x y o) (by
    unfold kernelRun0_B
    dsimp only
    sl_unfold_words
    simp only [View.readAt_eq_ld, h2.read_unread, h3.read_unread, h5.read_unread, ld_full]
    exact ⟨store_add x y o inb_S2816x512_S2816x512_0_0, trivial⟩)

theorem scratch_C (hc : ¬cond0_0 i) (hd : cond0_1 i) : sout0_C_0 (F := Ideal) c i a2 h2 a3 h3 a4 h4 a5 h5 hc hd x y o = addTile x y o := by
  unfold sout0_C_0
  exact read_tiles _ _ (addTile x y o) _ (scover0_C_0 (F := Ideal) c i a2 h2 a3 h3 a4 h4 a5 h5 hc hd x y o) (by
    unfold kernelRun0_C
    dsimp only
    sl_unfold_words
    simp only [View.readAt_eq_ld, h2.read_unread, h3.read_unread, h5.read_unread, ld_full]
    exact ⟨store_add x y o inb_S2816x512_S2816x512_0_0, trivial⟩)

theorem scratch_A (hc : cond0_0 i) (hd : ¬cond0_1 i) : sout0_A_0 (F := Ideal) c i a2 h2 a3 h3 a4 h4 a5 h5 hc hd x y = addTile x y (k0_pay1 (F := Ideal)) := by
  unfold sout0_A_0 kernelRun0_A
  dsimp only
  sl_unfold_words
  have hz : ∀ a, (![0, 0] : Fin 2 → ℕ) a = 0 := by decide
  simp only [View.readAt_eq_ld, h2.read_unread, h3.read_unread, ld_full, View.readCov_fill (s := S2816x512) _ _ _ _ _ hz]
  exact read_over (s := S2816x512) (e := .f32) _ _ (addTile x y (k0_pay1 (F := Ideal))) _ _
    (fun j => View.cover_of_tiledL (s := S2816x512) _ S2816x512.size (by sl_kernel_rfl) j) ⟨store_add x y _ inb_S2816x512_S2816x512_0_0, trivial⟩

theorem out_C (hc : ¬cond0_0 i) (hd : cond0_1 i) : out0_C_2 (F := Ideal) c i a2 h2 a3 h3 a4 h4 a5 h5 hc hd x y o = addTile x y o := by
  unfold out0_C_2
  exact read_tiles _ _ (addTile x y o) _ (cover0_C_2 (F := Ideal) c i a2 h2 a3 h3 a4 h4 a5 h5 hc hd x y o) (by
    unfold kernelRun0_C
    dsimp only
    sl_unfold_words
    have hz : ∀ a, (![0, 0] : Fin 2 → ℕ) a = 0 := by decide
    simp only [View.readAt_eq_ld, h2.read_unread, h3.read_unread, h5.read_unread, ld_full, View.readCov_fill (s := S2816x512) _ _ _ _ _ hz]
    exact ⟨fun j => store_add x y o inb_S2816x512_S2816x512_0_0 j, trivial⟩)

end Points

variable (m : (ℓ : Loc nD τ sig) → Buf (Elt Ideal) ℓ) (c : Dev nD)

/-- The gradients of the half-step's hidden rows and the rows its first product took. -/
abbrev argX : S8192x5632.Idx → EReal := m ((c : Thread nD τ).loc main_arg0)
abbrev argY : S8192x1024.Idx → EReal := m ((c : Thread nD τ).loc main_arg1)
abbrev argP : S5632x1024.Idx → EReal := m ((c : Thread nD τ).loc main_arg2)

theorem index : ∀ t : Fin grid0.N, (win0_0.index t 0 = t.val % 8 ∧ win0_0.index t 1 = 1) ∧ (win0_1.index t 0 = t.val % 8 ∧ win0_1.index t 1 = t.val / 8)
    ∧ (win0_2.index t 0 = 1 ∧ win0_2.index t 1 = t.val / 8) := by decide +kernel

theorem first (t : Fin cfg0.N) (h : t.val % 8 = 0) :
    (outsAt0 m c t.val t.isLt).2 = addTile (iblk m c 0 t) (iblk m c 1 t) (k0_pay1 (F := Ideal)) := by
  rw [outsAt0_A m c t h (by omega)]
  dsimp only
  rw [scratch_A]

theorem later (t : Fin cfg0.N) (h : ¬t.val % 8 = 0) : (outsAt0 m c t.val t.isLt).2
    = addTile (iblk m c 0 t) (iblk m c 1 t) (outsAt0 m c (t.val - 1) (Nat.lt_of_le_of_lt (Nat.sub_le _ _) t.isLt)).2 := by
  by_cases h1 : t.val % 8 = 7
  · rw [outsAt0_C m c t h h1]; dsimp only; rw [scratch_C]
  · rw [outsAt0_B m c t h h1]; dsimp only; rw [scratch_B]

theorem out_scratch (t : Fin cfg0.N) (h0 : ¬t.val % 8 = 0) (h1 : t.val % 8 = 7) : (outsAt0 m c t.val t.isLt).1 = (outsAt0 m c t.val t.isLt).2 := by
  rw [outsAt0_C m c t h0 h1]
  dsimp only
  rw [out_C, scratch_C]

/-- What the last tile of a column block leaves. -/
theorem out_last (t : Fin cfg0.N) (h1 : t.val % 8 = 7) (r : Fin 2816) (d : Fin 512) (r' : Fin 5632) (d' : Fin 1024) (hr : r'.val = 1 * 2816 + r.val)
    (hd : d'.val = t.val / 8 * 512 + d.val) : (outsAt0 m c t.val t.isLt).1 (ix2 r d) = overRows (argX m c) (argY m c) r' d' := by
  rw [out_scratch m c t (by omega) h1]
  refine product_block (T := 8) (B := 1024) (by decide) (argX m c) (argY m c) (fun s h => iblk m c 0 ⟨s, h⟩) (fun s h => iblk m c 1 ⟨s, h⟩)
    (fun s h => (outsAt0 m c s h).2) (k0_pay1 (F := Ideal)) (zeros_at shapeCasts_S2816x512_S2816x512) (fun s h h0 => first m c ⟨s, h⟩ h0) (fun s h h0 => later m c ⟨s, h⟩ h0) t.val t.isLt (by omega)
    r d r' d' (fun s h e u q hq => ?_) (fun s h e u q hq => ?_)
  · obtain ⟨⟨p0, p1⟩, -, -⟩ := index ⟨s, h⟩
    unfold iblk
    rw [View.read_apply]
    refine (congrArg (V m c main_arg0) (ix2_of _ q r' ?_ ?_)).trans (congrFun (V_main_arg0 m c) (ix2 q r'))
    · show win0_0.index ⟨s, h⟩ 0 * 1024 + 1 * u.val = q.val; rw [p0, hq]; dsimp only; omega
    · show win0_0.index ⟨s, h⟩ 1 * 2816 + 1 * r.val = r'.val; rw [p1, hr]; omega
  · obtain ⟨-, ⟨p0, p1⟩, -⟩ := index ⟨s, h⟩
    unfold iblk
    rw [View.read_apply]
    refine (congrArg (V m c main_arg1) (ix2_of _ q d' ?_ ?_)).trans (congrFun (V_main_arg1 m c) (ix2 q d'))
    · show win0_1.index ⟨s, h⟩ 0 * 1024 + 1 * u.val = q.val; rw [p0, hq]; dsimp only; omega
    · show win0_1.index ⟨s, h⟩ 1 * 512 + 1 * d.val = d'.val; rw [p1, hd]; dsimp only; rw [e]; omega

/-- The product of the hidden rows' gradients' columns with the rows' columns. -/
def wAll (x : S8192x5632.Idx → EReal) (y : S8192x1024.Idx → EReal) (i : S5632x1024.Idx) : EReal := overRows (m := 5632) (n := 1024) x y (i 0) (i 1)

set_option maxRecDepth 16384 in
theorem flushed (t : Fin cfg0.N) (hf : (cfg0.win 2).flush t = true) : (dats m 0 c).flushed 2 t
    = ((cfg0.win 2).blk t).view.read (Elt Ideal) (wAll (argX m c) (argY m c)) := by
  obtain ⟨-, -, h0, h1⟩ := index t
  have ht : t.val < 16 := lt_of_lt_of_eq t.isLt N_0
  rw [flushed2]
  funext y
  obtain ⟨r, d, rfl⟩ : ∃ (r : Fin 2816) (d : Fin 512), y = ix2 r d := ⟨y 0, y 1, eq_ix2 y⟩
  rw [View.read_apply]
  have hr := r.isLt
  have hd := d.isLt
  refine (out_last m c t ((flush0_2 t).mp hf) r d ⟨1 * 2816 + r.val, by omega⟩ ⟨t.val / 8 * 512 + d.val, by omega⟩ rfl rfl).trans (Eq.symm ?_)
  refine (congrArg (wAll (argX m c) (argY m c)) (ix2_of (M := 5632) (N := 1024) _ ⟨1 * 2816 + r.val, by omega⟩ ⟨0 + (t.val / 8 * 512 + d.val), by omega⟩ ?_ ?_)).trans ?_
  · show win0_2.index t 0 * 2816 + 1 * r.val = 1 * 2816 + r.val; rw [h0]; omega
  · show win0_2.index t 1 * 512 + 1 * d.val = 0 + (t.val / 8 * 512 + d.val); rw [h1]; omega
  · exact congrArg (overRows _ _ _) (Fin.ext (Nat.zero_add _))

theorem mem_iff (t : Fin cfg0.N) (i : S5632x1024.Idx) : i ∈ ((cfg0.win 2).blk t).view.set
    ↔ (1 * 2816 ≤ (i 0).val ∧ (i 0).val < 1 * 2816 + 2816) ∧ 0 + t.val / 8 * 512 ≤ (i 1).val ∧ (i 1).val < 0 + t.val / 8 * 512 + 512 := by
  obtain ⟨-, -, h0, h1⟩ := index t
  have e0 : win0_2.index t 0 * 2816 = 1 * 2816 := by rw [h0]
  have e1 : win0_2.index t 1 * 512 = 0 + t.val / 8 * 512 := by rw [h1]; omega
  show i ∈ ((View.whole main_v0).slice (win0_2.rect t)).set ↔ _
  rw [View.set_slice_whole]
  refine (mem_block (M := 5632) (N := 1024) (m := 2816) (n := 512) _ _ i).trans ?_
  show (win0_2.index t 0 * 2816 ≤ _ ∧ _ < win0_2.index t 0 * 2816 + _) ∧ win0_2.index t 1 * 512 ≤ _ ∧ _ < win0_2.index t 1 * 512 + _ ↔ _
  rw [e0, e1]

theorem final_at (i : S5632x1024.Idx) (hi : 2816 ≤ (i 0).val) : (dats m 0 c).arrAt 2 cfg0.N i = wAll (argX m c) (argY m c) i := by
  have i0 : (i 0).val < 5632 := (i 0).isLt
  have i1 : (i 1).val < 1024 := (i 1).isLt
  have hN : cfg0.N = 16 := N_0
  let t : Fin cfg0.N := ⟨((i 1).val - 0) / 512 * 8 + 7, by omega⟩
  have ht : t.val = ((i 1).val - 0) / 512 * 8 + 7 := rfl
  exact (dats m 0 c).arrAt_apply_of_mem 2 (wAll (argX m c) (argY m c)) (flushed m c) cfg0.N t i t.isLt ((flush0_2 t).mpr (by omega))
    ((mem_iff t i).2 (by omega))

theorem copied : V m c main_v0 = m ((c : Thread nD τ).loc main_arg2) := by
  show StableHlo.after hostOps0 _ _ = _
  after_results
  rfl

theorem final_else (i : S5632x1024.Idx) (hi : ¬(2816 ≤ (i 0).val)) : (dats m 0 c).arrAt 2 cfg0.N i = argP m c i := by
  refine (entry2 m c i fun t hf hm => hi ?_).trans (congrFun (copied m c) i)
  have ht : t.val < 16 := lt_of_lt_of_eq t.isLt N_0
  have h := (mem_iff t i).1 hm
  omega

end Cert.Kernel12Ideal.Half

end

end
-- ==== Proof.InTile.lean ====
/-
  The gradient of the mixer's input projection, written by four kernels into one array, each at its own columns and leaving the others: what each
  leaves, as the sum over all 8192 tokens gathered in four tiles.
-/
module

public import proofs.«01_k».proof.Proof.WeightTile
public import proofs.«01_k».proof.Proof.Gen.Kernel13Ideal.Value
public import proofs.«01_k».proof.Proof.Gen.Kernel14Ideal.Value
public import proofs.«01_k».proof.Proof.Gen.Kernel15Ideal.Value
public import proofs.«01_k».proof.Proof.Gen.Kernel16Ideal.Value
public import Idealize.ShloMosaic.Lib.Tactic

@[expose] public section

noncomputable section

namespace Cert.Kernel13Ideal.In

open Cert.Kernel13Ideal Cert.Kernel13Ideal.Gen Cert.Kernel13Ideal.Value Idealize.ShloMosaic Idealize.ShloMosaic.ValueIdx Idealize.ShloMosaic.TcCoe Idealize.SL.Sem
  Cert.Words Cert.Products Cert.Gather
open Idealize.ShloMosaic.Pipeline (Dat)

section Points

variable (c : Dev nD) (i : grid0.Coords) (a2 : Memref sig .tc .vmem S2048x1024 .bf16) (h2 : a2.IsWhole) (a3 : Memref sig .tc .vmem S2048x1024 .bf16) (h3 : a3.IsWhole)
  (a4 : Memref sig .tc .vmem S1024x1024 .bf16) (h4 : a4.IsWhole) (a5 : Memref sig .tc .vmem S1024x1024 .f32) (h5 : a5.IsWhole)
  (x : Vec Ideal S2048x1024 .bf16) (y : Vec Ideal S2048x1024 .bf16) (o : Vec Ideal S1024x1024 .f32)

theorem store_add (inb) (j : (Rect.unit (s := S1024x1024) ![0, 0] ![1024, 1024] inb).shape.Idx) :
    k0_pay2 (F := Ideal) o x y j = addTile x y o ((Rect.unit (s := S1024x1024) ![0, 0] ![1024, 1024] inb).emb j) :=
  store_tile dot_S2048x1024_S2048x1024_S1024x1024_0_0_1_1_n_n_wf x y o shapeCasts_S1024x1024_S1024x1024 inb j

theorem scratch_B (hc : ¬cond0_0 i) (hd : ¬cond0_1 i) : sout0_B_0 (F := Ideal) c i a2 h2 a3 h3 a4 h4 a5 h5 hc hd x y o = addTile x y o := by
  unfold sout0_B_0
  exact read_tiles _ _ (addTile x y o) _ (scover0_B_0 (F := Ideal) c i a2 h2 a3 h3 a4 h4 a5 h5 hc hd x y o) (by
    unfold kernelRun0_B
    dsimp only
    sl_unfold_words
    simp only [View.readAt_eq_ld, h2.read_unread, h3.read_unread, h5.read_unread, ld_full]
    exact ⟨store_add x y o inb_S1024x1024_S1024x1024_0_0, trivial⟩)

theorem scratch_C (hc : ¬cond0_0 i) (hd : cond0_1 i) : sout0_C_0 (F := Ideal) c i a2 h2 a3 h3 a4 h4 a5 h5 hc hd x y o = addTile x y o := by
  unfold sout0_C_0
  exact read_tiles _ _ (addTile x y o) _ (scover0_C_0 (F := Ideal) c i a2 h2 a3 h3 a4 h4 a5 h5 hc hd x y o) (by
    unfold kernelRun0_C
    dsimp only
    sl_unfold_words
    simp only [View.readAt_eq_ld, h2.read_unread, h3.read_unread, h5.read_unread, ld_full]
    exact ⟨store_add x y o inb_S1024x1024_S1024x1024_0_0, trivial⟩)

theorem scratch_A (hc : cond0_0 i) (hd : ¬cond0_1 i) : sout0_A_0 (F := Ideal) c i a2 h2 a3 h3 a4 h4 a5 h5 hc hd x y = addTile x y (k0_pay1 (F := Ideal)) := by
  unfold sout0_A_0 kernelRun0_A
  dsimp only
  sl_unfold_words
  have hz : ∀ a, (![0, 0] : Fin 2 → ℕ) a = 0 := by decide
  simp only [View.readAt_eq_ld, h2.read_unread, h3.read_unread, ld_full, View.readCov_fill (s := S1024x1024) _ _ _ _ _ hz]
  exact read_over (s := S1024x1024) (e := .f32) _ _ (addTile x y (k0_pay1 (F := Ideal))) _ _
    (fun j => View.cover_of_tiledL (s := S1024x1024) _ S1024x1024.size (by sl_kernel_rfl) j) ⟨store_add x y _ inb_S1024x1024_S1024x1024_0_0, trivial⟩

theorem out_C (hc : ¬cond0_0 i) (hd : cond0_1 i) : out0_C_2 (F := Ideal) c i a2 h2 a3 h3 a4 h4 a5 h5 hc hd x y o = addTile x y o := by
  unfold out0_C_2
  exact read_tiles _ _ (addTile x y o) _ (cover0_C_2 (F := Ideal) c i a2 h2 a3 h3 a4 h4 a5 h5 hc hd x y o) (by
    unfold kernelRun0_C
    dsimp only
    sl_unfold_words
    have hz : ∀ a, (![0, 0] : Fin 2 → ℕ) a = 0 := by decide
    simp only [View.readAt_eq_ld, h2.read_unread, h3.read_unread, h5.read_unread, ld_full, View.readCov_fill (s := S1024x1024) _ _ _ _ _ hz]
    exact ⟨fun j => store_add x y o inb_S1024x1024_S1024x1024_0_0 j, trivial⟩)

end Points

variable (m : (ℓ : Loc nD τ sig) → Buf (Elt Ideal) ℓ) (c : Dev nD)

/-- The normed rows and the gradients of the projection's columns. -/
abbrev argX : S8192x1024.Idx → EReal := m ((c : Thread nD τ).loc main_arg0)
abbrev argY : S8192x1024.Idx → EReal := m ((c : Thread nD τ).loc main_arg1)

theorem index : ∀ t : Fin grid0.N, (win0_0.index t 0 = t.val % 4 ∧ win0_0.index t 1 = 0) ∧ (win0_1.index t 0 = t.val % 4 ∧ win0_1.index t 1 = t.val / 4)
    ∧ (win0_2.index t 0 = 0 ∧ win0_2.index t 1 = t.val / 4) := by decide +kernel

theorem first (t : Fin cfg0.N) (h : t.val % 4 = 0) :
    (outsAt0 m c t.val t.isLt).2 = addTile (iblk m c 0 t) (iblk m c 1 t) (k0_pay1 (F := Ideal)) := by
  rw [outsAt0_A m c t h (by omega)]
  dsimp only
  rw [scratch_A]

theorem later (t : Fin cfg0.N) (h : ¬t.val % 4 = 0) : (outsAt0 m c t.val t.isLt).2
    = addTile (iblk m c 0 t) (iblk m c 1 t) (outsAt0 m c (t.val - 1) (Nat.lt_of_le_of_lt (Nat.sub_le _ _) t.isLt)).2 := by
  by_cases h1 : t.val % 4 = 3
  · rw [outsAt0_C m c t h h1]; dsimp only; rw [scratch_C]
  · rw [outsAt0_B m c t h h1]; dsimp only; rw [scratch_B]

theorem out_scratch (t : Fin cfg0.N) (h0 : ¬t.val % 4 = 0) (h1 : t.val % 4 = 3) : (outsAt0 m c t.val t.isLt).1 = (outsAt0 m c t.val t.isLt).2 := by
  rw [outsAt0_C m c t h0 h1]
  dsimp only
  rw [out_C, scratch_C]

/-- What the last tile of a column block leaves. -/
theorem out_last (t : Fin cfg0.N) (h1 : t.val % 4 = 3) (r : Fin 1024) (d : Fin 1024) (d' : Fin 1024)
    (hd : d'.val = t.val / 4 * 1024 + d.val) : (outsAt0 m c t.val t.isLt).1 (ix2 r d) = overRows (argX m c) (argY m c) r d' := by
  rw [out_scratch m c t (by omega) h1]
  refine product_block (T := 4) (B := 2048) (by decide) (argX m c) (argY m c) (fun s h => iblk m c 0 ⟨s, h⟩) (fun s h => iblk m c 1 ⟨s, h⟩)
    (fun s h => (outsAt0 m c s h).2) (k0_pay1 (F := Ideal)) (zeros_at shapeCasts_S1024x1024_S1024x1024) (fun s h h0 => first m c ⟨s, h⟩ h0) (fun s h h0 => later m c ⟨s, h⟩ h0) t.val t.isLt (by omega)
    r d r d' (fun s h e u q hq => ?_) (fun s h e u q hq => ?_)
  · obtain ⟨⟨p0, p1⟩, -, -⟩ := index ⟨s, h⟩
    unfold iblk
    rw [View.read_apply]
    refine congrArg (V m c main_arg0) (ix2_of _ q r ?_ ?_)
    · show win0_0.index ⟨s, h⟩ 0 * 2048 + 1 * u.val = q.val; rw [p0, hq]; dsimp only; omega
    · show win0_0.index ⟨s, h⟩ 1 * 1024 + 1 * r.val = r.val; rw [p1]; omega
  · obtain ⟨-, ⟨p0, p1⟩, -⟩ := index ⟨s, h⟩
    unfold iblk
    rw [View.read_apply]
    refine congrArg (V m c main_arg1) (ix2_of _ q d' ?_ ?_)
    · show win0_1.index ⟨s, h⟩ 0 * 2048 + 1 * u.val = q.val; rw [p0, hq]; dsimp only; omega
    · show win0_1.index ⟨s, h⟩ 1 * 1024 + 1 * d.val = d'.val; rw [p1, hd]; dsimp only; rw [e]; omega

/-- The product of the normed rows' columns with the gradients' columns, set at their place in the projection. -/
def wAll (x : S8192x1024.Idx → EReal) (y : S8192x1024.Idx → EReal) (i : S1024x6144.Idx) : EReal := overRows (m := 1024) (n := 6144) x (placed 0 y) (i 0) (i 1)

set_option maxRecDepth 16384 in
theorem flushed (t : Fin cfg0.N) (hf : (cfg0.win 2).flush t = true) : (dats m 0 c).flushed 2 t
    = ((cfg0.win 2).blk t).view.read (Elt Ideal) (wAll (argX m c) (argY m c)) := by
  obtain ⟨-, -, h0, h1⟩ := index t
  have ht : t.val < 4 := lt_of_lt_of_eq t.isLt N_0
  rw [flushed2]
  funext y
  obtain ⟨r, d, rfl⟩ : ∃ (r : Fin 1024) (d : Fin 1024), y = ix2 r d := ⟨y 0, y 1, eq_ix2 y⟩
  rw [View.read_apply]
  have hd := d.isLt
  refine (out_last m c t ((flush0_2 t).mp hf) r d ⟨t.val / 4 * 1024 + d.val, by omega⟩ rfl).trans (Eq.symm ?_)
  refine (congrArg (wAll (argX m c) (argY m c)) (ix2_of (M := 1024) (N := 6144) _ r ⟨0 + (t.val / 4 * 1024 + d.val), by omega⟩ ?_ ?_)).trans ?_
  · show win0_2.index t 0 * 1024 + 1 * r.val = r.val; rw [h0]; omega
  · show win0_2.index t 1 * 1024 + 1 * d.val = 0 + (t.val / 4 * 1024 + d.val); rw [h1]; omega
  · exact overRows_placed (NY := 1024) (NO := 6144) 0 _ _ _ _ _ rfl

theorem mem_iff (t : Fin cfg0.N) (i : S1024x6144.Idx) : i ∈ ((cfg0.win 2).blk t).view.set
    ↔ 0 + t.val / 4 * 1024 ≤ (i 1).val ∧ (i 1).val < 0 + t.val / 4 * 1024 + 1024 := by
  obtain ⟨-, -, h0, h1⟩ := index t
  have e1 : win0_2.index t 1 * 1024 = 0 + t.val / 4 * 1024 := by rw [h1]; omega
  show i ∈ ((View.whole main_v0).slice (win0_2.rect t)).set ↔ _
  rw [View.set_slice_whole]
  refine (mem_block (M := 1024) (N := 6144) (m := 1024) (n := 1024) _ _ i).trans ?_
  show (win0_2.index t 0 * 1024 ≤ _ ∧ _ < win0_2.index t 0 * 1024 + _) ∧ win0_2.index t 1 * 1024 ≤ _ ∧ _ < win0_2.index t 1 * 1024 + _ ↔ _
  rw [h0, e1]
  exact and_iff_right ⟨by omega, by have : (i 0).val < 1024 := (i 0).isLt; omega⟩

theorem final_at (i : S1024x6144.Idx) (hi : (i 1).val < 1024) : (dats m 0 c).arrAt 2 cfg0.N i = wAll (argX m c) (argY m c) i := by
  have i1 : (i 1).val < 6144 := (i 1).isLt
  have hN : cfg0.N = 4 := N_0
  let t : Fin cfg0.N := ⟨((i 1).val - 0) / 1024 * 4 + 3, by omega⟩
  have ht : t.val = ((i 1).val - 0) / 1024 * 4 + 3 := rfl
  exact (dats m 0 c).arrAt_apply_of_mem 2 (wAll (argX m c) (argY m c)) (flushed m c) cfg0.N t i t.isLt ((flush0_2 t).mpr (by omega))
    ((mem_iff t i).2 (by omega))

end Cert.Kernel13Ideal.In

namespace Cert.Kernel14Ideal.In

open Cert.Kernel14Ideal Cert.Kernel14Ideal.Gen Cert.Kernel14Ideal.Value Idealize.ShloMosaic Idealize.ShloMosaic.ValueIdx Idealize.ShloMosaic.TcCoe Idealize.SL.Sem
  Cert.Words Cert.Products Cert.Gather
open Idealize.ShloMosaic.Pipeline (Dat)

section Points

variable (c : Dev nD) (i : grid0.Coords) (a2 : Memref sig .tc .vmem S2048x1024 .bf16) (h2 : a2.IsWhole) (a3 : Memref sig .tc .vmem S2048x512 .bf16) (h3 : a3.IsWhole)
  (a4 : Memref sig .tc .vmem S1024x512 .bf16) (h4 : a4.IsWhole) (a5 : Memref sig .tc .vmem S1024x512 .f32) (h5 : a5.IsWhole)
  (x : Vec Ideal S2048x1024 .bf16) (y : Vec Ideal S2048x512 .bf16) (o : Vec Ideal S1024x512 .f32)

theorem store_add (inb) (j : (Rect.unit (s := S1024x512) ![0, 0] ![1024, 512] inb).shape.Idx) :
    k0_pay2 (F := Ideal) o x y j = addTile x y o ((Rect.unit (s := S1024x512) ![0, 0] ![1024, 512] inb).emb j) :=
  store_tile dot_S2048x1024_S2048x512_S1024x512_0_0_1_1_n_n_wf x y o shapeCasts_S1024x512_S1024x512 inb j

theorem scratch_B (hc : ¬cond0_0 i) (hd : ¬cond0_1 i) : sout0_B_0 (F := Ideal) c i a2 h2 a3 h3 a4 h4 a5 h5 hc hd x y o = addTile x y o := by
  unfold sout0_B_0
  exact read_tiles _ _ (addTile x y o) _ (scover0_B_0 (F := Ideal) c i a2 h2 a3 h3 a4 h4 a5 h5 hc hd x y o) (by
    unfold kernelRun0_B
    dsimp only
    sl_unfold_words
    simp only [View.readAt_eq_ld, h2.read_unread, h3.read_unread, h5.read_unread, ld_full]
    exact ⟨store_add x y o inb_S1024x512_S1024x512_0_0, trivial⟩)

theorem scratch_C (hc : ¬cond0_0 i) (hd : cond0_1 i) : sout0_C_0 (F := Ideal) c i a2 h2 a3 h3 a4 h4 a5 h5 hc hd x y o = addTile x y o := by
  unfold sout0_C_0
  exact read_tiles _ _ (addTile x y o) _ (scover0_C_0 (F := Ideal) c i a2 h2 a3 h3 a4 h4 a5 h5 hc hd x y o) (by
    unfold kernelRun0_C
    dsimp only
    sl_unfold_words
    simp only [View.readAt_eq_ld, h2.read_unread, h3.read_unread, h5.read_unread, ld_full]
    exact ⟨store_add x y o inb_S1024x512_S1024x512_0_0, trivial⟩)

theorem scratch_A (hc : cond0_0 i) (hd : ¬cond0_1 i) : sout0_A_0 (F := Ideal) c i a2 h2 a3 h3 a4 h4 a5 h5 hc hd x y = addTile x y (k0_pay1 (F := Ideal)) := by
  unfold sout0_A_0 kernelRun0_A
  dsimp only
  sl_unfold_words
  have hz : ∀ a, (![0, 0] : Fin 2 → ℕ) a = 0 := by decide
  simp only [View.readAt_eq_ld, h2.read_unread, h3.read_unread, ld_full, View.readCov_fill (s := S1024x512) _ _ _ _ _ hz]
  exact read_over (s := S1024x512) (e := .f32) _ _ (addTile x y (k0_pay1 (F := Ideal))) _ _
    (fun j => View.cover_of_tiledL (s := S1024x512) _ S1024x512.size (by sl_kernel_rfl) j) ⟨store_add x y _ inb_S1024x512_S1024x512_0_0, trivial⟩

theorem out_C (hc : ¬cond0_0 i) (hd : cond0_1 i) : out0_C_2 (F := Ideal) c i a2 h2 a3 h3 a4 h4 a5 h5 hc hd x y o = addTile x y o := by
  unfold out0_C_2
  exact read_tiles _ _ (addTile x y o) _ (cover0_C_2 (F := Ideal) c i a2 h2 a3 h3 a4 h4 a5 h5 hc hd x y o) (by
    unfold kernelRun0_C
    dsimp only
    sl_unfold_words
    have hz : ∀ a, (![0, 0] : Fin 2 → ℕ) a = 0 := by decide
    simp only [View.readAt_eq_ld, h2.read_unread, h3.read_unread, h5.read_unread, ld_full, View.readCov_fill (s := S1024x512) _ _ _ _ _ hz]
    exact ⟨fun j => store_add x y o inb_S1024x512_S1024x512_0_0 j, trivial⟩)

end Points

variable (m : (ℓ : Loc nD τ sig) → Buf (Elt Ideal) ℓ) (c : Dev nD)

/-- The normed rows and the gradients of the projection's columns. -/
abbrev argX : S8192x1024.Idx → EReal := m ((c : Thread nD τ).loc main_arg0)
abbrev argY : S8192x1536.Idx → EReal := m ((c : Thread nD τ).loc main_arg1)
abbrev argP : S1024x6144.Idx → EReal := m ((c : Thread nD τ).loc main_arg2)

theorem index : ∀ t : Fin grid0.N, (win0_0.index t 0 = t.val % 4 ∧ win0_0.index t 1 = 0) ∧ (win0_1.index t 0 = t.val % 4 ∧ win0_1.index t 1 = t.val / 4)
    ∧ (win0_2.index t 0 = 0 ∧ win0_2.index t 1 = t.val / 4 + 2) := by decide +kernel

theorem first (t : Fin cfg0.N) (h : t.val % 4 = 0) :
    (outsAt0 m c t.val t.isLt).2 = addTile (iblk m c 0 t) (iblk m c 1 t) (k0_pay1 (F := Ideal)) := by
  rw [outsAt0_A m c t h (by omega)]
  dsimp only
  rw [scratch_A]

theorem later (t : Fin cfg0.N) (h : ¬t.val % 4 = 0) : (outsAt0 m c t.val t.isLt).2
    = addTile (iblk m c 0 t) (iblk m c 1 t) (outsAt0 m c (t.val - 1) (Nat.lt_of_le_of_lt (Nat.sub_le _ _) t.isLt)).2 := by
  by_cases h1 : t.val % 4 = 3
  · rw [outsAt0_C m c t h h1]; dsimp only; rw [scratch_C]
  · rw [outsAt0_B m c t h h1]; dsimp only; rw [scratch_B]

theorem out_scratch (t : Fin cfg0.N) (h0 : ¬t.val % 4 = 0) (h1 : t.val % 4 = 3) : (outsAt0 m c t.val t.isLt).1 = (outsAt0 m c t.val t.isLt).2 := by
  rw [outsAt0_C m c t h0 h1]
  dsimp only
  rw [out_C, scratch_C]

/-- What the last tile of a column block leaves. -/
theorem out_last (t : Fin cfg0.N) (h1 : t.val % 4 = 3) (r : Fin 1024) (d : Fin 512) (d' : Fin 1536)
    (hd : d'.val = t.val / 4 * 512 + d.val) : (outsAt0 m c t.val t.isLt).1 (ix2 r d) = overRows (argX m c) (argY m c) r d' := by
  rw [out_scratch m c t (by omega) h1]
  refine product_block (T := 4) (B := 2048) (by decide) (argX m c) (argY m c) (fun s h => iblk m c 0 ⟨s, h⟩) (fun s h => iblk m c 1 ⟨s, h⟩)
    (fun s h => (outsAt0 m c s h).2) (k0_pay1 (F := Ideal)) (zeros_at shapeCasts_S1024x512_S1024x512) (fun s h h0 => first m c ⟨s, h⟩ h0) (fun s h h0 => later m c ⟨s, h⟩ h0) t.val t.isLt (by omega)
    r d r d' (fun s h e u q hq => ?_) (fun s h e u q hq => ?_)
  · obtain ⟨⟨p0, p1⟩, -, -⟩ := index ⟨s, h⟩
    unfold iblk
    rw [View.read_apply]
    refine (congrArg (V m c main_arg0) (ix2_of _ q r ?_ ?_)).trans (congrFun (V_main_arg0 m c) (ix2 q r))
    · show win0_0.index ⟨s, h⟩ 0 * 2048 + 1 * u.val = q.val; rw [p0, hq]; dsimp only; omega
    · show win0_0.index ⟨s, h⟩ 1 * 1024 + 1 * r.val = r.val; rw [p1]; omega
  · obtain ⟨-, ⟨p0, p1⟩, -⟩ := index ⟨s, h⟩
    unfold iblk
    rw [View.read_apply]
    refine (congrArg (V m c main_arg1) (ix2_of _ q d' ?_ ?_)).trans (congrFun (V_main_arg1 m c) (ix2 q d'))
    · show win0_1.index ⟨s, h⟩ 0 * 2048 + 1 * u.val = q.val; rw [p0, hq]; dsimp only; omega
    · show win0_1.index ⟨s, h⟩ 1 * 512 + 1 * d.val = d'.val; rw [p1, hd]; dsimp only; rw [e]; omega

/-- The product of the normed rows' columns with the gradients' columns, set at their place in the projection. -/
def wAll (x : S8192x1024.Idx → EReal) (y : S8192x1536.Idx → EReal) (i : S1024x6144.Idx) : EReal := overRows (m := 1024) (n := 6144) x (placed 1024 y) (i 0) (i 1)

set_option maxRecDepth 16384 in
theorem flushed (t : Fin cfg0.N) (hf : (cfg0.win 2).flush t = true) : (dats m 0 c).flushed 2 t
    = ((cfg0.win 2).blk t).view.read (Elt Ideal) (wAll (argX m c) (argY m c)) := by
  obtain ⟨-, -, h0, h1⟩ := index t
  have ht : t.val < 12 := lt_of_lt_of_eq t.isLt N_0
  rw [flushed2]
  funext y
  obtain ⟨r, d, rfl⟩ : ∃ (r : Fin 1024) (d : Fin 512), y = ix2 r d := ⟨y 0, y 1, eq_ix2 y⟩
  rw [View.read_apply]
  have hd := d.isLt
  refine (out_last m c t ((flush0_2 t).mp hf) r d ⟨t.val / 4 * 512 + d.val, by omega⟩ rfl).trans (Eq.symm ?_)
  refine (congrArg (wAll (argX m c) (argY m c)) (ix2_of (M := 1024) (N := 6144) _ r ⟨1024 + (t.val / 4 * 512 + d.val), by omega⟩ ?_ ?_)).trans ?_
  · show win0_2.index t 0 * 1024 + 1 * r.val = r.val; rw [h0]; omega
  · show win0_2.index t 1 * 512 + 1 * d.val = 1024 + (t.val / 4 * 512 + d.val); rw [h1]; omega
  · exact overRows_placed (NY := 1536) (NO := 6144) 1024 _ _ _ _ _ rfl

theorem mem_iff (t : Fin cfg0.N) (i : S1024x6144.Idx) : i ∈ ((cfg0.win 2).blk t).view.set
    ↔ 1024 + t.val / 4 * 512 ≤ (i 1).val ∧ (i 1).val < 1024 + t.val / 4 * 512 + 512 := by
  obtain ⟨-, -, h0, h1⟩ := index t
  have e1 : win0_2.index t 1 * 512 = 1024 + t.val / 4 * 512 := by rw [h1]; omega
  show i ∈ ((View.whole main_v0).slice (win0_2.rect t)).set ↔ _
  rw [View.set_slice_whole]
  refine (mem_block (M := 1024) (N := 6144) (m := 1024) (n := 512) _ _ i).trans ?_
  show (win0_2.index t 0 * 1024 ≤ _ ∧ _ < win0_2.index t 0 * 1024 + _) ∧ win0_2.index t 1 * 512 ≤ _ ∧ _ < win0_2.index t 1 * 512 + _ ↔ _
  rw [h0, e1]
  exact and_iff_right ⟨by omega, by have : (i 0).val < 1024 := (i 0).isLt; omega⟩

theorem final_at (i : S1024x6144.Idx) (hi : 1024 ≤ (i 1).val ∧ (i 1).val < 2560) : (dats m 0 c).arrAt 2 cfg0.N i = wAll (argX m c) (argY m c) i := by
  have i1 : (i 1).val < 6144 := (i 1).isLt
  have hN : cfg0.N = 12 := N_0
  let t : Fin cfg0.N := ⟨((i 1).val - 1024) / 512 * 4 + 3, by omega⟩
  have ht : t.val = ((i 1).val - 1024) / 512 * 4 + 3 := rfl
  exact (dats m 0 c).arrAt_apply_of_mem 2 (wAll (argX m c) (argY m c)) (flushed m c) cfg0.N t i t.isLt ((flush0_2 t).mpr (by omega))
    ((mem_iff t i).2 (by omega))

theorem copied : V m c main_v0 = m ((c : Thread nD τ).loc main_arg2) := by
  show StableHlo.after hostOps0 _ _ = _
  after_results
  rfl

theorem final_else (i : S1024x6144.Idx) (hi : ¬(1024 ≤ (i 1).val ∧ (i 1).val < 2560)) : (dats m 0 c).arrAt 2 cfg0.N i = argP m c i := by
  refine (entry2 m c i fun t hf hm => hi ?_).trans (congrFun (copied m c) i)
  have ht : t.val < 12 := lt_of_lt_of_eq t.isLt N_0
  have h := (mem_iff t i).1 hm
  omega

end Cert.Kernel14Ideal.In

namespace Cert.Kernel15Ideal.In

open Cert.Kernel15Ideal Cert.Kernel15Ideal.Gen Cert.Kernel15Ideal.Value Idealize.ShloMosaic Idealize.ShloMosaic.ValueIdx Idealize.ShloMosaic.TcCoe Idealize.SL.Sem
  Cert.Words Cert.Products Cert.Gather
open Idealize.ShloMosaic.Pipeline (Dat)

section Points

variable (c : Dev nD) (i : grid0.Coords) (a2 : Memref sig .tc .vmem S2048x1024 .bf16) (h2 : a2.IsWhole) (a3 : Memref sig .tc .vmem S2048x512 .bf16) (h3 : a3.IsWhole)
  (a4 : Memref sig .tc .vmem S1024x512 .bf16) (h4 : a4.IsWhole) (a5 : Memref sig .tc .vmem S1024x512 .f32) (h5 : a5.IsWhole)
  (x : Vec Ideal S2048x1024 .bf16) (y : Vec Ideal S2048x512 .bf16) (o : Vec Ideal S1024x512 .f32)

theorem store_add (inb) (j : (Rect.unit (s := S1024x512) ![0, 0] ![1024, 512] inb).shape.Idx) :
    k0_pay2 (F := Ideal) o x y j = addTile x y o ((Rect.unit (s := S1024x512) ![0, 0] ![1024, 512] inb).emb j) :=
  store_tile dot_S2048x1024_S2048x512_S1024x512_0_0_1_1_n_n_wf x y o shapeCasts_S1024x512_S1024x512 inb j

theorem scratch_B (hc : ¬cond0_0 i) (hd : ¬cond0_1 i) : sout0_B_0 (F := Ideal) c i a2 h2 a3 h3 a4 h4 a5 h5 hc hd x y o = addTile x y o := by
  unfold sout0_B_0
  exact read_tiles _ _ (addTile x y o) _ (scover0_B_0 (F := Ideal) c i a2 h2 a3 h3 a4 h4 a5 h5 hc hd x y o) (by
    unfold kernelRun0_B
    dsimp only
    sl_unfold_words
    simp only [View.readAt_eq_ld, h2.read_unread, h3.read_unread, h5.read_unread, ld_full]
    exact ⟨store_add x y o inb_S1024x512_S1024x512_0_0, trivial⟩)

theorem scratch_C (hc : ¬cond0_0 i) (hd : cond0_1 i) : sout0_C_0 (F := Ideal) c i a2 h2 a3 h3 a4 h4 a5 h5 hc hd x y o = addTile x y o := by
  unfold sout0_C_0
  exact read_tiles _ _ (addTile x y o) _ (scover0_C_0 (F := Ideal) c i a2 h2 a3 h3 a4 h4 a5 h5 hc hd x y o) (by
    unfold kernelRun0_C
    dsimp only
    sl_unfold_words
    simp only [View.readAt_eq_ld, h2.read_unread, h3.read_unread, h5.read_unread, ld_full]
    exact ⟨store_add x y o inb_S1024x512_S1024x512_0_0, trivial⟩)

theorem scratch_A (hc : cond0_0 i) (hd : ¬cond0_1 i) : sout0_A_0 (F := Ideal) c i a2 h2 a3 h3 a4 h4 a5 h5 hc hd x y = addTile x y (k0_pay1 (F := Ideal)) := by
  unfold sout0_A_0 kernelRun0_A
  dsimp only
  sl_unfold_words
  have hz : ∀ a, (![0, 0] : Fin 2 → ℕ) a = 0 := by decide
  simp only [View.readAt_eq_ld, h2.read_unread, h3.read_unread, ld_full, View.readCov_fill (s := S1024x512) _ _ _ _ _ hz]
  exact read_over (s := S1024x512) (e := .f32) _ _ (addTile x y (k0_pay1 (F := Ideal))) _ _
    (fun j => View.cover_of_tiledL (s := S1024x512) _ S1024x512.size (by sl_kernel_rfl) j) ⟨store_add x y _ inb_S1024x512_S1024x512_0_0, trivial⟩

theorem out_C (hc : ¬cond0_0 i) (hd : cond0_1 i) : out0_C_2 (F := Ideal) c i a2 h2 a3 h3 a4 h4 a5 h5 hc hd x y o = addTile x y o := by
  unfold out0_C_2
  exact read_tiles _ _ (addTile x y o) _ (cover0_C_2 (F := Ideal) c i a2 h2 a3 h3 a4 h4 a5 h5 hc hd x y o) (by
    unfold kernelRun0_C
    dsimp only
    sl_unfold_words
    have hz : ∀ a, (![0, 0] : Fin 2 → ℕ) a = 0 := by decide
    simp only [View.readAt_eq_ld, h2.read_unread, h3.read_unread, h5.read_unread, ld_full, View.readCov_fill (s := S1024x512) _ _ _ _ _ hz]
    exact ⟨fun j => store_add x y o inb_S1024x512_S1024x512_0_0 j, trivial⟩)

end Points

variable (m : (ℓ : Loc nD τ sig) → Buf (Elt Ideal) ℓ) (c : Dev nD)

/-- The normed rows and the gradients of the projection's columns. -/
abbrev argX : S8192x1024.Idx → EReal := m ((c : Thread nD τ).loc main_arg0)
abbrev argY : S8192x512.Idx → EReal := m ((c : Thread nD τ).loc main_arg1)
abbrev argP : S1024x6144.Idx → EReal := m ((c : Thread nD τ).loc main_arg2)

theorem index : ∀ t : Fin grid0.N, (win0_0.index t 0 = t.val % 4 ∧ win0_0.index t 1 = 0) ∧ (win0_1.index t 0 = t.val % 4 ∧ win0_1.index t 1 = t.val / 4)
    ∧ (win0_2.index t 0 = 0 ∧ win0_2.index t 1 = t.val / 4 + 5) := by decide +kernel

theorem first (t : Fin cfg0.N) (h : t.val % 4 = 0) :
    (outsAt0 m c t.val t.isLt).2 = addTile (iblk m c 0 t) (iblk m c 1 t) (k0_pay1 (F := Ideal)) := by
  rw [outsAt0_A m c t h (by omega)]
  dsimp only
  rw [scratch_A]

theorem later (t : Fin cfg0.N) (h : ¬t.val % 4 = 0) : (outsAt0 m c t.val t.isLt).2
    = addTile (iblk m c 0 t) (iblk m c 1 t) (outsAt0 m c (t.val - 1) (Nat.lt_of_le_of_lt (Nat.sub_le _ _) t.isLt)).2 := by
  by_cases h1 : t.val % 4 = 3
  · rw [outsAt0_C m c t h h1]; dsimp only; rw [scratch_C]
  · rw [outsAt0_B m c t h h1]; dsimp only; rw [scratch_B]

theorem out_scratch (t : Fin cfg0.N) (h0 : ¬t.val % 4 = 0) (h1 : t.val % 4 = 3) : (outsAt0 m c t.val t.isLt).1 = (outsAt0 m c t.val t.isLt).2 := by
  rw [outsAt0_C m c t h0 h1]
  dsimp only
  rw [out_C, scratch_C]

/-- What the last tile of a column block leaves. -/
theorem out_last (t : Fin cfg0.N) (h1 : t.val % 4 = 3) (r : Fin 1024) (d : Fin 512) (d' : Fin 512)
    (hd : d'.val = t.val / 4 * 512 + d.val) : (outsAt0 m c t.val t.isLt).1 (ix2 r d) = overRows (argX m c) (argY m c) r d' := by
  rw [out_scratch m c t (by omega) h1]
  refine product_block (T := 4) (B := 2048) (by decide) (argX m c) (argY m c) (fun s h => iblk m c 0 ⟨s, h⟩) (fun s h => iblk m c 1 ⟨s, h⟩)
    (fun s h => (outsAt0 m c s h).2) (k0_pay1 (F := Ideal)) (zeros_at shapeCasts_S1024x512_S1024x512) (fun s h h0 => first m c ⟨s, h⟩ h0) (fun s h h0 => later m c ⟨s, h⟩ h0) t.val t.isLt (by omega)
    r d r d' (fun s h e u q hq => ?_) (fun s h e u q hq => ?_)
  · obtain ⟨⟨p0, p1⟩, -, -⟩ := index ⟨s, h⟩
    unfold iblk
    rw [View.read_apply]
    refine (congrArg (V m c main_arg0) (ix2_of _ q r ?_ ?_)).trans (congrFun (V_main_arg0 m c) (ix2 q r))
    · show win0_0.index ⟨s, h⟩ 0 * 2048 + 1 * u.val = q.val; rw [p0, hq]; dsimp only; omega
    · show win0_0.index ⟨s, h⟩ 1 * 1024 + 1 * r.val = r.val; rw [p1]; omega
  · obtain ⟨-, ⟨p0, p1⟩, -⟩ := index ⟨s, h⟩
    unfold iblk
    rw [View.read_apply]
    refine (congrArg (V m c main_arg1) (ix2_of _ q d' ?_ ?_)).trans (congrFun (V_main_arg1 m c) (ix2 q d'))
    · show win0_1.index ⟨s, h⟩ 0 * 2048 + 1 * u.val = q.val; rw [p0, hq]; dsimp only; omega
    · show win0_1.index ⟨s, h⟩ 1 * 512 + 1 * d.val = d'.val; rw [p1, hd]; dsimp only; rw [e]; omega

/-- The product of the normed rows' columns with the gradients' columns, set at their place in the projection. -/
def wAll (x : S8192x1024.Idx → EReal) (y : S8192x512.Idx → EReal) (i : S1024x6144.Idx) : EReal := overRows (m := 1024) (n := 6144) x (placed 2560 y) (i 0) (i 1)

set_option maxRecDepth 16384 in
theorem flushed (t : Fin cfg0.N) (hf : (cfg0.win 2).flush t = true) : (dats m 0 c).flushed 2 t
    = ((cfg0.win 2).blk t).view.read (Elt Ideal) (wAll (argX m c) (argY m c)) := by
  obtain ⟨-, -, h0, h1⟩ := index t
  have ht : t.val < 4 := lt_of_lt_of_eq t.isLt N_0
  rw [flushed2]
  funext y
  obtain ⟨r, d, rfl⟩ : ∃ (r : Fin 1024) (d : Fin 512), y = ix2 r d := ⟨y 0, y 1, eq_ix2 y⟩
  rw [View.read_apply]
  have hd := d.isLt
  refine (out_last m c t ((flush0_2 t).mp hf) r d ⟨t.val / 4 * 512 + d.val, by omega⟩ rfl).trans (Eq.symm ?_)
  refine (congrArg (wAll (argX m c) (argY m c)) (ix2_of (M := 1024) (N := 6144) _ r ⟨2560 + (t.val / 4 * 512 + d.val), by omega⟩ ?_ ?_)).trans ?_
  · show win0_2.index t 0 * 1024 + 1 * r.val = r.val; rw [h0]; omega
  · show win0_2.index t 1 * 512 + 1 * d.val = 2560 + (t.val / 4 * 512 + d.val); rw [h1]; omega
  · exact overRows_placed (NY := 512) (NO := 6144) 2560 _ _ _ _ _ rfl

theorem mem_iff (t : Fin cfg0.N) (i : S1024x6144.Idx) : i ∈ ((cfg0.win 2).blk t).view.set
    ↔ 2560 + t.val / 4 * 512 ≤ (i 1).val ∧ (i 1).val < 2560 + t.val / 4 * 512 + 512 := by
  obtain ⟨-, -, h0, h1⟩ := index t
  have e1 : win0_2.index t 1 * 512 = 2560 + t.val / 4 * 512 := by rw [h1]; omega
  show i ∈ ((View.whole main_v0).slice (win0_2.rect t)).set ↔ _
  rw [View.set_slice_whole]
  refine (mem_block (M := 1024) (N := 6144) (m := 1024) (n := 512) _ _ i).trans ?_
  show (win0_2.index t 0 * 1024 ≤ _ ∧ _ < win0_2.index t 0 * 1024 + _) ∧ win0_2.index t 1 * 512 ≤ _ ∧ _ < win0_2.index t 1 * 512 + _ ↔ _
  rw [h0, e1]
  exact and_iff_right ⟨by omega, by have : (i 0).val < 1024 := (i 0).isLt; omega⟩

theorem final_at (i : S1024x6144.Idx) (hi : 2560 ≤ (i 1).val ∧ (i 1).val < 3072) : (dats m 0 c).arrAt 2 cfg0.N i = wAll (argX m c) (argY m c) i := by
  have i1 : (i 1).val < 6144 := (i 1).isLt
  have hN : cfg0.N = 4 := N_0
  let t : Fin cfg0.N := ⟨((i 1).val - 2560) / 512 * 4 + 3, by omega⟩
  have ht : t.val = ((i 1).val - 2560) / 512 * 4 + 3 := rfl
  exact (dats m 0 c).arrAt_apply_of_mem 2 (wAll (argX m c) (argY m c)) (flushed m c) cfg0.N t i t.isLt ((flush0_2 t).mpr (by omega))
    ((mem_iff t i).2 (by omega))

theorem copied : V m c main_v0 = m ((c : Thread nD τ).loc main_arg2) := by
  show StableHlo.after hostOps0 _ _ = _
  after_results
  rfl

theorem final_else (i : S1024x6144.Idx) (hi : ¬(2560 ≤ (i 1).val ∧ (i 1).val < 3072)) : (dats m 0 c).arrAt 2 cfg0.N i = argP m c i := by
  refine (entry2 m c i fun t hf hm => hi ?_).trans (congrFun (copied m c) i)
  have ht : t.val < 4 := lt_of_lt_of_eq t.isLt N_0
  have h := (mem_iff t i).1 hm
  omega

end Cert.Kernel15Ideal.In

namespace Cert.Kernel16Ideal.In

open Cert.Kernel16Ideal Cert.Kernel16Ideal.Gen Cert.Kernel16Ideal.Value Idealize.ShloMosaic Idealize.ShloMosaic.ValueIdx Idealize.ShloMosaic.TcCoe Idealize.SL.Sem
  Cert.Words Cert.Products Cert.Gather
open Idealize.ShloMosaic.Pipeline (Dat)

section Points

variable (c : Dev nD) (i : grid0.Coords) (a2 : Memref sig .tc .vmem S2048x1024 .bf16) (h2 : a2.IsWhole) (a3 : Memref sig .tc .vmem S2048x1024 .bf16) (h3 : a3.IsWhole)
  (a4 : Memref sig .tc .vmem S1024x1024 .bf16) (h4 : a4.IsWhole) (a5 : Memref sig .tc .vmem S1024x1024 .f32) (h5 : a5.IsWhole)
  (x : Vec Ideal S2048x1024 .bf16) (y : Vec Ideal S2048x1024 .bf16) (o : Vec Ideal S1024x1024 .f32)

theorem store_add (inb) (j : (Rect.unit (s := S1024x1024) ![0, 0] ![1024, 1024] inb).shape.Idx) :
    k0_pay2 (F := Ideal) o x y j = addTile x y o ((Rect.unit (s := S1024x1024) ![0, 0] ![1024, 1024] inb).emb j) :=
  store_tile dot_S2048x1024_S2048x1024_S1024x1024_0_0_1_1_n_n_wf x y o shapeCasts_S1024x1024_S1024x1024 inb j

theorem scratch_B (hc : ¬cond0_0 i) (hd : ¬cond0_1 i) : sout0_B_0 (F := Ideal) c i a2 h2 a3 h3 a4 h4 a5 h5 hc hd x y o = addTile x y o := by
  unfold sout0_B_0
  exact read_tiles _ _ (addTile x y o) _ (scover0_B_0 (F := Ideal) c i a2 h2 a3 h3 a4 h4 a5 h5 hc hd x y o) (by
    unfold kernelRun0_B
    dsimp only
    sl_unfold_words
    simp only [View.readAt_eq_ld, h2.read_unread, h3.read_unread, h5.read_unread, ld_full]
    exact ⟨store_add x y o inb_S1024x1024_S1024x1024_0_0, trivial⟩)

theorem scratch_C (hc : ¬cond0_0 i) (hd : cond0_1 i) : sout0_C_0 (F := Ideal) c i a2 h2 a3 h3 a4 h4 a5 h5 hc hd x y o = addTile x y o := by
  unfold sout0_C_0
  exact read_tiles _ _ (addTile x y o) _ (scover0_C_0 (F := Ideal) c i a2 h2 a3 h3 a4 h4 a5 h5 hc hd x y o) (by
    unfold kernelRun0_C
    dsimp only
    sl_unfold_words
    simp only [View.readAt_eq_ld, h2.read_unread, h3.read_unread, h5.read_unread, ld_full]
    exact ⟨store_add x y o inb_S1024x1024_S1024x1024_0_0, trivial⟩)

theorem scratch_A (hc : cond0_0 i) (hd : ¬cond0_1 i) : sout0_A_0 (F := Ideal) c i a2 h2 a3 h3 a4 h4 a5 h5 hc hd x y = addTile x y (k0_pay1 (F := Ideal)) := by
  unfold sout0_A_0 kernelRun0_A
  dsimp only
  sl_unfold_words
  have hz : ∀ a, (![0, 0] : Fin 2 → ℕ) a = 0 := by decide
  simp only [View.readAt_eq_ld, h2.read_unread, h3.read_unread, ld_full, View.readCov_fill (s := S1024x1024) _ _ _ _ _ hz]
  exact read_over (s := S1024x1024) (e := .f32) _ _ (addTile x y (k0_pay1 (F := Ideal))) _ _
    (fun j => View.cover_of_tiledL (s := S1024x1024) _ S1024x1024.size (by sl_kernel_rfl) j) ⟨store_add x y _ inb_S1024x1024_S1024x1024_0_0, trivial⟩

theorem out_C (hc : ¬cond0_0 i) (hd : cond0_1 i) : out0_C_2 (F := Ideal) c i a2 h2 a3 h3 a4 h4 a5 h5 hc hd x y o = addTile x y o := by
  unfold out0_C_2
  exact read_tiles _ _ (addTile x y o) _ (cover0_C_2 (F := Ideal) c i a2 h2 a3 h3 a4 h4 a5 h5 hc hd x y o) (by
    unfold kernelRun0_C
    dsimp only
    sl_unfold_words
    have hz : ∀ a, (![0, 0] : Fin 2 → ℕ) a = 0 := by decide
    simp only [View.readAt_eq_ld, h2.read_unread, h3.read_unread, h5.read_unread, ld_full, View.readCov_fill (s := S1024x1024) _ _ _ _ _ hz]
    exact ⟨fun j => store_add x y o inb_S1024x1024_S1024x1024_0_0 j, trivial⟩)

end Points

variable (m : (ℓ : Loc nD τ sig) → Buf (Elt Ideal) ℓ) (c : Dev nD)

/-- The normed rows and the gradients of the projection's columns. -/
abbrev argX : S8192x1024.Idx → EReal := m ((c : Thread nD τ).loc main_arg0)
abbrev argY : S8192x3072.Idx → EReal := m ((c : Thread nD τ).loc main_arg1)
abbrev argP : S1024x6144.Idx → EReal := m ((c : Thread nD τ).loc main_arg2)

theorem index : ∀ t : Fin grid0.N, (win0_0.index t 0 = t.val % 4 ∧ win0_0.index t 1 = 0) ∧ (win0_1.index t 0 = t.val % 4 ∧ win0_1.index t 1 = t.val / 4)
    ∧ (win0_2.index t 0 = 0 ∧ win0_2.index t 1 = t.val / 4 + 3) := by decide +kernel

theorem first (t : Fin cfg0.N) (h : t.val % 4 = 0) :
    (outsAt0 m c t.val t.isLt).2 = addTile (iblk m c 0 t) (iblk m c 1 t) (k0_pay1 (F := Ideal)) := by
  rw [outsAt0_A m c t h (by omega)]
  dsimp only
  rw [scratch_A]

theorem later (t : Fin cfg0.N) (h : ¬t.val % 4 = 0) : (outsAt0 m c t.val t.isLt).2
    = addTile (iblk m c 0 t) (iblk m c 1 t) (outsAt0 m c (t.val - 1) (Nat.lt_of_le_of_lt (Nat.sub_le _ _) t.isLt)).2 := by
  by_cases h1 : t.val % 4 = 3
  · rw [outsAt0_C m c t h h1]; dsimp only; rw [scratch_C]
  · rw [outsAt0_B m c t h h1]; dsimp only; rw [scratch_B]

theorem out_scratch (t : Fin cfg0.N) (h0 : ¬t.val % 4 = 0) (h1 : t.val % 4 = 3) : (outsAt0 m c t.val t.isLt).1 = (outsAt0 m c t.val t.isLt).2 := by
  rw [outsAt0_C m c t h0 h1]
  dsimp only
  rw [out_C, scratch_C]

/-- What the last tile of a column block leaves. -/
theorem out_last (t : Fin cfg0.N) (h1 : t.val % 4 = 3) (r : Fin 1024) (d : Fin 1024) (d' : Fin 3072)
    (hd : d'.val = t.val / 4 * 1024 + d.val) : (outsAt0 m c t.val t.isLt).1 (ix2 r d) = overRows (argX m c) (argY m c) r d' := by
  rw [out_scratch m c t (by omega) h1]
  refine product_block (T := 4) (B := 2048) (by decide) (argX m c) (argY m c) (fun s h => iblk m c 0 ⟨s, h⟩) (fun s h => iblk m c 1 ⟨s, h⟩)
    (fun s h => (outsAt0 m c s h).2) (k0_pay1 (F := Ideal)) (zeros_at shapeCasts_S1024x1024_S1024x1024) (fun s h h0 => first m c ⟨s, h⟩ h0) (fun s h h0 => later m c ⟨s, h⟩ h0) t.val t.isLt (by omega)
    r d r d' (fun s h e u q hq => ?_) (fun s h e u q hq => ?_)
  · obtain ⟨⟨p0, p1⟩, -, -⟩ := index ⟨s, h⟩
    unfold iblk
    rw [View.read_apply]
    refine (congrArg (V m c main_arg0) (ix2_of _ q r ?_ ?_)).trans (congrFun (V_main_arg0 m c) (ix2 q r))
    · show win0_0.index ⟨s, h⟩ 0 * 2048 + 1 * u.val = q.val; rw [p0, hq]; dsimp only; omega
    · show win0_0.index ⟨s, h⟩ 1 * 1024 + 1 * r.val = r.val; rw [p1]; omega
  · obtain ⟨-, ⟨p0, p1⟩, -⟩ := index ⟨s, h⟩
    unfold iblk
    rw [View.read_apply]
    refine (congrArg (V m c main_arg1) (ix2_of _ q d' ?_ ?_)).trans (congrFun (V_main_arg1 m c) (ix2 q d'))
    · show win0_1.index ⟨s, h⟩ 0 * 2048 + 1 * u.val = q.val; rw [p0, hq]; dsimp only; omega
    · show win0_1.index ⟨s, h⟩ 1 * 1024 + 1 * d.val = d'.val; rw [p1, hd]; dsimp only; rw [e]; omega

/-- The product of the normed rows' columns with the gradients' columns, set at their place in the projection. -/
def wAll (x : S8192x1024.Idx → EReal) (y : S8192x3072.Idx → EReal) (i : S1024x6144.Idx) : EReal := overRows (m := 1024) (n := 6144) x (placed 3072 y) (i 0) (i 1)

set_option maxRecDepth 16384 in
theorem flushed (t : Fin cfg0.N) (hf : (cfg0.win 2).flush t = true) : (dats m 0 c).flushed 2 t
    = ((cfg0.win 2).blk t).view.read (Elt Ideal) (wAll (argX m c) (argY m c)) := by
  obtain ⟨-, -, h0, h1⟩ := index t
  have ht : t.val < 12 := lt_of_lt_of_eq t.isLt N_0
  rw [flushed2]
  funext y
  obtain ⟨r, d, rfl⟩ : ∃ (r : Fin 1024) (d : Fin 1024), y = ix2 r d := ⟨y 0, y 1, eq_ix2 y⟩
  rw [View.read_apply]
  have hd := d.isLt
  refine (out_last m c t ((flush0_2 t).mp hf) r d ⟨t.val / 4 * 1024 + d.val, by omega⟩ rfl).trans (Eq.symm ?_)
  refine (congrArg (wAll (argX m c) (argY m c)) (ix2_of (M := 1024) (N := 6144) _ r ⟨3072 + (t.val / 4 * 1024 + d.val), by omega⟩ ?_ ?_)).trans ?_
  · show win0_2.index t 0 * 1024 + 1 * r.val = r.val; rw [h0]; omega
  · show win0_2.index t 1 * 1024 + 1 * d.val = 3072 + (t.val / 4 * 1024 + d.val); rw [h1]; omega
  · exact overRows_placed (NY := 3072) (NO := 6144) 3072 _ _ _ _ _ rfl

theorem mem_iff (t : Fin cfg0.N) (i : S1024x6144.Idx) : i ∈ ((cfg0.win 2).blk t).view.set
    ↔ 3072 + t.val / 4 * 1024 ≤ (i 1).val ∧ (i 1).val < 3072 + t.val / 4 * 1024 + 1024 := by
  obtain ⟨-, -, h0, h1⟩ := index t
  have e1 : win0_2.index t 1 * 1024 = 3072 + t.val / 4 * 1024 := by rw [h1]; omega
  show i ∈ ((View.whole main_v0).slice (win0_2.rect t)).set ↔ _
  rw [View.set_slice_whole]
  refine (mem_block (M := 1024) (N := 6144) (m := 1024) (n := 1024) _ _ i).trans ?_
  show (win0_2.index t 0 * 1024 ≤ _ ∧ _ < win0_2.index t 0 * 1024 + _) ∧ win0_2.index t 1 * 1024 ≤ _ ∧ _ < win0_2.index t 1 * 1024 + _ ↔ _
  rw [h0, e1]
  exact and_iff_right ⟨by omega, by have : (i 0).val < 1024 := (i 0).isLt; omega⟩

theorem final_at (i : S1024x6144.Idx) (hi : 3072 ≤ (i 1).val) : (dats m 0 c).arrAt 2 cfg0.N i = wAll (argX m c) (argY m c) i := by
  have i1 : (i 1).val < 6144 := (i 1).isLt
  have hN : cfg0.N = 12 := N_0
  let t : Fin cfg0.N := ⟨((i 1).val - 3072) / 1024 * 4 + 3, by omega⟩
  have ht : t.val = ((i 1).val - 3072) / 1024 * 4 + 3 := rfl
  exact (dats m 0 c).arrAt_apply_of_mem 2 (wAll (argX m c) (argY m c)) (flushed m c) cfg0.N t i t.isLt ((flush0_2 t).mpr (by omega))
    ((mem_iff t i).2 (by omega))

theorem copied : V m c main_v0 = m ((c : Thread nD τ).loc main_arg2) := by
  show StableHlo.after hostOps0 _ _ = _
  after_results
  rfl

theorem final_else (i : S1024x6144.Idx) (hi : ¬(3072 ≤ (i 1).val)) : (dats m 0 c).arrAt 2 cfg0.N i = argP m c i := by
  refine (entry2 m c i fun t hf hm => hi ?_).trans (congrFun (copied m c) i)
  have ht : t.val < 12 := lt_of_lt_of_eq t.isLt N_0
  have h := (mem_iff t i).1 hm
  omega

end Cert.Kernel16Ideal.In

end

end
-- ==== Proof.BranchTile.lean ====
/-
  The gradient of a mixer branch's output projection: what its kernel leaves, as the sum over all 8192 tokens gathered in four tiles.
-/
module

public import proofs.«01_k».proof.Proof.WeightTile
public import proofs.«01_k».proof.Proof.Gen.Kernel17Ideal.Value
public import Idealize.ShloMosaic.Lib.Tactic

@[expose] public section

noncomputable section

namespace Cert.Kernel17Ideal.Branch

open Cert.Kernel17Ideal Cert.Kernel17Ideal.Gen Cert.Kernel17Ideal.Value Idealize.ShloMosaic Idealize.ShloMosaic.ValueIdx Idealize.ShloMosaic.TcCoe Idealize.SL.Sem
  Cert.Words Cert.Products Cert.Gather
open Idealize.ShloMosaic.Pipeline (Dat)

section Points

variable (c : Dev nD) (i : grid0.Coords) (a2 : Memref sig .tc .vmem S2048x512 .bf16) (h2 : a2.IsWhole) (a3 : Memref sig .tc .vmem S2048x1024 .bf16) (h3 : a3.IsWhole)
  (a4 : Memref sig .tc .vmem S512x1024 .bf16) (h4 : a4.IsWhole) (a5 : Memref sig .tc .vmem S512x1024 .f32) (h5 : a5.IsWhole)
  (x : Vec Ideal S2048x512 .bf16) (y : Vec Ideal S2048x1024 .bf16) (o : Vec Ideal S512x1024 .f32)

theorem zero_at (i : S512x1024.Idx) : k0_pay1 (F := Ideal) i = 0 := zeros_at shapeCasts_S512x1024_S512x1024 i

theorem store_add (inb) (j : (Rect.unit (s := S512x1024) ![0, 0] ![512, 1024] inb).shape.Idx) :
    k0_pay2 (F := Ideal) o x y j = addTile x y o ((Rect.unit (s := S512x1024) ![0, 0] ![512, 1024] inb).emb j) :=
  store_tile dot_S2048x512_S2048x1024_S512x1024_0_0_1_1_n_n_wf x y o shapeCasts_S512x1024_S512x1024 inb j

theorem scratch_B (hc : ¬cond0_0 i) (hd : ¬cond0_1 i) : sout0_B_0 (F := Ideal) c i a2 h2 a3 h3 a4 h4 a5 h5 hc hd x y o = addTile x y o := by
  unfold sout0_B_0
  exact read_tiles _ _ (addTile x y o) _ (scover0_B_0 (F := Ideal) c i a2 h2 a3 h3 a4 h4 a5 h5 hc hd x y o) (by
    unfold kernelRun0_B
    dsimp only
    sl_unfold_words
    simp only [View.readAt_eq_ld, h2.read_unread, h3.read_unread, h5.read_unread, ld_full]
    exact ⟨store_add x y o inb_S512x1024_S512x1024_0_0, trivial⟩)

theorem scratch_C (hc : ¬cond0_0 i) (hd : cond0_1 i) : sout0_C_0 (F := Ideal) c i a2 h2 a3 h3 a4 h4 a5 h5 hc hd x y o = addTile x y o := by
  unfold sout0_C_0
  exact read_tiles _ _ (addTile x y o) _ (scover0_C_0 (F := Ideal) c i a2 h2 a3 h3 a4 h4 a5 h5 hc hd x y o) (by
    unfold kernelRun0_C
    dsimp only
    sl_unfold_words
    simp only [View.readAt_eq_ld, h2.read_unread, h3.read_unread, h5.read_unread, ld_full]
    exact ⟨store_add x y o inb_S512x1024_S512x1024_0_0, trivial⟩)

theorem scratch_A (hc : cond0_0 i) (hd : ¬cond0_1 i) : sout0_A_0 (F := Ideal) c i a2 h2 a3 h3 a4 h4 a5 h5 hc hd x y = addTile x y (k0_pay1 (F := Ideal)) := by
  unfold sout0_A_0 kernelRun0_A
  dsimp only
  sl_unfold_words
  have hz : ∀ a, (![0, 0] : Fin 2 → ℕ) a = 0 := by decide
  simp only [View.readAt_eq_ld, h2.read_unread, h3.read_unread, ld_full, View.readCov_fill (s := S512x1024) _ _ _ _ _ hz]
  exact read_over (s := S512x1024) (e := .f32) _ _ (addTile x y (k0_pay1 (F := Ideal))) _ _
    (fun j => View.cover_of_tiledL (s := S512x1024) _ S512x1024.size (by sl_kernel_rfl) j) ⟨store_add x y _ inb_S512x1024_S512x1024_0_0, trivial⟩

theorem out_C (hc : ¬cond0_0 i) (hd : cond0_1 i) : out0_C_2 (F := Ideal) c i a2 h2 a3 h3 a4 h4 a5 h5 hc hd x y o = addTile x y o := by
  unfold out0_C_2
  exact read_tiles _ _ (addTile x y o) _ (cover0_C_2 (F := Ideal) c i a2 h2 a3 h3 a4 h4 a5 h5 hc hd x y o) (by
    unfold kernelRun0_C
    dsimp only
    sl_unfold_words
    have hz : ∀ a, (![0, 0] : Fin 2 → ℕ) a = 0 := by decide
    simp only [View.readAt_eq_ld, h2.read_unread, h3.read_unread, h5.read_unread, ld_full, View.readCov_fill (s := S512x1024) _ _ _ _ _ hz]
    exact ⟨fun j => store_add x y o inb_S512x1024_S512x1024_0_0 j, trivial⟩)

end Points

variable (m : (ℓ : Loc nD τ sig) → Buf (Elt Ideal) ℓ) (c : Dev nD)

/-- A branch's inner rows and the gradients of its output rows. -/
abbrev argX : S8192x512.Idx → EReal := m ((c : Thread nD τ).loc main_arg0)
abbrev argY : S8192x1024.Idx → EReal := m ((c : Thread nD τ).loc main_arg1)

theorem index : ∀ t : Fin grid0.N, (win0_0.index t 0 = t.val % 4 ∧ win0_0.index t 1 = 0) ∧ (win0_1.index t 0 = t.val % 4 ∧ win0_1.index t 1 = t.val / 4)
    ∧ (win0_2.index t 0 = 0 ∧ win0_2.index t 1 = t.val / 4) := by decide +kernel

theorem first (t : Fin cfg0.N) (h : t.val % 4 = 0) :
    (outsAt0 m c t.val t.isLt).2 = addTile (iblk m c 0 t) (iblk m c 1 t) (k0_pay1 (F := Ideal)) := by
  rw [outsAt0_A m c t h (by omega)]
  dsimp only
  rw [scratch_A]

theorem later (t : Fin cfg0.N) (h : ¬t.val % 4 = 0) : (outsAt0 m c t.val t.isLt).2
    = addTile (iblk m c 0 t) (iblk m c 1 t) (outsAt0 m c (t.val - 1) (Nat.lt_of_le_of_lt (Nat.sub_le _ _) t.isLt)).2 := by
  by_cases h1 : t.val % 4 = 3
  · rw [outsAt0_C m c t h h1]; dsimp only; rw [scratch_C]
  · rw [outsAt0_B m c t h h1]; dsimp only; rw [scratch_B]

theorem out_scratch (t : Fin cfg0.N) (h0 : ¬t.val % 4 = 0) (h1 : t.val % 4 = 3) : (outsAt0 m c t.val t.isLt).1 = (outsAt0 m c t.val t.isLt).2 := by
  rw [outsAt0_C m c t h0 h1]
  dsimp only
  rw [out_C, scratch_C]

/-- What the last tile of a column block leaves. -/
theorem out_last (t : Fin cfg0.N) (h1 : t.val % 4 = 3) (r : Fin 512) (d : Fin 1024) (r' : Fin 512) (d' : Fin 1024) (hr : r'.val = 0 * 512 + r.val)
    (hd : d'.val = t.val / 4 * 1024 + d.val) : (outsAt0 m c t.val t.isLt).1 (ix2 r d) = overRows (argX m c) (argY m c) r' d' := by
  rw [out_scratch m c t (by omega) h1]
  refine product_block (T := 4) (B := 2048) (by decide) (argX m c) (argY m c) (fun s h => iblk m c 0 ⟨s, h⟩) (fun s h => iblk m c 1 ⟨s, h⟩)
    (fun s h => (outsAt0 m c s h).2) (k0_pay1 (F := Ideal)) zero_at (fun s h h0 => first m c ⟨s, h⟩ h0) (fun s h h0 => later m c ⟨s, h⟩ h0) t.val t.isLt (by omega)
    r d r' d' (fun s h e u q hq => ?_) (fun s h e u q hq => ?_)
  · obtain ⟨⟨p0, p1⟩, -, -⟩ := index ⟨s, h⟩
    unfold iblk
    rw [View.read_apply]
    refine congrArg (V m c main_arg0) (ix2_of _ q r' ?_ ?_)
    · show win0_0.index ⟨s, h⟩ 0 * 2048 + 1 * u.val = q.val; rw [p0, hq]; dsimp only; omega
    · show win0_0.index ⟨s, h⟩ 1 * 512 + 1 * r.val = r'.val; rw [p1, hr]; omega
  · obtain ⟨-, ⟨p0, p1⟩, -⟩ := index ⟨s, h⟩
    unfold iblk
    rw [View.read_apply]
    refine congrArg (V m c main_arg1) (ix2_of _ q d' ?_ ?_)
    · show win0_1.index ⟨s, h⟩ 0 * 2048 + 1 * u.val = q.val; rw [p0, hq]; dsimp only; omega
    · show win0_1.index ⟨s, h⟩ 1 * 1024 + 1 * d.val = d'.val; rw [p1, hd]; dsimp only; rw [e]; omega

/-- The product of the inner rows' columns with the gradients' columns. -/
def wAll (x : S8192x512.Idx → EReal) (y : S8192x1024.Idx → EReal) (i : S512x1024.Idx) : EReal := overRows (m := 512) (n := 1024) x y (i 0) (i 1)

set_option maxRecDepth 16384 in
theorem flushed (t : Fin cfg0.N) (hf : (cfg0.win 2).flush t = true) : (dats m 0 c).flushed 2 t
    = ((cfg0.win 2).blk t).view.read (Elt Ideal) (wAll (argX m c) (argY m c)) := by
  obtain ⟨-, -, h0, h1⟩ := index t
  have ht : t.val < 4 := lt_of_lt_of_eq t.isLt N_0
  rw [flushed2]
  funext y
  obtain ⟨r, d, rfl⟩ : ∃ (r : Fin 512) (d : Fin 1024), y = ix2 r d := ⟨y 0, y 1, eq_ix2 y⟩
  rw [View.read_apply]
  have hr := r.isLt
  have hd := d.isLt
  refine (out_last m c t ((flush0_2 t).mp hf) r d ⟨0 * 512 + r.val, by omega⟩ ⟨t.val / 4 * 1024 + d.val, by omega⟩ rfl rfl).trans (Eq.symm ?_)
  refine (congrArg (wAll (argX m c) (argY m c)) (ix2_of (M := 512) (N := 1024) _ ⟨0 * 512 + r.val, by omega⟩ ⟨0 + (t.val / 4 * 1024 + d.val), by omega⟩ ?_ ?_)).trans ?_
  · show win0_2.index t 0 * 512 + 1 * r.val = 0 * 512 + r.val; rw [h0]; omega
  · show win0_2.index t 1 * 1024 + 1 * d.val = 0 + (t.val / 4 * 1024 + d.val); rw [h1]; omega
  · exact congrArg (overRows _ _ _) (Fin.ext (Nat.zero_add _))

theorem mem_iff (t : Fin cfg0.N) (i : S512x1024.Idx) : i ∈ ((cfg0.win 2).blk t).view.set
    ↔ (0 * 512 ≤ (i 0).val ∧ (i 0).val < 0 * 512 + 512) ∧ 0 + t.val / 4 * 1024 ≤ (i 1).val ∧ (i 1).val < 0 + t.val / 4 * 1024 + 1024 := by
  obtain ⟨-, -, h0, h1⟩ := index t
  have e0 : win0_2.index t 0 * 512 = 0 * 512 := by rw [h0]
  have e1 : win0_2.index t 1 * 1024 = 0 + t.val / 4 * 1024 := by rw [h1]; omega
  show i ∈ ((View.whole main_v0).slice (win0_2.rect t)).set ↔ _
  rw [View.set_slice_whole]
  refine (mem_block (M := 512) (N := 1024) (m := 512) (n := 1024) _ _ i).trans ?_
  show (win0_2.index t 0 * 512 ≤ _ ∧ _ < win0_2.index t 0 * 512 + _) ∧ win0_2.index t 1 * 1024 ≤ _ ∧ _ < win0_2.index t 1 * 1024 + _ ↔ _
  rw [e0, e1]

theorem final_at (i : S512x1024.Idx) (hi : (i 1).val < 1024) : (dats m 0 c).arrAt 2 cfg0.N i = wAll (argX m c) (argY m c) i := by
  have i0 : (i 0).val < 512 := (i 0).isLt
  have i1 : (i 1).val < 1024 := (i 1).isLt
  have hN : cfg0.N = 4 := N_0
  let t : Fin cfg0.N := ⟨((i 1).val - 0) / 1024 * 4 + 3, by omega⟩
  have ht : t.val = ((i 1).val - 0) / 1024 * 4 + 3 := rfl
  exact (dats m 0 c).arrAt_apply_of_mem 2 (wAll (argX m c) (argY m c)) (flushed m c) cfg0.N t i t.isLt ((flush0_2 t).mpr (by omega))
    ((mem_iff t i).2 (by omega))

end Cert.Kernel17Ideal.Branch

end

end
-- ==== Proof.ProjClaims.lean ====
/-
  The claims about the gradients of the second half-step's first weight matrix, of the mixer's input projection and of its branches' output
  projections: from any arguments the kernel and the reference end with the same result, the first two on the part the kernel writes.
-/
module

public import proofs.«01_k».proof.Defs
public import proofs.«01_k».proof.Proof.HalfTile
public import proofs.«01_k».proof.Proof.InTile
public import proofs.«01_k».proof.Proof.BranchTile
public import proofs.«01_k».proof.Proof.Gen.Reference11Ideal.Read
public import proofs.«01_k».proof.Proof.Gen.Reference11Ideal.Run
public import proofs.«01_k».proof.Proof.Gen.Reference12Ideal.Read
public import proofs.«01_k».proof.Proof.Gen.Reference12Ideal.Run
public import proofs.«01_k».proof.Proof.Gen.Reference13Ideal.Read
public import proofs.«01_k».proof.Proof.Gen.Reference13Ideal.Run
public import proofs.«01_k».proof.Proof.Gen.Reference14Ideal.Read
public import proofs.«01_k».proof.Proof.Gen.Reference14Ideal.Run
public import proofs.«01_k».proof.Proof.Gen.Reference15Ideal.Read
public import proofs.«01_k».proof.Proof.Gen.Reference15Ideal.Run
public import proofs.«01_k».proof.Proof.Gen.Reference16Ideal.Read
public import proofs.«01_k».proof.Proof.Gen.Reference16Ideal.Run
public import proofs.«01_k».proof.Proof.Gen.Reference17Ideal.Read
public import proofs.«01_k».proof.Proof.Gen.Reference17Ideal.Run
public import Idealize.ShloMosaic.Adequacy
public import Idealize.ShloMosaic.Init

@[expose] public section

noncomputable section

namespace Cert.ProjClaims

open Idealize.ShloMosaic Idealize.ShloMosaic.ValueIdx
open Cert.Products (Mat)

/-- A selector's bit that compares a position with a bound. -/
theorem lt_of_bit (n b : ℕ) (hn : n < 10000) (hb : b < 10000) (h : BitVec.ofBool ((BitVec.ofNat 32 n).slt (BitVec.ofNat 32 b)) = 1#1) : n < b := by
  have e : (BitVec.ofNat 32 n).slt (BitVec.ofNat 32 b) = true := by
    cases hs : (BitVec.ofNat 32 n).slt (BitVec.ofNat 32 b) with
    | true => rfl
    | false => rw [hs] at h; exact absurd h (by decide)
  rw [BitVec.slt_iff_toInt_lt, BitVec.toInt_ofNat', BitVec.toInt_ofNat'] at e
  rw [Int.bmod_eq_of_le (by omega) (by omega), Int.bmod_eq_of_le (by omega) (by omega)] at e
  omega

/-- Two arrays joined along their columns, at a column of one of them; and three. -/
theorem join_cols {M N : ℕ} (xs : List ((s : Shape) × (s.Idx → EReal))) (h : Shape.Concatenates (xs.map (·.1)) (Mat M N) 1) (r : Fin M) (j : Fin N)
    (p : ℕ) (hp : p < xs.length) (n : ℕ) (x : (Mat M n).Idx → EReal) (hx : xs[p] = ⟨Mat M n, x⟩) (o : ℕ)
    (ho : (((xs.take p).map (·.1)).map fun s => if h : s.rank = (Mat M N).rank then s.size ((1 : Fin (Mat M N).rank).cast h.symm) else 0).sum = o)
    (k : Fin n) (hj : o + k.val = j.val) : concatenate (Mat M N) 1 xs h (ix2 r j) = x (ix2 r k) :=
  concatenate_apply_piece (t := Mat M N) 1 xs h (ix2 r j) p hp (Mat M n) x hx rfl o ho (ix2 r k) (fun b hb => match b with
    | ⟨0, _⟩ => rfl
    | ⟨1, _⟩ => absurd rfl hb) hj

end Cert.ProjClaims

namespace Cert.Reference11Ideal.Read

open Cert.Reference11Ideal Cert.Reference11Ideal.Gen Idealize.ShloMosaic Idealize.ShloMosaic.ValueIdx Cert.Products Cert.Gather

/-- The transposed derivative of the product along its second factor. -/
theorem half_ref (x : S8192x5632.Idx → EReal) (y : S8192x1024.Idx → EReal) : val_main_v7 (F := Ideal) x y = Cert.Kernel11Ideal.Half.wAll x y := by
  funext i
  show val_main_v6 (F := Ideal) x y i = _
  rw [val_main_v6_apply, val_main_v5_apply, val_main_v4_apply]
  unfold Cert.Kernel11Ideal.Half.wAll overRows
  exact Finset.sum_congr rfl fun k _ => congrArg₂ (· * ·) (congrArg x (ix2_of _ _ _ rfl rfl)) (congrArg y (ix2_of _ _ _ rfl rfl))

end Cert.Reference11Ideal.Read

namespace Cert.Reference12Ideal.Read

open Cert.Reference12Ideal Cert.Reference12Ideal.Gen Idealize.ShloMosaic Idealize.ShloMosaic.ValueIdx Cert.Products Cert.Gather

/-- The last 2816 rows of the transposed derivative under the first rows of what came before. -/
theorem half_low (x : S8192x5632.Idx → EReal) (y : S8192x1024.Idx → EReal) (p : S5632x1024.Idx → EReal) (i : S5632x1024.Idx) (hi : 2816 ≤ (i 0).val) :
    val_main_v10 (F := Ideal) x y p i = Cert.Kernel12Ideal.Half.wAll x y i := by
  have i0 : (i 0).val < 5632 := (i 0).isLt
  refine (concatenate_apply_piece (t := S5632x1024) 0 [⟨S2816x1024, val_main_v8 (F := Ideal) p⟩, ⟨S2816x1024, val_main_v9 (F := Ideal) x y⟩]
    concatenates_S2816x1024_S2816x1024_S5632x1024_d0 i 1 (Nat.lt_of_lt_of_eq (by decide : 1 < 2) rfl) S2816x1024 (val_main_v9 (F := Ideal) x y) rfl rfl 2816 rfl
    (ix2 (⟨(i 0).val - 2816, by omega⟩ : Fin 2816) (i 1)) (fun b hb => match b with
      | ⟨0, _⟩ => absurd rfl hb
      | ⟨1, _⟩ => rfl) (by show 2816 + ((i 0).val - 2816) = (i 0).val; omega)).trans ?_
  rw [val_main_v9_apply]
  refine (congrArg (val_main_v7 (F := Ideal) x y) (show _ = i from funext fun a => Fin.ext (match a with
    | ⟨0, _⟩ => by show 2816 + ((i 0).val - 2816) = (i 0).val; omega
    | ⟨1, _⟩ => by show (i 1).val = (i 1).val; rfl))).trans ?_
  exact congrFun (Cert.Reference11Ideal.Read.half_ref x y) i

theorem half_top (x : S8192x5632.Idx → EReal) (y : S8192x1024.Idx → EReal) (p : S5632x1024.Idx → EReal) (i : S5632x1024.Idx) (hi : ¬2816 ≤ (i 0).val) :
    val_main_v10 (F := Ideal) x y p i = p i := by
  refine (concatenate_apply_piece (t := S5632x1024) 0 [⟨S2816x1024, val_main_v8 (F := Ideal) p⟩, ⟨S2816x1024, val_main_v9 (F := Ideal) x y⟩]
    concatenates_S2816x1024_S2816x1024_S5632x1024_d0 i 0 (Nat.lt_of_lt_of_eq (by decide : 0 < 2) rfl) S2816x1024 (val_main_v8 (F := Ideal) p) rfl rfl 0 rfl
    (ix2 (⟨(i 0).val, by omega⟩ : Fin 2816) (i 1)) (fun b hb => match b with
      | ⟨0, _⟩ => absurd rfl hb
      | ⟨1, _⟩ => rfl) (Nat.zero_add _)).trans ?_
  rw [val_main_v8_apply]
  exact congrArg p (funext fun a => Fin.ext (match a with
    | ⟨0, _⟩ => rfl
    | ⟨1, _⟩ => rfl))

end Cert.Reference12Ideal.Read

namespace Cert.Reference13Ideal.Read

open Cert.Reference13Ideal Cert.Reference13Ideal.Gen Idealize.ShloMosaic Idealize.ShloMosaic.ValueIdx Cert.Products Cert.Gather

/-- The derivative of the product along its second factor. -/
theorem product_ref (x : S8192x1024.Idx → EReal) (y : S8192x1024.Idx → EReal) (r : Fin 1024) (d : Fin 1024) :
    val_main_v6 (F := Ideal) x y (ix2 r d) = overRows (m := 1024) (n := 1024) x y r d := by
  show val_main_v5 (F := Ideal) x y (ix2 r d) = _
  rw [val_main_v5_apply, val_main_v4_apply]
  unfold overRows
  exact Finset.sum_congr rfl fun k _ => (mul_comm _ _).trans (congrArg₂ (· * ·) (congrArg x (ix2_of _ _ _ rfl rfl)) (congrArg y (ix2_of _ _ _ rfl rfl)))

/-- At the columns the projection's part takes. -/
theorem in_new (x : S8192x1024.Idx → EReal) (y : S8192x1024.Idx → EReal) (i : S1024x6144.Idx) (hi : (i 1).val < 1024) :
    val_main_v8 (F := Ideal) x y i = Cert.Kernel13Ideal.In.wAll x y i := by
  obtain ⟨r, j, rfl⟩ : ∃ (r : Fin 1024) (j : Fin 6144), i = ix2 r j := ⟨i 0, i 1, eq_ix2 i⟩
  have hj := j.isLt
  have hk : j.val < 1024 := hi
  refine (Cert.ProjClaims.join_cols (M := 1024) (N := 6144) [⟨S1024x1024, val_main_v6 (F := Ideal) x y⟩, ⟨S1024x5120, val_main_v7 (F := Ideal)⟩] concatenates_S1024x1024_S1024x5120_S1024x6144_d1 r j 0
      (Nat.lt_of_lt_of_eq (by decide : 0 < 2) rfl) 1024 (val_main_v6 (F := Ideal) x y) rfl 0 rfl ⟨j.val - 0, by omega⟩ (by show 0 + (j.val - 0) = j.val; omega)).trans ?_
  rw [product_ref]
  exact (overRows_placed (NY := 1024) (NO := 6144) 0 x y r ⟨j.val - 0, by omega⟩ j (by show j.val = 0 + (j.val - 0); omega)).symm

end Cert.Reference13Ideal.Read

namespace Cert.Reference14Ideal.Read

open Cert.Reference14Ideal Cert.Reference14Ideal.Gen Idealize.ShloMosaic Idealize.ShloMosaic.ValueIdx Cert.Products Cert.Gather

/-- The derivative of the product along its second factor. -/
theorem product_ref (x : S8192x1024.Idx → EReal) (y : S8192x1536.Idx → EReal) (r : Fin 1024) (d : Fin 1536) :
    val_main_v6 (F := Ideal) x y (ix2 r d) = overRows (m := 1024) (n := 1536) x y r d := by
  show val_main_v5 (F := Ideal) x y (ix2 r d) = _
  rw [val_main_v5_apply, val_main_v4_apply]
  unfold overRows
  exact Finset.sum_congr rfl fun k _ => (mul_comm _ _).trans (congrArg₂ (· * ·) (congrArg x (ix2_of _ _ _ rfl rfl)) (congrArg y (ix2_of _ _ _ rfl rfl)))

/-- At the columns the projection's part takes. -/
theorem in_new (x : S8192x1024.Idx → EReal) (y : S8192x1536.Idx → EReal) (p : S1024x6144.Idx → EReal) (i : S1024x6144.Idx) (hi : 1024 ≤ (i 1).val ∧ (i 1).val < 2560) :
    val_main_v9 (F := Ideal) x y p i = Cert.Kernel14Ideal.In.wAll x y i := by
  obtain ⟨r, j, rfl⟩ : ∃ (r : Fin 1024) (j : Fin 6144), i = ix2 r j := ⟨i 0, i 1, eq_ix2 i⟩
  have hj := j.isLt
  have hk : 1024 ≤ j.val ∧ j.val < 2560 := hi
  refine (Cert.ProjClaims.join_cols (M := 1024) (N := 6144) [⟨S1024x1024, val_main_v7 (F := Ideal) p⟩, ⟨S1024x1536, val_main_v6 (F := Ideal) x y⟩, ⟨S1024x3584, val_main_v8 (F := Ideal) p⟩] concatenates_S1024x1024_S1024x1536_S1024x3584_S1024x6144_d1 r j 1
      (Nat.lt_of_lt_of_eq (by decide : 1 < 3) rfl) 1536 (val_main_v6 (F := Ideal) x y) rfl 1024 rfl ⟨j.val - 1024, by omega⟩ (by show 1024 + (j.val - 1024) = j.val; omega)).trans ?_
  rw [product_ref]
  exact (overRows_placed (NY := 1536) (NO := 6144) 1024 x y r ⟨j.val - 1024, by omega⟩ j (by show j.val = 1024 + (j.val - 1024); omega)).symm

/-- At the other columns. -/
theorem in_old (x : S8192x1024.Idx → EReal) (y : S8192x1536.Idx → EReal) (p : S1024x6144.Idx → EReal) (i : S1024x6144.Idx) (hi : ¬(1024 ≤ (i 1).val ∧ (i 1).val < 2560)) : val_main_v9 (F := Ideal) x y p i = p i := by
  obtain ⟨r, j, rfl⟩ : ∃ (r : Fin 1024) (j : Fin 6144), i = ix2 r j := ⟨i 0, i 1, eq_ix2 i⟩
  have hj := j.isLt
  have hk : ¬(1024 ≤ j.val ∧ j.val < 2560) := hi
  by_cases hl : j.val < 1024
  · refine (Cert.ProjClaims.join_cols (M := 1024) (N := 6144) [⟨S1024x1024, val_main_v7 (F := Ideal) p⟩, ⟨S1024x1536, val_main_v6 (F := Ideal) x y⟩, ⟨S1024x3584, val_main_v8 (F := Ideal) p⟩] concatenates_S1024x1024_S1024x1536_S1024x3584_S1024x6144_d1 r j 0
      (Nat.lt_of_lt_of_eq (by decide : 0 < 3) rfl) 1024 (val_main_v7 (F := Ideal) p) rfl 0 rfl ⟨j.val - 0, by omega⟩ (by show 0 + (j.val - 0) = j.val; omega)).trans ?_
    rw [val_main_v7_apply]
    exact congrArg p (ix2_of _ _ _ rfl rfl)
  · refine (Cert.ProjClaims.join_cols (M := 1024) (N := 6144) [⟨S1024x1024, val_main_v7 (F := Ideal) p⟩, ⟨S1024x1536, val_main_v6 (F := Ideal) x y⟩, ⟨S1024x3584, val_main_v8 (F := Ideal) p⟩] concatenates_S1024x1024_S1024x1536_S1024x3584_S1024x6144_d1 r j 2
      (Nat.lt_of_lt_of_eq (by decide : 2 < 3) rfl) 3584 (val_main_v8 (F := Ideal) p) rfl 2560 rfl ⟨j.val - 2560, by omega⟩ (by show 2560 + (j.val - 2560) = j.val; omega)).trans ?_
    rw [val_main_v8_apply]
    exact congrArg p (ix2_of _ _ _ rfl (by show 2560 + (j.val - 2560) = j.val; omega))

end Cert.Reference14Ideal.Read

namespace Cert.Reference15Ideal.Read

open Cert.Reference15Ideal Cert.Reference15Ideal.Gen Idealize.ShloMosaic Idealize.ShloMosaic.ValueIdx Cert.Products Cert.Gather

/-- The derivative of the product along its second factor. -/
theorem product_ref (x : S8192x1024.Idx → EReal) (y : S8192x512.Idx → EReal) (r : Fin 1024) (d : Fin 512) :
    val_main_v6 (F := Ideal) x y (ix2 r d) = overRows (m := 1024) (n := 512) x y r d := by
  show val_main_v5 (F := Ideal) x y (ix2 r d) = _
  rw [val_main_v5_apply, val_main_v4_apply]
  unfold overRows
  exact Finset.sum_congr rfl fun k _ => (mul_comm _ _).trans (congrArg₂ (· * ·) (congrArg x (ix2_of _ _ _ rfl rfl)) (congrArg y (ix2_of _ _ _ rfl rfl)))

/-- At the columns the projection's part takes. -/
theorem in_new (x : S8192x1024.Idx → EReal) (y : S8192x512.Idx → EReal) (p : S1024x6144.Idx → EReal) (i : S1024x6144.Idx) (hi : 2560 ≤ (i 1).val ∧ (i 1).val < 3072) :
    val_main_v9 (F := Ideal) x y p i = Cert.Kernel15Ideal.In.wAll x y i := by
  obtain ⟨r, j, rfl⟩ : ∃ (r : Fin 1024) (j : Fin 6144), i = ix2 r j := ⟨i 0, i 1, eq_ix2 i⟩
  have hj := j.isLt
  have hk : 2560 ≤ j.val ∧ j.val < 3072 := hi
  refine (Cert.ProjClaims.join_cols (M := 1024) (N := 6144) [⟨S1024x2560, val_main_v7 (F := Ideal) p⟩, ⟨S1024x512, val_main_v6 (F := Ideal) x y⟩, ⟨S1024x3072, val_main_v8 (F := Ideal) p⟩] concatenates_S1024x2560_S1024x512_S1024x3072_S1024x6144_d1 r j 1
      (Nat.lt_of_lt_of_eq (by decide : 1 < 3) rfl) 512 (val_main_v6 (F := Ideal) x y) rfl 2560 rfl ⟨j.val - 2560, by omega⟩ (by show 2560 + (j.val - 2560) = j.val; omega)).trans ?_
  rw [product_ref]
  exact (overRows_placed (NY := 512) (NO := 6144) 2560 x y r ⟨j.val - 2560, by omega⟩ j (by show j.val = 2560 + (j.val - 2560); omega)).symm

/-- At the other columns. -/
theorem in_old (x : S8192x1024.Idx → EReal) (y : S8192x512.Idx → EReal) (p : S1024x6144.Idx → EReal) (i : S1024x6144.Idx) (hi : ¬(2560 ≤ (i 1).val ∧ (i 1).val < 3072)) : val_main_v9 (F := Ideal) x y p i = p i := by
  obtain ⟨r, j, rfl⟩ : ∃ (r : Fin 1024) (j : Fin 6144), i = ix2 r j := ⟨i 0, i 1, eq_ix2 i⟩
  have hj := j.isLt
  have hk : ¬(2560 ≤ j.val ∧ j.val < 3072) := hi
  by_cases hl : j.val < 2560
  · refine (Cert.ProjClaims.join_cols (M := 1024) (N := 6144) [⟨S1024x2560, val_main_v7 (F := Ideal) p⟩, ⟨S1024x512, val_main_v6 (F := Ideal) x y⟩, ⟨S1024x3072, val_main_v8 (F := Ideal) p⟩] concatenates_S1024x2560_S1024x512_S1024x3072_S1024x6144_d1 r j 0
      (Nat.lt_of_lt_of_eq (by decide : 0 < 3) rfl) 2560 (val_main_v7 (F := Ideal) p) rfl 0 rfl ⟨j.val - 0, by omega⟩ (by show 0 + (j.val - 0) = j.val; omega)).trans ?_
    rw [val_main_v7_apply]
    exact congrArg p (ix2_of _ _ _ rfl rfl)
  · refine (Cert.ProjClaims.join_cols (M := 1024) (N := 6144) [⟨S1024x2560, val_main_v7 (F := Ideal) p⟩, ⟨S1024x512, val_main_v6 (F := Ideal) x y⟩, ⟨S1024x3072, val_main_v8 (F := Ideal) p⟩] concatenates_S1024x2560_S1024x512_S1024x3072_S1024x6144_d1 r j 2
      (Nat.lt_of_lt_of_eq (by decide : 2 < 3) rfl) 3072 (val_main_v8 (F := Ideal) p) rfl 3072 rfl ⟨j.val - 3072, by omega⟩ (by show 3072 + (j.val - 3072) = j.val; omega)).trans ?_
    rw [val_main_v8_apply]
    exact congrArg p (ix2_of _ _ _ rfl (by show 3072 + (j.val - 3072) = j.val; omega))

end Cert.Reference15Ideal.Read

namespace Cert.Reference16Ideal.Read

open Cert.Reference16Ideal Cert.Reference16Ideal.Gen Idealize.ShloMosaic Idealize.ShloMosaic.ValueIdx Cert.Products Cert.Gather

/-- The derivative of the product along its second factor. -/
theorem product_ref (x : S8192x1024.Idx → EReal) (y : S8192x3072.Idx → EReal) (r : Fin 1024) (d : Fin 3072) :
    val_main_v6 (F := Ideal) x y (ix2 r d) = overRows (m := 1024) (n := 3072) x y r d := by
  show val_main_v5 (F := Ideal) x y (ix2 r d) = _
  rw [val_main_v5_apply, val_main_v4_apply]
  unfold overRows
  exact Finset.sum_congr rfl fun k _ => (mul_comm _ _).trans (congrArg₂ (· * ·) (congrArg x (ix2_of _ _ _ rfl rfl)) (congrArg y (ix2_of _ _ _ rfl rfl)))

/-- At the columns the projection's part takes. -/
theorem in_new (x : S8192x1024.Idx → EReal) (y : S8192x3072.Idx → EReal) (p : S1024x6144.Idx → EReal) (i : S1024x6144.Idx) (hi : 3072 ≤ (i 1).val) :
    val_main_v8 (F := Ideal) x y p i = Cert.Kernel16Ideal.In.wAll x y i := by
  obtain ⟨r, j, rfl⟩ : ∃ (r : Fin 1024) (j : Fin 6144), i = ix2 r j := ⟨i 0, i 1, eq_ix2 i⟩
  have hj := j.isLt
  have hk : 3072 ≤ j.val := hi
  refine (Cert.ProjClaims.join_cols (M := 1024) (N := 6144) [⟨S1024x3072, val_main_v7 (F := Ideal) p⟩, ⟨S1024x3072, val_main_v6 (F := Ideal) x y⟩] concatenates_S1024x3072_S1024x3072_S1024x6144_d1 r j 1
      (Nat.lt_of_lt_of_eq (by decide : 1 < 2) rfl) 3072 (val_main_v6 (F := Ideal) x y) rfl 3072 rfl ⟨j.val - 3072, by omega⟩ (by show 3072 + (j.val - 3072) = j.val; omega)).trans ?_
  rw [product_ref]
  exact (overRows_placed (NY := 3072) (NO := 6144) 3072 x y r ⟨j.val - 3072, by omega⟩ j (by show j.val = 3072 + (j.val - 3072); omega)).symm

/-- At the other columns. -/
theorem in_old (x : S8192x1024.Idx → EReal) (y : S8192x3072.Idx → EReal) (p : S1024x6144.Idx → EReal) (i : S1024x6144.Idx) (hi : ¬(3072 ≤ (i 1).val)) : val_main_v8 (F := Ideal) x y p i = p i := by
  obtain ⟨r, j, rfl⟩ : ∃ (r : Fin 1024) (j : Fin 6144), i = ix2 r j := ⟨i 0, i 1, eq_ix2 i⟩
  have hj := j.isLt
  have hk : ¬(3072 ≤ j.val) := hi
  refine (Cert.ProjClaims.join_cols (M := 1024) (N := 6144) [⟨S1024x3072, val_main_v7 (F := Ideal) p⟩, ⟨S1024x3072, val_main_v6 (F := Ideal) x y⟩] concatenates_S1024x3072_S1024x3072_S1024x6144_d1 r j 0
      (Nat.lt_of_lt_of_eq (by decide : 0 < 2) rfl) 3072 (val_main_v7 (F := Ideal) p) rfl 0 rfl ⟨j.val - 0, by omega⟩ (by show 0 + (j.val - 0) = j.val; omega)).trans ?_
  rw [val_main_v7_apply]
  exact congrArg p (ix2_of _ _ _ rfl rfl)

end Cert.Reference16Ideal.Read

namespace Cert.Reference17Ideal.Read

open Cert.Reference17Ideal Cert.Reference17Ideal.Gen Idealize.ShloMosaic Idealize.ShloMosaic.ValueIdx Cert.Products Cert.Gather

/-- The derivative of the product along its second factor. -/
theorem product_ref (x : S8192x512.Idx → EReal) (y : S8192x1024.Idx → EReal) (r : Fin 512) (d : Fin 1024) :
    val_main_v6 (F := Ideal) x y (ix2 r d) = overRows (m := 512) (n := 1024) x y r d := by
  show val_main_v5 (F := Ideal) x y (ix2 r d) = _
  rw [val_main_v5_apply, val_main_v4_apply]
  unfold overRows
  exact Finset.sum_congr rfl fun k _ => (mul_comm _ _).trans (congrArg₂ (· * ·) (congrArg x (ix2_of _ _ _ rfl rfl)) (congrArg y (ix2_of _ _ _ rfl rfl)))

end Cert.Reference17Ideal.Read

namespace Cert.ProjClaims

open Idealize.ShloMosaic Idealize.ShloMosaic.ValueIdx Idealize.ShloMosaic.TcCoe Idealize.SL.Sem

/-- The positions the selectors pick. -/
theorem row_picked [Cert.On_written_rows.Facts] (x y) (i) (h : Cert.On_written_rows.fn (F := Ideal) x y i = 1#1) : (i 0).val < 2816 :=
  lt_of_bit (i 0).val 2816 (Nat.lt_trans (i 0).isLt (by decide)) (by decide) h

theorem column_picked [Cert.On_written_columns.Facts] (x y) (i) (h : Cert.On_written_columns.fn (F := Ideal) x y i = 1#1) : (i 1).val < 1024 :=
  lt_of_bit (i 1).val 1024 (Nat.lt_trans (i 1).isLt (by decide)) (by decide) h

theorem frame_reference_ffn_a : Cert.quiescent_Reference11Ideal := fun m ρ _ =>
  (θ_run Cert.Reference11Ideal.defs _ _).mono (fun r h => ⟨fun c => (h c).2, sem_eq_zero_of_no_sems (by decide) r.2⟩)
    (Cert.Reference11Ideal.Value.run (F := Ideal) m ρ)

theorem algebraic_ffn_a [Cert.On_written_rows.Facts] : Cert.algebraic_Kernel11Ideal_Reference11Ideal_on_written_rows := by
  intro m ρ m' ρ' _ hagree
  refine ⟨fun c => Cert.Kernel11Ideal.Half.wAll (Cert.Kernel11Ideal.Half.argX m c) (Cert.Kernel11Ideal.Half.argY m c), ?_, ?_⟩
  · refine (θ_run Cert.Kernel11Ideal.defs _ _).mono (fun _ h c => ⟨fun i hi => ?_, (h c).2⟩) (Cert.Kernel11Ideal.Value.run_blocks (F := Ideal) m ρ)
    exact (congrFun (h c).1 i).trans (Cert.Kernel11Ideal.Half.final_at m c i (row_picked (Cert.Kernel11Ideal.Half.argX m c) (Cert.Kernel11Ideal.Half.argY m c) i hi))
  · refine (θ_run Cert.Reference11Ideal.defs _ _).mono (fun _ h c => ⟨fun i hi => ?_, (h c).2⟩) (Cert.Reference11Ideal.Value.run (F := Ideal) m' ρ')
    obtain ⟨h0, h1⟩ := hagree c
    refine (congrFun (h c).1 i).trans ?_
    rw [Cert.Reference11Ideal.Read.val_main_v7_eq, h0, h1]
    exact congrFun (Cert.Reference11Ideal.Read.half_ref _ _) i

theorem frame_reference_ffn_b : Cert.quiescent_Reference12Ideal := fun m ρ _ =>
  (θ_run Cert.Reference12Ideal.defs _ _).mono (fun r h => ⟨fun c => (h c).2, sem_eq_zero_of_no_sems (by decide) r.2⟩)
    (Cert.Reference12Ideal.Value.run (F := Ideal) m ρ)

theorem algebraic_ffn_b : Cert.algebraic_Kernel12Ideal_Reference12Ideal := by
  intro m ρ m' ρ' _ hagree
  refine ⟨_, Cert.Kernel12Ideal.Value.run_blocks (F := Ideal) m ρ, ?_⟩
  refine (θ_run Cert.Reference12Ideal.defs _ _).mono (fun _ h c => ?_) (Cert.Reference12Ideal.Value.run (F := Ideal) m' ρ')
  obtain ⟨h0, h1, h2⟩ := hagree c
  refine ⟨(h c).1.trans ?_, (h c).2⟩
  rw [Cert.Reference12Ideal.Read.val_main_v10_eq, h0, h1, h2]
  funext i
  by_cases hi : 2816 ≤ (i 0).val
  · rw [Cert.Kernel12Ideal.Half.final_at m c i hi]
    exact Cert.Reference12Ideal.Read.half_low _ _ _ i hi
  · rw [Cert.Kernel12Ideal.Half.final_else m c i hi]
    exact Cert.Reference12Ideal.Read.half_top _ _ _ i hi

theorem frame_reference_in_a : Cert.quiescent_Reference13Ideal := fun m ρ _ =>
  (θ_run Cert.Reference13Ideal.defs _ _).mono (fun r h => ⟨fun c => (h c).2, sem_eq_zero_of_no_sems (by decide) r.2⟩)
    (Cert.Reference13Ideal.Value.run (F := Ideal) m ρ)

theorem algebraic_in_a [Cert.On_written_columns.Facts] : Cert.algebraic_Kernel13Ideal_Reference13Ideal_on_written_columns := by
  intro m ρ m' ρ' _ hagree
  refine ⟨fun c => Cert.Kernel13Ideal.In.wAll (Cert.Kernel13Ideal.In.argX m c) (Cert.Kernel13Ideal.In.argY m c), ?_, ?_⟩
  · refine (θ_run Cert.Kernel13Ideal.defs _ _).mono (fun _ h c => ⟨fun i hi => ?_, (h c).2⟩) (Cert.Kernel13Ideal.Value.run_blocks (F := Ideal) m ρ)
    exact (congrFun (h c).1 i).trans (Cert.Kernel13Ideal.In.final_at m c i (column_picked (Cert.Kernel13Ideal.In.argX m c) (Cert.Kernel13Ideal.In.argY m c) i hi))
  · refine (θ_run Cert.Reference13Ideal.defs _ _).mono (fun _ h c => ⟨fun i hi => ?_, (h c).2⟩) (Cert.Reference13Ideal.Value.run (F := Ideal) m' ρ')
    obtain ⟨h0, h1⟩ := hagree c
    refine (congrFun (h c).1 i).trans ?_
    rw [Cert.Reference13Ideal.Read.val_main_v8_eq, h0, h1]
    exact Cert.Reference13Ideal.Read.in_new _ _ i (column_picked (Cert.Kernel13Ideal.In.argX m c) (Cert.Kernel13Ideal.In.argY m c) i hi)

theorem frame_reference_in_b : Cert.quiescent_Reference14Ideal := fun m ρ _ =>
  (θ_run Cert.Reference14Ideal.defs _ _).mono (fun r h => ⟨fun c => (h c).2, sem_eq_zero_of_no_sems (by decide) r.2⟩)
    (Cert.Reference14Ideal.Value.run (F := Ideal) m ρ)

theorem algebraic_in_b : Cert.algebraic_Kernel14Ideal_Reference14Ideal := by
  intro m ρ m' ρ' _ hagree
  refine ⟨_, Cert.Kernel14Ideal.Value.run_blocks (F := Ideal) m ρ, ?_⟩
  refine (θ_run Cert.Reference14Ideal.defs _ _).mono (fun _ h c => ?_) (Cert.Reference14Ideal.Value.run (F := Ideal) m' ρ')
  obtain ⟨h0, h1, h2⟩ := hagree c
  refine ⟨(h c).1.trans ?_, (h c).2⟩
  rw [Cert.Reference14Ideal.Read.val_main_v9_eq, h0, h1, h2]
  funext i
  by_cases hi : 1024 ≤ (i 1).val ∧ (i 1).val < 2560
  · rw [Cert.Kernel14Ideal.In.final_at m c i hi]
    exact Cert.Reference14Ideal.Read.in_new _ _ _ i hi
  · rw [Cert.Kernel14Ideal.In.final_else m c i hi]
    exact Cert.Reference14Ideal.Read.in_old _ _ _ i hi

theorem frame_reference_in_c : Cert.quiescent_Reference15Ideal := fun m ρ _ =>
  (θ_run Cert.Reference15Ideal.defs _ _).mono (fun r h => ⟨fun c => (h c).2, sem_eq_zero_of_no_sems (by decide) r.2⟩)
    (Cert.Reference15Ideal.Value.run (F := Ideal) m ρ)

theorem algebraic_in_c : Cert.algebraic_Kernel15Ideal_Reference15Ideal := by
  intro m ρ m' ρ' _ hagree
  refine ⟨_, Cert.Kernel15Ideal.Value.run_blocks (F := Ideal) m ρ, ?_⟩
  refine (θ_run Cert.Reference15Ideal.defs _ _).mono (fun _ h c => ?_) (Cert.Reference15Ideal.Value.run (F := Ideal) m' ρ')
  obtain ⟨h0, h1, h2⟩ := hagree c
  refine ⟨(h c).1.trans ?_, (h c).2⟩
  rw [Cert.Reference15Ideal.Read.val_main_v9_eq, h0, h1, h2]
  funext i
  by_cases hi : 2560 ≤ (i 1).val ∧ (i 1).val < 3072
  · rw [Cert.Kernel15Ideal.In.final_at m c i hi]
    exact Cert.Reference15Ideal.Read.in_new _ _ _ i hi
  · rw [Cert.Kernel15Ideal.In.final_else m c i hi]
    exact Cert.Reference15Ideal.Read.in_old _ _ _ i hi

theorem frame_reference_in_d : Cert.quiescent_Reference16Ideal := fun m ρ _ =>
  (θ_run Cert.Reference16Ideal.defs _ _).mono (fun r h => ⟨fun c => (h c).2, sem_eq_zero_of_no_sems (by decide) r.2⟩)
    (Cert.Reference16Ideal.Value.run (F := Ideal) m ρ)

theorem algebraic_in_d : Cert.algebraic_Kernel16Ideal_Reference16Ideal := by
  intro m ρ m' ρ' _ hagree
  refine ⟨_, Cert.Kernel16Ideal.Value.run_blocks (F := Ideal) m ρ, ?_⟩
  refine (θ_run Cert.Reference16Ideal.defs _ _).mono (fun _ h c => ?_) (Cert.Reference16Ideal.Value.run (F := Ideal) m' ρ')
  obtain ⟨h0, h1, h2⟩ := hagree c
  refine ⟨(h c).1.trans ?_, (h c).2⟩
  rw [Cert.Reference16Ideal.Read.val_main_v8_eq, h0, h1, h2]
  funext i
  by_cases hi : 3072 ≤ (i 1).val
  · rw [Cert.Kernel16Ideal.In.final_at m c i hi]
    exact Cert.Reference16Ideal.Read.in_new _ _ _ i hi
  · rw [Cert.Kernel16Ideal.In.final_else m c i hi]
    exact Cert.Reference16Ideal.Read.in_old _ _ _ i hi

theorem frame_reference_branch : Cert.quiescent_Reference17Ideal := fun m ρ _ =>
  (θ_run Cert.Reference17Ideal.defs _ _).mono (fun r h => ⟨fun c => (h c).2, sem_eq_zero_of_no_sems (by decide) r.2⟩)
    (Cert.Reference17Ideal.Value.run (F := Ideal) m ρ)

theorem algebraic_branch : Cert.algebraic_Kernel17Ideal_Reference17Ideal := by
  intro m ρ m' ρ' _ hagree
  refine ⟨_, Cert.Kernel17Ideal.Value.run_blocks (F := Ideal) m ρ, ?_⟩
  refine (θ_run Cert.Reference17Ideal.defs _ _).mono (fun _ h c => ?_) (Cert.Reference17Ideal.Value.run (F := Ideal) m' ρ')
  obtain ⟨h0, h1⟩ := hagree c
  refine ⟨(h c).1.trans ?_, (h c).2⟩
  rw [Cert.Reference17Ideal.Read.val_main_v6_eq, h0, h1]
  funext i
  obtain ⟨r, d, rfl⟩ : ∃ (r : Fin 512) (d : Fin 1024), i = ix2 r d := ⟨i 0, i 1, eq_ix2 i⟩
  rw [Cert.Kernel17Ideal.Branch.final_at m c _ d.isLt]
  exact Cert.Reference17Ideal.Read.product_ref _ _ r d

end Cert.ProjClaims

end

end
-- ==== Proof.MixGradRef.lean ====
/-
  The gradient of the plain gated mix, stage by stage: what each of its arrays holds at an index, and that its eight results
  are the kernel's.
-/
module

public import proofs.«01_k».proof.Proof.MixGradTile
public import proofs.«01_k».proof.Proof.ProjClaims
public import proofs.«01_k».proof.Proof.Gen.Reference9Ideal.Read

@[expose] public section

noncomputable section

namespace Cert.Reference9Ideal.Read

open Cert.Reference9Ideal Cert.Reference9Ideal.Gen Idealize.ShloMosaic Idealize.ShloMosaic.ValueIdx Cert.Gate Cert.Products
open Cert.Words (ofBits_one zeroWord)
open Cert.Kernel2Ideal.Ffn (rowOf)
open Cert.Kernel8Ideal.Combine (rowsOf matsOf)
open Cert.MixGradTile (logitGrad biasGrad projGrad branchGrad logitGrad_col projGrad_at branchGrad_at)

variable (x0 : S8192x1024.Idx → EReal) (x1 x2 x3 : S8192x512.Idx → EReal) (x4 : S8192x3072.Idx → EReal) (x5 : S1x3072.Idx → EReal)
  (x6 x7 x8 : S512x1024.Idx → EReal) (x9 : S1024x1024.Idx → EReal)
variable (t : Fin 8192) (d : Fin 1024) (j : Fin 3) (i : Fin 3072) (k : Fin 512)

/-- The branches' projections, the arriving gradient and the gates. -/
theorem proj0 : val_main_v4 (F := Ideal) x1 x6 (ix2 t d) = proj (rowOf x1 t) (rowOf x6) d := by
  rw [val_main_v4_apply]
  exact Finset.sum_congr rfl fun k _ => congrArg₂ (· * ·) (at2 (val_main_v0 (F := Ideal) x1) _ t k rfl rfl) (at2 (val_main_v3 (F := Ideal) x6) _ k d rfl rfl)

theorem arrived : val_main_v31 (F := Ideal) x0 x9 (ix2 t d) = arrive (rowOf x0 t) (rowOf x9) d := by
  rw [val_main_v31_apply]
  exact Finset.sum_congr rfl fun e _ => congrArg₂ (· * ·) (at2 x0 _ t e rfl rfl) (at2 (val_main_v29 (F := Ideal) x9) _ d e rfl rfl)

theorem squash_at : val_main_v17 (F := Ideal) x4 x5 (ix2 t (col j d)) = gate (rowOf x4 t) (rowOf x5 0) j d := by
  show Ideal.div (val_main_v16 (F := Ideal) (ix2 t (col j d)))
    (val_main_v14 (F := Ideal) (ix2 t (col j d)) + Ideal.exp (-(x4 (ix2 t (col j d)) + val_main_v10 (F := Ideal) x5 (ix2 t (col j d))))) = _
  rw [val_main_v16_apply (F := Ideal), val_main_v14_apply (F := Ideal), val_main_v10_apply (F := Ideal),
    show x5 (idx_main_v10 (ix2 t (col j d))) = x5 (ix2 0 (col j d)) from at2 x5 _ 0 (col j d) rfl rfl]
  exact congrArg₂ (fun a b => Ideal.div a (b + Ideal.exp (-(x4 (ix2 t (col j d)) + x5 (ix2 0 (col j d)))))) ofBits_one ofBits_one

theorem gate0 : val_main_v21 (F := Ideal) x4 x5 (ix2 t d) = gate (rowOf x4 t) (rowOf x5 0) 0 d := by
  rw [val_main_v21_apply (F := Ideal)]
  exact (at2 (val_main_v17 (F := Ideal) x4 x5) _ t (col 0 d) rfl (by show d.val = 0 * 1024 + d.val; omega)).trans (squash_at x4 x5 t d 0)

theorem gate1 : val_main_v22 (F := Ideal) x4 x5 (ix2 t d) = gate (rowOf x4 t) (rowOf x5 0) 1 d := by
  rw [val_main_v22_apply (F := Ideal)]
  exact (at2 (val_main_v17 (F := Ideal) x4 x5) _ t (col 1 d) rfl (by show 1024 + d.val = 1 * 1024 + d.val; omega)).trans (squash_at x4 x5 t d 1)

theorem gate2 : val_main_v23 (F := Ideal) x4 x5 (ix2 t d) = gate (rowOf x4 t) (rowOf x5 0) 2 d := by
  rw [val_main_v23_apply (F := Ideal)]
  exact (at2 (val_main_v17 (F := Ideal) x4 x5) _ t (col 2 d) rfl (by show 2048 + d.val = 2 * 1024 + d.val; omega)).trans (squash_at x4 x5 t d 2)

/-- The gate times one minus the gate. -/
theorem slope_at : val_main_v20 (F := Ideal) x4 x5 (ix2 t (col j d))
    = gate (rowOf x4 t) (rowOf x5 0) j d * (1 - gate (rowOf x4 t) (rowOf x5 0) j d) := by
  show val_main_v17 (F := Ideal) x4 x5 (ix2 t (col j d)) * (val_main_v18 (F := Ideal) (ix2 t (col j d)) - val_main_v17 (F := Ideal) x4 x5 (ix2 t (col j d))) = _
  rw [squash_at, val_main_v18_apply (F := Ideal)]
  exact congrArg (fun o => gate (rowOf x4 t) (rowOf x5 0) j d * (o - gate (rowOf x4 t) (rowOf x5 0) j d)) ofBits_one

/-- The gradients of the branches' projections. -/
theorem through0 : val_main_v36 (F := Ideal) x0 x4 x5 x9 (ix2 t d) = projGrad (n := 8192) x0 x4 x5 x9 0 (ix2 t d) :=
  (congrArg₂ (· * ·) (gate0 x4 x5 t d) (arrived x0 x9 t d)).trans ((mul_comm _ _).trans (projGrad_at x0 x4 x5 x9 0 t d).symm)
theorem through1 : val_main_v34 (F := Ideal) x0 x4 x5 x9 (ix2 t d) = projGrad (n := 8192) x0 x4 x5 x9 1 (ix2 t d) :=
  (congrArg₂ (· * ·) (gate1 x4 x5 t d) (arrived x0 x9 t d)).trans ((mul_comm _ _).trans (projGrad_at x0 x4 x5 x9 1 t d).symm)
theorem through2 : val_main_v32 (F := Ideal) x0 x4 x5 x9 (ix2 t d) = projGrad (n := 8192) x0 x4 x5 x9 2 (ix2 t d) :=
  (congrArg₂ (· * ·) (gate2 x4 x5 t d) (arrived x0 x9 t d)).trans ((mul_comm _ _).trans (projGrad_at x0 x4 x5 x9 2 t d).symm)

theorem proj_ref0 : val_main_v48 (F := Ideal) x0 x4 x5 x9 = projGrad (n := 8192) x0 x4 x5 x9 0 := by
  funext y
  obtain ⟨t, d, rfl⟩ : ∃ (t : Fin 8192) (d : Fin 1024), y = ix2 t d := ⟨y 0, y 1, eq_ix2 y⟩
  exact through0 x0 x4 x5 x9 t d
theorem proj_ref1 : val_main_v49 (F := Ideal) x0 x4 x5 x9 = projGrad (n := 8192) x0 x4 x5 x9 1 := by
  funext y
  obtain ⟨t, d, rfl⟩ : ∃ (t : Fin 8192) (d : Fin 1024), y = ix2 t d := ⟨y 0, y 1, eq_ix2 y⟩
  exact through1 x0 x4 x5 x9 t d
theorem proj_ref2 : val_main_v50 (F := Ideal) x0 x4 x5 x9 = projGrad (n := 8192) x0 x4 x5 x9 2 := by
  funext y
  obtain ⟨t, d, rfl⟩ : ∃ (t : Fin 8192) (d : Fin 1024), y = ix2 t d := ⟨y 0, y 1, eq_ix2 y⟩
  exact through2 x0 x4 x5 x9 t d

/-- The gradients of the branches' rows. -/
theorem branch_ref0 : val_main_v44 (F := Ideal) x0 x4 x5 x6 x9 = branchGrad (n := 8192) x0 x4 x5 x6 x9 0 := by
  funext y
  obtain ⟨t, k, rfl⟩ : ∃ (t : Fin 8192) (k : Fin 512), y = ix2 t k := ⟨y 0, y 1, eq_ix2 y⟩
  rw [val_main_v44_apply]
  refine Eq.trans (Finset.sum_congr rfl fun d _ => ?_) (branchGrad_at (n := 8192) x0 x4 x5 x6 x9 0 t k).symm
  exact congrArg₂ (· * ·) ((at2 (val_main_v36 (F := Ideal) x0 x4 x5 x9) _ t d rfl rfl).trans (through0 x0 x4 x5 x9 t d)) (at2 (val_main_v3 (F := Ideal) x6) _ k d rfl rfl)
theorem branch_ref1 : val_main_v46 (F := Ideal) x0 x4 x5 x7 x9 = branchGrad (n := 8192) x0 x4 x5 x7 x9 1 := by
  funext y
  obtain ⟨t, k, rfl⟩ : ∃ (t : Fin 8192) (k : Fin 512), y = ix2 t k := ⟨y 0, y 1, eq_ix2 y⟩
  refine (val_main_v43_apply x0 x4 x5 x7 x9 (ix2 t k)).trans ?_
  refine Eq.trans (Finset.sum_congr rfl fun d _ => ?_) (branchGrad_at (n := 8192) x0 x4 x5 x7 x9 1 t k).symm
  exact congrArg₂ (· * ·) ((at2 (val_main_v34 (F := Ideal) x0 x4 x5 x9) _ t d rfl rfl).trans (through1 x0 x4 x5 x9 t d)) (at2 (val_main_v5 (F := Ideal) x7) _ k d rfl rfl)
theorem branch_ref2 : val_main_v47 (F := Ideal) x0 x4 x5 x8 x9 = branchGrad (n := 8192) x0 x4 x5 x8 x9 2 := by
  funext y
  obtain ⟨t, k, rfl⟩ : ∃ (t : Fin 8192) (k : Fin 512), y = ix2 t k := ⟨y 0, y 1, eq_ix2 y⟩
  refine (val_main_v42_apply x0 x4 x5 x8 x9 (ix2 t k)).trans ?_
  refine Eq.trans (Finset.sum_congr rfl fun d _ => ?_) (branchGrad_at (n := 8192) x0 x4 x5 x8 x9 2 t k).symm
  exact congrArg₂ (· * ·) ((at2 (val_main_v32 (F := Ideal) x0 x4 x5 x9) _ t d rfl rfl).trans (through2 x0 x4 x5 x9 t d)) (at2 (val_main_v7 (F := Ideal) x8) _ k d rfl rfl)

/-- The three joined products of the arriving gradient with the projections, by branch. -/
theorem joined (P : Fin 3 → S8192x1024.Idx → EReal) :
    concatenate (Mat 8192 3072) 1 [⟨S8192x1024, P 0⟩, ⟨S8192x1024, P 1⟩, ⟨S8192x1024, P 2⟩] concatenates_S8192x1024_S8192x1024_S8192x1024_S8192x3072_d1 (ix2 t (col j d))
      = P j (ix2 t d) := by
  match j with
  | 0 =>
    exact Cert.ProjClaims.join_cols (M := 8192) (N := 3072) [⟨S8192x1024, P 0⟩, ⟨S8192x1024, P 1⟩, ⟨S8192x1024, P 2⟩] _ t (col 0 d) 0
      (Nat.lt_of_lt_of_eq (by decide : 0 < 3) rfl) 1024 (P 0) rfl 0 rfl d (by show 0 + d.val = 0 * 1024 + d.val; omega)
  | 1 =>
    exact Cert.ProjClaims.join_cols (M := 8192) (N := 3072) [⟨S8192x1024, P 0⟩, ⟨S8192x1024, P 1⟩, ⟨S8192x1024, P 2⟩] _ t (col 1 d) 1
      (Nat.lt_of_lt_of_eq (by decide : 1 < 3) rfl) 1024 (P 1) rfl 1024 rfl d (by show 1024 + d.val = 1 * 1024 + d.val; omega)
  | 2 =>
    exact Cert.ProjClaims.join_cols (M := 8192) (N := 3072) [⟨S8192x1024, P 0⟩, ⟨S8192x1024, P 1⟩, ⟨S8192x1024, P 2⟩] _ t (col 2 d) 2
      (Nat.lt_of_lt_of_eq (by decide : 2 < 3) rfl) 1024 (P 2) rfl 2048 rfl d (by show 2048 + d.val = 2 * 1024 + d.val; omega)

theorem joined_at : val_main_v38 (F := Ideal) x0 x1 x2 x3 x6 x7 x8 x9 (ix2 t (col j d))
    = arrive (rowOf x0 t) (rowOf x9) d * proj (rowsOf x1 x2 x3 t j) (matsOf x6 x7 x8 j) d := by
  refine (joined t d j (fun j => match j with
    | 0 => val_main_v37 (F := Ideal) x0 x1 x6 x9
    | 1 => val_main_v35 (F := Ideal) x0 x2 x7 x9
    | 2 => val_main_v33 (F := Ideal) x0 x3 x8 x9)).trans ?_
  match j with
  | 0 => exact congrArg₂ (· * ·) (arrived x0 x9 t d) (proj0 x1 x6 t d)
  | 1 => exact congrArg₂ (· * ·) (arrived x0 x9 t d) (proj0 x2 x7 t d)
  | 2 => exact congrArg₂ (· * ·) (arrived x0 x9 t d) (proj0 x3 x8 t d)

/-- The order of the factors of a logit's gradient does not matter. -/
theorem reorder (a p g q : EReal) : a * p * (g * q) = a * g * p * q := by
  rw [← mul_assoc, mul_right_comm a p g]

theorem logit_at : val_main_v39 (F := Ideal) x0 x1 x2 x3 x4 x5 x6 x7 x8 x9 (ix2 t i) = logitGrad (n := 8192) x0 x1 x2 x3 x4 x5 x6 x7 x8 x9 (ix2 t i) := by
  rw [← col_branch i]
  refine Eq.trans ?_ (logitGrad_col (n := 8192) x0 x1 x2 x3 x4 x5 x6 x7 x8 x9 (branch i) t (entry i)).symm
  exact (congrArg₂ (· * ·) (joined_at x0 x1 x2 x3 x6 x7 x8 x9 t (entry i) (branch i)) (slope_at x4 x5 t (entry i) (branch i))).trans (reorder _ _ _ _)

theorem logit_ref : val_main_v45 (F := Ideal) x0 x1 x2 x3 x4 x5 x6 x7 x8 x9 = logitGrad (n := 8192) x0 x1 x2 x3 x4 x5 x6 x7 x8 x9 := by
  funext y
  obtain ⟨t, i, rfl⟩ : ∃ (t : Fin 8192) (i : Fin 3072), y = ix2 t i := ⟨y 0, y 1, eq_ix2 y⟩
  exact logit_at x0 x1 x2 x3 x4 x5 x6 x7 x8 x9 t i

theorem bias_ref : val_main_v41 (F := Ideal) x0 x1 x2 x3 x4 x5 x6 x7 x8 x9 = biasGrad (n := 8192) x0 x1 x2 x3 x4 x5 x6 x7 x8 x9 := by
  funext y
  obtain ⟨u, i, rfl⟩ : ∃ (u : Fin 1) (i : Fin 3072), y = ix2 u i := ⟨y 0, y 1, eq_ix2 y⟩
  rw [val_main_v41_apply (F := Ideal), val_main_v40_apply]
  refine (congrArg (· + _) zeroWord).trans ((zero_add _).trans (Finset.sum_congr rfl fun t _ => ?_))
  exact (at2 (val_main_v39 (F := Ideal) x0 x1 x2 x3 x4 x5 x6 x7 x8 x9) _ t i rfl (by show u.val * 3072 + i.val = i.val; omega)).trans
    (logit_at x0 x1 x2 x3 x4 x5 x6 x7 x8 x9 t i)

end Cert.Reference9Ideal.Read

end

end
-- ==== Proof.MixGradClaims.lean ====
/-
  The claims about the gradient kernel of the gated mix: from any arguments it ends with the eight gradients of the plain
  program.
-/
module

public import proofs.«01_k».proof.Defs
public import proofs.«01_k».proof.Proof.MixGradRun
public import proofs.«01_k».proof.Proof.MixGradRef
public import proofs.«01_k».proof.Proof.Gen.Reference9Ideal.Run
public import Idealize.ShloMosaic.Adequacy
public import Idealize.ShloMosaic.Init

@[expose] public section

noncomputable section

namespace Cert.MixGradClaims

open Idealize.ShloMosaic Idealize.ShloMosaic.TcCoe Idealize.SL.Sem
open Cert.Reference9Ideal.Read

theorem frame_reference : Cert.quiescent_Reference9Ideal := fun m ρ _ =>
  (θ_run Cert.Reference9Ideal.defs _ _).mono (fun r h => ⟨fun c => (h c).2.2.2.2.2.2.2.2, sem_eq_zero_of_no_sems (by decide) r.2⟩)
    (Cert.Reference9Ideal.Value.run (F := Ideal) m ρ)

theorem algebraic : Cert.algebraic_Kernel9Ideal_Reference9Ideal := by
  intro m ρ m' ρ' _ hagree
  refine ⟨_, _, _, _, _, _, _, _, Cert.MixGradTile.run m ρ, ?_⟩
  refine (θ_run Cert.Reference9Ideal.defs _ _).mono (fun _ h c => ?_) (Cert.Reference9Ideal.Value.run (F := Ideal) m' ρ')
  obtain ⟨h0, h1, h2, h3, h4, h5, h6, h7, h8, h9⟩ := hagree c
  obtain ⟨r0, r1, r2, r3, r4, r5, r6, r7, rest⟩ := h c
  refine ⟨r0.trans ?_, r1.trans ?_, r2.trans ?_, r3.trans ?_, r4.trans ?_, r5.trans ?_, r6.trans ?_, r7.trans ?_, rest⟩
  · rw [val_main_v45_eq, h0, h1, h2, h3, h4, h5, h6, h7, h8, h9]; exact logit_ref _ _ _ _ _ _ _ _ _ _
  · rw [val_main_v44_eq, h0, h4, h5, h6, h9]; exact branch_ref0 _ _ _ _ _
  · rw [val_main_v46_eq, h0, h4, h5, h7, h9]; exact branch_ref1 _ _ _ _ _
  · rw [val_main_v47_eq, h0, h4, h5, h8, h9]; exact branch_ref2 _ _ _ _ _
  · rw [val_main_v48_eq, h0, h4, h5, h9]; exact proj_ref0 _ _ _ _
  · rw [val_main_v49_eq, h0, h4, h5, h9]; exact proj_ref1 _ _ _ _
  · rw [val_main_v50_eq, h0, h4, h5, h9]; exact proj_ref2 _ _ _ _
  · rw [val_main_v41_eq, h0, h1, h2, h3, h4, h5, h6, h7, h8, h9]; exact bias_ref _ _ _ _ _ _ _ _ _ _

end Cert.MixGradClaims

end

end
-- ==== Proof.DownTile.lean ====
/-
  The gradient of the half-step's second weight matrix: what its kernel leaves, as the sum over all 8192 tokens gathered in
  eight tiles for each half of the columns.
-/
module

public import proofs.«01_k».proof.Proof.WeightTile
public import proofs.«01_k».proof.Proof.Gen.Kernel5Ideal.Value
public import Idealize.ShloMosaic.Lib.Tactic

@[expose] public section

noncomputable section

namespace Cert.Kernel5Ideal.Down

open Cert.Kernel5Ideal Cert.Kernel5Ideal.Gen Cert.Kernel5Ideal.Value Idealize.ShloMosaic Idealize.ShloMosaic.ValueIdx Idealize.ShloMosaic.TcCoe Idealize.SL.Sem
  Cert.Words Cert.Products Cert.Gather
open Idealize.ShloMosaic.Pipeline (Dat)

/-- Half of `o`. -/
def halfBlk (o : S2816x512.Idx → EReal) (i : S2816x512.Idx) : EReal := o i * Ideal.ofBits .f32 0x3F000000#32

theorem add_at (x : Vec Ideal S1024x2816 .bf16) (y : Vec Ideal S1024x512 .f32) (o : Vec Ideal S2816x512 .f32) :
    k0_pay2 (F := Ideal) o x y = addTile x y o := by
  funext i
  obtain ⟨r, d, rfl⟩ : ∃ (r : Fin 2816) (d : Fin 512), i = ix2 r d := ⟨i 0, i 1, eq_ix2 i⟩
  unfold k0_pay2
  rw [shapeCast_self]
  exact congrArg (o (ix2 r d) + ·) (cols_cols (m := 2816) (k := 1024) (n := 512) dot_S1024x2816_S1024x512_S2816x512_0_0_1_1_n_n_wf x y r d)

section Points

variable (c : Dev nD) (i : grid0.Coords) (a2 : Memref sig .tc .vmem S1024x2816 .bf16) (h2 : a2.IsWhole) (a3 : Memref sig .tc .vmem S1024x512 .f32) (h3 : a3.IsWhole)
  (a4 : Memref sig .tc .vmem S2816x512 .bf16) (h4 : a4.IsWhole) (a5 : Memref sig .tc .vmem S2816x512 .f32) (h5 : a5.IsWhole)
  (x : Vec Ideal S1024x2816 .bf16) (y : Vec Ideal S1024x512 .f32) (o : Vec Ideal S2816x512 .f32)

theorem store_add (inb) (j : (Rect.unit (s := S2816x512) ![0, 0] ![2816, 512] inb).shape.Idx) :
    k0_pay2 (F := Ideal) o x y j = addTile x y o ((Rect.unit (s := S2816x512) ![0, 0] ![2816, 512] inb).emb j) :=
  store_tile dot_S1024x2816_S1024x512_S2816x512_0_0_1_1_n_n_wf x y o shapeCasts_S2816x512_S2816x512 inb j

theorem scratch_B (hc : ¬cond0_0 i) (hd : ¬cond0_1 i) : sout0_B_0 (F := Ideal) c i a2 h2 a3 h3 a4 h4 a5 h5 hc hd x y o = addTile x y o := by
  unfold sout0_B_0
  exact read_tiles _ _ (addTile x y o) _ (scover0_B_0 (F := Ideal) c i a2 h2 a3 h3 a4 h4 a5 h5 hc hd x y o) (by
    unfold kernelRun0_B
    dsimp only
    sl_unfold_words
    simp only [View.readAt_eq_ld, h2.read_unread, h3.read_unread, h5.read_unread, ld_full]
    exact ⟨store_add x y o inb_S2816x512_S2816x512_0_0, trivial⟩)

theorem scratch_C (hc : ¬cond0_0 i) (hd : cond0_1 i) : sout0_C_0 (F := Ideal) c i a2 h2 a3 h3 a4 h4 a5 h5 hc hd x y o = addTile x y o := by
  unfold sout0_C_0
  exact read_tiles _ _ (addTile x y o) _ (scover0_C_0 (F := Ideal) c i a2 h2 a3 h3 a4 h4 a5 h5 hc hd x y o) (by
    unfold kernelRun0_C
    dsimp only
    sl_unfold_words
    simp only [View.readAt_eq_ld, h2.read_unread, h3.read_unread, h5.read_unread, ld_full]
    exact ⟨store_add x y o inb_S2816x512_S2816x512_0_0, trivial⟩)

theorem scratch_A (hc : cond0_0 i) (hd : ¬cond0_1 i) : sout0_A_0 (F := Ideal) c i a2 h2 a3 h3 a4 h4 a5 h5 hc hd x y = addTile x y (k0_pay1 (F := Ideal)) := by
  unfold sout0_A_0 kernelRun0_A
  dsimp only
  sl_unfold_words
  have hz : ∀ a, (![0, 0] : Fin 2 → ℕ) a = 0 := by decide
  simp only [View.readAt_eq_ld, h2.read_unread, h3.read_unread, ld_full, View.readCov_fill (s := S2816x512) _ _ _ _ _ hz]
  exact read_over (s := S2816x512) (e := .f32) _ _ (addTile x y (k0_pay1 (F := Ideal))) _ _
    (fun j => View.cover_of_tiledL (s := S2816x512) _ S2816x512.size (by sl_kernel_rfl) j) ⟨store_add x y _ inb_S2816x512_S2816x512_0_0, trivial⟩

theorem out_C (hc : ¬cond0_0 i) (hd : cond0_1 i) : out0_C_2 (F := Ideal) c i a2 h2 a3 h3 a4 h4 a5 h5 hc hd x y o = halfBlk (addTile x y o) := by
  have hcov := cover0_C_2 (F := Ideal) c i a2 h2 a3 h3 a4 h4 a5 h5 hc hd x y o
  unfold out0_C_2
  rw [View.read_writes_eq_canon _ _ _ hcov]
  refine canon_tiles (s := S2816x512) (e := .bf16) (halfBlk (addTile x y o)) _ ?_ hcov
  unfold kernelRun0_C
  dsimp only
  sl_unfold_words
  have hz : ∀ a, (![0, 0] : Fin 2 → ℕ) a = 0 := by decide
  simp only [View.readAt_eq_ld, h2.read_unread, h3.read_unread, h5.read_unread, ld_full]
  simp only [View.readCov_fill (s := S2816x512) _ _ _ _ _ hz]
  refine ⟨fun (j : S2816x512.Idx) => ?_, trivial⟩
  obtain ⟨r, d, rfl⟩ : ∃ (r : Fin 2816) (d : Fin 512), j = ix2 r d := ⟨j 0, j 1, eq_ix2 j⟩
  refine Eq.trans ?_ (congrArg (halfBlk (addTile x y o)) (emb_block 0 0 inb_S2816x512_S2816x512_0_0 r d r d (Nat.zero_add _).symm (Nat.zero_add _).symm)).symm
  rw [add_at]
  exact congrFun (congrArg halfBlk (ld_full (e := .f32) (addTile x y o) inb_S2816x512_S2816x512_0_0)) (ix2 r d)

end Points

variable (m : (ℓ : Loc nD τ sig) → Buf (Elt Ideal) ℓ) (c : Dev nD)

/-- The activations and the token's gradients the run starts from. -/
abbrev argX : S8192x2816.Idx → EReal := m ((c : Thread nD τ).loc main_arg0)
abbrev argY : S8192x1024.Idx → EReal := m ((c : Thread nD τ).loc main_arg1)

/-- Half the product of the activations' columns with the gradients' columns. -/
def wAll (x : S8192x2816.Idx → EReal) (y : S8192x1024.Idx → EReal) (i : S2816x1024.Idx) : EReal :=
  overRows (m := 2816) (n := 1024) x y (i 0) (i 1) * Ideal.ofBits .f32 0x3F000000#32

theorem index : ∀ t : Fin grid0.N, (win0_0.index t 0 = t.val % 8 ∧ win0_0.index t 1 = 0) ∧ (win0_1.index t 0 = t.val % 8 ∧ win0_1.index t 1 = t.val / 8)
    ∧ (win0_2.index t 0 = 0 ∧ win0_2.index t 1 = t.val / 8) := by decide +kernel

/-- One token's term of the product. -/
def term (r : Fin 2816) (d : Fin 1024) (s : Fin 8192) : EReal := argX m c (ix2 s r) * argY m c (ix2 s d)

/-- Column `d` of the half that grid point `t` works on. -/
def colAt (t : ℕ) (ht : t < cfg0.N) (d : Fin 512) : Fin 1024 := ⟨t / 8 * 512 + d.val, by have : cfg0.N = 16 := N_0; omega⟩

theorem tile_add (t : Fin cfg0.N) (r : Fin 2816) (d : Fin 512) : overRows (m := 2816) (n := 512) (iblk m c 0 t) (iblk m c 1 t) r d
    = ∑ s : Fin 1024, at0 (term m c r (colAt t.val t.isLt d)) (t.val % 8 * 1024 + s.val) := by
  obtain ⟨⟨p0, p1⟩, ⟨q0, q1⟩, -⟩ := index t
  refine Finset.sum_congr rfl fun s _ => ?_
  rw [at0_of _ _ (by omega)]
  unfold iblk
  rw [View.read_apply, View.read_apply]
  refine congrArg₂ (· * ·) (congrArg (argX m c) (ix2_of _ _ _ ?_ ?_)) (congrArg (argY m c) (ix2_of _ _ _ ?_ ?_))
  · show win0_0.index t 0 * 1024 + 1 * s.val = t.val % 8 * 1024 + s.val; rw [p0]; omega
  · show win0_0.index t 1 * 2816 + 1 * r.val = r.val; rw [p1]; omega
  · show win0_1.index t 0 * 1024 + 1 * s.val = t.val % 8 * 1024 + s.val; rw [q0]; omega
  · show win0_1.index t 1 * 512 + 1 * d.val = t.val / 8 * 512 + d.val; rw [q1]; omega

theorem scratch_first (t : Fin cfg0.N) (h : t.val % 8 = 0) (r : Fin 2816) (d : Fin 512) : (outsAt0 m c t.val t.isLt).2 (ix2 r d)
    = overRows (m := 2816) (n := 512) (iblk m c 0 t) (iblk m c 1 t) r d := by
  rw [outsAt0_A m c t h (by omega)]
  dsimp only
  rw [scratch_A]
  show k0_pay1 (F := Ideal) (ix2 r d) + _ = _
  exact (congrArg (· + _) (zeros_at shapeCasts_S2816x512_S2816x512 (ix2 r d))).trans (zero_add _)

theorem scratch_later (t : Fin cfg0.N) (h : ¬t.val % 8 = 0) (r : Fin 2816) (d : Fin 512) : (outsAt0 m c t.val t.isLt).2 (ix2 r d)
    = (outsAt0 m c (t.val - 1) (Nat.lt_of_le_of_lt (Nat.sub_le _ _) t.isLt)).2 (ix2 r d)
      + overRows (m := 2816) (n := 512) (iblk m c 0 t) (iblk m c 1 t) r d := by
  by_cases h7 : t.val % 8 = 7
  · rw [outsAt0_C m c t h h7]; dsimp only; rw [scratch_C]; rfl
  · rw [outsAt0_B m c t h h7]; dsimp only; rw [scratch_B]; rfl

theorem scratch_last (t : Fin cfg0.N) (h7 : t.val % 8 = 7) (r : Fin 2816) (d : Fin 512) : (outsAt0 m c t.val t.isLt).2 (ix2 r d)
    = overRows (m := 2816) (n := 1024) (argX m c) (argY m c) r (colAt t.val t.isLt d) := by
  have same : ∀ s (h : s < cfg0.N), s / 8 = t.val / 8 → colAt s h d = colAt t.val t.isLt d := fun s h e => Fin.ext (by
    show s / 8 * 512 + d.val = t.val / 8 * 512 + d.val; rw [e])
  refine product_last (T := 8) (B := 1024) (by decide) (argX m c) (argY m c) (fun s h => (outsAt0 m c s h).2 (ix2 r d)) r (colAt t.val t.isLt d) t.val t.isLt
    (by omega) (fun s h => overRows (m := 2816) (n := 512) (iblk m c 0 ⟨s, h⟩) (iblk m c 1 ⟨s, h⟩) r d) ?_ ?_ ?_
  · intro s h e
    rw [tile_add, same s h e]
    rfl
  · exact fun s h h0 => scratch_first m c ⟨s, h⟩ h0 r d
  · exact fun s h h0 => scratch_later m c ⟨s, h⟩ h0 r d

theorem out_last (t : Fin cfg0.N) (h7 : t.val % 8 = 7) (r : Fin 2816) (d : Fin 512) : (outsAt0 m c t.val t.isLt).1 (ix2 r d)
    = wAll (argX m c) (argY m c) (ix2 r (colAt t.val t.isLt d)) := by
  have key := scratch_last m c t h7 r d
  rw [outsAt0_C m c t (by omega) h7] at key ⊢
  dsimp only at key ⊢
  rw [scratch_C] at key
  rw [out_C]
  exact congrArg (· * Ideal.ofBits .f32 0x3F000000#32) key

theorem flushed (t : Fin cfg0.N) (hf : (cfg0.win 2).flush t = true) : (dats m 0 c).flushed 2 t
    = ((cfg0.win 2).blk t).view.read (Elt Ideal) (wAll (argX m c) (argY m c)) := by
  obtain ⟨-, -, h0, h1⟩ := index t
  have h7 : t.val % 8 = 7 := (flush0_2 t).mp hf
  rw [flushed2]
  funext y
  obtain ⟨r, d, rfl⟩ : ∃ (r : Fin 2816) (d : Fin 512), y = ix2 r d := ⟨y 0, y 1, eq_ix2 y⟩
  rw [View.read_apply]
  refine (out_last m c t h7 r d).trans (congrArg (wAll (argX m c) (argY m c)) (ix2_of _ _ _ ?_ ?_).symm)
  · show win0_2.index t 0 * 2816 + 1 * r.val = r.val; rw [h0]; omega
  · show win0_2.index t 1 * 512 + 1 * d.val = t.val / 8 * 512 + d.val; rw [h1]; omega

theorem final : (dats m 0 c).arrAt 2 cfg0.N = wAll (argX m c) (argY m c) :=
  (dats m 0 c).arrAt_eq_of_cover 2 _ (flushed m c) fun i => by
    have i1 : (i 1).val < 1024 := (i 1).isLt
    have hN : cfg0.N = 16 := N_0
    let t : Fin cfg0.N := ⟨8 * ((i 1).val / 512) + 7, by omega⟩
    have hq : t.val / 8 = (i 1).val / 512 := by show (8 * ((i 1).val / 512) + 7) / 8 = _; omega
    refine ⟨t, (flush0_2 t).mpr (by show (8 * ((i 1).val / 512) + 7) % 8 = 7; omega), ?_⟩
    obtain ⟨-, -, h0, h1⟩ := index t
    show i ∈ ((View.whole main_v0).slice (win0_2.rect t)).set
    rw [View.set_slice_whole]
    exact mem_cols (M := 2816) (N := 1024) (B := 512) (by decide) _ _ i (by show win0_2.index t 0 * 2816 = 0; rw [h0])
      (by show win0_2.index t 1 * 512 = _; rw [h1, hq])

end Cert.Kernel5Ideal.Down

end

end
-- ==== Proof.UpTile.lean ====
/-
  The gradients of the two halves of the half-step's first weight matrix's columns: what their kernels leave, as the sum over all 8192 tokens
  gathered in sixteen tiles.
-/
module

public import proofs.«01_k».proof.Proof.WeightTile
public import proofs.«01_k».proof.Proof.Gen.Kernel6Ideal.Value
public import proofs.«01_k».proof.Proof.Gen.Kernel7Ideal.Value
public import Idealize.ShloMosaic.Lib.Tactic

@[expose] public section

noncomputable section

namespace Cert.Kernel6Ideal.Up

open Cert.Kernel6Ideal Cert.Kernel6Ideal.Gen Cert.Kernel6Ideal.Value Idealize.ShloMosaic Idealize.ShloMosaic.ValueIdx Idealize.ShloMosaic.TcCoe Idealize.SL.Sem
  Cert.Words Cert.Products Cert.Gather
open Idealize.ShloMosaic.Pipeline (Dat)

section Points

variable (c : Dev nD) (i : grid0.Coords) (a2 : Memref sig .tc .vmem S512x5632 .bf16) (h2 : a2.IsWhole) (a3 : Memref sig .tc .vmem S512x512 .bf16) (h3 : a3.IsWhole)
  (a4 : Memref sig .tc .vmem S5632x512 .bf16) (h4 : a4.IsWhole) (a5 : Memref sig .tc .vmem S5632x512 .f32) (h5 : a5.IsWhole)
  (x : Vec Ideal S512x5632 .bf16) (y : Vec Ideal S512x512 .bf16) (o : Vec Ideal S5632x512 .f32)

theorem store_add (inb) (j : (Rect.unit (s := S5632x512) ![0, 0] ![5632, 512] inb).shape.Idx) :
    k0_pay2 (F := Ideal) o x y j = addTile x y o ((Rect.unit (s := S5632x512) ![0, 0] ![5632, 512] inb).emb j) :=
  store_tile dot_S512x5632_S512x512_S5632x512_0_0_1_1_n_n_wf x y o shapeCasts_S5632x512_S5632x512 inb j

theorem scratch_B (hc : ¬cond0_0 i) (hd : ¬cond0_1 i) : sout0_B_0 (F := Ideal) c i a2 h2 a3 h3 a4 h4 a5 h5 hc hd x y o = addTile x y o := by
  unfold sout0_B_0
  exact read_tiles _ _ (addTile x y o) _ (scover0_B_0 (F := Ideal) c i a2 h2 a3 h3 a4 h4 a5 h5 hc hd x y o) (by
    unfold kernelRun0_B
    dsimp only
    sl_unfold_words
    simp only [View.readAt_eq_ld, h2.read_unread, h3.read_unread, h5.read_unread, ld_full]
    exact ⟨store_add x y o inb_S5632x512_S5632x512_0_0, trivial⟩)

theorem scratch_C (hc : ¬cond0_0 i) (hd : cond0_1 i) : sout0_C_0 (F := Ideal) c i a2 h2 a3 h3 a4 h4 a5 h5 hc hd x y o = addTile x y o := by
  unfold sout0_C_0
  exact read_tiles _ _ (addTile x y o) _ (scover0_C_0 (F := Ideal) c i a2 h2 a3 h3 a4 h4 a5 h5 hc hd x y o) (by
    unfold kernelRun0_C
    dsimp only
    sl_unfold_words
    simp only [View.readAt_eq_ld, h2.read_unread, h3.read_unread, h5.read_unread, ld_full]
    exact ⟨store_add x y o inb_S5632x512_S5632x512_0_0, trivial⟩)

theorem scratch_A (hc : cond0_0 i) (hd : ¬cond0_1 i) : sout0_A_0 (F := Ideal) c i a2 h2 a3 h3 a4 h4 a5 h5 hc hd x y = addTile x y (k0_pay1 (F := Ideal)) := by
  unfold sout0_A_0 kernelRun0_A
  dsimp only
  sl_unfold_words
  have hz : ∀ a, (![0, 0] : Fin 2 → ℕ) a = 0 := by decide
  simp only [View.readAt_eq_ld, h2.read_unread, h3.read_unread, ld_full, View.readCov_fill (s := S5632x512) _ _ _ _ _ hz]
  exact read_over (s := S5632x512) (e := .f32) _ _ (addTile x y (k0_pay1 (F := Ideal))) _ _
    (fun j => View.cover_of_tiledL (s := S5632x512) _ S5632x512.size (by sl_kernel_rfl) j) ⟨store_add x y _ inb_S5632x512_S5632x512_0_0, trivial⟩

theorem out_C (hc : ¬cond0_0 i) (hd : cond0_1 i) : out0_C_2 (F := Ideal) c i a2 h2 a3 h3 a4 h4 a5 h5 hc hd x y o = addTile x y o := by
  unfold out0_C_2
  exact read_tiles _ _ (addTile x y o) _ (cover0_C_2 (F := Ideal) c i a2 h2 a3 h3 a4 h4 a5 h5 hc hd x y o) (by
    unfold kernelRun0_C
    dsimp only
    sl_unfold_words
    have hz : ∀ a, (![0, 0] : Fin 2 → ℕ) a = 0 := by decide
    simp only [View.readAt_eq_ld, h2.read_unread, h3.read_unread, h5.read_unread, ld_full, View.readCov_fill (s := S5632x512) _ _ _ _ _ hz]
    exact ⟨fun j => store_add x y o inb_S5632x512_S5632x512_0_0 j, trivial⟩)

end Points

variable (m : (ℓ : Loc nD τ sig) → Buf (Elt Ideal) ℓ) (c : Dev nD)

/-- The columns' gradients and the normed rows the run starts from. -/
abbrev argX : S8192x5632.Idx → EReal := m ((c : Thread nD τ).loc main_arg0)
abbrev argY : S8192x1024.Idx → EReal := m ((c : Thread nD τ).loc main_arg1)

/-- The column of the matrix that column `d` of the half is. -/
def colAt (d : Fin 512) : Fin 1024 := ⟨d.val, by omega⟩

/-- The product of the gradients' columns with the rows' columns of the half. -/
def wAll (x : S8192x5632.Idx → EReal) (y : S8192x1024.Idx → EReal) (i : S5632x512.Idx) : EReal := overRows (m := 5632) (n := 1024) x y (i 0) (colAt (i 1))

theorem index : ∀ t : Fin grid0.N, (win0_0.index t 0 = t.val ∧ win0_0.index t 1 = 0) ∧ (win0_1.index t 0 = t.val ∧ win0_1.index t 1 = 0)
    ∧ (win0_2.index t 0 = 0 ∧ win0_2.index t 1 = 0) := by decide +kernel

theorem tile_add (t : Fin cfg0.N) (r : Fin 5632) (d : Fin 512) : overRows (m := 5632) (n := 512) (iblk m c 0 t) (iblk m c 1 t) r d
    = ∑ s : Fin 512, at0 (fun q : Fin 8192 => argX m c (ix2 q r) * argY m c (ix2 q (colAt d))) (t.val % 16 * 512 + s.val) := by
  obtain ⟨⟨p0, p1⟩, ⟨q0, q1⟩, -⟩ := index t
  have ht : t.val < 16 := lt_of_lt_of_eq t.isLt N_0
  have hm : t.val % 16 = t.val := Nat.mod_eq_of_lt ht
  refine Finset.sum_congr rfl fun s _ => ?_
  rw [at0_of _ _ (by omega)]
  unfold iblk
  rw [View.read_apply, View.read_apply]
  refine congrArg₂ (· * ·) (congrArg (argX m c) (ix2_of _ _ _ ?_ ?_)) (congrArg (argY m c) (ix2_of _ _ _ ?_ ?_))
  · show win0_0.index t 0 * 512 + 1 * s.val = t.val % 16 * 512 + s.val; rw [p0]; omega
  · show win0_0.index t 1 * 5632 + 1 * r.val = r.val; rw [p1]; omega
  · show win0_1.index t 0 * 512 + 1 * s.val = t.val % 16 * 512 + s.val; rw [q0]; omega
  · show win0_1.index t 1 * 512 + 1 * d.val = d.val; rw [q1]; omega

theorem scratch_first (t : Fin cfg0.N) (h : t.val % 16 = 0) (r : Fin 5632) (d : Fin 512) : (outsAt0 m c t.val t.isLt).2 (ix2 r d)
    = overRows (m := 5632) (n := 512) (iblk m c 0 t) (iblk m c 1 t) r d := by
  rw [outsAt0_A m c t h (by omega)]
  dsimp only
  rw [scratch_A]
  show k0_pay1 (F := Ideal) (ix2 r d) + _ = _
  exact (congrArg (· + _) (zeros_at shapeCasts_S5632x512_S5632x512 (ix2 r d))).trans (zero_add _)

theorem scratch_later (t : Fin cfg0.N) (h : ¬t.val % 16 = 0) (r : Fin 5632) (d : Fin 512) : (outsAt0 m c t.val t.isLt).2 (ix2 r d)
    = (outsAt0 m c (t.val - 1) (Nat.lt_of_le_of_lt (Nat.sub_le _ _) t.isLt)).2 (ix2 r d)
      + overRows (m := 5632) (n := 512) (iblk m c 0 t) (iblk m c 1 t) r d := by
  by_cases h7 : t.val % 16 = 15
  · rw [outsAt0_C m c t h h7]; dsimp only; rw [scratch_C]; rfl
  · rw [outsAt0_B m c t h h7]; dsimp only; rw [scratch_B]; rfl

theorem scratch_last (t : Fin cfg0.N) (h15 : t.val % 16 = 15) (r : Fin 5632) (d : Fin 512) : (outsAt0 m c t.val t.isLt).2 (ix2 r d)
    = overRows (m := 5632) (n := 1024) (argX m c) (argY m c) r (colAt d) :=
  product_last (T := 16) (B := 512) (by decide) (argX m c) (argY m c) (fun s h => (outsAt0 m c s h).2 (ix2 r d)) r (colAt d) t.val t.isLt
    (by omega) (fun s h => overRows (m := 5632) (n := 512) (iblk m c 0 ⟨s, h⟩) (iblk m c 1 ⟨s, h⟩) r d) (fun s h _ => tile_add m c ⟨s, h⟩ r d)
    (fun s h h0 => scratch_first m c ⟨s, h⟩ h0 r d) (fun s h h0 => scratch_later m c ⟨s, h⟩ h0 r d)

theorem out_last (t : Fin cfg0.N) (h15 : t.val % 16 = 15) (r : Fin 5632) (d : Fin 512) : (outsAt0 m c t.val t.isLt).1 (ix2 r d)
    = wAll (argX m c) (argY m c) (ix2 r d) := by
  have key := scratch_last m c t h15 r d
  rw [outsAt0_C m c t (by omega) h15] at key ⊢
  dsimp only at key ⊢
  rw [scratch_C] at key
  rw [out_C]
  exact key

set_option maxRecDepth 16384 in
theorem flushed (t : Fin cfg0.N) (hf : (cfg0.win 2).flush t = true) : (dats m 0 c).flushed 2 t
    = ((cfg0.win 2).blk t).view.read (Elt Ideal) (wAll (argX m c) (argY m c)) := by
  obtain ⟨-, -, h0, h1⟩ := index t
  rw [flushed2]
  funext y
  obtain ⟨r, d, rfl⟩ : ∃ (r : Fin 5632) (d : Fin 512), y = ix2 r d := ⟨y 0, y 1, eq_ix2 y⟩
  rw [View.read_apply]
  refine (out_last m c t ((flush0_2 t).mp hf) r d).trans ?_
  refine congrArg (wAll (argX m c) (argY m c)) (Eq.symm ?_)
  refine ix2_of (M := 5632) (N := 512) _ r d ?_ ?_
  · show win0_2.index t 0 * 5632 + 1 * r.val = r.val; rw [h0]; omega
  · show win0_2.index t 1 * 512 + 1 * d.val = d.val; rw [h1]; omega

theorem final : (dats m 0 c).arrAt 2 cfg0.N = wAll (argX m c) (argY m c) :=
  (dats m 0 c).arrAt_eq_of_cover 2 _ (flushed m c) fun i => by
    have i1 : (i 1).val < 512 := (i 1).isLt
    have hN : cfg0.N = 16 := N_0
    let t : Fin cfg0.N := ⟨15, by omega⟩
    refine ⟨t, (flush0_2 t).mpr (by show 15 % 16 = 15; decide), ?_⟩
    obtain ⟨-, -, h0, h1⟩ := index t
    show i ∈ ((View.whole main_v0).slice (win0_2.rect t)).set
    rw [View.set_slice_whole]
    exact mem_cols (M := 5632) (N := 512) (B := 512) (by decide) _ _ i (by show win0_2.index t 0 * 5632 = 0; rw [h0])
      (by show win0_2.index t 1 * 512 = _; rw [h1]; omega)

end Cert.Kernel6Ideal.Up

/-! ## The second half's kernel: the same body on the other columns -/

namespace Cert.Kernel7Ideal.Up

open Cert.Kernel7Ideal Cert.Kernel7Ideal.Gen Cert.Kernel7Ideal.Value Idealize.ShloMosaic Idealize.ShloMosaic.ValueIdx Idealize.ShloMosaic.TcCoe Idealize.SL.Sem
  Cert.Words Cert.Products Cert.Gather
open Idealize.ShloMosaic.Pipeline (Dat)

section Points

variable (c : Dev nD) (i : grid0.Coords) (a2 : Memref sig .tc .vmem S512x5632 .bf16) (h2 : a2.IsWhole) (a3 : Memref sig .tc .vmem S512x512 .bf16) (h3 : a3.IsWhole)
  (a4 : Memref sig .tc .vmem S5632x512 .bf16) (h4 : a4.IsWhole) (a5 : Memref sig .tc .vmem S5632x512 .f32) (h5 : a5.IsWhole)
  (x : Vec Ideal S512x5632 .bf16) (y : Vec Ideal S512x512 .bf16) (o : Vec Ideal S5632x512 .f32)

theorem scratch_B (hc : ¬cond0_0 i) (hd : ¬cond0_1 i) : sout0_B_0 (F := Ideal) c i a2 h2 a3 h3 a4 h4 a5 h5 hc hd x y o = addTile x y o :=
  Cert.Kernel6Ideal.Up.scratch_B c i a2 h2 a3 h3 a4 h4 a5 h5 x y o hc hd

theorem scratch_C (hc : ¬cond0_0 i) (hd : cond0_1 i) : sout0_C_0 (F := Ideal) c i a2 h2 a3 h3 a4 h4 a5 h5 hc hd x y o = addTile x y o :=
  Cert.Kernel6Ideal.Up.scratch_C c i a2 h2 a3 h3 a4 h4 a5 h5 x y o hc hd

theorem scratch_A (hc : cond0_0 i) (hd : ¬cond0_1 i) : sout0_A_0 (F := Ideal) c i a2 h2 a3 h3 a4 h4 a5 h5 hc hd x y = addTile x y (Cert.Kernel6Ideal.Gen.k0_pay1 (F := Ideal)) :=
  Cert.Kernel6Ideal.Up.scratch_A c i a2 h2 a3 h3 a4 h4 a5 h5 x y hc hd

theorem out_C (hc : ¬cond0_0 i) (hd : cond0_1 i) : out0_C_2 (F := Ideal) c i a2 h2 a3 h3 a4 h4 a5 h5 hc hd x y o = addTile x y o :=
  Cert.Kernel6Ideal.Up.out_C c i a2 h2 a3 h3 a4 h4 a5 h5 x y o hc hd

end Points

variable (m : (ℓ : Loc nD τ sig) → Buf (Elt Ideal) ℓ) (c : Dev nD)

/-- The columns' gradients and the normed rows the run starts from. -/
abbrev argX : S8192x5632.Idx → EReal := m ((c : Thread nD τ).loc main_arg0)
abbrev argY : S8192x1024.Idx → EReal := m ((c : Thread nD τ).loc main_arg1)

/-- The column of the matrix that column `d` of the half is. -/
def colAt (d : Fin 512) : Fin 1024 := ⟨512 + d.val, by omega⟩

/-- The product of the gradients' columns with the rows' columns of the half. -/
def wAll (x : S8192x5632.Idx → EReal) (y : S8192x1024.Idx → EReal) (i : S5632x512.Idx) : EReal := overRows (m := 5632) (n := 1024) x y (i 0) (colAt (i 1))

theorem index : ∀ t : Fin grid0.N, (win0_0.index t 0 = t.val ∧ win0_0.index t 1 = 0) ∧ (win0_1.index t 0 = t.val ∧ win0_1.index t 1 = 1)
    ∧ (win0_2.index t 0 = 0 ∧ win0_2.index t 1 = 0) := by decide +kernel

theorem tile_add (t : Fin cfg0.N) (r : Fin 5632) (d : Fin 512) : overRows (m := 5632) (n := 512) (iblk m c 0 t) (iblk m c 1 t) r d
    = ∑ s : Fin 512, at0 (fun q : Fin 8192 => argX m c (ix2 q r) * argY m c (ix2 q (colAt d))) (t.val % 16 * 512 + s.val) := by
  obtain ⟨⟨p0, p1⟩, ⟨q0, q1⟩, -⟩ := index t
  have ht : t.val < 16 := lt_of_lt_of_eq t.isLt N_0
  have hm : t.val % 16 = t.val := Nat.mod_eq_of_lt ht
  refine Finset.sum_congr rfl fun s _ => ?_
  rw [at0_of _ _ (by omega)]
  unfold iblk
  rw [View.read_apply, View.read_apply]
  refine congrArg₂ (· * ·) (congrArg (argX m c) (ix2_of _ _ _ ?_ ?_)) (congrArg (argY m c) (ix2_of _ _ _ ?_ ?_))
  · show win0_0.index t 0 * 512 + 1 * s.val = t.val % 16 * 512 + s.val; rw [p0]; omega
  · show win0_0.index t 1 * 5632 + 1 * r.val = r.val; rw [p1]; omega
  · show win0_1.index t 0 * 512 + 1 * s.val = t.val % 16 * 512 + s.val; rw [q0]; omega
  · show win0_1.index t 1 * 512 + 1 * d.val = 512 + d.val; rw [q1]; omega

theorem scratch_first (t : Fin cfg0.N) (h : t.val % 16 = 0) (r : Fin 5632) (d : Fin 512) : (outsAt0 m c t.val t.isLt).2 (ix2 r d)
    = overRows (m := 5632) (n := 512) (iblk m c 0 t) (iblk m c 1 t) r d := by
  rw [outsAt0_A m c t h (by omega)]
  dsimp only
  rw [scratch_A]
  show Cert.Kernel6Ideal.Gen.k0_pay1 (F := Ideal) (ix2 r d) + _ = _
  exact (congrArg (· + _) (zeros_at shapeCasts_S5632x512_S5632x512 (ix2 r d))).trans (zero_add _)

theorem scratch_later (t : Fin cfg0.N) (h : ¬t.val % 16 = 0) (r : Fin 5632) (d : Fin 512) : (outsAt0 m c t.val t.isLt).2 (ix2 r d)
    = (outsAt0 m c (t.val - 1) (Nat.lt_of_le_of_lt (Nat.sub_le _ _) t.isLt)).2 (ix2 r d)
      + overRows (m := 5632) (n := 512) (iblk m c 0 t) (iblk m c 1 t) r d := by
  by_cases h7 : t.val % 16 = 15
  · rw [outsAt0_C m c t h h7]; dsimp only; rw [scratch_C]; rfl
  · rw [outsAt0_B m c t h h7]; dsimp only; rw [scratch_B]; rfl

theorem scratch_last (t : Fin cfg0.N) (h15 : t.val % 16 = 15) (r : Fin 5632) (d : Fin 512) : (outsAt0 m c t.val t.isLt).2 (ix2 r d)
    = overRows (m := 5632) (n := 1024) (argX m c) (argY m c) r (colAt d) :=
  product_last (T := 16) (B := 512) (by decide) (argX m c) (argY m c) (fun s h => (outsAt0 m c s h).2 (ix2 r d)) r (colAt d) t.val t.isLt
    (by omega) (fun s h => overRows (m := 5632) (n := 512) (iblk m c 0 ⟨s, h⟩) (iblk m c 1 ⟨s, h⟩) r d) (fun s h _ => tile_add m c ⟨s, h⟩ r d)
    (fun s h h0 => scratch_first m c ⟨s, h⟩ h0 r d) (fun s h h0 => scratch_later m c ⟨s, h⟩ h0 r d)

theorem out_last (t : Fin cfg0.N) (h15 : t.val % 16 = 15) (r : Fin 5632) (d : Fin 512) : (outsAt0 m c t.val t.isLt).1 (ix2 r d)
    = wAll (argX m c) (argY m c) (ix2 r d) := by
  have key := scratch_last m c t h15 r d
  rw [outsAt0_C m c t (by omega) h15] at key ⊢
  dsimp only at key ⊢
  rw [scratch_C] at key
  rw [out_C]
  exact key

set_option maxRecDepth 16384 in
theorem flushed (t : Fin cfg0.N) (hf : (cfg0.win 2).flush t = true) : (dats m 0 c).flushed 2 t
    = ((cfg0.win 2).blk t).view.read (Elt Ideal) (wAll (argX m c) (argY m c)) := by
  obtain ⟨-, -, h0, h1⟩ := index t
  rw [flushed2]
  funext y
  obtain ⟨r, d, rfl⟩ : ∃ (r : Fin 5632) (d : Fin 512), y = ix2 r d := ⟨y 0, y 1, eq_ix2 y⟩
  rw [View.read_apply]
  refine (out_last m c t ((flush0_2 t).mp hf) r d).trans ?_
  refine congrArg (wAll (argX m c) (argY m c)) (Eq.symm ?_)
  refine ix2_of (M := 5632) (N := 512) _ r d ?_ ?_
  · show win0_2.index t 0 * 5632 + 1 * r.val = r.val; rw [h0]; omega
  · show win0_2.index t 1 * 512 + 1 * d.val = d.val; rw [h1]; omega

theorem final : (dats m 0 c).arrAt 2 cfg0.N = wAll (argX m c) (argY m c) :=
  (dats m 0 c).arrAt_eq_of_cover 2 _ (flushed m c) fun i => by
    have i1 : (i 1).val < 512 := (i 1).isLt
    have hN : cfg0.N = 16 := N_0
    let t : Fin cfg0.N := ⟨15, by omega⟩
    refine ⟨t, (flush0_2 t).mpr (by show 15 % 16 = 15; decide), ?_⟩
    obtain ⟨-, -, h0, h1⟩ := index t
    show i ∈ ((View.whole main_v0).slice (win0_2.rect t)).set
    rw [View.set_slice_whole]
    exact mem_cols (M := 5632) (N := 512) (B := 512) (by decide) _ _ i (by show win0_2.index t 0 * 5632 = 0; rw [h0])
      (by show win0_2.index t 1 * 512 = _; rw [h1]; omega)

end Cert.Kernel7Ideal.Up

end

end
-- ==== Proof.OutTile.lean ====
/-
  The gradient of the mixer's output projection: what its kernel leaves, as the sum over all 8192 tokens gathered in eight tiles.
-/
module

public import proofs.«01_k».proof.Proof.WeightTile
public import proofs.«01_k».proof.Proof.Gen.Kernel10Ideal.Value
public import Idealize.ShloMosaic.Lib.Tactic

@[expose] public section

noncomputable section

namespace Cert.Kernel10Ideal.Out

open Cert.Kernel10Ideal Cert.Kernel10Ideal.Gen Cert.Kernel10Ideal.Value Idealize.ShloMosaic Idealize.ShloMosaic.ValueIdx Idealize.ShloMosaic.TcCoe Idealize.SL.Sem
  Cert.Words Cert.Products Cert.Gather
open Idealize.ShloMosaic.Pipeline (Dat)

section Points

variable (c : Dev nD) (i : grid0.Coords) (a2 : Memref sig .tc .vmem S1024x1024 .bf16) (h2 : a2.IsWhole) (a3 : Memref sig .tc .vmem S1024x1024 .f32) (h3 : a3.IsWhole)
  (a4 : Memref sig .tc .vmem S1024x1024 .bf16) (h4 : a4.IsWhole) (a5 : Memref sig .tc .vmem S1024x1024 .f32) (h5 : a5.IsWhole)
  (x : Vec Ideal S1024x1024 .bf16) (y : Vec Ideal S1024x1024 .f32) (o : Vec Ideal S1024x1024 .f32)

theorem store_add (inb) (j : (Rect.unit (s := S1024x1024) ![0, 0] ![1024, 1024] inb).shape.Idx) :
    k0_pay2 (F := Ideal) o x y j = addTile x y o ((Rect.unit (s := S1024x1024) ![0, 0] ![1024, 1024] inb).emb j) :=
  store_tile dot_S1024x1024_S1024x1024_S1024x1024_0_0_1_1_n_n_wf x y o shapeCasts_S1024x1024_S1024x1024 inb j

theorem scratch_B (hc : ¬cond0_0 i) (hd : ¬cond0_1 i) : sout0_B_0 (F := Ideal) c i a2 h2 a3 h3 a4 h4 a5 h5 hc hd x y o = addTile x y o := by
  unfold sout0_B_0
  exact read_tiles _ _ (addTile x y o) _ (scover0_B_0 (F := Ideal) c i a2 h2 a3 h3 a4 h4 a5 h5 hc hd x y o) (by
    unfold kernelRun0_B
    dsimp only
    sl_unfold_words
    simp only [View.readAt_eq_ld, h2.read_unread, h3.read_unread, h5.read_unread, ld_full]
    exact ⟨store_add x y o inb_S1024x1024_S1024x1024_0_0, trivial⟩)

theorem scratch_C (hc : ¬cond0_0 i) (hd : cond0_1 i) : sout0_C_0 (F := Ideal) c i a2 h2 a3 h3 a4 h4 a5 h5 hc hd x y o = addTile x y o := by
  unfold sout0_C_0
  exact read_tiles _ _ (addTile x y o) _ (scover0_C_0 (F := Ideal) c i a2 h2 a3 h3 a4 h4 a5 h5 hc hd x y o) (by
    unfold kernelRun0_C
    dsimp only
    sl_unfold_words
    simp only [View.readAt_eq_ld, h2.read_unread, h3.read_unread, h5.read_unread, ld_full]
    exact ⟨store_add x y o inb_S1024x1024_S1024x1024_0_0, trivial⟩)

theorem scratch_A (hc : cond0_0 i) (hd : ¬cond0_1 i) : sout0_A_0 (F := Ideal) c i a2 h2 a3 h3 a4 h4 a5 h5 hc hd x y = addTile x y (k0_pay1 (F := Ideal)) := by
  unfold sout0_A_0 kernelRun0_A
  dsimp only
  sl_unfold_words
  have hz : ∀ a, (![0, 0] : Fin 2 → ℕ) a = 0 := by decide
  simp only [View.readAt_eq_ld, h2.read_unread, h3.read_unread, ld_full, View.readCov_fill (s := S1024x1024) _ _ _ _ _ hz]
  exact read_over (s := S1024x1024) (e := .f32) _ _ (addTile x y (k0_pay1 (F := Ideal))) _ _
    (fun j => View.cover_of_tiledL (s := S1024x1024) _ S1024x1024.size (by sl_kernel_rfl) j) ⟨store_add x y _ inb_S1024x1024_S1024x1024_0_0, trivial⟩

theorem out_C (hc : ¬cond0_0 i) (hd : cond0_1 i) : out0_C_2 (F := Ideal) c i a2 h2 a3 h3 a4 h4 a5 h5 hc hd x y o = addTile x y o := by
  unfold out0_C_2
  exact read_tiles _ _ (addTile x y o) _ (cover0_C_2 (F := Ideal) c i a2 h2 a3 h3 a4 h4 a5 h5 hc hd x y o) (by
    unfold kernelRun0_C
    dsimp only
    sl_unfold_words
    have hz : ∀ a, (![0, 0] : Fin 2 → ℕ) a = 0 := by decide
    simp only [View.readAt_eq_ld, h2.read_unread, h3.read_unread, h5.read_unread, ld_full, View.readCov_fill (s := S1024x1024) _ _ _ _ _ hz]
    exact ⟨fun j => store_add x y o inb_S1024x1024_S1024x1024_0_0 j, trivial⟩)

end Points

variable (m : (ℓ : Loc nD τ sig) → Buf (Elt Ideal) ℓ) (c : Dev nD)

/-- The mixed rows and the gradients of the projection's rows the run starts from. -/
abbrev argX : S8192x1024.Idx → EReal := m ((c : Thread nD τ).loc main_arg0)
abbrev argY : S8192x1024.Idx → EReal := m ((c : Thread nD τ).loc main_arg1)

/-- The product of the mixed rows' columns with the gradients' columns. -/
def wAll (x : S8192x1024.Idx → EReal) (y : S8192x1024.Idx → EReal) (i : S1024x1024.Idx) : EReal := overRows (m := 1024) (n := 1024) x y (i 0) (i 1)

theorem index : ∀ t : Fin grid0.N, (win0_0.index t 0 = t.val ∧ win0_0.index t 1 = 0) ∧ (win0_1.index t 0 = t.val ∧ win0_1.index t 1 = 0)
    ∧ (win0_2.index t 0 = 0 ∧ win0_2.index t 1 = 0) := by decide +kernel

theorem tile_add (t : Fin cfg0.N) (r : Fin 1024) (d : Fin 1024) : overRows (m := 1024) (n := 1024) (iblk m c 0 t) (iblk m c 1 t) r d
    = ∑ s : Fin 1024, at0 (fun q : Fin 8192 => argX m c (ix2 q r) * argY m c (ix2 q d)) (t.val % 8 * 1024 + s.val) := by
  obtain ⟨⟨p0, p1⟩, ⟨q0, q1⟩, -⟩ := index t
  have ht : t.val < 8 := lt_of_lt_of_eq t.isLt N_0
  have hm : t.val % 8 = t.val := Nat.mod_eq_of_lt ht
  refine Finset.sum_congr rfl fun s _ => ?_
  rw [at0_of _ _ (by omega)]
  unfold iblk
  rw [View.read_apply, View.read_apply]
  refine congrArg₂ (· * ·) (congrArg (argX m c) (ix2_of _ _ _ ?_ ?_)) (congrArg (argY m c) (ix2_of _ _ _ ?_ ?_))
  · show win0_0.index t 0 * 1024 + 1 * s.val = t.val % 8 * 1024 + s.val; rw [p0]; omega
  · show win0_0.index t 1 * 1024 + 1 * r.val = r.val; rw [p1]; omega
  · show win0_1.index t 0 * 1024 + 1 * s.val = t.val % 8 * 1024 + s.val; rw [q0]; omega
  · show win0_1.index t 1 * 1024 + 1 * d.val = d.val; rw [q1]; omega

theorem scratch_first (t : Fin cfg0.N) (h : t.val % 8 = 0) (r : Fin 1024) (d : Fin 1024) : (outsAt0 m c t.val t.isLt).2 (ix2 r d)
    = overRows (m := 1024) (n := 1024) (iblk m c 0 t) (iblk m c 1 t) r d := by
  rw [outsAt0_A m c t h (by omega)]
  dsimp only
  rw [scratch_A]
  show k0_pay1 (F := Ideal) (ix2 r d) + _ = _
  exact (congrArg (· + _) (zeros_at shapeCasts_S1024x1024_S1024x1024 (ix2 r d))).trans (zero_add _)

theorem scratch_later (t : Fin cfg0.N) (h : ¬t.val % 8 = 0) (r : Fin 1024) (d : Fin 1024) : (outsAt0 m c t.val t.isLt).2 (ix2 r d)
    = (outsAt0 m c (t.val - 1) (Nat.lt_of_le_of_lt (Nat.sub_le _ _) t.isLt)).2 (ix2 r d)
      + overRows (m := 1024) (n := 1024) (iblk m c 0 t) (iblk m c 1 t) r d := by
  by_cases h7 : t.val % 8 = 7
  · rw [outsAt0_C m c t h h7]; dsimp only; rw [scratch_C]; rfl
  · rw [outsAt0_B m c t h h7]; dsimp only; rw [scratch_B]; rfl

theorem scratch_last (t : Fin cfg0.N) (h7 : t.val % 8 = 7) (r : Fin 1024) (d : Fin 1024) : (outsAt0 m c t.val t.isLt).2 (ix2 r d)
    = overRows (m := 1024) (n := 1024) (argX m c) (argY m c) r d :=
  product_last (T := 8) (B := 1024) (by decide) (argX m c) (argY m c) (fun s h => (outsAt0 m c s h).2 (ix2 r d)) r d t.val t.isLt
    (by omega) (fun s h => overRows (m := 1024) (n := 1024) (iblk m c 0 ⟨s, h⟩) (iblk m c 1 ⟨s, h⟩) r d) (fun s h _ => tile_add m c ⟨s, h⟩ r d)
    (fun s h h0 => scratch_first m c ⟨s, h⟩ h0 r d) (fun s h h0 => scratch_later m c ⟨s, h⟩ h0 r d)

theorem out_last (t : Fin cfg0.N) (h7 : t.val % 8 = 7) (r : Fin 1024) (d : Fin 1024) : (outsAt0 m c t.val t.isLt).1 (ix2 r d)
    = wAll (argX m c) (argY m c) (ix2 r d) := by
  have key := scratch_last m c t h7 r d
  rw [outsAt0_C m c t (by omega) h7] at key ⊢
  dsimp only at key ⊢
  rw [scratch_C] at key
  rw [out_C]
  exact key

set_option maxRecDepth 16384 in
theorem flushed (t : Fin cfg0.N) (hf : (cfg0.win 2).flush t = true) : (dats m 0 c).flushed 2 t
    = ((cfg0.win 2).blk t).view.read (Elt Ideal) (wAll (argX m c) (argY m c)) := by
  obtain ⟨-, -, h0, h1⟩ := index t
  rw [flushed2]
  funext y
  obtain ⟨r, d, rfl⟩ : ∃ (r : Fin 1024) (d : Fin 1024), y = ix2 r d := ⟨y 0, y 1, eq_ix2 y⟩
  rw [View.read_apply]
  refine (out_last m c t ((flush0_2 t).mp hf) r d).trans ?_
  refine congrArg (wAll (argX m c) (argY m c)) (Eq.symm ?_)
  refine ix2_of (M := 1024) (N := 1024) _ r d ?_ ?_
  · show win0_2.index t 0 * 1024 + 1 * r.val = r.val; rw [h0]; omega
  · show win0_2.index t 1 * 1024 + 1 * d.val = d.val; rw [h1]; omega

theorem final : (dats m 0 c).arrAt 2 cfg0.N = wAll (argX m c) (argY m c) :=
  (dats m 0 c).arrAt_eq_of_cover 2 _ (flushed m c) fun i => by
    have i1 : (i 1).val < 1024 := (i 1).isLt
    have hN : cfg0.N = 8 := N_0
    let t : Fin cfg0.N := ⟨7, by omega⟩
    refine ⟨t, (flush0_2 t).mpr (by show 7 % 8 = 7; decide), ?_⟩
    obtain ⟨-, -, h0, h1⟩ := index t
    show i ∈ ((View.whole main_v0).slice (win0_2.rect t)).set
    rw [View.set_slice_whole]
    exact mem_cols (M := 1024) (N := 1024) (B := 1024) (by decide) _ _ i (by show win0_2.index t 0 * 1024 = 0; rw [h0])
      (by show win0_2.index t 1 * 1024 = _; rw [h1]; omega)

end Cert.Kernel10Ideal.Out

end

end
-- ==== Proof.WeightClaims.lean ====
/-
  The claims about the gradients of the half-step's two weight matrices and of the mixer's output projection: from any arguments the kernel and the reference end
  with the same result.
-/
module

public import proofs.«01_k».proof.Defs
public import proofs.«01_k».proof.Proof.DownTile
public import proofs.«01_k».proof.Proof.UpTile
public import proofs.«01_k».proof.Proof.OutTile
public import proofs.«01_k».proof.Proof.Gen.Reference5Ideal.Read
public import proofs.«01_k».proof.Proof.Gen.Reference5Ideal.Run
public import proofs.«01_k».proof.Proof.Gen.Reference6Ideal.Read
public import proofs.«01_k».proof.Proof.Gen.Reference6Ideal.Run
public import proofs.«01_k».proof.Proof.Gen.Reference7Ideal.Read
public import proofs.«01_k».proof.Proof.Gen.Reference7Ideal.Run
public import proofs.«01_k».proof.Proof.Gen.Reference10Ideal.Read
public import proofs.«01_k».proof.Proof.Gen.Reference10Ideal.Run
public import Idealize.ShloMosaic.Adequacy
public import Idealize.ShloMosaic.Init

@[expose] public section

noncomputable section

namespace Cert.Reference5Ideal.Read

open Cert.Reference5Ideal Cert.Reference5Ideal.Gen Idealize.ShloMosaic Idealize.ShloMosaic.ValueIdx Cert.Words Cert.Products Cert.Gather

/-- The derivative of half the product along its second factor. -/
theorem down_ref (x : S8192x2816.Idx → EReal) (y : S8192x1024.Idx → EReal) : val_main_v9 (F := Ideal) x y = Cert.Kernel5Ideal.Down.wAll x y := by
  funext i
  show val_main_v8 (F := Ideal) x y i = _
  rw [val_main_v8_apply, val_main_v7_apply]
  show _ = overRows (m := 2816) (n := 1024) x y (i 0) (i 1) * Ideal.ofBits .f32 0x3F000000#32
  rw [mul_comm, ofBits_half]
  unfold overRows
  rw [pos_mul_sum _ (by norm_num)]
  refine Finset.sum_congr rfl fun k _ => ?_
  have e : val_main_v6 (F := Ideal) y (lidx_main_v7 (idx_main_v8 i) k) = ((1 / 2 : ℝ) : EReal) * y (ix2 k (i 1)) := by
    refine congrArg₂ (· * ·) ?_ (congrArg y (ix2_of _ _ _ rfl rfl))
    rw [val_main_v5_apply]
    exact ofBits_half
  rw [e]
  refine (congrArg (_ * ·) (congrArg x (ix2_of (ridx_main_v7 (idx_main_v8 i) k) k (i 0) rfl rfl))).trans ?_
  rw [mul_assoc, mul_comm (y _)]

end Cert.Reference5Ideal.Read

namespace Cert.Reference6Ideal.Read

open Cert.Reference6Ideal Cert.Reference6Ideal.Gen Idealize.ShloMosaic Idealize.ShloMosaic.ValueIdx Cert.Products Cert.Gather

/-- The first half of the transposed derivative of the product along its second factor. -/
theorem up_ref (x : S8192x5632.Idx → EReal) (y : S8192x1024.Idx → EReal) : val_main_v8 (F := Ideal) x y = Cert.Kernel6Ideal.Up.wAll x y := by
  funext i
  show val_main_v7 (F := Ideal) x y i = _
  rw [val_main_v7_apply, val_main_v6_apply, val_main_v5_apply, val_main_v4_apply]
  unfold Cert.Kernel6Ideal.Up.wAll overRows
  exact Finset.sum_congr rfl fun k _ => congrArg₂ (· * ·) (congrArg x (ix2_of _ _ _ rfl rfl)) (congrArg y (ix2_of _ _ _ rfl rfl))

end Cert.Reference6Ideal.Read

namespace Cert.Reference7Ideal.Read

open Cert.Reference7Ideal Cert.Reference7Ideal.Gen Idealize.ShloMosaic Idealize.ShloMosaic.ValueIdx Cert.Products Cert.Gather

/-- The second half of the transposed derivative of the product along its second factor. -/
theorem up_ref (x : S8192x5632.Idx → EReal) (y : S8192x1024.Idx → EReal) : val_main_v8 (F := Ideal) x y = Cert.Kernel7Ideal.Up.wAll x y := by
  funext i
  show val_main_v7 (F := Ideal) x y i = _
  rw [val_main_v7_apply, val_main_v6_apply, val_main_v5_apply, val_main_v4_apply]
  unfold Cert.Kernel7Ideal.Up.wAll overRows
  exact Finset.sum_congr rfl fun k _ => congrArg₂ (· * ·) (congrArg x (ix2_of _ _ _ rfl rfl)) (congrArg y (ix2_of _ _ _ rfl rfl))

end Cert.Reference7Ideal.Read

namespace Cert.Reference10Ideal.Read

open Cert.Reference10Ideal Cert.Reference10Ideal.Gen Idealize.ShloMosaic Idealize.ShloMosaic.ValueIdx Cert.Products Cert.Gather

/-- The derivative of the product along its second factor. -/
theorem out_ref (x : S8192x1024.Idx → EReal) (y : S8192x1024.Idx → EReal) : val_main_v5 (F := Ideal) x y = Cert.Kernel10Ideal.Out.wAll x y := by
  funext i
  show val_main_v4 (F := Ideal) x y i = _
  rw [val_main_v4_apply, val_main_v3_apply]
  unfold Cert.Kernel10Ideal.Out.wAll overRows
  exact Finset.sum_congr rfl fun k _ => (mul_comm _ _).trans (congrArg₂ (· * ·) (congrArg x (ix2_of _ _ _ rfl rfl)) (congrArg y (ix2_of _ _ _ rfl rfl)))

end Cert.Reference10Ideal.Read

namespace Cert.WeightClaims

open Idealize.ShloMosaic Idealize.ShloMosaic.ValueIdx Idealize.ShloMosaic.TcCoe Idealize.SL.Sem

theorem frame_reference_down : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

theorem algebraic_down : Cert.algebraic_Kernel5Ideal_Reference5Ideal := by
  intro m ρ m' ρ' _ hagree
  refine ⟨_, Cert.Kernel5Ideal.Value.run_blocks (F := Ideal) m ρ, ?_⟩
  refine (θ_run Cert.Reference5Ideal.defs _ _).mono (fun _ h c => ?_) (Cert.Reference5Ideal.Value.run (F := Ideal) m' ρ')
  obtain ⟨h0, h1⟩ := hagree c
  refine ⟨(h c).1.trans ?_, (h c).2⟩
  rw [Cert.Reference5Ideal.Read.val_main_v9_eq, h0, h1, Cert.Kernel5Ideal.Down.final]
  exact Cert.Reference5Ideal.Read.down_ref _ _

theorem frame_reference_up_a : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

theorem algebraic_up_a : Cert.algebraic_Kernel6Ideal_Reference6Ideal := by
  intro m ρ m' ρ' _ hagree
  refine ⟨_, Cert.Kernel6Ideal.Value.run_blocks (F := Ideal) m ρ, ?_⟩
  refine (θ_run Cert.Reference6Ideal.defs _ _).mono (fun _ h c => ?_) (Cert.Reference6Ideal.Value.run (F := Ideal) m' ρ')
  obtain ⟨h0, h1⟩ := hagree c
  refine ⟨(h c).1.trans ?_, (h c).2⟩
  rw [Cert.Reference6Ideal.Read.val_main_v8_eq, h0, h1, Cert.Kernel6Ideal.Up.final]
  exact Cert.Reference6Ideal.Read.up_ref _ _

theorem frame_reference_up_b : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

theorem algebraic_up_b : Cert.algebraic_Kernel7Ideal_Reference7Ideal := by
  intro m ρ m' ρ' _ hagree
  refine ⟨_, Cert.Kernel7Ideal.Value.run_blocks (F := Ideal) m ρ, ?_⟩
  refine (θ_run Cert.Reference7Ideal.defs _ _).mono (fun _ h c => ?_) (Cert.Reference7Ideal.Value.run (F := Ideal) m' ρ')
  obtain ⟨h0, h1⟩ := hagree c
  refine ⟨(h c).1.trans ?_, (h c).2⟩
  rw [Cert.Reference7Ideal.Read.val_main_v8_eq, h0, h1, Cert.Kernel7Ideal.Up.final]
  exact Cert.Reference7Ideal.Read.up_ref _ _

theorem frame_reference_out : Cert.quiescent_Reference10Ideal := fun m ρ _ =>
  (θ_run Cert.Reference10Ideal.defs _ _).mono (fun r h => ⟨fun c => (h c).2, sem_eq_zero_of_no_sems (by decide) r.2⟩)
    (Cert.Reference10Ideal.Value.run (F := Ideal) m ρ)

theorem algebraic_out : Cert.algebraic_Kernel10Ideal_Reference10Ideal := by
  intro m ρ m' ρ' _ hagree
  refine ⟨_, Cert.Kernel10Ideal.Value.run_blocks (F := Ideal) m ρ, ?_⟩
  refine (θ_run Cert.Reference10Ideal.defs _ _).mono (fun _ h c => ?_) (Cert.Reference10Ideal.Value.run (F := Ideal) m' ρ')
  obtain ⟨h0, h1⟩ := hagree c
  refine ⟨(h c).1.trans ?_, (h c).2⟩
  rw [Cert.Reference10Ideal.Read.val_main_v5_eq, h0, h1, Cert.Kernel10Ideal.Out.final]
  exact Cert.Reference10Ideal.Read.out_ref _ _

end Cert.WeightClaims

end
-- ==== Proof.lean ====
/-
  Every claim of the certificate, each proved in the modules prove.
   Its author proves each claim OR witnesses that one is false. If a `holds`, `bitexact`, or `algebraic` claim
   fails at some input, do not weaken the claim until it holds: in `test_<name>.py` state
   `proofs.disproves(claim, *arrays)` in its place, with that input as `arrays`; run
   `python test_<name>.py regen`; and prove the disproof here (this file is not rewritten, and the claim to
   prove changes: a disproof adds no frame). A `frame`, `conforms` or `preserves` claim has no disproof.
   idealize/tests/proofs/README.md, "A value claim that is FALSE", says how; 02_vector_ops
   `Proof/Disproof.lean` and 10_ideal_fields `Proof/Widths.lean` are worked examples. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Read
public import proofs.«01_k».proof.Proof.Gen.ReferenceIdeal.Run
public import proofs.«01_k».proof.Proof.Gen.KernelIdeal.Value
public import proofs.«01_k».proof.Proof.MemoryClaims
public import proofs.«01_k».proof.Proof.FfnClaims
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Read
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Read
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Read
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Read
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Read
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Read
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Read
public import proofs.«01_k».proof.Proof.Gen.Reference8Ideal.Run
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Read
public import proofs.«01_k».proof.Proof.Gen.Reference10Ideal.Run
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Read
public import proofs.«01_k».proof.Proof.Gen.Reference11Ideal.Run
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Read
public import proofs.«01_k».proof.Proof.Gen.Reference12Ideal.Run
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Read
public import proofs.«01_k».proof.Proof.Gen.Reference13Ideal.Run
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Read
public import proofs.«01_k».proof.Proof.Gen.Reference14Ideal.Run
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Read
public import proofs.«01_k».proof.Proof.Gen.Reference15Ideal.Run
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Read
public import proofs.«01_k».proof.Proof.Gen.Reference16Ideal.Run
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Read
public import proofs.«01_k».proof.Proof.Gen.Reference17Ideal.Run
public import proofs.«01_k».proof.Proof.Gen.Kernel9
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame.RunC
public import proofs.«01_k».proof.Proof.Gen.Reference9Ideal
public import proofs.«01_k».proof.Proof.Gen.Reference9Ideal.Read
public import proofs.«01_k».proof.Proof.Gen.Reference9Ideal.Run
public import proofs.«01_k».proof.Proof.Gen.Kernel21
public import proofs.«01_k».proof.Proof.Gen.Kernel21.Skeleton
public import proofs.«01_k».proof.Proof.Gen.Kernel21.Launch
public import proofs.«01_k».proof.Proof.Gen.Kernel21.Points
public import proofs.«01_k».proof.Proof.Gen.Kernel21.Frame
public import proofs.«01_k».proof.Proof.Gen.Kernel21Ideal
public import proofs.«01_k».proof.Proof.Gen.Kernel21Ideal.Skeleton
public import proofs.«01_k».proof.Proof.Gen.Kernel21Ideal.Launch
public import proofs.«01_k».proof.Proof.Gen.Kernel21Ideal.Points
public import proofs.«01_k».proof.Proof.Gen.Kernel21Ideal.Frame
public import proofs.«01_k».proof.Proof.Gen.Kernel21Ideal.Value
public import proofs.«01_k».proof.Proof.Gen.Reference21Ideal
public import proofs.«01_k».proof.Proof.Gen.Reference21Ideal.Read
public import proofs.«01_k».proof.Proof.Gen.Reference21Ideal.Run
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Read
public import proofs.«01_k».proof.Proof.Gen.Reference20Ideal.Run
public import proofs.«01_k».proof.Proof.Gen.Kernel23
public import proofs.«01_k».proof.Proof.Gen.Kernel23.Skeleton
public import proofs.«01_k».proof.Proof.Gen.Kernel23.Launch
public import proofs.«01_k».proof.Proof.Gen.Kernel23.Points
public import proofs.«01_k».proof.Proof.Gen.Kernel23.Frame
public import proofs.«01_k».proof.Proof.Gen.Kernel23Ideal
public import proofs.«01_k».proof.Proof.Gen.Kernel23Ideal.Skeleton
public import proofs.«01_k».proof.Proof.Gen.Kernel23Ideal.Launch
public import proofs.«01_k».proof.Proof.Gen.Kernel23Ideal.Points
public import proofs.«01_k».proof.Proof.Gen.Kernel23Ideal.Frame
public import proofs.«01_k».proof.Proof.Gen.Kernel23Ideal.Value
public import proofs.«01_k».proof.Proof.Gen.Reference23Ideal
public import proofs.«01_k».proof.Proof.Gen.Reference23Ideal.Read
public import proofs.«01_k».proof.Proof.Gen.Reference23Ideal.Run
public import proofs.«01_k».proof.Proof.Gen.Kernel22
public import proofs.«01_k».proof.Proof.Gen.Kernel22.Skeleton
public import proofs.«01_k».proof.Proof.Gen.Kernel22.Launch
public import proofs.«01_k».proof.Proof.Gen.Kernel22.Points
public import proofs.«01_k».proof.Proof.Gen.Kernel22.Frame
public import proofs.«01_k».proof.Proof.Gen.Kernel22Ideal
public import proofs.«01_k».proof.Proof.Gen.Kernel22Ideal.Skeleton
public import proofs.«01_k».proof.Proof.Gen.Kernel22Ideal.Launch
public import proofs.«01_k».proof.Proof.Gen.Kernel22Ideal.Points
public import proofs.«01_k».proof.Proof.Gen.Kernel22Ideal.Frame
public import proofs.«01_k».proof.Proof.Gen.Kernel22Ideal.Value
public import proofs.«01_k».proof.Proof.Gen.Reference22Ideal
public import proofs.«01_k».proof.Proof.Gen.Reference22Ideal.Read
public import proofs.«01_k».proof.Proof.Gen.Reference22Ideal.Run
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Read
public import proofs.«01_k».proof.Proof.Gen.Reference18Ideal.Run
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Read
public import proofs.«01_k».proof.Proof.Gen.Reference19Ideal.Run
public import proofs.«01_k».proof.Proof.Gen.Kernel24
public import proofs.«01_k».proof.Proof.Gen.Kernel24.Skeleton
public import proofs.«01_k».proof.Proof.Gen.Kernel24.Launch
public import proofs.«01_k».proof.Proof.Gen.Kernel24.Points
public import proofs.«01_k».proof.Proof.Gen.Kernel24.Frame
public import proofs.«01_k».proof.Proof.Gen.Kernel24Ideal
public import proofs.«01_k».proof.Proof.Gen.Kernel24Ideal.Skeleton
public import proofs.«01_k».proof.Proof.Gen.Kernel24Ideal.Launch
public import proofs.«01_k».proof.Proof.Gen.Kernel24Ideal.Points
public import proofs.«01_k».proof.Proof.Gen.Kernel24Ideal.Frame
public import proofs.«01_k».proof.Proof.Gen.Kernel24Ideal.Value
public import proofs.«01_k».proof.Proof.Gen.Reference24Ideal
public import proofs.«01_k».proof.Proof.Gen.Reference24Ideal.Read
public import proofs.«01_k».proof.Proof.Gen.Reference24Ideal.Run
public import proofs.«01_k».proof.Proof.Gen.Kernel25
public import proofs.«01_k».proof.Proof.Gen.Kernel25.Skeleton
public import proofs.«01_k».proof.Proof.Gen.Kernel25.Launch
public import proofs.«01_k».proof.Proof.Gen.Kernel25.Points
public import proofs.«01_k».proof.Proof.Gen.Kernel25.Frame
public import proofs.«01_k».proof.Proof.Gen.Kernel25Ideal
public import proofs.«01_k».proof.Proof.Gen.Kernel25Ideal.Skeleton
public import proofs.«01_k».proof.Proof.Gen.Kernel25Ideal.Launch
public import proofs.«01_k».proof.Proof.Gen.Kernel25Ideal.Points
public import proofs.«01_k».proof.Proof.Gen.Kernel25Ideal.Frame
public import proofs.«01_k».proof.Proof.Gen.Kernel25Ideal.Value
public import proofs.«01_k».proof.Proof.Gen.Reference25Ideal
public import proofs.«01_k».proof.Proof.Gen.Reference25Ideal.Read
public import proofs.«01_k».proof.Proof.Gen.Reference25Ideal.Run
public import proofs.«01_k».proof.Proof.Gen.Kernel26
public import proofs.«01_k».proof.Proof.Gen.Kernel26.Skeleton
public import proofs.«01_k».proof.Proof.Gen.Kernel26.Launch
public import proofs.«01_k».proof.Proof.Gen.Kernel26.Points
public import proofs.«01_k».proof.Proof.Gen.Kernel26.Frame
public import proofs.«01_k».proof.Proof.Gen.Kernel26Ideal
public import proofs.«01_k».proof.Proof.Gen.Kernel26Ideal.Skeleton
public import proofs.«01_k».proof.Proof.Gen.Kernel26Ideal.Launch
public import proofs.«01_k».proof.Proof.Gen.Kernel26Ideal.Points
public import proofs.«01_k».proof.Proof.Gen.Kernel26Ideal.Frame
public import proofs.«01_k».proof.Proof.Gen.Kernel26Ideal.Value
public import proofs.«01_k».proof.Proof.Gen.Reference26Ideal
public import proofs.«01_k».proof.Proof.Gen.Reference26Ideal.Read
public import proofs.«01_k».proof.Proof.Gen.Reference26Ideal.Run
public import proofs.«01_k».proof.Proof.Gen.Kernel27
public import proofs.«01_k».proof.Proof.Gen.Kernel27.Skeleton
public import proofs.«01_k».proof.Proof.Gen.Kernel27.Launch
public import proofs.«01_k».proof.Proof.Gen.Kernel27.Points
public import proofs.«01_k».proof.Proof.Gen.Kernel27.Frame
public import proofs.«01_k».proof.Proof.Gen.Kernel27Ideal
public import proofs.«01_k».proof.Proof.Gen.Kernel27Ideal.Skeleton
public import proofs.«01_k».proof.Proof.Gen.Kernel27Ideal.Launch
public import proofs.«01_k».proof.Proof.Gen.Kernel27Ideal.Points
public import proofs.«01_k».proof.Proof.Gen.Kernel27Ideal.Frame
public import proofs.«01_k».proof.Proof.Gen.Kernel27Ideal.Value
public import proofs.«01_k».proof.Proof.Gen.Reference27Ideal
public import proofs.«01_k».proof.Proof.Gen.Reference27Ideal.Read
public import proofs.«01_k».proof.Proof.Gen.Reference27Ideal.Run
public import proofs.«01_k».proof.Proof.MixGradFrame
public import proofs.«01_k».proof.Proof.MixGradWords
public import proofs.«01_k».proof.Proof.AttClaims
public import proofs.«01_k».proof.Proof.AdamClaims
public import proofs.«01_k».proof.Proof.AdamPair
public import proofs.«01_k».proof.Proof.CombineClaims
public import proofs.«01_k».proof.Proof.KvClaims
public import proofs.«01_k».proof.Proof.LossClaims
public import proofs.«01_k».proof.Proof.MixClaims
public import proofs.«01_k».proof.Proof.MixGradClaims
public import proofs.«01_k».proof.Proof.ProjClaims
public import proofs.«01_k».proof.Proof.WeightClaims
public import proofs.«01_k».proof.Proof.Gen.Pre_finite_att
public import proofs.«01_k».proof.Proof.Gen.On_written_rows
public import proofs.«01_k».proof.Proof.Gen.On_written_columns
public import proofs.«01_k».proof.Proof.Gen.Pre_finite
public import proofs.«01_k».proof.Proof.Gen.Pre_finite_ffn
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Kernel9.Gen.facts, Cert.Kernel9Ideal.Gen.facts, Cert.Reference9Ideal.Gen.facts, Cert.Kernel21.Gen.facts, Cert.Kernel21Ideal.Gen.facts, Cert.Reference21Ideal.Gen.facts, Cert.Kernel20.Gen.facts, Cert.Kernel20Ideal.Gen.facts, Cert.Reference20Ideal.Gen.facts, Cert.Kernel23.Gen.facts, Cert.Kernel23Ideal.Gen.facts, Cert.Reference23Ideal.Gen.facts, Cert.Kernel22.Gen.facts, Cert.Kernel22Ideal.Gen.facts, Cert.Reference22Ideal.Gen.facts, Cert.Kernel18.Gen.facts, Cert.Kernel18Ideal.Gen.facts, Cert.Reference18Ideal.Gen.facts, Cert.Kernel19.Gen.facts, Cert.Kernel19Ideal.Gen.facts, Cert.Reference19Ideal.Gen.facts, Cert.Kernel24.Gen.facts, Cert.Kernel24Ideal.Gen.facts, Cert.Reference24Ideal.Gen.facts, Cert.Kernel25.Gen.facts, Cert.Kernel25Ideal.Gen.facts, Cert.Reference25Ideal.Gen.facts, Cert.Kernel26.Gen.facts, Cert.Kernel26Ideal.Gen.facts, Cert.Reference26Ideal.Gen.facts, Cert.Kernel27.Gen.facts, Cert.Kernel27Ideal.Gen.facts, Cert.Reference27Ideal.Gen.facts, Cert.Pre_finite.Gen.facts, Cert.Pre_finite_ffn.Gen.facts, Cert.Pre_finite_att.Gen.facts, Cert.On_written_rows.Gen.facts, Cert.On_written_columns.Gen.facts,
  fun m ρ _ => Cert.Kernel.Gen.frame m ρ,
  fun m ρ _ => Cert.KernelIdeal.Gen.frame m ρ,
  fun m ρ _ => Cert.KernelIdeal.Gen.frame m ρ,
  Cert.MemoryClaims.frame_reference,
  fun m ρ _ => Cert.MemoryClaims.frame_reference m ρ trivial,
  fun m ρ _ => Cert.Kernel2.Gen.frame m ρ,
  fun m ρ _ => Cert.Kernel2Ideal.Gen.frame m ρ,
  fun m ρ _ => Cert.Kernel2Ideal.Gen.frame m ρ,
  Cert.FfnClaims.frame_reference,
  fun m ρ _ => Cert.FfnClaims.frame_reference m ρ trivial,
  fun m ρ _ => Cert.Kernel3.Gen.frame m ρ,
  fun m ρ _ => Cert.Kernel3Ideal.Gen.frame m ρ,
  Cert.LossClaims.frame_reference,
  fun m ρ _ => Cert.Kernel4.Gen.frame m ρ,
  fun m ρ _ => Cert.Kernel4Ideal.Gen.frame m ρ,
  Cert.MixClaims.frame_reference,
  fun m ρ _ => Cert.Kernel5.Gen.frame m ρ,
  fun m ρ _ => Cert.Kernel5Ideal.Gen.frame m ρ,
  Cert.WeightClaims.frame_reference_down,
  fun m ρ _ => Cert.Kernel6.Gen.frame m ρ,
  fun m ρ _ => Cert.Kernel6Ideal.Gen.frame m ρ,
  Cert.WeightClaims.frame_reference_up_a,
  fun m ρ _ => Cert.Kernel7.Gen.frame m ρ,
  fun m ρ _ => Cert.Kernel7Ideal.Gen.frame m ρ,
  Cert.WeightClaims.frame_reference_up_b,
  fun m ρ _ => Cert.Kernel8.Gen.frame m ρ,
  fun m ρ _ => Cert.Kernel8Ideal.Gen.frame m ρ,
  Cert.CombineClaims.frame_reference,
  fun m ρ _ => Cert.Kernel10.Gen.frame m ρ,
  fun m ρ _ => Cert.Kernel10Ideal.Gen.frame m ρ,
  Cert.WeightClaims.frame_reference_out,
  fun m ρ _ => Cert.Kernel11.Gen.frame m ρ,
  fun m ρ _ => Cert.Kernel11Ideal.Gen.frame m ρ,
  Cert.ProjClaims.frame_reference_ffn_a,
  fun m ρ _ => Cert.Kernel12.Gen.frame m ρ,
  fun m ρ _ => Cert.Kernel12Ideal.Gen.frame m ρ,
  Cert.ProjClaims.frame_reference_ffn_b,
  fun m ρ _ => Cert.Kernel13.Gen.frame m ρ,
  fun m ρ _ => Cert.Kernel13Ideal.Gen.frame m ρ,
  Cert.ProjClaims.frame_reference_in_a,
  fun m ρ _ => Cert.Kernel14.Gen.frame m ρ,
  fun m ρ _ => Cert.Kernel14Ideal.Gen.frame m ρ,
  Cert.ProjClaims.frame_reference_in_b,
  fun m ρ _ => Cert.Kernel15.Gen.frame m ρ,
  fun m ρ _ => Cert.Kernel15Ideal.Gen.frame m ρ,
  Cert.ProjClaims.frame_reference_in_c,
  fun m ρ _ => Cert.Kernel16.Gen.frame m ρ,
  fun m ρ _ => Cert.Kernel16Ideal.Gen.frame m ρ,
  Cert.ProjClaims.frame_reference_in_d,
  fun m ρ _ => Cert.Kernel17.Gen.frame m ρ,
  fun m ρ _ => Cert.Kernel17Ideal.Gen.frame m ρ,
  Cert.ProjClaims.frame_reference_branch,
  fun m ρ _ => Cert.MixGradFrame.frame_words m ρ,
  fun m ρ _ => Cert.MixGradFrame.frame m ρ,
  Cert.MixGradClaims.frame_reference,
  fun m ρ _ => Cert.Kernel21.Gen.frame m ρ,
  fun m ρ _ => Cert.Kernel21Ideal.Gen.frame m ρ,
  Cert.KvClaims.frame_reference,
  fun m ρ _ => Cert.Kernel20.Gen.frame m ρ,
  fun m ρ _ => Cert.Kernel20Ideal.Gen.frame m ρ,
  Cert.KvClaims.frame_reference_weight,
  fun m ρ _ => Cert.Kernel23.Gen.frame m ρ,
  fun m ρ _ => Cert.Kernel23Ideal.Gen.frame m ρ,
  Cert.KvClaims.frame_reference_gain,
  fun m ρ _ => Cert.Kernel22.Gen.frame m ρ,
  fun m ρ _ => Cert.Kernel22Ideal.Gen.frame m ρ,
  fun m ρ _ => Cert.Kernel22Ideal.Gen.frame m ρ,
  Cert.AttClaims.frame_reference,
  fun m ρ _ => Cert.AttClaims.frame_reference m ρ trivial,
  fun m ρ _ => Cert.Kernel18.Gen.frame m ρ,
  fun m ρ _ => Cert.Kernel18Ideal.Gen.frame m ρ,
  Cert.AdamClaims.frame_reference_18,
  fun m ρ _ => Cert.Kernel19.Gen.frame m ρ,
  fun m ρ _ => Cert.Kernel19Ideal.Gen.frame m ρ,
  Cert.AdamClaims.frame_reference_19,
  fun m ρ _ => Cert.Kernel24.Gen.frame m ρ,
  fun m ρ _ => Cert.Kernel24Ideal.Gen.frame m ρ,
  Cert.AdamClaims.frame_reference_24,
  fun m ρ _ => Cert.Kernel25.Gen.frame m ρ,
  fun m ρ _ => Cert.Kernel25Ideal.Gen.frame m ρ,
  Cert.AdamClaims.frame_reference_25,
  fun m ρ _ => Cert.Kernel26.Gen.frame m ρ,
  fun m ρ _ => Cert.Kernel26Ideal.Gen.frame m ρ,
  Cert.AdamClaims.frame_reference_26,
  fun m ρ _ => Cert.Kernel27.Gen.frame m ρ,
  fun m ρ _ => Cert.Kernel27Ideal.Gen.frame m ρ,
  Cert.AdamClaims.frame_reference_27,
  Cert.MemoryClaims.preserves,
  Cert.MemoryClaims.algebraic,
  trivial,
  Cert.FfnClaims.algebraic,
  trivial,
  Cert.LossClaims.algebraic,
  trivial,
  Cert.MixClaims.algebraic,
  trivial,
  Cert.WeightClaims.algebraic_down,
  trivial,
  Cert.WeightClaims.algebraic_up_a,
  trivial,
  Cert.WeightClaims.algebraic_up_b,
  trivial,
  Cert.CombineClaims.algebraic,
  trivial,
  Cert.WeightClaims.algebraic_out,
  trivial,
  Cert.ProjClaims.algebraic_ffn_a,
  trivial,
  Cert.ProjClaims.algebraic_ffn_b,
  trivial,
  Cert.ProjClaims.algebraic_in_a,
  trivial,
  Cert.ProjClaims.algebraic_in_b,
  trivial,
  Cert.ProjClaims.algebraic_in_c,
  trivial,
  Cert.ProjClaims.algebraic_in_d,
  trivial,
  Cert.ProjClaims.algebraic_branch,
  trivial,
  Cert.MixGradClaims.algebraic,
  trivial,
  Cert.KvClaims.algebraic,
  trivial,
  Cert.KvClaims.algebraic_weight,
  trivial,
  Cert.KvClaims.algebraic_gain,
  Cert.AttClaims.preserves,
  Cert.AttClaims.algebraic,
  trivial,
  Cert.AdamClaims.algebraic_18,
  trivial,
  Cert.AdamClaims.algebraic_19,
  trivial,
  Cert.AdamClaims.algebraic_24,
  trivial,
  Cert.AdamClaims.algebraic_25,
  trivial,
  Cert.AdamClaims.algebraic_26,
  trivial,
  Cert.AdamClaims.algebraic_27⟩

end Cert.Proof

end
